-- ==== Defs.lean ====
def Pre_ScanBwd (m : (ℓ : Loc Cert.ScanBwd.nD Cert.ScanBwd.τ Cert.ScanBwd.sig) → Buf (Elt Bits) ℓ) : Prop :=
  True

def Pre_ScanBwdIdeal (m : (ℓ : Loc Cert.ScanBwdIdeal.nD Cert.ScanBwdIdeal.τ Cert.ScanBwdIdeal.sig) → Buf (Elt Ideal) ℓ) : Prop :=
  True

def Pre_ScanBwdIdeal_scan_finite [hPre_scan_finite : Cert.Pre_scan_finite.Facts] (m : (ℓ : Loc Cert.ScanBwdIdeal.nD Cert.ScanBwdIdeal.τ Cert.ScanBwdIdeal.sig) → Buf (Elt Ideal) ℓ) : Prop :=
  ∀ c : Dev Cert.ScanBwdIdeal.nD,
    (Cert.Pre_scan_finite.fn (F := Ideal) (m ((c.tc : Thread Cert.ScanBwdIdeal.nD Cert.ScanBwdIdeal.τ).loc Cert.ScanBwdIdeal.main_arg0)) (m ((c.tc : Thread Cert.ScanBwdIdeal.nD Cert.ScanBwdIdeal.τ).loc Cert.ScanBwdIdeal.main_arg1)) (m ((c.tc : Thread Cert.ScanBwdIdeal.nD Cert.ScanBwdIdeal.τ).loc Cert.ScanBwdIdeal.main_arg2)) (m ((c.tc : Thread Cert.ScanBwdIdeal.nD Cert.ScanBwdIdeal.τ).loc Cert.ScanBwdIdeal.main_arg3)) (m ((c.tc : Thread Cert.ScanBwdIdeal.nD Cert.ScanBwdIdeal.τ).loc Cert.ScanBwdIdeal.main_arg4)) (m ((c.tc : Thread Cert.ScanBwdIdeal.nD Cert.ScanBwdIdeal.τ).loc Cert.ScanBwdIdeal.main_arg5)) (m ((c.tc : Thread Cert.ScanBwdIdeal.nD Cert.ScanBwdIdeal.τ).loc Cert.ScanBwdIdeal.main_arg6)) (m ((c.tc : Thread Cert.ScanBwdIdeal.nD Cert.ScanBwdIdeal.τ).loc Cert.ScanBwdIdeal.main_arg7))) = (fun _ => 1#1)

def Pre_ScanBwdRefIdeal (m : (ℓ : Loc Cert.ScanBwdRefIdeal.nD Cert.ScanBwdRefIdeal.τ Cert.ScanBwdRefIdeal.sig) → Buf (Elt Ideal) ℓ) : Prop :=
  True

def Pre_ScanBwdRefIdeal_scan_finite [hPre_scan_finite : Cert.Pre_scan_finite.Facts] (m : (ℓ : Loc Cert.ScanBwdRefIdeal.nD Cert.ScanBwdRefIdeal.τ Cert.ScanBwdRefIdeal.sig) → Buf (Elt Ideal) ℓ) : Prop :=
  ∀ c : Dev Cert.ScanBwdRefIdeal.nD,
    (Cert.Pre_scan_finite.fn (F := Ideal) (m ((c.tc : Thread Cert.ScanBwdRefIdeal.nD Cert.ScanBwdRefIdeal.τ).loc Cert.ScanBwdRefIdeal.main_arg0)) (m ((c.tc : Thread Cert.ScanBwdRefIdeal.nD Cert.ScanBwdRefIdeal.τ).loc Cert.ScanBwdRefIdeal.main_arg1)) (m ((c.tc : Thread Cert.ScanBwdRefIdeal.nD Cert.ScanBwdRefIdeal.τ).loc Cert.ScanBwdRefIdeal.main_arg2)) (m ((c.tc : Thread Cert.ScanBwdRefIdeal.nD Cert.ScanBwdRefIdeal.τ).loc Cert.ScanBwdRefIdeal.main_arg3)) (m ((c.tc : Thread Cert.ScanBwdRefIdeal.nD Cert.ScanBwdRefIdeal.τ).loc Cert.ScanBwdRefIdeal.main_arg4)) (m ((c.tc : Thread Cert.ScanBwdRefIdeal.nD Cert.ScanBwdRefIdeal.τ).loc Cert.ScanBwdRefIdeal.main_arg5)) (m ((c.tc : Thread Cert.ScanBwdRefIdeal.nD Cert.ScanBwdRefIdeal.τ).loc Cert.ScanBwdRefIdeal.main_arg6)) (m ((c.tc : Thread Cert.ScanBwdRefIdeal.nD Cert.ScanBwdRefIdeal.τ).loc Cert.ScanBwdRefIdeal.main_arg7))) = (fun _ => 1#1)

def Pre_FfnBwdW (m : (ℓ : Loc Cert.FfnBwdW.nD Cert.FfnBwdW.τ Cert.FfnBwdW.sig) → Buf (Elt Bits) ℓ) : Prop :=
  True

def Pre_FfnBwdWIdeal (m : (ℓ : Loc Cert.FfnBwdWIdeal.nD Cert.FfnBwdWIdeal.τ Cert.FfnBwdWIdeal.sig) → Buf (Elt Ideal) ℓ) : Prop :=
  True

def Pre_FfnBwdWRefIdeal (m : (ℓ : Loc Cert.FfnBwdWRefIdeal.nD Cert.FfnBwdWRefIdeal.τ Cert.FfnBwdWRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnBwdA (m : (ℓ : Loc Cert.FfnBwdA.nD Cert.FfnBwdA.τ Cert.FfnBwdA.sig) → Buf (Elt Bits) ℓ) : Prop :=
  True

def Pre_FfnBwdAIdeal (m : (ℓ : Loc Cert.FfnBwdAIdeal.nD Cert.FfnBwdAIdeal.τ Cert.FfnBwdAIdeal.sig) → Buf (Elt Ideal) ℓ) : Prop :=
  True

def Pre_FfnBwdAIdeal_ffn_finite [hPre_ffn_finite : Cert.Pre_ffn_finite.Facts] (m : (ℓ : Loc Cert.FfnBwdAIdeal.nD Cert.FfnBwdAIdeal.τ Cert.FfnBwdAIdeal.sig) → Buf (Elt Ideal) ℓ) : Prop :=
  ∀ c : Dev Cert.FfnBwdAIdeal.nD,
    (Cert.Pre_ffn_finite.fn (F := Ideal) (m ((c.tc : Thread Cert.FfnBwdAIdeal.nD Cert.FfnBwdAIdeal.τ).loc Cert.FfnBwdAIdeal.main_arg0)) (m ((c.tc : Thread Cert.FfnBwdAIdeal.nD Cert.FfnBwdAIdeal.τ).loc Cert.FfnBwdAIdeal.main_arg1)) (m ((c.tc : Thread Cert.FfnBwdAIdeal.nD Cert.FfnBwdAIdeal.τ).loc Cert.FfnBwdAIdeal.main_arg2)) (m ((c.tc : Thread Cert.FfnBwdAIdeal.nD Cert.FfnBwdAIdeal.τ).loc Cert.FfnBwdAIdeal.main_arg3)) (m ((c.tc : Thread Cert.FfnBwdAIdeal.nD Cert.FfnBwdAIdeal.τ).loc Cert.FfnBwdAIdeal.main_arg4)) (m ((c.tc : Thread Cert.FfnBwdAIdeal.nD Cert.FfnBwdAIdeal.τ).loc Cert.FfnBwdAIdeal.main_arg5))) = (fun _ => 1#1)

def Pre_FfnBwdARefIdeal (m : (ℓ : Loc Cert.FfnBwdARefIdeal.nD Cert.FfnBwdARefIdeal.τ Cert.FfnBwdARefIdeal.sig) → Buf (Elt Ideal) ℓ) : Prop :=
  True

def Pre_FfnBwdARefIdeal_ffn_finite [hPre_ffn_finite : Cert.Pre_ffn_finite.Facts] (m : (ℓ : Loc Cert.FfnBwdARefIdeal.nD Cert.FfnBwdARefIdeal.τ Cert.FfnBwdARefIdeal.sig) → Buf (Elt Ideal) ℓ) : Prop :=
  ∀ c : Dev Cert.FfnBwdARefIdeal.nD,
    (Cert.Pre_ffn_finite.fn (F := Ideal) (m ((c.tc : Thread Cert.FfnBwdARefIdeal.nD Cert.FfnBwdARefIdeal.τ).loc Cert.FfnBwdARefIdeal.main_arg0)) (m ((c.tc : Thread Cert.FfnBwdARefIdeal.nD Cert.FfnBwdARefIdeal.τ).loc Cert.FfnBwdARefIdeal.main_arg1)) (m ((c.tc : Thread Cert.FfnBwdARefIdeal.nD Cert.FfnBwdARefIdeal.τ).loc Cert.FfnBwdARefIdeal.main_arg2)) (m ((c.tc : Thread Cert.FfnBwdARefIdeal.nD Cert.FfnBwdARefIdeal.τ).loc Cert.FfnBwdARefIdeal.main_arg3)) (m ((c.tc : Thread Cert.FfnBwdARefIdeal.nD Cert.FfnBwdARefIdeal.τ).loc Cert.FfnBwdARefIdeal.main_arg4)) (m ((c.tc : Thread Cert.FfnBwdARefIdeal.nD Cert.FfnBwdARefIdeal.τ).loc Cert.FfnBwdARefIdeal.main_arg5))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdRefIdeal (m : (ℓ : Loc Cert.MixBwdRefIdeal.nD Cert.MixBwdRefIdeal.τ Cert.MixBwdRefIdeal.sig) → Buf (Elt Ideal) ℓ) : Prop :=
  True

def Pre_ActBwd (m : (ℓ : Loc Cert.ActBwd.nD Cert.ActBwd.τ Cert.ActBwd.sig) → Buf (Elt Bits) ℓ) : Prop :=
  True

def Pre_ActBwdIdeal (m : (ℓ : Loc Cert.ActBwdIdeal.nD Cert.ActBwdIdeal.τ Cert.ActBwdIdeal.sig) → Buf (Elt Ideal) ℓ) : Prop :=
  True

def Pre_ActBwdRefIdeal (m : (ℓ : Loc Cert.ActBwdRefIdeal.nD Cert.ActBwdRefIdeal.τ Cert.ActBwdRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_ProjBwdW (m : (ℓ : Loc Cert.ProjBwdW.nD Cert.ProjBwdW.τ Cert.ProjBwdW.sig) → Buf (Elt Bits) ℓ) : Prop :=
  True

def Pre_ProjBwdWIdeal (m : (ℓ : Loc Cert.ProjBwdWIdeal.nD Cert.ProjBwdWIdeal.τ Cert.ProjBwdWIdeal.sig) → Buf (Elt Ideal) ℓ) : Prop :=
  True

def Pre_ProjBwdWRefIdeal (m : (ℓ : Loc Cert.ProjBwdWRefIdeal.nD Cert.ProjBwdWRefIdeal.τ Cert.ProjBwdWRefIdeal.sig) → Buf (Elt Ideal) ℓ) : Prop :=
  True

def Pre_MixBwdW (m : (ℓ : Loc Cert.MixBwdW.nD Cert.MixBwdW.τ Cert.MixBwdW.sig) → Buf (Elt Bits) ℓ) : Prop :=
  True

def Pre_MixBwdWIdeal (m : (ℓ : Loc Cert.MixBwdWIdeal.nD Cert.MixBwdWIdeal.τ Cert.MixBwdWIdeal.sig) → Buf (Elt Ideal) ℓ) : Prop :=
  True

def Pre_MixBwdWRefIdeal (m : (ℓ : Loc Cert.MixBwdWRefIdeal.nD Cert.MixBwdWRefIdeal.τ Cert.MixBwdWRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_GluBwdW (m : (ℓ : Loc Cert.GluBwdW.nD Cert.GluBwdW.τ Cert.GluBwdW.sig) → Buf (Elt Bits) ℓ) : Prop :=
  True

def Pre_GluBwdWIdeal (m : (ℓ : Loc Cert.GluBwdWIdeal.nD Cert.GluBwdWIdeal.τ Cert.GluBwdWIdeal.sig) → Buf (Elt Ideal) ℓ) : Prop :=
  True

def Pre_GluBwdWRefIdeal (m : (ℓ : Loc Cert.GluBwdWRefIdeal.nD Cert.GluBwdWRefIdeal.τ Cert.GluBwdWRefIdeal.sig) → Buf (Elt Ideal) ℓ) : Prop :=
  True

def quiescent_ScanBwd [hScanBwd : Cert.ScanBwd.Facts] : Prop :=
  ∀ (m : (ℓ : Loc Cert.ScanBwd.nD Cert.ScanBwd.τ Cert.ScanBwd.sig) → Buf (Elt Bits) ℓ) (g : Dev Cert.ScanBwd.nD → PrngReg), Pre_ScanBwd m →
    θ_run (Cert.ScanBwd.defs (F := Bits)) (onTc (τ := Cert.ScanBwd.τ) (Cert.ScanBwd.main (F := Bits))) ⟨m, fun _ => 0, g⟩ (fun r => (∀ c : Dev Cert.ScanBwd.nD,
      r.2.mem ((c.tc : Thread Cert.ScanBwd.nD Cert.ScanBwd.τ).loc Cert.ScanBwd.main_arg0) = m ((c.tc : Thread Cert.ScanBwd.nD Cert.ScanBwd.τ).loc Cert.ScanBwd.main_arg0)
      ∧ r.2.mem ((c.tc : Thread Cert.ScanBwd.nD Cert.ScanBwd.τ).loc Cert.ScanBwd.main_arg1) = m ((c.tc : Thread Cert.ScanBwd.nD Cert.ScanBwd.τ).loc Cert.ScanBwd.main_arg1)
      ∧ r.2.mem ((c.tc : Thread Cert.ScanBwd.nD Cert.ScanBwd.τ).loc Cert.ScanBwd.main_arg2) = m ((c.tc : Thread Cert.ScanBwd.nD Cert.ScanBwd.τ).loc Cert.ScanBwd.main_arg2)
      ∧ r.2.mem ((c.tc : Thread Cert.ScanBwd.nD Cert.ScanBwd.τ).loc Cert.ScanBwd.main_arg3) = m ((c.tc : Thread Cert.ScanBwd.nD Cert.ScanBwd.τ).loc Cert.ScanBwd.main_arg3)
      ∧ r.2.mem ((c.tc : Thread Cert.ScanBwd.nD Cert.ScanBwd.τ).loc Cert.ScanBwd.main_arg4) = m ((c.tc : Thread Cert.ScanBwd.nD Cert.ScanBwd.τ).loc Cert.ScanBwd.main_arg4)
      ∧ r.2.mem ((c.tc : Thread Cert.ScanBwd.nD Cert.ScanBwd.τ).loc Cert.ScanBwd.main_arg5) = m ((c.tc : Thread Cert.ScanBwd.nD Cert.ScanBwd.τ).loc Cert.ScanBwd.main_arg5)
      ∧ r.2.mem ((c.tc : Thread Cert.ScanBwd.nD Cert.ScanBwd.τ).loc Cert.ScanBwd.main_arg6) = m ((c.tc : Thread Cert.ScanBwd.nD Cert.ScanBwd.τ).loc Cert.ScanBwd.main_arg6)
      ∧ r.2.mem ((c.tc : Thread Cert.ScanBwd.nD Cert.ScanBwd.τ).loc Cert.ScanBwd.main_arg7) = m ((c.tc : Thread Cert.ScanBwd.nD Cert.ScanBwd.τ).loc Cert.ScanBwd.main_arg7))
      ∧ r.2.sem = fun _ => 0)

def quiescent_ScanBwdIdeal [hScanBwdIdeal : Cert.ScanBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2)
      ∧ r.2.mem ((c.tc : Thread Cert.ScanBwdIdeal.nD Cert.ScanBwdIdeal.τ).loc Cert.ScanBwdIdeal.main_arg3) = m ((c.tc : Thread Cert.ScanBwdIdeal.nD Cert.ScanBwdIdeal.τ).loc Cert.ScanBwdIdeal.main_arg3)
      ∧ r.2.mem ((c.tc : Thread Cert.ScanBwdIdeal.nD Cert.ScanBwdIdeal.τ).loc Cert.ScanBwdIdeal.main_arg4) = m ((c.tc : Thread Cert.ScanBwdIdeal.nD Cert.ScanBwdIdeal.τ).loc Cert.ScanBwdIdeal.main_arg4)
      ∧ r.2.mem ((c.tc : Thread Cert.ScanBwdIdeal.nD Cert.ScanBwdIdeal.τ).loc Cert.ScanBwdIdeal.main_arg5) = m ((c.tc : Thread Cert.ScanBwdIdeal.nD Cert.ScanBwdIdeal.τ).loc Cert.ScanBwdIdeal.main_arg5)
      ∧ r.2.mem ((c.tc : Thread Cert.ScanBwdIdeal.nD Cert.ScanBwdIdeal.τ).loc Cert.ScanBwdIdeal.main_arg6) = m ((c.tc : Thread Cert.ScanBwdIdeal.nD Cert.ScanBwdIdeal.τ).loc Cert.ScanBwdIdeal.main_arg6)
      ∧ r.2.mem ((c.tc : Thread Cert.ScanBwdIdeal.nD Cert.ScanBwdIdeal.τ).loc Cert.ScanBwdIdeal.main_arg7) = m ((c.tc : Thread Cert.ScanBwdIdeal.nD Cert.ScanBwdIdeal.τ).loc Cert.ScanBwdIdeal.main_arg7))
      ∧ r.2.sem = fun _ => 0)

def quiescent_ScanBwdIdeal_pre_scan_finite [hScanBwdIdeal : Cert.ScanBwdIdeal.Facts] [hPre_scan_finite : Cert.Pre_scan_finite.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal_scan_finite m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2)
      ∧ r.2.mem ((c.tc : Thread Cert.ScanBwdIdeal.nD Cert.ScanBwdIdeal.τ).loc Cert.ScanBwdIdeal.main_arg3) = m ((c.tc : Thread Cert.ScanBwdIdeal.nD Cert.ScanBwdIdeal.τ).loc Cert.ScanBwdIdeal.main_arg3)
      ∧ r.2.mem ((c.tc : Thread Cert.ScanBwdIdeal.nD Cert.ScanBwdIdeal.τ).loc Cert.ScanBwdIdeal.main_arg4) = m ((c.tc : Thread Cert.ScanBwdIdeal.nD Cert.ScanBwdIdeal.τ).loc Cert.ScanBwdIdeal.main_arg4)
      ∧ r.2.mem ((c.tc : Thread Cert.ScanBwdIdeal.nD Cert.ScanBwdIdeal.τ).loc Cert.ScanBwdIdeal.main_arg5) = m ((c.tc : Thread Cert.ScanBwdIdeal.nD Cert.ScanBwdIdeal.τ).loc Cert.ScanBwdIdeal.main_arg5)
      ∧ r.2.mem ((c.tc : Thread Cert.ScanBwdIdeal.nD Cert.ScanBwdIdeal.τ).loc Cert.ScanBwdIdeal.main_arg6) = m ((c.tc : Thread Cert.ScanBwdIdeal.nD Cert.ScanBwdIdeal.τ).loc Cert.ScanBwdIdeal.main_arg6)
      ∧ r.2.mem ((c.tc : Thread Cert.ScanBwdIdeal.nD Cert.ScanBwdIdeal.τ).loc Cert.ScanBwdIdeal.main_arg7) = m ((c.tc : Thread Cert.ScanBwdIdeal.nD Cert.ScanBwdIdeal.τ).loc Cert.ScanBwdIdeal.main_arg7))
      ∧ r.2.sem = fun _ => 0)

def quiescent_ScanBwdRefIdeal [hScanBwdRefIdeal : Cert.ScanBwdRefIdeal.Facts] : Prop :=
  ∀ (m : (ℓ : Loc Cert.ScanBwdRefIdeal.nD Cert.ScanBwdRefIdeal.τ Cert.ScanBwdRefIdeal.sig) → Buf (Elt Ideal) ℓ) (g : Dev Cert.ScanBwdRefIdeal.nD → PrngReg), Pre_ScanBwdRefIdeal m →
    θ_run (Cert.ScanBwdRefIdeal.defs (F := Ideal)) (onTc (τ := Cert.ScanBwdRefIdeal.τ) (Cert.ScanBwdRefIdeal.main (F := Ideal))) ⟨m, fun _ => 0, g⟩ (fun r => (∀ c : Dev Cert.ScanBwdRefIdeal.nD,
      r.2.mem ((c.tc : Thread Cert.ScanBwdRefIdeal.nD Cert.ScanBwdRefIdeal.τ).loc Cert.ScanBwdRefIdeal.main_arg0) = m ((c.tc : Thread Cert.ScanBwdRefIdeal.nD Cert.ScanBwdRefIdeal.τ).loc Cert.ScanBwdRefIdeal.main_arg0)
      ∧ r.2.mem ((c.tc : Thread Cert.ScanBwdRefIdeal.nD Cert.ScanBwdRefIdeal.τ).loc Cert.ScanBwdRefIdeal.main_arg1) = m ((c.tc : Thread Cert.ScanBwdRefIdeal.nD Cert.ScanBwdRefIdeal.τ).loc Cert.ScanBwdRefIdeal.main_arg1)
      ∧ r.2.mem ((c.tc : Thread Cert.ScanBwdRefIdeal.nD Cert.ScanBwdRefIdeal.τ).loc Cert.ScanBwdRefIdeal.main_arg2) = m ((c.tc : Thread Cert.ScanBwdRefIdeal.nD Cert.ScanBwdRefIdeal.τ).loc Cert.ScanBwdRefIdeal.main_arg2)
      ∧ r.2.mem ((c.tc : Thread Cert.ScanBwdRefIdeal.nD Cert.ScanBwdRefIdeal.τ).loc Cert.ScanBwdRefIdeal.main_arg3) = m ((c.tc : Thread Cert.ScanBwdRefIdeal.nD Cert.ScanBwdRefIdeal.τ).loc Cert.ScanBwdRefIdeal.main_arg3)
      ∧ r.2.mem ((c.tc : Thread Cert.ScanBwdRefIdeal.nD Cert.ScanBwdRefIdeal.τ).loc Cert.ScanBwdRefIdeal.main_arg4) = m ((c.tc : Thread Cert.ScanBwdRefIdeal.nD Cert.ScanBwdRefIdeal.τ).loc Cert.ScanBwdRefIdeal.main_arg4)
      ∧ r.2.mem ((c.tc : Thread Cert.ScanBwdRefIdeal.nD Cert.ScanBwdRefIdeal.τ).loc Cert.ScanBwdRefIdeal.main_arg5) = m ((c.tc : Thread Cert.ScanBwdRefIdeal.nD Cert.ScanBwdRefIdeal.τ).loc Cert.ScanBwdRefIdeal.main_arg5)
      ∧ r.2.mem ((c.tc : Thread Cert.ScanBwdRefIdeal.nD Cert.ScanBwdRefIdeal.τ).loc Cert.ScanBwdRefIdeal.main_arg6) = m ((c.tc : Thread Cert.ScanBwdRefIdeal.nD Cert.ScanBwdRefIdeal.τ).loc Cert.ScanBwdRefIdeal.main_arg6)
      ∧ r.2.mem ((c.tc : Thread Cert.ScanBwdRefIdeal.nD Cert.ScanBwdRefIdeal.τ).loc Cert.ScanBwdRefIdeal.main_arg7) = m ((c.tc : Thread Cert.ScanBwdRefIdeal.nD Cert.ScanBwdRefIdeal.τ).loc Cert.ScanBwdRefIdeal.main_arg7))
      ∧ r.2.sem = fun _ => 0)

def quiescent_ScanBwdRefIdeal_pre_scan_finite [hScanBwdRefIdeal : Cert.ScanBwdRefIdeal.Facts] [hPre_scan_finite : Cert.Pre_scan_finite.Facts] : Prop :=
  ∀ (m : (ℓ : Loc Cert.ScanBwdRefIdeal.nD Cert.ScanBwdRefIdeal.τ Cert.ScanBwdRefIdeal.sig) → Buf (Elt Ideal) ℓ) (g : Dev Cert.ScanBwdRefIdeal.nD → PrngReg), Pre_ScanBwdRefIdeal_scan_finite m →
    θ_run (Cert.ScanBwdRefIdeal.defs (F := Ideal)) (onTc (τ := Cert.ScanBwdRefIdeal.τ) (Cert.ScanBwdRefIdeal.main (F := Ideal))) ⟨m, fun _ => 0, g⟩ (fun r => (∀ c : Dev Cert.ScanBwdRefIdeal.nD,
      r.2.mem ((c.tc : Thread Cert.ScanBwdRefIdeal.nD Cert.ScanBwdRefIdeal.τ).loc Cert.ScanBwdRefIdeal.main_arg0) = m ((c.tc : Thread Cert.ScanBwdRefIdeal.nD Cert.ScanBwdRefIdeal.τ).loc Cert.ScanBwdRefIdeal.main_arg0)
      ∧ r.2.mem ((c.tc : Thread Cert.ScanBwdRefIdeal.nD Cert.ScanBwdRefIdeal.τ).loc Cert.ScanBwdRefIdeal.main_arg1) = m ((c.tc : Thread Cert.ScanBwdRefIdeal.nD Cert.ScanBwdRefIdeal.τ).loc Cert.ScanBwdRefIdeal.main_arg1)
      ∧ r.2.mem ((c.tc : Thread Cert.ScanBwdRefIdeal.nD Cert.ScanBwdRefIdeal.τ).loc Cert.ScanBwdRefIdeal.main_arg2) = m ((c.tc : Thread Cert.ScanBwdRefIdeal.nD Cert.ScanBwdRefIdeal.τ).loc Cert.ScanBwdRefIdeal.main_arg2)
      ∧ r.2.mem ((c.tc : Thread Cert.ScanBwdRefIdeal.nD Cert.ScanBwdRefIdeal.τ).loc Cert.ScanBwdRefIdeal.main_arg3) = m ((c.tc : Thread Cert.ScanBwdRefIdeal.nD Cert.ScanBwdRefIdeal.τ).loc Cert.ScanBwdRefIdeal.main_arg3)
      ∧ r.2.mem ((c.tc : Thread Cert.ScanBwdRefIdeal.nD Cert.ScanBwdRefIdeal.τ).loc Cert.ScanBwdRefIdeal.main_arg4) = m ((c.tc : Thread Cert.ScanBwdRefIdeal.nD Cert.ScanBwdRefIdeal.τ).loc Cert.ScanBwdRefIdeal.main_arg4)
      ∧ r.2.mem ((c.tc : Thread Cert.ScanBwdRefIdeal.nD Cert.ScanBwdRefIdeal.τ).loc Cert.ScanBwdRefIdeal.main_arg5) = m ((c.tc : Thread Cert.ScanBwdRefIdeal.nD Cert.ScanBwdRefIdeal.τ).loc Cert.ScanBwdRefIdeal.main_arg5)
      ∧ r.2.mem ((c.tc : Thread Cert.ScanBwdRefIdeal.nD Cert.ScanBwdRefIdeal.τ).loc Cert.ScanBwdRefIdeal.main_arg6) = m ((c.tc : Thread Cert.ScanBwdRefIdeal.nD Cert.ScanBwdRefIdeal.τ).loc Cert.ScanBwdRefIdeal.main_arg6)
      ∧ r.2.mem ((c.tc : Thread Cert.ScanBwdRefIdeal.nD Cert.ScanBwdRefIdeal.τ).loc Cert.ScanBwdRefIdeal.main_arg7) = m ((c.tc : Thread Cert.ScanBwdRefIdeal.nD Cert.ScanBwdRefIdeal.τ).loc Cert.ScanBwdRefIdeal.main_arg7))
      ∧ r.2.sem = fun _ => 0)

def quiescent_FfnBwdW [hFfnBwdW : Cert.FfnBwdW.Facts] : Prop :=
  ∀ (m : (ℓ : Loc Cert.FfnBwdW.nD Cert.FfnBwdW.τ Cert.FfnBwdW.sig) → Buf (Elt Bits) ℓ) (g : Dev Cert.FfnBwdW.nD → PrngReg), Pre_FfnBwdW m →
    θ_run (Cert.FfnBwdW.defs (F := Bits)) (onTc (τ := Cert.FfnBwdW.τ) (Cert.FfnBwdW.main (F := Bits))) ⟨m, fun _ => 0, g⟩ (fun r => (∀ c : Dev Cert.FfnBwdW.nD,
      r.2.mem ((c.tc : Thread Cert.FfnBwdW.nD Cert.FfnBwdW.τ).loc Cert.FfnBwdW.main_arg0) = m ((c.tc : Thread Cert.FfnBwdW.nD Cert.FfnBwdW.τ).loc Cert.FfnBwdW.main_arg0)
      ∧ r.2.mem ((c.tc : Thread Cert.FfnBwdW.nD Cert.FfnBwdW.τ).loc Cert.FfnBwdW.main_arg1) = m ((c.tc : Thread Cert.FfnBwdW.nD Cert.FfnBwdW.τ).loc Cert.FfnBwdW.main_arg1)
      ∧ r.2.mem ((c.tc : Thread Cert.FfnBwdW.nD Cert.FfnBwdW.τ).loc Cert.FfnBwdW.main_arg2) = m ((c.tc : Thread Cert.FfnBwdW.nD Cert.FfnBwdW.τ).loc Cert.FfnBwdW.main_arg2)
      ∧ r.2.mem ((c.tc : Thread Cert.FfnBwdW.nD Cert.FfnBwdW.τ).loc Cert.FfnBwdW.main_arg3) = m ((c.tc : Thread Cert.FfnBwdW.nD Cert.FfnBwdW.τ).loc Cert.FfnBwdW.main_arg3)
      ∧ r.2.mem ((c.tc : Thread Cert.FfnBwdW.nD Cert.FfnBwdW.τ).loc Cert.FfnBwdW.main_arg4) = m ((c.tc : Thread Cert.FfnBwdW.nD Cert.FfnBwdW.τ).loc Cert.FfnBwdW.main_arg4)
      ∧ r.2.mem ((c.tc : Thread Cert.FfnBwdW.nD Cert.FfnBwdW.τ).loc Cert.FfnBwdW.main_arg5) = m ((c.tc : Thread Cert.FfnBwdW.nD Cert.FfnBwdW.τ).loc Cert.FfnBwdW.main_arg5))
      ∧ r.2.sem = fun _ => 0)

def quiescent_FfnBwdWIdeal [hFfnBwdWIdeal : Cert.FfnBwdWIdeal.Facts] : Prop :=
  ∀ (m : (ℓ : Loc Cert.FfnBwdWIdeal.nD Cert.FfnBwdWIdeal.τ Cert.FfnBwdWIdeal.sig) → Buf (Elt Ideal) ℓ) (g : Dev Cert.FfnBwdWIdeal.nD → PrngReg), Pre_FfnBwdWIdeal m →
    θ_run (Cert.FfnBwdWIdeal.defs (F := Ideal)) (onTc (τ := Cert.FfnBwdWIdeal.τ) (Cert.FfnBwdWIdeal.main (F := Ideal))) ⟨m, fun _ => 0, g⟩ (fun r => (∀ c : Dev Cert.FfnBwdWIdeal.nD,
      r.2.mem ((c.tc : Thread Cert.FfnBwdWIdeal.nD Cert.FfnBwdWIdeal.τ).loc Cert.FfnBwdWIdeal.main_arg0) = m ((c.tc : Thread Cert.FfnBwdWIdeal.nD Cert.FfnBwdWIdeal.τ).loc Cert.FfnBwdWIdeal.main_arg0)
      ∧ r.2.mem ((c.tc : Thread Cert.FfnBwdWIdeal.nD Cert.FfnBwdWIdeal.τ).loc Cert.FfnBwdWIdeal.main_arg1) = m ((c.tc : Thread Cert.FfnBwdWIdeal.nD Cert.FfnBwdWIdeal.τ).loc Cert.FfnBwdWIdeal.main_arg1)
      ∧ r.2.mem ((c.tc : Thread Cert.FfnBwdWIdeal.nD Cert.FfnBwdWIdeal.τ).loc Cert.FfnBwdWIdeal.main_arg2) = m ((c.tc : Thread Cert.FfnBwdWIdeal.nD Cert.FfnBwdWIdeal.τ).loc Cert.FfnBwdWIdeal.main_arg2)
      ∧ r.2.mem ((c.tc : Thread Cert.FfnBwdWIdeal.nD Cert.FfnBwdWIdeal.τ).loc Cert.FfnBwdWIdeal.main_arg3) = m ((c.tc : Thread Cert.FfnBwdWIdeal.nD Cert.FfnBwdWIdeal.τ).loc Cert.FfnBwdWIdeal.main_arg3)
      ∧ r.2.mem ((c.tc : Thread Cert.FfnBwdWIdeal.nD Cert.FfnBwdWIdeal.τ).loc Cert.FfnBwdWIdeal.main_arg4) = m ((c.tc : Thread Cert.FfnBwdWIdeal.nD Cert.FfnBwdWIdeal.τ).loc Cert.FfnBwdWIdeal.main_arg4)
      ∧ r.2.mem ((c.tc : Thread Cert.FfnBwdWIdeal.nD Cert.FfnBwdWIdeal.τ).loc Cert.FfnBwdWIdeal.main_arg5) = m ((c.tc : Thread Cert.FfnBwdWIdeal.nD Cert.FfnBwdWIdeal.τ).loc Cert.FfnBwdWIdeal.main_arg5))
      ∧ r.2.sem = fun _ => 0)

def quiescent_FfnBwdWRefIdeal [hFfnBwdWRefIdeal : Cert.FfnBwdWRefIdeal.Facts] : Prop :=
  ∀ (m : (ℓ : Loc Cert.FfnBwdWRefIdeal.nD Cert.FfnBwdWRefIdeal.τ Cert.FfnBwdWRefIdeal.sig) → Buf (Elt Ideal) ℓ) (g : Dev Cert.FfnBwdWRefIdeal.nD → PrngReg), Pre_FfnBwdWRefIdeal m →
    θ_run (Cert.FfnBwdWRefIdeal.defs (F := Ideal)) (onTc (τ := Cert.FfnBwdWRefIdeal.τ) (Cert.FfnBwdWRefIdeal.main (F := Ideal))) ⟨m, fun _ => 0, g⟩ (fun r => (∀ c : Dev Cert.FfnBwdWRefIdeal.nD,
      r.2.mem ((c.tc : Thread Cert.FfnBwdWRefIdeal.nD Cert.FfnBwdWRefIdeal.τ).loc Cert.FfnBwdWRefIdeal.main_arg0) = m ((c.tc : Thread Cert.FfnBwdWRefIdeal.nD Cert.FfnBwdWRefIdeal.τ).loc Cert.FfnBwdWRefIdeal.main_arg0)
      ∧ r.2.mem ((c.tc : Thread Cert.FfnBwdWRefIdeal.nD Cert.FfnBwdWRefIdeal.τ).loc Cert.FfnBwdWRefIdeal.main_arg1) = m ((c.tc : Thread Cert.FfnBwdWRefIdeal.nD Cert.FfnBwdWRefIdeal.τ).loc Cert.FfnBwdWRefIdeal.main_arg1)
      ∧ r.2.mem ((c.tc : Thread Cert.FfnBwdWRefIdeal.nD Cert.FfnBwdWRefIdeal.τ).loc Cert.FfnBwdWRefIdeal.main_arg2) = m ((c.tc : Thread Cert.FfnBwdWRefIdeal.nD Cert.FfnBwdWRefIdeal.τ).loc Cert.FfnBwdWRefIdeal.main_arg2)
      ∧ r.2.mem ((c.tc : Thread Cert.FfnBwdWRefIdeal.nD Cert.FfnBwdWRefIdeal.τ).loc Cert.FfnBwdWRefIdeal.main_arg3) = m ((c.tc : Thread Cert.FfnBwdWRefIdeal.nD Cert.FfnBwdWRefIdeal.τ).loc Cert.FfnBwdWRefIdeal.main_arg3)
      ∧ r.2.mem ((c.tc : Thread Cert.FfnBwdWRefIdeal.nD Cert.FfnBwdWRefIdeal.τ).loc Cert.FfnBwdWRefIdeal.main_arg4) = m ((c.tc : Thread Cert.FfnBwdWRefIdeal.nD Cert.FfnBwdWRefIdeal.τ).loc Cert.FfnBwdWRefIdeal.main_arg4)
      ∧ r.2.mem ((c.tc : Thread Cert.FfnBwdWRefIdeal.nD Cert.FfnBwdWRefIdeal.τ).loc Cert.FfnBwdWRefIdeal.main_arg5) = m ((c.tc : Thread Cert.FfnBwdWRefIdeal.nD Cert.FfnBwdWRefIdeal.τ).loc Cert.FfnBwdWRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_FfnBwdA [hFfnBwdA : Cert.FfnBwdA.Facts] : Prop :=
  ∀ (m : (ℓ : Loc Cert.FfnBwdA.nD Cert.FfnBwdA.τ Cert.FfnBwdA.sig) → Buf (Elt Bits) ℓ) (g : Dev Cert.FfnBwdA.nD → PrngReg), Pre_FfnBwdA m →
    θ_run (Cert.FfnBwdA.defs (F := Bits)) (onTc (τ := Cert.FfnBwdA.τ) (Cert.FfnBwdA.main (F := Bits))) ⟨m, fun _ => 0, g⟩ (fun r => (∀ c : Dev Cert.FfnBwdA.nD,
      r.2.mem ((c.tc : Thread Cert.FfnBwdA.nD Cert.FfnBwdA.τ).loc Cert.FfnBwdA.main_arg0) = m ((c.tc : Thread Cert.FfnBwdA.nD Cert.FfnBwdA.τ).loc Cert.FfnBwdA.main_arg0)
      ∧ r.2.mem ((c.tc : Thread Cert.FfnBwdA.nD Cert.FfnBwdA.τ).loc Cert.FfnBwdA.main_arg1) = m ((c.tc : Thread Cert.FfnBwdA.nD Cert.FfnBwdA.τ).loc Cert.FfnBwdA.main_arg1)
      ∧ r.2.mem ((c.tc : Thread Cert.FfnBwdA.nD Cert.FfnBwdA.τ).loc Cert.FfnBwdA.main_arg2) = m ((c.tc : Thread Cert.FfnBwdA.nD Cert.FfnBwdA.τ).loc Cert.FfnBwdA.main_arg2)
      ∧ r.2.mem ((c.tc : Thread Cert.FfnBwdA.nD Cert.FfnBwdA.τ).loc Cert.FfnBwdA.main_arg3) = m ((c.tc : Thread Cert.FfnBwdA.nD Cert.FfnBwdA.τ).loc Cert.FfnBwdA.main_arg3)
      ∧ r.2.mem ((c.tc : Thread Cert.FfnBwdA.nD Cert.FfnBwdA.τ).loc Cert.FfnBwdA.main_arg4) = m ((c.tc : Thread Cert.FfnBwdA.nD Cert.FfnBwdA.τ).loc Cert.FfnBwdA.main_arg4)
      ∧ r.2.mem ((c.tc : Thread Cert.FfnBwdA.nD Cert.FfnBwdA.τ).loc Cert.FfnBwdA.main_arg5) = m ((c.tc : Thread Cert.FfnBwdA.nD Cert.FfnBwdA.τ).loc Cert.FfnBwdA.main_arg5))
      ∧ r.2.sem = fun _ => 0)

def quiescent_FfnBwdAIdeal [hFfnBwdAIdeal : Cert.FfnBwdAIdeal.Facts] : Prop :=
  ∀ (m : (ℓ : Loc Cert.FfnBwdAIdeal.nD Cert.FfnBwdAIdeal.τ Cert.FfnBwdAIdeal.sig) → Buf (Elt Ideal) ℓ) (g : Dev Cert.FfnBwdAIdeal.nD → PrngReg), Pre_FfnBwdAIdeal m →
    θ_run (Cert.FfnBwdAIdeal.defs (F := Ideal)) (onTc (τ := Cert.FfnBwdAIdeal.τ) (Cert.FfnBwdAIdeal.main (F := Ideal))) ⟨m, fun _ => 0, g⟩ (fun r => (∀ c : Dev Cert.FfnBwdAIdeal.nD,
      r.2.mem ((c.tc : Thread Cert.FfnBwdAIdeal.nD Cert.FfnBwdAIdeal.τ).loc Cert.FfnBwdAIdeal.main_arg0) = m ((c.tc : Thread Cert.FfnBwdAIdeal.nD Cert.FfnBwdAIdeal.τ).loc Cert.FfnBwdAIdeal.main_arg0)
      ∧ r.2.mem ((c.tc : Thread Cert.FfnBwdAIdeal.nD Cert.FfnBwdAIdeal.τ).loc Cert.FfnBwdAIdeal.main_arg1) = m ((c.tc : Thread Cert.FfnBwdAIdeal.nD Cert.FfnBwdAIdeal.τ).loc Cert.FfnBwdAIdeal.main_arg1)
      ∧ r.2.mem ((c.tc : Thread Cert.FfnBwdAIdeal.nD Cert.FfnBwdAIdeal.τ).loc Cert.FfnBwdAIdeal.main_arg2) = m ((c.tc : Thread Cert.FfnBwdAIdeal.nD Cert.FfnBwdAIdeal.τ).loc Cert.FfnBwdAIdeal.main_arg2)
      ∧ r.2.mem ((c.tc : Thread Cert.FfnBwdAIdeal.nD Cert.FfnBwdAIdeal.τ).loc Cert.FfnBwdAIdeal.main_arg3) = m ((c.tc : Thread Cert.FfnBwdAIdeal.nD Cert.FfnBwdAIdeal.τ).loc Cert.FfnBwdAIdeal.main_arg3)
      ∧ r.2.mem ((c.tc : Thread Cert.FfnBwdAIdeal.nD Cert.FfnBwdAIdeal.τ).loc Cert.FfnBwdAIdeal.main_arg4) = m ((c.tc : Thread Cert.FfnBwdAIdeal.nD Cert.FfnBwdAIdeal.τ).loc Cert.FfnBwdAIdeal.main_arg4)
      ∧ r.2.mem ((c.tc : Thread Cert.FfnBwdAIdeal.nD Cert.FfnBwdAIdeal.τ).loc Cert.FfnBwdAIdeal.main_arg5) = m ((c.tc : Thread Cert.FfnBwdAIdeal.nD Cert.FfnBwdAIdeal.τ).loc Cert.FfnBwdAIdeal.main_arg5))
      ∧ r.2.sem = fun _ => 0)

def quiescent_FfnBwdAIdeal_pre_ffn_finite [hFfnBwdAIdeal : Cert.FfnBwdAIdeal.Facts] [hPre_ffn_finite : Cert.Pre_ffn_finite.Facts] : Prop :=
  ∀ (m : (ℓ : Loc Cert.FfnBwdAIdeal.nD Cert.FfnBwdAIdeal.τ Cert.FfnBwdAIdeal.sig) → Buf (Elt Ideal) ℓ) (g : Dev Cert.FfnBwdAIdeal.nD → PrngReg), Pre_FfnBwdAIdeal_ffn_finite m →
    θ_run (Cert.FfnBwdAIdeal.defs (F := Ideal)) (onTc (τ := Cert.FfnBwdAIdeal.τ) (Cert.FfnBwdAIdeal.main (F := Ideal))) ⟨m, fun _ => 0, g⟩ (fun r => (∀ c : Dev Cert.FfnBwdAIdeal.nD,
      r.2.mem ((c.tc : Thread Cert.FfnBwdAIdeal.nD Cert.FfnBwdAIdeal.τ).loc Cert.FfnBwdAIdeal.main_arg0) = m ((c.tc : Thread Cert.FfnBwdAIdeal.nD Cert.FfnBwdAIdeal.τ).loc Cert.FfnBwdAIdeal.main_arg0)
      ∧ r.2.mem ((c.tc : Thread Cert.FfnBwdAIdeal.nD Cert.FfnBwdAIdeal.τ).loc Cert.FfnBwdAIdeal.main_arg1) = m ((c.tc : Thread Cert.FfnBwdAIdeal.nD Cert.FfnBwdAIdeal.τ).loc Cert.FfnBwdAIdeal.main_arg1)
      ∧ r.2.mem ((c.tc : Thread Cert.FfnBwdAIdeal.nD Cert.FfnBwdAIdeal.τ).loc Cert.FfnBwdAIdeal.main_arg2) = m ((c.tc : Thread Cert.FfnBwdAIdeal.nD Cert.FfnBwdAIdeal.τ).loc Cert.FfnBwdAIdeal.main_arg2)
      ∧ r.2.mem ((c.tc : Thread Cert.FfnBwdAIdeal.nD Cert.FfnBwdAIdeal.τ).loc Cert.FfnBwdAIdeal.main_arg3) = m ((c.tc : Thread Cert.FfnBwdAIdeal.nD Cert.FfnBwdAIdeal.τ).loc Cert.FfnBwdAIdeal.main_arg3)
      ∧ r.2.mem ((c.tc : Thread Cert.FfnBwdAIdeal.nD Cert.FfnBwdAIdeal.τ).loc Cert.FfnBwdAIdeal.main_arg4) = m ((c.tc : Thread Cert.FfnBwdAIdeal.nD Cert.FfnBwdAIdeal.τ).loc Cert.FfnBwdAIdeal.main_arg4)
      ∧ r.2.mem ((c.tc : Thread Cert.FfnBwdAIdeal.nD Cert.FfnBwdAIdeal.τ).loc Cert.FfnBwdAIdeal.main_arg5) = m ((c.tc : Thread Cert.FfnBwdAIdeal.nD Cert.FfnBwdAIdeal.τ).loc Cert.FfnBwdAIdeal.main_arg5))
      ∧ r.2.sem = fun _ => 0)

def quiescent_FfnBwdARefIdeal [hFfnBwdARefIdeal : Cert.FfnBwdARefIdeal.Facts] : Prop :=
  ∀ (m : (ℓ : Loc Cert.FfnBwdARefIdeal.nD Cert.FfnBwdARefIdeal.τ Cert.FfnBwdARefIdeal.sig) → Buf (Elt Ideal) ℓ) (g : Dev Cert.FfnBwdARefIdeal.nD → PrngReg), Pre_FfnBwdARefIdeal m →
    θ_run (Cert.FfnBwdARefIdeal.defs (F := Ideal)) (onTc (τ := Cert.FfnBwdARefIdeal.τ) (Cert.FfnBwdARefIdeal.main (F := Ideal))) ⟨m, fun _ => 0, g⟩ (fun r => (∀ c : Dev Cert.FfnBwdARefIdeal.nD,
      r.2.mem ((c.tc : Thread Cert.FfnBwdARefIdeal.nD Cert.FfnBwdARefIdeal.τ).loc Cert.FfnBwdARefIdeal.main_arg0) = m ((c.tc : Thread Cert.FfnBwdARefIdeal.nD Cert.FfnBwdARefIdeal.τ).loc Cert.FfnBwdARefIdeal.main_arg0)
      ∧ r.2.mem ((c.tc : Thread Cert.FfnBwdARefIdeal.nD Cert.FfnBwdARefIdeal.τ).loc Cert.FfnBwdARefIdeal.main_arg1) = m ((c.tc : Thread Cert.FfnBwdARefIdeal.nD Cert.FfnBwdARefIdeal.τ).loc Cert.FfnBwdARefIdeal.main_arg1)
      ∧ r.2.mem ((c.tc : Thread Cert.FfnBwdARefIdeal.nD Cert.FfnBwdARefIdeal.τ).loc Cert.FfnBwdARefIdeal.main_arg2) = m ((c.tc : Thread Cert.FfnBwdARefIdeal.nD Cert.FfnBwdARefIdeal.τ).loc Cert.FfnBwdARefIdeal.main_arg2)
      ∧ r.2.mem ((c.tc : Thread Cert.FfnBwdARefIdeal.nD Cert.FfnBwdARefIdeal.τ).loc Cert.FfnBwdARefIdeal.main_arg3) = m ((c.tc : Thread Cert.FfnBwdARefIdeal.nD Cert.FfnBwdARefIdeal.τ).loc Cert.FfnBwdARefIdeal.main_arg3)
      ∧ r.2.mem ((c.tc : Thread Cert.FfnBwdARefIdeal.nD Cert.FfnBwdARefIdeal.τ).loc Cert.FfnBwdARefIdeal.main_arg4) = m ((c.tc : Thread Cert.FfnBwdARefIdeal.nD Cert.FfnBwdARefIdeal.τ).loc Cert.FfnBwdARefIdeal.main_arg4)
      ∧ r.2.mem ((c.tc : Thread Cert.FfnBwdARefIdeal.nD Cert.FfnBwdARefIdeal.τ).loc Cert.FfnBwdARefIdeal.main_arg5) = m ((c.tc : Thread Cert.FfnBwdARefIdeal.nD Cert.FfnBwdARefIdeal.τ).loc Cert.FfnBwdARefIdeal.main_arg5))
      ∧ r.2.sem = fun _ => 0)

def quiescent_FfnBwdARefIdeal_pre_ffn_finite [hFfnBwdARefIdeal : Cert.FfnBwdARefIdeal.Facts] [hPre_ffn_finite : Cert.Pre_ffn_finite.Facts] : Prop :=
  ∀ (m : (ℓ : Loc Cert.FfnBwdARefIdeal.nD Cert.FfnBwdARefIdeal.τ Cert.FfnBwdARefIdeal.sig) → Buf (Elt Ideal) ℓ) (g : Dev Cert.FfnBwdARefIdeal.nD → PrngReg), Pre_FfnBwdARefIdeal_ffn_finite m →
    θ_run (Cert.FfnBwdARefIdeal.defs (F := Ideal)) (onTc (τ := Cert.FfnBwdARefIdeal.τ) (Cert.FfnBwdARefIdeal.main (F := Ideal))) ⟨m, fun _ => 0, g⟩ (fun r => (∀ c : Dev Cert.FfnBwdARefIdeal.nD,
      r.2.mem ((c.tc : Thread Cert.FfnBwdARefIdeal.nD Cert.FfnBwdARefIdeal.τ).loc Cert.FfnBwdARefIdeal.main_arg0) = m ((c.tc : Thread Cert.FfnBwdARefIdeal.nD Cert.FfnBwdARefIdeal.τ).loc Cert.FfnBwdARefIdeal.main_arg0)
      ∧ r.2.mem ((c.tc : Thread Cert.FfnBwdARefIdeal.nD Cert.FfnBwdARefIdeal.τ).loc Cert.FfnBwdARefIdeal.main_arg1) = m ((c.tc : Thread Cert.FfnBwdARefIdeal.nD Cert.FfnBwdARefIdeal.τ).loc Cert.FfnBwdARefIdeal.main_arg1)
      ∧ r.2.mem ((c.tc : Thread Cert.FfnBwdARefIdeal.nD Cert.FfnBwdARefIdeal.τ).loc Cert.FfnBwdARefIdeal.main_arg2) = m ((c.tc : Thread Cert.FfnBwdARefIdeal.nD Cert.FfnBwdARefIdeal.τ).loc Cert.FfnBwdARefIdeal.main_arg2)
      ∧ r.2.mem ((c.tc : Thread Cert.FfnBwdARefIdeal.nD Cert.FfnBwdARefIdeal.τ).loc Cert.FfnBwdARefIdeal.main_arg3) = m ((c.tc : Thread Cert.FfnBwdARefIdeal.nD Cert.FfnBwdARefIdeal.τ).loc Cert.FfnBwdARefIdeal.main_arg3)
      ∧ r.2.mem ((c.tc : Thread Cert.FfnBwdARefIdeal.nD Cert.FfnBwdARefIdeal.τ).loc Cert.FfnBwdARefIdeal.main_arg4) = m ((c.tc : Thread Cert.FfnBwdARefIdeal.nD Cert.FfnBwdARefIdeal.τ).loc Cert.FfnBwdARefIdeal.main_arg4)
      ∧ r.2.mem ((c.tc : Thread Cert.FfnBwdARefIdeal.nD Cert.FfnBwdARefIdeal.τ).loc Cert.FfnBwdARefIdeal.main_arg5) = m ((c.tc : Thread Cert.FfnBwdARefIdeal.nD Cert.FfnBwdARefIdeal.τ).loc Cert.FfnBwdARefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4))
      ∧ r.2.sem = fun _ => 0)

def quiescent_ActBwd [hActBwd : Cert.ActBwd.Facts] : Prop :=
  ∀ (m : (ℓ : Loc Cert.ActBwd.nD Cert.ActBwd.τ Cert.ActBwd.sig) → Buf (Elt Bits) ℓ) (g : Dev Cert.ActBwd.nD → PrngReg), Pre_ActBwd m →
    θ_run (Cert.ActBwd.defs (F := Bits)) (onTc (τ := Cert.ActBwd.τ) (Cert.ActBwd.main (F := Bits))) ⟨m, fun _ => 0, g⟩ (fun r => (∀ c : Dev Cert.ActBwd.nD,
      r.2.mem ((c.tc : Thread Cert.ActBwd.nD Cert.ActBwd.τ).loc Cert.ActBwd.main_arg0) = m ((c.tc : Thread Cert.ActBwd.nD Cert.ActBwd.τ).loc Cert.ActBwd.main_arg0)
      ∧ r.2.mem ((c.tc : Thread Cert.ActBwd.nD Cert.ActBwd.τ).loc Cert.ActBwd.main_arg1) = m ((c.tc : Thread Cert.ActBwd.nD Cert.ActBwd.τ).loc Cert.ActBwd.main_arg1)
      ∧ r.2.mem ((c.tc : Thread Cert.ActBwd.nD Cert.ActBwd.τ).loc Cert.ActBwd.main_arg2) = m ((c.tc : Thread Cert.ActBwd.nD Cert.ActBwd.τ).loc Cert.ActBwd.main_arg2)
      ∧ r.2.mem ((c.tc : Thread Cert.ActBwd.nD Cert.ActBwd.τ).loc Cert.ActBwd.main_arg3) = m ((c.tc : Thread Cert.ActBwd.nD Cert.ActBwd.τ).loc Cert.ActBwd.main_arg3))
      ∧ r.2.sem = fun _ => 0)

def quiescent_ActBwdIdeal [hActBwdIdeal : Cert.ActBwdIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg), Pre_ActBwdIdeal m →
    θ_run (Cert.ActBwdIdeal.defs (F := Ideal)) (onTc (τ := Cert.ActBwdIdeal.τ) (Cert.ActBwdIdeal.main (F := Ideal))) ⟨m, fun _ => 0, g⟩ (fun r => (∀ c : Dev Cert.ActBwdIdeal.nD,
      r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
      ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
      ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
      ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ r.2.sem = fun _ => 0)

def quiescent_ActBwdRefIdeal [hActBwdRefIdeal : Cert.ActBwdRefIdeal.Facts] : Prop :=
  ∀ (m : (ℓ : Loc Cert.ActBwdRefIdeal.nD Cert.ActBwdRefIdeal.τ Cert.ActBwdRefIdeal.sig) → Buf (Elt Ideal) ℓ) (g : Dev Cert.ActBwdRefIdeal.nD → PrngReg), Pre_ActBwdRefIdeal m →
    θ_run (Cert.ActBwdRefIdeal.defs (F := Ideal)) (onTc (τ := Cert.ActBwdRefIdeal.τ) (Cert.ActBwdRefIdeal.main (F := Ideal))) ⟨m, fun _ => 0, g⟩ (fun r => (∀ c : Dev Cert.ActBwdRefIdeal.nD,
      r.2.mem ((c.tc : Thread Cert.ActBwdRefIdeal.nD Cert.ActBwdRefIdeal.τ).loc Cert.ActBwdRefIdeal.main_arg0) = m ((c.tc : Thread Cert.ActBwdRefIdeal.nD Cert.ActBwdRefIdeal.τ).loc Cert.ActBwdRefIdeal.main_arg0)
      ∧ r.2.mem ((c.tc : Thread Cert.ActBwdRefIdeal.nD Cert.ActBwdRefIdeal.τ).loc Cert.ActBwdRefIdeal.main_arg1) = m ((c.tc : Thread Cert.ActBwdRefIdeal.nD Cert.ActBwdRefIdeal.τ).loc Cert.ActBwdRefIdeal.main_arg1)
      ∧ r.2.mem ((c.tc : Thread Cert.ActBwdRefIdeal.nD Cert.ActBwdRefIdeal.τ).loc Cert.ActBwdRefIdeal.main_arg2) = m ((c.tc : Thread Cert.ActBwdRefIdeal.nD Cert.ActBwdRefIdeal.τ).loc Cert.ActBwdRefIdeal.main_arg2)
      ∧ r.2.mem ((c.tc : Thread Cert.ActBwdRefIdeal.nD Cert.ActBwdRefIdeal.τ).loc Cert.ActBwdRefIdeal.main_arg3) = m ((c.tc : Thread Cert.ActBwdRefIdeal.nD Cert.ActBwdRefIdeal.τ).loc Cert.ActBwdRefIdeal.main_arg3))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5))
      ∧ r.2.sem = fun _ => 0)

def quiescent_ProjBwdW [hProjBwdW : Cert.ProjBwdW.Facts] : Prop :=
  ∀ (m : (ℓ : Loc Cert.ProjBwdW.nD Cert.ProjBwdW.τ Cert.ProjBwdW.sig) → Buf (Elt Bits) ℓ) (g : Dev Cert.ProjBwdW.nD → PrngReg), Pre_ProjBwdW m →
    θ_run (Cert.ProjBwdW.defs (F := Bits)) (onTc (τ := Cert.ProjBwdW.τ) (Cert.ProjBwdW.main (F := Bits))) ⟨m, fun _ => 0, g⟩ (fun r => (∀ c : Dev Cert.ProjBwdW.nD,
      r.2.mem ((c.tc : Thread Cert.ProjBwdW.nD Cert.ProjBwdW.τ).loc Cert.ProjBwdW.main_arg0) = m ((c.tc : Thread Cert.ProjBwdW.nD Cert.ProjBwdW.τ).loc Cert.ProjBwdW.main_arg0)
      ∧ r.2.mem ((c.tc : Thread Cert.ProjBwdW.nD Cert.ProjBwdW.τ).loc Cert.ProjBwdW.main_arg1) = m ((c.tc : Thread Cert.ProjBwdW.nD Cert.ProjBwdW.τ).loc Cert.ProjBwdW.main_arg1)
      ∧ r.2.mem ((c.tc : Thread Cert.ProjBwdW.nD Cert.ProjBwdW.τ).loc Cert.ProjBwdW.main_arg2) = m ((c.tc : Thread Cert.ProjBwdW.nD Cert.ProjBwdW.τ).loc Cert.ProjBwdW.main_arg2))
      ∧ r.2.sem = fun _ => 0)

def quiescent_ProjBwdWIdeal [hProjBwdWIdeal : Cert.ProjBwdWIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg), Pre_ProjBwdWIdeal m →
    θ_run (Cert.ProjBwdWIdeal.defs (F := Ideal)) (onTc (τ := Cert.ProjBwdWIdeal.τ) (Cert.ProjBwdWIdeal.main (F := Ideal))) ⟨m, fun _ => 0, g⟩ (fun r => (∀ c : Dev Cert.ProjBwdWIdeal.nD,
      r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
      ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1)
      ∧ r.2.mem ((c.tc : Thread Cert.ProjBwdWIdeal.nD Cert.ProjBwdWIdeal.τ).loc Cert.ProjBwdWIdeal.main_arg2) = m ((c.tc : Thread Cert.ProjBwdWIdeal.nD Cert.ProjBwdWIdeal.τ).loc Cert.ProjBwdWIdeal.main_arg2))
      ∧ r.2.sem = fun _ => 0)

def quiescent_ProjBwdWRefIdeal [hProjBwdWRefIdeal : Cert.ProjBwdWRefIdeal.Facts] : Prop :=
  ∀ (m : (ℓ : Loc Cert.ProjBwdWRefIdeal.nD Cert.ProjBwdWRefIdeal.τ Cert.ProjBwdWRefIdeal.sig) → Buf (Elt Ideal) ℓ) (g : Dev Cert.ProjBwdWRefIdeal.nD → PrngReg), Pre_ProjBwdWRefIdeal m →
    θ_run (Cert.ProjBwdWRefIdeal.defs (F := Ideal)) (onTc (τ := Cert.ProjBwdWRefIdeal.τ) (Cert.ProjBwdWRefIdeal.main (F := Ideal))) ⟨m, fun _ => 0, g⟩ (fun r => (∀ c : Dev Cert.ProjBwdWRefIdeal.nD,
      r.2.mem ((c.tc : Thread Cert.ProjBwdWRefIdeal.nD Cert.ProjBwdWRefIdeal.τ).loc Cert.ProjBwdWRefIdeal.main_arg0) = m ((c.tc : Thread Cert.ProjBwdWRefIdeal.nD Cert.ProjBwdWRefIdeal.τ).loc Cert.ProjBwdWRefIdeal.main_arg0)
      ∧ r.2.mem ((c.tc : Thread Cert.ProjBwdWRefIdeal.nD Cert.ProjBwdWRefIdeal.τ).loc Cert.ProjBwdWRefIdeal.main_arg1) = m ((c.tc : Thread Cert.ProjBwdWRefIdeal.nD Cert.ProjBwdWRefIdeal.τ).loc Cert.ProjBwdWRefIdeal.main_arg1)
      ∧ r.2.mem ((c.tc : Thread Cert.ProjBwdWRefIdeal.nD Cert.ProjBwdWRefIdeal.τ).loc Cert.ProjBwdWRefIdeal.main_arg2) = m ((c.tc : Thread Cert.ProjBwdWRefIdeal.nD Cert.ProjBwdWRefIdeal.τ).loc Cert.ProjBwdWRefIdeal.main_arg2))
      ∧ r.2.sem = fun _ => 0)

def quiescent_MixBwdW [hMixBwdW : Cert.MixBwdW.Facts] : Prop :=
  ∀ (m : (ℓ : Loc Cert.MixBwdW.nD Cert.MixBwdW.τ Cert.MixBwdW.sig) → Buf (Elt Bits) ℓ) (g : Dev Cert.MixBwdW.nD → PrngReg), Pre_MixBwdW m →
    θ_run (Cert.MixBwdW.defs (F := Bits)) (onTc (τ := Cert.MixBwdW.τ) (Cert.MixBwdW.main (F := Bits))) ⟨m, fun _ => 0, g⟩ (fun r => (∀ c : Dev Cert.MixBwdW.nD,
      r.2.mem ((c.tc : Thread Cert.MixBwdW.nD Cert.MixBwdW.τ).loc Cert.MixBwdW.main_arg0) = m ((c.tc : Thread Cert.MixBwdW.nD Cert.MixBwdW.τ).loc Cert.MixBwdW.main_arg0)
      ∧ r.2.mem ((c.tc : Thread Cert.MixBwdW.nD Cert.MixBwdW.τ).loc Cert.MixBwdW.main_arg1) = m ((c.tc : Thread Cert.MixBwdW.nD Cert.MixBwdW.τ).loc Cert.MixBwdW.main_arg1)
      ∧ r.2.mem ((c.tc : Thread Cert.MixBwdW.nD Cert.MixBwdW.τ).loc Cert.MixBwdW.main_arg2) = m ((c.tc : Thread Cert.MixBwdW.nD Cert.MixBwdW.τ).loc Cert.MixBwdW.main_arg2)
      ∧ r.2.mem ((c.tc : Thread Cert.MixBwdW.nD Cert.MixBwdW.τ).loc Cert.MixBwdW.main_arg3) = m ((c.tc : Thread Cert.MixBwdW.nD Cert.MixBwdW.τ).loc Cert.MixBwdW.main_arg3))
      ∧ r.2.sem = fun _ => 0)

def quiescent_MixBwdWIdeal [hMixBwdWIdeal : Cert.MixBwdWIdeal.Facts] : Prop :=
  ∀ (m : (ℓ : Loc Cert.MixBwdWIdeal.nD Cert.MixBwdWIdeal.τ Cert.MixBwdWIdeal.sig) → Buf (Elt Ideal) ℓ) (g : Dev Cert.MixBwdWIdeal.nD → PrngReg), Pre_MixBwdWIdeal m →
    θ_run (Cert.MixBwdWIdeal.defs (F := Ideal)) (onTc (τ := Cert.MixBwdWIdeal.τ) (Cert.MixBwdWIdeal.main (F := Ideal))) ⟨m, fun _ => 0, g⟩ (fun r => (∀ c : Dev Cert.MixBwdWIdeal.nD,
      r.2.mem ((c.tc : Thread Cert.MixBwdWIdeal.nD Cert.MixBwdWIdeal.τ).loc Cert.MixBwdWIdeal.main_arg0) = m ((c.tc : Thread Cert.MixBwdWIdeal.nD Cert.MixBwdWIdeal.τ).loc Cert.MixBwdWIdeal.main_arg0)
      ∧ r.2.mem ((c.tc : Thread Cert.MixBwdWIdeal.nD Cert.MixBwdWIdeal.τ).loc Cert.MixBwdWIdeal.main_arg1) = m ((c.tc : Thread Cert.MixBwdWIdeal.nD Cert.MixBwdWIdeal.τ).loc Cert.MixBwdWIdeal.main_arg1)
      ∧ r.2.mem ((c.tc : Thread Cert.MixBwdWIdeal.nD Cert.MixBwdWIdeal.τ).loc Cert.MixBwdWIdeal.main_arg2) = m ((c.tc : Thread Cert.MixBwdWIdeal.nD Cert.MixBwdWIdeal.τ).loc Cert.MixBwdWIdeal.main_arg2)
      ∧ r.2.mem ((c.tc : Thread Cert.MixBwdWIdeal.nD Cert.MixBwdWIdeal.τ).loc Cert.MixBwdWIdeal.main_arg3) = m ((c.tc : Thread Cert.MixBwdWIdeal.nD Cert.MixBwdWIdeal.τ).loc Cert.MixBwdWIdeal.main_arg3))
      ∧ r.2.sem = fun _ => 0)

def quiescent_MixBwdWRefIdeal [hMixBwdWRefIdeal : Cert.MixBwdWRefIdeal.Facts] : Prop :=
  ∀ (m : (ℓ : Loc Cert.MixBwdWRefIdeal.nD Cert.MixBwdWRefIdeal.τ Cert.MixBwdWRefIdeal.sig) → Buf (Elt Ideal) ℓ) (g : Dev Cert.MixBwdWRefIdeal.nD → PrngReg), Pre_MixBwdWRefIdeal m →
    θ_run (Cert.MixBwdWRefIdeal.defs (F := Ideal)) (onTc (τ := Cert.MixBwdWRefIdeal.τ) (Cert.MixBwdWRefIdeal.main (F := Ideal))) ⟨m, fun _ => 0, g⟩ (fun r => (∀ c : Dev Cert.MixBwdWRefIdeal.nD,
      r.2.mem ((c.tc : Thread Cert.MixBwdWRefIdeal.nD Cert.MixBwdWRefIdeal.τ).loc Cert.MixBwdWRefIdeal.main_arg0) = m ((c.tc : Thread Cert.MixBwdWRefIdeal.nD Cert.MixBwdWRefIdeal.τ).loc Cert.MixBwdWRefIdeal.main_arg0)
      ∧ r.2.mem ((c.tc : Thread Cert.MixBwdWRefIdeal.nD Cert.MixBwdWRefIdeal.τ).loc Cert.MixBwdWRefIdeal.main_arg1) = m ((c.tc : Thread Cert.MixBwdWRefIdeal.nD Cert.MixBwdWRefIdeal.τ).loc Cert.MixBwdWRefIdeal.main_arg1)
      ∧ r.2.mem ((c.tc : Thread Cert.MixBwdWRefIdeal.nD Cert.MixBwdWRefIdeal.τ).loc Cert.MixBwdWRefIdeal.main_arg2) = m ((c.tc : Thread Cert.MixBwdWRefIdeal.nD Cert.MixBwdWRefIdeal.τ).loc Cert.MixBwdWRefIdeal.main_arg2)
      ∧ r.2.mem ((c.tc : Thread Cert.MixBwdWRefIdeal.nD Cert.MixBwdWRefIdeal.τ).loc Cert.MixBwdWRefIdeal.main_arg3) = m ((c.tc : Thread Cert.MixBwdWRefIdeal.nD Cert.MixBwdWRefIdeal.τ).loc Cert.MixBwdWRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3)
      ∧ r.2.mem ((c.tc : Thread Cert.GluFwdRefIdeal.nD Cert.GluFwdRefIdeal.τ).loc Cert.GluFwdRefIdeal.main_arg4) = m ((c.tc : Thread Cert.GluFwdRefIdeal.nD Cert.GluFwdRefIdeal.τ).loc Cert.GluFwdRefIdeal.main_arg4))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4)
      ∧ r.2.mem ((c.tc : Thread Cert.GluBwd.nD Cert.GluBwd.τ).loc Cert.GluBwd.main_arg5) = m ((c.tc : Thread Cert.GluBwd.nD Cert.GluBwd.τ).loc Cert.GluBwd.main_arg5))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4)
      ∧ r.2.mem ((c.tc : Thread Cert.GluBwdRefIdeal.nD Cert.GluBwdRefIdeal.τ).loc Cert.GluBwdRefIdeal.main_arg5) = m ((c.tc : Thread Cert.GluBwdRefIdeal.nD Cert.GluBwdRefIdeal.τ).loc Cert.GluBwdRefIdeal.main_arg5))
      ∧ r.2.sem = fun _ => 0)

def quiescent_GluBwdW [hGluBwdW : Cert.GluBwdW.Facts] : Prop :=
  ∀ (m : (ℓ : Loc Cert.GluBwdW.nD Cert.GluBwdW.τ Cert.GluBwdW.sig) → Buf (Elt Bits) ℓ) (g : Dev Cert.GluBwdW.nD → PrngReg), Pre_GluBwdW m →
    θ_run (Cert.GluBwdW.defs (F := Bits)) (onTc (τ := Cert.GluBwdW.τ) (Cert.GluBwdW.main (F := Bits))) ⟨m, fun _ => 0, g⟩ (fun r => (∀ c : Dev Cert.GluBwdW.nD,
      r.2.mem ((c.tc : Thread Cert.GluBwdW.nD Cert.GluBwdW.τ).loc Cert.GluBwdW.main_arg0) = m ((c.tc : Thread Cert.GluBwdW.nD Cert.GluBwdW.τ).loc Cert.GluBwdW.main_arg0)
      ∧ r.2.mem ((c.tc : Thread Cert.GluBwdW.nD Cert.GluBwdW.τ).loc Cert.GluBwdW.main_arg1) = m ((c.tc : Thread Cert.GluBwdW.nD Cert.GluBwdW.τ).loc Cert.GluBwdW.main_arg1)
      ∧ r.2.mem ((c.tc : Thread Cert.GluBwdW.nD Cert.GluBwdW.τ).loc Cert.GluBwdW.main_arg2) = m ((c.tc : Thread Cert.GluBwdW.nD Cert.GluBwdW.τ).loc Cert.GluBwdW.main_arg2))
      ∧ r.2.sem = fun _ => 0)

def quiescent_GluBwdWIdeal [hGluBwdWIdeal : Cert.GluBwdWIdeal.Facts] : Prop :=
  ∀ (m : (ℓ : Loc Cert.GluBwdWIdeal.nD Cert.GluBwdWIdeal.τ Cert.GluBwdWIdeal.sig) → Buf (Elt Ideal) ℓ) (g : Dev Cert.GluBwdWIdeal.nD → PrngReg), Pre_GluBwdWIdeal m →
    θ_run (Cert.GluBwdWIdeal.defs (F := Ideal)) (onTc (τ := Cert.GluBwdWIdeal.τ) (Cert.GluBwdWIdeal.main (F := Ideal))) ⟨m, fun _ => 0, g⟩ (fun r => (∀ c : Dev Cert.GluBwdWIdeal.nD,
      r.2.mem ((c.tc : Thread Cert.GluBwdWIdeal.nD Cert.GluBwdWIdeal.τ).loc Cert.GluBwdWIdeal.main_arg0) = m ((c.tc : Thread Cert.GluBwdWIdeal.nD Cert.GluBwdWIdeal.τ).loc Cert.GluBwdWIdeal.main_arg0)
      ∧ r.2.mem ((c.tc : Thread Cert.GluBwdWIdeal.nD Cert.GluBwdWIdeal.τ).loc Cert.GluBwdWIdeal.main_arg1) = m ((c.tc : Thread Cert.GluBwdWIdeal.nD Cert.GluBwdWIdeal.τ).loc Cert.GluBwdWIdeal.main_arg1)
      ∧ r.2.mem ((c.tc : Thread Cert.GluBwdWIdeal.nD Cert.GluBwdWIdeal.τ).loc Cert.GluBwdWIdeal.main_arg2) = m ((c.tc : Thread Cert.GluBwdWIdeal.nD Cert.GluBwdWIdeal.τ).loc Cert.GluBwdWIdeal.main_arg2))
      ∧ r.2.sem = fun _ => 0)

def quiescent_GluBwdWRefIdeal [hGluBwdWRefIdeal : Cert.GluBwdWRefIdeal.Facts] : Prop :=
  ∀ (m : (ℓ : Loc Cert.GluBwdWRefIdeal.nD Cert.GluBwdWRefIdeal.τ Cert.GluBwdWRefIdeal.sig) → Buf (Elt Ideal) ℓ) (g : Dev Cert.GluBwdWRefIdeal.nD → PrngReg), Pre_GluBwdWRefIdeal m →
    θ_run (Cert.GluBwdWRefIdeal.defs (F := Ideal)) (onTc (τ := Cert.GluBwdWRefIdeal.τ) (Cert.GluBwdWRefIdeal.main (F := Ideal))) ⟨m, fun _ => 0, g⟩ (fun r => (∀ c : Dev Cert.GluBwdWRefIdeal.nD,
      r.2.mem ((c.tc : Thread Cert.GluBwdWRefIdeal.nD Cert.GluBwdWRefIdeal.τ).loc Cert.GluBwdWRefIdeal.main_arg0) = m ((c.tc : Thread Cert.GluBwdWRefIdeal.nD Cert.GluBwdWRefIdeal.τ).loc Cert.GluBwdWRefIdeal.main_arg0)
      ∧ r.2.mem ((c.tc : Thread Cert.GluBwdWRefIdeal.nD Cert.GluBwdWRefIdeal.τ).loc Cert.GluBwdWRefIdeal.main_arg1) = m ((c.tc : Thread Cert.GluBwdWRefIdeal.nD Cert.GluBwdWRefIdeal.τ).loc Cert.GluBwdWRefIdeal.main_arg1)
      ∧ r.2.mem ((c.tc : Thread Cert.GluBwdWRefIdeal.nD Cert.GluBwdWRefIdeal.τ).loc Cert.GluBwdWRefIdeal.main_arg2) = m ((c.tc : Thread Cert.GluBwdWRefIdeal.nD Cert.GluBwdWRefIdeal.τ).loc Cert.GluBwdWRefIdeal.main_arg2))
      ∧ r.2.sem = fun _ => 0)

def preserves_ScanBwd_ScanBwdIdeal : Prop :=
  True

def algebraic_ScanBwdIdeal_ScanBwdRefIdeal_pre_scan_finite [hScanBwdIdeal : Cert.ScanBwdIdeal.Facts] [hScanBwdRefIdeal : Cert.ScanBwdRefIdeal.Facts] [hPre_scan_finite : Cert.Pre_scan_finite.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg)
    (m' : (ℓ : Loc Cert.ScanBwdRefIdeal.nD Cert.ScanBwdRefIdeal.τ Cert.ScanBwdRefIdeal.sig) → Buf (Elt Ideal) ℓ) (g' : Dev Cert.ScanBwdRefIdeal.nD → PrngReg), Pre_ScanBwdIdeal_scan_finite m →
    (∀ c : Dev Cert.ScanBwdIdeal.nD,
      m' ((c.tc : Thread Cert.ScanBwdRefIdeal.nD Cert.ScanBwdRefIdeal.τ).loc Cert.ScanBwdRefIdeal.main_arg0) = m ((c.tc : Thread Cert.ScanBwdIdeal.nD Cert.ScanBwdIdeal.τ).loc Cert.ScanBwdIdeal.main_arg0)
      ∧ m' ((c.tc : Thread Cert.ScanBwdRefIdeal.nD Cert.ScanBwdRefIdeal.τ).loc Cert.ScanBwdRefIdeal.main_arg1) = m ((c.tc : Thread Cert.ScanBwdIdeal.nD Cert.ScanBwdIdeal.τ).loc Cert.ScanBwdIdeal.main_arg1)
      ∧ m' ((c.tc : Thread Cert.ScanBwdRefIdeal.nD Cert.ScanBwdRefIdeal.τ).loc Cert.ScanBwdRefIdeal.main_arg2) = m ((c.tc : Thread Cert.ScanBwdIdeal.nD Cert.ScanBwdIdeal.τ).loc Cert.ScanBwdIdeal.main_arg2)
      ∧ m' ((c.tc : Thread Cert.ScanBwdRefIdeal.nD Cert.ScanBwdRefIdeal.τ).loc Cert.ScanBwdRefIdeal.main_arg3) = m ((c.tc : Thread Cert.ScanBwdIdeal.nD Cert.ScanBwdIdeal.τ).loc Cert.ScanBwdIdeal.main_arg3)
      ∧ m' ((c.tc : Thread Cert.ScanBwdRefIdeal.nD Cert.ScanBwdRefIdeal.τ).loc Cert.ScanBwdRefIdeal.main_arg4) = m ((c.tc : Thread Cert.ScanBwdIdeal.nD Cert.ScanBwdIdeal.τ).loc Cert.ScanBwdIdeal.main_arg4)
      ∧ m' ((c.tc : Thread Cert.ScanBwdRefIdeal.nD Cert.ScanBwdRefIdeal.τ).loc Cert.ScanBwdRefIdeal.main_arg5) = m ((c.tc : Thread Cert.ScanBwdIdeal.nD Cert.ScanBwdIdeal.τ).loc Cert.ScanBwdIdeal.main_arg5)
      ∧ m' ((c.tc : Thread Cert.ScanBwdRefIdeal.nD Cert.ScanBwdRefIdeal.τ).loc Cert.ScanBwdRefIdeal.main_arg6) = m ((c.tc : Thread Cert.ScanBwdIdeal.nD Cert.ScanBwdIdeal.τ).loc Cert.ScanBwdIdeal.main_arg6)
      ∧ m' ((c.tc : Thread Cert.ScanBwdRefIdeal.nD Cert.ScanBwdRefIdeal.τ).loc Cert.ScanBwdRefIdeal.main_arg7) = m ((c.tc : Thread Cert.ScanBwdIdeal.nD Cert.ScanBwdIdeal.τ).loc Cert.ScanBwdIdeal.main_arg7)) →
    ∃ (v0 : (c : Dev Cert.ScanBwdIdeal.nD) → Buf (Elt Ideal) ((c.tc : Thread Cert.ScanBwdIdeal.nD Cert.ScanBwdIdeal.τ).loc Cert.ScanBwdIdeal.main_v12_0)) (v1 : (c : Dev Cert.ScanBwdIdeal.nD) → Buf (Elt Ideal) ((c.tc : Thread Cert.ScanBwdIdeal.nD Cert.ScanBwdIdeal.τ).loc Cert.ScanBwdIdeal.main_v12_1)) (v2 : (c : Dev Cert.ScanBwdIdeal.nD) → Buf (Elt Ideal) ((c.tc : Thread Cert.ScanBwdIdeal.nD Cert.ScanBwdIdeal.τ).loc Cert.ScanBwdIdeal.main_v12_2)) (v3 : (c : Dev Cert.ScanBwdIdeal.nD) → Buf (Elt Ideal) ((c.tc : Thread Cert.ScanBwdIdeal.nD Cert.ScanBwdIdeal.τ).loc Cert.ScanBwdIdeal.main_v12_3)) (v4 : (c : Dev Cert.ScanBwdIdeal.nD) → Buf (Elt Ideal) ((c.tc : Thread Cert.ScanBwdIdeal.nD Cert.ScanBwdIdeal.τ).loc Cert.ScanBwdIdeal.main_v12_4)) (v5 : (c : Dev Cert.ScanBwdIdeal.nD) → Buf (Elt Ideal) ((c.tc : Thread Cert.ScanBwdIdeal.nD Cert.ScanBwdIdeal.τ).loc Cert.ScanBwdIdeal.main_v12_5)),
      θ_run (Cert.ScanBwdIdeal.defs (F := Ideal)) (onTc (τ := Cert.ScanBwdIdeal.τ) (Cert.ScanBwdIdeal.main (F := Ideal))) ⟨m, fun _ => 0, g⟩ (fun r => ∀ c : Dev Cert.ScanBwdIdeal.nD,
          r.2.mem ((c.tc : Thread Cert.ScanBwdIdeal.nD Cert.ScanBwdIdeal.τ).loc Cert.ScanBwdIdeal.main_v12_0) = v0 c
          ∧ r.2.mem ((c.tc : Thread Cert.ScanBwdIdeal.nD Cert.ScanBwdIdeal.τ).loc Cert.ScanBwdIdeal.main_v12_1) = v1 c
          ∧ r.2.mem ((c.tc : Thread Cert.ScanBwdIdeal.nD Cert.ScanBwdIdeal.τ).loc Cert.ScanBwdIdeal.main_v12_2) = v2 c
          ∧ r.2.mem ((c.tc : Thread Cert.ScanBwdIdeal.nD Cert.ScanBwdIdeal.τ).loc Cert.ScanBwdIdeal.main_v12_3) = v3 c
          ∧ r.2.mem ((c.tc : Thread Cert.ScanBwdIdeal.nD Cert.ScanBwdIdeal.τ).loc Cert.ScanBwdIdeal.main_v12_4) = v4 c
          ∧ r.2.mem ((c.tc : Thread Cert.ScanBwdIdeal.nD Cert.ScanBwdIdeal.τ).loc Cert.ScanBwdIdeal.main_v12_5) = v5 c
          ∧ r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
          ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
          ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2)
          ∧ r.2.mem ((c.tc : Thread Cert.ScanBwdIdeal.nD Cert.ScanBwdIdeal.τ).loc Cert.ScanBwdIdeal.main_arg3) = m ((c.tc : Thread Cert.ScanBwdIdeal.nD Cert.ScanBwdIdeal.τ).loc Cert.ScanBwdIdeal.main_arg3)
          ∧ r.2.mem ((c.tc : Thread Cert.ScanBwdIdeal.nD Cert.ScanBwdIdeal.τ).loc Cert.ScanBwdIdeal.main_arg4) = m ((c.tc : Thread Cert.ScanBwdIdeal.nD Cert.ScanBwdIdeal.τ).loc Cert.ScanBwdIdeal.main_arg4)
          ∧ r.2.mem ((c.tc : Thread Cert.ScanBwdIdeal.nD Cert.ScanBwdIdeal.τ).loc Cert.ScanBwdIdeal.main_arg5) = m ((c.tc : Thread Cert.ScanBwdIdeal.nD Cert.ScanBwdIdeal.τ).loc Cert.ScanBwdIdeal.main_arg5)
          ∧ r.2.mem ((c.tc : Thread Cert.ScanBwdIdeal.nD Cert.ScanBwdIdeal.τ).loc Cert.ScanBwdIdeal.main_arg6) = m ((c.tc : Thread Cert.ScanBwdIdeal.nD Cert.ScanBwdIdeal.τ).loc Cert.ScanBwdIdeal.main_arg6)
          ∧ r.2.mem ((c.tc : Thread Cert.ScanBwdIdeal.nD Cert.ScanBwdIdeal.τ).loc Cert.ScanBwdIdeal.main_arg7) = m ((c.tc : Thread Cert.ScanBwdIdeal.nD Cert.ScanBwdIdeal.τ).loc Cert.ScanBwdIdeal.main_arg7))
      ∧ θ_run (Cert.ScanBwdRefIdeal.defs (F := Ideal)) (onTc (τ := Cert.ScanBwdRefIdeal.τ) (Cert.ScanBwdRefIdeal.main (F := Ideal))) ⟨m', fun _ => 0, g'⟩ (fun r => ∀ c : Dev Cert.ScanBwdRefIdeal.nD,
          r.2.mem ((c.tc : Thread Cert.ScanBwdRefIdeal.nD Cert.ScanBwdRefIdeal.τ).loc Cert.ScanBwdRefIdeal.main_v28) = v0 c
          ∧ r.2.mem ((c.tc : Thread Cert.ScanBwdRefIdeal.nD Cert.ScanBwdRefIdeal.τ).loc Cert.ScanBwdRefIdeal.main_v30) = v1 c
          ∧ r.2.mem ((c.tc : Thread Cert.ScanBwdRefIdeal.nD Cert.ScanBwdRefIdeal.τ).loc Cert.ScanBwdRefIdeal.main_v32) = v2 c
          ∧ r.2.mem ((c.tc : Thread Cert.ScanBwdRefIdeal.nD Cert.ScanBwdRefIdeal.τ).loc Cert.ScanBwdRefIdeal.main_v34) = v3 c
          ∧ r.2.mem ((c.tc : Thread Cert.ScanBwdRefIdeal.nD Cert.ScanBwdRefIdeal.τ).loc Cert.ScanBwdRefIdeal.main_v36) = v4 c
          ∧ r.2.mem ((c.tc : Thread Cert.ScanBwdRefIdeal.nD Cert.ScanBwdRefIdeal.τ).loc Cert.ScanBwdRefIdeal.main_v26) = v5 c
          ∧ r.2.mem ((c.tc : Thread Cert.ScanBwdRefIdeal.nD Cert.ScanBwdRefIdeal.τ).loc Cert.ScanBwdRefIdeal.main_arg0) = m' ((c.tc : Thread Cert.ScanBwdRefIdeal.nD Cert.ScanBwdRefIdeal.τ).loc Cert.ScanBwdRefIdeal.main_arg0)
          ∧ r.2.mem ((c.tc : Thread Cert.ScanBwdRefIdeal.nD Cert.ScanBwdRefIdeal.τ).loc Cert.ScanBwdRefIdeal.main_arg1) = m' ((c.tc : Thread Cert.ScanBwdRefIdeal.nD Cert.ScanBwdRefIdeal.τ).loc Cert.ScanBwdRefIdeal.main_arg1)
          ∧ r.2.mem ((c.tc : Thread Cert.ScanBwdRefIdeal.nD Cert.ScanBwdRefIdeal.τ).loc Cert.ScanBwdRefIdeal.main_arg2) = m' ((c.tc : Thread Cert.ScanBwdRefIdeal.nD Cert.ScanBwdRefIdeal.τ).loc Cert.ScanBwdRefIdeal.main_arg2)
          ∧ r.2.mem ((c.tc : Thread Cert.ScanBwdRefIdeal.nD Cert.ScanBwdRefIdeal.τ).loc Cert.ScanBwdRefIdeal.main_arg3) = m' ((c.tc : Thread Cert.ScanBwdRefIdeal.nD Cert.ScanBwdRefIdeal.τ).loc Cert.ScanBwdRefIdeal.main_arg3)
          ∧ r.2.mem ((c.tc : Thread Cert.ScanBwdRefIdeal.nD Cert.ScanBwdRefIdeal.τ).loc Cert.ScanBwdRefIdeal.main_arg4) = m' ((c.tc : Thread Cert.ScanBwdRefIdeal.nD Cert.ScanBwdRefIdeal.τ).loc Cert.ScanBwdRefIdeal.main_arg4)
          ∧ r.2.mem ((c.tc : Thread Cert.ScanBwdRefIdeal.nD Cert.ScanBwdRefIdeal.τ).loc Cert.ScanBwdRefIdeal.main_arg5) = m' ((c.tc : Thread Cert.ScanBwdRefIdeal.nD Cert.ScanBwdRefIdeal.τ).loc Cert.ScanBwdRefIdeal.main_arg5)
          ∧ r.2.mem ((c.tc : Thread Cert.ScanBwdRefIdeal.nD Cert.ScanBwdRefIdeal.τ).loc Cert.ScanBwdRefIdeal.main_arg6) = m' ((c.tc : Thread Cert.ScanBwdRefIdeal.nD Cert.ScanBwdRefIdeal.τ).loc Cert.ScanBwdRefIdeal.main_arg6)
          ∧ r.2.mem ((c.tc : Thread Cert.ScanBwdRefIdeal.nD Cert.ScanBwdRefIdeal.τ).loc Cert.ScanBwdRefIdeal.main_arg7) = m' ((c.tc : Thread Cert.ScanBwdRefIdeal.nD Cert.ScanBwdRefIdeal.τ).loc Cert.ScanBwdRefIdeal.main_arg7))

def preserves_FfnBwdW_FfnBwdWIdeal : Prop :=
  True

def algebraic_FfnBwdWIdeal_FfnBwdWRefIdeal [hFfnBwdWIdeal : Cert.FfnBwdWIdeal.Facts] [hFfnBwdWRefIdeal : Cert.FfnBwdWRefIdeal.Facts] : Prop :=
  ∀ (m : (ℓ : Loc Cert.FfnBwdWIdeal.nD Cert.FfnBwdWIdeal.τ Cert.FfnBwdWIdeal.sig) → Buf (Elt Ideal) ℓ) (g : Dev Cert.FfnBwdWIdeal.nD → PrngReg)
    (m' : (ℓ : Loc Cert.FfnBwdWRefIdeal.nD Cert.FfnBwdWRefIdeal.τ Cert.FfnBwdWRefIdeal.sig) → Buf (Elt Ideal) ℓ) (g' : Dev Cert.FfnBwdWRefIdeal.nD → PrngReg), Pre_FfnBwdWIdeal m →
    (∀ c : Dev Cert.FfnBwdWIdeal.nD,
      m' ((c.tc : Thread Cert.FfnBwdWRefIdeal.nD Cert.FfnBwdWRefIdeal.τ).loc Cert.FfnBwdWRefIdeal.main_arg0) = m ((c.tc : Thread Cert.FfnBwdWIdeal.nD Cert.FfnBwdWIdeal.τ).loc Cert.FfnBwdWIdeal.main_arg0)
      ∧ m' ((c.tc : Thread Cert.FfnBwdWRefIdeal.nD Cert.FfnBwdWRefIdeal.τ).loc Cert.FfnBwdWRefIdeal.main_arg1) = m ((c.tc : Thread Cert.FfnBwdWIdeal.nD Cert.FfnBwdWIdeal.τ).loc Cert.FfnBwdWIdeal.main_arg1)
      ∧ m' ((c.tc : Thread Cert.FfnBwdWRefIdeal.nD Cert.FfnBwdWRefIdeal.τ).loc Cert.FfnBwdWRefIdeal.main_arg2) = m ((c.tc : Thread Cert.FfnBwdWIdeal.nD Cert.FfnBwdWIdeal.τ).loc Cert.FfnBwdWIdeal.main_arg2)
      ∧ m' ((c.tc : Thread Cert.FfnBwdWRefIdeal.nD Cert.FfnBwdWRefIdeal.τ).loc Cert.FfnBwdWRefIdeal.main_arg3) = m ((c.tc : Thread Cert.FfnBwdWIdeal.nD Cert.FfnBwdWIdeal.τ).loc Cert.FfnBwdWIdeal.main_arg3)
      ∧ m' ((c.tc : Thread Cert.FfnBwdWRefIdeal.nD Cert.FfnBwdWRefIdeal.τ).loc Cert.FfnBwdWRefIdeal.main_arg4) = m ((c.tc : Thread Cert.FfnBwdWIdeal.nD Cert.FfnBwdWIdeal.τ).loc Cert.FfnBwdWIdeal.main_arg4)
      ∧ m' ((c.tc : Thread Cert.FfnBwdWRefIdeal.nD Cert.FfnBwdWRefIdeal.τ).loc Cert.FfnBwdWRefIdeal.main_arg5) = m ((c.tc : Thread Cert.FfnBwdWIdeal.nD Cert.FfnBwdWIdeal.τ).loc Cert.FfnBwdWIdeal.main_arg5)) →
    ∃ (v0 : (c : Dev Cert.FfnBwdWIdeal.nD) → Buf (Elt Ideal) ((c.tc : Thread Cert.FfnBwdWIdeal.nD Cert.FfnBwdWIdeal.τ).loc Cert.FfnBwdWIdeal.main_v10_0)) (v1 : (c : Dev Cert.FfnBwdWIdeal.nD) → Buf (Elt Ideal) ((c.tc : Thread Cert.FfnBwdWIdeal.nD Cert.FfnBwdWIdeal.τ).loc Cert.FfnBwdWIdeal.main_v10_1)),
      θ_run (Cert.FfnBwdWIdeal.defs (F := Ideal)) (onTc (τ := Cert.FfnBwdWIdeal.τ) (Cert.FfnBwdWIdeal.main (F := Ideal))) ⟨m, fun _ => 0, g⟩ (fun r => ∀ c : Dev Cert.FfnBwdWIdeal.nD,
          r.2.mem ((c.tc : Thread Cert.FfnBwdWIdeal.nD Cert.FfnBwdWIdeal.τ).loc Cert.FfnBwdWIdeal.main_v10_0) = v0 c
          ∧ r.2.mem ((c.tc : Thread Cert.FfnBwdWIdeal.nD Cert.FfnBwdWIdeal.τ).loc Cert.FfnBwdWIdeal.main_v10_1) = v1 c
          ∧ r.2.mem ((c.tc : Thread Cert.FfnBwdWIdeal.nD Cert.FfnBwdWIdeal.τ).loc Cert.FfnBwdWIdeal.main_arg0) = m ((c.tc : Thread Cert.FfnBwdWIdeal.nD Cert.FfnBwdWIdeal.τ).loc Cert.FfnBwdWIdeal.main_arg0)
          ∧ r.2.mem ((c.tc : Thread Cert.FfnBwdWIdeal.nD Cert.FfnBwdWIdeal.τ).loc Cert.FfnBwdWIdeal.main_arg1) = m ((c.tc : Thread Cert.FfnBwdWIdeal.nD Cert.FfnBwdWIdeal.τ).loc Cert.FfnBwdWIdeal.main_arg1)
          ∧ r.2.mem ((c.tc : Thread Cert.FfnBwdWIdeal.nD Cert.FfnBwdWIdeal.τ).loc Cert.FfnBwdWIdeal.main_arg2) = m ((c.tc : Thread Cert.FfnBwdWIdeal.nD Cert.FfnBwdWIdeal.τ).loc Cert.FfnBwdWIdeal.main_arg2)
          ∧ r.2.mem ((c.tc : Thread Cert.FfnBwdWIdeal.nD Cert.FfnBwdWIdeal.τ).loc Cert.FfnBwdWIdeal.main_arg3) = m ((c.tc : Thread Cert.FfnBwdWIdeal.nD Cert.FfnBwdWIdeal.τ).loc Cert.FfnBwdWIdeal.main_arg3)
          ∧ r.2.mem ((c.tc : Thread Cert.FfnBwdWIdeal.nD Cert.FfnBwdWIdeal.τ).loc Cert.FfnBwdWIdeal.main_arg4) = m ((c.tc : Thread Cert.FfnBwdWIdeal.nD Cert.FfnBwdWIdeal.τ).loc Cert.FfnBwdWIdeal.main_arg4)
          ∧ r.2.mem ((c.tc : Thread Cert.FfnBwdWIdeal.nD Cert.FfnBwdWIdeal.τ).loc Cert.FfnBwdWIdeal.main_arg5) = m ((c.tc : Thread Cert.FfnBwdWIdeal.nD Cert.FfnBwdWIdeal.τ).loc Cert.FfnBwdWIdeal.main_arg5))
      ∧ θ_run (Cert.FfnBwdWRefIdeal.defs (F := Ideal)) (onTc (τ := Cert.FfnBwdWRefIdeal.τ) (Cert.FfnBwdWRefIdeal.main (F := Ideal))) ⟨m', fun _ => 0, g'⟩ (fun r => ∀ c : Dev Cert.FfnBwdWRefIdeal.nD,
          r.2.mem ((c.tc : Thread Cert.FfnBwdWRefIdeal.nD Cert.FfnBwdWRefIdeal.τ).loc Cert.FfnBwdWRefIdeal.main_v8) = v0 c
          ∧ r.2.mem ((c.tc : Thread Cert.FfnBwdWRefIdeal.nD Cert.FfnBwdWRefIdeal.τ).loc Cert.FfnBwdWRefIdeal.main_v10) = v1 c
          ∧ r.2.mem ((c.tc : Thread Cert.FfnBwdWRefIdeal.nD Cert.FfnBwdWRefIdeal.τ).loc Cert.FfnBwdWRefIdeal.main_arg0) = m' ((c.tc : Thread Cert.FfnBwdWRefIdeal.nD Cert.FfnBwdWRefIdeal.τ).loc Cert.FfnBwdWRefIdeal.main_arg0)
          ∧ r.2.mem ((c.tc : Thread Cert.FfnBwdWRefIdeal.nD Cert.FfnBwdWRefIdeal.τ).loc Cert.FfnBwdWRefIdeal.main_arg1) = m' ((c.tc : Thread Cert.FfnBwdWRefIdeal.nD Cert.FfnBwdWRefIdeal.τ).loc Cert.FfnBwdWRefIdeal.main_arg1)
          ∧ r.2.mem ((c.tc : Thread Cert.FfnBwdWRefIdeal.nD Cert.FfnBwdWRefIdeal.τ).loc Cert.FfnBwdWRefIdeal.main_arg2) = m' ((c.tc : Thread Cert.FfnBwdWRefIdeal.nD Cert.FfnBwdWRefIdeal.τ).loc Cert.FfnBwdWRefIdeal.main_arg2)
          ∧ r.2.mem ((c.tc : Thread Cert.FfnBwdWRefIdeal.nD Cert.FfnBwdWRefIdeal.τ).loc Cert.FfnBwdWRefIdeal.main_arg3) = m' ((c.tc : Thread Cert.FfnBwdWRefIdeal.nD Cert.FfnBwdWRefIdeal.τ).loc Cert.FfnBwdWRefIdeal.main_arg3)
          ∧ r.2.mem ((c.tc : Thread Cert.FfnBwdWRefIdeal.nD Cert.FfnBwdWRefIdeal.τ).loc Cert.FfnBwdWRefIdeal.main_arg4) = m' ((c.tc : Thread Cert.FfnBwdWRefIdeal.nD Cert.FfnBwdWRefIdeal.τ).loc Cert.FfnBwdWRefIdeal.main_arg4)
          ∧ r.2.mem ((c.tc : Thread Cert.FfnBwdWRefIdeal.nD Cert.FfnBwdWRefIdeal.τ).loc Cert.FfnBwdWRefIdeal.main_arg5) = m' ((c.tc : Thread Cert.FfnBwdWRefIdeal.nD Cert.FfnBwdWRefIdeal.τ).loc Cert.FfnBwdWRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v7_0)) (v1 : (c : Dev Cert.FfnFwdIdeal.nD) → Buf (Elt Ideal) ((c.tc : Thread Cert.FfnFwdIdeal.nD Cert.FfnFwdIdeal.τ).loc Cert.FfnFwdIdeal.main_v7_1)) (v2 : (c : Dev Cert.FfnFwdIdeal.nD) → Buf (Elt Ideal) ((c.tc : Thread Cert.FfnFwdIdeal.nD Cert.FfnFwdIdeal.τ).loc Cert.FfnFwdIdeal.main_v7_2)) (v3 : (c : Dev Cert.FfnFwdIdeal.nD) → Buf (Elt Ideal) ((c.tc : Thread Cert.FfnFwdIdeal.nD Cert.FfnFwdIdeal.τ).loc Cert.FfnFwdIdeal.main_v7_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v7_0) = v0 c
          ∧ r.2.mem ((c.tc : Thread Cert.FfnFwdIdeal.nD Cert.FfnFwdIdeal.τ).loc Cert.FfnFwdIdeal.main_v7_1) = v1 c
          ∧ r.2.mem ((c.tc : Thread Cert.FfnFwdIdeal.nD Cert.FfnFwdIdeal.τ).loc Cert.FfnFwdIdeal.main_v7_2) = v2 c
          ∧ r.2.mem ((c.tc : Thread Cert.FfnFwdIdeal.nD Cert.FfnFwdIdeal.τ).loc Cert.FfnFwdIdeal.main_v7_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v41) = v0 c
          ∧ r.2.mem ((c.tc : Thread Cert.FfnFwdRefIdeal.nD Cert.FfnFwdRefIdeal.τ).loc Cert.FfnFwdRefIdeal.main_v44) = v1 c
          ∧ r.2.mem ((c.tc : Thread Cert.FfnFwdRefIdeal.nD Cert.FfnFwdRefIdeal.τ).loc Cert.FfnFwdRefIdeal.main_v47) = v2 c
          ∧ r.2.mem ((c.tc : Thread Cert.FfnFwdRefIdeal.nD Cert.FfnFwdRefIdeal.τ).loc Cert.FfnFwdRefIdeal.main_v49) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_FfnBwdA_FfnBwdAIdeal : Prop :=
  True

def algebraic_FfnBwdAIdeal_FfnBwdARefIdeal_pre_ffn_finite [hFfnBwdAIdeal : Cert.FfnBwdAIdeal.Facts] [hFfnBwdARefIdeal : Cert.FfnBwdARefIdeal.Facts] [hPre_ffn_finite : Cert.Pre_ffn_finite.Facts] : Prop :=
  ∀ (m : (ℓ : Loc Cert.FfnBwdAIdeal.nD Cert.FfnBwdAIdeal.τ Cert.FfnBwdAIdeal.sig) → Buf (Elt Ideal) ℓ) (g : Dev Cert.FfnBwdAIdeal.nD → PrngReg)
    (m' : (ℓ : Loc Cert.FfnBwdARefIdeal.nD Cert.FfnBwdARefIdeal.τ Cert.FfnBwdARefIdeal.sig) → Buf (Elt Ideal) ℓ) (g' : Dev Cert.FfnBwdARefIdeal.nD → PrngReg), Pre_FfnBwdAIdeal_ffn_finite m →
    (∀ c : Dev Cert.FfnBwdAIdeal.nD,
      m' ((c.tc : Thread Cert.FfnBwdARefIdeal.nD Cert.FfnBwdARefIdeal.τ).loc Cert.FfnBwdARefIdeal.main_arg0) = m ((c.tc : Thread Cert.FfnBwdAIdeal.nD Cert.FfnBwdAIdeal.τ).loc Cert.FfnBwdAIdeal.main_arg0)
      ∧ m' ((c.tc : Thread Cert.FfnBwdARefIdeal.nD Cert.FfnBwdARefIdeal.τ).loc Cert.FfnBwdARefIdeal.main_arg1) = m ((c.tc : Thread Cert.FfnBwdAIdeal.nD Cert.FfnBwdAIdeal.τ).loc Cert.FfnBwdAIdeal.main_arg1)
      ∧ m' ((c.tc : Thread Cert.FfnBwdARefIdeal.nD Cert.FfnBwdARefIdeal.τ).loc Cert.FfnBwdARefIdeal.main_arg2) = m ((c.tc : Thread Cert.FfnBwdAIdeal.nD Cert.FfnBwdAIdeal.τ).loc Cert.FfnBwdAIdeal.main_arg2)
      ∧ m' ((c.tc : Thread Cert.FfnBwdARefIdeal.nD Cert.FfnBwdARefIdeal.τ).loc Cert.FfnBwdARefIdeal.main_arg3) = m ((c.tc : Thread Cert.FfnBwdAIdeal.nD Cert.FfnBwdAIdeal.τ).loc Cert.FfnBwdAIdeal.main_arg3)
      ∧ m' ((c.tc : Thread Cert.FfnBwdARefIdeal.nD Cert.FfnBwdARefIdeal.τ).loc Cert.FfnBwdARefIdeal.main_arg4) = m ((c.tc : Thread Cert.FfnBwdAIdeal.nD Cert.FfnBwdAIdeal.τ).loc Cert.FfnBwdAIdeal.main_arg4)
      ∧ m' ((c.tc : Thread Cert.FfnBwdARefIdeal.nD Cert.FfnBwdARefIdeal.τ).loc Cert.FfnBwdARefIdeal.main_arg5) = m ((c.tc : Thread Cert.FfnBwdAIdeal.nD Cert.FfnBwdAIdeal.τ).loc Cert.FfnBwdAIdeal.main_arg5)) →
    ∃ (v0 : (c : Dev Cert.FfnBwdAIdeal.nD) → Buf (Elt Ideal) ((c.tc : Thread Cert.FfnBwdAIdeal.nD Cert.FfnBwdAIdeal.τ).loc Cert.FfnBwdAIdeal.main_v44_0)) (v1 : (c : Dev Cert.FfnBwdAIdeal.nD) → Buf (Elt Ideal) ((c.tc : Thread Cert.FfnBwdAIdeal.nD Cert.FfnBwdAIdeal.τ).loc Cert.FfnBwdAIdeal.main_v44_1)) (v2 : (c : Dev Cert.FfnBwdAIdeal.nD) → Buf (Elt Ideal) ((c.tc : Thread Cert.FfnBwdAIdeal.nD Cert.FfnBwdAIdeal.τ).loc Cert.FfnBwdAIdeal.main_v44_2)) (v3 : (c : Dev Cert.FfnBwdAIdeal.nD) → Buf (Elt Ideal) ((c.tc : Thread Cert.FfnBwdAIdeal.nD Cert.FfnBwdAIdeal.τ).loc Cert.FfnBwdAIdeal.main_v44_3)) (v4 : (c : Dev Cert.FfnBwdAIdeal.nD) → Buf (Elt Ideal) ((c.tc : Thread Cert.FfnBwdAIdeal.nD Cert.FfnBwdAIdeal.τ).loc Cert.FfnBwdAIdeal.main_v44_4)) (v5 : (c : Dev Cert.FfnBwdAIdeal.nD) → Buf (Elt Ideal) ((c.tc : Thread Cert.FfnBwdAIdeal.nD Cert.FfnBwdAIdeal.τ).loc Cert.FfnBwdAIdeal.main_v44_5)),
      θ_run (Cert.FfnBwdAIdeal.defs (F := Ideal)) (onTc (τ := Cert.FfnBwdAIdeal.τ) (Cert.FfnBwdAIdeal.main (F := Ideal))) ⟨m, fun _ => 0, g⟩ (fun r => ∀ c : Dev Cert.FfnBwdAIdeal.nD,
          r.2.mem ((c.tc : Thread Cert.FfnBwdAIdeal.nD Cert.FfnBwdAIdeal.τ).loc Cert.FfnBwdAIdeal.main_v44_0) = v0 c
          ∧ r.2.mem ((c.tc : Thread Cert.FfnBwdAIdeal.nD Cert.FfnBwdAIdeal.τ).loc Cert.FfnBwdAIdeal.main_v44_1) = v1 c
          ∧ r.2.mem ((c.tc : Thread Cert.FfnBwdAIdeal.nD Cert.FfnBwdAIdeal.τ).loc Cert.FfnBwdAIdeal.main_v44_2) = v2 c
          ∧ r.2.mem ((c.tc : Thread Cert.FfnBwdAIdeal.nD Cert.FfnBwdAIdeal.τ).loc Cert.FfnBwdAIdeal.main_v44_3) = v3 c
          ∧ r.2.mem ((c.tc : Thread Cert.FfnBwdAIdeal.nD Cert.FfnBwdAIdeal.τ).loc Cert.FfnBwdAIdeal.main_v44_4) = v4 c
          ∧ r.2.mem ((c.tc : Thread Cert.FfnBwdAIdeal.nD Cert.FfnBwdAIdeal.τ).loc Cert.FfnBwdAIdeal.main_v44_5) = v5 c
          ∧ r.2.mem ((c.tc : Thread Cert.FfnBwdAIdeal.nD Cert.FfnBwdAIdeal.τ).loc Cert.FfnBwdAIdeal.main_arg0) = m ((c.tc : Thread Cert.FfnBwdAIdeal.nD Cert.FfnBwdAIdeal.τ).loc Cert.FfnBwdAIdeal.main_arg0)
          ∧ r.2.mem ((c.tc : Thread Cert.FfnBwdAIdeal.nD Cert.FfnBwdAIdeal.τ).loc Cert.FfnBwdAIdeal.main_arg1) = m ((c.tc : Thread Cert.FfnBwdAIdeal.nD Cert.FfnBwdAIdeal.τ).loc Cert.FfnBwdAIdeal.main_arg1)
          ∧ r.2.mem ((c.tc : Thread Cert.FfnBwdAIdeal.nD Cert.FfnBwdAIdeal.τ).loc Cert.FfnBwdAIdeal.main_arg2) = m ((c.tc : Thread Cert.FfnBwdAIdeal.nD Cert.FfnBwdAIdeal.τ).loc Cert.FfnBwdAIdeal.main_arg2)
          ∧ r.2.mem ((c.tc : Thread Cert.FfnBwdAIdeal.nD Cert.FfnBwdAIdeal.τ).loc Cert.FfnBwdAIdeal.main_arg3) = m ((c.tc : Thread Cert.FfnBwdAIdeal.nD Cert.FfnBwdAIdeal.τ).loc Cert.FfnBwdAIdeal.main_arg3)
          ∧ r.2.mem ((c.tc : Thread Cert.FfnBwdAIdeal.nD Cert.FfnBwdAIdeal.τ).loc Cert.FfnBwdAIdeal.main_arg4) = m ((c.tc : Thread Cert.FfnBwdAIdeal.nD Cert.FfnBwdAIdeal.τ).loc Cert.FfnBwdAIdeal.main_arg4)
          ∧ r.2.mem ((c.tc : Thread Cert.FfnBwdAIdeal.nD Cert.FfnBwdAIdeal.τ).loc Cert.FfnBwdAIdeal.main_arg5) = m ((c.tc : Thread Cert.FfnBwdAIdeal.nD Cert.FfnBwdAIdeal.τ).loc Cert.FfnBwdAIdeal.main_arg5))
      ∧ θ_run (Cert.FfnBwdARefIdeal.defs (F := Ideal)) (onTc (τ := Cert.FfnBwdARefIdeal.τ) (Cert.FfnBwdARefIdeal.main (F := Ideal))) ⟨m', fun _ => 0, g'⟩ (fun r => ∀ c : Dev Cert.FfnBwdARefIdeal.nD,
          r.2.mem ((c.tc : Thread Cert.FfnBwdARefIdeal.nD Cert.FfnBwdARefIdeal.τ).loc Cert.FfnBwdARefIdeal.main_v96) = v0 c
          ∧ r.2.mem ((c.tc : Thread Cert.FfnBwdARefIdeal.nD Cert.FfnBwdARefIdeal.τ).loc Cert.FfnBwdARefIdeal.main_v99) = v1 c
          ∧ r.2.mem ((c.tc : Thread Cert.FfnBwdARefIdeal.nD Cert.FfnBwdARefIdeal.τ).loc Cert.FfnBwdARefIdeal.main_v101) = v2 c
          ∧ r.2.mem ((c.tc : Thread Cert.FfnBwdARefIdeal.nD Cert.FfnBwdARefIdeal.τ).loc Cert.FfnBwdARefIdeal.main_v103) = v3 c
          ∧ r.2.mem ((c.tc : Thread Cert.FfnBwdARefIdeal.nD Cert.FfnBwdARefIdeal.τ).loc Cert.FfnBwdARefIdeal.main_v104) = v4 c
          ∧ r.2.mem ((c.tc : Thread Cert.FfnBwdARefIdeal.nD Cert.FfnBwdARefIdeal.τ).loc Cert.FfnBwdARefIdeal.main_v105) = v5 c
          ∧ r.2.mem ((c.tc : Thread Cert.FfnBwdARefIdeal.nD Cert.FfnBwdARefIdeal.τ).loc Cert.FfnBwdARefIdeal.main_arg0) = m' ((c.tc : Thread Cert.FfnBwdARefIdeal.nD Cert.FfnBwdARefIdeal.τ).loc Cert.FfnBwdARefIdeal.main_arg0)
          ∧ r.2.mem ((c.tc : Thread Cert.FfnBwdARefIdeal.nD Cert.FfnBwdARefIdeal.τ).loc Cert.FfnBwdARefIdeal.main_arg1) = m' ((c.tc : Thread Cert.FfnBwdARefIdeal.nD Cert.FfnBwdARefIdeal.τ).loc Cert.FfnBwdARefIdeal.main_arg1)
          ∧ r.2.mem ((c.tc : Thread Cert.FfnBwdARefIdeal.nD Cert.FfnBwdARefIdeal.τ).loc Cert.FfnBwdARefIdeal.main_arg2) = m' ((c.tc : Thread Cert.FfnBwdARefIdeal.nD Cert.FfnBwdARefIdeal.τ).loc Cert.FfnBwdARefIdeal.main_arg2)
          ∧ r.2.mem ((c.tc : Thread Cert.FfnBwdARefIdeal.nD Cert.FfnBwdARefIdeal.τ).loc Cert.FfnBwdARefIdeal.main_arg3) = m' ((c.tc : Thread Cert.FfnBwdARefIdeal.nD Cert.FfnBwdARefIdeal.τ).loc Cert.FfnBwdARefIdeal.main_arg3)
          ∧ r.2.mem ((c.tc : Thread Cert.FfnBwdARefIdeal.nD Cert.FfnBwdARefIdeal.τ).loc Cert.FfnBwdARefIdeal.main_arg4) = m' ((c.tc : Thread Cert.FfnBwdARefIdeal.nD Cert.FfnBwdARefIdeal.τ).loc Cert.FfnBwdARefIdeal.main_arg4)
          ∧ r.2.mem ((c.tc : Thread Cert.FfnBwdARefIdeal.nD Cert.FfnBwdARefIdeal.τ).loc Cert.FfnBwdARefIdeal.main_arg5) = m' ((c.tc : Thread Cert.FfnBwdARefIdeal.nD Cert.FfnBwdARefIdeal.τ).loc Cert.FfnBwdARefIdeal.main_arg5))

def preserves_MixBwd_MixBwdIdeal : Prop :=
  True

def algebraic_MixBwdIdeal_MixBwdRefIdeal [hMixBwdIdeal : Cert.MixBwdIdeal.Facts] [hMixBwdRefIdeal : Cert.MixBwdRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v8_0)) (v1 : (c : Dev Cert.MixBwdIdeal.nD) → Buf (Elt Ideal) ((c.tc : Thread Cert.MixBwdIdeal.nD Cert.MixBwdIdeal.τ).loc Cert.MixBwdIdeal.main_v8_1)) (v2 : (c : Dev Cert.MixBwdIdeal.nD) → Buf (Elt Ideal) ((c.tc : Thread Cert.MixBwdIdeal.nD Cert.MixBwdIdeal.τ).loc Cert.MixBwdIdeal.main_v8_2)) (v3 : (c : Dev Cert.MixBwdIdeal.nD) → Buf (Elt Ideal) ((c.tc : Thread Cert.MixBwdIdeal.nD Cert.MixBwdIdeal.τ).loc Cert.MixBwdIdeal.main_v8_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v8_0) = v0 c
          ∧ r.2.mem ((c.tc : Thread Cert.MixBwdIdeal.nD Cert.MixBwdIdeal.τ).loc Cert.MixBwdIdeal.main_v8_1) = v1 c
          ∧ r.2.mem ((c.tc : Thread Cert.MixBwdIdeal.nD Cert.MixBwdIdeal.τ).loc Cert.MixBwdIdeal.main_v8_2) = v2 c
          ∧ r.2.mem ((c.tc : Thread Cert.MixBwdIdeal.nD Cert.MixBwdIdeal.τ).loc Cert.MixBwdIdeal.main_v8_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v23) = v0 c
          ∧ r.2.mem ((c.tc : Thread Cert.MixBwdRefIdeal.nD Cert.MixBwdRefIdeal.τ).loc Cert.MixBwdRefIdeal.main_v25) = v1 c
          ∧ r.2.mem ((c.tc : Thread Cert.MixBwdRefIdeal.nD Cert.MixBwdRefIdeal.τ).loc Cert.MixBwdRefIdeal.main_v26) = v2 c
          ∧ r.2.mem ((c.tc : Thread Cert.MixBwdRefIdeal.nD Cert.MixBwdRefIdeal.τ).loc Cert.MixBwdRefIdeal.main_v27) = v3 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4))

def preserves_ActBwd_ActBwdIdeal : Prop :=
  True

def algebraic_ActBwdIdeal_ActBwdRefIdeal [hActBwdIdeal : Cert.ActBwdIdeal.Facts] [hActBwdRefIdeal : Cert.ActBwdRefIdeal.Facts] : Prop :=
  ∀ (m : (ℓ : Loc Cert.ActBwdIdeal.nD Cert.ActBwdIdeal.τ Cert.ActBwdIdeal.sig) → Buf (Elt Ideal) ℓ) (g : Dev Cert.ActBwdIdeal.nD → PrngReg)
    (m' : (ℓ : Loc Cert.ActBwdRefIdeal.nD Cert.ActBwdRefIdeal.τ Cert.ActBwdRefIdeal.sig) → Buf (Elt Ideal) ℓ) (g' : Dev Cert.ActBwdRefIdeal.nD → PrngReg), Pre_ActBwdIdeal m →
    (∀ c : Dev Cert.ActBwdIdeal.nD,
      m' ((c.tc : Thread Cert.ActBwdRefIdeal.nD Cert.ActBwdRefIdeal.τ).loc Cert.ActBwdRefIdeal.main_arg0) = m ((c.tc : Thread Cert.ActBwdIdeal.nD Cert.ActBwdIdeal.τ).loc Cert.ActBwdIdeal.main_arg0)
      ∧ m' ((c.tc : Thread Cert.ActBwdRefIdeal.nD Cert.ActBwdRefIdeal.τ).loc Cert.ActBwdRefIdeal.main_arg1) = m ((c.tc : Thread Cert.ActBwdIdeal.nD Cert.ActBwdIdeal.τ).loc Cert.ActBwdIdeal.main_arg1)
      ∧ m' ((c.tc : Thread Cert.ActBwdRefIdeal.nD Cert.ActBwdRefIdeal.τ).loc Cert.ActBwdRefIdeal.main_arg2) = m ((c.tc : Thread Cert.ActBwdIdeal.nD Cert.ActBwdIdeal.τ).loc Cert.ActBwdIdeal.main_arg2)
      ∧ m' ((c.tc : Thread Cert.ActBwdRefIdeal.nD Cert.ActBwdRefIdeal.τ).loc Cert.ActBwdRefIdeal.main_arg3) = m ((c.tc : Thread Cert.ActBwdIdeal.nD Cert.ActBwdIdeal.τ).loc Cert.ActBwdIdeal.main_arg3)) →
    ∃ (v0 : (c : Dev Cert.ActBwdIdeal.nD) → Buf (Elt Ideal) ((c.tc : Thread Cert.ActBwdIdeal.nD Cert.ActBwdIdeal.τ).loc Cert.ActBwdIdeal.main_v4_0)) (v1 : (c : Dev Cert.ActBwdIdeal.nD) → Buf (Elt Ideal) ((c.tc : Thread Cert.ActBwdIdeal.nD Cert.ActBwdIdeal.τ).loc Cert.ActBwdIdeal.main_v4_1)),
      θ_run (Cert.ActBwdIdeal.defs (F := Ideal)) (onTc (τ := Cert.ActBwdIdeal.τ) (Cert.ActBwdIdeal.main (F := Ideal))) ⟨m, fun _ => 0, g⟩ (fun r => ∀ c : Dev Cert.ActBwdIdeal.nD,
          r.2.mem ((c.tc : Thread Cert.ActBwdIdeal.nD Cert.ActBwdIdeal.τ).loc Cert.ActBwdIdeal.main_v4_0) = v0 c
          ∧ r.2.mem ((c.tc : Thread Cert.ActBwdIdeal.nD Cert.ActBwdIdeal.τ).loc Cert.ActBwdIdeal.main_v4_1) = v1 c
          ∧ r.2.mem ((c.tc : Thread Cert.ActBwdIdeal.nD Cert.ActBwdIdeal.τ).loc Cert.ActBwdIdeal.main_arg0) = m ((c.tc : Thread Cert.ActBwdIdeal.nD Cert.ActBwdIdeal.τ).loc Cert.ActBwdIdeal.main_arg0)
          ∧ r.2.mem ((c.tc : Thread Cert.ActBwdIdeal.nD Cert.ActBwdIdeal.τ).loc Cert.ActBwdIdeal.main_arg1) = m ((c.tc : Thread Cert.ActBwdIdeal.nD Cert.ActBwdIdeal.τ).loc Cert.ActBwdIdeal.main_arg1)
          ∧ r.2.mem ((c.tc : Thread Cert.ActBwdIdeal.nD Cert.ActBwdIdeal.τ).loc Cert.ActBwdIdeal.main_arg2) = m ((c.tc : Thread Cert.ActBwdIdeal.nD Cert.ActBwdIdeal.τ).loc Cert.ActBwdIdeal.main_arg2)
          ∧ r.2.mem ((c.tc : Thread Cert.ActBwdIdeal.nD Cert.ActBwdIdeal.τ).loc Cert.ActBwdIdeal.main_arg3) = m ((c.tc : Thread Cert.ActBwdIdeal.nD Cert.ActBwdIdeal.τ).loc Cert.ActBwdIdeal.main_arg3))
      ∧ θ_run (Cert.ActBwdRefIdeal.defs (F := Ideal)) (onTc (τ := Cert.ActBwdRefIdeal.τ) (Cert.ActBwdRefIdeal.main (F := Ideal))) ⟨m', fun _ => 0, g'⟩ (fun r => ∀ c : Dev Cert.ActBwdRefIdeal.nD,
          r.2.mem ((c.tc : Thread Cert.ActBwdRefIdeal.nD Cert.ActBwdRefIdeal.τ).loc Cert.ActBwdRefIdeal.main_v58) = v0 c
          ∧ r.2.mem ((c.tc : Thread Cert.ActBwdRefIdeal.nD Cert.ActBwdRefIdeal.τ).loc Cert.ActBwdRefIdeal.main_v61) = v1 c
          ∧ r.2.mem ((c.tc : Thread Cert.ActBwdRefIdeal.nD Cert.ActBwdRefIdeal.τ).loc Cert.ActBwdRefIdeal.main_arg0) = m' ((c.tc : Thread Cert.ActBwdRefIdeal.nD Cert.ActBwdRefIdeal.τ).loc Cert.ActBwdRefIdeal.main_arg0)
          ∧ r.2.mem ((c.tc : Thread Cert.ActBwdRefIdeal.nD Cert.ActBwdRefIdeal.τ).loc Cert.ActBwdRefIdeal.main_arg1) = m' ((c.tc : Thread Cert.ActBwdRefIdeal.nD Cert.ActBwdRefIdeal.τ).loc Cert.ActBwdRefIdeal.main_arg1)
          ∧ r.2.mem ((c.tc : Thread Cert.ActBwdRefIdeal.nD Cert.ActBwdRefIdeal.τ).loc Cert.ActBwdRefIdeal.main_arg2) = m' ((c.tc : Thread Cert.ActBwdRefIdeal.nD Cert.ActBwdRefIdeal.τ).loc Cert.ActBwdRefIdeal.main_arg2)
          ∧ r.2.mem ((c.tc : Thread Cert.ActBwdRefIdeal.nD Cert.ActBwdRefIdeal.τ).loc Cert.ActBwdRefIdeal.main_arg3) = m' ((c.tc : Thread Cert.ActBwdRefIdeal.nD Cert.ActBwdRefIdeal.τ).loc Cert.ActBwdRefIdeal.main_arg3))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)) →
    ∃ (v0 : (c : Dev Cert.ProjBwdIdeal.nD) → Buf (Elt Ideal) ((c.tc : Thread Cert.ProjBwdIdeal.nD Cert.ProjBwdIdeal.τ).loc Cert.ProjBwdIdeal.main_v15_0)) (v1 : (c : Dev Cert.ProjBwdIdeal.nD) → Buf (Elt Ideal) ((c.tc : Thread Cert.ProjBwdIdeal.nD Cert.ProjBwdIdeal.τ).loc Cert.ProjBwdIdeal.main_v15_1)) (v2 : (c : Dev Cert.ProjBwdIdeal.nD) → Buf (Elt Ideal) ((c.tc : Thread Cert.ProjBwdIdeal.nD Cert.ProjBwdIdeal.τ).loc Cert.ProjBwdIdeal.main_v15_2)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v15_0) = v0 c
          ∧ r.2.mem ((c.tc : Thread Cert.ProjBwdIdeal.nD Cert.ProjBwdIdeal.τ).loc Cert.ProjBwdIdeal.main_v15_1) = v1 c
          ∧ r.2.mem ((c.tc : Thread Cert.ProjBwdIdeal.nD Cert.ProjBwdIdeal.τ).loc Cert.ProjBwdIdeal.main_v15_2) = v2 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v65) = v0 c
          ∧ r.2.mem ((c.tc : Thread Cert.ProjBwdRefIdeal.nD Cert.ProjBwdRefIdeal.τ).loc Cert.ProjBwdRefIdeal.main_v63) = v1 c
          ∧ r.2.mem ((c.tc : Thread Cert.ProjBwdRefIdeal.nD Cert.ProjBwdRefIdeal.τ).loc Cert.ProjBwdRefIdeal.main_v66) = v2 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5))

def preserves_ProjBwdW_ProjBwdWIdeal : Prop :=
  True

def algebraic_ProjBwdWIdeal_ProjBwdWRefIdeal [hProjBwdWIdeal : Cert.ProjBwdWIdeal.Facts] [hProjBwdWRefIdeal : Cert.ProjBwdWRefIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg)
    (m' : (ℓ : Loc Cert.ProjBwdWRefIdeal.nD Cert.ProjBwdWRefIdeal.τ Cert.ProjBwdWRefIdeal.sig) → Buf (Elt Ideal) ℓ) (g' : Dev Cert.ProjBwdWRefIdeal.nD → PrngReg), Pre_ProjBwdWIdeal m →
    (∀ c : Dev Cert.ProjBwdWIdeal.nD,
      m' ((c.tc : Thread Cert.ProjBwdWRefIdeal.nD Cert.ProjBwdWRefIdeal.τ).loc Cert.ProjBwdWRefIdeal.main_arg0) = m ((c.tc : Thread Cert.ProjBwdWIdeal.nD Cert.ProjBwdWIdeal.τ).loc Cert.ProjBwdWIdeal.main_arg0)
      ∧ m' ((c.tc : Thread Cert.ProjBwdWRefIdeal.nD Cert.ProjBwdWRefIdeal.τ).loc Cert.ProjBwdWRefIdeal.main_arg1) = m ((c.tc : Thread Cert.ProjBwdWIdeal.nD Cert.ProjBwdWIdeal.τ).loc Cert.ProjBwdWIdeal.main_arg1)
      ∧ m' ((c.tc : Thread Cert.ProjBwdWRefIdeal.nD Cert.ProjBwdWRefIdeal.τ).loc Cert.ProjBwdWRefIdeal.main_arg2) = m ((c.tc : Thread Cert.ProjBwdWIdeal.nD Cert.ProjBwdWIdeal.τ).loc Cert.ProjBwdWIdeal.main_arg2)) →
    ∃ (v0 : (c : Dev Cert.ProjBwdWIdeal.nD) → Buf (Elt Ideal) ((c.tc : Thread Cert.ProjBwdWIdeal.nD Cert.ProjBwdWIdeal.τ).loc Cert.ProjBwdWIdeal.main_v5)),
      θ_run (Cert.ProjBwdWIdeal.defs (F := Ideal)) (onTc (τ := Cert.ProjBwdWIdeal.τ) (Cert.ProjBwdWIdeal.main (F := Ideal))) ⟨m, fun _ => 0, g⟩ (fun r => ∀ c : Dev Cert.ProjBwdWIdeal.nD,
          r.2.mem ((c.tc : Thread Cert.ProjBwdWIdeal.nD Cert.ProjBwdWIdeal.τ).loc Cert.ProjBwdWIdeal.main_v5) = v0 c
          ∧ r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
          ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1)
          ∧ r.2.mem ((c.tc : Thread Cert.ProjBwdWIdeal.nD Cert.ProjBwdWIdeal.τ).loc Cert.ProjBwdWIdeal.main_arg2) = m ((c.tc : Thread Cert.ProjBwdWIdeal.nD Cert.ProjBwdWIdeal.τ).loc Cert.ProjBwdWIdeal.main_arg2))
      ∧ θ_run (Cert.ProjBwdWRefIdeal.defs (F := Ideal)) (onTc (τ := Cert.ProjBwdWRefIdeal.τ) (Cert.ProjBwdWRefIdeal.main (F := Ideal))) ⟨m', fun _ => 0, g'⟩ (fun r => ∀ c : Dev Cert.ProjBwdWRefIdeal.nD,
          r.2.mem ((c.tc : Thread Cert.ProjBwdWRefIdeal.nD Cert.ProjBwdWRefIdeal.τ).loc Cert.ProjBwdWRefIdeal.main_v5) = v0 c
          ∧ r.2.mem ((c.tc : Thread Cert.ProjBwdWRefIdeal.nD Cert.ProjBwdWRefIdeal.τ).loc Cert.ProjBwdWRefIdeal.main_arg0) = m' ((c.tc : Thread Cert.ProjBwdWRefIdeal.nD Cert.ProjBwdWRefIdeal.τ).loc Cert.ProjBwdWRefIdeal.main_arg0)
          ∧ r.2.mem ((c.tc : Thread Cert.ProjBwdWRefIdeal.nD Cert.ProjBwdWRefIdeal.τ).loc Cert.ProjBwdWRefIdeal.main_arg1) = m' ((c.tc : Thread Cert.ProjBwdWRefIdeal.nD Cert.ProjBwdWRefIdeal.τ).loc Cert.ProjBwdWRefIdeal.main_arg1)
          ∧ r.2.mem ((c.tc : Thread Cert.ProjBwdWRefIdeal.nD Cert.ProjBwdWRefIdeal.τ).loc Cert.ProjBwdWRefIdeal.main_arg2) = m' ((c.tc : Thread Cert.ProjBwdWRefIdeal.nD Cert.ProjBwdWRefIdeal.τ).loc Cert.ProjBwdWRefIdeal.main_arg2))

def preserves_MixBwdW_MixBwdWIdeal : Prop :=
  True

def algebraic_MixBwdWIdeal_MixBwdWRefIdeal [hMixBwdWIdeal : Cert.MixBwdWIdeal.Facts] [hMixBwdWRefIdeal : Cert.MixBwdWRefIdeal.Facts] : Prop :=
  ∀ (m : (ℓ : Loc Cert.MixBwdWIdeal.nD Cert.MixBwdWIdeal.τ Cert.MixBwdWIdeal.sig) → Buf (Elt Ideal) ℓ) (g : Dev Cert.MixBwdWIdeal.nD → PrngReg)
    (m' : (ℓ : Loc Cert.MixBwdWRefIdeal.nD Cert.MixBwdWRefIdeal.τ Cert.MixBwdWRefIdeal.sig) → Buf (Elt Ideal) ℓ) (g' : Dev Cert.MixBwdWRefIdeal.nD → PrngReg), Pre_MixBwdWIdeal m →
    (∀ c : Dev Cert.MixBwdWIdeal.nD,
      m' ((c.tc : Thread Cert.MixBwdWRefIdeal.nD Cert.MixBwdWRefIdeal.τ).loc Cert.MixBwdWRefIdeal.main_arg0) = m ((c.tc : Thread Cert.MixBwdWIdeal.nD Cert.MixBwdWIdeal.τ).loc Cert.MixBwdWIdeal.main_arg0)
      ∧ m' ((c.tc : Thread Cert.MixBwdWRefIdeal.nD Cert.MixBwdWRefIdeal.τ).loc Cert.MixBwdWRefIdeal.main_arg1) = m ((c.tc : Thread Cert.MixBwdWIdeal.nD Cert.MixBwdWIdeal.τ).loc Cert.MixBwdWIdeal.main_arg1)
      ∧ m' ((c.tc : Thread Cert.MixBwdWRefIdeal.nD Cert.MixBwdWRefIdeal.τ).loc Cert.MixBwdWRefIdeal.main_arg2) = m ((c.tc : Thread Cert.MixBwdWIdeal.nD Cert.MixBwdWIdeal.τ).loc Cert.MixBwdWIdeal.main_arg2)
      ∧ m' ((c.tc : Thread Cert.MixBwdWRefIdeal.nD Cert.MixBwdWRefIdeal.τ).loc Cert.MixBwdWRefIdeal.main_arg3) = m ((c.tc : Thread Cert.MixBwdWIdeal.nD Cert.MixBwdWIdeal.τ).loc Cert.MixBwdWIdeal.main_arg3)) →
    ∃ (v0 : (c : Dev Cert.MixBwdWIdeal.nD) → Buf (Elt Ideal) ((c.tc : Thread Cert.MixBwdWIdeal.nD Cert.MixBwdWIdeal.τ).loc Cert.MixBwdWIdeal.main_v4)),
      θ_run (Cert.MixBwdWIdeal.defs (F := Ideal)) (onTc (τ := Cert.MixBwdWIdeal.τ) (Cert.MixBwdWIdeal.main (F := Ideal))) ⟨m, fun _ => 0, g⟩ (fun r => ∀ c : Dev Cert.MixBwdWIdeal.nD,
          r.2.mem ((c.tc : Thread Cert.MixBwdWIdeal.nD Cert.MixBwdWIdeal.τ).loc Cert.MixBwdWIdeal.main_v4) = v0 c
          ∧ r.2.mem ((c.tc : Thread Cert.MixBwdWIdeal.nD Cert.MixBwdWIdeal.τ).loc Cert.MixBwdWIdeal.main_arg0) = m ((c.tc : Thread Cert.MixBwdWIdeal.nD Cert.MixBwdWIdeal.τ).loc Cert.MixBwdWIdeal.main_arg0)
          ∧ r.2.mem ((c.tc : Thread Cert.MixBwdWIdeal.nD Cert.MixBwdWIdeal.τ).loc Cert.MixBwdWIdeal.main_arg1) = m ((c.tc : Thread Cert.MixBwdWIdeal.nD Cert.MixBwdWIdeal.τ).loc Cert.MixBwdWIdeal.main_arg1)
          ∧ r.2.mem ((c.tc : Thread Cert.MixBwdWIdeal.nD Cert.MixBwdWIdeal.τ).loc Cert.MixBwdWIdeal.main_arg2) = m ((c.tc : Thread Cert.MixBwdWIdeal.nD Cert.MixBwdWIdeal.τ).loc Cert.MixBwdWIdeal.main_arg2)
          ∧ r.2.mem ((c.tc : Thread Cert.MixBwdWIdeal.nD Cert.MixBwdWIdeal.τ).loc Cert.MixBwdWIdeal.main_arg3) = m ((c.tc : Thread Cert.MixBwdWIdeal.nD Cert.MixBwdWIdeal.τ).loc Cert.MixBwdWIdeal.main_arg3))
      ∧ θ_run (Cert.MixBwdWRefIdeal.defs (F := Ideal)) (onTc (τ := Cert.MixBwdWRefIdeal.τ) (Cert.MixBwdWRefIdeal.main (F := Ideal))) ⟨m', fun _ => 0, g'⟩ (fun r => ∀ c : Dev Cert.MixBwdWRefIdeal.nD,
          r.2.mem ((c.tc : Thread Cert.MixBwdWRefIdeal.nD Cert.MixBwdWRefIdeal.τ).loc Cert.MixBwdWRefIdeal.main_v6) = v0 c
          ∧ r.2.mem ((c.tc : Thread Cert.MixBwdWRefIdeal.nD Cert.MixBwdWRefIdeal.τ).loc Cert.MixBwdWRefIdeal.main_arg0) = m' ((c.tc : Thread Cert.MixBwdWRefIdeal.nD Cert.MixBwdWRefIdeal.τ).loc Cert.MixBwdWRefIdeal.main_arg0)
          ∧ r.2.mem ((c.tc : Thread Cert.MixBwdWRefIdeal.nD Cert.MixBwdWRefIdeal.τ).loc Cert.MixBwdWRefIdeal.main_arg1) = m' ((c.tc : Thread Cert.MixBwdWRefIdeal.nD Cert.MixBwdWRefIdeal.τ).loc Cert.MixBwdWRefIdeal.main_arg1)
          ∧ r.2.mem ((c.tc : Thread Cert.MixBwdWRefIdeal.nD Cert.MixBwdWRefIdeal.τ).loc Cert.MixBwdWRefIdeal.main_arg2) = m' ((c.tc : Thread Cert.MixBwdWRefIdeal.nD Cert.MixBwdWRefIdeal.τ).loc Cert.MixBwdWRefIdeal.main_arg2)
          ∧ r.2.mem ((c.tc : Thread Cert.MixBwdWRefIdeal.nD Cert.MixBwdWRefIdeal.τ).loc Cert.MixBwdWRefIdeal.main_arg3) = m' ((c.tc : Thread Cert.MixBwdWRefIdeal.nD Cert.MixBwdWRefIdeal.τ).loc Cert.MixBwdWRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v5_0)) (v1 : (c : Dev Cert.MixFwdIdeal.nD) → Buf (Elt Ideal) ((c.tc : Thread Cert.MixFwdIdeal.nD Cert.MixFwdIdeal.τ).loc Cert.MixFwdIdeal.main_v5_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v5_0) = v0 c
          ∧ r.2.mem ((c.tc : Thread Cert.MixFwdIdeal.nD Cert.MixFwdIdeal.τ).loc Cert.MixFwdIdeal.main_v5_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v12) = v0 c
          ∧ r.2.mem ((c.tc : Thread Cert.MixFwdRefIdeal.nD Cert.MixFwdRefIdeal.τ).loc Cert.MixFwdRefIdeal.main_v14) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)
      ∧ m' ((c.tc : Thread Cert.GluFwdRefIdeal.nD Cert.GluFwdRefIdeal.τ).loc Cert.GluFwdRefIdeal.main_arg4) = m ((c.tc : Thread Cert.GluFwdIdeal.nD Cert.GluFwdIdeal.τ).loc Cert.GluFwdIdeal.main_arg4)) →
    ∃ (v0 : (c : Dev Cert.GluFwdIdeal.nD) → Buf (Elt Ideal) ((c.tc : Thread Cert.GluFwdIdeal.nD Cert.GluFwdIdeal.τ).loc Cert.GluFwdIdeal.main_v6_0)) (v1 : (c : Dev Cert.GluFwdIdeal.nD) → Buf (Elt Ideal) ((c.tc : Thread Cert.GluFwdIdeal.nD Cert.GluFwdIdeal.τ).loc Cert.GluFwdIdeal.main_v6_1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v6_0) = v0 c
          ∧ r.2.mem ((c.tc : Thread Cert.GluFwdIdeal.nD Cert.GluFwdIdeal.τ).loc Cert.GluFwdIdeal.main_v6_1) = v1 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v26) = v0 c
          ∧ r.2.mem ((c.tc : Thread Cert.GluFwdRefIdeal.nD Cert.GluFwdRefIdeal.τ).loc Cert.GluFwdRefIdeal.main_v31) = v1 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3)
          ∧ r.2.mem ((c.tc : Thread Cert.GluFwdRefIdeal.nD Cert.GluFwdRefIdeal.τ).loc Cert.GluFwdRefIdeal.main_arg4) = m' ((c.tc : Thread Cert.GluFwdRefIdeal.nD Cert.GluFwdRefIdeal.τ).loc Cert.GluFwdRefIdeal.main_arg4))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)
      ∧ m' ((c.tc : Thread Cert.GluBwdRefIdeal.nD Cert.GluBwdRefIdeal.τ).loc Cert.GluBwdRefIdeal.main_arg4) = m ((c.tc : Thread Cert.GluBwdIdeal.nD Cert.GluBwdIdeal.τ).loc Cert.GluBwdIdeal.main_arg4)
      ∧ m' ((c.tc : Thread Cert.GluBwdRefIdeal.nD Cert.GluBwdRefIdeal.τ).loc Cert.GluBwdRefIdeal.main_arg5) = m ((c.tc : Thread Cert.GluBwdIdeal.nD Cert.GluBwdIdeal.τ).loc Cert.GluBwdIdeal.main_arg5)) →
    ∃ (v0 : (c : Dev Cert.GluBwdIdeal.nD) → Buf (Elt Ideal) ((c.tc : Thread Cert.GluBwdIdeal.nD Cert.GluBwdIdeal.τ).loc Cert.GluBwdIdeal.main_v9_0)) (v1 : (c : Dev Cert.GluBwdIdeal.nD) → Buf (Elt Ideal) ((c.tc : Thread Cert.GluBwdIdeal.nD Cert.GluBwdIdeal.τ).loc Cert.GluBwdIdeal.main_v9_1)) (v2 : (c : Dev Cert.GluBwdIdeal.nD) → Buf (Elt Ideal) ((c.tc : Thread Cert.GluBwdIdeal.nD Cert.GluBwdIdeal.τ).loc Cert.GluBwdIdeal.main_v9_2)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v9_0) = v0 c
          ∧ r.2.mem ((c.tc : Thread Cert.GluBwdIdeal.nD Cert.GluBwdIdeal.τ).loc Cert.GluBwdIdeal.main_v9_1) = v1 c
          ∧ r.2.mem ((c.tc : Thread Cert.GluBwdIdeal.nD Cert.GluBwdIdeal.τ).loc Cert.GluBwdIdeal.main_v9_2) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
          ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v65) = v0 c
          ∧ r.2.mem ((c.tc : Thread Cert.GluBwdRefIdeal.nD Cert.GluBwdRefIdeal.τ).loc Cert.GluBwdRefIdeal.main_v63) = v1 c
          ∧ r.2.mem ((c.tc : Thread Cert.GluBwdRefIdeal.nD Cert.GluBwdRefIdeal.τ).loc Cert.GluBwdRefIdeal.main_v66) = v2 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3)
          ∧ r.2.mem ((c.tc : Thread Cert.GluBwdRefIdeal.nD Cert.GluBwdRefIdeal.τ).loc Cert.GluBwdRefIdeal.main_arg4) = m' ((c.tc : Thread Cert.GluBwdRefIdeal.nD Cert.GluBwdRefIdeal.τ).loc Cert.GluBwdRefIdeal.main_arg4)
          ∧ r.2.mem ((c.tc : Thread Cert.GluBwdRefIdeal.nD Cert.GluBwdRefIdeal.τ).loc Cert.GluBwdRefIdeal.main_arg5) = m' ((c.tc : Thread Cert.GluBwdRefIdeal.nD Cert.GluBwdRefIdeal.τ).loc Cert.GluBwdRefIdeal.main_arg5))

def preserves_GluBwdW_GluBwdWIdeal : Prop :=
  True

def algebraic_GluBwdWIdeal_GluBwdWRefIdeal [hGluBwdWIdeal : Cert.GluBwdWIdeal.Facts] [hGluBwdWRefIdeal : Cert.GluBwdWRefIdeal.Facts] : Prop :=
  ∀ (m : (ℓ : Loc Cert.GluBwdWIdeal.nD Cert.GluBwdWIdeal.τ Cert.GluBwdWIdeal.sig) → Buf (Elt Ideal) ℓ) (g : Dev Cert.GluBwdWIdeal.nD → PrngReg)
    (m' : (ℓ : Loc Cert.GluBwdWRefIdeal.nD Cert.GluBwdWRefIdeal.τ Cert.GluBwdWRefIdeal.sig) → Buf (Elt Ideal) ℓ) (g' : Dev Cert.GluBwdWRefIdeal.nD → PrngReg), Pre_GluBwdWIdeal m →
    (∀ c : Dev Cert.GluBwdWIdeal.nD,
      m' ((c.tc : Thread Cert.GluBwdWRefIdeal.nD Cert.GluBwdWRefIdeal.τ).loc Cert.GluBwdWRefIdeal.main_arg0) = m ((c.tc : Thread Cert.GluBwdWIdeal.nD Cert.GluBwdWIdeal.τ).loc Cert.GluBwdWIdeal.main_arg0)
      ∧ m' ((c.tc : Thread Cert.GluBwdWRefIdeal.nD Cert.GluBwdWRefIdeal.τ).loc Cert.GluBwdWRefIdeal.main_arg1) = m ((c.tc : Thread Cert.GluBwdWIdeal.nD Cert.GluBwdWIdeal.τ).loc Cert.GluBwdWIdeal.main_arg1)
      ∧ m' ((c.tc : Thread Cert.GluBwdWRefIdeal.nD Cert.GluBwdWRefIdeal.τ).loc Cert.GluBwdWRefIdeal.main_arg2) = m ((c.tc : Thread Cert.GluBwdWIdeal.nD Cert.GluBwdWIdeal.τ).loc Cert.GluBwdWIdeal.main_arg2)) →
    ∃ (v0 : (c : Dev Cert.GluBwdWIdeal.nD) → Buf (Elt Ideal) ((c.tc : Thread Cert.GluBwdWIdeal.nD Cert.GluBwdWIdeal.τ).loc Cert.GluBwdWIdeal.main_v4)),
      θ_run (Cert.GluBwdWIdeal.defs (F := Ideal)) (onTc (τ := Cert.GluBwdWIdeal.τ) (Cert.GluBwdWIdeal.main (F := Ideal))) ⟨m, fun _ => 0, g⟩ (fun r => ∀ c : Dev Cert.GluBwdWIdeal.nD,
          r.2.mem ((c.tc : Thread Cert.GluBwdWIdeal.nD Cert.GluBwdWIdeal.τ).loc Cert.GluBwdWIdeal.main_v4) = v0 c
          ∧ r.2.mem ((c.tc : Thread Cert.GluBwdWIdeal.nD Cert.GluBwdWIdeal.τ).loc Cert.GluBwdWIdeal.main_arg0) = m ((c.tc : Thread Cert.GluBwdWIdeal.nD Cert.GluBwdWIdeal.τ).loc Cert.GluBwdWIdeal.main_arg0)
          ∧ r.2.mem ((c.tc : Thread Cert.GluBwdWIdeal.nD Cert.GluBwdWIdeal.τ).loc Cert.GluBwdWIdeal.main_arg1) = m ((c.tc : Thread Cert.GluBwdWIdeal.nD Cert.GluBwdWIdeal.τ).loc Cert.GluBwdWIdeal.main_arg1)
          ∧ r.2.mem ((c.tc : Thread Cert.GluBwdWIdeal.nD Cert.GluBwdWIdeal.τ).loc Cert.GluBwdWIdeal.main_arg2) = m ((c.tc : Thread Cert.GluBwdWIdeal.nD Cert.GluBwdWIdeal.τ).loc Cert.GluBwdWIdeal.main_arg2))
      ∧ θ_run (Cert.GluBwdWRefIdeal.defs (F := Ideal)) (onTc (τ := Cert.GluBwdWRefIdeal.τ) (Cert.GluBwdWRefIdeal.main (F := Ideal))) ⟨m', fun _ => 0, g'⟩ (fun r => ∀ c : Dev Cert.GluBwdWRefIdeal.nD,
          r.2.mem ((c.tc : Thread Cert.GluBwdWRefIdeal.nD Cert.GluBwdWRefIdeal.τ).loc Cert.GluBwdWRefIdeal.main_v5) = v0 c
          ∧ r.2.mem ((c.tc : Thread Cert.GluBwdWRefIdeal.nD Cert.GluBwdWRefIdeal.τ).loc Cert.GluBwdWRefIdeal.main_arg0) = m' ((c.tc : Thread Cert.GluBwdWRefIdeal.nD Cert.GluBwdWRefIdeal.τ).loc Cert.GluBwdWRefIdeal.main_arg0)
          ∧ r.2.mem ((c.tc : Thread Cert.GluBwdWRefIdeal.nD Cert.GluBwdWRefIdeal.τ).loc Cert.GluBwdWRefIdeal.main_arg1) = m' ((c.tc : Thread Cert.GluBwdWRefIdeal.nD Cert.GluBwdWRefIdeal.τ).loc Cert.GluBwdWRefIdeal.main_arg1)
          ∧ r.2.mem ((c.tc : Thread Cert.GluBwdWRefIdeal.nD Cert.GluBwdWRefIdeal.τ).loc Cert.GluBwdWRefIdeal.main_arg2) = m' ((c.tc : Thread Cert.GluBwdWRefIdeal.nD Cert.GluBwdWRefIdeal.τ).loc Cert.GluBwdWRefIdeal.main_arg2))

def Claim : Prop :=
  ∃ (hScanBwd : Cert.ScanBwd.Facts) (hScanBwdIdeal : Cert.ScanBwdIdeal.Facts) (hScanBwdRefIdeal : Cert.ScanBwdRefIdeal.Facts) (hFfnBwdW : Cert.FfnBwdW.Facts) (hFfnBwdWIdeal : Cert.FfnBwdWIdeal.Facts) (hFfnBwdWRefIdeal : Cert.FfnBwdWRefIdeal.Facts) (hFfnFwd : Cert.FfnFwd.Facts) (hFfnFwdIdeal : Cert.FfnFwdIdeal.Facts) (hFfnFwdRefIdeal : Cert.FfnFwdRefIdeal.Facts) (hFfnBwdA : Cert.FfnBwdA.Facts) (hFfnBwdAIdeal : Cert.FfnBwdAIdeal.Facts) (hFfnBwdARefIdeal : Cert.FfnBwdARefIdeal.Facts) (hMixBwd : Cert.MixBwd.Facts) (hMixBwdIdeal : Cert.MixBwdIdeal.Facts) (hMixBwdRefIdeal : Cert.MixBwdRefIdeal.Facts) (hActBwd : Cert.ActBwd.Facts) (hActBwdIdeal : Cert.ActBwdIdeal.Facts) (hActBwdRefIdeal : Cert.ActBwdRefIdeal.Facts) (hProjBwd : Cert.ProjBwd.Facts) (hProjBwdIdeal : Cert.ProjBwdIdeal.Facts) (hProjBwdRefIdeal : Cert.ProjBwdRefIdeal.Facts) (hProjBwdW : Cert.ProjBwdW.Facts) (hProjBwdWIdeal : Cert.ProjBwdWIdeal.Facts) (hProjBwdWRefIdeal : Cert.ProjBwdWRefIdeal.Facts) (hMixBwdW : Cert.MixBwdW.Facts) (hMixBwdWIdeal : Cert.MixBwdWIdeal.Facts) (hMixBwdWRefIdeal : Cert.MixBwdWRefIdeal.Facts) (hMixFwd : Cert.MixFwd.Facts) (hMixFwdIdeal : Cert.MixFwdIdeal.Facts) (hMixFwdRefIdeal : Cert.MixFwdRefIdeal.Facts) (hGluFwd : Cert.GluFwd.Facts) (hGluFwdIdeal : Cert.GluFwdIdeal.Facts) (hGluFwdRefIdeal : Cert.GluFwdRefIdeal.Facts) (hGluBwd : Cert.GluBwd.Facts) (hGluBwdIdeal : Cert.GluBwdIdeal.Facts) (hGluBwdRefIdeal : Cert.GluBwdRefIdeal.Facts) (hGluBwdW : Cert.GluBwdW.Facts) (hGluBwdWIdeal : Cert.GluBwdWIdeal.Facts) (hGluBwdWRefIdeal : Cert.GluBwdWRefIdeal.Facts) (hPre_scan_finite : Cert.Pre_scan_finite.Facts) (hPre_ffn_finite : Cert.Pre_ffn_finite.Facts),
    quiescent_ScanBwd (hScanBwd := hScanBwd)
    ∧ quiescent_ScanBwdIdeal (hScanBwdIdeal := hScanBwdIdeal)
    ∧ quiescent_ScanBwdIdeal_pre_scan_finite (hScanBwdIdeal := hScanBwdIdeal) (hPre_scan_finite := hPre_scan_finite)
    ∧ quiescent_ScanBwdRefIdeal (hScanBwdRefIdeal := hScanBwdRefIdeal)
    ∧ quiescent_ScanBwdRefIdeal_pre_scan_finite (hScanBwdRefIdeal := hScanBwdRefIdeal) (hPre_scan_finite := hPre_scan_finite)
    ∧ quiescent_FfnBwdW (hFfnBwdW := hFfnBwdW)
    ∧ quiescent_FfnBwdWIdeal (hFfnBwdWIdeal := hFfnBwdWIdeal)
    ∧ quiescent_FfnBwdWRefIdeal (hFfnBwdWRefIdeal := hFfnBwdWRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnBwdA (hFfnBwdA := hFfnBwdA)
    ∧ quiescent_FfnBwdAIdeal (hFfnBwdAIdeal := hFfnBwdAIdeal)
    ∧ quiescent_FfnBwdAIdeal_pre_ffn_finite (hFfnBwdAIdeal := hFfnBwdAIdeal) (hPre_ffn_finite := hPre_ffn_finite)
    ∧ quiescent_FfnBwdARefIdeal (hFfnBwdARefIdeal := hFfnBwdARefIdeal)
    ∧ quiescent_FfnBwdARefIdeal_pre_ffn_finite (hFfnBwdARefIdeal := hFfnBwdARefIdeal) (hPre_ffn_finite := hPre_ffn_finite)
    ∧ quiescent_MixBwd (hMixBwd := hMixBwd)
    ∧ quiescent_MixBwdIdeal (hMixBwdIdeal := hMixBwdIdeal)
    ∧ quiescent_MixBwdRefIdeal (hMixBwdRefIdeal := hMixBwdRefIdeal)
    ∧ quiescent_ActBwd (hActBwd := hActBwd)
    ∧ quiescent_ActBwdIdeal (hActBwdIdeal := hActBwdIdeal)
    ∧ quiescent_ActBwdRefIdeal (hActBwdRefIdeal := hActBwdRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_ProjBwdW (hProjBwdW := hProjBwdW)
    ∧ quiescent_ProjBwdWIdeal (hProjBwdWIdeal := hProjBwdWIdeal)
    ∧ quiescent_ProjBwdWRefIdeal (hProjBwdWRefIdeal := hProjBwdWRefIdeal)
    ∧ quiescent_MixBwdW (hMixBwdW := hMixBwdW)
    ∧ quiescent_MixBwdWIdeal (hMixBwdWIdeal := hMixBwdWIdeal)
    ∧ quiescent_MixBwdWRefIdeal (hMixBwdWRefIdeal := hMixBwdWRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_GluBwdW (hGluBwdW := hGluBwdW)
    ∧ quiescent_GluBwdWIdeal (hGluBwdWIdeal := hGluBwdWIdeal)
    ∧ quiescent_GluBwdWRefIdeal (hGluBwdWRefIdeal := hGluBwdWRefIdeal)
    ∧ preserves_ScanBwd_ScanBwdIdeal
    ∧ algebraic_ScanBwdIdeal_ScanBwdRefIdeal_pre_scan_finite (hScanBwdIdeal := hScanBwdIdeal) (hScanBwdRefIdeal := hScanBwdRefIdeal) (hPre_scan_finite := hPre_scan_finite)
    ∧ preserves_FfnBwdW_FfnBwdWIdeal
    ∧ algebraic_FfnBwdWIdeal_FfnBwdWRefIdeal (hFfnBwdWIdeal := hFfnBwdWIdeal) (hFfnBwdWRefIdeal := hFfnBwdWRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnBwdA_FfnBwdAIdeal
    ∧ algebraic_FfnBwdAIdeal_FfnBwdARefIdeal_pre_ffn_finite (hFfnBwdAIdeal := hFfnBwdAIdeal) (hFfnBwdARefIdeal := hFfnBwdARefIdeal) (hPre_ffn_finite := hPre_ffn_finite)
    ∧ preserves_MixBwd_MixBwdIdeal
    ∧ algebraic_MixBwdIdeal_MixBwdRefIdeal (hMixBwdIdeal := hMixBwdIdeal) (hMixBwdRefIdeal := hMixBwdRefIdeal)
    ∧ preserves_ActBwd_ActBwdIdeal
    ∧ algebraic_ActBwdIdeal_ActBwdRefIdeal (hActBwdIdeal := hActBwdIdeal) (hActBwdRefIdeal := hActBwdRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_ProjBwdW_ProjBwdWIdeal
    ∧ algebraic_ProjBwdWIdeal_ProjBwdWRefIdeal (hProjBwdWIdeal := hProjBwdWIdeal) (hProjBwdWRefIdeal := hProjBwdWRefIdeal)
    ∧ preserves_MixBwdW_MixBwdWIdeal
    ∧ algebraic_MixBwdWIdeal_MixBwdWRefIdeal (hMixBwdWIdeal := hMixBwdWIdeal) (hMixBwdWRefIdeal := hMixBwdWRefIdeal)
    ∧ preserves_MixFwd_MixFwdIdeal
    ∧ algebraic_MixFwdIdeal_MixFwdRefIdeal (hMixFwdIdeal := hMixFwdIdeal) (hMixFwdRefIdeal := hMixFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_GluBwd_GluBwdIdeal
    ∧ algebraic_GluBwdIdeal_GluBwdRefIdeal (hGluBwdIdeal := hGluBwdIdeal) (hGluBwdRefIdeal := hGluBwdRefIdeal)
    ∧ preserves_GluBwdW_GluBwdWIdeal
    ∧ algebraic_GluBwdWIdeal_GluBwdWRefIdeal (hGluBwdWIdeal := hGluBwdWIdeal) (hGluBwdWRefIdeal := hGluBwdWRefIdeal)
-- ==== Pre_ffn_finite.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x3x1024 : S_.BroadcastsInDim S2x3x1024 (![] : Fin 0 → Fin S2x3x1024.rank)
  reducesTo_S2x3x1024_S_d0_1_2 : S2x3x1024.ReducesTo [0, 1, 2] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2x2048x1024 .f32) (main_v14 : IVec S_ 1) (main_v15 : FVec F S1024x5632 .f32) (main_cst_5 : FVec F S_ .f32) : IVec S_ 1 :=
  let main_v16 : FVec F S1024x5632 .f32 := broadcastInDim S1024x5632 ![] bcast_S_S1024x5632 main_cst_5
  let main_v17 : IVec S1024x5632 1 := cmpf .olt main_v15 main_v16
  let main_c_6 : IVec S_ 1 := constantI S_ 1 1#1
  let main_v18 : IVec S_ 1 := (fun x v => Host.reduce IntOp.andi x v reducesTo_S1024x5632_S_d0_1 h_S_) main_v17 main_c_6
  let main_v19 : IVec S_ 1 := andi main_v14 main_v18
  let main_v20 : FVec F S2816x1024 .f32 := Host.absf main_arg4
  let main_cst_7 : FVec F S_ .f32 := constant S_ .f32 0x7F800000#32
  let main_v21 : FVec F S2816x1024 .f32 := broadcastInDim S2816x1024 ![] bcast_S_S2816x1024 main_cst_7
  let main_v22 : IVec S2816x1024 1 := cmpf .olt main_v20 main_v21
  let main_c_8 : IVec S_ 1 := constantI S_ 1 1#1
  let main_v23 : IVec S_ 1 := (fun x v => Host.reduce IntOp.andi x v reducesTo_S2816x1024_S_d0_1 h_S_) main_v22 main_c_8
  let main_v24 : IVec S_ 1 := andi main_v19 main_v23
  let main_v25 : FVec F S2x2048x1024 .f32 := Host.absf main_arg5
  let main_cst_9 : FVec F S_ .f32 := constant S_ .f32 0x7F800000#32
  let main_v26 : FVec F S2x2048x1024 .f32 := broadcastInDim S2x2048x1024 ![] bcast_S_S2x2048x1024 main_cst_9
  let main_v27 : IVec S2x2048x1024 1 := cmpf .olt main_v25 main_v26
  let main_c_10 : IVec S_ 1 := constantI S_ 1 1#1
  let main_v28 : IVec S_ 1 := (fun x v => Host.reduce IntOp.andi x v reducesTo_S2x2048x1024_S_d0_1_2 h_S_) main_v27 main_c_10
  let main_v29 : IVec S_ 1 := andi main_v24 main_v28
  main_v29

def fn {F : FTy → Type} [FloatOps F] (main_arg0 : FVec F S2x2048x1024 .f32) (main_arg1 : FVec F S2x3x1024 .f32) (main_arg2 : FVec F S1024 .f32) (main_arg3 : FVec F S1024x5632 .f32) (main_arg4 : FVec F S2816x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_c_0 : IVec S_ 1 := constantI S_ 1 1#1
  let main_v4 : IVec S_ 1 := andi main_c_0 main_v3
  let main_v5 : FVec F S2x3x1024 .f32 := Host.absf main_arg1
  let main_cst_1 : FVec F S_ .f32 := constant S_ .f32 0x7F800000#32
  let main_v6 : FVec F S2x3x1024 .f32 := broadcastInDim S2x3x1024 ![] bcast_S_S2x3x1024 main_cst_1
  let main_v7 : IVec S2x3x1024 1 := cmpf .olt main_v5 main_v6
  let main_c_2 : IVec S_ 1 := constantI S_ 1 1#1
  let main_v8 : IVec S_ 1 := (fun x v => Host.reduce IntOp.andi x v reducesTo_S2x3x1024_S_d0_1_2 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1024x5632 .f32 := Host.absf main_arg3
  let main_cst_5 : FVec F S_ .f32 := constant S_ .f32 0x7F800000#32
  fn_part1 (F := F) main_arg4 main_arg5 main_v14 main_v15 main_cst_5
-- ==== Pre_scan_finite.lean ====
abbrev S2x8x2048x128 : Shape := ⟨4, ![2, 8, 2048, 128]⟩
abbrev S2x8x2048x64 : Shape := ⟨4, ![2, 8, 2048, 64]⟩
abbrev S2x8x32 : Shape := ⟨3, ![2, 8, 32]⟩
abbrev S2x8x32x128x128 : Shape := ⟨5, ![2, 8, 32, 128, 128]⟩
abbrev S_ : Shape := ⟨0, ![]⟩

class Facts : Prop where
  bcast_S_S2x8x2048x128 : S_.BroadcastsInDim S2x8x2048x128 (![] : Fin 0 → Fin S2x8x2048x128.rank)
  reducesTo_S2x8x2048x128_S_d0_1_2_3 : S2x8x2048x128.ReducesTo [0, 1, 2, 3] S_
  h_S_ : 0 < S_.numel
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  bcast_S_S2x8x32 : S_.BroadcastsInDim S2x8x32 (![] : Fin 0 → Fin S2x8x32.rank)
  reducesTo_S2x8x32_S_d0_1_2 : S2x8x32.ReducesTo [0, 1, 2] S_
  bcast_S_S2x8x32x128x128 : S_.BroadcastsInDim S2x8x32x128x128 (![] : Fin 0 → Fin S2x8x32x128x128.rank)
  reducesTo_S2x8x32x128x128_S_d0_1_2_3_4 : S2x8x32x128x128.ReducesTo [0, 1, 2, 3, 4] S_

variable [Facts]

def fn_part2 {F : FTy → Type} [FloatOps F] (main_arg7 : FVec F S2x8x2048x128 .f32) (main_v29 : IVec S_ 1) (main_v32 : IVec S2x8x32x128x128 1) (main_c_12 : IVec S_ 1) : IVec S_ 1 :=
  let main_v33 : IVec S_ 1 := (fun x v => Host.reduce IntOp.andi x v reducesTo_S2x8x32x128x128_S_d0_1_2_3_4 h_S_) main_v32 main_c_12
  let main_v34 : IVec S_ 1 := andi main_v29 main_v33
  let main_v35 : FVec F S2x8x2048x128 .f32 := Host.absf main_arg7
  let main_cst_13 : FVec F S_ .f32 := constant S_ .f32 0x7F800000#32
  let main_v36 : FVec F S2x8x2048x128 .f32 := broadcastInDim S2x8x2048x128 ![] bcast_S_S2x8x2048x128 main_cst_13
  let main_v37 : IVec S2x8x2048x128 1 := cmpf .olt main_v35 main_v36
  let main_c_14 : IVec S_ 1 := constantI S_ 1 1#1
  let main_v38 : IVec S_ 1 := (fun x v => Host.reduce IntOp.andi x v reducesTo_S2x8x2048x128_S_d0_1_2_3 h_S_) main_v37 main_c_14
  let main_v39 : IVec S_ 1 := andi main_v34 main_v38
  main_v39

def fn_part1 {F : FTy → Type} [FloatOps F] (main_arg4 : FVec F S2x8x2048x64 .f32) (main_arg5 : FVec F S2x8x32 .f32) (main_arg6 : FVec F S2x8x32x128x128 .f32) (main_arg7 : FVec F S2x8x2048x128 .f32) (main_v14 : IVec S_ 1) (main_v15 : FVec F S2x8x2048x128 .f32) (main_cst_5 : FVec F S_ .f32) : IVec S_ 1 :=
  let main_v16 : FVec F S2x8x2048x128 .f32 := broadcastInDim S2x8x2048x128 ![] bcast_S_S2x8x2048x128 main_cst_5
  let main_v17 : IVec S2x8x2048x128 1 := cmpf .olt main_v15 main_v16
  let main_c_6 : IVec S_ 1 := constantI S_ 1 1#1
  let main_v18 : IVec S_ 1 := (fun x v => Host.reduce IntOp.andi x v reducesTo_S2x8x2048x128_S_d0_1_2_3 h_S_) main_v17 main_c_6
  let main_v19 : IVec S_ 1 := andi main_v14 main_v18
  let main_v20 : FVec F S2x8x2048x64 .f32 := Host.absf main_arg4
  let main_cst_7 : FVec F S_ .f32 := constant S_ .f32 0x7F800000#32
  let main_v21 : FVec F S2x8x2048x64 .f32 := broadcastInDim S2x8x2048x64 ![] bcast_S_S2x8x2048x64 main_cst_7
  let main_v22 : IVec S2x8x2048x64 1 := cmpf .olt main_v20 main_v21
  let main_c_8 : IVec S_ 1 := constantI S_ 1 1#1
  let main_v23 : IVec S_ 1 := (fun x v => Host.reduce IntOp.andi x v reducesTo_S2x8x2048x64_S_d0_1_2_3 h_S_) main_v22 main_c_8
  let main_v24 : IVec S_ 1 := andi main_v19 main_v23
  let main_v25 : FVec F S2x8x32 .f32 := Host.absf main_arg5
  let main_cst_9 : FVec F S_ .f32 := constant S_ .f32 0x7F800000#32
  let main_v26 : FVec F S2x8x32 .f32 := broadcastInDim S2x8x32 ![] bcast_S_S2x8x32 main_cst_9
  let main_v27 : IVec S2x8x32 1 := cmpf .olt main_v25 main_v26
  let main_c_10 : IVec S_ 1 := constantI S_ 1 1#1
  let main_v28 : IVec S_ 1 := (fun x v => Host.reduce IntOp.andi x v reducesTo_S2x8x32_S_d0_1_2 h_S_) main_v27 main_c_10
  let main_v29 : IVec S_ 1 := andi main_v24 main_v28
  let main_v30 : FVec F S2x8x32x128x128 .f32 := Host.absf main_arg6
  let main_cst_11 : FVec F S_ .f32 := constant S_ .f32 0x7F800000#32
  let main_v31 : FVec F S2x8x32x128x128 .f32 := broadcastInDim S2x8x32x128x128 ![] bcast_S_S2x8x32x128x128 main_cst_11
  let main_v32 : IVec S2x8x32x128x128 1 := cmpf .olt main_v30 main_v31
  let main_c_12 : IVec S_ 1 := constantI S_ 1 1#1
  fn_part2 (F := F) main_arg7 main_v29 main_v32 main_c_12

def fn {F : FTy → Type} [FloatOps F] (main_arg0 : FVec F S2x8x2048x128 .f32) (main_arg1 : FVec F S2x8x2048x128 .f32) (main_arg2 : FVec F S2x8x2048x128 .f32) (main_arg3 : FVec F S2x8x2048x128 .f32) (main_arg4 : FVec F S2x8x2048x64 .f32) (main_arg5 : FVec F S2x8x32 .f32) (main_arg6 : FVec F S2x8x32x128x128 .f32) (main_arg7 : FVec F S2x8x2048x128 .f32) : IVec S_ 1 :=
  let main_v0 : FVec F S2x8x2048x128 .f32 := Host.absf main_arg0
  let main_cst : FVec F S_ .f32 := constant S_ .f32 0x7F800000#32
  let main_v1 : FVec F S2x8x2048x128 .f32 := broadcastInDim S2x8x2048x128 ![] bcast_S_S2x8x2048x128 main_cst
  let main_v2 : IVec S2x8x2048x128 1 := cmpf .olt main_v0 main_v1
  let main_c : IVec S_ 1 := constantI S_ 1 1#1
  let main_v3 : IVec S_ 1 := (fun x v => Host.reduce IntOp.andi x v reducesTo_S2x8x2048x128_S_d0_1_2_3 h_S_) main_v2 main_c
  let main_c_0 : IVec S_ 1 := constantI S_ 1 1#1
  let main_v4 : IVec S_ 1 := andi main_c_0 main_v3
  let main_v5 : FVec F S2x8x2048x128 .f32 := Host.absf main_arg1
  let main_cst_1 : FVec F S_ .f32 := constant S_ .f32 0x7F800000#32
  let main_v6 : FVec F S2x8x2048x128 .f32 := broadcastInDim S2x8x2048x128 ![] bcast_S_S2x8x2048x128 main_cst_1
  let main_v7 : IVec S2x8x2048x128 1 := cmpf .olt main_v5 main_v6
  let main_c_2 : IVec S_ 1 := constantI S_ 1 1#1
  let main_v8 : IVec S_ 1 := (fun x v => Host.reduce IntOp.andi x v reducesTo_S2x8x2048x128_S_d0_1_2_3 h_S_) main_v7 main_c_2
  let main_v9 : IVec S_ 1 := andi main_v4 main_v8
  let main_v10 : FVec F S2x8x2048x128 .f32 := Host.absf main_arg2
  let main_cst_3 : FVec F S_ .f32 := constant S_ .f32 0x7F800000#32
  let main_v11 : FVec F S2x8x2048x128 .f32 := broadcastInDim S2x8x2048x128 ![] bcast_S_S2x8x2048x128 main_cst_3
  let main_v12 : IVec S2x8x2048x128 1 := cmpf .olt main_v10 main_v11
  let main_c_4 : IVec S_ 1 := constantI S_ 1 1#1
  let main_v13 : IVec S_ 1 := (fun x v => Host.reduce IntOp.andi x v reducesTo_S2x8x2048x128_S_d0_1_2_3 h_S_) main_v12 main_c_4
  let main_v14 : IVec S_ 1 := andi main_v9 main_v13
  let main_v15 : FVec F S2x8x2048x128 .f32 := Host.absf main_arg3
  let main_cst_5 : FVec F S_ .f32 := constant S_ .f32 0x7F800000#32
  fn_part1 (F := F) main_arg4 main_arg5 main_arg6 main_arg7 main_v14 main_v15 main_cst_5
-- ==== ScanBwd.lean ====
abbrev S2x8x2048x128 : Shape := ⟨4, ![2, 8, 2048, 128]⟩
abbrev S2x8x2048x64 : Shape := ⟨4, ![2, 8, 2048, 64]⟩
abbrev S2x8x32 : Shape := ⟨3, ![2, 8, 32]⟩
abbrev S2x8x32x128x128 : Shape := ⟨5, ![2, 8, 32, 128, 128]⟩
abbrev S2x8x32x64x128 : Shape := ⟨5, ![2, 8, 32, 64, 128]⟩
abbrev S2x8x32x1x1 : Shape := ⟨5, ![2, 8, 32, 1, 1]⟩
abbrev S2x8x32x8x128 : Shape := ⟨5, ![2, 8, 32, 8, 128]⟩
abbrev S2x8x256x128 : Shape := ⟨4, ![2, 8, 256, 128]⟩
abbrev S2x8x128x128 : Shape := ⟨4, ![2, 8, 128, 128]⟩
abbrev S2x8x128x64 : Shape := ⟨4, ![2, 8, 128, 64]⟩
abbrev S2x8x16x128 : Shape := ⟨4, ![2, 8, 16, 128]⟩
abbrev S2x8x2x128x128 : Shape := ⟨5, ![2, 8, 2, 128, 128]⟩
abbrev S16x128x128 : Shape := ⟨3, ![16, 128, 128]⟩
abbrev S2x8x1x128x128 : Shape := ⟨5, ![2, 8, 1, 128, 128]⟩
abbrev S2x8x64x128 : Shape := ⟨4, ![2, 8, 64, 128]⟩
abbrev S16x64x128 : Shape := ⟨3, ![16, 64, 128]⟩
abbrev S2x8x64x64 : Shape := ⟨4, ![2, 8, 64, 64]⟩
abbrev S16x64x64 : Shape := ⟨3, ![16, 64, 64]⟩
abbrev S16x128 : Shape := ⟨2, ![16, 128]⟩
abbrev S16x128x1 : Shape := ⟨3, ![16, 128, 1]⟩
abbrev S16x1 : Shape := ⟨2, ![16, 1]⟩
abbrev S16x1x1 : Shape := ⟨3, ![16, 1, 1]⟩
abbrev S16x8x128 : Shape := ⟨3, ![16, 8, 128]⟩
abbrev S2x8x8x128 : Shape := ⟨4, ![2, 8, 8, 128]⟩
abbrev S2x8x1x128 : Shape := ⟨4, ![2, 8, 1, 128]⟩
abbrev S16x1x128 : Shape := ⟨3, ![16, 1, 128]⟩

abbrev nBuf : Space → Nat
  | .hbm => 26
  | .vmem => 29
  | .smem => 0
  | _ => 0

abbrev bufTy : (tb : Table) → Fin (tcTables nBuf tb) → BufTy
  | .hbm, ⟨0, _⟩ => ⟨S2x8x2048x128, .f32⟩
  | .hbm, ⟨1, _⟩ => ⟨S2x8x2048x128, .f32⟩
  | .hbm, ⟨2, _⟩ => ⟨S2x8x2048x128, .f32⟩
  | .hbm, ⟨3, _⟩ => ⟨S2x8x2048x128, .f32⟩
  | .hbm, ⟨4, _⟩ => ⟨S2x8x2048x64, .f32⟩
  | .hbm, ⟨5, _⟩ => ⟨S2x8x32, .f32⟩
  | .hbm, ⟨6, _⟩ => ⟨S2x8x32x128x128, .f32⟩
  | .hbm, ⟨7, _⟩ => ⟨S2x8x2048x128, .f32⟩
  | .hbm, ⟨8, _⟩ => ⟨S2x8x32x64x128, .f32⟩
  | .hbm, ⟨9, _⟩ => ⟨S2x8x32x64x128, .f32⟩
  | .hbm, ⟨10, _⟩ => ⟨S2x8x2048x128, .f32⟩
  | .hbm, ⟨11, _⟩ => ⟨S2x8x2048x128, .f32⟩
  | .hbm, ⟨12, _⟩ => ⟨S2x8x32, .f32⟩
  | .hbm, ⟨13, _⟩ => ⟨S2x8x32x1x1, .f32⟩
  | .hbm, ⟨14, _⟩ => ⟨S2x8x32x8x128, .f32⟩
  | .hbm, ⟨15, _⟩ => ⟨S2x8x256x128, .f32⟩
  | .hbm, ⟨16, _⟩ => ⟨S2x8x2048x128, .bf16⟩
  | .hbm, ⟨17, _⟩ => ⟨S2x8x2048x128, .bf16⟩
  | .hbm, ⟨18, _⟩ => ⟨S2x8x2048x128, .bf16⟩
  | .hbm, ⟨19, _⟩ => ⟨S2x8x2048x64, .bf16⟩
  | .hbm, ⟨20, _⟩ => ⟨S2x8x2048x128, .f32⟩
  | .hbm, ⟨21, _⟩ => ⟨S2x8x2048x128, .f32⟩
  | .hbm, ⟨22, _⟩ => ⟨S2x8x2048x128, .f32⟩
  | .hbm, ⟨23, _⟩ => ⟨S2x8x2048x128, .f32⟩
  | .hbm, ⟨24, _⟩ => ⟨S2x8x2048x64, .f32⟩
  | .hbm, ⟨25, _⟩ => ⟨S2x8x256x128, .f32⟩
  | .local _ .vmem, ⟨0, _⟩ => ⟨S2x8x128x128, .f32⟩
  | .local _ .vmem, ⟨1, _⟩ => ⟨S2x8x128x128, .f32⟩
  | .local _ .vmem, ⟨2, _⟩ => ⟨S2x8x128x128, .bf16⟩
  | .local _ .vmem, ⟨3, _⟩ => ⟨S2x8x128x128, .bf16⟩
  | .local _ .vmem, ⟨4, _⟩ => ⟨S2x8x128x128, .bf16⟩
  | .local _ .vmem, ⟨5, _⟩ => ⟨S2x8x128x128, .bf16⟩
  | .local _ .vmem, ⟨6, _⟩ => ⟨S2x8x128x128, .bf16⟩
  | .local _ .vmem, ⟨7, _⟩ => ⟨S2x8x128x128, .bf16⟩
  | .local _ .vmem, ⟨8, _⟩ => ⟨S2x8x128x64, .bf16⟩
  | .local _ .vmem, ⟨9, _⟩ => ⟨S2x8x128x64, .bf16⟩
  | .local _ .vmem, ⟨10, _⟩ => ⟨S2x8x16x128, .f32⟩
  | .local _ .vmem, ⟨11, _⟩ => ⟨S2x8x16x128, .f32⟩
  | .local _ .vmem, ⟨12, _⟩ => ⟨S2x8x128x128, .f32⟩
  | .local _ .vmem, ⟨13, _⟩ => ⟨S2x8x128x128, .f32⟩
  | .local _ .vmem, ⟨14, _⟩ => ⟨S2x8x2x128x128, .f32⟩
  | .local _ .vmem, ⟨15, _⟩ => ⟨S2x8x2x128x128, .f32⟩
  | .local _ .vmem, ⟨16, _⟩ => ⟨S2x8x128x128, .f32⟩
  | .local _ .vmem, ⟨17, _⟩ => ⟨S2x8x128x128, .f32⟩
  | .local _ .vmem, ⟨18, _⟩ => ⟨S2x8x128x128, .f32⟩
  | .local _ .vmem, ⟨19, _⟩ => ⟨S2x8x128x128, .f32⟩
  | .local _ .vmem, ⟨20, _⟩ => ⟨S2x8x128x128, .f32⟩
  | .local _ .vmem, ⟨21, _⟩ => ⟨S2x8x128x128, .f32⟩
  | .local _ .vmem, ⟨22, _⟩ => ⟨S2x8x128x128, .f32⟩
  | .local _ .vmem, ⟨23, _⟩ => ⟨S2x8x128x128, .f32⟩
  | .local _ .vmem, ⟨24, _⟩ => ⟨S2x8x128x64, .f32⟩
  | .local _ .vmem, ⟨25, _⟩ => ⟨S2x8x128x64, .f32⟩
  | .local _ .vmem, ⟨26, _⟩ => ⟨S2x8x16x128, .f32⟩
  | .local _ .vmem, ⟨27, _⟩ => ⟨S2x8x16x128, .f32⟩
  | .local _ .vmem, ⟨28, _⟩ => ⟨S16x128x128, .f32⟩
  | _, _ => ⟨S2x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_1 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_2 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_3 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_7 (i : grid0.Coords) : Fin 5 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_9 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_10 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_11 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_12 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_13 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

abbrev stage0_0 : Fin 2 → Memref sig .tc .vmem S2x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x2x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x8x16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ScanBwdRefIdeal.lean ====
abbrev S2x8x2048x128 : Shape := ⟨4, ![2, 8, 2048, 128]⟩
abbrev S2x8x2048x64 : Shape := ⟨4, ![2, 8, 2048, 64]⟩
abbrev S2x8x32 : Shape := ⟨3, ![2, 8, 32]⟩
abbrev S2x8x32x128x128 : Shape := ⟨5, ![2, 8, 32, 128, 128]⟩
abbrev S32x2x8x128x128 : Shape := ⟨5, ![32, 2, 8, 128, 128]⟩
abbrev S2x8x32x64x128 : Shape := ⟨5, ![2, 8, 32, 64, 128]⟩
abbrev S32x2x8x64x128 : Shape := ⟨5, ![32, 2, 8, 64, 128]⟩
abbrev S2x8x32x64x64 : Shape := ⟨5, ![2, 8, 32, 64, 64]⟩
abbrev S32x2x8x64x64 : Shape := ⟨5, ![32, 2, 8, 64, 64]⟩
abbrev S32x2x8 : Shape := ⟨3, ![32, 2, 8]⟩
abbrev S_ : Shape := ⟨0, ![]⟩
abbrev S2x8x128x128 : Shape := ⟨4, ![2, 8, 128, 128]⟩
abbrev S1x2x8x128x128 : Shape := ⟨5, ![1, 2, 8, 128, 128]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8 : Shape := ⟨3, ![1, 2, 8]⟩
abbrev S2x8 : Shape := ⟨2, ![2, 8]⟩
abbrev S2x8x1x1 : Shape := ⟨4, ![2, 8, 1, 1]⟩
abbrev S2x8x128x64 : Shape := ⟨4, ![2, 8, 128, 64]⟩
abbrev S2x8x32x1x1 : Shape := ⟨5, ![2, 8, 32, 1, 1]⟩
abbrev S2x8x32x8x128 : Shape := ⟨5, ![2, 8, 32, 8, 128]⟩
abbrev S2x8x256x128 : Shape := ⟨4, ![2, 8, 256, 128]⟩

abbrev nBuf : Space → Nat
  | .hbm => 191
  | .vmem => 0
  | .smem => 0
  | _ => 0

abbrev hbmTy0_0 (i : Nat) : BufTy := match i % 128 with
  | 0 => ⟨S2x8x2048x128, .f32⟩
  | 1 => ⟨S2x8x2048x128, .f32⟩
  | 2 => ⟨S2x8x2048x128, .f32⟩
  | 3 => ⟨S2x8x2048x128, .f32⟩
  | 4 => ⟨S2x8x2048x64, .f32⟩
  | 5 => ⟨S2x8x32, .f32⟩
  | 6 => ⟨S2x8x32x128x128, .f32⟩
  | 7 => ⟨S2x8x2048x128, .f32⟩
  | 8 => ⟨S32x2x8x128x128, .f32⟩
  | 9 => ⟨S2x8x32x64x128, .f32⟩
  | 10 => ⟨S32x2x8x64x128, .f32⟩
  | 11 => ⟨S2x8x32x64x128, .f32⟩
  | 12 => ⟨S32x2x8x64x128, .f32⟩
  | 13 => ⟨S2x8x32x64x128, .f32⟩
  | 14 => ⟨S32x2x8x64x128, .f32⟩
  | 15 => ⟨S2x8x32x64x64, .f32⟩
  | 16 => ⟨S32x2x8x64x64, .f32⟩
  | 17 => ⟨S2x8x32x64x128, .f32⟩
  | 18 => ⟨S32x2x8x64x128, .f32⟩
  | 19 => ⟨S2x8x32, .f32⟩
  | 20 => ⟨S32x2x8, .f32⟩
  | 21 => ⟨S2x8x32x64x128, .f32⟩
  | 22 => ⟨S32x2x8x64x128, .f32⟩
  | 23 => ⟨S_, .f32⟩
  | 24 => ⟨S2x8x128x128, .f32⟩
  | 25 => ⟨S_, .f32⟩
  | 26 => ⟨S32x2x8x64x128, .f32⟩
  | 27 => ⟨S_, .f32⟩
  | 28 => ⟨S32x2x8x64x128, .f32⟩
  | 29 => ⟨S_, .f32⟩
  | 30 => ⟨S32x2x8x64x128, .f32⟩
  | 31 => ⟨S_, .f32⟩
  | 32 => ⟨S32x2x8x64x128, .f32⟩
  | 33 => ⟨S_, .f32⟩
  | 34 => ⟨S32x2x8x64x64, .f32⟩
  | 35 => ⟨S_, .f32⟩
  | 36 => ⟨S32x2x8, .f32⟩
  | 37 => ⟨S_, .i32⟩
  | 38 => ⟨S32x2x8x128x128, .f32⟩
  | 39 => ⟨S32x2x8x64x128, .f32⟩
  | 40 => ⟨S32x2x8x64x128, .f32⟩
  | 41 => ⟨S32x2x8x64x128, .f32⟩
  | 42 => ⟨S32x2x8x64x64, .f32⟩
  | 43 => ⟨S32x2x8x64x128, .f32⟩
  | 44 => ⟨S32x2x8, .f32⟩
  | 45 => ⟨S32x2x8x64x128, .f32⟩
  | 46 => ⟨S_, .i32⟩
  | 47 => ⟨S2x8x128x128, .f32⟩
  | 48 => ⟨S32x2x8x64x128, .f32⟩
  | 49 => ⟨S32x2x8x64x128, .f32⟩
  | 50 => ⟨S32x2x8x64x128, .f32⟩
  | 51 => ⟨S32x2x8x64x128, .f32⟩
  | 52 => ⟨S32x2x8x64x64, .f32⟩
  | 53 => ⟨S32x2x8, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x2x8x128x128, .f32⟩
  | 65 => ⟨S2x8x128x128, .f32⟩
  | 66 => ⟨S_, .i32⟩
  | 67 => ⟨S_, .i32⟩
  | 68 => ⟨S_, .i32⟩
  | 69 => ⟨S_, .i32⟩
  | 70 => ⟨S1x2x8x64x128, .f32⟩
  | 71 => ⟨S2x8x64x128, .f32⟩
  | 72 => ⟨S_, .i32⟩
  | 73 => ⟨S_, .i32⟩
  | 74 => ⟨S_, .i32⟩
  | 75 => ⟨S_, .i32⟩
  | 76 => ⟨S1x2x8x64x128, .f32⟩
  | 77 => ⟨S2x8x64x128, .f32⟩
  | 78 => ⟨S_, .i32⟩
  | 79 => ⟨S_, .i32⟩
  | 80 => ⟨S_, .i32⟩
  | 81 => ⟨S_, .i32⟩
  | 82 => ⟨S1x2x8x64x128, .f32⟩
  | 83 => ⟨S2x8x64x128, .f32⟩
  | 84 => ⟨S_, .i32⟩
  | 85 => ⟨S_, .i32⟩
  | 86 => ⟨S_, .i32⟩
  | 87 => ⟨S_, .i32⟩
  | 88 => ⟨S1x2x8x64x64, .f32⟩
  | 89 => ⟨S2x8x64x64, .f32⟩
  | 90 => ⟨S_, .i32⟩
  | 91 => ⟨S_, .i32⟩
  | 92 => ⟨S_, .i32⟩
  | 93 => ⟨S_, .i32⟩
  | 94 => ⟨S1x2x8x64x128, .f32⟩
  | 95 => ⟨S2x8x64x128, .f32⟩
  | 96 => ⟨S_, .i32⟩
  | 97 => ⟨S_, .i32⟩
  | 98 => ⟨S1x2x8, .f32⟩
  | 99 => ⟨S2x8, .f32⟩
  | 100 => ⟨S_, .i32⟩
  | 101 => ⟨S_, .i32⟩
  | 102 => ⟨S_, .i32⟩
  | 103 => ⟨S_, .i32⟩
  | 104 => ⟨S1x2x8x64x128, .f32⟩
  | 105 => ⟨S2x8x64x128, .f32⟩
  | 106 => ⟨S2x8x64x128, .f32⟩
  | 107 => ⟨S2x8x64x128, .f32⟩
  | 108 => ⟨S2x8x64x128, .f32⟩
  | 109 => ⟨S2x8x64x128, .f32⟩
  | 110 => ⟨S2x8x64x128, .f32⟩
  | 111 => ⟨S2x8x1x1, .f32⟩
  | 112 => ⟨S2x8x128x128, .f32⟩
  | 113 => ⟨S2x8x128x128, .f32⟩
  | 114 => ⟨S2x8x128x128, .f32⟩
  | 115 => ⟨S2x8x128x128, .f32⟩
  | 116 => ⟨S2x8x128x64, .f32⟩
  | 117 => ⟨S2x8x64x128, .f32⟩
  | 118 => ⟨S2x8x128x64, .f32⟩
  | 119 => ⟨S2x8x64x128, .f32⟩
  | 120 => ⟨S2x8x128x128, .f32⟩
  | 121 => ⟨S_, .f32⟩
  | 122 => ⟨S2x8, .f32⟩
  | 123 => ⟨S2x8x1x1, .f32⟩
  | 124 => ⟨S2x8x128x128, .f32⟩
  | 125 => ⟨S2x8x128x128, .f32⟩
  | 126 => ⟨S_, .f32⟩
  | 127 => ⟨S2x8, .f32⟩
  | _ => ⟨S2x8x2048x128, .f32⟩

abbrev hbmTy0_1 (i : Nat) : BufTy := match i % 128 with
  | 0 => ⟨S2x8x128x64, .f32⟩
  | 1 => ⟨S2x8x64x128, .f32⟩
  | 2 => ⟨S2x8x64x128, .f32⟩
  | 3 => ⟨S2x8x64x64, .f32⟩
  | 4 => ⟨S2x8x128x128, .f32⟩
  | 5 => ⟨S2x8x128x128, .f32⟩
  | 6 => ⟨S2x8x128x128, .f32⟩
  | 7 => ⟨S2x8x64x128, .f32⟩
  | 8 => ⟨S2x8x64x128, .f32⟩
  | 9 => ⟨S2x8x128x128, .f32⟩
  | 10 => ⟨S2x8x128x128, .f32⟩
  | 11 => ⟨S2x8x128x128, .f32⟩
  | 12 => ⟨S2x8x64x128, .f32⟩
  | 13 => ⟨S1x2x8x64x128, .f32⟩
  | 14 => ⟨S_, .i32⟩
  | 15 => ⟨S_, .i32⟩
  | 16 => ⟨S_, .i32⟩
  | 17 => ⟨S_, .i32⟩
  | 18 => ⟨S32x2x8x64x128, .f32⟩
  | 19 => ⟨S1x2x8x64x128, .f32⟩
  | 20 => ⟨S_, .i32⟩
  | 21 => ⟨S_, .i32⟩
  | 22 => ⟨S_, .i32⟩
  | 23 => ⟨S_, .i32⟩
  | 24 => ⟨S32x2x8x64x128, .f32⟩
  | 25 => ⟨S1x2x8x64x128, .f32⟩
  | 26 => ⟨S_, .i32⟩
  | 27 => ⟨S_, .i32⟩
  | 28 => ⟨S_, .i32⟩
  | 29 => ⟨S_, .i32⟩
  | 30 => ⟨S32x2x8x64x128, .f32⟩
  | 31 => ⟨S1x2x8x64x128, .f32⟩
  | 32 => ⟨S_, .i32⟩
  | 33 => ⟨S_, .i32⟩
  | 34 => ⟨S_, .i32⟩
  | 35 => ⟨S_, .i32⟩
  | 36 => ⟨S32x2x8x64x128, .f32⟩
  | 37 => ⟨S1x2x8x64x64, .f32⟩
  | 38 => ⟨S_, .i32⟩
  | 39 => ⟨S_, .i32⟩
  | 40 => ⟨S_, .i32⟩
  | 41 => ⟨S_, .i32⟩
  | 42 => ⟨S32x2x8x64x64, .f32⟩
  | 43 => ⟨S1x2x8, .f32⟩
  | 44 => ⟨S_, .i32⟩
  | 45 => ⟨S_, .i32⟩
  | 46 => ⟨S32x2x8, .f32⟩
  | 47 => ⟨S_, .i32⟩
  | 48 => ⟨S_, .i32⟩
  | 49 => ⟨S2x8x32, .f32⟩
  | 50 => ⟨S2x8x32x1x1, .f32⟩
  | 51 => ⟨S2x8x32x8x128, .f32⟩
  | 52 => ⟨S2x8x256x128, .f32⟩
  | 53 => ⟨S2x8x32x64x128, .f32⟩
  | 54 => ⟨S2x8x2048x128, .f32⟩
  | 55 => ⟨S2x8x32x64x128, .f32⟩
  | 56 => ⟨S2x8x2048x128, .f32⟩
  | 57 => ⟨S2x8x32x64x128, .f32⟩
  | 58 => ⟨S2x8x2048x128, .f32⟩
  | 59 => ⟨S2x8x32x64x128, .f32⟩
  | 60 => ⟨S2x8x2048x128, .f32⟩
  | 61 => ⟨S2x8x32x64x64, .f32⟩
  | 62 => ⟨S2x8x2048x64, .f32⟩
  | _ => ⟨S2x8x2048x128, .f32⟩

abbrev hbmTy (i : Nat) : BufTy := match i / 128 with
  | 0 => hbmTy0_0 i
  | 1 => hbmTy0_1 i
  | _ => ⟨S2x8x2048x128, .f32⟩

abbrev bufTy : (tb : Table) → Fin (tcTables nBuf tb) → BufTy
  | .hbm, ⟨i, _⟩ => hbmTy i
  | _, _ => ⟨S2x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_c : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev main_v22_4 : Ref sig .tc := ⟨.hbm, 42, rfl⟩
abbrev main_v22_5 : Ref sig .tc := ⟨.hbm, 43, rfl⟩
abbrev main_v22_6 : Ref sig .tc := ⟨.hbm, 44, rfl⟩
abbrev main_v22_7 : Ref sig .tc := ⟨.hbm, 45, rfl⟩
abbrev main_v22_8 : Ref sig .tc := ⟨.hbm, 46, rfl⟩
abbrev main_v22_9 : Ref sig .tc := ⟨.hbm, 47, rfl⟩
abbrev main_v22_10 : Ref sig .tc := ⟨.hbm, 48, rfl⟩
abbrev main_v22_11 : Ref sig .tc := ⟨.hbm, 49, rfl⟩
abbrev main_v22_12 : Ref sig .tc := ⟨.hbm, 50, rfl⟩
abbrev main_v22_13 : Ref sig .tc := ⟨.hbm, 51, rfl⟩
abbrev main_v22_14 : Ref sig .tc := ⟨.hbm, 52, rfl⟩
abbrev main_v22_15 : Ref sig .tc := ⟨.hbm, 53, rfl⟩
abbrev main_while0c_c_21 : Ref sig .tc := ⟨.hbm, 54, rfl⟩
abbrev main_while0c_v37 : Ref sig .tc := ⟨.hbm, 55, rfl⟩
abbrev main_while0b_c_21 : Ref sig .tc := ⟨.hbm, 56, rfl⟩
abbrev main_while0b_v37 : Ref sig .tc := ⟨.hbm, 57, rfl⟩
abbrev main_while0b_c_22 : Ref sig .tc := ⟨.hbm, 58, rfl⟩
abbrev main_while0b_v38 : Ref sig .tc := ⟨.hbm, 59, rfl⟩
abbrev main_while0b_call0_c : Ref sig .tc := ⟨.hbm, 60, rfl⟩
abbrev main_while0b_call0_c_0 : Ref sig .tc := ⟨.hbm, 61, rfl⟩
abbrev main_while0b_call0_c_1 : Ref sig .tc := ⟨.hbm, 62, rfl⟩
abbrev main_while0b_call0_c_2 : Ref sig .tc := ⟨.hbm, 63, rfl⟩
abbrev main_while0b_call0_v0 : Ref sig .tc := ⟨.hbm, 64, rfl⟩
abbrev main_while0b_v39 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_c_1 : Ref sig .tc := ⟨.hbm, 68, rfl⟩
abbrev main_while0b_call1_c_2 : Ref sig .tc := ⟨.hbm, 69, rfl⟩
abbrev main_while0b_call1_v0 : Ref sig .tc := ⟨.hbm, 70, rfl⟩
abbrev main_while0b_v40 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_c_2 : Ref sig .tc := ⟨.hbm, 75, rfl⟩
abbrev main_while0b_call2_v0 : Ref sig .tc := ⟨.hbm, 76, rfl⟩
abbrev main_while0b_v41 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v42 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v43 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_c_2 : Ref sig .tc := ⟨.hbm, 93, rfl⟩
abbrev main_while0b_call5_v0 : Ref sig .tc := ⟨.hbm, 94, rfl⟩
abbrev main_while0b_v44 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_v0 : Ref sig .tc := ⟨.hbm, 98, rfl⟩
abbrev main_while0b_v45 : Ref sig .tc := ⟨.hbm, 99, rfl⟩
abbrev main_while0b_call7_c : Ref sig .tc := ⟨.hbm, 100, rfl⟩
abbrev main_while0b_call7_c_0 : Ref sig .tc := ⟨.hbm, 101, rfl⟩
abbrev main_while0b_call7_c_1 : Ref sig .tc := ⟨.hbm, 102, rfl⟩
abbrev main_while0b_call7_c_2 : Ref sig .tc := ⟨.hbm, 103, rfl⟩
abbrev main_while0b_call7_v0 : Ref sig .tc := ⟨.hbm, 104, rfl⟩
abbrev main_while0b_v46 : Ref sig .tc := ⟨.hbm, 105, rfl⟩
abbrev main_while0b_v47 : Ref sig .tc := ⟨.hbm, 106, rfl⟩
abbrev main_while0b_v48 : Ref sig .tc := ⟨.hbm, 107, rfl⟩
abbrev main_while0b_v49 : Ref sig .tc := ⟨.hbm, 108, rfl⟩
abbrev main_while0b_v50 : Ref sig .tc := ⟨.hbm, 109, rfl⟩
abbrev main_while0b_v51 : Ref sig .tc := ⟨.hbm, 110, rfl⟩
abbrev main_while0b_v52 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_v57 : Ref sig .tc := ⟨.hbm, 116, rfl⟩
abbrev main_while0b_v58 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_cst_23 : Ref sig .tc := ⟨.hbm, 121, rfl⟩
abbrev main_while0b_v62 : Ref sig .tc := ⟨.hbm, 122, rfl⟩
abbrev main_while0b_v63 : Ref sig .tc := ⟨.hbm, 123, rfl⟩
abbrev main_while0b_v64 : Ref sig .tc := ⟨.hbm, 124, rfl⟩
abbrev main_while0b_v65 : Ref sig .tc := ⟨.hbm, 125, rfl⟩
abbrev main_while0b_cst_24 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_call8_v0 : Ref sig .tc := ⟨.hbm, 141, rfl⟩
abbrev main_while0b_call8_c : Ref sig .tc := ⟨.hbm, 142, rfl⟩
abbrev main_while0b_call8_c_0 : Ref sig .tc := ⟨.hbm, 143, rfl⟩
abbrev main_while0b_call8_c_1 : Ref sig .tc := ⟨.hbm, 144, rfl⟩
abbrev main_while0b_call8_c_2 : Ref sig .tc := ⟨.hbm, 145, rfl⟩
abbrev main_while0b_v80 : Ref sig .tc := ⟨.hbm, 146, rfl⟩
abbrev main_while0b_call9_v0 : Ref sig .tc := ⟨.hbm, 147, rfl⟩
abbrev main_while0b_call9_c : Ref sig .tc := ⟨.hbm, 148, rfl⟩
abbrev main_while0b_call9_c_0 : Ref sig .tc := ⟨.hbm, 149, rfl⟩
abbrev main_while0b_call9_c_1 : Ref sig .tc := ⟨.hbm, 150, rfl⟩
abbrev main_while0b_call9_c_2 : Ref sig .tc := ⟨.hbm, 151, rfl⟩
abbrev main_while0b_v81 : Ref sig .tc := ⟨.hbm, 152, rfl⟩
abbrev main_while0b_call10_v0 : Ref sig .tc := ⟨.hbm, 153, rfl⟩
abbrev main_while0b_call10_c : Ref sig .tc := ⟨.hbm, 154, rfl⟩
abbrev main_while0b_call10_c_0 : Ref sig .tc := ⟨.hbm, 155, rfl⟩
abbrev main_while0b_call10_c_1 : Ref sig .tc := ⟨.hbm, 156, rfl⟩
abbrev main_while0b_call10_c_2 : Ref sig .tc := ⟨.hbm, 157, rfl⟩
abbrev main_while0b_v82 : Ref sig .tc := ⟨.hbm, 158, rfl⟩
abbrev main_while0b_call11_v0 : Ref sig .tc := ⟨.hbm, 159, rfl⟩
abbrev main_while0b_call11_c : Ref sig .tc := ⟨.hbm, 160, rfl⟩
abbrev main_while0b_call11_c_0 : Ref sig .tc := ⟨.hbm, 161, rfl⟩
abbrev main_while0b_call11_c_1 : Ref sig .tc := ⟨.hbm, 162, rfl⟩
abbrev main_while0b_call11_c_2 : Ref sig .tc := ⟨.hbm, 163, rfl⟩
abbrev main_while0b_v83 : Ref sig .tc := ⟨.hbm, 164, rfl⟩
abbrev main_while0b_call12_v0 : Ref sig .tc := ⟨.hbm, 165, rfl⟩
abbrev main_while0b_call12_c : Ref sig .tc := ⟨.hbm, 166, rfl⟩
abbrev main_while0b_call12_c_0 : Ref sig .tc := ⟨.hbm, 167, rfl⟩
abbrev main_while0b_call12_c_1 : Ref sig .tc := ⟨.hbm, 168, rfl⟩
abbrev main_while0b_call12_c_2 : Ref sig .tc := ⟨.hbm, 169, rfl⟩
abbrev main_while0b_v84 : Ref sig .tc := ⟨.hbm, 170, rfl⟩
abbrev main_while0b_call13_v0 : Ref sig .tc := ⟨.hbm, 171, rfl⟩
abbrev main_while0b_call13_c : Ref sig .tc := ⟨.hbm, 172, rfl⟩
abbrev main_while0b_call13_c_0 : Ref sig .tc := ⟨.hbm, 173, rfl⟩
abbrev main_while0b_v85 : Ref sig .tc := ⟨.hbm, 174, rfl⟩
abbrev main_while0b_c_25 : Ref sig .tc := ⟨.hbm, 175, rfl⟩
abbrev main_while0b_v86 : Ref sig .tc := ⟨.hbm, 176, rfl⟩
abbrev main_v23 : Ref sig .tc := ⟨.hbm, 177, rfl⟩
abbrev main_v24 : Ref sig .tc := ⟨.hbm, 178, rfl⟩
abbrev main_v25 : Ref sig .tc := ⟨.hbm, 179, rfl⟩
abbrev main_v26 : Ref sig .tc := ⟨.hbm, 180, rfl⟩
abbrev main_v27 : Ref sig .tc := ⟨.hbm, 181, rfl⟩
abbrev main_v28 : Ref sig .tc := ⟨.hbm, 182, rfl⟩
abbrev main_v29 : Ref sig .tc := ⟨.hbm, 183, rfl⟩
abbrev main_v30 : Ref sig .tc := ⟨.hbm, 184, rfl⟩
abbrev main_v31 : Ref sig .tc := ⟨.hbm, 185, rfl⟩
abbrev main_v32 : Ref sig .tc := ⟨.hbm, 186, rfl⟩
abbrev main_v33 : Ref sig .tc := ⟨.hbm, 187, rfl⟩
abbrev main_v34 : Ref sig .tc := ⟨.hbm, 188, rfl⟩
abbrev main_v35 : Ref sig .tc := ⟨.hbm, 189, rfl⟩
abbrev main_v36 : Ref sig .tc := ⟨.hbm, 190, rfl⟩

abbrev nD : Nat := 1
abbrev τ : Topo := Topo.v7x

variable {F : FTy → Type} [FloatOps F]

abbrev main_while0_count : Scf.Loop 32 := ⟨0#32, 32#32, 1#32⟩
-- ==== FfnBwdW.lean ====
abbrev S2x2048x1024 : Shape := ⟨3, ![2, 2048, 1024]⟩
abbrev S2x2048x2816 : Shape := ⟨3, ![2, 2048, 2816]⟩
abbrev S1024x5632 : Shape := ⟨2, ![1024, 5632]⟩
abbrev S2816x1024 : Shape := ⟨2, ![2816, 1024]⟩
abbrev S2x2048x5632 : Shape := ⟨3, ![2, 2048, 5632]⟩
abbrev S4096x1024 : Shape := ⟨2, ![4096, 1024]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩
abbrev S2x4x704x1024 : Shape := ⟨4, ![2, 4, 704, 1024]⟩
abbrev S4x704x1024 : Shape := ⟨3, ![4, 704, 1024]⟩
abbrev S1024x1024 : Shape := ⟨2, ![1024, 1024]⟩
abbrev S2x1x1024x704 : Shape := ⟨4, ![2, 1, 1024, 704]⟩
abbrev S1x1024x704 : Shape := ⟨3, ![1, 1024, 704]⟩
abbrev S2x1x704x1024 : Shape := ⟨4, ![2, 1, 704, 1024]⟩
abbrev S1x704x1024 : Shape := ⟨3, ![1, 704, 1024]⟩
abbrev S704x1024 : Shape := ⟨2, ![704, 1024]⟩
abbrev S1x1x1024x704 : Shape := ⟨4, ![1, 1, 1024, 704]⟩
abbrev S1024x704 : Shape := ⟨2, ![1024, 704]⟩
abbrev S1x1x704x1024 : Shape := ⟨4, ![1, 1, 704, 1024]⟩

abbrev nBuf : Space → Nat
  | .hbm => 18
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S1024x5632, .f32⟩
  | .hbm, ⟨3, _⟩ => ⟨S2816x1024, .f32⟩
  | .hbm, ⟨4, _⟩ => ⟨S2x2048x5632, .f32⟩
  | .hbm, ⟨5, _⟩ => ⟨S2x2048x1024, .f32⟩
  | .hbm, ⟨6, _⟩ => ⟨S4096x1024, .f32⟩
  | .hbm, ⟨7, _⟩ => ⟨S4096x1024, .bf16⟩
  | .hbm, ⟨8, _⟩ => ⟨S4096x2x4x704, .f32⟩
  | .hbm, ⟨9, _⟩ => ⟨S2x4x4096x704, .f32⟩
  | .hbm, ⟨10, _⟩ => ⟨S2x4x4096x704, .bf16⟩
  | .hbm, ⟨11, _⟩ => ⟨S4096x4x704, .f32⟩
  | .hbm, ⟨12, _⟩ => ⟨S4x4096x704, .f32⟩
  | .hbm, ⟨13, _⟩ => ⟨S4x4096x704, .bf16⟩
  | .hbm, ⟨14, _⟩ => ⟨S4096x1024, .f32⟩
  | .hbm, ⟨15, _⟩ => ⟨S4096x1024, .bf16⟩
  | .hbm, ⟨16, _⟩ => ⟨S2x4x704x1024, .bf16⟩
  | .hbm, ⟨17, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S2x1x1024x704, .bf16⟩
  | .local _ .vmem, ⟨3, _⟩ => ⟨S2x1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x1024, .bf16⟩
  | .local _ .vmem, ⟨7, _⟩ => ⟨S1024x1024, .bf16⟩
  | .local _ .vmem, ⟨8, _⟩ => ⟨S2x1x704x1024, .bf16⟩
  | .local _ .vmem, ⟨9, _⟩ => ⟨S2x1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S704x1024, .f32⟩
  | .local _ .vmem, ⟨13, _⟩ => ⟨S704x1024, .f32⟩
  | .local _ .vmem, ⟨14, _⟩ => ⟨S704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_28 : BitVec 32 := 0#32
  let v33 : BitVec 1 := Scalar.cmpi .ne v32 c0_i32_28
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnBwdWRefIdeal.lean ====
abbrev S2x2048x1024 : Shape := ⟨3, ![2, 2048, 1024]⟩
abbrev S2x2048x2816 : Shape := ⟨3, ![2, 2048, 2816]⟩
abbrev S1024x5632 : Shape := ⟨2, ![1024, 5632]⟩
abbrev S2816x1024 : Shape := ⟨2, ![2816, 1024]⟩
abbrev S2x2048x5632 : Shape := ⟨3, ![2, 2048, 5632]⟩
abbrev S5632x1024 : Shape := ⟨2, ![5632, 1024]⟩
abbrev S1024x2816 : Shape := ⟨2, ![1024, 2816]⟩
abbrev S2x4x704x1024 : Shape := ⟨4, ![2, 4, 704, 1024]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x2816, .f32⟩
  | .hbm, ⟨2, _⟩ => ⟨S1024x5632, .f32⟩
  | .hbm, ⟨3, _⟩ => ⟨S2816x1024, .f32⟩
  | .hbm, ⟨4, _⟩ => ⟨S2x2048x5632, .f32⟩
  | .hbm, ⟨5, _⟩ => ⟨S2x2048x1024, .f32⟩
  | .hbm, ⟨6, _⟩ => ⟨S2x2048x5632, .f32⟩
  | .hbm, ⟨7, _⟩ => ⟨S5632x1024, .f32⟩
  | .hbm, ⟨8, _⟩ => ⟨S1024x5632, .f32⟩
  | .hbm, ⟨9, _⟩ => ⟨S2x2048x1024, .f32⟩
  | .hbm, ⟨10, _⟩ => ⟨S1024x2816, .f32⟩
  | .hbm, ⟨11, _⟩ => ⟨S2816x1024, .f32⟩
  | .hbm, ⟨12, _⟩ => ⟨S5632x1024, .f32⟩
  | .hbm, ⟨13, _⟩ => ⟨S2x4x704x1024, .f32⟩
  | .hbm, ⟨14, _⟩ => ⟨S2x4x704x1024, .bf16⟩
  | .hbm, ⟨15, _⟩ => ⟨S4x704x1024, .f32⟩
  | .hbm, ⟨16, _⟩ => ⟨S4x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== FfnFwd.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S1x1024 : Shape := ⟨2, ![1, 1024]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S2x4x4096x704 : Shape := ⟨4, ![2, 4, 4096, 704]⟩
abbrev S4x4096x704 : Shape := ⟨3, ![4, 4096, 704]⟩
abbrev S512x1024 : Shape := ⟨2, ![512, 1024]⟩
abbrev S1x3x1024 : Shape := ⟨3, ![1, 3, 1024]⟩
abbrev S2x1x704x1024 : Shape := ⟨4, ![2, 1, 704, 1024]⟩
abbrev S1x704x1024 : Shape := ⟨3, ![1, 704, 1024]⟩
abbrev S2x1x512x704 : Shape := ⟨4, ![2, 1, 512, 704]⟩
abbrev S1x512x704 : Shape := ⟨3, ![1, 512, 704]⟩
abbrev S3x1024 : Shape := ⟨2, ![3, 1024]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 16
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S5632x1024, .f32⟩
  | .hbm, ⟨8, _⟩ => ⟨S2x4x704x1024, .f32⟩
  | .hbm, ⟨9, _⟩ => ⟨S2x4x704x1024, .bf16⟩
  | .hbm, ⟨10, _⟩ => ⟨S4x704x1024, .f32⟩
  | .hbm, ⟨11, _⟩ => ⟨S4x704x1024, .bf16⟩
  | .hbm, ⟨12, _⟩ => ⟨S4096x1024, .f32⟩
  | .hbm, ⟨13, _⟩ => ⟨S2x4x4096x704, .bf16⟩
  | .hbm, ⟨14, _⟩ => ⟨S4x4096x704, .bf16⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S2x1x704x1024, .bf16⟩
  | .local _ .vmem, ⟨6, _⟩ => ⟨S2x1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S2x1x512x704, .bf16⟩
  | .local _ .vmem, ⟨12, _⟩ => ⟨S2x1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_29 : BitVec 32 := 0#32
  let v35 : BitVec 1 := Scalar.cmpi .ne v34 c0_i32_29
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S4096x2x4x704 : Shape := ⟨4, ![4096, 2, 4, 704]⟩
abbrev S2x4x4096x704 : Shape := ⟨4, ![2, 4, 4096, 704]⟩
abbrev S4096x4x704 : Shape := ⟨3, ![4096, 4, 704]⟩
abbrev S4x4096x704 : Shape := ⟨3, ![4, 4096, 704]⟩

abbrev nBuf : Space → Nat
  | .hbm => 69
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x5632, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x1024, .f32⟩
  | .hbm, ⟨48, _⟩ => ⟨S2x1x1024, .f32⟩
  | .hbm, ⟨49, _⟩ => ⟨S2x1024, .f32⟩
  | .hbm, ⟨50, _⟩ => ⟨S2x1x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S4096x1024, .f32⟩
  | .hbm, ⟨61, _⟩ => ⟨S4096x2x4x704, .f32⟩
  | .hbm, ⟨62, _⟩ => ⟨S2x4x4096x704, .f32⟩
  | .hbm, ⟨63, _⟩ => ⟨S2x4x4096x704, .bf16⟩
  | .hbm, ⟨64, _⟩ => ⟨S4096x4x704, .f32⟩
  | .hbm, ⟨65, _⟩ => ⟨S4x4096x704, .f32⟩
  | .hbm, ⟨66, _⟩ => ⟨S4x4096x704, .bf16⟩
  | .hbm, ⟨67, _⟩ => ⟨S4096x1024, .f32⟩
  | .hbm, ⟨68, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== FfnBwdA.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S1x1024 : Shape := ⟨2, ![1, 1024]⟩
abbrev S4096x2x4x704 : Shape := ⟨4, ![4096, 2, 4, 704]⟩
abbrev S2x4x4096x704 : Shape := ⟨4, ![2, 4, 4096, 704]⟩
abbrev S5632x1024 : Shape := ⟨2, ![5632, 1024]⟩
abbrev S2x4x704x1024 : Shape := ⟨4, ![2, 4, 704, 1024]⟩
abbrev S4x704x1024 : Shape := ⟨3, ![4, 704, 1024]⟩
abbrev S512x1024 : Shape := ⟨2, ![512, 1024]⟩
abbrev S1x3x1024 : Shape := ⟨3, ![1, 3, 1024]⟩
abbrev S2x1x512x704 : Shape := ⟨4, ![2, 1, 512, 704]⟩
abbrev S2x1x704x1024 : Shape := ⟨4, ![2, 1, 704, 1024]⟩
abbrev S1x704x1024 : Shape := ⟨3, ![1, 704, 1024]⟩
abbrev S3x1024 : Shape := ⟨2, ![3, 1024]⟩
abbrev S704x1024 : Shape := ⟨2, ![704, 1024]⟩
abbrev S512x704 : Shape := ⟨2, ![512, 704]⟩
abbrev S1x1x512x704 : Shape := ⟨4, ![1, 1, 512, 704]⟩
abbrev S1x1x704x1024 : Shape := ⟨4, ![1, 1, 704, 1024]⟩
abbrev S512 : Shape := ⟨1, ![512]⟩
abbrev S512x1 : Shape := ⟨2, ![512, 1]⟩

abbrev nBuf : Space → Nat
  | .hbm => 68
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x2048x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1024, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x5632, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .bf16⟩
  | .hbm, ⟨54, _⟩ => ⟨S4096x2x4x704, .f32⟩
  | .hbm, ⟨55, _⟩ => ⟨S2x4x4096x704, .f32⟩
  | .hbm, ⟨56, _⟩ => ⟨S2x4x4096x704, .bf16⟩
  | .hbm, ⟨57, _⟩ => ⟨S5632x1024, .f32⟩
  | .hbm, ⟨58, _⟩ => ⟨S2x4x704x1024, .f32⟩
  | .hbm, ⟨59, _⟩ => ⟨S2x4x704x1024, .bf16⟩
  | .hbm, ⟨60, _⟩ => ⟨S4x704x1024, .f32⟩
  | .hbm, ⟨61, _⟩ => ⟨S4x704x1024, .bf16⟩
  | .hbm, ⟨62, _⟩ => ⟨S4096x1024, .f32⟩
  | .hbm, ⟨63, _⟩ => ⟨S2x4x4096x704, .bf16⟩
  | .hbm, ⟨64, _⟩ => ⟨S4096x1024, .bf16⟩
  | .hbm, ⟨65, _⟩ => ⟨S4096x1024, .bf16⟩
  | .hbm, ⟨66, _⟩ => ⟨S2x3x1024, .f32⟩
  | .hbm, ⟨67, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S2x1x512x704, .bf16⟩
  | .local _ .vmem, ⟨10, _⟩ => ⟨S2x1x512x704, .bf16⟩
  | .local _ .vmem, ⟨11, _⟩ => ⟨S2x1x704x1024, .bf16⟩
  | .local _ .vmem, ⟨12, _⟩ => ⟨S2x1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S512x1024, .f32⟩
  | .local _ .vmem, ⟨16, _⟩ => ⟨S512x1024, .f32⟩
  | .local _ .vmem, ⟨17, _⟩ => ⟨S2x1x512x704, .bf16⟩
  | .local _ .vmem, ⟨18, _⟩ => ⟨S2x1x512x704, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1x3x1024, .f32⟩
  | .local _ .vmem, ⟨24, _⟩ => ⟨S1x3x1024, .f32⟩
  | .local _ .vmem, ⟨25, _⟩ => ⟨S1x1024, .f32⟩
  | .local _ .vmem, ⟨26, _⟩ => ⟨S512x1024, .bf16⟩
  | .local _ .vmem, ⟨27, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v44_2 : Ref sig .tc := ⟨.hbm, 64, rfl⟩
abbrev main_v44_3 : Ref sig .tc := ⟨.hbm, 65, rfl⟩
abbrev main_v44_4 : Ref sig .tc := ⟨.hbm, 66, rfl⟩
abbrev main_v44_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_40 : BitVec 32 := 0#32
  let v47 : BitVec 1 := Scalar.cmpi .ne v46 c0_i32_40
  v47

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c4_i32 : BitVec 32 := 4#32
  let c0_i32_70 : BitVec 32 := 0#32
  let v113 : BitVec 1 := Scalar.cmpi .eq c4_i32 c0_i32_70
  let c1_i32 : BitVec 32 := 1#32
  let v114 : BitVec 32 := Scalar.select v113 c1_i32 c4_i32
  let v115 : BitVec 32 := Scalar.remsi arg0 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c0_i32_74 : BitVec 32 := 0#32
  let v123 : BitVec 1 := Scalar.cmpi .eq v122 c0_i32_74
  let v124 : BitVec 32 := Scalar.extui v123
  let c0_i32_76 : BitVec 32 := 0#32
  let v125 : BitVec 1 := Scalar.cmpi .ne v124 c0_i32_76
  v125

def k0_cond4 (i : grid0.Coords) : BitVec 1 :=
  let arg0 : BitVec 32 := BitVec.ofNat 32 (i 0).val
  let c0_i32_106 : BitVec 32 := 0#32
  let v150 : BitVec 1 := Scalar.cmpi .eq arg0 c0_i32_106
  let v151 : BitVec 32 := Scalar.extui v150
  let c0_i32_107 : BitVec 32 := 0#32
  let v152 : BitVec 1 := Scalar.cmpi .ne v151 c0_i32_107
  v152

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x3x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== FfnBwdARefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S2x2048x2816 : Shape := ⟨3, ![2, 2048, 2816]⟩
abbrev S4096x1024 : Shape := ⟨2, ![4096, 1024]⟩
abbrev S4096x2x4x704 : Shape := ⟨4, ![4096, 2, 4, 704]⟩
abbrev S2x4x4096x704 : Shape := ⟨4, ![2, 4, 4096, 704]⟩
abbrev S1x1024 : Shape := ⟨2, ![1, 1024]⟩

abbrev nBuf : Space → Nat
  | .hbm => 149
  | .vmem => 0
  | .smem => 0
  | _ => 0

abbrev hbmTy0_0 (i : Nat) : BufTy := match i % 128 with
  | 0 => ⟨S2x2048x1024, .f32⟩
  | 1 => ⟨S2x3x1024, .f32⟩
  | 2 => ⟨S1024, .f32⟩
  | 3 => ⟨S1024x5632, .f32⟩
  | 4 => ⟨S2816x1024, .f32⟩
  | 5 => ⟨S2x2048x1024, .f32⟩
  | 6 => ⟨S2x1x1024, .f32⟩
  | 7 => ⟨S2x1024, .f32⟩
  | 8 => ⟨S2x1x1024, .f32⟩
  | 9 => ⟨S2x1x1024, .f32⟩
  | 10 => ⟨S2x1024, .f32⟩
  | 11 => ⟨S2x1x1024, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x1, .f32⟩
  | 24 => ⟨S_, .f32⟩
  | 25 => ⟨S2x2048x1, .f32⟩
  | 26 => ⟨S2x2048x1, .f32⟩
  | 27 => ⟨S2x2048x1024, .f32⟩
  | 28 => ⟨S2x2048x1024, .f32⟩
  | 29 => ⟨S1x1x1024, .f32⟩
  | 30 => ⟨S2x2048x1024, .f32⟩
  | 31 => ⟨S2x2048x1024, .f32⟩
  | 32 => ⟨S_, .f32⟩
  | 33 => ⟨S2x1x1024, .f32⟩
  | 34 => ⟨S2x1x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S2x2048x5632, .f32⟩
  | 40 => ⟨S2x2048x2816, .f32⟩
  | 41 => ⟨S2x2048x2816, .f32⟩
  | 42 => ⟨S2x2048x2816, .f32⟩
  | 43 => ⟨S2x2048x2816, .f32⟩
  | 44 => ⟨S_, .f32⟩
  | 45 => ⟨S2x2048x2816, .f32⟩
  | 46 => ⟨S2x2048x2816, .f32⟩
  | 47 => ⟨S_, .f32⟩
  | 48 => ⟨S2x2048x2816, .f32⟩
  | 49 => ⟨S2x2048x2816, .f32⟩
  | 50 => ⟨S_, .f32⟩
  | 51 => ⟨S2x2048x2816, .f32⟩
  | 52 => ⟨S2x2048x2816, .f32⟩
  | 53 => ⟨S2x2048x2816, .f32⟩
  | 54 => ⟨S2x2048x2816, .f32⟩
  | 55 => ⟨S2x2048x2816, .f32⟩
  | 56 => ⟨S2x2048x1024, .f32⟩
  | 57 => ⟨S2x1x1024, .f32⟩
  | 58 => ⟨S2x1024, .f32⟩
  | 59 => ⟨S2x1x1024, .f32⟩
  | 60 => ⟨S_, .f32⟩
  | 61 => ⟨S2x1x1024, .f32⟩
  | 62 => ⟨S2x1x1024, .f32⟩
  | 63 => ⟨S_, .f32⟩
  | 64 => ⟨S2x1x1024, .f32⟩
  | 65 => ⟨S2x1x1024, .f32⟩
  | 66 => ⟨S2x2048x1024, .f32⟩
  | 67 => ⟨S2x2048x1024, .f32⟩
  | 68 => ⟨S2x2048x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S_, .f32⟩
  | 74 => ⟨S2x1024, .f32⟩
  | 75 => ⟨S2x1x1024, .f32⟩
  | 76 => ⟨S_, .f32⟩
  | 77 => ⟨S2x1x1024, .f32⟩
  | 78 => ⟨S2x1x1024, .f32⟩
  | 79 => ⟨S_, .f32⟩
  | 80 => ⟨S2x1024, .f32⟩
  | 81 => ⟨S2x1x1024, .f32⟩
  | 82 => ⟨S_, .f32⟩
  | 83 => ⟨S2x3x1024, .f32⟩
  | 84 => ⟨S2x2048x2816, .f32⟩
  | 85 => ⟨S2x2048x2816, .f32⟩
  | 86 => ⟨S2x2048x2816, .f32⟩
  | 87 => ⟨S2x2048x2816, .f32⟩
  | 88 => ⟨S2x2048x2816, .f32⟩
  | 89 => ⟨S2x2048x2816, .f32⟩
  | 90 => ⟨S2x2048x2816, .f32⟩
  | 91 => ⟨S2x2048x5632, .f32⟩
  | 92 => ⟨S2x2048x1024, .f32⟩
  | 93 => ⟨S_, .f32⟩
  | 94 => ⟨S2x1024, .f32⟩
  | 95 => ⟨S2x1x1024, .f32⟩
  | 96 => ⟨S2x2048x1024, .f32⟩
  | 97 => ⟨S_, .f32⟩
  | 98 => ⟨S2x1024, .f32⟩
  | 99 => ⟨S2x1x1024, .f32⟩
  | 100 => ⟨S2x2048x1024, .f32⟩
  | 101 => ⟨S2x2048x1024, .f32⟩
  | 102 => ⟨S2x2048x1024, .f32⟩
  | 103 => ⟨S_, .f32⟩
  | 104 => ⟨S1024, .f32⟩
  | 105 => ⟨S1x1x1024, .f32⟩
  | 106 => ⟨S2x2048x1024, .f32⟩
  | 107 => ⟨S2x2048x1024, .f32⟩
  | 108 => ⟨S_, .f32⟩
  | 109 => ⟨S1024, .f32⟩
  | 110 => ⟨S2x2048x1024, .f32⟩
  | 111 => ⟨S_, .f32⟩
  | 112 => ⟨S2x2048, .f32⟩
  | 113 => ⟨S2x2048x1, .f32⟩
  | 114 => ⟨S2x2048x1024, .f32⟩
  | 115 => ⟨S2x2048x1024, .f32⟩
  | 116 => ⟨S2x2048x1, .f32⟩
  | 117 => ⟨S_, .f32⟩
  | 118 => ⟨S2x2048x1, .f32⟩
  | 119 => ⟨S2x2048x1, .f32⟩
  | 120 => ⟨S_, .f32⟩
  | 121 => ⟨S2x2048, .f32⟩
  | 122 => ⟨S2x2048x1024, .f32⟩
  | 123 => ⟨S2x2048x1024, .f32⟩
  | 124 => ⟨S2x2048x1024, .f32⟩
  | 125 => ⟨S2x2048x1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S2x1024, .f32⟩
  | 1 => ⟨S2x1x1024, .f32⟩
  | 2 => ⟨S_, .f32⟩
  | 3 => ⟨S2x3x1024, .f32⟩
  | 4 => ⟨S_, .f32⟩
  | 5 => ⟨S2x1024, .f32⟩
  | 6 => ⟨S2x1x1024, .f32⟩
  | 7 => ⟨S_, .f32⟩
  | 8 => ⟨S2x3x1024, .f32⟩
  | 9 => ⟨S2x3x1024, .f32⟩
  | 10 => ⟨S2x2048x1024, .f32⟩
  | 11 => ⟨S4096x1024, .f32⟩
  | 12 => ⟨S4096x2x4x704, .f32⟩
  | 13 => ⟨S2x4x4096x704, .f32⟩
  | 14 => ⟨S2x4x4096x704, .bf16⟩
  | 15 => ⟨S4096x1024, .f32⟩
  | 16 => ⟨S4096x1024, .bf16⟩
  | 17 => ⟨S4096x1024, .f32⟩
  | 18 => ⟨S4096x1024, .bf16⟩
  | 19 => ⟨S2x3x1024, .f32⟩
  | 20 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== MixBwd.lean ====
abbrev S2x2048x1024 : Shape := ⟨3, ![2, 2048, 1024]⟩
abbrev S2x3x1024 : Shape := ⟨3, ![2, 3, 1024]⟩
abbrev S1024x1024 : Shape := ⟨2, ![1024, 1024]⟩
abbrev S1024 : Shape := ⟨1, ![1024]⟩
abbrev S1x1x1024 : Shape := ⟨3, ![1, 1, 1024]⟩
abbrev S4096x1024 : Shape := ⟨2, ![4096, 1024]⟩
abbrev S2x1x1024 : Shape := ⟨3, ![2, 1, 1024]⟩
abbrev S1x1024 : Shape := ⟨2, ![1, 1024]⟩
abbrev S512x1024 : Shape := ⟨2, ![512, 1024]⟩
abbrev S1x3x1024 : Shape := ⟨3, ![1, 3, 1024]⟩
abbrev S3x1024 : Shape := ⟨2, ![3, 1024]⟩

abbrev nBuf : Space → Nat
  | .hbm => 17
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S1x1x1024, .f32⟩
  | .hbm, ⟨7, _⟩ => ⟨S2x2048x1024, .f32⟩
  | .hbm, ⟨8, _⟩ => ⟨S2x2048x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S1024x1024, .bf16⟩
  | .hbm, ⟨13, _⟩ => ⟨S4096x1024, .f32⟩
  | .hbm, ⟨14, _⟩ => ⟨S4096x1024, .bf16⟩
  | .hbm, ⟨15, _⟩ => ⟨S2x1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x3x1024, .f32⟩
  | .local _ .vmem, ⟨5, _⟩ => ⟨S1x3x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixBwdRefIdeal.lean ====
abbrev S2x2048x1024 : Shape := ⟨3, ![2, 2048, 1024]⟩
abbrev S2x3x1024 : Shape := ⟨3, ![2, 3, 1024]⟩
abbrev S1024x1024 : Shape := ⟨2, ![1024, 1024]⟩
abbrev S1024 : Shape := ⟨1, ![1024]⟩
abbrev S1x1x1024 : Shape := ⟨3, ![1, 1, 1024]⟩
abbrev S2x1x1024 : Shape := ⟨3, ![2, 1, 1024]⟩
abbrev S2x1024 : Shape := ⟨2, ![2, 1024]⟩
abbrev S_ : Shape := ⟨0, ![]⟩
abbrev S4096x1024 : Shape := ⟨2, ![4096, 1024]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024x1024, .f32⟩
  | .hbm, ⟨3, _⟩ => ⟨S1024, .f32⟩
  | .hbm, ⟨4, _⟩ => ⟨S2x2048x1024, .f32⟩
  | .hbm, ⟨5, _⟩ => ⟨S2x2048x1024, .f32⟩
  | .hbm, ⟨6, _⟩ => ⟨S1x1x1024, .f32⟩
  | .hbm, ⟨7, _⟩ => ⟨S2x2048x1024, .f32⟩
  | .hbm, ⟨8, _⟩ => ⟨S2x2048x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S_, .f32⟩
  | .hbm, ⟨21, _⟩ => ⟨S2x1024, .f32⟩
  | .hbm, ⟨22, _⟩ => ⟨S2x1x1024, .f32⟩
  | .hbm, ⟨23, _⟩ => ⟨S_, .f32⟩
  | .hbm, ⟨24, _⟩ => ⟨S2x1024, .f32⟩
  | .hbm, ⟨25, _⟩ => ⟨S2x1x1024, .f32⟩
  | .hbm, ⟨26, _⟩ => ⟨S_, .f32⟩
  | .hbm, ⟨27, _⟩ => ⟨S2x3x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S_, .f32⟩
  | .hbm, ⟨32, _⟩ => ⟨S1024, .f32⟩
  | .hbm, ⟨33, _⟩ => ⟨S2x2048x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S2x1x1024, .f32⟩
  | .hbm, ⟨38, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== ActBwd.lean ====
abbrev S2x2048x1024 : Shape := ⟨3, ![2, 2048, 1024]⟩
abbrev S1024 : Shape := ⟨1, ![1024]⟩
abbrev S4096x1024 : Shape := ⟨2, ![4096, 1024]⟩
abbrev S1x1024 : Shape := ⟨2, ![1, 1024]⟩
abbrev S2x1024 : Shape := ⟨2, ![2, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S2x2048x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S2x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ActBwdRefIdeal.lean ====
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩
abbrev S2x1024 : Shape := ⟨2, ![2, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x2048x1024, .f32⟩
  | .hbm, ⟨39, _⟩ => ⟨S2x2048x1024, .f32⟩
  | .hbm, ⟨40, _⟩ => ⟨S_, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S_, .f32⟩
  | .hbm, ⟨56, _⟩ => ⟨S1024, .f32⟩
  | .hbm, ⟨57, _⟩ => ⟨S2x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S1024, .f32⟩
  | .hbm, ⟨65, _⟩ => ⟨S2x2048x1024, .f32⟩
  | .hbm, ⟨66, _⟩ => ⟨S_, .f32⟩
  | .hbm, ⟨67, _⟩ => ⟨S2x2048, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S2x2048x1, .f32⟩
  | .hbm, ⟨72, _⟩ => ⟨S_, .f32⟩
  | .hbm, ⟨73, _⟩ => ⟨S2x2048x1, .f32⟩
  | .hbm, ⟨74, _⟩ => ⟨S2x2048x1, .f32⟩
  | .hbm, ⟨75, _⟩ => ⟨S_, .f32⟩
  | .hbm, ⟨76, _⟩ => ⟨S2x2048, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S_, .f32⟩
  | .hbm, ⟨84, _⟩ => ⟨S2x2048, .f32⟩
  | .hbm, ⟨85, _⟩ => ⟨S2x2048x1, .f32⟩
  | .hbm, ⟨86, _⟩ => ⟨S_, .f32⟩
  | .hbm, ⟨87, _⟩ => ⟨S2x2048x1, .f32⟩
  | .hbm, ⟨88, _⟩ => ⟨S2x2048x1, .f32⟩
  | .hbm, ⟨89, _⟩ => ⟨S_, .f32⟩
  | .hbm, ⟨90, _⟩ => ⟨S2x2048, .f32⟩
  | .hbm, ⟨91, _⟩ => ⟨S2x2048x1024, .f32⟩
  | .hbm, ⟨92, _⟩ => ⟨S2x2048x1024, .f32⟩
  | .hbm, ⟨93, _⟩ => ⟨S4096x1024, .f32⟩
  | .hbm, ⟨94, _⟩ => ⟨S1x1024, .f32⟩
  | .hbm, ⟨95, _⟩ => ⟨S1x1024, .f32⟩
  | .hbm, ⟨96, _⟩ => ⟨S2x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== ProjBwd.lean ====
abbrev S2x2048x1024 : Shape := ⟨3, ![2, 2048, 1024]⟩
abbrev S2x3x1024 : Shape := ⟨3, ![2, 3, 1024]⟩
abbrev S1024 : Shape := ⟨1, ![1024]⟩
abbrev S1024x4112 : Shape := ⟨2, ![1024, 4112]⟩
abbrev S2x2048x4112 : Shape := ⟨3, ![2, 2048, 4112]⟩
abbrev S4096x4112 : Shape := ⟨2, ![4096, 4112]⟩
abbrev S4096x16 : Shape := ⟨2, ![4096, 16]⟩
abbrev S_ : Shape := ⟨0, ![]⟩
abbrev S4096x128 : Shape := ⟨2, ![4096, 128]⟩
abbrev S1x1x1024 : Shape := ⟨3, ![1, 1, 1024]⟩
abbrev S1x1024 : Shape := ⟨2, ![1, 1024]⟩
abbrev S4096x1024 : Shape := ⟨2, ![4096, 1024]⟩
abbrev S4096x3072 : Shape := ⟨2, ![4096, 3072]⟩
abbrev S4112x1024 : Shape := ⟨2, ![4112, 1024]⟩
abbrev S4224x1024 : Shape := ⟨2, ![4224, 1024]⟩
abbrev S512x1024 : Shape := ⟨2, ![512, 1024]⟩
abbrev S1x3x1024 : Shape := ⟨3, ![1, 3, 1024]⟩
abbrev S512x3072 : Shape := ⟨2, ![512, 3072]⟩
abbrev S512x128 : Shape := ⟨2, ![512, 128]⟩
abbrev S3072x1024 : Shape := ⟨2, ![3072, 1024]⟩
abbrev S1024x1024 : Shape := ⟨2, ![1024, 1024]⟩
abbrev S128x1024 : Shape := ⟨2, ![128, 1024]⟩
abbrev S3x1024 : Shape := ⟨2, ![3, 1024]⟩
abbrev S512 : Shape := ⟨1, ![512]⟩
abbrev S512x1 : Shape := ⟨2, ![512, 1]⟩

abbrev nBuf : Space → Nat
  | .hbm => 28
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x4112, .f32⟩
  | .hbm, ⟨4, _⟩ => ⟨S2x2048x4112, .f32⟩
  | .hbm, ⟨5, _⟩ => ⟨S2x2048x1024, .f32⟩
  | .hbm, ⟨6, _⟩ => ⟨S4096x4112, .f32⟩
  | .hbm, ⟨7, _⟩ => ⟨S4096x16, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S1x1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x3072, .f32⟩
  | .hbm, ⟨16, _⟩ => ⟨S4096x3072, .bf16⟩
  | .hbm, ⟨17, _⟩ => ⟨S4096x1024, .f32⟩
  | .hbm, ⟨18, _⟩ => ⟨S4096x1024, .bf16⟩
  | .hbm, ⟨19, _⟩ => ⟨S4096x128, .bf16⟩
  | .hbm, ⟨20, _⟩ => ⟨S4112x1024, .f32⟩
  | .hbm, ⟨21, _⟩ => ⟨S_, .i32⟩
  | .hbm, ⟨22, _⟩ => ⟨S_, .f32⟩
  | .hbm, ⟨23, _⟩ => ⟨S4224x1024, .f32⟩
  | .hbm, ⟨24, _⟩ => ⟨S4224x1024, .bf16⟩
  | .hbm, ⟨25, _⟩ => ⟨S4096x1024, .f32⟩
  | .hbm, ⟨26, _⟩ => ⟨S2x3x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S512x3072, .bf16⟩
  | .local _ .vmem, ⟨8, _⟩ => ⟨S512x3072, .bf16⟩
  | .local _ .vmem, ⟨9, _⟩ => ⟨S512x1024, .bf16⟩
  | .local _ .vmem, ⟨10, _⟩ => ⟨S512x1024, .bf16⟩
  | .local _ .vmem, ⟨11, _⟩ => ⟨S512x128, .bf16⟩
  | .local _ .vmem, ⟨12, _⟩ => ⟨S512x128, .bf16⟩
  | .local _ .vmem, ⟨13, _⟩ => ⟨S4224x1024, .bf16⟩
  | .local _ .vmem, ⟨14, _⟩ => ⟨S512x1024, .f32⟩
  | .local _ .vmem, ⟨15, _⟩ => ⟨S512x1024, .f32⟩
  | .local _ .vmem, ⟨16, _⟩ => ⟨S1x3x1024, .f32⟩
  | .local _ .vmem, ⟨17, _⟩ => ⟨S1x3x1024, .f32⟩
  | .local _ .vmem, ⟨18, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4224x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ProjBwdRefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x4112 : Shape := ⟨2, ![1024, 4112]⟩
abbrev S2x2048x4112 : Shape := ⟨3, ![2, 2048, 4112]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x4112, .f32⟩
  | .hbm, ⟨4, _⟩ => ⟨S2x2048x4112, .f32⟩
  | .hbm, ⟨5, _⟩ => ⟨S2x2048x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x4112, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x2048x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S_, .f32⟩
  | .hbm, ⟨76, _⟩ => ⟨S2x1024, .f32⟩
  | .hbm, ⟨77, _⟩ => ⟨S2x1x1024, .f32⟩
  | .hbm, ⟨78, _⟩ => ⟨S_, .f32⟩
  | .hbm, ⟨79, _⟩ => ⟨S2x3x1024, .f32⟩
  | .hbm, ⟨80, _⟩ => ⟨S_, .f32⟩
  | .hbm, ⟨81, _⟩ => ⟨S2x1024, .f32⟩
  | .hbm, ⟨82, _⟩ => ⟨S2x1x1024, .f32⟩
  | .hbm, ⟨83, _⟩ => ⟨S_, .f32⟩
  | .hbm, ⟨84, _⟩ => ⟨S2x3x1024, .f32⟩
  | .hbm, ⟨85, _⟩ => ⟨S2x3x1024, .f32⟩
  | .hbm, ⟨86, _⟩ => ⟨S2x2048x1024, .f32⟩
  | .hbm, ⟨87, _⟩ => ⟨S4096x1024, .f32⟩
  | .hbm, ⟨88, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== ProjBwdW.lean ====
abbrev S2x2048x1024 : Shape := ⟨3, ![2, 2048, 1024]⟩
abbrev S1024x4112 : Shape := ⟨2, ![1024, 4112]⟩
abbrev S2x2048x4112 : Shape := ⟨3, ![2, 2048, 4112]⟩
abbrev S4096x4112 : Shape := ⟨2, ![4096, 4112]⟩
abbrev S4096x3072 : Shape := ⟨2, ![4096, 3072]⟩
abbrev S4096x1024 : Shape := ⟨2, ![4096, 1024]⟩
abbrev S3072x1024 : Shape := ⟨2, ![3072, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x4112, .f32⟩
  | .hbm, ⟨2, _⟩ => ⟨S2x2048x4112, .f32⟩
  | .hbm, ⟨3, _⟩ => ⟨S4096x4112, .f32⟩
  | .hbm, ⟨4, _⟩ => ⟨S4096x3072, .f32⟩
  | .hbm, ⟨5, _⟩ => ⟨S4096x3072, .bf16⟩
  | .hbm, ⟨6, _⟩ => ⟨S4096x1024, .f32⟩
  | .hbm, ⟨7, _⟩ => ⟨S4096x1024, .bf16⟩
  | .hbm, ⟨8, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjBwdWRefIdeal.lean ====
abbrev S2x2048x1024 : Shape := ⟨3, ![2, 2048, 1024]⟩
abbrev S1024x4112 : Shape := ⟨2, ![1024, 4112]⟩
abbrev S2x2048x4112 : Shape := ⟨3, ![2, 2048, 4112]⟩
abbrev S4112x1024 : Shape := ⟨2, ![4112, 1024]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x4112, .f32⟩
  | .hbm, ⟨2, _⟩ => ⟨S2x2048x4112, .f32⟩
  | .hbm, ⟨3, _⟩ => ⟨S2x2048x4112, .f32⟩
  | .hbm, ⟨4, _⟩ => ⟨S4112x1024, .f32⟩
  | .hbm, ⟨5, _⟩ => ⟨S1024x4112, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixBwdW.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩

abbrev nBuf : Space → Nat
  | .hbm => 9
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S2x2048x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== MixBwdWRefIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S2x2048x1024, .f32⟩
  | .hbm, ⟨4, _⟩ => ⟨S2x2048x1024, .f32⟩
  | .hbm, ⟨5, _⟩ => ⟨S1x1x1024, .f32⟩
  | .hbm, ⟨6, _⟩ => ⟨S2x2048x1024, .f32⟩
  | .hbm, ⟨7, _⟩ => ⟨S2x2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MixFwd.lean ====
abbrev S2x2048x1024 : Shape := ⟨3, ![2, 2048, 1024]⟩
abbrev S2x3x1024 : Shape := ⟨3, ![2, 3, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S1x3x1024 : Shape := ⟨3, ![1, 3, 1024]⟩
abbrev S3x1024 : Shape := ⟨2, ![3, 1024]⟩

abbrev nBuf : Space → Nat
  | .hbm => 12
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x3x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1024x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x3x1024, .f32⟩
  | .local _ .vmem, ⟨5, _⟩ => ⟨S1x3x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFwdRefIdeal.lean ====
abbrev S2x2048x1024 : Shape := ⟨3, ![2, 2048, 1024]⟩
abbrev S2x3x1024 : Shape := ⟨3, ![2, 3, 1024]⟩
abbrev S1024x1024 : Shape := ⟨2, ![1024, 1024]⟩
abbrev S1024 : Shape := ⟨1, ![1024]⟩
abbrev S1x1x1024 : Shape := ⟨3, ![1, 1, 1024]⟩
abbrev S2x1x1024 : Shape := ⟨3, ![2, 1, 1024]⟩
abbrev S2x1024 : Shape := ⟨2, ![2, 1024]⟩
abbrev S_ : Shape := ⟨0, ![]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x3x1024, .f32⟩
  | .hbm, ⟨3, _⟩ => ⟨S1024x1024, .f32⟩
  | .hbm, ⟨4, _⟩ => ⟨S1024, .f32⟩
  | .hbm, ⟨5, _⟩ => ⟨S2x2048x1024, .f32⟩
  | .hbm, ⟨6, _⟩ => ⟨S1x1x1024, .f32⟩
  | .hbm, ⟨7, _⟩ => ⟨S2x2048x1024, .f32⟩
  | .hbm, ⟨8, _⟩ => ⟨S2x2048x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GluFwd.lean ====
abbrev S2x2048x1024 : Shape := ⟨3, ![2, 2048, 1024]⟩
abbrev S2x3x1024 : Shape := ⟨3, ![2, 3, 1024]⟩
abbrev S1024 : Shape := ⟨1, ![1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S4096x1024 : Shape := ⟨2, ![4096, 1024]⟩
abbrev S1x1024 : Shape := ⟨2, ![1, 1024]⟩
abbrev S1x2048 : Shape := ⟨2, ![1, 2048]⟩
abbrev S4096x2048 : Shape := ⟨2, ![4096, 2048]⟩
abbrev S512x1024 : Shape := ⟨2, ![512, 1024]⟩
abbrev S1x3x1024 : Shape := ⟨3, ![1, 3, 1024]⟩
abbrev S512x2048 : Shape := ⟨2, ![512, 2048]⟩
abbrev S3x1024 : Shape := ⟨2, ![3, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 13
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S1024x8x256, .f32⟩
  | .hbm, ⟨6, _⟩ => ⟨S8x1024x256, .f32⟩
  | .hbm, ⟨7, _⟩ => ⟨S8x1024x256, .bf16⟩
  | .hbm, ⟨8, _⟩ => ⟨S4096x1024, .f32⟩
  | .hbm, ⟨9, _⟩ => ⟨S1x1024, .f32⟩
  | .hbm, ⟨10, _⟩ => ⟨S1x2048, .f32⟩
  | .hbm, ⟨11, _⟩ => ⟨S4096x1024, .bf16⟩
  | .hbm, ⟨12, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S8x1024x256, .bf16⟩
  | .local _ .vmem, ⟨6, _⟩ => ⟨S1x2048, .f32⟩
  | .local _ .vmem, ⟨7, _⟩ => ⟨S512x1024, .bf16⟩
  | .local _ .vmem, ⟨8, _⟩ => ⟨S512x1024, .bf16⟩
  | .local _ .vmem, ⟨9, _⟩ => ⟨S512x2048, .f32⟩
  | .local _ .vmem, ⟨10, _⟩ => ⟨S512x2048, .f32⟩
  | .local _ .vmem, ⟨11, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GluFwdRefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x2048 : Shape := ⟨2, ![1024, 2048]⟩
abbrev S2048 : Shape := ⟨1, ![2048]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S2x2048x2048 : Shape := ⟨3, ![2, 2048, 2048]⟩
abbrev S1x1x2048 : Shape := ⟨3, ![1, 1, 2048]⟩
abbrev S4096x2048 : Shape := ⟨2, ![4096, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2x1x1024, .f32⟩
  | .hbm, ⟨6, _⟩ => ⟨S2x1024, .f32⟩
  | .hbm, ⟨7, _⟩ => ⟨S2x1x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S4096x1024, .f32⟩
  | .hbm, ⟨35, _⟩ => ⟨S4096x1024, .bf16⟩
  | .hbm, ⟨36, _⟩ => ⟨S2x2048x2048, .f32⟩
  | .hbm, ⟨37, _⟩ => ⟨S1x1x2048, .f32⟩
  | .hbm, ⟨38, _⟩ => ⟨S2x2048x2048, .f32⟩
  | .hbm, ⟨39, _⟩ => ⟨S2x2048x2048, .f32⟩
  | .hbm, ⟨40, _⟩ => ⟨S4096x2048, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== GluBwd.lean ====
abbrev S2x2048x1024 : Shape := ⟨3, ![2, 2048, 1024]⟩
abbrev S2x3x1024 : Shape := ⟨3, ![2, 3, 1024]⟩
abbrev S1024 : Shape := ⟨1, ![1024]⟩
abbrev S1024x2048 : Shape := ⟨2, ![1024, 2048]⟩
abbrev S2x2048x2048 : Shape := ⟨3, ![2, 2048, 2048]⟩
abbrev S1024x8x256 : Shape := ⟨3, ![1024, 8, 256]⟩
abbrev S8x1024x256 : Shape := ⟨3, ![8, 1024, 256]⟩
abbrev S1x1x1024 : Shape := ⟨3, ![1, 1, 1024]⟩
abbrev S1x1024 : Shape := ⟨2, ![1, 1024]⟩
abbrev S4096x1024 : Shape := ⟨2, ![4096, 1024]⟩
abbrev S4096x2048 : Shape := ⟨2, ![4096, 2048]⟩
abbrev S512x1024 : Shape := ⟨2, ![512, 1024]⟩
abbrev S1x3x1024 : Shape := ⟨3, ![1, 3, 1024]⟩
abbrev S512x2048 : Shape := ⟨2, ![512, 2048]⟩
abbrev S512x256 : Shape := ⟨2, ![512, 256]⟩
abbrev S1x1024x256 : Shape := ⟨3, ![1, 1024, 256]⟩
abbrev S1024x256 : Shape := ⟨2, ![1024, 256]⟩
abbrev S3x1024 : Shape := ⟨2, ![3, 1024]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x2048, .f32⟩
  | .hbm, ⟨4, _⟩ => ⟨S2x2048x2048, .f32⟩
  | .hbm, ⟨5, _⟩ => ⟨S2x2048x1024, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | .hbm, ⟨9, _⟩ => ⟨S1x1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x2048, .f32⟩
  | .hbm, ⟨14, _⟩ => ⟨S4096x2048, .bf16⟩
  | .hbm, ⟨15, _⟩ => ⟨S4096x1024, .f32⟩
  | .hbm, ⟨16, _⟩ => ⟨S2x3x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x1024, .f32⟩
  | .local _ .vmem, ⟨7, _⟩ => ⟨S512x2048, .bf16⟩
  | .local _ .vmem, ⟨8, _⟩ => ⟨S512x2048, .bf16⟩
  | .local _ .vmem, ⟨9, _⟩ => ⟨S8x1024x256, .bf16⟩
  | .local _ .vmem, ⟨10, _⟩ => ⟨S512x1024, .f32⟩
  | .local _ .vmem, ⟨11, _⟩ => ⟨S512x1024, .f32⟩
  | .local _ .vmem, ⟨12, _⟩ => ⟨S1x3x1024, .f32⟩
  | .local _ .vmem, ⟨13, _⟩ => ⟨S1x3x1024, .f32⟩
  | .local _ .vmem, ⟨14, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GluBwdRefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x2048 : Shape := ⟨2, ![1024, 2048]⟩
abbrev S2x2048x2048 : Shape := ⟨3, ![2, 2048, 2048]⟩
abbrev S2x1x1024 : Shape := ⟨3, ![2, 1, 1024]⟩
abbrev S2x1024 : Shape := ⟨2, ![2, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x2048, .f32⟩
  | .hbm, ⟨4, _⟩ => ⟨S2x2048x2048, .f32⟩
  | .hbm, ⟨5, _⟩ => ⟨S2x2048x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x2048x1024, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x2048, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x2048x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S_, .f32⟩
  | .hbm, ⟨76, _⟩ => ⟨S2x1024, .f32⟩
  | .hbm, ⟨77, _⟩ => ⟨S2x1x1024, .f32⟩
  | .hbm, ⟨78, _⟩ => ⟨S_, .f32⟩
  | .hbm, ⟨79, _⟩ => ⟨S2x3x1024, .f32⟩
  | .hbm, ⟨80, _⟩ => ⟨S_, .f32⟩
  | .hbm, ⟨81, _⟩ => ⟨S2x1024, .f32⟩
  | .hbm, ⟨82, _⟩ => ⟨S2x1x1024, .f32⟩
  | .hbm, ⟨83, _⟩ => ⟨S_, .f32⟩
  | .hbm, ⟨84, _⟩ => ⟨S2x3x1024, .f32⟩
  | .hbm, ⟨85, _⟩ => ⟨S2x3x1024, .f32⟩
  | .hbm, ⟨86, _⟩ => ⟨S2x2048x1024, .f32⟩
  | .hbm, ⟨87, _⟩ => ⟨S4096x1024, .f32⟩
  | .hbm, ⟨88, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== GluBwdW.lean ====
abbrev S2x2048x1024 : Shape := ⟨3, ![2, 2048, 1024]⟩
abbrev S1024x2048 : Shape := ⟨2, ![1024, 2048]⟩
abbrev S2x2048x2048 : Shape := ⟨3, ![2, 2048, 2048]⟩
abbrev S4096x1024 : Shape := ⟨2, ![4096, 1024]⟩
abbrev S4096x2048 : Shape := ⟨2, ![4096, 2048]⟩
abbrev S8x1024x256 : Shape := ⟨3, ![8, 1024, 256]⟩
abbrev S512x1024 : Shape := ⟨2, ![512, 1024]⟩
abbrev S512x2048 : Shape := ⟨2, ![512, 2048]⟩
abbrev S1024x512 : Shape := ⟨2, ![1024, 512]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S1024x2048, .f32⟩
  | .hbm, ⟨2, _⟩ => ⟨S2x2048x2048, .f32⟩
  | .hbm, ⟨3, _⟩ => ⟨S4096x1024, .f32⟩
  | .hbm, ⟨4, _⟩ => ⟨S4096x1024, .bf16⟩
  | .hbm, ⟨5, _⟩ => ⟨S4096x2048, .f32⟩
  | .hbm, ⟨6, _⟩ => ⟨S4096x2048, .bf16⟩
  | .hbm, ⟨7, _⟩ => ⟨S8x1024x256, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S8x1024x256, .bf16⟩
  | .local _ .vmem, ⟨5, _⟩ => ⟨S8x1024x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v78 : BitVec 1 := Scalar.cmpi .eq arg0 c7_i32
  let v79 : BitVec 32 := Scalar.extui v78
  let c0_i32_59 : BitVec 32 := 0#32
  let v80 : BitVec 1 := Scalar.cmpi .ne v79 c0_i32_59
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GluBwdWRefIdeal.lean ====
abbrev S2x2048x1024 : Shape := ⟨3, ![2, 2048, 1024]⟩
abbrev S1024x2048 : Shape := ⟨2, ![1024, 2048]⟩
abbrev S2x2048x2048 : Shape := ⟨3, ![2, 2048, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2048, .f32⟩
  | .hbm, ⟨2, _⟩ => ⟨S2x2048x2048, .f32⟩
  | .hbm, ⟨3, _⟩ => ⟨S2x2048x2048, .f32⟩
  | .hbm, ⟨4, _⟩ => ⟨S2048x1024, .f32⟩
  | .hbm, ⟨5, _⟩ => ⟨S1024x2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Scan.Core.lean ====
module

public import Idealize.ShloMosaic.Lib.Pipeline.ValueKit
public import Idealize.ShloMosaic.Lib.Pointwise
public import Idealize.ShloMosaic.Lib.Claim

/-!
The recurrence that the gradient of the chunked delta rule computes, written over the eight argument
arrays alone: the state gradient that runs backwards over the 32 chunks, and the six results.
-/

@[expose] public section

set_option maxRecDepth 16384

noncomputable section

open Idealize.ShloMosaic Idealize.ShloMosaic.TcCoe Idealize.SL.Sem

namespace Cert.Scan

/-- The arrays of 2048 rows of 128 (`u`, `w`, `qg`, `kd`, `do`). -/
abbrev A4 : Type := FVec Ideal ⟨4, ![2, 8, 2048, 128]⟩ .f32
/-- The eight arguments. -/
structure Args where
  u : A4
  w : A4
  q : A4
  kd : A4
  a : FVec Ideal ⟨4, ![2, 8, 2048, 64]⟩ .f32
  gl : FVec Ideal ⟨3, ![2, 8, 32]⟩ .f32
  s0 : FVec Ideal ⟨5, ![2, 8, 32, 128, 128]⟩ .f32
  d : A4

/-- Row `c` of chunk `n`. -/
abbrev row (n : Fin 32) (c : Fin 64) : Fin 2048 := ⟨n.val * 64 + c.val, by omega⟩

/-- A state: one 128 by 128 matrix for each batch entry and head. -/
abbrev St : Type := Fin 2 → Fin 8 → Fin 128 → Fin 128 → EReal

/-- The gradient of a chunk's corrected values, given the gradient `S` of the state that it leaves. -/
def dv (I : Args) (n : Fin 32) (S : St) (b : Fin 2) (h : Fin 8) (c : Fin 64) (e : Fin 128) : EReal :=
  (∑ k : Fin 64, (I.a (ix4 b h (row n k) c) : EReal) * I.d (ix4 b h (row n k) e)) +
    ∑ k : Fin 128, (I.kd (ix4 b h (row n c) k) : EReal) * S b h k e

/-- The gradient of the state that chunk `n` found, from the gradient `S` of the state that it leaves. -/
def nxt (I : Args) (n : Fin 32) (S : St) : St := fun b h i j =>
  S b h i j * Ideal.exp (I.gl (ix3 b h n)) +
      (∑ c : Fin 64, (I.q (ix4 b h (row n c) i) : EReal) * I.d (ix4 b h (row n c) j)) -
    ∑ c : Fin 64, (I.w (ix4 b h (row n c) i) : EReal) * dv I n S b h c j

/-- The state gradient after the last `k` chunks. -/
def DS (I : Args) : ℕ → St
  | 0 => fun _ _ _ _ => 0
  | k + 1 => nxt I ⟨(31 - k) % 32, Nat.mod_lt _ (by norm_num)⟩ (DS I k)

/-- The state gradient that chunk `n` is given. -/
def dsAt (I : Args) (n : Fin 32) : St := DS I (31 - n.val)

theorem DS_succ (I : Args) (n : Fin 32) : DS I (31 - n.val + 1) = nxt I n (dsAt I n) := by
  have h : (⟨(31 - (31 - n.val)) % 32, Nat.mod_lt _ (by norm_num)⟩ : Fin 32) = n :=
    Fin.ext (by have := n.isLt; show (31 - (31 - n.val)) % 32 = n.val; omega)
  show nxt I _ (DS I (31 - n.val)) = _
  rw [h]; rfl

/-- The corrected values that the forward pass had in chunk `n`. -/
def vn (I : Args) (n : Fin 32) (b : Fin 2) (h : Fin 8) (c : Fin 64) (e : Fin 128) : EReal :=
  I.u (ix4 b h (row n c) e) - ∑ k : Fin 128, (I.w (ix4 b h (row n c) k) : EReal) * I.s0 (ix5 b h n k e)

/-- The results, chunk by chunk. -/
def du (I : Args) (n : Fin 32) (b : Fin 2) (h : Fin 8) (c : Fin 64) (e : Fin 128) : EReal :=
  dv I n (dsAt I n) b h c e
def dw (I : Args) (n : Fin 32) (b : Fin 2) (h : Fin 8) (c : Fin 64) (i : Fin 128) : EReal :=
  0 - ∑ e : Fin 128, dv I n (dsAt I n) b h c e * (I.s0 (ix5 b h n i e) : EReal)
def dq (I : Args) (n : Fin 32) (b : Fin 2) (h : Fin 8) (c : Fin 64) (i : Fin 128) : EReal :=
  ∑ e : Fin 128, (I.d (ix4 b h (row n c) e) : EReal) * I.s0 (ix5 b h n i e)
def dk (I : Args) (n : Fin 32) (b : Fin 2) (h : Fin 8) (c : Fin 64) (i : Fin 128) : EReal :=
  ∑ e : Fin 128, vn I n b h c e * dsAt I n b h i e
def da (I : Args) (n : Fin 32) (b : Fin 2) (h : Fin 8) (c k : Fin 64) : EReal :=
  ∑ e : Fin 128, (I.d (ix4 b h (row n c) e) : EReal) * vn I n b h k e
def dg (I : Args) (n : Fin 32) (b : Fin 2) (h : Fin 8) : EReal :=
  ∑ i : Fin 128, ∑ j : Fin 128, dsAt I n b h i j * (I.s0 (ix5 b h n i j) : EReal)

/-- A result of 2048 rows, from what it is in each chunk. -/
def rows {L : ℕ} (f : Fin 32 → Fin 2 → Fin 8 → Fin 64 → Fin L → EReal) :
    (⟨4, ![2, 8, 2048, L]⟩ : Shape).Idx → EReal := fun y =>
  f ⟨(y 2).val / 64, Nat.div_lt_of_lt_mul (y 2).isLt⟩ (y 0) (y 1) ⟨(y 2).val % 64, Nat.mod_lt _ (by norm_num)⟩ (y 3)
theorem rows_at {L : ℕ} (f : Fin 32 → Fin 2 → Fin 8 → Fin 64 → Fin L → EReal) (n : Fin 32) (b : Fin 2) (h : Fin 8)
    (r : Fin 64) (l : Fin L) : rows f (ix4 b h (row n r) l) = f n b h r l := by
  have hr := r.isLt
  have h1 : (⟨(n.val * 64 + r.val) / 64, Nat.div_lt_of_lt_mul (row n r).isLt⟩ : Fin 32) = n := Fin.ext (by show (n.val * 64 + r.val) / 64 = n.val; omega)
  have h2 : (⟨(n.val * 64 + r.val) % 64, Nat.mod_lt _ (by norm_num)⟩ : Fin 64) = r := Fin.ext (by show (n.val * 64 + r.val) % 64 = r.val; omega)
  show f ⟨(n.val * 64 + r.val) / 64, _⟩ b h ⟨(n.val * 64 + r.val) % 64, _⟩ l = _
  rw [h1, h2]

theorem land {L : ℕ} (f : Fin 32 → Fin 2 → Fin 8 → Fin 64 → Fin L → EReal) (n : Fin 32) (b : Fin 2) (h : Fin 8)
    (r : Fin 64) (l : Fin L) {y : (⟨4, ![2, 8, 2048, L]⟩ : Shape).Idx} (hy : ix4 b h (row n r) l = y) :
    f n b h r l = rows f y := by
  subst hy; exact (rows_at f n b h r l).symm
/-- The gradient of the decays: one number for each chunk, on eight rows of 128. -/
def rows8 (f : Fin 32 → Fin 2 → Fin 8 → EReal) : (⟨4, ![2, 8, 256, 128]⟩ : Shape).Idx → EReal := fun y =>
  f ⟨(y 2).val / 8, Nat.div_lt_of_lt_mul (y 2).isLt⟩ (y 0) (y 1)
theorem land8 (f : Fin 32 → Fin 2 → Fin 8 → EReal) (n : Fin 32) (b : Fin 2) (h : Fin 8) (r : Fin 8) (l : Fin 128)
    {y : (⟨4, ![2, 8, 256, 128]⟩ : Shape).Idx} (hy : ix4 b h (⟨n.val * 8 + r.val, by omega⟩ : Fin 256) l = y) :
    f n b h = rows8 f y := by
  subst hy
  have h1 : (⟨(n.val * 8 + r.val) / 8, by omega⟩ : Fin 32) = n := Fin.ext (by have := r.isLt; show (n.val * 8 + r.val) / 8 = n.val; omega)
  show _ = f ⟨(n.val * 8 + r.val) / 8, _⟩ b h
  rw [h1]

theorem split_row (y : Fin 2048) : ∃ (n : Fin 32) (r : Fin 64), row n r = y :=
  ⟨⟨y.val / 64, by omega⟩, ⟨y.val % 64, by omega⟩, Fin.ext (by show y.val / 64 * 64 + y.val % 64 = y.val; omega)⟩
theorem split_row8 (y : Fin 256) : ∃ (n : Fin 32) (r : Fin 8), (⟨n.val * 8 + r.val, by omega⟩ : Fin 256) = y :=
  ⟨⟨y.val / 8, by omega⟩, ⟨y.val % 8, by omega⟩, Fin.ext (by show y.val / 8 * 8 + y.val % 8 = y.val; omega)⟩

end Cert.Scan
-- ==== Proof.Scan.Pay.lean ====
module

public import proofs.«01_k».proof.Proof.Gen.ScanBwdIdeal.Skeleton
public import proofs.«01_k».proof.Proof.Scan.Core
public import Idealize.ShloMosaic.Lib.Pipeline.ValueKit
public import Idealize.ShloMosaic.Lib.Pointwise
public import Idealize.ShloMosaic.Lib.Claim

/-! What one chunk of the kernel's body computes, entry by entry, from the blocks that it loads. -/

@[expose] public section

set_option maxRecDepth 16384

noncomputable section

open Idealize.ShloMosaic Idealize.ShloMosaic.TcCoe Idealize.SL.Sem

namespace Cert.ScanBwdIdeal.Mine
open Cert.ScanBwdIdeal Cert.ScanBwdIdeal.Gen

/-- Batch entry and head of a row of the flattened axis. -/
abbrev gb (g : Fin 16) : Fin 2 := ⟨g.val / 8, by omega⟩
abbrev gh (g : Fin 16) : Fin 8 := ⟨g.val % 8, by omega⟩
open Cert.Scan

abbrev gg (b : Fin 2) (h : Fin 8) : Fin 16 := ⟨b.val * 8 + h.val, by omega⟩

/-- The blocks hold chunk `n` of the arrays (and of what is computed from them). -/
structure Blk (I : Args) (n : Fin 32) (D V : Vec Ideal S2x8x64x128 .f32)
    (K W Q : Vec Ideal S2x8x64x128 .bf16) (A : Vec Ideal S2x8x64x64 .bf16)
    (E : Vec Ideal S2x8x1x128 .f32) (S0 : Vec Ideal S2x8x1x128x128 .f32) : Prop where
  d : ∀ (b : Fin 2) (h : Fin 8) (r : Fin 64) (e : Fin 128), D (ix4 b h r e) = I.d (ix4 b h (row n r) e)
  v : ∀ (b : Fin 2) (h : Fin 8) (r : Fin 64) (e : Fin 128), V (ix4 b h r e) = vn I n b h r e
  k : ∀ (b : Fin 2) (h : Fin 8) (r : Fin 64) (e : Fin 128), K (ix4 b h r e) = I.kd (ix4 b h (row n r) e)
  w : ∀ (b : Fin 2) (h : Fin 8) (r : Fin 64) (e : Fin 128), W (ix4 b h r e) = I.w (ix4 b h (row n r) e)
  q : ∀ (b : Fin 2) (h : Fin 8) (r : Fin 64) (e : Fin 128), Q (ix4 b h r e) = I.q (ix4 b h (row n r) e)
  a : ∀ (b : Fin 2) (h : Fin 8) (r k : Fin 64), A (ix4 b h r k) = I.a (ix4 b h (row n r) k)
  e : ∀ (b : Fin 2) (h : Fin 8) (j : Fin 128), E (ix4 b h (0 : Fin 1) j) = Ideal.exp (I.gl (ix3 b h n))
  s : ∀ (b : Fin 2) (h : Fin 8) (i j : Fin 128), S0 (ix5 b h (0 : Fin 1) i j) = I.s0 (ix5 b h n i j)

/-- The scratch holds the state gradient `T`. -/
def StEq (S : Vec Ideal S16x128x128 .f32) (T : St) : Prop :=
  ∀ (g : Fin 16) (i j : Fin 128), S (ix3 g i j) = T (gb g) (gh g) i j

variable {I : Args} {n : Fin 32} {D V : Vec Ideal S2x8x64x128 .f32}
  {K W Q : Vec Ideal S2x8x64x128 .bf16} {A : Vec Ideal S2x8x64x64 .bf16} {E : Vec Ideal S2x8x1x128 .f32}
  {S0 : Vec Ideal S2x8x1x128x128 .f32} {S : Vec Ideal S16x128x128 .f32} {T : St}

theorem StEq.at (hS : StEq S T) (b : Fin 2) (h : Fin 8) (i j : Fin 128) :
    S (ix3 (⟨b.val * 8 + h.val, by omega⟩ : Fin 16) i j) = T b h i j := by
  have hb : gb ⟨b.val * 8 + h.val, by omega⟩ = b := Fin.ext (by show (b.val * 8 + h.val) / 8 = b.val; omega)
  have hh : gh ⟨b.val * 8 + h.val, by omega⟩ = h := Fin.ext (by show (b.val * 8 + h.val) % 8 = h.val; omega)
  rw [hS, hb, hh]

/-- The gradient of the corrected values, in the chunk that a point takes first and in its second. -/
theorem dv_first (B : Blk I n D V K W Q A E S0) (hS : StEq S T) (g : Fin 16) (c : Fin 64) (e : Fin 128) :
    k0_pay10 (F := Ideal) S (k0_pay4 D) (k0_pay6 K) (k0_pay9 A) (ix3 g c e) = dv I n T (gb g) (gh g) c e := by
  pointwise [k0_pay10, k0_pay4, k0_pay6, k0_pay9]
  simp only [B.d, B.k, B.a, hS g]; rfl
theorem dv_second (B : Blk I n D V K W Q A E S0) (hS : StEq S T) (g : Fin 16) (c : Fin 64) (e : Fin 128) :
    k0_pay23 (F := Ideal) S (k0_pay19 D) K A (ix3 g c e) = dv I n T (gb g) (gh g) c e := by
  pointwise [k0_pay23, k0_pay19]
  simp only [B.d, B.k, B.a, hS g]; rfl

/-- The state gradient that either chunk leaves in the scratch. -/
theorem nxt_first (B : Blk I n D V K W Q A E S0) (hS : StEq S T) :
    StEq (k0_pay17 (F := Ideal) S (k0_pay4 D) (k0_pay7 W) (k0_pay8 Q)
      (k0_pay10 S (k0_pay4 D) (k0_pay6 K) (k0_pay9 A)) E) (nxt I n T) := fun g i j => by
  pointwise [k0_pay17, k0_pay4, k0_pay7, k0_pay8]
  have X := fun c e => dv_first B hS g c e
  simp only [k0_pay4] at X
  simp only [B.d, B.w, B.q, B.e, hS g, X]; rfl
theorem nxt_second (B : Blk I n D V K W Q A E S0) (hS : StEq S T) :
    StEq (k0_pay1 (F := Ideal) (k0_pay19 D) (k0_pay21 W) (k0_pay22 Q)
      (k0_pay23 S (k0_pay19 D) K A) (k0_pay30 S E)) (nxt I n T) := fun g i j => by
  pointwise [k0_pay1, k0_pay19, k0_pay21, k0_pay22, k0_pay30]
  have X := fun c e => dv_second B hS g c e
  simp only [k0_pay19] at X
  simp only [B.d, B.w, B.q, B.e, hS g, X]; rfl

/-! The blocks that are stored, entry by entry, in either chunk. -/

theorem du_first (B : Blk I n D V K W Q A E S0) (hS : StEq S T) (b : Fin 2) (h : Fin 8) (r : Fin 64) (l : Fin 128) :
    k0_pay14 (F := Ideal) S (k0_pay4 D) (k0_pay6 K) (k0_pay9 A) (ix4 b h r l) = dv I n T b h r l := by
  pointwise [k0_pay14, k0_pay4, k0_pay6, k0_pay9, k0_pay10]
  simp only [B.d, B.k, B.a, hS.at]; rfl
theorem du_second (B : Blk I n D V K W Q A E S0) (hS : StEq S T) (b : Fin 2) (h : Fin 8) (r : Fin 64) (l : Fin 128) :
    k0_pay27 (F := Ideal) (k0_pay23 S (k0_pay19 D) K A) (ix4 b h r l) = dv I n T b h r l := by
  pointwise [k0_pay27, k0_pay23, k0_pay19]
  simp only [B.d, B.k, B.a, hS.at]; rfl
theorem dw_first (B : Blk I n D V K W Q A E S0) (hS : StEq S T) (b : Fin 2) (h : Fin 8) (r : Fin 64) (l : Fin 128) :
    k0_pay15 (F := Ideal) (k0_pay3 S0) S (k0_pay4 D) (k0_pay6 K) (k0_pay9 A) (ix4 b h r l) =
      0 - ∑ e : Fin 128, dv I n T b h r e * (I.s0 (ix5 b h n l e) : EReal) := by
  pointwise [k0_pay15, k0_pay3, k0_pay10, k0_pay4, k0_pay6, k0_pay9]
  simp only [B.d, B.k, B.a, B.s, hS.at]; rfl
theorem dw_second (B : Blk I n D V K W Q A E S0) (hS : StEq S T) (b : Fin 2) (h : Fin 8) (r : Fin 64) (l : Fin 128) :
    k0_pay28 (F := Ideal) (k0_pay18 S0) (k0_pay23 S (k0_pay19 D) K A) (ix4 b h r l) =
      0 - ∑ e : Fin 128, dv I n T b h r e * (I.s0 (ix5 b h n l e) : EReal) := by
  pointwise [k0_pay28, k0_pay18, k0_pay23, k0_pay19]
  simp only [B.d, B.k, B.a, B.s, hS.at]; rfl
theorem dq_first (B : Blk I n D V K W Q A E S0) (b : Fin 2) (h : Fin 8) (r : Fin 64) (l : Fin 128) :
    k0_pay12 (F := Ideal) (k0_pay3 S0) (k0_pay4 D) (ix4 b h r l) = dq I n b h r l := by
  pointwise [k0_pay12, k0_pay3, k0_pay4]
  simp only [B.d, B.s]; rfl
theorem dq_second (B : Blk I n D V K W Q A E S0) (b : Fin 2) (h : Fin 8) (r : Fin 64) (l : Fin 128) :
    k0_pay25 (F := Ideal) (k0_pay18 S0) (k0_pay19 D) (ix4 b h r l) = dq I n b h r l := by
  pointwise [k0_pay25, k0_pay18, k0_pay19]
  simp only [B.d, B.s]; rfl
theorem dk_first (B : Blk I n D V K W Q A E S0) (hS : StEq S T) (b : Fin 2) (h : Fin 8) (r : Fin 64) (l : Fin 128) :
    k0_pay13 (F := Ideal) S (k0_pay5 V) (ix4 b h r l) = ∑ e : Fin 128, vn I n b h r e * T b h l e := by
  pointwise [k0_pay13, k0_pay5]
  simp only [B.v, hS.at]
theorem dk_second (B : Blk I n D V K W Q A E S0) (hS : StEq S T) (b : Fin 2) (h : Fin 8) (r : Fin 64) (l : Fin 128) :
    k0_pay26 (F := Ideal) S (k0_pay20 V) (ix4 b h r l) = ∑ e : Fin 128, vn I n b h r e * T b h l e := by
  pointwise [k0_pay26, k0_pay20]
  simp only [B.v, hS.at]
theorem da_first (B : Blk I n D V K W Q A E S0) (b : Fin 2) (h : Fin 8) (r l : Fin 64) :
    k0_pay11 (F := Ideal) (k0_pay4 D) (k0_pay5 V) (ix4 b h r l) = da I n b h r l := by
  pointwise [k0_pay11, k0_pay4, k0_pay5]
  simp only [B.d, B.v]; rfl
theorem da_second (B : Blk I n D V K W Q A E S0) (b : Fin 2) (h : Fin 8) (r l : Fin 64) :
    k0_pay24 (F := Ideal) (k0_pay19 D) V (ix4 b h r l) = da I n b h r l := by
  pointwise [k0_pay24, k0_pay19, k0_pay20]
  simp only [B.d, B.v]; rfl
theorem dg_first (B : Blk I n D V K W Q A E S0) (hS : StEq S T) (b : Fin 2) (h : Fin 8) (r : Fin 8) (l : Fin 128) :
    k0_pay16 (F := Ideal) (k0_pay3 S0) S (ix4 b h r l) =
      ∑ i : Fin 128, ∑ j : Fin 128, T b h i j * (I.s0 (ix5 b h n i j) : EReal) := by
  pointwise [k0_pay16, k0_pay3]
  simp only [B.s, hS.at]
theorem dg_second (B : Blk I n D V K W Q A E S0) (hS : StEq S T) (b : Fin 2) (h : Fin 8) (r : Fin 8) (l : Fin 128) :
    k0_pay29 (F := Ideal) (k0_pay18 S0) S (ix4 b h r l) =
      ∑ i : Fin 128, ∑ j : Fin 128, T b h i j * (I.s0 (ix5 b h n i j) : EReal) := by
  pointwise [k0_pay29, k0_pay18]
  simp only [B.s, hS.at]
end Cert.ScanBwdIdeal.Mine
-- ==== Proof.Scan.Kernel.lean ====
module

public import proofs.«01_k».proof.Proof.Gen.ScanBwdIdeal.Value
public import proofs.«01_k».proof.Proof.Scan.Pay
public import Idealize.ShloMosaic.Lib.Pipeline.ValueKit
public import Idealize.ShloMosaic.Lib.Pipeline.ReadBack
public import Idealize.ShloMosaic.Lib.Pointwise
public import Idealize.ShloMosaic.Lib.Claim

/-! The arrays that the kernel leaves, as the recurrence of `Core` computes them. -/

@[expose] public section

set_option maxRecDepth 16384

noncomputable section

open Idealize.ShloMosaic Idealize.ShloMosaic.TcCoe Idealize.SL.Sem
open Idealize.ShloMosaic.Pipeline (Dat)

namespace Cert.ScanBwdIdeal.Mine
open Cert.ScanBwdIdeal Cert.ScanBwdIdeal.Gen Cert.Scan

variable (m : (ℓ : Loc nD τ sig) → Buf (Elt Ideal) ℓ)

/-- The arguments, as the recurrence names them. -/
def args (c : Dev nD) : Args where
  u := m (c, Proc.tc.devRef main_arg0)
  w := m (c, Proc.tc.devRef main_arg1)
  q := m (c, Proc.tc.devRef main_arg2)
  kd := m (c, Proc.tc.devRef main_arg3)
  a := m (c, Proc.tc.devRef main_arg4)
  gl := m (c, Proc.tc.devRef main_arg5)
  s0 := m (c, Proc.tc.devRef main_arg6)
  d := m (c, Proc.tc.devRef main_arg7)

/-- Every window's block index at a point: the chunks are taken from the last to the first. -/
theorem idx : ∀ t : Fin cfg0.N,
    win0_0.index t = ![0, 0, 15 - t.val, 0] ∧ win0_1.index t = ![0, 0, 15 - t.val, 0] ∧
    win0_2.index t = ![0, 0, 15 - t.val, 0] ∧ win0_3.index t = ![0, 0, 15 - t.val, 0] ∧
    win0_4.index t = ![0, 0, 15 - t.val, 0] ∧ win0_5.index t = ![0, 0, 15 - t.val, 0] ∧
    win0_6.index t = ![0, 0, 15 - t.val, 0] ∧ win0_7.index t = ![0, 0, 15 - t.val, 0, 0] ∧
    win0_8.index t = ![0, 0, 15 - t.val, 0] ∧ win0_9.index t = ![0, 0, 15 - t.val, 0] ∧
    win0_10.index t = ![0, 0, 15 - t.val, 0] ∧ win0_11.index t = ![0, 0, 15 - t.val, 0] ∧
    win0_12.index t = ![0, 0, 15 - t.val, 0] ∧ win0_13.index t = ![0, 0, 15 - t.val, 0] :=
  (by decide +kernel : ∀ t : Fin grid0.N, _)

theorem arr_w (c : Dev nD) (b : Fin 2) (h : Fin 8) (r : Fin 2048) (e : Fin 128) :
    V m c main_v8 (ix4 b h r e) = (args m c).w (ix4 b h r e) := by
  entry_read; rfl
theorem arr_q (c : Dev nD) (b : Fin 2) (h : Fin 8) (r : Fin 2048) (e : Fin 128) :
    V m c main_v9 (ix4 b h r e) = (args m c).q (ix4 b h r e) := by
  entry_read; rfl
theorem arr_k (c : Dev nD) (b : Fin 2) (h : Fin 8) (r : Fin 2048) (e : Fin 128) :
    V m c main_v10 (ix4 b h r e) = (args m c).kd (ix4 b h r e) := by
  entry_read; rfl
theorem arr_a (c : Dev nD) (b : Fin 2) (h : Fin 8) (r : Fin 2048) (e : Fin 64) :
    V m c main_v11 (ix4 b h r e) = (args m c).a (ix4 b h r e) := by
  entry_read; rfl
theorem arr_d (c : Dev nD) (b : Fin 2) (h : Fin 8) (r : Fin 2048) (e : Fin 128) :
    V m c main_arg7 (ix4 b h r e) = (args m c).d (ix4 b h r e) := by
  entry_read; rfl
theorem arr_s (c : Dev nD) (b : Fin 2) (h : Fin 8) (n : Fin 32) (i j : Fin 128) :
    V m c main_arg6 (ix5 b h n i j) = (args m c).s0 (ix5 b h n i j) := by
  entry_read; rfl
theorem arr_e (c : Dev nD) (b : Fin 2) (h : Fin 8) (r : Fin 256) (e : Fin 128) :
    V m c main_v7 (ix4 b h r e) = Ideal.exp ((args m c).gl (ix3 b h ⟨r.val / 8, by omega⟩)) := by
  entry_read
  pointwise [args]
/-- The corrected values, which the host computes before the call. -/
theorem arr_v (c : Dev nD) (b : Fin 2) (h : Fin 8) (n : Fin 32) (r : Fin 64) (e : Fin 128) :
    V m c main_v3 (ix4 b h (row n r) e) = vn (args m c) n b h r e := by
  entry_read
  pointwise [args, vn]
  have hr := r.isLt
  have h1 : (n.val * 64 + r.val) / 64 = n.val := by omega
  have h2 : (n.val * 64 + r.val) % 64 = r.val := by omega
  simp only [h1, h2]

/-- The chunk that a point takes first, and the one that it takes second. -/
abbrev hi (t : Fin cfg0.N) : Fin 32 := ⟨31 - 2 * t.val, by omega⟩
abbrev lo (t : Fin cfg0.N) : Fin 32 := ⟨30 - 2 * t.val, by omega⟩
theorem hN (t : Fin cfg0.N) : t.val < 16 := t.isLt
theorem row_hi (t : Fin cfg0.N) (r : Fin 64) (p : (15 - t.val) * 128 + (64 + r.val) < 2048) :
    (⟨(15 - t.val) * 128 + (64 + r.val), p⟩ : Fin 2048) = row (hi t) r :=
  Fin.ext (by have := hN t; show (15 - t.val) * 128 + (64 + r.val) = (31 - 2 * t.val) * 64 + r.val; omega)
theorem row_lo (t : Fin cfg0.N) (r : Fin 64) (p : (15 - t.val) * 128 + r.val < 2048) :
    (⟨(15 - t.val) * 128 + r.val, p⟩ : Fin 2048) = row (lo t) r :=
  Fin.ext (by have := hN t; show (15 - t.val) * 128 + r.val = (30 - 2 * t.val) * 64 + r.val; omega)

/-! The blocks of a point, as parts of the arrays. -/

theorem blk0 (c : Dev nD) (t : Fin cfg0.N) (b : Fin 2) (h : Fin 8) (r : Fin 128) (e : Fin 128) :
    iblk m c 0 t (ix4 b h r e) =
      V m c main_arg7 (ix4 b h ⟨(15 - t.val) * 128 + r.val, by have := hN t; omega⟩ e) := by
  blk_point [iblk, idx t]
theorem blk1 (c : Dev nD) (t : Fin cfg0.N) (b : Fin 2) (h : Fin 8) (r : Fin 128) (e : Fin 128) :
    iblk m c 1 t (ix4 b h r e) =
      V m c main_v8 (ix4 b h ⟨(15 - t.val) * 128 + r.val, by have := hN t; omega⟩ e) := by
  blk_point [iblk, idx t]
theorem blk2 (c : Dev nD) (t : Fin cfg0.N) (b : Fin 2) (h : Fin 8) (r : Fin 128) (e : Fin 128) :
    iblk m c 2 t (ix4 b h r e) =
      V m c main_v9 (ix4 b h ⟨(15 - t.val) * 128 + r.val, by have := hN t; omega⟩ e) := by
  blk_point [iblk, idx t]
theorem blk3 (c : Dev nD) (t : Fin cfg0.N) (b : Fin 2) (h : Fin 8) (r : Fin 128) (e : Fin 128) :
    iblk m c 3 t (ix4 b h r e) =
      V m c main_v10 (ix4 b h ⟨(15 - t.val) * 128 + r.val, by have := hN t; omega⟩ e) := by
  blk_point [iblk, idx t]
theorem blk4 (c : Dev nD) (t : Fin cfg0.N) (b : Fin 2) (h : Fin 8) (r : Fin 128) (e : Fin 64) :
    iblk m c 4 t (ix4 b h r e) =
      V m c main_v11 (ix4 b h ⟨(15 - t.val) * 128 + r.val, by have := hN t; omega⟩ e) := by
  blk_point [iblk, idx t]
theorem blk6 (c : Dev nD) (t : Fin cfg0.N) (b : Fin 2) (h : Fin 8) (r : Fin 128) (e : Fin 128) :
    iblk m c 6 t (ix4 b h r e) =
      V m c main_v3 (ix4 b h ⟨(15 - t.val) * 128 + r.val, by have := hN t; omega⟩ e) := by
  blk_point [iblk, idx t]
theorem blk5 (c : Dev nD) (t : Fin cfg0.N) (b : Fin 2) (h : Fin 8) (r : Fin 16) (e : Fin 128) :
    iblk m c 5 t (ix4 b h r e) =
      V m c main_v7 (ix4 b h ⟨(15 - t.val) * 16 + r.val, by have := hN t; omega⟩ e) := by
  blk_point [iblk, idx t]
theorem blk7 (c : Dev nD) (t : Fin cfg0.N) (b : Fin 2) (h : Fin 8) (k : Fin 2) (i j : Fin 128) :
    iblk m c 7 t (ix5 b h k i j) =
      V m c main_arg6 (ix5 b h ⟨(15 - t.val) * 2 + k.val, by have := hN t; omega⟩ i j) := by
  blk_point [iblk, idx t]

/-! The blocks that a point loads for its first chunk. -/

def hiD (c : Dev nD) (t : Fin cfg0.N) : Vec Ideal S2x8x64x128 .f32 :=
  View.ld (iblk m c 0 t) (Rect.unit ![0, 0, 64, 0] ![2, 8, 64, 128] inb_S2x8x128x128_S2x8x64x128_0_0_64_0)
def hiK (c : Dev nD) (t : Fin cfg0.N) : Vec Ideal S2x8x64x128 .bf16 :=
  View.ld (iblk m c 3 t) (Rect.unit ![0, 0, 64, 0] ![2, 8, 64, 128] inb_S2x8x128x128_S2x8x64x128_0_0_64_0)
def hiW (c : Dev nD) (t : Fin cfg0.N) : Vec Ideal S2x8x64x128 .bf16 :=
  View.ld (iblk m c 1 t) (Rect.unit ![0, 0, 64, 0] ![2, 8, 64, 128] inb_S2x8x128x128_S2x8x64x128_0_0_64_0)
def hiQ (c : Dev nD) (t : Fin cfg0.N) : Vec Ideal S2x8x64x128 .bf16 :=
  View.ld (iblk m c 2 t) (Rect.unit ![0, 0, 64, 0] ![2, 8, 64, 128] inb_S2x8x128x128_S2x8x64x128_0_0_64_0)
def hiV (c : Dev nD) (t : Fin cfg0.N) : Vec Ideal S2x8x64x128 .f32 :=
  View.ld (iblk m c 6 t) (Rect.unit ![0, 0, 64, 0] ![2, 8, 64, 128] inb_S2x8x128x128_S2x8x64x128_0_0_64_0)
def hiA (c : Dev nD) (t : Fin cfg0.N) : Vec Ideal S2x8x64x64 .bf16 :=
  View.ld (iblk m c 4 t) (Rect.unit ![0, 0, 64, 0] ![2, 8, 64, 64] inb_S2x8x128x64_S2x8x64x64_0_0_64_0)
def hiE (c : Dev nD) (t : Fin cfg0.N) : Vec Ideal S2x8x1x128 .f32 :=
  View.ld (iblk m c 5 t) (Rect.unit ![0, 0, 8, 0] ![2, 8, 1, 128] inb_S2x8x16x128_S2x8x1x128_0_0_8_0)
def hiS (c : Dev nD) (t : Fin cfg0.N) : Vec Ideal S2x8x1x128x128 .f32 :=
  View.ld (iblk m c 7 t) (Rect.unit ![0, 0, 1, 0, 0] ![2, 8, 1, 128, 128] inb_S2x8x2x128x128_S2x8x1x128x128_0_0_1_0_0)

theorem blk_hi (c : Dev nD) (t : Fin cfg0.N) : Blk (args m c) (hi t) (hiD m c t) (hiV m c t) (hiK m c t)
    (hiW m c t) (hiQ m c t) (hiA m c t) (hiE m c t) (hiS m c t) where
  d b h r e := by
    pointwise [hiD]
    exact (blk0 m c t b h (⟨64 + r.val, by omega⟩ : Fin 128) e).trans ((congrArg (fun x => V m c main_arg7 (ix4 b h x e)) (row_hi t r _)).trans (arr_d m c b h _ e))
  v b h r e := by
    pointwise [hiV]
    exact (blk6 m c t b h (⟨64 + r.val, by omega⟩ : Fin 128) e).trans ((congrArg (fun x => V m c main_v3 (ix4 b h x e)) (row_hi t r _)).trans (arr_v m c b h _ r e))
  k b h r e := by
    pointwise [hiK]
    exact (blk3 m c t b h (⟨64 + r.val, by omega⟩ : Fin 128) e).trans ((congrArg (fun x => V m c main_v10 (ix4 b h x e)) (row_hi t r _)).trans (arr_k m c b h _ e))
  w b h r e := by
    pointwise [hiW]
    exact (blk1 m c t b h (⟨64 + r.val, by omega⟩ : Fin 128) e).trans ((congrArg (fun x => V m c main_v8 (ix4 b h x e)) (row_hi t r _)).trans (arr_w m c b h _ e))
  q b h r e := by
    pointwise [hiQ]
    exact (blk2 m c t b h (⟨64 + r.val, by omega⟩ : Fin 128) e).trans ((congrArg (fun x => V m c main_v9 (ix4 b h x e)) (row_hi t r _)).trans (arr_q m c b h _ e))
  a b h r e := by
    pointwise [hiA]
    exact (blk4 m c t b h (⟨64 + r.val, by omega⟩ : Fin 128) e).trans ((congrArg (fun x => V m c main_v11 (ix4 b h x e)) (row_hi t r _)).trans (arr_a m c b h _ e))
  e b h j := by
    pointwise [hiE]
    exact (blk5 m c t b h 8 j).trans ((arr_e m c b h _ j).trans (congrArg (fun x => Ideal.exp ((args m c).gl (ix3 b h x)))
      (Fin.ext (by have := hN t; show ((15 - t.val) * 16 + 8) / 8 = 31 - 2 * t.val; omega))))
  s b h i j := by
    pointwise [hiS]
    exact (blk7 m c t b h 1 i j).trans ((congrArg (fun x => V m c main_arg6 (ix5 b h x i j))
      (Fin.ext (by have := hN t; show (15 - t.val) * 2 + 1 = 31 - 2 * t.val; omega))).trans (arr_s m c b h _ i j))

/-! The blocks that a point loads for its second chunk. -/

def loD (c : Dev nD) (t : Fin cfg0.N) : Vec Ideal S2x8x64x128 .f32 :=
  View.ld (iblk m c 0 t) (Rect.unit ![0, 0, 0, 0] ![2, 8, 64, 128] inb_S2x8x128x128_S2x8x64x128_0_0_0_0)
def loK (c : Dev nD) (t : Fin cfg0.N) : Vec Ideal S2x8x64x128 .bf16 :=
  View.ld (iblk m c 3 t) (Rect.unit ![0, 0, 0, 0] ![2, 8, 64, 128] inb_S2x8x128x128_S2x8x64x128_0_0_0_0)
def loW (c : Dev nD) (t : Fin cfg0.N) : Vec Ideal S2x8x64x128 .bf16 :=
  View.ld (iblk m c 1 t) (Rect.unit ![0, 0, 0, 0] ![2, 8, 64, 128] inb_S2x8x128x128_S2x8x64x128_0_0_0_0)
def loQ (c : Dev nD) (t : Fin cfg0.N) : Vec Ideal S2x8x64x128 .bf16 :=
  View.ld (iblk m c 2 t) (Rect.unit ![0, 0, 0, 0] ![2, 8, 64, 128] inb_S2x8x128x128_S2x8x64x128_0_0_0_0)
def loV (c : Dev nD) (t : Fin cfg0.N) : Vec Ideal S2x8x64x128 .f32 :=
  View.ld (iblk m c 6 t) (Rect.unit ![0, 0, 0, 0] ![2, 8, 64, 128] inb_S2x8x128x128_S2x8x64x128_0_0_0_0)
def loA (c : Dev nD) (t : Fin cfg0.N) : Vec Ideal S2x8x64x64 .bf16 :=
  View.ld (iblk m c 4 t) (Rect.unit ![0, 0, 0, 0] ![2, 8, 64, 64] inb_S2x8x128x64_S2x8x64x64_0_0_0_0)
def loE (c : Dev nD) (t : Fin cfg0.N) : Vec Ideal S2x8x1x128 .f32 :=
  View.ld (iblk m c 5 t) (Rect.unit ![0, 0, 0, 0] ![2, 8, 1, 128] inb_S2x8x16x128_S2x8x1x128_0_0_0_0)
def loS (c : Dev nD) (t : Fin cfg0.N) : Vec Ideal S2x8x1x128x128 .f32 :=
  View.ld (iblk m c 7 t) (Rect.unit ![0, 0, 0, 0, 0] ![2, 8, 1, 128, 128] inb_S2x8x2x128x128_S2x8x1x128x128_0_0_0_0_0)

theorem blk_lo (c : Dev nD) (t : Fin cfg0.N) : Blk (args m c) (lo t) (loD m c t) (loV m c t) (loK m c t)
    (loW m c t) (loQ m c t) (loA m c t) (loE m c t) (loS m c t) where
  d b h r e := by
    pointwise [loD]
    exact (blk0 m c t b h (⟨r.val, by omega⟩ : Fin 128) e).trans ((congrArg (fun x => V m c main_arg7 (ix4 b h x e)) (row_lo t r _)).trans (arr_d m c b h _ e))
  v b h r e := by
    pointwise [loV]
    exact (blk6 m c t b h (⟨r.val, by omega⟩ : Fin 128) e).trans ((congrArg (fun x => V m c main_v3 (ix4 b h x e)) (row_lo t r _)).trans (arr_v m c b h _ r e))
  k b h r e := by
    pointwise [loK]
    exact (blk3 m c t b h (⟨r.val, by omega⟩ : Fin 128) e).trans ((congrArg (fun x => V m c main_v10 (ix4 b h x e)) (row_lo t r _)).trans (arr_k m c b h _ e))
  w b h r e := by
    pointwise [loW]
    exact (blk1 m c t b h (⟨r.val, by omega⟩ : Fin 128) e).trans ((congrArg (fun x => V m c main_v8 (ix4 b h x e)) (row_lo t r _)).trans (arr_w m c b h _ e))
  q b h r e := by
    pointwise [loQ]
    exact (blk2 m c t b h (⟨r.val, by omega⟩ : Fin 128) e).trans ((congrArg (fun x => V m c main_v9 (ix4 b h x e)) (row_lo t r _)).trans (arr_q m c b h _ e))
  a b h r e := by
    pointwise [loA]
    exact (blk4 m c t b h (⟨r.val, by omega⟩ : Fin 128) e).trans ((congrArg (fun x => V m c main_v11 (ix4 b h x e)) (row_lo t r _)).trans (arr_a m c b h _ e))
  e b h j := by
    pointwise [loE]
    exact (blk5 m c t b h 0 j).trans ((arr_e m c b h _ j).trans (congrArg (fun x => Ideal.exp ((args m c).gl (ix3 b h x)))
      (Fin.ext (by have := hN t; show ((15 - t.val) * 16 + 0) / 8 = 30 - 2 * t.val; omega))))
  s b h i j := by
    pointwise [loS]
    exact (blk7 m c t b h 0 i j).trans ((congrArg (fun x => V m c main_arg6 (ix5 b h x i j))
      (Fin.ext (by have := hN t; show (15 - t.val) * 2 + 0 = 30 - 2 * t.val; omega))).trans (arr_s m c b h _ i j))

/-- The scratch after a point, from the scratch before it. -/
theorem scr_B (c : Dev nD) (t : Fin cfg0.N) (h : ¬ t.val % 16 = 0) (T : St)
   (ih : StEq (outsAt0 m c (t.val - 1) (lt_of_le_of_lt (Nat.sub_le _ _) t.isLt)).2.2.2.2.2.2 T) :
    StEq (outsAt0 m c t.val t.isLt).2.2.2.2.2.2 (nxt (args m c) (lo t) (nxt (args m c) (hi t) T)) := fun g i j => by
  rw [outsAt0_B m c t h]; frame_out
  refine nxt_second (blk_lo m c t) (nxt_first (blk_hi m c t) ?_) g i j
  simp only [read_unread_whole]
  exact ih
theorem scr_A (c : Dev nD) (t : Fin cfg0.N) (h : t.val % 16 = 0) :
    StEq (outsAt0 m c t.val t.isLt).2.2.2.2.2.2 (nxt (args m c) (lo t) (nxt (args m c) (hi t) (DS (args m c) 0))) := fun g i j => by
  rw [outsAt0_A m c t h]; frame_out
  refine nxt_second (blk_lo m c t) (nxt_first (blk_hi m c t) ?_) g i j
  intro g i j
  pointwise [k0_pay2]; rfl
/-- After point `t` the scratch holds the state gradient after `2 t + 2` chunks. -/
theorem scr (c : Dev nD) (k : ℕ) (hk : k < cfg0.N) :
    StEq (outsAt0 m c k hk).2.2.2.2.2.2 (DS (args m c) (2 * k + 2)) := by
  have st (t : Fin cfg0.N) : nxt (args m c) (lo t) (nxt (args m c) (hi t) (DS (args m c) (2 * t.val))) =
      DS (args m c) (2 * t.val + 2) := by
    have := hN t
    have h1 : (⟨(31 - 2 * t.val) % 32, Nat.mod_lt _ (by norm_num)⟩ : Fin 32) = hi t := Fin.ext (by show (31 - 2 * t.val) % 32 = 31 - 2 * t.val; omega)
    have h2 : (⟨(31 - (2 * t.val + 1)) % 32, Nat.mod_lt _ (by norm_num)⟩ : Fin 32) = lo t := Fin.ext (by show (31 - (2 * t.val + 1)) % 32 = 30 - 2 * t.val; omega)
    show _ = nxt _ _ (nxt _ _ _)
    rw [h1, h2]
  induction k with
  | zero => exact (st ⟨0, hk⟩) ▸ scr_A m c ⟨0, hk⟩ rfl
  | succ k ih =>
    have h16 : k + 1 < 16 := hk
    exact (st ⟨k + 1, hk⟩) ▸ scr_B m c ⟨k + 1, hk⟩ (by show ¬ (k + 1) % 16 = 0; omega) _ (ih (by omega))

theorem dsAt_hi (c : Dev nD) (t : Fin cfg0.N) : dsAt (args m c) (hi t) = DS (args m c) (2 * t.val) := by
  have := hN t
  show DS _ (31 - (31 - 2 * t.val)) = _
  congr 1; omega
theorem dsAt_lo (c : Dev nD) (t : Fin cfg0.N) : nxt (args m c) (hi t) (dsAt (args m c) (hi t)) = dsAt (args m c) (lo t) := by
  rw [← DS_succ]
  have := hN t
  show DS _ (31 - (31 - 2 * t.val) + 1) = DS _ (31 - (30 - 2 * t.val))
  congr 1; omega
/-- The state gradient that a point finds in the scratch. -/
theorem found_B (c : Dev nD) (t : Fin cfg0.N) (h : ¬ t.val % 16 = 0) :
    StEq (outsAt0 m c (t.val - 1) (lt_of_le_of_lt (Nat.sub_le _ _) t.isLt)).2.2.2.2.2.2 (dsAt (args m c) (hi t)) := by
  rw [dsAt_hi]
  have e : 2 * t.val = 2 * (t.val - 1) + 2 := by omega
  rw [e]
  exact scr m c (t.val - 1) _
theorem found_A (c : Dev nD) (t : Fin cfg0.N) (h : t.val % 16 = 0) :
    StEq (k0_pay2 (F := Ideal)) (dsAt (args m c) (hi t)) := by
  have := hN t
  have e : t.val = 0 := by omega
  rw [dsAt_hi, e]
  intro g i j
  pointwise [k0_pay2]; rfl

/-- The scratch between the two chunks of a point. -/
theorem mid (c : Dev nD) (t : Fin cfg0.N) {S : Vec Ideal S16x128x128 .f32} (hS : StEq S (dsAt (args m c) (hi t))) :
    StEq (k0_pay17 (F := Ideal) S (k0_pay4 (hiD m c t)) (k0_pay7 (hiW m c t)) (k0_pay8 (hiQ m c t))
      (k0_pay10 S (k0_pay4 (hiD m c t)) (k0_pay6 (hiK m c t)) (k0_pay9 (hiA m c t))) (hiE m c t)) (dsAt (args m c) (lo t)) := by
  rw [← dsAt_lo]
  exact nxt_first (blk_hi m c t) hS

/-! The six arrays after the run. -/

theorem final8 (c : Dev nD) : (dats m 0 c).arrAt 8 cfg0.N = rows (du (args m c)) := by
  refine (dats m 0 c).arrAt_eq_of_covers 8 _ (by decide +kernel) fun t hf y => ?_
  blk_simp; rw [after0_8]
  have ht := hN t
  by_cases h : t.val % 16 = 0
  · rw [outsAt0_A m c t h]; frame_out
    canon_tiles y h1
    · idx_vars y
      exact (du_second (blk_lo m c t) (mid m c t (found_A m c t h)) _ _ _ _).trans (land (du (args m c)) (lo t) _ _ _ _ (by blk_ext [idx t]))
    · idx_vars y
      exact (du_first (blk_hi m c t) (found_A m c t h) _ _ _ _).trans (land (du (args m c)) (hi t) _ _ _ _ (by blk_ext [idx t]))
  · rw [outsAt0_B m c t h]; frame_out; simp only [read_unread_whole]
    canon_tiles y h1
    · idx_vars y
      exact (du_second (blk_lo m c t) (mid m c t (found_B m c t h)) _ _ _ _).trans (land (du (args m c)) (lo t) _ _ _ _ (by blk_ext [idx t]))
    · idx_vars y
      exact (du_first (blk_hi m c t) (found_B m c t h) _ _ _ _).trans (land (du (args m c)) (hi t) _ _ _ _ (by blk_ext [idx t]))
theorem final9 (c : Dev nD) : (dats m 0 c).arrAt 9 cfg0.N = rows (dw (args m c)) := by
  refine (dats m 0 c).arrAt_eq_of_covers 9 _ (by decide +kernel) fun t hf y => ?_
  blk_simp; rw [after0_9]
  have ht := hN t
  by_cases h : t.val % 16 = 0
  · rw [outsAt0_A m c t h]; frame_out
    canon_tiles y h1
    · idx_vars y
      exact (dw_second (blk_lo m c t) (mid m c t (found_A m c t h)) _ _ _ _).trans (land (dw (args m c)) (lo t) _ _ _ _ (by blk_ext [idx t]))
    · idx_vars y
      exact (dw_first (blk_hi m c t) (found_A m c t h) _ _ _ _).trans (land (dw (args m c)) (hi t) _ _ _ _ (by blk_ext [idx t]))
  · rw [outsAt0_B m c t h]; frame_out; simp only [read_unread_whole]
    canon_tiles y h1
    · idx_vars y
      exact (dw_second (blk_lo m c t) (mid m c t (found_B m c t h)) _ _ _ _).trans (land (dw (args m c)) (lo t) _ _ _ _ (by blk_ext [idx t]))
    · idx_vars y
      exact (dw_first (blk_hi m c t) (found_B m c t h) _ _ _ _).trans (land (dw (args m c)) (hi t) _ _ _ _ (by blk_ext [idx t]))
theorem final10 (c : Dev nD) : (dats m 0 c).arrAt 10 cfg0.N = rows (dq (args m c)) := by
  refine (dats m 0 c).arrAt_eq_of_covers 10 _ (by decide +kernel) fun t hf y => ?_
  blk_simp; rw [after0_10]
  have ht := hN t
  by_cases h : t.val % 16 = 0
  · rw [outsAt0_A m c t h]; frame_out
    canon_tiles y h1
    · idx_vars y
      exact (dq_second (blk_lo m c t) _ _ _ _).trans (land (dq (args m c)) (lo t) _ _ _ _ (by blk_ext [idx t]))
    · idx_vars y
      exact (dq_first (blk_hi m c t) _ _ _ _).trans (land (dq (args m c)) (hi t) _ _ _ _ (by blk_ext [idx t]))
  · rw [outsAt0_B m c t h]; frame_out
    canon_tiles y h1
    · idx_vars y
      exact (dq_second (blk_lo m c t) _ _ _ _).trans (land (dq (args m c)) (lo t) _ _ _ _ (by blk_ext [idx t]))
    · idx_vars y
      exact (dq_first (blk_hi m c t) _ _ _ _).trans (land (dq (args m c)) (hi t) _ _ _ _ (by blk_ext [idx t]))
theorem final11 (c : Dev nD) : (dats m 0 c).arrAt 11 cfg0.N = rows (dk (args m c)) := by
  refine (dats m 0 c).arrAt_eq_of_covers 11 _ (by decide +kernel) fun t hf y => ?_
  blk_simp; rw [after0_11]
  have ht := hN t
  by_cases h : t.val % 16 = 0
  · rw [outsAt0_A m c t h]; frame_out
    canon_tiles y h1
    · idx_vars y
      exact (dk_second (blk_lo m c t) (mid m c t (found_A m c t h)) _ _ _ _).trans (land (dk (args m c)) (lo t) _ _ _ _ (by blk_ext [idx t]))
    · idx_vars y
      exact (dk_first (blk_hi m c t) (found_A m c t h) _ _ _ _).trans (land (dk (args m c)) (hi t) _ _ _ _ (by blk_ext [idx t]))
  · rw [outsAt0_B m c t h]; frame_out; simp only [read_unread_whole]
    canon_tiles y h1
    · idx_vars y
      exact (dk_second (blk_lo m c t) (mid m c t (found_B m c t h)) _ _ _ _).trans (land (dk (args m c)) (lo t) _ _ _ _ (by blk_ext [idx t]))
    · idx_vars y
      exact (dk_first (blk_hi m c t) (found_B m c t h) _ _ _ _).trans (land (dk (args m c)) (hi t) _ _ _ _ (by blk_ext [idx t]))
theorem final12 (c : Dev nD) : (dats m 0 c).arrAt 12 cfg0.N = rows (da (args m c)) := by
  refine (dats m 0 c).arrAt_eq_of_covers 12 _ (by decide +kernel) fun t hf y => ?_
  blk_simp; rw [after0_12]
  have ht := hN t
  by_cases h : t.val % 16 = 0
  · rw [outsAt0_A m c t h]; frame_out
    canon_tiles y h1
    · idx_vars y
      exact (da_second (blk_lo m c t) _ _ _ _).trans (land (da (args m c)) (lo t) _ _ _ _ (by blk_ext [idx t]))
    · idx_vars y
      exact (da_first (blk_hi m c t) _ _ _ _).trans (land (da (args m c)) (hi t) _ _ _ _ (by blk_ext [idx t]))
  · rw [outsAt0_B m c t h]; frame_out
    canon_tiles y h1
    · idx_vars y
      exact (da_second (blk_lo m c t) _ _ _ _).trans (land (da (args m c)) (lo t) _ _ _ _ (by blk_ext [idx t]))
    · idx_vars y
      exact (da_first (blk_hi m c t) _ _ _ _).trans (land (da (args m c)) (hi t) _ _ _ _ (by blk_ext [idx t]))
set_option maxHeartbeats 1600000 in
theorem final13 (c : Dev nD) : (dats m 0 c).arrAt 13 cfg0.N = rows8 (dg (args m c)) := by
  refine (dats m 0 c).arrAt_eq_of_covers 13 _ (by decide +kernel) fun t hf y => ?_
  blk_simp; rw [after0_13]
  have ht := hN t
  by_cases h : t.val % 16 = 0
  · rw [outsAt0_A m c t h]; frame_out
    canon_tiles y h1
    · idx_vars y
      exact (dg_second (blk_lo m c t) (mid m c t (found_A m c t h)) _ _ _ _).trans (land8 (dg (args m c)) (lo t) y0 y1 y2 y3 (by blk_ext [idx t]))
    · idx_vars y
      exact (dg_first (blk_hi m c t) (found_A m c t h) _ _ _ _).trans (land8 (dg (args m c)) (hi t) y0 y1 y2 y3 (by blk_ext [idx t]))
  · rw [outsAt0_B m c t h]; frame_out; simp only [read_unread_whole]
    canon_tiles y h1
    · idx_vars y
      exact (dg_second (blk_lo m c t) (mid m c t (found_B m c t h)) _ _ _ _).trans (land8 (dg (args m c)) (lo t) y0 y1 y2 y3 (by blk_ext [idx t]))
    · idx_vars y
      exact (dg_first (blk_hi m c t) (found_B m c t h) _ _ _ _).trans (land8 (dg (args m c)) (hi t) y0 y1 y2 y3 (by blk_ext [idx t]))
end Cert.ScanBwdIdeal.Mine
-- ==== Proof.Scan.KernelRun.lean ====
module

public import proofs.«01_k».proof.Proof.Scan.Kernel

/-! The kernel's run: each of its six results is the recurrence's. -/

@[expose] public section

set_option maxRecDepth 16384

noncomputable section

open Idealize.ShloMosaic Idealize.ShloMosaic.TcCoe Idealize.SL.Sem

namespace Cert.ScanBwdIdeal.Mine
open Cert.ScanBwdIdeal Cert.ScanBwdIdeal.Gen Cert.Scan

/-- Every run of the kernel ends with the six gradients of the recurrence, and with its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12_0) = rows (Scan.du (args m c))
      ∧ r.2.mem ((c.tc : Thread nD τ).loc main_v12_1) = rows (Scan.dw (args m c))
      ∧ r.2.mem ((c.tc : Thread nD τ).loc main_v12_2) = rows (Scan.dq (args m c))
      ∧ r.2.mem ((c.tc : Thread nD τ).loc main_v12_3) = rows (Scan.dk (args m c))
      ∧ r.2.mem ((c.tc : Thread nD τ).loc main_v12_4) = rows (Scan.da (args m c))
      ∧ r.2.mem ((c.tc : Thread nD τ).loc main_v12_5) = rows8 (Scan.dg (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2⟩) (Value.run_blocks m ρ)

end Cert.ScanBwdIdeal.Mine
-- ==== Proof.Scan.RefRun.lean ====
module

public import proofs.«01_k».proof.Proof.Gen.ScanBwdRefIdeal.Run
public import proofs.«01_k».proof.Proof.Gen.ScanBwdRefIdeal.Step

/-!
The reference's run over the step of `Gen/ScanBwdRefIdeal/Step.lean`: a valuation that holds a state holds, after one trip,
the state that `step` gives, one lemma for each value of the trip; so the results are read off the state after 32 steps.
-/

@[expose] public section

noncomputable section

namespace Cert.ScanBwdRefIdeal.Trips

open Idealize.ShloMosaic Idealize.ShloMosaic.TcCoe Idealize.SL.Sem Idealize.ShloMosaic.StableHlo
open Cert.ScanBwdRefIdeal Cert.ScanBwdRefIdeal.Gen Cert.ScanBwdRefIdeal.Value
open Cert.ScanBwdRefIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v22_9) = s.main_v22_9
  f_10 : V0 (Proc.devRef .tc main_v22_10) = s.main_v22_10
  f_11 : V0 (Proc.devRef .tc main_v22_11) = s.main_v22_11
  f_12 : V0 (Proc.devRef .tc main_v22_12) = s.main_v22_12
  f_13 : V0 (Proc.devRef .tc main_v22_13) = s.main_v22_13
  f_14 : V0 (Proc.devRef .tc main_v22_14) = s.main_v22_14
  f_15 : V0 (Proc.devRef .tc main_v22_15) = s.main_v22_15
  f_0 : V0 (Proc.devRef .tc main_v22_0) = s.main_v22_0
  f_1 : V0 (Proc.devRef .tc main_v22_1) = s.main_v22_1
  f_2 : V0 (Proc.devRef .tc main_v22_2) = s.main_v22_2
  f_3 : V0 (Proc.devRef .tc main_v22_3) = s.main_v22_3
  f_4 : V0 (Proc.devRef .tc main_v22_4) = s.main_v22_4
  f_5 : V0 (Proc.devRef .tc main_v22_5) = s.main_v22_5
  f_6 : V0 (Proc.devRef .tc main_v22_6) = s.main_v22_6
  f_7 : V0 (Proc.devRef .tc main_v22_7) = s.main_v22_7
  n_8 : V0 (Proc.devRef .tc main_v22_8) = constantI S_ 32 (BitVec.ofNat 32 j)

variable {V0 s j}

set_option maxRecDepth 8192 in
theorem al_0 (h : Holds V0 s j) : (constantI S_ 32 32#32 : (Proc.devRef .tc main_while0b_c_21 : DevRef τ sig).ty.Contents (Elt F)) = Cert.ScanBwdRefIdeal.Step.b0 j s := by
  unfold Cert.ScanBwdRefIdeal.Step.b0
  rfl
set_option maxRecDepth 8192 in
theorem al_1 (h : Holds V0 s j) : (subi (constantI S_ 32 32#32) (V0 (Proc.devRef .tc main_v22_8)) : (Proc.devRef .tc main_while0b_v37 : DevRef τ sig).ty.Contents (Elt F)) = Cert.ScanBwdRefIdeal.Step.b1 j s := by
  unfold Cert.ScanBwdRefIdeal.Step.b1
  rw [← al_0 h, h.n_8]
  try rfl
set_option maxRecDepth 8192 in
theorem al_2 (h : Holds V0 s j) : (constantI S_ 32 1#32 : (Proc.devRef .tc main_while0b_c_22 : DevRef τ sig).ty.Contents (Elt F)) = Cert.ScanBwdRefIdeal.Step.b2 j s := by
  unfold Cert.ScanBwdRefIdeal.Step.b2
  rfl
set_option maxRecDepth 8192 in
theorem al_3 (h : Holds V0 s j) : (res_main_while0b_v38 V0 : (Proc.devRef .tc main_while0b_v38 : DevRef τ sig).ty.Contents (Elt F)) = Cert.ScanBwdRefIdeal.Step.b3 j s := by
  unfold res_main_while0b_v38 Cert.ScanBwdRefIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ScanBwdRefIdeal.Step.b4 j s := by
  unfold Cert.ScanBwdRefIdeal.Step.b4
  rfl
set_option maxRecDepth 8192 in
theorem al_5 (h : Holds V0 s j) : (constantI S_ 32 0#32 : (Proc.devRef .tc main_while0b_call0_c_0 : DevRef τ sig).ty.Contents (Elt F)) = Cert.ScanBwdRefIdeal.Step.b5 j s := by
  unfold Cert.ScanBwdRefIdeal.Step.b5
  rfl
set_option maxRecDepth 8192 in
theorem al_6 (h : Holds V0 s j) : (constantI S_ 32 0#32 : (Proc.devRef .tc main_while0b_call0_c_1 : DevRef τ sig).ty.Contents (Elt F)) = Cert.ScanBwdRefIdeal.Step.b6 j s := by
  unfold Cert.ScanBwdRefIdeal.Step.b6
  rfl
set_option maxRecDepth 8192 in
theorem al_7 (h : Holds V0 s j) : (constantI S_ 32 0#32 : (Proc.devRef .tc main_while0b_call0_c_2 : DevRef τ sig).ty.Contents (Elt F)) = Cert.ScanBwdRefIdeal.Step.b7 j s := by
  unfold Cert.ScanBwdRefIdeal.Step.b7
  rfl
set_option maxRecDepth 8192 in
theorem al_8 (h : Holds V0 s j) : (Host.dynamicSlice S1x2x8x128x128 (V0 (Proc.devRef .tc main_v22_0)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x128x128_S1x2x8x128x128 : (Proc.devRef .tc main_while0b_call0_v0 : DevRef τ sig).ty.Contents (Elt F)) = Cert.ScanBwdRefIdeal.Step.b8 j s := by
  unfold Cert.ScanBwdRefIdeal.Step.b8
  rw [← al_3 h, ← al_4 h, ← al_5 h, ← al_6 h, ← al_7 h, h.f_0]
  try rfl
set_option maxRecDepth 8192 in
theorem al_9 (h : Holds V0 s j) : (res_main_while0b_v39 V0 : (Proc.devRef .tc main_while0b_v39 : DevRef τ sig).ty.Contents (Elt F)) = Cert.ScanBwdRefIdeal.Step.b9 j s := by
  unfold res_main_while0b_v39 Cert.ScanBwdRefIdeal.Step.b9
  rw [← al_8 h]
  try rfl
set_option maxRecDepth 8192 in
theorem al_10 (h : Holds V0 s j) : (constantI S_ 32 0#32 : (Proc.devRef .tc main_while0b_call1_c : DevRef τ sig).ty.Contents (Elt F)) = Cert.ScanBwdRefIdeal.Step.b10 j s := by
  unfold Cert.ScanBwdRefIdeal.Step.b10
  rfl
set_option maxRecDepth 8192 in
theorem al_11 (h : Holds V0 s j) : (constantI S_ 32 0#32 : (Proc.devRef .tc main_while0b_call1_c_0 : DevRef τ sig).ty.Contents (Elt F)) = Cert.ScanBwdRefIdeal.Step.b11 j s := by
  unfold Cert.ScanBwdRefIdeal.Step.b11
  rfl
set_option maxRecDepth 8192 in
theorem al_12 (h : Holds V0 s j) : (constantI S_ 32 0#32 : (Proc.devRef .tc main_while0b_call1_c_1 : DevRef τ sig).ty.Contents (Elt F)) = Cert.ScanBwdRefIdeal.Step.b12 j s := by
  unfold Cert.ScanBwdRefIdeal.Step.b12
  rfl
set_option maxRecDepth 8192 in
theorem al_13 (h : Holds V0 s j) : (constantI S_ 32 0#32 : (Proc.devRef .tc main_while0b_call1_c_2 : DevRef τ sig).ty.Contents (Elt F)) = Cert.ScanBwdRefIdeal.Step.b13 j s := by
  unfold Cert.ScanBwdRefIdeal.Step.b13
  rfl
set_option maxRecDepth 8192 in
theorem al_14 (h : Holds V0 s j) : (Host.dynamicSlice S1x2x8x64x128 (V0 (Proc.devRef .tc main_v22_1)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x64x128_S1x2x8x64x128 : (Proc.devRef .tc main_while0b_call1_v0 : DevRef τ sig).ty.Contents (Elt F)) = Cert.ScanBwdRefIdeal.Step.b14 j s := by
  unfold Cert.ScanBwdRefIdeal.Step.b14
  rw [← al_3 h, ← al_10 h, ← al_11 h, ← al_12 h, ← al_13 h, h.f_1]
  try rfl
set_option maxRecDepth 8192 in
theorem al_15 (h : Holds V0 s j) : (res_main_while0b_v40 V0 : (Proc.devRef .tc main_while0b_v40 : DevRef τ sig).ty.Contents (Elt F)) = Cert.ScanBwdRefIdeal.Step.b15 j s := by
  unfold res_main_while0b_v40 Cert.ScanBwdRefIdeal.Step.b15
  rw [← al_14 h]
  try rfl
set_option maxRecDepth 8192 in
theorem al_16 (h : Holds V0 s j) : (constantI S_ 32 0#32 : (Proc.devRef .tc main_while0b_call2_c : DevRef τ sig).ty.Contents (Elt F)) = Cert.ScanBwdRefIdeal.Step.b16 j s := by
  unfold Cert.ScanBwdRefIdeal.Step.b16
  rfl
set_option maxRecDepth 8192 in
theorem al_17 (h : Holds V0 s j) : (constantI S_ 32 0#32 : (Proc.devRef .tc main_while0b_call2_c_0 : DevRef τ sig).ty.Contents (Elt F)) = Cert.ScanBwdRefIdeal.Step.b17 j s := by
  unfold Cert.ScanBwdRefIdeal.Step.b17
  rfl
set_option maxRecDepth 8192 in
theorem al_18 (h : Holds V0 s j) : (constantI S_ 32 0#32 : (Proc.devRef .tc main_while0b_call2_c_1 : DevRef τ sig).ty.Contents (Elt F)) = Cert.ScanBwdRefIdeal.Step.b18 j s := by
  unfold Cert.ScanBwdRefIdeal.Step.b18
  rfl
set_option maxRecDepth 8192 in
theorem al_19 (h : Holds V0 s j) : (constantI S_ 32 0#32 : (Proc.devRef .tc main_while0b_call2_c_2 : DevRef τ sig).ty.Contents (Elt F)) = Cert.ScanBwdRefIdeal.Step.b19 j s := by
  unfold Cert.ScanBwdRefIdeal.Step.b19
  rfl
set_option maxRecDepth 8192 in
theorem al_20 (h : Holds V0 s j) : (Host.dynamicSlice S1x2x8x64x128 (V0 (Proc.devRef .tc main_v22_2)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x64x128_S1x2x8x64x128 : (Proc.devRef .tc main_while0b_call2_v0 : DevRef τ sig).ty.Contents (Elt F)) = Cert.ScanBwdRefIdeal.Step.b20 j s := by
  unfold Cert.ScanBwdRefIdeal.Step.b20
  rw [← al_3 h, ← al_16 h, ← al_17 h, ← al_18 h, ← al_19 h, h.f_2]
  try rfl
set_option maxRecDepth 8192 in
theorem al_21 (h : Holds V0 s j) : (res_main_while0b_v41 V0 : (Proc.devRef .tc main_while0b_v41 : DevRef τ sig).ty.Contents (Elt F)) = Cert.ScanBwdRefIdeal.Step.b21 j s := by
  unfold res_main_while0b_v41 Cert.ScanBwdRefIdeal.Step.b21
  rw [← al_20 h]
  try rfl
set_option maxRecDepth 8192 in
theorem al_22 (h : Holds V0 s j) : (constantI S_ 32 0#32 : (Proc.devRef .tc main_while0b_call3_c : DevRef τ sig).ty.Contents (Elt F)) = Cert.ScanBwdRefIdeal.Step.b22 j s := by
  unfold Cert.ScanBwdRefIdeal.Step.b22
  rfl
set_option maxRecDepth 8192 in
theorem al_23 (h : Holds V0 s j) : (constantI S_ 32 0#32 : (Proc.devRef .tc main_while0b_call3_c_0 : DevRef τ sig).ty.Contents (Elt F)) = Cert.ScanBwdRefIdeal.Step.b23 j s := by
  unfold Cert.ScanBwdRefIdeal.Step.b23
  rfl
set_option maxRecDepth 8192 in
theorem al_24 (h : Holds V0 s j) : (constantI S_ 32 0#32 : (Proc.devRef .tc main_while0b_call3_c_1 : DevRef τ sig).ty.Contents (Elt F)) = Cert.ScanBwdRefIdeal.Step.b24 j s := by
  unfold Cert.ScanBwdRefIdeal.Step.b24
  rfl
set_option maxRecDepth 8192 in
theorem al_25 (h : Holds V0 s j) : (constantI S_ 32 0#32 : (Proc.devRef .tc main_while0b_call3_c_2 : DevRef τ sig).ty.Contents (Elt F)) = Cert.ScanBwdRefIdeal.Step.b25 j s := by
  unfold Cert.ScanBwdRefIdeal.Step.b25
  rfl
set_option maxRecDepth 8192 in
theorem al_26 (h : Holds V0 s j) : (Host.dynamicSlice S1x2x8x64x128 (V0 (Proc.devRef .tc main_v22_3)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x64x128_S1x2x8x64x128 : (Proc.devRef .tc main_while0b_call3_v0 : DevRef τ sig).ty.Contents (Elt F)) = Cert.ScanBwdRefIdeal.Step.b26 j s := by
  unfold Cert.ScanBwdRefIdeal.Step.b26
  rw [← al_3 h, ← al_22 h, ← al_23 h, ← al_24 h, ← al_25 h, h.f_3]
  try rfl
set_option maxRecDepth 8192 in
theorem al_27 (h : Holds V0 s j) : (shapeCast S2x8x64x128 (Host.dynamicSlice S1x2x8x64x128 (V0 (Proc.devRef .tc main_v22_3)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x64x128_S1x2x8x64x128) shapeCasts_S1x2x8x64x128_S2x8x64x128 : (Proc.devRef .tc main_while0b_v42 : DevRef τ sig).ty.Contents (Elt F)) = Cert.ScanBwdRefIdeal.Step.b27 j s := by
  unfold Cert.ScanBwdRefIdeal.Step.b27
  rw [← al_26 h]
  try rfl
set_option maxRecDepth 8192 in
theorem al_28 (h : Holds V0 s j) : (constantI S_ 32 0#32 : (Proc.devRef .tc main_while0b_call4_c : DevRef τ sig).ty.Contents (Elt F)) = Cert.ScanBwdRefIdeal.Step.b28 j s := by
  unfold Cert.ScanBwdRefIdeal.Step.b28
  rfl
set_option maxRecDepth 8192 in
theorem al_29 (h : Holds V0 s j) : (constantI S_ 32 0#32 : (Proc.devRef .tc main_while0b_call4_c_0 : DevRef τ sig).ty.Contents (Elt F)) = Cert.ScanBwdRefIdeal.Step.b29 j s := by
  unfold Cert.ScanBwdRefIdeal.Step.b29
  rfl
set_option maxRecDepth 8192 in
theorem al_30 (h : Holds V0 s j) : (constantI S_ 32 0#32 : (Proc.devRef .tc main_while0b_call4_c_1 : DevRef τ sig).ty.Contents (Elt F)) = Cert.ScanBwdRefIdeal.Step.b30 j s := by
  unfold Cert.ScanBwdRefIdeal.Step.b30
  rfl
set_option maxRecDepth 8192 in
theorem al_31 (h : Holds V0 s j) : (constantI S_ 32 0#32 : (Proc.devRef .tc main_while0b_call4_c_2 : DevRef τ sig).ty.Contents (Elt F)) = Cert.ScanBwdRefIdeal.Step.b31 j s := by
  unfold Cert.ScanBwdRefIdeal.Step.b31
  rfl
set_option maxRecDepth 8192 in
theorem al_32 (h : Holds V0 s j) : (Host.dynamicSlice S1x2x8x64x64 (V0 (Proc.devRef .tc main_v22_4)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x64x64_S1x2x8x64x64 : (Proc.devRef .tc main_while0b_call4_v0 : DevRef τ sig).ty.Contents (Elt F)) = Cert.ScanBwdRefIdeal.Step.b32 j s := by
  unfold Cert.ScanBwdRefIdeal.Step.b32
  rw [← al_3 h, ← al_28 h, ← al_29 h, ← al_30 h, ← al_31 h, h.f_4]
  try rfl
set_option maxRecDepth 8192 in
theorem al_33 (h : Holds V0 s j) : (res_main_while0b_v43 V0 : (Proc.devRef .tc main_while0b_v43 : DevRef τ sig).ty.Contents (Elt F)) = Cert.ScanBwdRefIdeal.Step.b33 j s := by
  unfold res_main_while0b_v43 Cert.ScanBwdRefIdeal.Step.b33
  rw [← al_32 h]
  try rfl
set_option maxRecDepth 8192 in
theorem al_34 (h : Holds V0 s j) : (constantI S_ 32 0#32 : (Proc.devRef .tc main_while0b_call5_c : DevRef τ sig).ty.Contents (Elt F)) = Cert.ScanBwdRefIdeal.Step.b34 j s := by
  unfold Cert.ScanBwdRefIdeal.Step.b34
  rfl
set_option maxRecDepth 8192 in
theorem al_35 (h : Holds V0 s j) : (constantI S_ 32 0#32 : (Proc.devRef .tc main_while0b_call5_c_0 : DevRef τ sig).ty.Contents (Elt F)) = Cert.ScanBwdRefIdeal.Step.b35 j s := by
  unfold Cert.ScanBwdRefIdeal.Step.b35
  rfl
set_option maxRecDepth 8192 in
theorem al_36 (h : Holds V0 s j) : (constantI S_ 32 0#32 : (Proc.devRef .tc main_while0b_call5_c_1 : DevRef τ sig).ty.Contents (Elt F)) = Cert.ScanBwdRefIdeal.Step.b36 j s := by
  unfold Cert.ScanBwdRefIdeal.Step.b36
  rfl
set_option maxRecDepth 8192 in
theorem al_37 (h : Holds V0 s j) : (constantI S_ 32 0#32 : (Proc.devRef .tc main_while0b_call5_c_2 : DevRef τ sig).ty.Contents (Elt F)) = Cert.ScanBwdRefIdeal.Step.b37 j s := by
  unfold Cert.ScanBwdRefIdeal.Step.b37
  rfl
set_option maxRecDepth 8192 in
theorem al_38 (h : Holds V0 s j) : (Host.dynamicSlice S1x2x8x64x128 (V0 (Proc.devRef .tc main_v22_5)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x64x128_S1x2x8x64x128 : (Proc.devRef .tc main_while0b_call5_v0 : DevRef τ sig).ty.Contents (Elt F)) = Cert.ScanBwdRefIdeal.Step.b38 j s := by
  unfold Cert.ScanBwdRefIdeal.Step.b38
  rw [← al_3 h, ← al_34 h, ← al_35 h, ← al_36 h, ← al_37 h, h.f_5]
  try rfl
set_option maxRecDepth 8192 in
theorem al_39 (h : Holds V0 s j) : (res_main_while0b_v44 V0 : (Proc.devRef .tc main_while0b_v44 : DevRef τ sig).ty.Contents (Elt F)) = Cert.ScanBwdRefIdeal.Step.b39 j s := by
  unfold res_main_while0b_v44 Cert.ScanBwdRefIdeal.Step.b39
  rw [← al_38 h]
  try rfl
set_option maxRecDepth 8192 in
theorem al_40 (h : Holds V0 s j) : (constantI S_ 32 0#32 : (Proc.devRef .tc main_while0b_call6_c : DevRef τ sig).ty.Contents (Elt F)) = Cert.ScanBwdRefIdeal.Step.b40 j s := by
  unfold Cert.ScanBwdRefIdeal.Step.b40
  rfl
set_option maxRecDepth 8192 in
theorem al_41 (h : Holds V0 s j) : (constantI S_ 32 0#32 : (Proc.devRef .tc main_while0b_call6_c_0 : DevRef τ sig).ty.Contents (Elt F)) = Cert.ScanBwdRefIdeal.Step.b41 j s := by
  unfold Cert.ScanBwdRefIdeal.Step.b41
  rfl
set_option maxRecDepth 8192 in
theorem al_42 (h : Holds V0 s j) : (Host.dynamicSlice S1x2x8 (V0 (Proc.devRef .tc main_v22_6)) (fun k => (((![res_main_while0b_v38 V0, constantI S_ 32 0#32, constantI S_ 32 0#32] : Fin 3 → (⟨S_, .i32⟩ : BufTy).Contents (Elt F))) k (Shape.Idx.first h_S_)).toInt) sliceFits_S32x2x8_S1x2x8 : (Proc.devRef .tc main_while0b_call6_v0 : DevRef τ sig).ty.Contents (Elt F)) = Cert.ScanBwdRefIdeal.Step.b42 j s := by
  unfold Cert.ScanBwdRefIdeal.Step.b42
  rw [← al_3 h, ← al_40 h, ← al_41 h, h.f_6]
  try rfl
set_option maxRecDepth 8192 in
theorem al_43 (h : Holds V0 s j) : (shapeCast S2x8 (Host.dynamicSlice S1x2x8 (V0 (Proc.devRef .tc main_v22_6)) (fun k => (((![res_main_while0b_v38 V0, constantI S_ 32 0#32, constantI S_ 32 0#32] : Fin 3 → (⟨S_, .i32⟩ : BufTy).Contents (Elt F))) k (Shape.Idx.first h_S_)).toInt) sliceFits_S32x2x8_S1x2x8) shapeCasts_S1x2x8_S2x8 : (Proc.devRef .tc main_while0b_v45 : DevRef τ sig).ty.Contents (Elt F)) = Cert.ScanBwdRefIdeal.Step.b43 j s := by
  unfold Cert.ScanBwdRefIdeal.Step.b43
  rw [← al_42 h]
  try rfl
set_option maxRecDepth 8192 in
theorem al_44 (h : Holds V0 s j) : (constantI S_ 32 0#32 : (Proc.devRef .tc main_while0b_call7_c : DevRef τ sig).ty.Contents (Elt F)) = Cert.ScanBwdRefIdeal.Step.b44 j s := by
  unfold Cert.ScanBwdRefIdeal.Step.b44
  rfl
set_option maxRecDepth 8192 in
theorem al_45 (h : Holds V0 s j) : (constantI S_ 32 0#32 : (Proc.devRef .tc main_while0b_call7_c_0 : DevRef τ sig).ty.Contents (Elt F)) = Cert.ScanBwdRefIdeal.Step.b45 j s := by
  unfold Cert.ScanBwdRefIdeal.Step.b45
  rfl
set_option maxRecDepth 8192 in
theorem al_46 (h : Holds V0 s j) : (constantI S_ 32 0#32 : (Proc.devRef .tc main_while0b_call7_c_1 : DevRef τ sig).ty.Contents (Elt F)) = Cert.ScanBwdRefIdeal.Step.b46 j s := by
  unfold Cert.ScanBwdRefIdeal.Step.b46
  rfl
set_option maxRecDepth 8192 in
theorem al_47 (h : Holds V0 s j) : (constantI S_ 32 0#32 : (Proc.devRef .tc main_while0b_call7_c_2 : DevRef τ sig).ty.Contents (Elt F)) = Cert.ScanBwdRefIdeal.Step.b47 j s := by
  unfold Cert.ScanBwdRefIdeal.Step.b47
  rfl
set_option maxRecDepth 8192 in
theorem al_48 (h : Holds V0 s j) : (Host.dynamicSlice S1x2x8x64x128 (V0 (Proc.devRef .tc main_v22_7)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x8x64x128_S1x2x8x64x128 : (Proc.devRef .tc main_while0b_call7_v0 : DevRef τ sig).ty.Contents (Elt F)) = Cert.ScanBwdRefIdeal.Step.b48 j s := by
  unfold Cert.ScanBwdRefIdeal.Step.b48
  rw [← al_3 h, ← al_44 h, ← al_45 h, ← al_46 h, ← al_47 h, h.f_7]
  try rfl
set_option maxRecDepth 8192 in
theorem al_49 (h : Holds V0 s j) : (res_main_while0b_v46 V0 : (Proc.devRef .tc main_while0b_v46 : DevRef τ sig).ty.Contents (Elt F)) = Cert.ScanBwdRefIdeal.Step.b49 j s := by
  unfold res_main_while0b_v46 Cert.ScanBwdRefIdeal.Step.b49
  rw [← al_48 h]
  try rfl
set_option maxRecDepth 8192 in
theorem al_50 (h : Holds V0 s j) : (Host.dotGeneral dot_S2x8x64x128_S2x8x128x128_S2x8x64x128_3_2_2_3_01_01 none (res_main_while0b_v41 V0) (res_main_while0b_v39 V0) : (Proc.devRef .tc main_while0b_v47 : DevRef τ sig).ty.Contents (Elt F)) = Cert.ScanBwdRefIdeal.Step.b50 j s := by
  unfold Cert.ScanBwdRefIdeal.Step.b50
  rw [← al_21 h, ← al_9 h]
  try rfl
set_option maxRecDepth 8192 in
theorem al_51 (h : Holds V0 s j) : (res_main_while0b_v48 V0 : (Proc.devRef .tc main_while0b_v48 : DevRef τ sig).ty.Contents (Elt F)) = Cert.ScanBwdRefIdeal.Step.b51 j s := by
  unfold res_main_while0b_v48 Cert.ScanBwdRefIdeal.Step.b51
  rw [← al_27 h, ← al_50 h]
  try rfl
set_option maxRecDepth 8192 in
theorem al_52 (h : Holds V0 s j) : (Host.dotGeneral dot_S2x8x64x128_S2x8x128x128_S2x8x64x128_3_2_2_3_01_01 none (res_main_while0b_v40 V0) (res_main_while0b_v39 V0) : (Proc.devRef .tc main_while0b_v49 : DevRef τ sig).ty.Contents (Elt F)) = Cert.ScanBwdRefIdeal.Step.b52 j s := by
  unfold Cert.ScanBwdRefIdeal.Step.b52
  rw [← al_15 h, ← al_9 h]
  try rfl
set_option maxRecDepth 8192 in
theorem al_53 (h : Holds V0 s j) : (Host.dotGeneral dot_S2x8x64x64_S2x8x64x128_S2x8x64x128_3_2_2_3_01_01 none (res_main_while0b_v43 V0) (res_main_while0b_v48 V0) : (Proc.devRef .tc main_while0b_v50 : DevRef τ sig).ty.Contents (Elt F)) = Cert.ScanBwdRefIdeal.Step.b53 j s := by
  unfold Cert.ScanBwdRefIdeal.Step.b53
  rw [← al_33 h, ← al_51 h]
  try rfl
set_option maxRecDepth 8192 in
theorem al_54 (h : Holds V0 s j) : (addf (Host.dotGeneral dot_S2x8x64x128_S2x8x128x128_S2x8x64x128_3_2_2_3_01_01 none (res_main_while0b_v40 V0) (res_main_while0b_v39 V0)) (Host.dotGeneral dot_S2x8x64x64_S2x8x64x128_S2x8x64x128_3_2_2_3_01_01 none (res_main_while0b_v43 V0) (res_main_while0b_v48 V0)) : (Proc.devRef .tc main_while0b_v51 : DevRef τ sig).ty.Contents (Elt F)) = Cert.ScanBwdRefIdeal.Step.b54 j s := by
  unfold Cert.ScanBwdRefIdeal.Step.b54
  rw [← al_52 h, ← al_53 h]
  try rfl
set_option maxRecDepth 8192 in
theorem al_55 (h : Holds V0 s j) : (res_main_while0b_v52 V0 : (Proc.devRef .tc main_while0b_v52 : DevRef τ sig).ty.Contents (Elt F)) = Cert.ScanBwdRefIdeal.Step.b55 j s := by
  unfold res_main_while0b_v52 Cert.ScanBwdRefIdeal.Step.b55
  rw [← al_43 h]
  try rfl
set_option maxRecDepth 8192 in
theorem al_56 (h : Holds V0 s j) : (broadcastInDim S2x8x128x128 ![0, 1, 2, 3] bcast_S2x8x1x1_S2x8x128x128_0_1_2_3 (res_main_while0b_v52 V0) : (Proc.devRef .tc main_while0b_v53 : DevRef τ sig).ty.Contents (Elt F)) = Cert.ScanBwdRefIdeal.Step.b56 j s := by
  unfold Cert.ScanBwdRefIdeal.Step.b56
  rw [← al_55 h]
  try rfl
set_option maxRecDepth 8192 in
theorem al_57 (h : Holds V0 s j) : (mulf (res_main_while0b_v39 V0) (broadcastInDim S2x8x128x128 ![0, 1, 2, 3] bcast_S2x8x1x1_S2x8x128x128_0_1_2_3 (res_main_while0b_v52 V0)) : (Proc.devRef .tc main_while0b_v54 : DevRef τ sig).ty.Contents (Elt F)) = Cert.ScanBwdRefIdeal.Step.b57 j s := by
  unfold Cert.ScanBwdRefIdeal.Step.b57
  rw [← al_9 h, ← al_56 h]
  try rfl
set_option maxRecDepth 8192 in
theorem al_58 (h : Holds V0 s j) : (Host.dotGeneral dot_S2x8x64x128_S2x8x64x128_S2x8x128x128_2_2_3_3_01_01 none (res_main_while0b_v44 V0) (res_main_while0b_v48 V0) : (Proc.devRef .tc main_while0b_v55 : DevRef τ sig).ty.Contents (Elt F)) = Cert.ScanBwdRefIdeal.Step.b58 j s := by
  unfold Cert.ScanBwdRefIdeal.Step.b58
  rw [← al_39 h, ← al_51 h]
  try rfl
set_option maxRecDepth 8192 in
theorem al_59 (h : Holds V0 s j) : (addf (mulf (res_main_while0b_v39 V0) (broadcastInDim S2x8x128x128 ![0, 1, 2, 3] bcast_S2x8x1x1_S2x8x128x128_0_1_2_3 (res_main_while0b_v52 V0))) (Host.dotGeneral dot_S2x8x64x128_S2x8x64x128_S2x8x128x128_2_2_3_3_01_01 none (res_main_while0b_v44 V0) (res_main_while0b_v48 V0)) : (Proc.devRef .tc main_while0b_v56 : DevRef τ sig).ty.Contents (Elt F)) = Cert.ScanBwdRefIdeal.Step.b59 j s := by
  unfold Cert.ScanBwdRefIdeal.Step.b59
  rw [← al_57 h, ← al_58 h]
  try rfl
set_option maxRecDepth 8192 in
theorem al_60 (h : Holds V0 s j) : (Host.dotGeneral dot_S2x8x128x128_S2x8x64x128_S2x8x128x64_2_3_3_2_01_01 none (V0 (Proc.devRef .tc main_v22_9)) (res_main_while0b_v44 V0) : (Proc.devRef .tc main_while0b_v57 : DevRef τ sig).ty.Contents (Elt F)) = Cert.ScanBwdRefIdeal.Step.b60 j s := by
  unfold Cert.ScanBwdRefIdeal.Step.b60
  rw [← al_39 h, h.f_9]
  try rfl
set_option maxRecDepth 8192 in
theorem al_61 (h : Holds V0 s j) : (transpose S2x8x64x128 [0, 1, 3, 2] (Host.dotGeneral dot_S2x8x128x128_S2x8x64x128_S2x8x128x64_2_3_3_2_01_01 none (V0 (Proc.devRef .tc main_v22_9)) (res_main_while0b_v44 V0)) transposes_S2x8x128x64_S2x8x64x128_0_1_3_2 : (Proc.devRef .tc main_while0b_v58 : DevRef τ sig).ty.Contents (Elt F)) = Cert.ScanBwdRefIdeal.Step.b61 j s := by
  unfold Cert.ScanBwdRefIdeal.Step.b61
  rw [← al_60 h]
  try rfl
set_option maxRecDepth 8192 in
theorem al_62 (h : Holds V0 s j) : (Host.dotGeneral dot_S2x8x128x128_S2x8x64x128_S2x8x128x64_3_3_2_2_01_01 none (V0 (Proc.devRef .tc main_v22_9)) (res_main_while0b_v48 V0) : (Proc.devRef .tc main_while0b_v59 : DevRef τ sig).ty.Contents (Elt F)) = Cert.ScanBwdRefIdeal.Step.b62 j s := by
  unfold Cert.ScanBwdRefIdeal.Step.b62
  rw [← al_51 h, h.f_9]
  try rfl
set_option maxRecDepth 8192 in
theorem al_63 (h : Holds V0 s j) : (transpose S2x8x64x128 [0, 1, 3, 2] (Host.dotGeneral dot_S2x8x128x128_S2x8x64x128_S2x8x128x64_3_3_2_2_01_01 none (V0 (Proc.devRef .tc main_v22_9)) (res_main_while0b_v48 V0)) transposes_S2x8x128x64_S2x8x64x128_0_1_3_2 : (Proc.devRef .tc main_while0b_v60 : DevRef τ sig).ty.Contents (Elt F)) = Cert.ScanBwdRefIdeal.Step.b63 j s := by
  unfold Cert.ScanBwdRefIdeal.Step.b63
  rw [← al_62 h]
  try rfl
set_option maxRecDepth 8192 in
theorem al_64 (h : Holds V0 s j) : (mulf (res_main_while0b_v39 V0) (V0 (Proc.devRef .tc main_v22_9)) : (Proc.devRef .tc main_while0b_v61 : DevRef τ sig).ty.Contents (Elt F)) = Cert.ScanBwdRefIdeal.Step.b64 j s := by
  unfold Cert.ScanBwdRefIdeal.Step.b64
  rw [← al_9 h, h.f_9]
  try rfl
set_option maxRecDepth 8192 in
theorem al_65 (h : Holds V0 s j) : (constant S_ .f32 0x00000000#32 : (Proc.devRef .tc main_while0b_cst_23 : DevRef τ sig).ty.Contents (Elt F)) = Cert.ScanBwdRefIdeal.Step.b65 j s := by
  unfold Cert.ScanBwdRefIdeal.Step.b65
  rfl
set_option maxRecDepth 8192 in
theorem al_66 (h : Holds V0 s j) : (Host.reduceAdd (mulf (res_main_while0b_v39 V0) (V0 (Proc.devRef .tc main_v22_9))) (constant S_ .f32 0x00000000#32) reducesTo_S2x8x128x128_S2x8_d2_3 h_S_ : (Proc.devRef .tc main_while0b_v62 : DevRef τ sig).ty.Contents (Elt F)) = Cert.ScanBwdRefIdeal.Step.b66 j s := by
  unfold Cert.ScanBwdRefIdeal.Step.b66
  rw [← al_64 h, ← al_65 h]
  try rfl
set_option maxRecDepth 8192 in
theorem al_67 (h : Holds V0 s j) : (shapeCast S2x8x1x1 (Host.reduceAdd (mulf (res_main_while0b_v39 V0) (V0 (Proc.devRef .tc main_v22_9))) (constant S_ .f32 0x00000000#32) reducesTo_S2x8x128x128_S2x8_d2_3 h_S_) shapeCasts_S2x8_S2x8x1x1 : (Proc.devRef .tc main_while0b_v63 : DevRef τ sig).ty.Contents (Elt F)) = Cert.ScanBwdRefIdeal.Step.b67 j s := by
  unfold Cert.ScanBwdRefIdeal.Step.b67
  rw [← al_66 h]
  try rfl
set_option maxRecDepth 8192 in
theorem al_68 (h : Holds V0 s j) : (broadcastInDim S2x8x128x128 ![0, 1, 2, 3] bcast_S2x8x1x1_S2x8x128x128_0_1_2_3 (res_main_while0b_v52 V0) : (Proc.devRef .tc main_while0b_v64 : DevRef τ sig).ty.Contents (Elt F)) = Cert.ScanBwdRefIdeal.Step.b68 j s := by
  unfold Cert.ScanBwdRefIdeal.Step.b68
  rw [← al_55 h]
  try rfl
set_option maxRecDepth 8192 in
theorem al_69 (h : Holds V0 s j) : (mulf (V0 (Proc.devRef .tc main_v22_9)) (broadcastInDim S2x8x128x128 ![0, 1, 2, 3] bcast_S2x8x1x1_S2x8x128x128_0_1_2_3 (res_main_while0b_v52 V0)) : (Proc.devRef .tc main_while0b_v65 : DevRef τ sig).ty.Contents (Elt F)) = Cert.ScanBwdRefIdeal.Step.b69 j s := by
  unfold Cert.ScanBwdRefIdeal.Step.b69
  rw [← al_68 h, h.f_9]
  try rfl
set_option maxRecDepth 8192 in
theorem al_70 (h : Holds V0 s j) : (constant S_ .f32 0x00000000#32 : (Proc.devRef .tc main_while0b_cst_24 : DevRef τ sig).ty.Contents (Elt F)) = Cert.ScanBwdRefIdeal.Step.b70 j s := by
  unfold Cert.ScanBwdRefIdeal.Step.b70
  rfl
set_option maxRecDepth 8192 in
theorem al_71 (h : Holds V0 s j) : (Host.reduceAdd (shapeCast S2x8x1x1 (Host.reduceAdd (mulf (res_main_while0b_v39 V0) (V0 (Proc.devRef .tc main_v22_9))) (constant S_ .f32 0x00000000#32) reducesTo_S2x8x128x128_S2x8_d2_3 h_S_) shapeCasts_S2x8_S2x8x1x1) (constant S_ .f32 0x00000000#32) reducesTo_S2x8x1x1_S2x8_d2_3 h_S_ : (Proc.devRef .tc main_while0b_v66 : DevRef τ sig).ty.Contents (Elt F)) = Cert.ScanBwdRefIdeal.Step.b71 j s := by
  unfold Cert.ScanBwdRefIdeal.Step.b71
  rw [← al_67 h, ← al_70 h]
  try rfl
set_option maxRecDepth 8192 in
theorem al_72 (h : Holds V0 s j) : (Host.dotGeneral dot_S2x8x64x128_S2x8x64x64_S2x8x128x64_2_2_3_3_01_01 none (res_main_while0b_v46 V0) (res_main_while0b_v43 V0) : (Proc.devRef .tc main_while0b_v67 : DevRef τ sig).ty.Contents (Elt F)) = Cert.ScanBwdRefIdeal.Step.b72 j s := by
  unfold Cert.ScanBwdRefIdeal.Step.b72
  rw [← al_49 h, ← al_33 h]
  try rfl
set_option maxRecDepth 8192 in
theorem al_73 (h : Holds V0 s j) : (transpose S2x8x64x128 [0, 1, 3, 2] (Host.dotGeneral dot_S2x8x64x128_S2x8x64x64_S2x8x128x64_2_2_3_3_01_01 none (res_main_while0b_v46 V0) (res_main_while0b_v43 V0)) transposes_S2x8x128x64_S2x8x64x128_0_1_3_2 : (Proc.devRef .tc main_while0b_v68 : DevRef τ sig).ty.Contents (Elt F)) = Cert.ScanBwdRefIdeal.Step.b73 j s := by
  unfold Cert.ScanBwdRefIdeal.Step.b73
  rw [← al_72 h]
  try rfl
set_option maxRecDepth 8192 in
theorem al_74 (h : Holds V0 s j) : (res_main_while0b_v69 V0 : (Proc.devRef .tc main_while0b_v69 : DevRef τ sig).ty.Contents (Elt F)) = Cert.ScanBwdRefIdeal.Step.b74 j s := by
  unfold res_main_while0b_v69 Cert.ScanBwdRefIdeal.Step.b74
  rw [← al_61 h, ← al_73 h]
  try rfl
set_option maxRecDepth 8192 in
theorem al_75 (h : Holds V0 s j) : (Host.dotGeneral dot_S2x8x64x128_S2x8x64x128_S2x8x64x64_3_3_2_2_01_01 none (res_main_while0b_v46 V0) (res_main_while0b_v48 V0) : (Proc.devRef .tc main_while0b_v70 : DevRef τ sig).ty.Contents (Elt F)) = Cert.ScanBwdRefIdeal.Step.b75 j s := by
  unfold Cert.ScanBwdRefIdeal.Step.b75
  rw [← al_49 h, ← al_51 h]
  try rfl
set_option maxRecDepth 8192 in
theorem al_76 (h : Holds V0 s j) : (Host.dotGeneral dot_S2x8x64x128_S2x8x64x128_S2x8x128x128_2_2_3_3_01_01 none (res_main_while0b_v46 V0) (res_main_while0b_v40 V0) : (Proc.devRef .tc main_while0b_v71 : DevRef τ sig).ty.Contents (Elt F)) = Cert.ScanBwdRefIdeal.Step.b76 j s := by
  unfold Cert.ScanBwdRefIdeal.Step.b76
  rw [← al_49 h, ← al_15 h]
  try rfl
set_option maxRecDepth 8192 in
theorem al_77 (h : Holds V0 s j) : (transpose S2x8x128x128 [0, 1, 3, 2] (Host.dotGeneral dot_S2x8x64x128_S2x8x64x128_S2x8x128x128_2_2_3_3_01_01 none (res_main_while0b_v46 V0) (res_main_while0b_v40 V0)) transposes_S2x8x128x128_S2x8x128x128_0_1_3_2 : (Proc.devRef .tc main_while0b_v72 : DevRef τ sig).ty.Contents (Elt F)) = Cert.ScanBwdRefIdeal.Step.b77 j s := by
  unfold Cert.ScanBwdRefIdeal.Step.b77
  rw [← al_76 h]
  try rfl
set_option maxRecDepth 8192 in
theorem al_78 (h : Holds V0 s j) : (addf (mulf (V0 (Proc.devRef .tc main_v22_9)) (broadcastInDim S2x8x128x128 ![0, 1, 2, 3] bcast_S2x8x1x1_S2x8x128x128_0_1_2_3 (res_main_while0b_v52 V0))) (transpose S2x8x128x128 [0, 1, 3, 2] (Host.dotGeneral dot_S2x8x64x128_S2x8x64x128_S2x8x128x128_2_2_3_3_01_01 none (res_main_while0b_v46 V0) (res_main_while0b_v40 V0)) transposes_S2x8x128x128_S2x8x128x128_0_1_3_2) : (Proc.devRef .tc main_while0b_v73 : DevRef τ sig).ty.Contents (Elt F)) = Cert.ScanBwdRefIdeal.Step.b78 j s := by
  unfold Cert.ScanBwdRefIdeal.Step.b78
  rw [← al_69 h, ← al_77 h]
  try rfl
set_option maxRecDepth 8192 in
theorem al_79 (h : Holds V0 s j) : (Host.dotGeneral dot_S2x8x64x128_S2x8x128x128_S2x8x64x128_3_3_2_2_01_01 none (res_main_while0b_v46 V0) (res_main_while0b_v39 V0) : (Proc.devRef .tc main_while0b_v74 : DevRef τ sig).ty.Contents (Elt F)) = Cert.ScanBwdRefIdeal.Step.b79 j s := by
  unfold Cert.ScanBwdRefIdeal.Step.b79
  rw [← al_49 h, ← al_9 h]
  try rfl
set_option maxRecDepth 8192 in
theorem al_80 (h : Holds V0 s j) : (res_main_while0b_v75 V0 : (Proc.devRef .tc main_while0b_v75 : DevRef τ sig).ty.Contents (Elt F)) = Cert.ScanBwdRefIdeal.Step.b80 j s := by
  unfold res_main_while0b_v75 Cert.ScanBwdRefIdeal.Step.b80
  rw [← al_74 h]
  try rfl
set_option maxRecDepth 8192 in
theorem al_81 (h : Holds V0 s j) : (Host.dotGeneral dot_S2x8x64x128_S2x8x64x128_S2x8x128x128_2_2_3_3_01_01 none (res_main_while0b_v75 V0) (res_main_while0b_v41 V0) : (Proc.devRef .tc main_while0b_v76 : DevRef τ sig).ty.Contents (Elt F)) = Cert.ScanBwdRefIdeal.Step.b81 j s := by
  unfold Cert.ScanBwdRefIdeal.Step.b81
  rw [← al_80 h, ← al_21 h]
  try rfl
set_option maxRecDepth 8192 in
theorem al_82 (h : Holds V0 s j) : (transpose S2x8x128x128 [0, 1, 3, 2] (Host.dotGeneral dot_S2x8x64x128_S2x8x64x128_S2x8x128x128_2_2_3_3_01_01 none (res_main_while0b_v75 V0) (res_main_while0b_v41 V0)) transposes_S2x8x128x128_S2x8x128x128_0_1_3_2 : (Proc.devRef .tc main_while0b_v77 : DevRef τ sig).ty.Contents (Elt F)) = Cert.ScanBwdRefIdeal.Step.b82 j s := by
  unfold Cert.ScanBwdRefIdeal.Step.b82
  rw [← al_81 h]
  try rfl
set_option maxRecDepth 8192 in
theorem al_83 (h : Holds V0 s j) : (addf (addf (mulf (V0 (Proc.devRef .tc main_v22_9)) (broadcastInDim S2x8x128x128 ![0, 1, 2, 3] bcast_S2x8x1x1_S2x8x128x128_0_1_2_3 (res_main_while0b_v52 V0))) (transpose S2x8x128x128 [0, 1, 3, 2] (Host.dotGeneral dot_S2x8x64x128_S2x8x64x128_S2x8x128x128_2_2_3_3_01_01 none (res_main_while0b_v46 V0) (res_main_while0b_v40 V0)) transposes_S2x8x128x128_S2x8x128x128_0_1_3_2)) (transpose S2x8x128x128 [0, 1, 3, 2] (Host.dotGeneral dot_S2x8x64x128_S2x8x64x128_S2x8x128x128_2_2_3_3_01_01 none (res_main_while0b_v75 V0) (res_main_while0b_v41 V0)) transposes_S2x8x128x128_S2x8x128x128_0_1_3_2) : (Proc.devRef .tc main_while0b_v78 : DevRef τ sig).ty.Contents (Elt F)) = Cert.ScanBwdRefIdeal.Step.b83 j s := by
  unfold Cert.ScanBwdRefIdeal.Step.b83
  rw [← al_78 h, ← al_82 h]
  try rfl
set_option maxRecDepth 8192 in
theorem al_84 (h : Holds V0 s j) : (Host.dotGeneral dot_S2x8x64x128_S2x8x128x128_S2x8x64x128_3_3_2_2_01_01 none (res_main_while0b_v75 V0) (res_main_while0b_v39 V0) : (Proc.devRef .tc main_while0b_v79 : DevRef τ sig).ty.Contents (Elt F)) = Cert.ScanBwdRefIdeal.Step.b84 j s := by
  unfold Cert.ScanBwdRefIdeal.Step.b84
  rw [← al_80 h, ← al_9 h]
  try rfl
set_option maxRecDepth 8192 in
theorem al_85 (h : Holds V0 s j) : (broadcastInDim S1x2x8x64x128 ![1, 2, 3, 4] bcast_S2x8x64x128_S1x2x8x64x128_1_2_3_4 (res_main_while0b_v69 V0) : (Proc.devRef .tc main_while0b_call8_v0 : DevRef τ sig).ty.Contents (Elt F)) = Cert.ScanBwdRefIdeal.Step.b85 j s := by
  unfold Cert.ScanBwdRefIdeal.Step.b85
  rw [← al_74 h]
  try rfl
set_option maxRecDepth 8192 in
theorem al_86 (h : Holds V0 s j) : (constantI S_ 32 0#32 : (Proc.devRef .tc main_while0b_call8_c : DevRef τ sig).ty.Contents (Elt F)) = Cert.ScanBwdRefIdeal.Step.b86 j s := by
  unfold Cert.ScanBwdRefIdeal.Step.b86
  rfl
set_option maxRecDepth 8192 in
theorem al_87 (h : Holds V0 s j) : (constantI S_ 32 0#32 : (Proc.devRef .tc main_while0b_call8_c_0 : DevRef τ sig).ty.Contents (Elt F)) = Cert.ScanBwdRefIdeal.Step.b87 j s := by
  unfold Cert.ScanBwdRefIdeal.Step.b87
  rfl
set_option maxRecDepth 8192 in
theorem al_88 (h : Holds V0 s j) : (constantI S_ 32 0#32 : (Proc.devRef .tc main_while0b_call8_c_1 : DevRef τ sig).ty.Contents (Elt F)) = Cert.ScanBwdRefIdeal.Step.b88 j s := by
  unfold Cert.ScanBwdRefIdeal.Step.b88
  rfl
set_option maxRecDepth 8192 in
theorem al_89 (h : Holds V0 s j) : (constantI S_ 32 0#32 : (Proc.devRef .tc main_while0b_call8_c_2 : DevRef τ sig).ty.Contents (Elt F)) = Cert.ScanBwdRefIdeal.Step.b89 j s := by
  unfold Cert.ScanBwdRefIdeal.Step.b89
  rfl
set_option maxRecDepth 8192 in
theorem al_90 (h : Holds V0 s j) : (Host.dynamicUpdateSlice (V0 (Proc.devRef .tc main_v22_10)) (broadcastInDim S1x2x8x64x128 ![1, 2, 3, 4] bcast_S2x8x64x128_S1x2x8x64x128_1_2_3_4 (res_main_while0b_v69 V0)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128 : (Proc.devRef .tc main_while0b_v80 : DevRef τ sig).ty.Contents (Elt F)) = Cert.ScanBwdRefIdeal.Step.b90 j s := by
  unfold Cert.ScanBwdRefIdeal.Step.b90
  rw [← al_85 h, ← al_3 h, ← al_86 h, ← al_87 h, ← al_88 h, ← al_89 h, h.f_10]
  try rfl
set_option maxRecDepth 8192 in
theorem al_91 (h : Holds V0 s j) : (broadcastInDim S1x2x8x64x128 ![1, 2, 3, 4] bcast_S2x8x64x128_S1x2x8x64x128_1_2_3_4 (Host.dotGeneral dot_S2x8x64x128_S2x8x128x128_S2x8x64x128_3_3_2_2_01_01 none (res_main_while0b_v75 V0) (res_main_while0b_v39 V0)) : (Proc.devRef .tc main_while0b_call9_v0 : DevRef τ sig).ty.Contents (Elt F)) = Cert.ScanBwdRefIdeal.Step.b91 j s := by
  unfold Cert.ScanBwdRefIdeal.Step.b91
  rw [← al_84 h]
  try rfl
set_option maxRecDepth 8192 in
theorem al_92 (h : Holds V0 s j) : (constantI S_ 32 0#32 : (Proc.devRef .tc main_while0b_call9_c : DevRef τ sig).ty.Contents (Elt F)) = Cert.ScanBwdRefIdeal.Step.b92 j s := by
  unfold Cert.ScanBwdRefIdeal.Step.b92
  rfl
set_option maxRecDepth 8192 in
theorem al_93 (h : Holds V0 s j) : (constantI S_ 32 0#32 : (Proc.devRef .tc main_while0b_call9_c_0 : DevRef τ sig).ty.Contents (Elt F)) = Cert.ScanBwdRefIdeal.Step.b93 j s := by
  unfold Cert.ScanBwdRefIdeal.Step.b93
  rfl
set_option maxRecDepth 8192 in
theorem al_94 (h : Holds V0 s j) : (constantI S_ 32 0#32 : (Proc.devRef .tc main_while0b_call9_c_1 : DevRef τ sig).ty.Contents (Elt F)) = Cert.ScanBwdRefIdeal.Step.b94 j s := by
  unfold Cert.ScanBwdRefIdeal.Step.b94
  rfl
set_option maxRecDepth 8192 in
theorem al_95 (h : Holds V0 s j) : (constantI S_ 32 0#32 : (Proc.devRef .tc main_while0b_call9_c_2 : DevRef τ sig).ty.Contents (Elt F)) = Cert.ScanBwdRefIdeal.Step.b95 j s := by
  unfold Cert.ScanBwdRefIdeal.Step.b95
  rfl
set_option maxRecDepth 8192 in
theorem al_96 (h : Holds V0 s j) : (Host.dynamicUpdateSlice (V0 (Proc.devRef .tc main_v22_11)) (broadcastInDim S1x2x8x64x128 ![1, 2, 3, 4] bcast_S2x8x64x128_S1x2x8x64x128_1_2_3_4 (Host.dotGeneral dot_S2x8x64x128_S2x8x128x128_S2x8x64x128_3_3_2_2_01_01 none (res_main_while0b_v75 V0) (res_main_while0b_v39 V0))) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128 : (Proc.devRef .tc main_while0b_v81 : DevRef τ sig).ty.Contents (Elt F)) = Cert.ScanBwdRefIdeal.Step.b96 j s := by
  unfold Cert.ScanBwdRefIdeal.Step.b96
  rw [← al_91 h, ← al_3 h, ← al_92 h, ← al_93 h, ← al_94 h, ← al_95 h, h.f_11]
  try rfl
set_option maxRecDepth 8192 in
theorem al_97 (h : Holds V0 s j) : (broadcastInDim S1x2x8x64x128 ![1, 2, 3, 4] bcast_S2x8x64x128_S1x2x8x64x128_1_2_3_4 (Host.dotGeneral dot_S2x8x64x128_S2x8x128x128_S2x8x64x128_3_3_2_2_01_01 none (res_main_while0b_v46 V0) (res_main_while0b_v39 V0)) : (Proc.devRef .tc main_while0b_call10_v0 : DevRef τ sig).ty.Contents (Elt F)) = Cert.ScanBwdRefIdeal.Step.b97 j s := by
  unfold Cert.ScanBwdRefIdeal.Step.b97
  rw [← al_79 h]
  try rfl
set_option maxRecDepth 8192 in
theorem al_98 (h : Holds V0 s j) : (constantI S_ 32 0#32 : (Proc.devRef .tc main_while0b_call10_c : DevRef τ sig).ty.Contents (Elt F)) = Cert.ScanBwdRefIdeal.Step.b98 j s := by
  unfold Cert.ScanBwdRefIdeal.Step.b98
  rfl
set_option maxRecDepth 8192 in
theorem al_99 (h : Holds V0 s j) : (constantI S_ 32 0#32 : (Proc.devRef .tc main_while0b_call10_c_0 : DevRef τ sig).ty.Contents (Elt F)) = Cert.ScanBwdRefIdeal.Step.b99 j s := by
  unfold Cert.ScanBwdRefIdeal.Step.b99
  rfl
set_option maxRecDepth 8192 in
theorem al_100 (h : Holds V0 s j) : (constantI S_ 32 0#32 : (Proc.devRef .tc main_while0b_call10_c_1 : DevRef τ sig).ty.Contents (Elt F)) = Cert.ScanBwdRefIdeal.Step.b100 j s := by
  unfold Cert.ScanBwdRefIdeal.Step.b100
  rfl
set_option maxRecDepth 8192 in
theorem al_101 (h : Holds V0 s j) : (constantI S_ 32 0#32 : (Proc.devRef .tc main_while0b_call10_c_2 : DevRef τ sig).ty.Contents (Elt F)) = Cert.ScanBwdRefIdeal.Step.b101 j s := by
  unfold Cert.ScanBwdRefIdeal.Step.b101
  rfl
set_option maxRecDepth 8192 in
theorem al_102 (h : Holds V0 s j) : (Host.dynamicUpdateSlice (V0 (Proc.devRef .tc main_v22_12)) (broadcastInDim S1x2x8x64x128 ![1, 2, 3, 4] bcast_S2x8x64x128_S1x2x8x64x128_1_2_3_4 (Host.dotGeneral dot_S2x8x64x128_S2x8x128x128_S2x8x64x128_3_3_2_2_01_01 none (res_main_while0b_v46 V0) (res_main_while0b_v39 V0))) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128 : (Proc.devRef .tc main_while0b_v82 : DevRef τ sig).ty.Contents (Elt F)) = Cert.ScanBwdRefIdeal.Step.b102 j s := by
  unfold Cert.ScanBwdRefIdeal.Step.b102
  rw [← al_97 h, ← al_3 h, ← al_98 h, ← al_99 h, ← al_100 h, ← al_101 h, h.f_12]
  try rfl
set_option maxRecDepth 8192 in
theorem al_103 (h : Holds V0 s j) : (broadcastInDim S1x2x8x64x128 ![1, 2, 3, 4] bcast_S2x8x64x128_S1x2x8x64x128_1_2_3_4 (transpose S2x8x64x128 [0, 1, 3, 2] (Host.dotGeneral dot_S2x8x128x128_S2x8x64x128_S2x8x128x64_3_3_2_2_01_01 none (V0 (Proc.devRef .tc main_v22_9)) (res_main_while0b_v48 V0)) transposes_S2x8x128x64_S2x8x64x128_0_1_3_2) : (Proc.devRef .tc main_while0b_call11_v0 : DevRef τ sig).ty.Contents (Elt F)) = Cert.ScanBwdRefIdeal.Step.b103 j s := by
  unfold Cert.ScanBwdRefIdeal.Step.b103
  rw [← al_63 h]
  try rfl
set_option maxRecDepth 8192 in
theorem al_104 (h : Holds V0 s j) : (constantI S_ 32 0#32 : (Proc.devRef .tc main_while0b_call11_c : DevRef τ sig).ty.Contents (Elt F)) = Cert.ScanBwdRefIdeal.Step.b104 j s := by
  unfold Cert.ScanBwdRefIdeal.Step.b104
  rfl
set_option maxRecDepth 8192 in
theorem al_105 (h : Holds V0 s j) : (constantI S_ 32 0#32 : (Proc.devRef .tc main_while0b_call11_c_0 : DevRef τ sig).ty.Contents (Elt F)) = Cert.ScanBwdRefIdeal.Step.b105 j s := by
  unfold Cert.ScanBwdRefIdeal.Step.b105
  rfl
set_option maxRecDepth 8192 in
theorem al_106 (h : Holds V0 s j) : (constantI S_ 32 0#32 : (Proc.devRef .tc main_while0b_call11_c_1 : DevRef τ sig).ty.Contents (Elt F)) = Cert.ScanBwdRefIdeal.Step.b106 j s := by
  unfold Cert.ScanBwdRefIdeal.Step.b106
  rfl
set_option maxRecDepth 8192 in
theorem al_107 (h : Holds V0 s j) : (constantI S_ 32 0#32 : (Proc.devRef .tc main_while0b_call11_c_2 : DevRef τ sig).ty.Contents (Elt F)) = Cert.ScanBwdRefIdeal.Step.b107 j s := by
  unfold Cert.ScanBwdRefIdeal.Step.b107
  rfl
set_option maxRecDepth 8192 in
theorem al_108 (h : Holds V0 s j) : (Host.dynamicUpdateSlice (V0 (Proc.devRef .tc main_v22_13)) (broadcastInDim S1x2x8x64x128 ![1, 2, 3, 4] bcast_S2x8x64x128_S1x2x8x64x128_1_2_3_4 (transpose S2x8x64x128 [0, 1, 3, 2] (Host.dotGeneral dot_S2x8x128x128_S2x8x64x128_S2x8x128x64_3_3_2_2_01_01 none (V0 (Proc.devRef .tc main_v22_9)) (res_main_while0b_v48 V0)) transposes_S2x8x128x64_S2x8x64x128_0_1_3_2)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128 : (Proc.devRef .tc main_while0b_v83 : DevRef τ sig).ty.Contents (Elt F)) = Cert.ScanBwdRefIdeal.Step.b108 j s := by
  unfold Cert.ScanBwdRefIdeal.Step.b108
  rw [← al_103 h, ← al_3 h, ← al_104 h, ← al_105 h, ← al_106 h, ← al_107 h, h.f_13]
  try rfl
set_option maxRecDepth 8192 in
theorem al_109 (h : Holds V0 s j) : (broadcastInDim S1x2x8x64x64 ![1, 2, 3, 4] bcast_S2x8x64x64_S1x2x8x64x64_1_2_3_4 (Host.dotGeneral dot_S2x8x64x128_S2x8x64x128_S2x8x64x64_3_3_2_2_01_01 none (res_main_while0b_v46 V0) (res_main_while0b_v48 V0)) : (Proc.devRef .tc main_while0b_call12_v0 : DevRef τ sig).ty.Contents (Elt F)) = Cert.ScanBwdRefIdeal.Step.b109 j s := by
  unfold Cert.ScanBwdRefIdeal.Step.b109
  rw [← al_75 h]
  try rfl
set_option maxRecDepth 8192 in
theorem al_110 (h : Holds V0 s j) : (constantI S_ 32 0#32 : (Proc.devRef .tc main_while0b_call12_c : DevRef τ sig).ty.Contents (Elt F)) = Cert.ScanBwdRefIdeal.Step.b110 j s := by
  unfold Cert.ScanBwdRefIdeal.Step.b110
  rfl
set_option maxRecDepth 8192 in
theorem al_111 (h : Holds V0 s j) : (constantI S_ 32 0#32 : (Proc.devRef .tc main_while0b_call12_c_0 : DevRef τ sig).ty.Contents (Elt F)) = Cert.ScanBwdRefIdeal.Step.b111 j s := by
  unfold Cert.ScanBwdRefIdeal.Step.b111
  rfl
set_option maxRecDepth 8192 in
theorem al_112 (h : Holds V0 s j) : (constantI S_ 32 0#32 : (Proc.devRef .tc main_while0b_call12_c_1 : DevRef τ sig).ty.Contents (Elt F)) = Cert.ScanBwdRefIdeal.Step.b112 j s := by
  unfold Cert.ScanBwdRefIdeal.Step.b112
  rfl
set_option maxRecDepth 8192 in
theorem al_113 (h : Holds V0 s j) : (constantI S_ 32 0#32 : (Proc.devRef .tc main_while0b_call12_c_2 : DevRef τ sig).ty.Contents (Elt F)) = Cert.ScanBwdRefIdeal.Step.b113 j s := by
  unfold Cert.ScanBwdRefIdeal.Step.b113
  rfl
set_option maxRecDepth 8192 in
theorem al_114 (h : Holds V0 s j) : (Host.dynamicUpdateSlice (V0 (Proc.devRef .tc main_v22_14)) (broadcastInDim S1x2x8x64x64 ![1, 2, 3, 4] bcast_S2x8x64x64_S1x2x8x64x64_1_2_3_4 (Host.dotGeneral dot_S2x8x64x128_S2x8x64x128_S2x8x64x64_3_3_2_2_01_01 none (res_main_while0b_v46 V0) (res_main_while0b_v48 V0))) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x64_S1x2x8x64x64 : (Proc.devRef .tc main_while0b_v84 : DevRef τ sig).ty.Contents (Elt F)) = Cert.ScanBwdRefIdeal.Step.b114 j s := by
  unfold Cert.ScanBwdRefIdeal.Step.b114
  rw [← al_109 h, ← al_3 h, ← al_110 h, ← al_111 h, ← al_112 h, ← al_113 h, h.f_14]
  try rfl
set_option maxRecDepth 8192 in
theorem al_115 (h : Holds V0 s j) : (broadcastInDim S1x2x8 ![1, 2] bcast_S2x8_S1x2x8_1_2 (Host.reduceAdd (shapeCast S2x8x1x1 (Host.reduceAdd (mulf (res_main_while0b_v39 V0) (V0 (Proc.devRef .tc main_v22_9))) (constant S_ .f32 0x00000000#32) reducesTo_S2x8x128x128_S2x8_d2_3 h_S_) shapeCasts_S2x8_S2x8x1x1) (constant S_ .f32 0x00000000#32) reducesTo_S2x8x1x1_S2x8_d2_3 h_S_) : (Proc.devRef .tc main_while0b_call13_v0 : DevRef τ sig).ty.Contents (Elt F)) = Cert.ScanBwdRefIdeal.Step.b115 j s := by
  unfold Cert.ScanBwdRefIdeal.Step.b115
  rw [← al_71 h]
  try rfl
set_option maxRecDepth 8192 in
theorem al_116 (h : Holds V0 s j) : (constantI S_ 32 0#32 : (Proc.devRef .tc main_while0b_call13_c : DevRef τ sig).ty.Contents (Elt F)) = Cert.ScanBwdRefIdeal.Step.b116 j s := by
  unfold Cert.ScanBwdRefIdeal.Step.b116
  rfl
set_option maxRecDepth 8192 in
theorem al_117 (h : Holds V0 s j) : (constantI S_ 32 0#32 : (Proc.devRef .tc main_while0b_call13_c_0 : DevRef τ sig).ty.Contents (Elt F)) = Cert.ScanBwdRefIdeal.Step.b117 j s := by
  unfold Cert.ScanBwdRefIdeal.Step.b117
  rfl
set_option maxRecDepth 8192 in
theorem al_118 (h : Holds V0 s j) : (Host.dynamicUpdateSlice (V0 (Proc.devRef .tc main_v22_15)) (broadcastInDim S1x2x8 ![1, 2] bcast_S2x8_S1x2x8_1_2 (Host.reduceAdd (shapeCast S2x8x1x1 (Host.reduceAdd (mulf (res_main_while0b_v39 V0) (V0 (Proc.devRef .tc main_v22_9))) (constant S_ .f32 0x00000000#32) reducesTo_S2x8x128x128_S2x8_d2_3 h_S_) shapeCasts_S2x8_S2x8x1x1) (constant S_ .f32 0x00000000#32) reducesTo_S2x8x1x1_S2x8_d2_3 h_S_)) (fun k => (((![res_main_while0b_v38 V0, constantI S_ 32 0#32, constantI S_ 32 0#32] : Fin 3 → (⟨S_, .i32⟩ : BufTy).Contents (Elt F))) k (Shape.Idx.first h_S_)).toInt) updateFits_S32x2x8_S1x2x8 : (Proc.devRef .tc main_while0b_v85 : DevRef τ sig).ty.Contents (Elt F)) = Cert.ScanBwdRefIdeal.Step.b118 j s := by
  unfold Cert.ScanBwdRefIdeal.Step.b118
  rw [← al_115 h, ← al_3 h, ← al_116 h, ← al_117 h, h.f_15]
  try rfl

/-! One trip's step of the carried values is `step`, field by field; a counter steps to the next number. -/

theorem step_9 (h : Holds V0 s j) : step_main_v22_9 V0 = (step j s).main_v22_9 := by
  unfold step_main_v22_9 Cert.ScanBwdRefIdeal.Step.step
  show id (addf (addf (mulf (V0 (Proc.devRef .tc main_v22_9)) (broadcastInDim S2x8x128x128 ![0, 1, 2, 3] bcast_S2x8x1x1_S2x8x128x128_0_1_2_3 (res_main_while0b_v52 V0))) (transpose S2x8x128x128 [0, 1, 3, 2] (Host.dotGeneral dot_S2x8x64x128_S2x8x64x128_S2x8x128x128_2_2_3_3_01_01 none (res_main_while0b_v46 V0) (res_main_while0b_v40 V0)) transposes_S2x8x128x128_S2x8x128x128_0_1_3_2)) (transpose S2x8x128x128 [0, 1, 3, 2] (Host.dotGeneral dot_S2x8x64x128_S2x8x64x128_S2x8x128x128_2_2_3_3_01_01 none (res_main_while0b_v75 V0) (res_main_while0b_v41 V0)) transposes_S2x8x128x128_S2x8x128x128_0_1_3_2)) = _
  exact al_83 h
theorem step_10 (h : Holds V0 s j) : step_main_v22_10 V0 = (step j s).main_v22_10 := by
  unfold step_main_v22_10 Cert.ScanBwdRefIdeal.Step.step
  show id (Host.dynamicUpdateSlice (V0 (Proc.devRef .tc main_v22_10)) (broadcastInDim S1x2x8x64x128 ![1, 2, 3, 4] bcast_S2x8x64x128_S1x2x8x64x128_1_2_3_4 (res_main_while0b_v69 V0)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128) = _
  exact al_90 h
theorem step_11 (h : Holds V0 s j) : step_main_v22_11 V0 = (step j s).main_v22_11 := by
  unfold step_main_v22_11 Cert.ScanBwdRefIdeal.Step.step
  show id (Host.dynamicUpdateSlice (V0 (Proc.devRef .tc main_v22_11)) (broadcastInDim S1x2x8x64x128 ![1, 2, 3, 4] bcast_S2x8x64x128_S1x2x8x64x128_1_2_3_4 (Host.dotGeneral dot_S2x8x64x128_S2x8x128x128_S2x8x64x128_3_3_2_2_01_01 none (res_main_while0b_v75 V0) (res_main_while0b_v39 V0))) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128) = _
  exact al_96 h
theorem step_12 (h : Holds V0 s j) : step_main_v22_12 V0 = (step j s).main_v22_12 := by
  unfold step_main_v22_12 Cert.ScanBwdRefIdeal.Step.step
  show id (Host.dynamicUpdateSlice (V0 (Proc.devRef .tc main_v22_12)) (broadcastInDim S1x2x8x64x128 ![1, 2, 3, 4] bcast_S2x8x64x128_S1x2x8x64x128_1_2_3_4 (Host.dotGeneral dot_S2x8x64x128_S2x8x128x128_S2x8x64x128_3_3_2_2_01_01 none (res_main_while0b_v46 V0) (res_main_while0b_v39 V0))) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128) = _
  exact al_102 h
theorem step_13 (h : Holds V0 s j) : step_main_v22_13 V0 = (step j s).main_v22_13 := by
  unfold step_main_v22_13 Cert.ScanBwdRefIdeal.Step.step
  show id (Host.dynamicUpdateSlice (V0 (Proc.devRef .tc main_v22_13)) (broadcastInDim S1x2x8x64x128 ![1, 2, 3, 4] bcast_S2x8x64x128_S1x2x8x64x128_1_2_3_4 (transpose S2x8x64x128 [0, 1, 3, 2] (Host.dotGeneral dot_S2x8x128x128_S2x8x64x128_S2x8x128x64_3_3_2_2_01_01 none (V0 (Proc.devRef .tc main_v22_9)) (res_main_while0b_v48 V0)) transposes_S2x8x128x64_S2x8x64x128_0_1_3_2)) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x128_S1x2x8x64x128) = _
  exact al_108 h
theorem step_14 (h : Holds V0 s j) : step_main_v22_14 V0 = (step j s).main_v22_14 := by
  unfold step_main_v22_14 Cert.ScanBwdRefIdeal.Step.step
  show id (Host.dynamicUpdateSlice (V0 (Proc.devRef .tc main_v22_14)) (broadcastInDim S1x2x8x64x64 ![1, 2, 3, 4] bcast_S2x8x64x64_S1x2x8x64x64_1_2_3_4 (Host.dotGeneral dot_S2x8x64x128_S2x8x64x128_S2x8x64x64_3_3_2_2_01_01 none (res_main_while0b_v46 V0) (res_main_while0b_v48 V0))) (fun k => (((![res_main_while0b_v38 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x8x64x64_S1x2x8x64x64) = _
  exact al_114 h
theorem step_15 (h : Holds V0 s j) : step_main_v22_15 V0 = (step j s).main_v22_15 := by
  unfold step_main_v22_15 Cert.ScanBwdRefIdeal.Step.step
  show id (Host.dynamicUpdateSlice (V0 (Proc.devRef .tc main_v22_15)) (broadcastInDim S1x2x8 ![1, 2] bcast_S2x8_S1x2x8_1_2 (Host.reduceAdd (shapeCast S2x8x1x1 (Host.reduceAdd (mulf (res_main_while0b_v39 V0) (V0 (Proc.devRef .tc main_v22_9))) (constant S_ .f32 0x00000000#32) reducesTo_S2x8x128x128_S2x8_d2_3 h_S_) shapeCasts_S2x8_S2x8x1x1) (constant S_ .f32 0x00000000#32) reducesTo_S2x8x1x1_S2x8_d2_3 h_S_)) (fun k => (((![res_main_while0b_v38 V0, constantI S_ 32 0#32, constantI S_ 32 0#32] : Fin 3 → (⟨S_, .i32⟩ : BufTy).Contents (Elt F))) k (Shape.Idx.first h_S_)).toInt) updateFits_S32x2x8_S1x2x8) = _
  exact al_118 h
theorem step_8 (h : Holds V0 s j) : step_main_v22_8 V0 = constantI S_ 32 (BitVec.ofNat 32 (j + 1)) := by
  unfold step_main_v22_8
  rw [h.n_8]
  funext i
  show BitVec.ofNat 32 j + 1#32 = BitVec.ofNat 32 (j + 1)
  simp only [BitVec.ofNat_add]

set_option maxRecDepth 8192 in
theorem out_main_v28_holds (h : Holds V0 s j) : out_main_v28 V0 = Cert.ScanBwdRefIdeal.Step.R_main_v28 s := by
  unfold out_main_v28 Cert.ScanBwdRefIdeal.Step.R_main_v28
  rw [h.f_10]
  try rfl

set_option maxRecDepth 8192 in
theorem out_main_v30_holds (h : Holds V0 s j) : out_main_v30 V0 = Cert.ScanBwdRefIdeal.Step.R_main_v30 s := by
  unfold out_main_v30 Cert.ScanBwdRefIdeal.Step.R_main_v30
  rw [h.f_11]
  try rfl

set_option maxRecDepth 8192 in
theorem out_main_v32_holds (h : Holds V0 s j) : out_main_v32 V0 = Cert.ScanBwdRefIdeal.Step.R_main_v32 s := by
  unfold out_main_v32 Cert.ScanBwdRefIdeal.Step.R_main_v32
  rw [h.f_12]
  try rfl

set_option maxRecDepth 8192 in
theorem out_main_v34_holds (h : Holds V0 s j) : out_main_v34 V0 = Cert.ScanBwdRefIdeal.Step.R_main_v34 s := by
  unfold out_main_v34 Cert.ScanBwdRefIdeal.Step.R_main_v34
  rw [h.f_13]
  try rfl

set_option maxRecDepth 8192 in
theorem out_main_v36_holds (h : Holds V0 s j) : out_main_v36 V0 = Cert.ScanBwdRefIdeal.Step.R_main_v36 s := by
  unfold out_main_v36 Cert.ScanBwdRefIdeal.Step.R_main_v36
  rw [h.f_14]
  try rfl

set_option maxRecDepth 8192 in
theorem out_main_v26_holds (h : Holds V0 s j) : out_main_v26 V0 = Cert.ScanBwdRefIdeal.Step.R_main_v26 s := by
  unfold out_main_v26 Cert.ScanBwdRefIdeal.Step.R_main_v26
  rw [h.f_15]
  try rfl

/-- One trip keeps the valuation holding: `step` of the state, the same set-up values, the next number. -/
theorem holds_step (h : Holds V0 s j) : Holds (STEP V0) (step j s) (j + 1) where
  f_9 := (STEP_main_v22_9 V0).trans (step_9 h)
  f_10 := (STEP_main_v22_10 V0).trans (step_10 h)
  f_11 := (STEP_main_v22_11 V0).trans (step_11 h)
  f_12 := (STEP_main_v22_12 V0).trans (step_12 h)
  f_13 := (STEP_main_v22_13 V0).trans (step_13 h)
  f_14 := (STEP_main_v22_14 V0).trans (step_14 h)
  f_15 := (STEP_main_v22_15 V0).trans (step_15 h)
  n_8 := (STEP_main_v22_8 V0).trans (step_8 h)
  f_0 := (STEP_main_v22_0 V0).trans h.f_0
  f_1 := (STEP_main_v22_1 V0).trans h.f_1
  f_2 := (STEP_main_v22_2 V0).trans h.f_2
  f_3 := (STEP_main_v22_3 V0).trans h.f_3
  f_4 := (STEP_main_v22_4 V0).trans h.f_4
  f_5 := (STEP_main_v22_5 V0).trans h.f_5
  f_6 := (STEP_main_v22_6 V0).trans h.f_6
  f_7 := (STEP_main_v22_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ScanBwdRefIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v28) = Cert.ScanBwdRefIdeal.Step.R_main_v28 (it c 32)
      ∧ r.2.mem ((c.tc : Thread nD τ).loc main_v30) = Cert.ScanBwdRefIdeal.Step.R_main_v30 (it c 32)
      ∧ r.2.mem ((c.tc : Thread nD τ).loc main_v32) = Cert.ScanBwdRefIdeal.Step.R_main_v32 (it c 32)
      ∧ r.2.mem ((c.tc : Thread nD τ).loc main_v34) = Cert.ScanBwdRefIdeal.Step.R_main_v34 (it c 32)
      ∧ r.2.mem ((c.tc : Thread nD τ).loc main_v36) = Cert.ScanBwdRefIdeal.Step.R_main_v36 (it c 32)
      ∧ r.2.mem ((c.tc : Thread nD τ).loc main_v26) = Cert.ScanBwdRefIdeal.Step.R_main_v26 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 32
    ⟨(h c).1.trans (out_main_v28_holds hk), (h c).2.1.trans (out_main_v30_holds hk), (h c).2.2.1.trans (out_main_v32_holds hk), (h c).2.2.2.1.trans (out_main_v34_holds hk), (h c).2.2.2.2.1.trans (out_main_v36_holds hk), (h c).2.2.2.2.2.1.trans (out_main_v26_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ScanBwdRefIdeal.Trips

end
-- ==== Proof.Common.Fi.lean ====
module

public import Idealize.ShloMosaic.Lib.Pipeline.ValueKit
public import Idealize.ShloMosaic.Lib.Pointwise
public import Idealize.ShloMosaic.Lib.Claim
public import Idealize.ShloMosaic.Lib.ReduceAll

/-! Finite extended reals: sums, products and exponentials stay finite, and a minus sign goes through a finite sum. -/

@[expose] public section

noncomputable section

open Idealize.ShloMosaic Idealize.ShloMosaic.TcCoe Idealize.SL.Sem

namespace Cert

/-- The value is a real number. -/
def Fi (x : EReal) : Prop := ∃ r : ℝ, x = (r : EReal)

theorem Fi.zero : Fi 0 := ⟨0, rfl⟩
theorem Fi.add {x y : EReal} (hx : Fi x) (hy : Fi y) : Fi (x + y) := by
  obtain ⟨a, rfl⟩ := hx; obtain ⟨b, rfl⟩ := hy; exact ⟨a + b, (EReal.coe_add a b).symm⟩
theorem Fi.mul {x y : EReal} (hx : Fi x) (hy : Fi y) : Fi (x * y) := by
  obtain ⟨a, rfl⟩ := hx; obtain ⟨b, rfl⟩ := hy; exact ⟨a * b, (EReal.coe_mul a b).symm⟩
theorem Fi.sub {x y : EReal} (hx : Fi x) (hy : Fi y) : Fi (x - y) := by
  obtain ⟨a, rfl⟩ := hx; obtain ⟨b, rfl⟩ := hy; exact ⟨a - b, (EReal.coe_sub a b).symm⟩
theorem Fi.neg {x : EReal} (hx : Fi x) : Fi (-x) := by
  obtain ⟨a, rfl⟩ := hx; exact ⟨-a, (EReal.coe_neg a).symm⟩
theorem Fi.exp {x : EReal} (hx : Fi x) : Fi (Ideal.exp x) := by
  obtain ⟨a, rfl⟩ := hx; exact ⟨Real.exp a, rfl⟩
theorem Fi.sum {ι : Type} (s : Finset ι) (f : ι → EReal) (h : ∀ i, Fi (f i)) : Fi (∑ i ∈ s, f i) := by
  classical
  induction s using Finset.induction_on with
  | empty => exact Fi.zero
  | insert a s ha ih => rw [Finset.sum_insert ha]; exact (h a).add ih
theorem neg_sum {ι : Type} (s : Finset ι) (f : ι → EReal) (h : ∀ i, Fi (f i)) :
    ∑ i ∈ s, -f i = -∑ i ∈ s, f i := by
  classical
  induction s using Finset.induction_on with
  | empty => simp
  | insert a s ha ih =>
    rw [Finset.sum_insert ha, Finset.sum_insert ha, ih]
    obtain ⟨x, hx⟩ := h a
    obtain ⟨y, hy⟩ := Fi.sum s f h
    rw [hx, hy, ← EReal.coe_add, ← EReal.coe_neg, ← EReal.coe_neg, ← EReal.coe_neg, ← EReal.coe_add, neg_add]

/-- A value whose absolute value is below infinity is a real number. -/
theorem fi_of_lt {x : Ideal .f32} (h : FloatOps.cmpf .olt (FloatOps.absf x) (FloatOps.ofBits (F := Ideal) .f32 0x7F800000#32) = 1#1) : Fi x := by
  have ht : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [ht] at h'
  have hlt : max (x : EReal) (-(x : EReal)) < ⊤ := by
    by_contra hc
    simp [Ideal.cmp, hc] at h'
  rw [max_lt_iff] at hlt
  refine ⟨EReal.toReal x, (EReal.coe_toReal (ne_of_lt hlt.1) fun hb => ?_).symm⟩
  rw [hb] at hlt
  exact absurd hlt.2 (by simp)

/-- `jnp.all(jnp.abs(x) < jnp.inf)` says that every entry of `x` is a real number. -/
theorem fi_all {s : Shape} {axes : List (Fin s.rank)} {x : FVec Ideal s .f32} {hb : (⟨0, ![]⟩ : Shape).BroadcastsInDim s (![] : Fin 0 → Fin s.rank)}
    {hr : s.ReducesTo axes ⟨0, ![]⟩} {hu : 0 < (⟨0, ![]⟩ : Shape).numel} {init : IVec ⟨0, ![]⟩ 1} {j : (⟨0, ![]⟩ : Shape).Idx}
    (e : Host.reduce IntOp.andi (cmpf .olt (Host.absf x) (broadcastInDim s ![] hb (constant (F := Ideal) ⟨0, ![]⟩ .f32 0x7F800000#32))) init hr hu j = 1#1)
    (i : s.Idx) : Fi (x i) := by
  haveI : Subsingleton (⟨0, ![]⟩ : Shape).Idx := ⟨fun a b => funext fun k => k.elim0⟩
  exact fi_of_lt (Host.reduce_andi_all _ _ _ _ _ e i)

end Cert
-- ==== Proof.Scan.Finite.lean ====
module

public import proofs.«01_k».proof.Proof.Common.Fi
public import proofs.«01_k».proof.Proof.Scan.Core

/-! Over finite arguments every value of the recurrence is finite, so a minus sign goes through its sums. -/

@[expose] public section

noncomputable section

open Idealize.ShloMosaic Idealize.ShloMosaic.TcCoe Idealize.SL.Sem

namespace Cert.Scan

/-- Every entry of every argument is a real number. -/
structure Args.Finite (I : Args) : Prop where
  u : ∀ i, Fi (I.u i)
  w : ∀ i, Fi (I.w i)
  q : ∀ i, Fi (I.q i)
  kd : ∀ i, Fi (I.kd i)
  a : ∀ i, Fi (I.a i)
  gl : ∀ i, Fi (I.gl i)
  s0 : ∀ i, Fi (I.s0 i)
  d : ∀ i, Fi (I.d i)

variable {I : Args} (hI : I.Finite)
include hI

theorem fi_dv (n : Fin 32) (S : St) (hS : ∀ b h i j, Fi (S b h i j)) (b : Fin 2) (h : Fin 8) (c : Fin 64) (e : Fin 128) :
    Fi (dv I n S b h c e) :=
  (Fi.sum _ _ fun k => (hI.a _).mul (hI.d _)).add (Fi.sum _ _ fun k => (hI.kd _).mul (hS _ _ _ _))

theorem fi_nxt (n : Fin 32) (S : St) (hS : ∀ b h i j, Fi (S b h i j)) (b : Fin 2) (h : Fin 8) (i j : Fin 128) :
    Fi (nxt I n S b h i j) :=
  (((hS _ _ _ _).mul (hI.gl _).exp).add (Fi.sum _ _ fun k => (hI.q _).mul (hI.d _))).sub
    (Fi.sum _ _ fun k => (hI.w _).mul (fi_dv hI n S hS _ _ _ _))

/-- The state gradient stays finite. -/
theorem fi_DS (k : ℕ) (b : Fin 2) (h : Fin 8) (i j : Fin 128) : Fi (DS I k b h i j) := by
  induction k generalizing b h i j with
  | zero => exact Fi.zero
  | succ k ih => exact fi_nxt hI _ _ ih _ _ _ _

/-- The next state gradient with the minus sign inside the sum, as the derivative of the forward step has it. -/
theorem nxt_neg (n : Fin 32) (S : St) (hS : ∀ b h i j, Fi (S b h i j)) (b : Fin 2) (h : Fin 8) (i j : Fin 128) :
    S b h i j * Ideal.exp (I.gl (ix3 b h n)) +
      (∑ c : Fin 64, (I.d (ix4 b h (row n c) j) : EReal) * I.q (ix4 b h (row n c) i)) +
      (∑ c : Fin 64, -dv I n S b h c j * (I.w (ix4 b h (row n c) i) : EReal)) = nxt I n S b h i j := by
  unfold nxt
  rw [sub_eq_add_neg, ← neg_sum _ _ fun c => (hI.w _).mul (fi_dv hI n S hS _ _ _ _)]
  congr 1
  · congr 1
    exact Finset.sum_congr rfl fun c _ => mul_comm _ _
  · exact Finset.sum_congr rfl fun c _ => by rw [EReal.neg_mul, mul_comm]

/-- The gradient of `w` with the minus sign inside the sum. -/
theorem dw_neg (n : Fin 32) (b : Fin 2) (h : Fin 8) (c : Fin 64) (i : Fin 128) :
    (∑ e : Fin 128, -du I n b h c e * (I.s0 (ix5 b h n i e) : EReal)) = dw I n b h c i := by
  unfold dw
  have hf : ∀ e : Fin 128, Fi (dv I n (dsAt I n) b h c e * (I.s0 (ix5 b h n i e) : EReal)) := fun e =>
    (fi_dv hI n _ (fi_DS hI _) _ _ _ _).mul (hI.s0 _)
  rw [sub_eq_add_neg, zero_add, ← neg_sum _ _ hf]
  exact Finset.sum_congr rfl fun e _ => by rw [EReal.neg_mul]; rfl

end Cert.Scan
-- ==== Proof.Scan.Slice.lean ====
module

public import Idealize.ShloMosaic.Lib.Pipeline.ValueKit
public import Idealize.ShloMosaic.Lib.Pointwise
public import Idealize.ShloMosaic.Lib.Claim

/-! One chunk cut out of, or put into, an array whose leading axis is the chunk. -/

@[expose] public section

set_option maxRecDepth 16384

noncomputable section

open Idealize.ShloMosaic Idealize.ShloMosaic.TcCoe Idealize.SL.Sem

namespace Cert.Scan

/-- A trip's chunk number as the loop computes it: `32 − k − 1`. -/
theorem word_rev : ∀ k : Fin 32, ((32#32 - BitVec.ofNat 32 k.val) - 1#32).toInt = 31 - (k.val : ℤ) := by decide
/-- A trip's number, as the loop reads it. -/
theorem word_fwd : ∀ k : Fin 32, (BitVec.ofNat 32 k.val).toInt = (k.val : ℤ) := by decide

/-- The starts of a slice that takes one chunk. -/
abbrev StartsAt {r : ℕ} (start : Fin (r + 1) → ℤ) (n : Fin 32) : Prop := ∀ a, start a = if a = 0 then (n.val : ℤ) else 0

variable {α : Type} {P Q : ℕ}

theorem clamp5 (h : (⟨5, ![1, 2, 8, P, Q]⟩ : Shape).rank = 5) (start : Fin 5 → ℤ) (n : Fin 32) (hs : StartsAt start n) (a : Fin 5) :
    Host.clampedStart ⟨5, ![32, 2, 8, P, Q]⟩ ⟨5, ![1, 2, 8, P, Q]⟩ h start a = if a = 0 then n.val else 0 := by
  refine Host.clampedStart_of_le (s := ⟨5, ![32, 2, 8, P, Q]⟩) (t := ⟨5, ![1, 2, 8, P, Q]⟩) h start a _ ?_ ?_
  · rw [hs a]; split <;> rfl
  · have := n.isLt
    fin_cases a
    · show n.val + 1 ≤ 32; omega
    · show 0 + 2 ≤ 2; omega
    · show 0 + 8 ≤ 8; omega
    · show 0 + P ≤ P; omega
    · show 0 + Q ≤ Q; omega

theorem dsl5 (x : (⟨5, ![32, 2, 8, P, Q]⟩ : Shape).Idx → α) (start : Fin 5 → ℤ) (n : Fin 32)
    (hs : StartsAt start n) (hl : (⟨5, ![32, 2, 8, P, Q]⟩ : Shape).Slices (fun _ => 0) ⟨5, ![1, 2, 8, P, Q]⟩)
    (z : Fin 1) (b : Fin 2) (h : Fin 8) (i : Fin P) (j : Fin Q) :
    Host.dynamicSlice ⟨5, ![1, 2, 8, P, Q]⟩ x start hl (ix5 z b h i j) = x (ix5 n b h i j) := by
  rw [Host.dynamicSlice_apply]
  refine congrArg x (funext fun a => Fin.ext ?_)
  have hc := clamp5 (P := P) (Q := Q) hl.1 start n hs
  have hz := z.isLt
  fin_cases a
  · exact (congrArg (· + z.val) (hc (0 : Fin 5))).trans (by show n.val + z.val = n.val; omega)
  · exact (congrArg (· + b.val) (hc (1 : Fin 5))).trans (by show 0 + b.val = b.val; omega)
  · exact (congrArg (· + h.val) (hc (2 : Fin 5))).trans (by show 0 + h.val = h.val; omega)
  · exact (congrArg (· + i.val) (hc (3 : Fin 5))).trans (by show 0 + i.val = i.val; omega)
  · exact (congrArg (· + j.val) (hc (4 : Fin 5))).trans (by show 0 + j.val = j.val; omega)

theorem dus5 (x : (⟨5, ![32, 2, 8, P, Q]⟩ : Shape).Idx → α) (y : (⟨5, ![1, 2, 8, P, Q]⟩ : Shape).Idx → α) (start : Fin 5 → ℤ) (n : Fin 32)
    (hs : StartsAt start n) (hl : (⟨5, ![32, 2, 8, P, Q]⟩ : Shape).Slices (fun _ => 0) ⟨5, ![1, 2, 8, P, Q]⟩)
    (k : Fin 32) (b : Fin 2) (h : Fin 8) (i : Fin P) (j : Fin Q) :
    Host.dynamicUpdateSlice x y start hl (ix5 k b h i j) = if k = n then y (ix5 0 b h i j) else x (ix5 k b h i j) := by
  rw [Host.dynamicUpdateSlice_apply]
  have hc := clamp5 (P := P) (Q := Q) hl.1 start n hs
  have hb := b.isLt; have hh := h.isLt; have hi := i.isLt; have hj := j.isLt
  by_cases e : k = n
  · subst e
    have hin : ∀ a : Fin 5, Host.clampedStart ⟨5, ![32, 2, 8, P, Q]⟩ ⟨5, ![1, 2, 8, P, Q]⟩ hl.1 start a ≤ ((ix5 k b h i j : (⟨5, ![32, 2, 8, P, Q]⟩ : Shape).Idx) a).val ∧
        ((ix5 k b h i j : (⟨5, ![32, 2, 8, P, Q]⟩ : Shape).Idx) a).val < Host.clampedStart ⟨5, ![32, 2, 8, P, Q]⟩ ⟨5, ![1, 2, 8, P, Q]⟩ hl.1 start a + (⟨5, ![1, 2, 8, P, Q]⟩ : Shape).size (a.cast hl.1.symm) := by
      intro a
      rw [hc]
      fin_cases a
      · show k.val ≤ k.val ∧ k.val < k.val + 1; omega
      · show 0 ≤ b.val ∧ b.val < 0 + 2; omega
      · show 0 ≤ h.val ∧ h.val < 0 + 8; omega
      · show 0 ≤ i.val ∧ i.val < 0 + P; omega
      · show 0 ≤ j.val ∧ j.val < 0 + Q; omega
    rw [dif_pos hin, if_pos rfl]
    refine congrArg y (funext fun a => Fin.ext ?_)
    fin_cases a
    · exact (congrArg (k.val - ·) (hc (0 : Fin 5))).trans (by show k.val - k.val = 0; omega)
    · exact (congrArg (b.val - ·) (hc (1 : Fin 5))).trans (by show b.val - 0 = b.val; omega)
    · exact (congrArg (h.val - ·) (hc (2 : Fin 5))).trans (by show h.val - 0 = h.val; omega)
    · exact (congrArg (i.val - ·) (hc (3 : Fin 5))).trans (by show i.val - 0 = i.val; omega)
    · exact (congrArg (j.val - ·) (hc (4 : Fin 5))).trans (by show j.val - 0 = j.val; omega)
  · rw [if_neg e, dif_neg]
    intro hin
    have h0 := hin (0 : Fin 5)
    rw [hc, if_pos rfl] at h0
    have h1 : n.val ≤ k.val ∧ k.val < n.val + 1 := h0
    exact e (Fin.ext (by omega))

theorem clamp3 (h : (⟨3, ![1, 2, 8]⟩ : Shape).rank = 3) (start : Fin 3 → ℤ) (n : Fin 32) (hs : StartsAt start n) (a : Fin 3) :
    Host.clampedStart ⟨3, ![32, 2, 8]⟩ ⟨3, ![1, 2, 8]⟩ h start a = if a = 0 then n.val else 0 := by
  refine Host.clampedStart_of_le (s := ⟨3, ![32, 2, 8]⟩) (t := ⟨3, ![1, 2, 8]⟩) h start a _ ?_ ?_
  · rw [hs a]; split <;> rfl
  · have := n.isLt
    fin_cases a
    · show n.val + 1 ≤ 32; omega
    · show 0 + 2 ≤ 2; omega
    · show 0 + 8 ≤ 8; omega

theorem dsl3 (x : (⟨3, ![32, 2, 8]⟩ : Shape).Idx → α) (start : Fin 3 → ℤ) (n : Fin 32)
    (hs : StartsAt start n) (hl : (⟨3, ![32, 2, 8]⟩ : Shape).Slices (fun _ => 0) ⟨3, ![1, 2, 8]⟩)
    (z : Fin 1) (b : Fin 2) (h : Fin 8) :
    Host.dynamicSlice ⟨3, ![1, 2, 8]⟩ x start hl (ix3 z b h) = x (ix3 n b h) := by
  rw [Host.dynamicSlice_apply]
  refine congrArg x (funext fun a => Fin.ext ?_)
  have hc := clamp3 hl.1 start n hs
  have hz := z.isLt
  fin_cases a
  · exact (congrArg (· + z.val) (hc (0 : Fin 3))).trans (by show n.val + z.val = n.val; omega)
  · exact (congrArg (· + b.val) (hc (1 : Fin 3))).trans (by show 0 + b.val = b.val; omega)
  · exact (congrArg (· + h.val) (hc (2 : Fin 3))).trans (by show 0 + h.val = h.val; omega)

theorem dus3 (x : (⟨3, ![32, 2, 8]⟩ : Shape).Idx → α) (y : (⟨3, ![1, 2, 8]⟩ : Shape).Idx → α) (start : Fin 3 → ℤ) (n : Fin 32)
    (hs : StartsAt start n) (hl : (⟨3, ![32, 2, 8]⟩ : Shape).Slices (fun _ => 0) ⟨3, ![1, 2, 8]⟩)
    (k : Fin 32) (b : Fin 2) (h : Fin 8) :
    Host.dynamicUpdateSlice x y start hl (ix3 k b h) = if k = n then y (ix3 0 b h) else x (ix3 k b h) := by
  rw [Host.dynamicUpdateSlice_apply]
  have hc := clamp3 hl.1 start n hs
  have hb := b.isLt; have hh := h.isLt
  by_cases e : k = n
  · subst e
    have hin : ∀ a : Fin 3, Host.clampedStart ⟨3, ![32, 2, 8]⟩ ⟨3, ![1, 2, 8]⟩ hl.1 start a ≤ ((ix3 k b h : (⟨3, ![32, 2, 8]⟩ : Shape).Idx) a).val ∧
        ((ix3 k b h : (⟨3, ![32, 2, 8]⟩ : Shape).Idx) a).val < Host.clampedStart ⟨3, ![32, 2, 8]⟩ ⟨3, ![1, 2, 8]⟩ hl.1 start a + (⟨3, ![1, 2, 8]⟩ : Shape).size (a.cast hl.1.symm) := by
      intro a
      rw [hc]
      fin_cases a
      · show k.val ≤ k.val ∧ k.val < k.val + 1; omega
      · show 0 ≤ b.val ∧ b.val < 0 + 2; omega
      · show 0 ≤ h.val ∧ h.val < 0 + 8; omega
    rw [dif_pos hin, if_pos rfl]
    refine congrArg y (funext fun a => Fin.ext ?_)
    fin_cases a
    · exact (congrArg (k.val - ·) (hc (0 : Fin 3))).trans (by show k.val - k.val = 0; omega)
    · exact (congrArg (b.val - ·) (hc (1 : Fin 3))).trans (by show b.val - 0 = b.val; omega)
    · exact (congrArg (h.val - ·) (hc (2 : Fin 3))).trans (by show h.val - 0 = h.val; omega)
  · rw [if_neg e, dif_neg]
    intro hin
    have h0 := hin (0 : Fin 3)
    rw [hc, if_pos rfl] at h0
    have h1 : n.val ≤ k.val ∧ k.val < n.val + 1 := h0
    exact e (Fin.ext (by omega))

end Cert.Scan
-- ==== Proof.Scan.Ref.lean ====
module

public import proofs.«01_k».proof.Proof.Gen.ScanBwdRefIdeal.Step
public import proofs.«01_k».proof.Proof.Scan.Finite
public import proofs.«01_k».proof.Proof.Scan.Slice
public import Idealize.ShloMosaic.Lib.Pipeline.ValueKit
public import Idealize.ShloMosaic.Lib.Pointwise
public import Idealize.ShloMosaic.Lib.Claim

/-! The reference's loop: after `k` trips its carried state is the recurrence's, and its stacked results hold
the last `k` chunks. -/

@[expose] public section

set_option maxRecDepth 16384

noncomputable section

open Idealize.ShloMosaic Idealize.ShloMosaic.TcCoe Idealize.SL.Sem

namespace Cert.ScanBwdRefIdeal.Mine
open Cert.ScanBwdRefIdeal Cert.ScanBwdRefIdeal.Step Cert.Scan

/-- The loop's constants are the arguments, their chunks stacked. -/
structure Cst (I : Args) (s : State Ideal) : Prop where
  s0 : ∀ (n : Fin 32) (b : Fin 2) (h : Fin 8) (i j : Fin 128), s.main_v22_0 (ix5 n b h i j) = I.s0 (ix5 b h n i j)
  q : ∀ (n : Fin 32) (b : Fin 2) (h : Fin 8) (c : Fin 64) (e : Fin 128), s.main_v22_1 (ix5 n b h c e) = I.q (ix4 b h (row n c) e)
  w : ∀ (n : Fin 32) (b : Fin 2) (h : Fin 8) (c : Fin 64) (e : Fin 128), s.main_v22_2 (ix5 n b h c e) = I.w (ix4 b h (row n c) e)
  u : ∀ (n : Fin 32) (b : Fin 2) (h : Fin 8) (c : Fin 64) (e : Fin 128), s.main_v22_3 (ix5 n b h c e) = I.u (ix4 b h (row n c) e)
  kd : ∀ (n : Fin 32) (b : Fin 2) (h : Fin 8) (c : Fin 64) (e : Fin 128), s.main_v22_5 (ix5 n b h c e) = I.kd (ix4 b h (row n c) e)
  d : ∀ (n : Fin 32) (b : Fin 2) (h : Fin 8) (c : Fin 64) (e : Fin 128), s.main_v22_7 (ix5 n b h c e) = I.d (ix4 b h (row n c) e)
  a : ∀ (n : Fin 32) (b : Fin 2) (h : Fin 8) (c e : Fin 64), s.main_v22_4 (ix5 n b h c e) = I.a (ix4 b h (row n c) e)
  e : ∀ (n : Fin 32) (b : Fin 2) (h : Fin 8), s.main_v22_6 (ix3 n b h) = Ideal.exp (I.gl (ix3 b h n))

/-- The carried values after `k` trips. -/
structure Inv (I : Args) (k : ℕ) (s : State Ideal) : Prop extends Cst I s where
  ds : ∀ (b : Fin 2) (h : Fin 8) (i j : Fin 128), s.main_v22_9 (ix4 b h i j) = DS I k b h i j
  du : ∀ (n : Fin 32), 31 < k + n.val → ∀ (b : Fin 2) (h : Fin 8) (c : Fin 64) (e : Fin 128), s.main_v22_10 (ix5 n b h c e) = Scan.du I n b h c e
  dw : ∀ (n : Fin 32), 31 < k + n.val → ∀ (b : Fin 2) (h : Fin 8) (c : Fin 64) (e : Fin 128), s.main_v22_11 (ix5 n b h c e) = Scan.dw I n b h c e
  dq : ∀ (n : Fin 32), 31 < k + n.val → ∀ (b : Fin 2) (h : Fin 8) (c : Fin 64) (e : Fin 128), s.main_v22_12 (ix5 n b h c e) = Scan.dq I n b h c e
  dk : ∀ (n : Fin 32), 31 < k + n.val → ∀ (b : Fin 2) (h : Fin 8) (c : Fin 64) (e : Fin 128), s.main_v22_13 (ix5 n b h c e) = Scan.dk I n b h c e
  da : ∀ (n : Fin 32), 31 < k + n.val → ∀ (b : Fin 2) (h : Fin 8) (c e : Fin 64), s.main_v22_14 (ix5 n b h c e) = Scan.da I n b h c e
  dg : ∀ (n : Fin 32), 31 < k + n.val → ∀ (b : Fin 2) (h : Fin 8), s.main_v22_15 (ix3 n b h) = Scan.dg I n b h

/-- The chunk that trip `k` takes. -/
abbrev ch (k : ℕ) : Fin 32 := ⟨31 - k, by omega⟩

theorem b3_val (k : ℕ) (hk : k < 32) (s : State Ideal) (i : S_.Idx) : (b3 k s i).toInt = ((ch k).val : ℤ) := by
  have h : (b3 k s i).toInt = 31 - (k : ℤ) := word_rev ⟨k, hk⟩
  rw [h]; show 31 - (k : ℤ) = ((31 - k : ℕ) : ℤ); omega

variable (k : ℕ) (hk : k < 32) (s : State Ideal)
include hk

/-- The starts that every slice of a trip has. -/
theorem starts5 (x y z w : (⟨S_, .i32⟩ : BufTy).Contents (Elt Ideal)) (hx : x = constantI S_ 32 0#32) (hy : y = constantI S_ 32 0#32)
    (hz : z = constantI S_ 32 0#32) (hw : w = constantI S_ 32 0#32) :
    StartsAt (fun a : Fin 5 => (((![b3 k s, x, y, z, w] : Fin 5 → (⟨S_, .i32⟩ : BufTy).Contents (Elt Ideal))) a (Shape.Idx.first Gen.h_S_)).toInt) (ch k) := by
  subst hx hy hz hw
  intro a
  fin_cases a
  · exact b3_val k hk s _
  all_goals rfl
theorem starts3 (x y : (⟨S_, .i32⟩ : BufTy).Contents (Elt Ideal)) (hx : x = constantI S_ 32 0#32) (hy : y = constantI S_ 32 0#32) :
    StartsAt (fun a : Fin 3 => (((![b3 k s, x, y] : Fin 3 → (⟨S_, .i32⟩ : BufTy).Contents (Elt Ideal))) a (Shape.Idx.first Gen.h_S_)).toInt) (ch k) := by
  subst hx hy
  intro a
  fin_cases a
  · exact b3_val k hk s _
  all_goals rfl

variable {I : Args} (C : Cst I s)
include C

/-! A trip's slices of the constants. -/

theorem rd_s0 (b : Fin 2) (h : Fin 8) (i j : Fin 128) : b9 k s (ix4 b h i j) = I.s0 (ix5 b h (ch k) i j) := by
  unfold b9
  refine Eq.trans (by pointwise : _ = b8 k s (ix5 0 b h i j)) ((dsl5 _ _ (ch k) ?_ _ 0 b h i j).trans (C.s0 _ _ _ _ _))
  exact starts5 k hk s _ _ _ _ rfl rfl rfl rfl
theorem rd_q (b : Fin 2) (h : Fin 8) (c : Fin 64) (e : Fin 128) : b15 k s (ix4 b h c e) = I.q (ix4 b h (row (ch k) c) e) := by
  unfold b15
  refine Eq.trans (by pointwise : _ = b14 k s (ix5 0 b h c e)) ((dsl5 _ _ (ch k) ?_ _ 0 b h c e).trans (C.q _ _ _ _ _))
  exact starts5 k hk s _ _ _ _ rfl rfl rfl rfl
theorem rd_w (b : Fin 2) (h : Fin 8) (c : Fin 64) (e : Fin 128) : b21 k s (ix4 b h c e) = I.w (ix4 b h (row (ch k) c) e) := by
  unfold b21
  refine Eq.trans (by pointwise : _ = b20 k s (ix5 0 b h c e)) ((dsl5 _ _ (ch k) ?_ _ 0 b h c e).trans (C.w _ _ _ _ _))
  exact starts5 k hk s _ _ _ _ rfl rfl rfl rfl
theorem rd_u (b : Fin 2) (h : Fin 8) (c : Fin 64) (e : Fin 128) : b27 k s (ix4 b h c e) = I.u (ix4 b h (row (ch k) c) e) := by
  unfold b27
  refine Eq.trans (by pointwise : _ = b26 k s (ix5 0 b h c e)) ((dsl5 _ _ (ch k) ?_ _ 0 b h c e).trans (C.u _ _ _ _ _))
  exact starts5 k hk s _ _ _ _ rfl rfl rfl rfl
theorem rd_kd (b : Fin 2) (h : Fin 8) (c : Fin 64) (e : Fin 128) : b39 k s (ix4 b h c e) = I.kd (ix4 b h (row (ch k) c) e) := by
  unfold b39
  refine Eq.trans (by pointwise : _ = b38 k s (ix5 0 b h c e)) ((dsl5 _ _ (ch k) ?_ _ 0 b h c e).trans (C.kd _ _ _ _ _))
  exact starts5 k hk s _ _ _ _ rfl rfl rfl rfl
theorem rd_d (b : Fin 2) (h : Fin 8) (c : Fin 64) (e : Fin 128) : b49 k s (ix4 b h c e) = I.d (ix4 b h (row (ch k) c) e) := by
  unfold b49
  refine Eq.trans (by pointwise : _ = b48 k s (ix5 0 b h c e)) ((dsl5 _ _ (ch k) ?_ _ 0 b h c e).trans (C.d _ _ _ _ _))
  exact starts5 k hk s _ _ _ _ rfl rfl rfl rfl
theorem rd_a (b : Fin 2) (h : Fin 8) (c : Fin 64) (e : Fin 64) : b33 k s (ix4 b h c e) = I.a (ix4 b h (row (ch k) c) e) := by
  unfold b33
  refine Eq.trans (by pointwise : _ = b32 k s (ix5 0 b h c e)) ((dsl5 _ _ (ch k) ?_ _ 0 b h c e).trans (C.a _ _ _ _ _))
  exact starts5 k hk s _ _ _ _ rfl rfl rfl rfl
theorem rd_e (b : Fin 2) (h : Fin 8) : b43 k s (ix2 b h) = Ideal.exp (I.gl (ix3 b h (ch k))) := by
  unfold b43
  refine Eq.trans (by pointwise : _ = b42 k s (ix3 0 b h)) ((dsl3 _ _ (ch k) ?_ _ 0 b h).trans (C.e _ _ _))
  exact starts3 k hk s _ _ rfl rfl

omit C
/-- A chunk that the trip does not write was written before. -/
theorem later (n : Fin 32) (h : n ≠ ch k) (hn : 31 < k + 1 + n.val) : 31 < k + n.val := by
  have : n.val ≠ 31 - k := fun e => h (Fin.ext e)
  omega
variable (V : Inv I k s)
include V

theorem dsAt_ch : dsAt I (ch k) = DS I k := by
  show DS I (31 - (31 - k)) = _
  congr 1; omega
theorem ds_at (b : Fin 2) (h : Fin 8) (i j : Fin 128) : s.main_v22_9 (ix4 b h i j) = dsAt I (ch k) b h i j := by
  rw [dsAt_ch k hk s V]; exact V.ds b h i j

/-! A trip's values. -/

theorem at_vn (b : Fin 2) (h : Fin 8) (c : Fin 64) (e : Fin 128) : b51 k s (ix4 b h c e) = vn I (ch k) b h c e := by
  pointwise [b51, b50]
  simp only [rd_w k hk s V.toCst, rd_u k hk s V.toCst, rd_s0 k hk s V.toCst]; rfl
theorem at_du (b : Fin 2) (h : Fin 8) (c : Fin 64) (e : Fin 128) : b74 k s (ix4 b h c e) = du I (ch k) b h c e := by
  pointwise [b74, b61, b60, b73, b72]
  simp only [rd_kd k hk s V.toCst, rd_a k hk s V.toCst, rd_d k hk s V.toCst, ds_at k hk s V]
  exact (add_comm _ _).trans (congrArg₂ (· + ·) (Finset.sum_congr rfl fun x _ => mul_comm _ _) (Finset.sum_congr rfl fun x _ => mul_comm _ _))
theorem at_dw (hI : I.Finite) (b : Fin 2) (h : Fin 8) (c : Fin 64) (e : Fin 128) : b84 k s (ix4 b h c e) = dw I (ch k) b h c e := by
  pointwise [b84, b80]
  simp only [at_du k hk s V, rd_s0 k hk s V.toCst]
  exact dw_neg hI (ch k) b h c e
theorem at_dq (b : Fin 2) (h : Fin 8) (c : Fin 64) (e : Fin 128) : b79 k s (ix4 b h c e) = dq I (ch k) b h c e := by
  pointwise [b79]
  simp only [rd_d k hk s V.toCst, rd_s0 k hk s V.toCst]; rfl
theorem at_dk (b : Fin 2) (h : Fin 8) (c : Fin 64) (e : Fin 128) : b63 k s (ix4 b h c e) = dk I (ch k) b h c e := by
  pointwise [b63, b62]
  simp only [ds_at k hk s V, at_vn k hk s V]
  exact Finset.sum_congr rfl fun x _ => mul_comm _ _
theorem at_da (b : Fin 2) (h : Fin 8) (c e : Fin 64) : b75 k s (ix4 b h c e) = da I (ch k) b h c e := by
  pointwise [b75]
  simp only [rd_d k hk s V.toCst, at_vn k hk s V]; rfl
theorem at_dg (b : Fin 2) (h : Fin 8) : b71 k s (ix2 b h) = dg I (ch k) b h := by
  pointwise [b71, b67, b66, b64, b70, b65]
  simp only [ds_at k hk s V, rd_s0 k hk s V.toCst]
  simp only [Finset.univ_unique, Finset.sum_singleton]
  exact Finset.sum_congr rfl fun x _ => Finset.sum_congr rfl fun y _ => mul_comm _ _
theorem at_ds (hI : I.Finite) (b : Fin 2) (h : Fin 8) (i j : Fin 128) : b83 k s (ix4 b h i j) = DS I (k + 1) b h i j := by
  have e1 : DS I (k + 1) = nxt I (ch k) (dsAt I (ch k)) := by
    rw [← DS_succ]; congr 1; show k + 1 = 31 - (31 - k) + 1; omega
  rw [e1, ← nxt_neg hI (ch k) (dsAt I (ch k)) (fi_DS hI _)]
  pointwise [b83, b82, b81, b80, b78, b77, b76, b69, b68, b55]
  simp only [at_du k hk s V, ds_at k hk s V, rd_e k hk s V.toCst, rd_d k hk s V.toCst, rd_q k hk s V.toCst, rd_w k hk s V.toCst]
  rfl

theorem put_du (hI : I.Finite) (n : Fin 32) (hn : 31 < k + 1 + n.val) (b : Fin 2) (h : Fin 8) (c : Fin 64) (e : Fin 128) :
    b90 k s (ix5 n b h c e) = Scan.du I n b h c e := by
  unfold b90
  refine (dus5 _ _ _ (ch k) (starts5 k hk s _ _ _ _ rfl rfl rfl rfl) _ n b h c e).trans ?_
  split
  · next e1 => subst e1; exact Eq.trans (by pointwise [b85] : _ = b74 k s (ix4 b h c e)) (at_du k hk s V b h c e)
  · next e1 => exact V.du n (later k hk n e1 hn) b h c e
theorem put_dw (hI : I.Finite) (n : Fin 32) (hn : 31 < k + 1 + n.val) (b : Fin 2) (h : Fin 8) (c : Fin 64) (e : Fin 128) :
    b96 k s (ix5 n b h c e) = Scan.dw I n b h c e := by
  unfold b96
  refine (dus5 _ _ _ (ch k) (starts5 k hk s _ _ _ _ rfl rfl rfl rfl) _ n b h c e).trans ?_
  split
  · next e1 => subst e1; exact Eq.trans (by pointwise [b91] : _ = b84 k s (ix4 b h c e)) (at_dw k hk s V hI b h c e)
  · next e1 => exact V.dw n (later k hk n e1 hn) b h c e
theorem put_dq (hI : I.Finite) (n : Fin 32) (hn : 31 < k + 1 + n.val) (b : Fin 2) (h : Fin 8) (c : Fin 64) (e : Fin 128) :
    b102 k s (ix5 n b h c e) = Scan.dq I n b h c e := by
  unfold b102
  refine (dus5 _ _ _ (ch k) (starts5 k hk s _ _ _ _ rfl rfl rfl rfl) _ n b h c e).trans ?_
  split
  · next e1 => subst e1; exact Eq.trans (by pointwise [b97] : _ = b79 k s (ix4 b h c e)) (at_dq k hk s V b h c e)
  · next e1 => exact V.dq n (later k hk n e1 hn) b h c e
theorem put_dk (hI : I.Finite) (n : Fin 32) (hn : 31 < k + 1 + n.val) (b : Fin 2) (h : Fin 8) (c : Fin 64) (e : Fin 128) :
    b108 k s (ix5 n b h c e) = Scan.dk I n b h c e := by
  unfold b108
  refine (dus5 _ _ _ (ch k) (starts5 k hk s _ _ _ _ rfl rfl rfl rfl) _ n b h c e).trans ?_
  split
  · next e1 => subst e1; exact Eq.trans (by pointwise [b103] : _ = b63 k s (ix4 b h c e)) (at_dk k hk s V b h c e)
  · next e1 => exact V.dk n (later k hk n e1 hn) b h c e
theorem put_da (hI : I.Finite) (n : Fin 32) (hn : 31 < k + 1 + n.val) (b : Fin 2) (h : Fin 8) (c : Fin 64) (e : Fin 64) :
    b114 k s (ix5 n b h c e) = Scan.da I n b h c e := by
  unfold b114
  refine (dus5 _ _ _ (ch k) (starts5 k hk s _ _ _ _ rfl rfl rfl rfl) _ n b h c e).trans ?_
  split
  · next e1 => subst e1; exact Eq.trans (by pointwise [b109] : _ = b75 k s (ix4 b h c e)) (at_da k hk s V b h c e)
  · next e1 => exact V.da n (later k hk n e1 hn) b h c e
theorem put_dg (n : Fin 32) (hn : 31 < k + 1 + n.val) (b : Fin 2) (h : Fin 8) :
    b118 k s (ix3 n b h) = Scan.dg I n b h := by
  unfold b118
  refine (dus3 _ _ _ (ch k) (starts3 k hk s _ _ rfl rfl) _ n b h).trans ?_
  split
  · next e1 => subst e1; exact Eq.trans (by pointwise [b115] : _ = b71 k s (ix2 b h)) (at_dg k hk s V b h)
  · next e1 => exact V.dg n (later k hk n e1 hn) b h

/-- A trip keeps the invariant. -/
theorem inv_step (hI : I.Finite) : Inv I (k + 1) (step k s) where
  s0 := V.s0
  q := V.q
  w := V.w
  u := V.u
  kd := V.kd
  d := V.d
  a := V.a
  e := V.e
  ds := at_ds k hk s V hI
  du := put_du k hk s V hI
  dw := put_dw k hk s V hI
  dq := put_dq k hk s V hI
  dk := put_dk k hk s V hI
  da := put_da k hk s V hI
  dg := put_dg k hk s V

omit V hk
/-- After the last trip every chunk is there. -/
theorem res_du (V : Inv I 32 s) : R_main_v28 s = rows (Scan.du I) := by
  funext y; idx_vars y
  refine Eq.trans ?_ (V.du ⟨y2.val / 64, by omega⟩ (by omega) y0 y1 ⟨y2.val % 64, by omega⟩ y3)
  pointwise [R_main_v28]
theorem res_dw (V : Inv I 32 s) : R_main_v30 s = rows (Scan.dw I) := by
  funext y; idx_vars y
  refine Eq.trans ?_ (V.dw ⟨y2.val / 64, by omega⟩ (by omega) y0 y1 ⟨y2.val % 64, by omega⟩ y3)
  pointwise [R_main_v30]
theorem res_dq (V : Inv I 32 s) : R_main_v32 s = rows (Scan.dq I) := by
  funext y; idx_vars y
  refine Eq.trans ?_ (V.dq ⟨y2.val / 64, by omega⟩ (by omega) y0 y1 ⟨y2.val % 64, by omega⟩ y3)
  pointwise [R_main_v32]
theorem res_dk (V : Inv I 32 s) : R_main_v34 s = rows (Scan.dk I) := by
  funext y; idx_vars y
  refine Eq.trans ?_ (V.dk ⟨y2.val / 64, by omega⟩ (by omega) y0 y1 ⟨y2.val % 64, by omega⟩ y3)
  pointwise [R_main_v34]
theorem res_da (V : Inv I 32 s) : R_main_v36 s = rows (Scan.da I) := by
  funext y; idx_vars y
  refine Eq.trans ?_ (V.da ⟨y2.val / 64, by omega⟩ (by omega) y0 y1 ⟨y2.val % 64, by omega⟩ y3)
  pointwise [R_main_v36]
theorem res_dg (V : Inv I 32 s) : R_main_v26 s = rows8 (Scan.dg I) := by
  funext y; idx_vars y
  obtain ⟨n, r, rfl⟩ := split_row8 y2
  refine Eq.trans ?_ ((V.dg n (by omega) y0 y1).trans (land8 _ n y0 y1 r y3 rfl))
  pointwise [R_main_v26]

/-- The loop's first state. -/
theorem inv_init (I : Args) : Inv I 0 (init I.u I.w I.q I.kd I.a I.gl I.s0 I.d) where
  s0 n b h i j := by pointwise [init, A_main_v0]
  q n b h c e := by pointwise [init, A_main_v2, A_main_v1]
  w n b h c e := by pointwise [init, A_main_v4, A_main_v3]
  u n b h c e := by pointwise [init, A_main_v6, A_main_v5]
  kd n b h c e := by pointwise [init, A_main_v10, A_main_v9]
  d n b h c e := by pointwise [init, A_main_v14, A_main_v13]
  a n b h c e := by pointwise [init, A_main_v8, A_main_v7]
  e n b h := by pointwise [init, A_main_v12, A_main_v11]
  ds b h i j := by pointwise [init, K_main_v15, K_main_cst]; rfl
  du n hn := absurd hn (by have := n.isLt; omega)
  dw n hn := absurd hn (by have := n.isLt; omega)
  dq n hn := absurd hn (by have := n.isLt; omega)
  dk n hn := absurd hn (by have := n.isLt; omega)
  da n hn := absurd hn (by have := n.isLt; omega)
  dg n hn := absurd hn (by have := n.isLt; omega)

end Cert.ScanBwdRefIdeal.Mine
-- ==== Proof.Scan.RefValue.lean ====
module

public import proofs.«01_k».proof.Proof.Scan.RefRun
public import proofs.«01_k».proof.Proof.Scan.Ref

/-! The reference's run: each of its six results is the recurrence's, when the arguments are finite. -/

@[expose] public section

set_option maxRecDepth 16384

noncomputable section

open Idealize.ShloMosaic Idealize.ShloMosaic.TcCoe Idealize.SL.Sem

namespace Cert.ScanBwdRefIdeal.Mine
open Cert.ScanBwdRefIdeal Cert.ScanBwdRefIdeal.Step Cert.Scan

variable (m : (ℓ : Loc nD τ sig) → Buf (Elt Ideal) ℓ)

/-- The arguments, as the recurrence names them. -/
def args (c : Dev nD) : Args where
  u := m (c, Proc.tc.devRef main_arg0)
  w := m (c, Proc.tc.devRef main_arg1)
  q := m (c, Proc.tc.devRef main_arg2)
  kd := m (c, Proc.tc.devRef main_arg3)
  a := m (c, Proc.tc.devRef main_arg4)
  gl := m (c, Proc.tc.devRef main_arg5)
  s0 := m (c, Proc.tc.devRef main_arg6)
  d := m (c, Proc.tc.devRef main_arg7)

/-- The loop's states. -/
def it (c : Dev nD) (k : ℕ) : State Ideal := Nat.rec (Trips.initState m c) (fun n s => step n s) k

theorem inv (c : Dev nD) (hI : (args m c).Finite) : ∀ k, k ≤ 32 → Inv (args m c) k (it m c k)
  | 0, _ => inv_init (args m c)
  | k + 1, h => inv_step k (by omega) (it m c k) (inv c hI k (by omega)) hI

/-- Every run of the reference ends with the six gradients of the recurrence, and with its arguments unchanged. -/
theorem run (ρ : Dev nD → PrngReg) (hI : ∀ c, (args m c).Finite) :
    θ_run (defs (F := Ideal)) (onTc (τ := τ) (main (F := Ideal))) ⟨m, fun _ => 0, ρ⟩ fun r => ∀ c : Dev nD,
      r.2.mem ((c.tc : Thread nD τ).loc main_v28) = rows (Scan.du (args m c))
      ∧ r.2.mem ((c.tc : Thread nD τ).loc main_v30) = rows (Scan.dw (args m c))
      ∧ r.2.mem ((c.tc : Thread nD τ).loc main_v32) = rows (Scan.dq (args m c))
      ∧ r.2.mem ((c.tc : Thread nD τ).loc main_v34) = rows (Scan.dk (args m c))
      ∧ r.2.mem ((c.tc : Thread nD τ).loc main_v36) = rows (Scan.da (args m c))
      ∧ r.2.mem ((c.tc : Thread nD τ).loc main_v26) = rows8 (Scan.dg (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (res_du (it m c 32) (inv m c (hI c) 32 le_rfl)), (h c).2.1.trans (res_dw (it m c 32) (inv m c (hI c) 32 le_rfl)), (h c).2.2.1.trans (res_dq (it m c 32) (inv m c (hI c) 32 le_rfl)), (h c).2.2.2.1.trans (res_dk (it m c 32) (inv m c (hI c) 32 le_rfl)), (h c).2.2.2.2.1.trans (res_da (it m c 32) (inv m c (hI c) 32 le_rfl)), (h c).2.2.2.2.2.1.trans (res_dg (it m c 32) (inv m c (hI c) 32 le_rfl)), (h c).2.2.2.2.2.2⟩)
    (Trips.run_iter m ρ (it m) (fun _ => rfl) fun _ _ => rfl)

end Cert.ScanBwdRefIdeal.Mine
-- ==== Proof.Scan.Pre.lean ====
module

public import proofs.«01_k».proof.Proof.Gen.Pre_scan_finite
public import proofs.«01_k».proof.Proof.Scan.Finite

/-! The precondition read back: every entry of every argument is a real number. -/

@[expose] public section

noncomputable section

open Idealize.ShloMosaic Idealize.ShloMosaic.TcCoe Idealize.SL.Sem

namespace Cert.Scan

theorem finite_of_pre (I : Args)
    (h : Cert.Pre_scan_finite.fn (F := Ideal) I.u I.w I.q I.kd I.a I.gl I.s0 I.d = fun _ => 1#1) : I.Finite := by
  have e := congrFun h ix0
  unfold Cert.Pre_scan_finite.fn Cert.Pre_scan_finite.fn_part1 Cert.Pre_scan_finite.fn_part2 at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  exact ⟨fi_all e0, fi_all e1, fi_all e2, fi_all e3, fi_all e4, fi_all e5, fi_all e6, fi_all e7⟩

end Cert.Scan
-- ==== Proof.Scan.Claim.lean ====
module

public import proofs.«01_k».proof.Defs
public import proofs.«01_k».proof.Proof.Scan.KernelRun
public import proofs.«01_k».proof.Proof.Scan.RefValue
public import proofs.«01_k».proof.Proof.Scan.Pre
public import Idealize.ShloMosaic.Lib.Quiescent

/-! The gradient of the delta rule's scan: kernel and reference leave the same six arrays. -/

@[expose] public section

set_option maxRecDepth 16384

noncomputable section

open Idealize.ShloMosaic Idealize.ShloMosaic.TcCoe Idealize.SL.Sem

namespace Cert.Scan

theorem algebraic : Cert.algebraic_ScanBwdIdeal_ScanBwdRefIdeal_pre_scan_finite := by
  intro m g m' g' hpre hagree
  have e : ∀ c, ScanBwdRefIdeal.Mine.args m' c = ScanBwdIdeal.Mine.args m c := fun c => by
    obtain ⟨h0, h1, h2, h3, h4, h5, h6, h7⟩ := hagree c
    show Args.mk _ _ _ _ _ _ _ _ = Args.mk _ _ _ _ _ _ _ _
    exact congr (congr (congr (congr (congr (congr (congr (congrArg Args.mk h0) h1) h2) h3) h4) h5) h6) h7
  have hI : ∀ c, (ScanBwdRefIdeal.Mine.args m' c).Finite := fun c => by
    rw [e c]; exact finite_of_pre _ (hpre c)
  refine ⟨_, _, _, _, _, _, ScanBwdIdeal.Mine.run m g, ?_⟩
  refine (θ_run ScanBwdRefIdeal.defs _ _).mono (fun r h c => ?_) (ScanBwdRefIdeal.Mine.run m' g' hI)
  have h' := h c
  rw [e c] at h'
  exact h'

/-- The reference terminates, leaves its arguments unchanged and every counter at zero. -/
theorem frame_ref : Cert.quiescent_ScanBwdRefIdeal := fun m ρ _ =>
  (θ_run Cert.ScanBwdRefIdeal.defs _ _).mono (fun r h => ⟨fun c => (h c).2.2.2.2.2.2, sem_eq_zero_of_no_sems (by decide) r.2⟩)
    (Cert.ScanBwdRefIdeal.Value.run m ρ)

end Cert.Scan
-- ==== Proof.Common.Sums.lean ====
module

public import Mathlib.Algebra.BigOperators.Fin
public import Mathlib.Algebra.BigOperators.Intervals

@[expose] public section

/-! Sums over a number range that is cut into blocks of one length. -/

namespace Cert.Sums

/-- A sum over `a * b` places is the sum over `a` blocks of the sums over their `b` places. -/
theorem blocks {M : Type*} [AddCommMonoid M] (a b n : ℕ) (hn : n = a * b) (f : ℕ → M) :
    (∑ k ∈ Finset.range a, ∑ r : Fin b, f (k * b + r.val)) = ∑ x : Fin n, f x.val := by
  subst hn
  induction a with
  | zero => rw [Fin.sum_univ_eq_sum_range f (0 * b)]; simp
  | succ a ih =>
    rw [Finset.sum_range_succ, ih, Fin.sum_univ_eq_sum_range f (a * b),
      Fin.sum_univ_eq_sum_range f ((a + 1) * b),
      Fin.sum_univ_eq_sum_range (fun r => f (a * b + r)) b, Nat.succ_mul, Finset.sum_range_add]

/-- The sum over pairs in the order in which a batch of rows is laid out flat. -/
theorem pairs {M : Type*} [AddCommMonoid M] (a b n : ℕ) (hn : n = a * b) (f : ℕ → M) :
    (∑ x : Fin n, f x.val) = ∑ k : Fin a, ∑ r : Fin b, f (k.val * b + r.val) := by
  rw [← blocks a b n hn f, Fin.sum_univ_eq_sum_range (fun k => ∑ r : Fin b, f (k * b + r.val)) a]

/-- A row of the flat batch of two sequences of 2048, as a sequence and a place in it. -/
abbrev bat (r : ℕ) : Fin 2 := ⟨r / 2048 % 2, by omega⟩
abbrev pl (r : ℕ) : Fin 2048 := ⟨r % 2048, by omega⟩
theorem bat_of (b : Fin 2) (t : Fin 2048) : bat (b.val * 2048 + t.val) = b :=
  Fin.ext (by show (b.val * 2048 + t.val) / 2048 % 2 = b.val; omega)
theorem pl_of (b : Fin 2) (t : Fin 2048) : pl (b.val * 2048 + t.val) = t :=
  Fin.ext (by show (b.val * 2048 + t.val) % 2048 = t.val; omega)

end Cert.Sums

end
-- ==== Proof.Ffn.Core.lean ====
module

public import Idealize.ShloMosaic.Lib.Pointwise
public import proofs.«01_k».proof.Proof.Common.Sums

@[expose] public section

/-! The feed-forward block over the extended reals, entry by entry: a modulated root-mean-square norm, a gated
product, its projection back and the residual. -/

noncomputable section

open Idealize.ShloMosaic

namespace Cert.Ffn

/-- The block's arguments: the rows, the shift, scale and gate of each sequence, the norm's gain and the two weights. -/
structure In where
  x : Fin 2 → Fin 2048 → Fin 1024 → EReal
  mod : Fin 2 → Fin 3 → Fin 1024 → EReal
  g : Fin 1024 → EReal
  wi : Fin 1024 → Fin 5632 → EReal
  wo : Fin 2816 → Fin 1024 → EReal

/-- The numbers 1024, the norm's small constant and one half, as they are written in 32 bits. -/
abbrev width : EReal := Ideal.ofBits FTy.f32 0x44800000#32
abbrev tiny : EReal := Ideal.ofBits FTy.f32 0x358637BD#32
abbrev half : EReal := Ideal.ofBits FTy.f32 0x3F000000#32

variable (A : In)

/-- The reciprocal root of a row's mean square. -/
def rr (b : Fin 2) (t : Fin 2048) : EReal :=
  Ideal.rsqrt (Ideal.div (∑ e : Fin 1024, A.x b t e * A.x b t e) width + tiny)
/-- The modulated, normed row. -/
def hm (b : Fin 2) (t : Fin 2048) (e : Fin 1024) : EReal :=
  A.x b t e * rr A b t * A.g e * (1 + A.mod b 1 e) + A.mod b 0 e
/-- Its product with the first weight: the gate's columns, then the other half. -/
def z (b : Fin 2) (t : Fin 2048) (k : Fin 5632) : EReal := ∑ e : Fin 1024, hm A b t e * A.wi e k
abbrev lft (f : Fin 2816) : Fin 5632 := ⟨f.val, by omega⟩
abbrev rgt (f : Fin 2816) : Fin 5632 := ⟨2816 + f.val, by omega⟩
/-- The gated product. -/
def hid (b : Fin 2) (t : Fin 2048) (f : Fin 2816) : EReal :=
  z A b t (lft f) * Ideal.logistic (z A b t (lft f)) * z A b t (rgt f)
/-- Its projection back. -/
def y (b : Fin 2) (t : Fin 2048) (e : Fin 1024) : EReal := ∑ f : Fin 2816, hid A b t f * A.wo f e
/-- The residual. -/
def xn (b : Fin 2) (t : Fin 2048) (e : Fin 1024) : EReal :=
  A.x b t e + half * (1 + A.mod b 2 e) * y A b t e

/-- A column of one half, tile `j` and place `f` in it. -/
abbrev col (j : ℕ) (f : Fin 704) : Fin 2816 := ⟨j % 4 * 704 + f.val, by omega⟩

/-- The sum over the first `n` tiles of 704 columns. -/
def part (f : Fin 2816 → EReal) (n : ℕ) : EReal := ∑ k ∈ Finset.range n, ∑ r : Fin 704, f (col k r)

theorem part_one (f : Fin 2816 → EReal) (k : ℕ) (h : k = 0) :
    (0 : EReal) + ∑ r : Fin 704, f (col k r) = part f 1 := by
  subst h; simp [part]
theorem part_succ (f : Fin 2816 → EReal) (n : ℕ) :
    part f n + ∑ r : Fin 704, f (col n r) = part f (n + 1) := by
  simp [part, Finset.sum_range_succ]
/-- The four tiles are all columns. -/
theorem part_all (f : Fin 2816 → EReal) : part f 4 = ∑ k : Fin 2816, f k := by
  have h := Sums.blocks 4 704 2816 rfl fun k => f ⟨k % 2816, Nat.mod_lt _ (by norm_num)⟩
  refine (Finset.sum_congr rfl fun k hk => Finset.sum_congr rfl fun r _ => congrArg f (Fin.ext ?_)).trans
    (h.trans (Finset.sum_congr rfl fun k _ => congrArg f (Fin.ext (Nat.mod_eq_of_lt k.isLt))))
  have := Finset.mem_range.1 hk
  show k % 4 * 704 + r.val = (k * 704 + r.val) % 2816
  omega

end Cert.Ffn

end

end
-- ==== Proof.FfnA.Math.lean ====
module

public import proofs.«01_k».proof.Proof.Ffn.Core
public import proofs.«01_k».proof.Proof.Common.Fi

@[expose] public section

/-! The gradients of the feed-forward block over the extended reals, entry by entry, and the steps that need real
numbers: the gate's derivative in two shapes, the norm's derivative in two shapes, a factor taken out of a sum. -/

noncomputable section

open Idealize.ShloMosaic

namespace Cert.FfnA
open Cert.Ffn Cert.Sums

/-- The block's arguments, and the gradient that arrives at its result. -/
structure Bk where
  A : In
  d : Fin 2 → Fin 2048 → Fin 1024 → EReal

/-- Every argument is a real number. -/
structure Bk.Real (B : Bk) : Prop where
  x : ∀ b t e, Fi (B.A.x b t e)
  mod : ∀ b k e, Fi (B.A.mod b k e)
  g : ∀ e, Fi (B.A.g e)
  wi : ∀ e k, Fi (B.A.wi e k)
  wo : ∀ f e, Fi (B.A.wo f e)
  d : ∀ b t e, Fi (B.d b t e)

variable (B : Bk) (b : Fin 2) (t : Fin 2048)

/-- The gradient at the block's inner result. -/
def dout (e : Fin 1024) : EReal := half * (1 + B.A.mod b 2 e) * B.d b t e
/-- The gradient at the gated product. -/
def dhid (f : Fin 2816) : EReal := ∑ e : Fin 1024, dout B b t e * B.A.wo f e
/-- The gate's logistic. -/
abbrev sg (f : Fin 2816) : EReal := Ideal.logistic (z B.A b t (lft f))
/-- The gradient at the gate's column, -/
def dl (f : Fin 2816) : EReal :=
  dhid B b t f * z B.A b t (rgt f) * (sg B b t f * (1 + z B.A b t (lft f) * (1 - sg B b t f)))
/-- and at the other half's. -/
def dr (f : Fin 2816) : EReal := dhid B b t f * (z B.A b t (lft f) * sg B b t f)
/-- Both, as one row. -/
def dz (k : Fin 5632) : EReal := if h : k.val < 2816 then dl B b t ⟨k.val, h⟩ else dr B b t ⟨k.val - 2816, by omega⟩
/-- What a gate's column and an other column give the gradient at the modulated row. -/
abbrev el (e : Fin 1024) (f : Fin 2816) : EReal := dl B b t f * B.A.wi e (lft f)
abbrev er (e : Fin 1024) (f : Fin 2816) : EReal := dr B b t f * B.A.wi e (rgt f)
/-- The gradient at the modulated row. -/
def dh (e : Fin 1024) : EReal := (∑ f : Fin 2816, el B b t e f) + ∑ f : Fin 2816, er B b t e f
/-- The gradient at the gained row, -/
def am (e : Fin 1024) : EReal := dh B b t e * (1 + B.A.mod b 1 e)
/-- at the normed row, -/
def dxh (e : Fin 1024) : EReal := am B b t e * B.A.g e
/-- the normed row, and with its gain. -/
def xh (e : Fin 1024) : EReal := B.A.x b t e * rr B.A b t
def xg (e : Fin 1024) : EReal := xh B b t e * B.A.g e
/-- The gradient at the row. -/
def dx (e : Fin 1024) : EReal :=
  B.d b t e + rr B.A b t * (dxh B b t e - xh B b t e * Ideal.div (∑ k : Fin 1024, dxh B b t k * xh B b t k) width)
/-- What a row gives the gradients of the shift, the scale, the gate and the gain. -/
def gsh (e : Fin 1024) : EReal := dh B b t e
def gsc (e : Fin 1024) : EReal := dh B b t e * xg B b t e
def gga (e : Fin 1024) : EReal := half * B.d b t e * Ffn.y B.A b t e
def gng (e : Fin 1024) : EReal := am B b t e * xh B b t e

/-! Sums over rows. -/

/-- The sum over the 512 rows of block `i` of the flat batch. -/
def blkSum (f : Fin 2 → Fin 2048 → EReal) (i : ℕ) : EReal :=
  ∑ r : Fin 512, f (bat (i * 512 + r.val)) (pl (i * 512 + r.val))

/-- The sum over the first `n` blocks from block `i`. -/
def from_ (f : Fin 2 → Fin 2048 → EReal) (i n : ℕ) : EReal := ∑ k ∈ Finset.range n, blkSum f (i + k)

theorem from_one (f : Fin 2 → Fin 2048 → EReal) (i : ℕ) : 0 + blkSum f i = from_ f i 1 := by simp [from_]
theorem from_succ (f : Fin 2 → Fin 2048 → EReal) (i n : ℕ) : from_ f i n + blkSum f (i + n) = from_ f i (n + 1) := by
  simp [from_, Finset.sum_range_succ]
/-- Four blocks are a sequence. -/
theorem from_seq (f : Fin 2 → Fin 2048 → EReal) (b : Fin 2) : from_ f (b.val * 4) 4 = ∑ t : Fin 2048, f b t := by
  have h := Sums.blocks 4 512 2048 rfl fun r => f b (pl r)
  refine (Finset.sum_congr rfl fun k hk => Finset.sum_congr rfl fun r _ => ?_).trans
    (h.trans (Finset.sum_congr rfl fun t _ => congrArg (f b) (Fin.ext (Nat.mod_eq_of_lt t.isLt))))
  have hk := Finset.mem_range.1 hk
  refine congrArg₂ f (Fin.ext ?_) (Fin.ext ?_)
  · show ((b.val * 4 + k) * 512 + r.val) / 2048 % 2 = b.val; omega
  · show ((b.val * 4 + k) * 512 + r.val) % 2048 = (k * 512 + r.val) % 2048; omega
/-- Eight blocks are the batch. -/
theorem from_all (f : Fin 2 → Fin 2048 → EReal) : from_ f 0 8 = ∑ b : Fin 2, ∑ t : Fin 2048, f b t := by
  have h := (Sums.blocks 8 512 4096 rfl fun r => f (bat r) (pl r)).trans (Sums.pairs 2 2048 4096 rfl fun r => f (bat r) (pl r))
  refine (Finset.sum_congr rfl fun k _ => ?_).trans (h.trans (Finset.sum_congr rfl fun b _ => Finset.sum_congr rfl fun t _ => ?_))
  · show blkSum f (0 + k) = _; rw [Nat.zero_add]; rfl
  · rw [bat_of, pl_of]

/-- The whole row of columns is the two halves. -/
theorem dz_sum (e : Fin 1024) : (∑ k : Fin 5632, dz B b t k * B.A.wi e k) = dh B b t e := by
  refine (Fin.sum_univ_add (a := 2816) (b := 2816) fun k : Fin 5632 => dz B b t k * B.A.wi e k).trans ?_
  refine congrArg₂ (· + ·) (Finset.sum_congr rfl fun f _ => congrArg₂ (· * ·) ?_ rfl) (Finset.sum_congr rfl fun f _ => congrArg₂ (· * ·) ?_ rfl)
  · exact dif_pos (show (Fin.castAdd 2816 f).val < 2816 from f.isLt)
  · refine (dif_neg (show ¬ (Fin.natAdd 2816 f).val < 2816 from by simp)).trans (congrArg (dr B b t) (Fin.ext ?_))
    show 2816 + f.val - 2816 = f.val; omega

end Cert.FfnA

end

end
-- ==== Proof.FfnA.Real.lean ====
module

public import proofs.«01_k».proof.Proof.FfnA.Math

@[expose] public section

/-! The feed-forward block's gradients on real arguments: the intermediate values are real numbers, and the shapes in
which a derivative is written by rule (a sum for the gate, two equal terms for the norm, a factor outside of a sum)
are those of the kernel. -/

noncomputable section

open Idealize.ShloMosaic

namespace Cert.FfnA
open Cert.Ffn Cert.Sums

/-- Minus one half, as it is written in 32 bits. -/
abbrev mhalf : EReal := Ideal.ofBits FTy.f32 0xBF000000#32

theorem width_eq : width = ((1024 : ℝ) : EReal) := by
  simp [Ideal.ofBits, Ideal.ieee]
  norm_num
  rw [← EReal.coe_mul]; norm_num
theorem half_eq : half = ((1 / 2 : ℝ) : EReal) := by
  simp [Ideal.ofBits, Ideal.ieee]
  norm_num
  rw [← EReal.coe_mul]; norm_num
theorem mhalf_eq : mhalf = ((-(1 / 2) : ℝ) : EReal) := by
  simp [Ideal.ofBits, Ideal.ieee]
  norm_num
  rw [← EReal.coe_mul]; norm_num
theorem tiny_pos : ∃ e : ℝ, 0 < e ∧ tiny = (e : EReal) := by
  refine ⟨_, ?_, by simp [Ideal.ofBits, Ideal.ieee]; rfl⟩
  positivity
theorem one_eq : (1 : EReal) = ((1 : ℝ) : EReal) := rfl

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem Fi.div' {x y : EReal} (hx : Fi x) (hy : ∃ r : ℝ, r ≠ 0 ∧ y = (r : EReal)) : Fi (Ideal.div x y) := by
  obtain ⟨r, hr, rfl⟩ := hy
  rw [Ideal.div_coe hr]
  exact hx.mul ⟨_, rfl⟩
theorem Fi.one : Fi 1 := ⟨1, rfl⟩
theorem fi_half : Fi half := ⟨_, half_eq⟩
theorem fi_logistic {x : EReal} (hx : Fi x) : Fi (Ideal.logistic x) := by
  obtain ⟨a, rfl⟩ := hx
  refine Fi.div' Fi.one ⟨1 + Real.exp (-a), by positivity, ?_⟩
  rw [EReal.coe_add]; rfl

/-- The gate's derivative, as the product rule writes it. -/
theorem gate {h u z s : EReal} (hh : Fi h) (hu : Fi u) (hz : Fi z) (hs : Fi s) :
    h * u * s + z * (h * u) * (s * (1 - s)) = h * u * (s * (1 + z * (1 - s))) := by
  obtain ⟨a, rfl⟩ := hh; obtain ⟨b, rfl⟩ := hu; obtain ⟨c, rfl⟩ := hz; obtain ⟨d, rfl⟩ := hs
  rw [one_eq]
  norm_cast
  ring

/-- A real factor taken out of a sum of reals. -/
theorem mul_sum' {ι : Type} (s : Finset ι) (k : EReal) (f : ι → EReal) (hk : Fi k) (hf : ∀ i, Fi (f i)) :
    k * ∑ i ∈ s, f i = ∑ i ∈ s, k * f i := by
  obtain ⟨a, rfl⟩ := hk
  choose g hg using hf
  simp only [hg, ← EReal.coe_mul, sum_coe, Finset.mul_sum]

section
variable {B : Bk} (hB : B.Real) (b : Fin 2) (t : Fin 2048)
include hB

/-- A row's mean square and the small constant are a positive real number. -/
theorem mean_pos : ∃ q : ℝ, 0 < q ∧ Ideal.div (∑ e : Fin 1024, B.A.x b t e * B.A.x b t e) width + tiny = (q : EReal) := by
  obtain ⟨ε, hε, he⟩ := tiny_pos
  choose f hf using fun e => hB.x b t e
  refine ⟨(∑ e : Fin 1024, f e * f e) * (1 / 1024) + ε, ?_, ?_⟩
  · have := Finset.sum_nonneg fun (e : Fin 1024) (_ : e ∈ Finset.univ) => mul_self_nonneg (f e)
    positivity
  rw [he, width_eq, Ideal.div_coe (by norm_num)]
  simp only [hf, ← EReal.coe_mul, sum_coe, ← EReal.coe_add]
/-- The reciprocal root of a positive real number, and its square. -/
theorem rr_pos : ∃ q r : ℝ, q ≠ 0 ∧ r * r = 1 / q ∧
    Ideal.div (∑ e : Fin 1024, B.A.x b t e * B.A.x b t e) width + tiny = (q : EReal) ∧ rr B.A b t = (r : EReal) := by
  obtain ⟨q, hq, e⟩ := mean_pos hB b t
  refine ⟨q, (Real.sqrt q)⁻¹, hq.ne', ?_, e, ?_⟩
  · rw [← mul_inv, Real.mul_self_sqrt hq.le, one_div]
  · unfold rr
    rw [e, Ideal.rsqrt_coe, if_neg hq.not_gt, if_neg hq.ne']
theorem fi_rr : Fi (rr B.A b t) := by
  obtain ⟨q, r, -, -, -, h⟩ := rr_pos hB b t
  exact ⟨r, h⟩
theorem fi_hm (e : Fin 1024) : Fi (hm B.A b t e) :=
  ((((hB.x b t e).mul (fi_rr hB b t)).mul (hB.g e)).mul (Fi.one.add (hB.mod b 1 e))).add (hB.mod b 0 e)
theorem fi_z (k : Fin 5632) : Fi (z B.A b t k) := Fi.sum _ _ fun e => (fi_hm hB b t e).mul (hB.wi e k)
theorem fi_sg (f : Fin 2816) : Fi (sg B b t f) := fi_logistic (fi_z hB b t _)
theorem fi_dhid (f : Fin 2816) : Fi (dhid B b t f) :=
  Fi.sum _ _ fun e => ((fi_half.mul (Fi.one.add (hB.mod b 2 e))).mul (hB.d b t e)).mul (hB.wo f e)
theorem fi_y (e : Fin 1024) : Fi (Ffn.y B.A b t e) := Fi.sum _ _ fun f =>
  (((fi_z hB b t _).mul (fi_sg hB b t f)).mul (fi_z hB b t _)).mul (hB.wo f e)
theorem fi_dl (f : Fin 2816) : Fi (dl B b t f) :=
  ((fi_dhid hB b t f).mul (fi_z hB b t _)).mul ((fi_sg hB b t f).mul
    (Fi.one.add ((fi_z hB b t _).mul (Fi.one.sub (fi_sg hB b t f)))))
theorem fi_dr (f : Fin 2816) : Fi (dr B b t f) := (fi_dhid hB b t f).mul ((fi_z hB b t _).mul (fi_sg hB b t f))
theorem fi_dh (e : Fin 1024) : Fi (dh B b t e) :=
  (Fi.sum _ _ fun f => (fi_dl hB b t f).mul (hB.wi e _)).add (Fi.sum _ _ fun f => (fi_dr hB b t f).mul (hB.wi e _))
theorem fi_dxh (e : Fin 1024) : Fi (dxh B b t e) :=
  ((fi_dh hB b t e).mul (Fi.one.add (hB.mod b 1 e))).mul (hB.g e)

/-- The gate's column of the gradient, as the product rule writes it. -/
theorem dl_rule (f : Fin 2816) : dhid B b t f * z B.A b t (rgt f) * sg B b t f +
    z B.A b t (lft f) * (dhid B b t f * z B.A b t (rgt f)) * (sg B b t f * (1 - sg B b t f)) = dl B b t f :=
  gate (fi_dhid hB b t f) (fi_z hB b t _) (fi_z hB b t _) (fi_sg hB b t f)

/-- The norm's derivative, as the chain rule writes it: two equal terms through the mean square. -/
theorem dx_rule (e : Fin 1024) (s : EReal)
    (hs : s = Ideal.div ((∑ k : Fin 1024, B.A.x b t k * dxh B b t k) *
      (mhalf * Ideal.div (rr B.A b t) (Ideal.div (∑ k : Fin 1024, B.A.x b t k * B.A.x b t k) width + tiny))) width) :
    B.d b t e + (dxh B b t e * rr B.A b t + B.A.x b t e * s + s * B.A.x b t e) = dx B b t e := by
  obtain ⟨q, r, hq, hr, e1, e2⟩ := rr_pos hB b t
  choose f hf using fun k => hB.x b t k
  choose g hg using fun k => fi_dxh hB b t k
  obtain ⟨d, hd⟩ := hB.d b t e
  subst hs
  unfold dx xh
  rw [e1]
  simp only [e2, hf, hg, hd, mhalf_eq, width_eq, Ideal.div_coe hq, Ideal.div_coe (show (1024 : ℝ) ≠ 0 by norm_num),
    ← EReal.coe_mul, sum_coe, ← EReal.coe_add, ← EReal.coe_sub]
  congr 1
  have hsum : ∑ k : Fin 1024, g k * (f k * r) = r * ∑ k : Fin 1024, f k * g k := by
    rw [Finset.mul_sum]; exact Finset.sum_congr rfl fun k _ => by ring
  rw [hsum, ← hr]
  ring

/-- The factor one half outside of the gate's sum. -/
theorem gate_sum (e : Fin 1024) : half * (∑ t : Fin 2048, B.d b t e * Ffn.y B.A b t e) = ∑ t : Fin 2048, gga B b t e := by
  rw [mul_sum' _ _ _ fi_half fun t => (hB.d b t e).mul (fi_y hB b t e)]
  exact Finset.sum_congr rfl fun t _ => (mul_assoc _ _ _).symm
end

end Cert.FfnA

end

end
-- ==== Proof.Proj.Math.lean ====
module

public import proofs.«01_k».proof.Proof.FfnA.Real

/-! The gradient of a product and of the modulated norm before it: what the kernel and
the reference compute, entry by entry. -/

@[expose] public section

noncomputable section

open Idealize.ShloMosaic Idealize.ShloMosaic.TcCoe Idealize.SL.Sem

namespace Cert.Proj
open Cert.Ffn Cert.FfnA Cert.Sums

/-- The rows, their modulation and gain and the gradient that passes them by; the product's weights, of `C` columns; and the
gradient at the product. -/
structure Pk (C : ℕ) where
  B : Bk
  w : Fin 1024 → Fin C → EReal
  dp : Fin 2 → Fin 2048 → Fin C → EReal

variable {C : ℕ} (P : Pk C) (b : Fin 2) (t : Fin 2048)

/-- The gradient at the modulated row, -/
def dh (e : Fin 1024) : EReal := ∑ k : Fin C, P.dp b t k * P.w e k
/-- at the gained row, -/
def am (e : Fin 1024) : EReal := dh P b t e * (1 + P.B.A.mod b 1 e)
/-- at the normed row, -/
def dxh (e : Fin 1024) : EReal := am P b t e * P.B.A.g e
/-- and at the row itself. -/
def dx (e : Fin 1024) : EReal :=
  P.B.d b t e + rr P.B.A b t * (dxh P b t e - xh P.B b t e * Ideal.div (∑ k : Fin 1024, dxh P b t k * xh P.B b t k) width)
/-- What a row gives the gradients of the scale and of the gain. -/
def gsc (e : Fin 1024) : EReal := dh P b t e * xg P.B b t e
def gng (e : Fin 1024) : EReal := am P b t e * xh P.B b t e

/-- The three groups of columns, the last filled up with zeros, are all the columns. -/
theorem cols (f : Fin 4112 → EReal) :
    (∑ k : Fin 3072, f ⟨k.val, by omega⟩) + (∑ k : Fin 1024, f ⟨3072 + k.val, by omega⟩) +
      (∑ k : Fin 128, if h : k.val < 16 then f ⟨4096 + k.val, by omega⟩ else 0) = ∑ k : Fin 4112, f k := by
  have h1 := Fin.sum_univ_add (a := 4096) (b := 16) f
  have h2 := Fin.sum_univ_add (a := 3072) (b := 1024) fun k : Fin 4096 => f (Fin.castAdd 16 k)
  have h3 := Fin.sum_univ_add (a := 16) (b := 112) fun k : Fin 128 => if h : k.val < 16 then f ⟨4096 + k.val, by omega⟩ else 0
  have h4 : (∑ k : Fin 112, if h : (Fin.natAdd 16 k : Fin 128).val < 16 then f ⟨4096 + (Fin.natAdd 16 k : Fin 128).val, by omega⟩ else 0) = 0 :=
    Finset.sum_eq_zero fun k _ => dif_neg (by simp)
  have h5 : (∑ k : Fin 16, if h : (Fin.castAdd 112 k : Fin 128).val < 16 then f ⟨4096 + (Fin.castAdd 112 k : Fin 128).val, by omega⟩ else 0) =
      ∑ k : Fin 16, f (Fin.natAdd 4096 k) :=
    Finset.sum_congr rfl fun k _ => (dif_pos (show (Fin.castAdd 112 k : Fin 128).val < 16 from k.isLt)).trans rfl
  rw [h4, add_zero, h5] at h3
  refine (congrArg _ h3).trans (Eq.trans ?_ h1.symm)
  exact congrArg (· + _) h2.symm

/-! The norm's derivative, for any extended reals. Where a row has an infinite entry its reciprocal root is zero, and
both shapes of the derivative are zero; otherwise the root is a positive real number, which goes through every sum. -/

/-- A nonnegative real factor taken out of a sum. -/
theorem mul_sum_real {ι : Type} (s : Finset ι) (r : ℝ) (hr : 0 ≤ r) (f : ι → EReal) : ∑ i ∈ s, (r : EReal) * f i = r * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 hr) (EReal.coe_ne_top r)]

/-- Twice a negative multiple. -/
theorem twice (y : EReal) (c : ℝ) (hc : 0 < c) : y * ((-c : ℝ) : EReal) + y * ((-c : ℝ) : EReal) = -(y * ((2 * c : ℝ) : EReal)) := by
  induction y with
  | bot => rw [EReal.bot_mul_coe_of_neg (by linarith), EReal.bot_mul_coe_of_pos (by linarith)]; rfl
  | top => rw [EReal.top_mul_coe_of_neg (by linarith), EReal.top_mul_coe_of_pos (by linarith)]; rfl
  | coe a =>
    rw [← EReal.coe_mul, ← EReal.coe_mul, ← EReal.coe_add, ← EReal.coe_neg]
    exact congrArg _ (by ring)

/-- The two shapes of the norm's derivative, of a row of real numbers. -/
theorem shapes (G S : EReal) (X r q : ℝ) (hr : 0 < r) (hq : r * r = 1 / q) :
    G * r + X * (S * (((-(1 / 2) : ℝ) : EReal) * ((r : EReal) * ((1 / q : ℝ) : EReal))) * ((1 / 1024 : ℝ) : EReal)) +
        S * (((-(1 / 2) : ℝ) : EReal) * ((r : EReal) * ((1 / q : ℝ) : EReal))) * ((1 / 1024 : ℝ) : EReal) * X =
      r * (G - X * r * (r * S * ((1 / 1024 : ℝ) : EReal))) := by
  have hc : 0 < r * (r * r) / 2048 := by positivity
  have e : S * (((-(1 / 2) : ℝ) : EReal) * ((r : EReal) * ((1 / q : ℝ) : EReal))) * ((1 / 1024 : ℝ) : EReal) =
      S * ((-(r * (r * r) / 2048) : ℝ) : EReal) := by
    rw [mul_assoc, ← EReal.coe_mul, ← EReal.coe_mul, ← EReal.coe_mul, ← hq]
    exact congrArg (fun u : ℝ => S * (u : EReal)) (by ring)
  have e1 : (X : EReal) * r * (r * S * ((1 / 1024 : ℝ) : EReal)) = X * S * ((r * r * (1 / 1024) : ℝ) : EReal) := by
    rw [EReal.coe_mul, EReal.coe_mul]; ac_rfl
  have e2 : (r : EReal) * -(X * S * ((r * r * (1 / 1024) : ℝ) : EReal)) = -(X * S * ((2 * (r * (r * r) / 2048) : ℝ) : EReal)) := by
    rw [mul_neg, mul_left_comm, ← EReal.coe_mul]
    exact congrArg (fun u : ℝ => -((X : EReal) * S * (u : EReal))) (by ring)
  rw [e, e1, sub_eq_add_neg, EReal.left_distrib_of_nonneg_of_ne_top (EReal.coe_nonneg.2 hr.le) (EReal.coe_ne_top r), e2,
    ← twice _ _ hc, ← add_assoc, mul_comm G, ← mul_assoc]
  exact congrArg₂ (· + ·) rfl (by rw [mul_right_comm, mul_comm S])

/-- A row with an infinite entry has an infinite sum of squares. -/
theorem sum_top {ι : Type} [Fintype ι] (f : ι → EReal) (h : ¬∀ k, Fi (f k)) : ∑ k, f k * f k = ⊤ := by
  obtain ⟨k, hk⟩ := not_forall.1 h
  have h0 : ∀ i, 0 ≤ f i * f i := fun i => by
    rcases le_total 0 (f i) with h | h
    · exact mul_nonneg h h
    · rw [← neg_mul_neg]; exact mul_nonneg (EReal.neg_nonneg.2 h) (EReal.neg_nonneg.2 h)
  refine top_le_iff.1 (le_trans (le_of_eq ?_) (Finset.single_le_sum (fun i _ => h0 i) (Finset.mem_univ k)))
  generalize f k = y at hk
  induction y with
  | bot => exact EReal.bot_mul_bot.symm
  | top => exact EReal.top_mul_top.symm
  | coe a => exact absurd ⟨a, rfl⟩ hk

/-- The mean square of a real row, with the small constant, is a positive real number, and the root's square is its reciprocal. -/
theorem root (hx : ∀ k, Fi (P.B.A.x b t k)) : ∃ q r : ℝ, q ≠ 0 ∧ 0 < r ∧ r * r = 1 / q ∧
    Ideal.div (∑ e : Fin 1024, P.B.A.x b t e * P.B.A.x b t e) width + tiny = (q : EReal) ∧ rr P.B.A b t = (r : EReal) := by
  obtain ⟨ε, hε, he⟩ := tiny_pos
  choose f hf using hx
  have hq : 0 < (∑ e : Fin 1024, f e * f e) * (1 / 1024) + ε := by
    have := Finset.sum_nonneg fun (e : Fin 1024) (_ : e ∈ Finset.univ) => mul_self_nonneg (f e)
    positivity
  have e : Ideal.div (∑ e : Fin 1024, P.B.A.x b t e * P.B.A.x b t e) width + tiny =
      (((∑ e : Fin 1024, f e * f e) * (1 / 1024) + ε : ℝ) : EReal) := by
    rw [he, width_eq, Ideal.div_coe (by norm_num)]
    simp only [hf, ← EReal.coe_mul, sum_coe, ← EReal.coe_add]
  refine ⟨_, _, hq.ne', inv_pos.2 (Real.sqrt_pos.2 hq), ?_, e, ?_⟩
  · rw [← mul_inv, Real.mul_self_sqrt hq.le]; exact (one_div _).symm
  · unfold rr
    rw [e, Ideal.rsqrt_coe, if_neg hq.not_gt, if_neg hq.ne']

/-- The norm's derivative, as the chain rule writes it: two equal terms through the mean square. -/
theorem dx_chain (e : Fin 1024) (s : EReal)
    (hs : s = Ideal.div ((∑ k : Fin 1024, P.B.A.x b t k * dxh P b t k) *
      (mhalf * Ideal.div (rr P.B.A b t) (Ideal.div (∑ k : Fin 1024, P.B.A.x b t k * P.B.A.x b t k) width + tiny))) width) :
    P.B.d b t e + (dxh P b t e * rr P.B.A b t + P.B.A.x b t e * s + s * P.B.A.x b t e) = dx P b t e := by
  subst hs
  unfold dx xh
  refine congrArg _ ?_
  have hw : (1024 : ℝ) ≠ 0 := by norm_num
  by_cases hx : ∀ k, Fi (P.B.A.x b t k)
  · obtain ⟨q, r, hq, hr, hrq, e1, e2⟩ := root P b t hx
    obtain ⟨X, hX⟩ := hx e
    have hsum : (∑ k : Fin 1024, dxh P b t k * (P.B.A.x b t k * (r : EReal))) = r * ∑ k : Fin 1024, P.B.A.x b t k * dxh P b t k := by
      rw [← mul_sum_real _ _ hr.le]
      exact Finset.sum_congr rfl fun k _ => by ac_rfl
    rw [e1, e2, hsum, hX, mhalf_eq, width_eq, Ideal.div_coe hq, Ideal.div_coe hw, Ideal.div_coe hw]
    exact shapes _ _ X r q hr hrq
  · have h := sum_top _ hx
    obtain ⟨ε, -, he⟩ := tiny_pos
    have e1 : Ideal.div (⊤ : EReal) width + tiny = ⊤ := by
      rw [he, width_eq, Ideal.div_coe hw, EReal.top_mul_coe_of_pos (by norm_num)]; rfl
    have e2 : rr P.B.A b t = 0 := by
      unfold rr
      rw [h, e1, Ideal.rsqrt_top]
    rw [h, e1, e2, width_eq, Ideal.div_coe hw]
    simp [Ideal.div]

end Cert.Proj

end

end
-- ==== Proof.GluB.Blocks.lean ====
module

public import proofs.«01_k».proof.Proof.Gen.GluBwdIdeal.Value
public import proofs.«01_k».proof.Proof.Proj.Math
public import Idealize.ShloMosaic.Lib.Pipeline.ValueKit
public import Idealize.ShloMosaic.Lib.Pipeline.ReadBack
public import Idealize.ShloMosaic.Lib.Pointwise
public import Idealize.ShloMosaic.Lib.Claim

@[expose] public section

/-! The backward call of the gated unit's first product: what the host prepares, what the kernel reads at a
point of the grid, and what it computes from that. -/

set_option maxRecDepth 16384

noncomputable section

open Idealize.ShloMosaic Idealize.ShloMosaic.TcCoe Idealize.SL.Sem
open Idealize.ShloMosaic.Pipeline (Dat)

namespace Cert.GluBwdIdeal.Mine
open Cert.GluBwdIdeal Cert.GluBwdIdeal.Gen Cert.Sums Cert.Proj
open Cert.Ffn (rr)
open Cert.FfnA (xh xg blkSum from_ from_one from_succ from_seq from_all)

variable (m : (ℓ : Loc nD τ sig) → Buf (Elt Ideal) ℓ)

/-- The six arguments, entry by entry. -/
def args (c : Dev nD) : Pk 2048 where
  B :=
    { A :=
        { x := fun b t e => (m (c, Proc.tc.devRef main_arg0) : Vec Ideal S2x2048x1024 .f32) (ix3 b t e)
          mod := fun b k e => (m (c, Proc.tc.devRef main_arg1) : Vec Ideal S2x3x1024 .f32) (ix3 b k e)
          g := fun e => (m (c, Proc.tc.devRef main_arg2) : Vec Ideal S1024 .f32) (ix1 e)
          wi := fun _ _ => 0
          wo := fun _ _ => 0 }
      d := fun b t e => (m (c, Proc.tc.devRef main_arg5) : Vec Ideal S2x2048x1024 .f32) (ix3 b t e) }
  w := fun e k => (m (c, Proc.tc.devRef main_arg3) : Vec Ideal S1024x2048 .f32) (ix2 e k)
  dp := fun b t k => (m (c, Proc.tc.devRef main_arg4) : Vec Ideal S2x2048x2048 .f32) (ix3 b t k)

/-! The arrays that the host prepares. -/

theorem half_mod (r : Fin 4096) : r.val / 2048 % 2 = r.val / 2048 := by omega

theorem arr_x (c : Dev nD) (r : Fin 4096) (e : Fin 1024) : V m c main_v5 (ix2 r e) = (args m c).B.A.x (bat r.val) (pl r.val) e := by
  entry_read
  pointwise [args]
  simp only [bat, pl, half_mod]
theorem arr_d (c : Dev nD) (r : Fin 4096) (e : Fin 1024) : V m c main_v6 (ix2 r e) = (args m c).B.d (bat r.val) (pl r.val) e := by
  entry_read
  pointwise [args]
  simp only [bat, pl, half_mod]
theorem arr_mod (c : Dev nD) (b : Fin 2) (k : Fin 3) (e : Fin 1024) : V m c main_arg1 (ix3 b k e) = (args m c).B.A.mod b k e := by
  entry_read
  pointwise [args]
theorem arr_g (c : Dev nD) (e : Fin 1024) : V m c main_v4 (ix2 0 e) = (args m c).B.A.g e := by
  entry_read
  pointwise [args]
theorem arr_dab (c : Dev nD) (r : Fin 4096) (k : Fin 2048) : V m c main_v8 (ix2 r k) = (args m c).dp (bat r.val) (pl r.val) k := by
  entry_read
  pointwise [args]
  simp only [bat, pl, half_mod]
theorem arr_w (c : Dev nD) (j : Fin 8) (e : Fin 1024) (k : Fin 256) :
    V m c main_v2 (ix3 j e k) = (args m c).w e ⟨j.val * 256 + k.val, by omega⟩ := by
  entry_read
  pointwise [args]

theorem idx : ∀ t : Fin grid0.N,
    win0_0.index t = ![t.val, 0] ∧ win0_1.index t = ![t.val, 0] ∧ win0_2.index t = ![t.val / 4, 0, 0] ∧ win0_3.index t = ![0, 0] ∧
    win0_4.index t = ![t.val, 0] ∧ win0_5.index t = ![0, 0, 0] ∧ win0_6.index t = ![t.val, 0] ∧
    win0_7.index t = ![t.val / 4, 0, 0] ∧ win0_8.index t = ![0, 0] := by
  decide +kernel

theorem hN (t : Fin cfg0.N) : t.val < 8 := t.isLt

/-- The row of the flat batch, its sequence and its place. -/
abbrev row (t : Fin cfg0.N) (r : Fin 512) : Fin 4096 := ⟨t.val * 512 + r.val, by have := hN t; omega⟩
abbrev rb (t : Fin cfg0.N) (r : Fin 512) : Fin 2 := bat (row t r).val
abbrev rp (t : Fin cfg0.N) (r : Fin 512) : Fin 2048 := pl (row t r).val
theorem rb_eq (t : Fin cfg0.N) (r : Fin 512) : rb t r = ⟨t.val / 4, by have := hN t; omega⟩ :=
  Fin.ext (by have := hN t; show (t.val * 512 + r.val) / 2048 % 2 = t.val / 4; omega)

/-! What a point reads. -/

section
variable (c : Dev nD) (t : Fin cfg0.N)
theorem blk0 (r : Fin 512) (e : Fin 1024) : iblk m c 0 t (ix2 r e) = (args m c).B.A.x (rb t r) (rp t r) e := by
  have h : iblk m c 0 t (ix2 r e) = V m c main_v5 (ix2 (row t r) e) := by blk_point [iblk, idx t]
  exact h.trans (arr_x m c _ e)
theorem blk1 (r : Fin 512) (e : Fin 1024) : iblk m c 1 t (ix2 r e) = (args m c).B.d (rb t r) (rp t r) e := by
  have h : iblk m c 1 t (ix2 r e) = V m c main_v6 (ix2 (row t r) e) := by blk_point [iblk, idx t]
  exact h.trans (arr_d m c _ e)
theorem blk2 (r : Fin 512) (k : Fin 3) (e : Fin 1024) : iblk m c 2 t (ix3 0 k e) = (args m c).B.A.mod (rb t r) k e := by
  have h : iblk m c 2 t (ix3 0 k e) = V m c main_arg1 (ix3 ⟨t.val / 4, by have := hN t; omega⟩ k e) := by blk_point [iblk, idx t]
  rw [h, arr_mod, rb_eq]
theorem blk3 (e : Fin 1024) : iblk m c 3 t (ix2 0 e) = (args m c).B.A.g e := by
  have h : iblk m c 3 t (ix2 0 e) = V m c main_v4 (ix2 0 e) := by blk_point [iblk, idx t]
  exact h.trans (arr_g m c e)
theorem blk4 (r : Fin 512) (k : Fin 2048) : iblk m c 4 t (ix2 r k) = (args m c).dp (rb t r) (rp t r) k := by
  have h : iblk m c 4 t (ix2 r k) = V m c main_v8 (ix2 (row t r) k) := by blk_point [iblk, idx t]
  exact h.trans (arr_dab m c _ k)
theorem blk5 (j : Fin 8) (e : Fin 1024) (k : Fin 256) :
    iblk m c 5 t (ix3 j e k) = (args m c).w e ⟨j.val * 256 + k.val, by omega⟩ := by
  have h : iblk m c 5 t (ix3 j e k) = V m c main_v2 (ix3 j e k) := by blk_point [iblk, idx t]
  exact h.trans (arr_w m c j e k)

/-! What a point computes. -/

/-- Shard `j` of the weights, as the point loads it. -/
abbrev shard (j : ℕ) (inb : ∀ a : Fin 3, (![j, 0, 0] : Fin 3 → ℕ) a + (![1, 1024, 256] : Fin 3 → ℕ) a ≤ S8x1024x256.size a) :
    Vec Ideal S1x1024x256 .bf16 :=
  View.ld (iblk m c 5 t) (Rect.unit (s := S8x1024x256) ![j, 0, 0] ![1, 1024, 256] inb)
theorem shard_at (j : ℕ) (hj : j < 8) (inb : ∀ a : Fin 3, (![j, 0, 0] : Fin 3 → ℕ) a + (![1, 1024, 256] : Fin 3 → ℕ) a ≤ S8x1024x256.size a)
    (e : Fin 1024) (k : Fin 256) : shard m c t j inb (ix3 0 e k) = (args m c).w e ⟨j * 256 + k.val, by omega⟩ := by
  refine Eq.trans (congrArg (iblk m c 5 t) (funext fun a => Fin.ext ?_)) (blk5 m c t ⟨j, hj⟩ e k)
  fin_cases a
  · show j + 1 * 0 = j; omega
  · show 0 + 1 * e.val = e.val; omega
  · show 0 + 1 * k.val = k.val; omega

/-- The eight shards' columns are all the columns. -/
theorem shards (f : Fin 2048 → EReal) :
    (∑ k : Fin 256, f ⟨k.val, by omega⟩) + (∑ k : Fin 256, f ⟨256 + k.val, by omega⟩) + (∑ k : Fin 256, f ⟨512 + k.val, by omega⟩) +
      (∑ k : Fin 256, f ⟨768 + k.val, by omega⟩) + (∑ k : Fin 256, f ⟨1024 + k.val, by omega⟩) + (∑ k : Fin 256, f ⟨1280 + k.val, by omega⟩) +
      (∑ k : Fin 256, f ⟨1536 + k.val, by omega⟩) + (∑ k : Fin 256, f ⟨1792 + k.val, by omega⟩) = ∑ k : Fin 2048, f k := by
  have h1 := Fin.sum_univ_add (a := 1792) (b := 256) f
  have h2 := Fin.sum_univ_add (a := 1536) (b := 256) fun k : Fin 1792 => f (Fin.castAdd 256 k)
  have h3 := Fin.sum_univ_add (a := 1280) (b := 256) fun k : Fin 1536 => f (Fin.castAdd 256 (Fin.castAdd 256 k))
  have h4 := Fin.sum_univ_add (a := 1024) (b := 256) fun k : Fin 1280 => f (Fin.castAdd 256 (Fin.castAdd 256 (Fin.castAdd 256 k)))
  have h5 := Fin.sum_univ_add (a := 768) (b := 256) fun k : Fin 1024 => f ⟨k.val, by omega⟩
  have h6 := Fin.sum_univ_add (a := 512) (b := 256) fun k : Fin 768 => f ⟨k.val, by omega⟩
  have h7 := Fin.sum_univ_add (a := 256) (b := 256) fun k : Fin 512 => f ⟨k.val, by omega⟩
  refine Eq.trans ?_ h1.symm
  refine congrArg (· + _) (Eq.trans ?_ h2.symm)
  refine congrArg (· + _) (Eq.trans ?_ h3.symm)
  refine congrArg (· + _) (Eq.trans ?_ h4.symm)
  refine congrArg (· + _) (Eq.trans ?_ h5.symm)
  refine congrArg (· + _) (Eq.trans ?_ h6.symm)
  exact congrArg (· + _) h7.symm

abbrev a1 : FVec Ideal S512x2048 .bf16 := k0_pay1 (iblk m c 4 t)
abbrev a2 : FVec Ideal S512x1024 .f32 :=
  k0_pay2 (iblk m c 4 t) (shard m c t 0 inb_S8x1024x256_S1x1024x256_0_0_0) (shard m c t 1 inb_S8x1024x256_S1x1024x256_1_0_0)
    (shard m c t 2 inb_S8x1024x256_S1x1024x256_2_0_0) (shard m c t 3 inb_S8x1024x256_S1x1024x256_3_0_0)
    (shard m c t 4 inb_S8x1024x256_S1x1024x256_4_0_0)
abbrev a3 : FVec Ideal S512x1024 .f32 := k0_pay3 (iblk m c 4 t) (shard m c t 5 inb_S8x1024x256_S1x1024x256_5_0_0)
abbrev w6 : Vec Ideal S1x1024x256 .bf16 := shard m c t 6 inb_S8x1024x256_S1x1024x256_6_0_0
abbrev w7 : Vec Ideal S1x1024x256 .bf16 := shard m c t 7 inb_S8x1024x256_S1x1024x256_7_0_0
/-- The gradient at the modulated rows, as the point adds it up. -/
abbrev dhB : FVec Ideal S512x1024 .f32 := k0_pay4 (a1 m c t) (a2 m c t) (a3 m c t) (w6 m c t) (w7 m c t)

theorem p2 (a : Vec Ideal S512x2048 .bf16) (w0 w1 w2 w3 w4 : Vec Ideal S1x1024x256 .bf16) (r : Fin 512) (e : Fin 1024) :
    k0_pay2 a w0 w1 w2 w3 w4 (ix2 r e) =
      (∑ k : Fin 256, a (ix2 r ⟨k.val, by omega⟩) * w0 (ix3 0 e k)) + (∑ k : Fin 256, a (ix2 r ⟨256 + k.val, by omega⟩) * w1 (ix3 0 e k)) +
      (∑ k : Fin 256, a (ix2 r ⟨512 + k.val, by omega⟩) * w2 (ix3 0 e k)) + (∑ k : Fin 256, a (ix2 r ⟨768 + k.val, by omega⟩) * w3 (ix3 0 e k)) +
      ∑ k : Fin 256, a (ix2 r ⟨1024 + k.val, by omega⟩) * w4 (ix3 0 e k) := by
  pointwise [k0_pay2, k0_pay1]
theorem p3 (a : Vec Ideal S512x2048 .bf16) (w : Vec Ideal S1x1024x256 .bf16) (r : Fin 512) (e : Fin 1024) :
    k0_pay3 a w (ix2 r e) = ∑ k : Fin 256, a (ix2 r ⟨1280 + k.val, by omega⟩) * w (ix3 0 e k) := by
  pointwise [k0_pay3, k0_pay1]
theorem p4 (a : Vec Ideal S512x2048 .bf16) (b d : FVec Ideal S512x1024 .f32) (w w' : Vec Ideal S1x1024x256 .bf16) (r : Fin 512) (e : Fin 1024) :
    k0_pay4 (k0_pay1 a) b d w w' (ix2 r e) = b (ix2 r e) + d (ix2 r e) + (∑ k : Fin 256, a (ix2 r ⟨1536 + k.val, by omega⟩) * w (ix3 0 e k)) +
      ∑ k : Fin 256, a (ix2 r ⟨1792 + k.val, by omega⟩) * w' (ix3 0 e k) := by
  pointwise [k0_pay4, k0_pay1]
theorem dhB_at (r : Fin 512) (e : Fin 1024) : dhB m c t (ix2 r e) = dh (args m c) (rb t r) (rp t r) e := by
  refine (p4 ..).trans (Eq.trans ?_ (shards fun k => (args m c).dp (rb t r) (rp t r) k * (args m c).w e k))
  rw [a2, p2, a3, p3]
  simp only [blk4]
  have h0 : ∀ k : Fin 256, shard m c t 0 inb_S8x1024x256_S1x1024x256_0_0_0 (ix3 0 e k) = (args m c).w e ⟨k.val, by omega⟩ := fun k =>
    (shard_at m c t 0 (by decide) inb_S8x1024x256_S1x1024x256_0_0_0 e k).trans (congrArg ((args m c).w e) (Fin.ext (by show 0 * 256 + k.val = k.val; omega)))
  simp only [h0, fun k => shard_at m c t 1 (by decide) inb_S8x1024x256_S1x1024x256_1_0_0 e k,
    fun k => shard_at m c t 2 (by decide) inb_S8x1024x256_S1x1024x256_2_0_0 e k,
    fun k => shard_at m c t 3 (by decide) inb_S8x1024x256_S1x1024x256_3_0_0 e k,
    fun k => shard_at m c t 4 (by decide) inb_S8x1024x256_S1x1024x256_4_0_0 e k,
    fun k => shard_at m c t 5 (by decide) inb_S8x1024x256_S1x1024x256_5_0_0 e k,
    fun k => shard_at m c t 6 (by decide) inb_S8x1024x256_S1x1024x256_6_0_0 e k,
    fun k => shard_at m c t 7 (by decide) inb_S8x1024x256_S1x1024x256_7_0_0 e k]

theorem p5 (r : Fin 512) (e : Fin 1024) : k0_pay5 (iblk m c 0 t) (ix2 r e) = (args m c).B.A.x (rb t r) (rp t r) e := by
  pointwise [k0_pay5]
  exact blk0 m c t r e
theorem p6 (e : Fin 1024) : k0_pay6 (iblk m c 3 t) (ix2 0 e) = (args m c).B.A.g e := by
  pointwise [k0_pay6]
  exact blk3 m c t e
theorem p7 (r : Fin 512) : k0_pay7 (iblk m c 0 t) (ix2 r 0) = rr (args m c).B.A (rb t r) (rp t r) := by
  pointwise [k0_pay7]
  simp only [p5]; rfl
theorem p8 (r : Fin 512) (e : Fin 1024) : k0_pay8 (iblk m c 0 t) (ix2 r e) = xh (args m c).B (rb t r) (rp t r) e := by
  pointwise [k0_pay8]
  exact congrArg₂ (· * ·) (p5 m c t r e) (p7 m c t r)
theorem p9 (r : Fin 512) (e : Fin 1024) : k0_pay9 (iblk m c 0 t) (iblk m c 3 t) (ix2 r e) = xg (args m c).B (rb t r) (rp t r) e := by
  pointwise [k0_pay9]
  exact congrArg₂ (· * ·) (p8 m c t r e) (p6 m c t e)
/-- The gradients at the gained and at the normed rows. -/
abbrev amB : FVec Ideal S512x1024 .f32 := k0_pay10 (a1 m c t) (a2 m c t) (a3 m c t) (w6 m c t) (w7 m c t) (iblk m c 2 t)
abbrev dxhB : FVec Ideal S512x1024 .f32 := k0_pay11 (a1 m c t) (a2 m c t) (a3 m c t) (w6 m c t) (w7 m c t) (iblk m c 2 t) (iblk m c 3 t)
theorem p10 (r : Fin 512) (e : Fin 1024) : amB m c t (ix2 r e) = am (args m c) (rb t r) (rp t r) e := by
  pointwise [k0_pay10]
  exact congrArg₂ (· * ·) (dhB_at m c t r e) (congrArg (1 + ·) (blk2 m c t r 1 e))
theorem p11 (r : Fin 512) (e : Fin 1024) : dxhB m c t (ix2 r e) = dxh (args m c) (rb t r) (rp t r) e := by
  pointwise [k0_pay11]
  exact congrArg₂ (· * ·) (p10 m c t r e) (p6 m c t e)
theorem p12 (r : Fin 512) :
    k0_pay12 (a1 m c t) (a2 m c t) (a3 m c t) (w6 m c t) (w7 m c t) (iblk m c 2 t) (iblk m c 0 t) (iblk m c 3 t) (ix2 r 0) =
      ∑ e : Fin 1024, dxh (args m c) (rb t r) (rp t r) e * xh (args m c).B (rb t r) (rp t r) e := by
  pointwise [k0_pay12]
  exact Finset.sum_congr rfl fun e _ => congrArg₂ (· * ·) (p11 m c t r e) (p8 m c t r e)
theorem p13 (e : Fin 1024) : k0_pay13 (k0_pay8 (iblk m c 0 t)) (amB m c t) (ix2 0 e) = blkSum (fun b q => gng (args m c) b q e) t.val := by
  pointwise [k0_pay13]
  exact Finset.sum_congr rfl fun r _ => congrArg₂ (· * ·) (p10 m c t r e) (p8 m c t r e)
theorem p14 (e : Fin 1024) : k0_pay14 (dhB m c t) (k0_pay9 (iblk m c 0 t) (iblk m c 3 t)) (ix2 0 e) =
    blkSum (fun b q => Proj.gsc (args m c) b q e) t.val := by
  pointwise [k0_pay14]
  exact Finset.sum_congr rfl fun r _ => congrArg₂ (· * ·) (dhB_at m c t r e) (p9 m c t r e)
theorem p15 (e : Fin 1024) : k0_pay15 (dhB m c t) (ix2 0 e) = blkSum (fun b q => dh (args m c) b q e) t.val := by
  pointwise [k0_pay15]
  exact Finset.sum_congr rfl fun r _ => dhB_at m c t r e
theorem p16 (r : Fin 512) (e : Fin 1024) :
    k0_pay16 (k0_pay7 (iblk m c 0 t)) (k0_pay8 (iblk m c 0 t)) (dxhB m c t)
      (k0_pay12 (a1 m c t) (a2 m c t) (a3 m c t) (w6 m c t) (w7 m c t) (iblk m c 2 t) (iblk m c 0 t) (iblk m c 3 t))
      (Scalar.ofBits .f32 0x44800000#32) (iblk m c 1 t) (ix2 r e) = dx (args m c) (rb t r) (rp t r) e := by
  pointwise [k0_pay16]
  simp only [p12, p11, p8, p7, blk1]; rfl
end

end Cert.GluBwdIdeal.Mine

end

end
-- ==== Proof.Proj.Blocks.lean ====
module

public import proofs.«01_k».proof.Proof.Gen.ProjBwdIdeal.Value
public import proofs.«01_k».proof.Proof.Proj.Math
public import Idealize.ShloMosaic.Lib.Pipeline.ValueKit
public import Idealize.ShloMosaic.Lib.Pipeline.ReadBack
public import Idealize.ShloMosaic.Lib.Pointwise
public import Idealize.ShloMosaic.Lib.Claim

@[expose] public section

/-! The backward call of the delta rule's first product: what the host prepares, what the kernel reads at a
point of the grid, and what it computes from that. -/

set_option maxRecDepth 16384

noncomputable section

open Idealize.ShloMosaic Idealize.ShloMosaic.TcCoe Idealize.SL.Sem
open Idealize.ShloMosaic.Pipeline (Dat)

namespace Cert.ProjBwdIdeal.Mine
open Cert.ProjBwdIdeal Cert.ProjBwdIdeal.Gen Cert.Sums Cert.Proj
open Cert.Ffn (rr)
open Cert.FfnA (xh xg blkSum from_ from_one from_succ from_seq from_all)

variable (m : (ℓ : Loc nD τ sig) → Buf (Elt Ideal) ℓ)

/-- The six arguments, entry by entry. -/
def args (c : Dev nD) : Pk 4112 where
  B :=
    { A :=
        { x := fun b t e => (m (c, Proc.tc.devRef main_arg0) : Vec Ideal S2x2048x1024 .f32) (ix3 b t e)
          mod := fun b k e => (m (c, Proc.tc.devRef main_arg1) : Vec Ideal S2x3x1024 .f32) (ix3 b k e)
          g := fun e => (m (c, Proc.tc.devRef main_arg2) : Vec Ideal S1024 .f32) (ix1 e)
          wi := fun _ _ => 0
          wo := fun _ _ => 0 }
      d := fun b t e => (m (c, Proc.tc.devRef main_arg5) : Vec Ideal S2x2048x1024 .f32) (ix3 b t e) }
  w := fun e k => (m (c, Proc.tc.devRef main_arg3) : Vec Ideal S1024x4112 .f32) (ix2 e k)
  dp := fun b t k => (m (c, Proc.tc.devRef main_arg4) : Vec Ideal S2x2048x4112 .f32) (ix3 b t k)

/-! The arrays that the host prepares. -/

theorem half_mod (r : Fin 4096) : r.val / 2048 % 2 = r.val / 2048 := by omega

theorem arr_x (c : Dev nD) (r : Fin 4096) (e : Fin 1024) : V m c main_v5 (ix2 r e) = (args m c).B.A.x (bat r.val) (pl r.val) e := by
  simp only [V, List.flatten_cons, List.flatten_nil, List.append_nil, List.cons_append, List.nil_append]
  entry_read
  pointwise [args]
  simp only [bat, pl, half_mod]
theorem arr_d (c : Dev nD) (r : Fin 4096) (e : Fin 1024) : V m c main_v6 (ix2 r e) = (args m c).B.d (bat r.val) (pl r.val) e := by
  simp only [V, List.flatten_cons, List.flatten_nil, List.append_nil, List.cons_append, List.nil_append]
  entry_read
  pointwise [args]
  simp only [bat, pl, half_mod]
theorem arr_mod (c : Dev nD) (b : Fin 2) (k : Fin 3) (e : Fin 1024) : V m c main_arg1 (ix3 b k e) = (args m c).B.A.mod b k e := by
  simp only [V, List.flatten_cons, List.flatten_nil, List.append_nil, List.cons_append, List.nil_append]
  entry_read
  pointwise [args]
theorem arr_g (c : Dev nD) (e : Fin 1024) : V m c main_v4 (ix2 0 e) = (args m c).B.A.g e := by
  simp only [V, List.flatten_cons, List.flatten_nil, List.append_nil, List.cons_append, List.nil_append]
  entry_read
  pointwise [args]
theorem arr_pre (c : Dev nD) (r : Fin 4096) (k : Fin 3072) :
    V m c main_v8 (ix2 r k) = (args m c).dp (bat r.val) (pl r.val) ⟨k.val, by omega⟩ := by
  simp only [V, List.flatten_cons, List.flatten_nil, List.append_nil, List.cons_append, List.nil_append]
  entry_read
  pointwise [args]
  simp only [bat, pl, half_mod, Nat.zero_add]
theorem arr_z (c : Dev nD) (r : Fin 4096) (k : Fin 1024) :
    V m c main_v10 (ix2 r k) = (args m c).dp (bat r.val) (pl r.val) ⟨3072 + k.val, by omega⟩ := by
  simp only [V, List.flatten_cons, List.flatten_nil, List.append_nil, List.cons_append, List.nil_append]
  entry_read
  pointwise [args]
  simp only [bat, pl, half_mod]
/-- The integer zero that the host fills up with. -/
theorem fill : (FloatOps.sitofp FTy.f32 (0#32 : BitVec 32) : Ideal FTy.f32) = (0 : EReal) := by
  show (((0#32 : BitVec 32).toInt : ℝ) : EReal) = 0
  simp
theorem pad_at (v : FVec Ideal S4096x16 .f32) (z : FVec Ideal S_ .f32) (hz : z (Shape.Idx.first h_S_) = (0 : EReal)) (r : Fin 4096) (k : Fin 128) :
    pad S4096x128 ![0, 0] ![0, 112] ![0, 0] v z pads_S4096x16_S4096x128_000_01120 h_S_ (ix2 r k) = if h : k.val < 16 then v (ix2 r ⟨k.val, h⟩) else 0 := by
  pointwise
  by_cases h : k.val < 16
  · rw [dif_pos h, dif_pos h]
  · rw [dif_neg h, dif_neg h]
    exact hz
theorem flat_at (c : Dev nD) (r : Fin 4096) (k : Fin 4112) :
    (shapeCast S4096x4112 (m (c, Proc.tc.devRef main_arg4) : Vec Ideal S2x2048x4112 .f32) shapeCasts_S2x2048x4112_S4096x4112 : FVec Ideal S4096x4112 .f32)
      (ix2 r k) = (args m c).dp (bat r.val) (pl r.val) k := by
  have h : ∀ v : Vec Ideal S2x2048x4112 .f32, (shapeCast S4096x4112 v shapeCasts_S2x2048x4112_S4096x4112 : FVec Ideal S4096x4112 .f32) (ix2 r k) =
      v (ix3 ⟨r.val / 2048, by omega⟩ ⟨r.val % 2048, by omega⟩ k) := fun v => by pointwise
  refine (h _).trans (congrArg (fun b => (m (c, Proc.tc.devRef main_arg4) : Vec Ideal S2x2048x4112 .f32) (ix3 b ⟨r.val % 2048, by omega⟩ k)) ?_)
  exact Fin.ext (half_mod r).symm
theorem cut_at (v : FVec Ideal S4096x4112 .f32) (r : Fin 4096) (k : Fin 16) : (extractStridedSlice S4096x16 ![0, 4096] v
    slices_S4096x4112_S4096x16_0_4096 : FVec Ideal S4096x16 .f32) (ix2 r k) = v (ix2 r ⟨4096 + k.val, by omega⟩) := by
  refine congrArg v (funext fun a => Fin.ext ?_)
  fin_cases a
  · show 0 + r.val = r.val; omega
  · rfl
theorem arr_ab (c : Dev nD) (r : Fin 4096) (k : Fin 128) :
    V m c main_v11 (ix2 r k) = if h : k.val < 16 then (args m c).dp (bat r.val) (pl r.val) ⟨4096 + k.val, by omega⟩ else 0 := by
  simp only [V, List.flatten_cons, List.flatten_nil, List.append_nil, List.cons_append, List.nil_append]
  entry_read
  change (truncf .bf16 (pad S4096x128 ![0, 0] ![0, 112] ![0, 0] (extractStridedSlice S4096x16 ![0, 4096]
    (shapeCast S4096x4112 (m (c, Proc.tc.devRef main_arg4) : Vec Ideal S2x2048x4112 .f32) shapeCasts_S2x2048x4112_S4096x4112) slices_S4096x4112_S4096x16_0_4096)
    (sitofp .f32 (constantI S_ 32 0#32)) pads_S4096x16_S4096x128_000_01120 h_S_) bitsLt_bf16_f32 : FVec Ideal S4096x128 .bf16) (ix2 r k) = _
  generalize hv : (shapeCast S4096x4112 (m (c, Proc.tc.devRef main_arg4) : Vec Ideal S2x2048x4112 .f32) shapeCasts_S2x2048x4112_S4096x4112) = v
  have hf : ∀ k, v (ix2 r k) = (args m c).dp (bat r.val) (pl r.val) k := fun k => by rw [← hv]; exact flat_at m c r k
  refine (pad_at _ _ fill r k).trans ?_
  by_cases h : k.val < 16
  · rw [dif_pos h, dif_pos h]
    exact (cut_at v r ⟨k.val, h⟩).trans (hf _)
  · rw [dif_neg h, dif_neg h]
theorem arr_w (c : Dev nD) (k : Fin 4224) (e : Fin 1024) :
    V m c main_v14 (ix2 k e) = if h : k.val < 4112 then (args m c).w e ⟨k.val, h⟩ else 0 := by
  simp only [V, List.flatten_cons, List.flatten_nil, List.append_nil, List.cons_append, List.nil_append]
  entry_read
  change (truncf .bf16 (pad S4224x1024 ![0, 0] ![112, 0] ![0, 0]
    (transpose S4112x1024 [1, 0] (m (c, Proc.tc.devRef main_arg3) : Vec Ideal S1024x4112 .f32) transposes_S1024x4112_S4112x1024_1_0)
    (sitofp .f32 (constantI S_ 32 0#32)) pads_S4112x1024_S4224x1024_01120_000 h_S_) bitsLt_bf16_f32 : FVec Ideal S4224x1024 .bf16) (ix2 k e) = _
  pointwise [args]
  by_cases h : k.val < 4112
  · rw [dif_pos h, dif_pos h]
  · rw [dif_neg h, dif_neg h]
    exact fill

theorem idx : ∀ t : Fin grid0.N,
    win0_0.index t = ![t.val, 0] ∧ win0_1.index t = ![t.val, 0] ∧
    win0_2.index t = ![t.val / 4, 0, 0] ∧ win0_3.index t = ![0, 0] ∧
    win0_4.index t = ![t.val, 0] ∧ win0_5.index t = ![t.val, 0] ∧ win0_6.index t = ![t.val, 0] ∧
    win0_7.index t = ![0, 0] ∧ win0_8.index t = ![t.val, 0] ∧ win0_9.index t = ![t.val / 4, 0, 0] ∧ win0_10.index t = ![0, 0] := by
  decide +kernel

theorem hN (t : Fin cfg0.N) : t.val < 8 := t.isLt

/-- The row of the flat batch, its sequence and its place. -/
abbrev row (t : Fin cfg0.N) (r : Fin 512) : Fin 4096 := ⟨t.val * 512 + r.val, by have := hN t; omega⟩
abbrev rb (t : Fin cfg0.N) (r : Fin 512) : Fin 2 := bat (row t r).val
abbrev rp (t : Fin cfg0.N) (r : Fin 512) : Fin 2048 := pl (row t r).val
theorem rb_eq (t : Fin cfg0.N) (r : Fin 512) : rb t r = ⟨t.val / 4, by have := hN t; omega⟩ :=
  Fin.ext (by have := hN t; show (t.val * 512 + r.val) / 2048 % 2 = t.val / 4; omega)

/-! What a point reads. -/

section
variable (c : Dev nD) (t : Fin cfg0.N)
theorem blk0 (r : Fin 512) (e : Fin 1024) : iblk m c 0 t (ix2 r e) = (args m c).B.A.x (rb t r) (rp t r) e := by
  have h : iblk m c 0 t (ix2 r e) = V m c main_v5 (ix2 (row t r) e) := by blk_point [iblk, idx t]
  exact h.trans (arr_x m c _ e)
theorem blk1 (r : Fin 512) (e : Fin 1024) : iblk m c 1 t (ix2 r e) = (args m c).B.d (rb t r) (rp t r) e := by
  have h : iblk m c 1 t (ix2 r e) = V m c main_v6 (ix2 (row t r) e) := by blk_point [iblk, idx t]
  exact h.trans (arr_d m c _ e)
theorem blk2 (r : Fin 512) (k : Fin 3) (e : Fin 1024) : iblk m c 2 t (ix3 0 k e) = (args m c).B.A.mod (rb t r) k e := by
  have h : iblk m c 2 t (ix3 0 k e) = V m c main_arg1 (ix3 ⟨t.val / 4, by have := hN t; omega⟩ k e) := by blk_point [iblk, idx t]
  rw [h, arr_mod, rb_eq]
theorem blk3 (e : Fin 1024) : iblk m c 3 t (ix2 0 e) = (args m c).B.A.g e := by
  have h : iblk m c 3 t (ix2 0 e) = V m c main_v4 (ix2 0 e) := by blk_point [iblk, idx t]
  exact h.trans (arr_g m c e)
theorem blk4 (r : Fin 512) (k : Fin 3072) : iblk m c 4 t (ix2 r k) = (args m c).dp (rb t r) (rp t r) ⟨k.val, by omega⟩ := by
  have h : iblk m c 4 t (ix2 r k) = V m c main_v8 (ix2 (row t r) k) := by blk_point [iblk, idx t]
  exact h.trans (arr_pre m c _ k)
theorem blk5 (r : Fin 512) (k : Fin 1024) : iblk m c 5 t (ix2 r k) = (args m c).dp (rb t r) (rp t r) ⟨3072 + k.val, by omega⟩ := by
  have h : iblk m c 5 t (ix2 r k) = V m c main_v10 (ix2 (row t r) k) := by blk_point [iblk, idx t]
  exact h.trans (arr_z m c _ k)
theorem blk6 (r : Fin 512) (k : Fin 128) :
    iblk m c 6 t (ix2 r k) = if h : k.val < 16 then (args m c).dp (rb t r) (rp t r) ⟨4096 + k.val, by omega⟩ else 0 := by
  have h : iblk m c 6 t (ix2 r k) = V m c main_v11 (ix2 (row t r) k) := by blk_point [iblk, idx t]
  exact h.trans (arr_ab m c _ k)
theorem blk7 (k : Fin 4224) (e : Fin 1024) : iblk m c 7 t (ix2 k e) = if h : k.val < 4112 then (args m c).w e ⟨k.val, h⟩ else 0 := by
  have h : iblk m c 7 t (ix2 k e) = V m c main_v14 (ix2 k e) := by blk_point [iblk, idx t]
  exact h.trans (arr_w m c k e)

/-! What a point computes. -/

/-- The three boxes of rows of the weights. -/
abbrev wA : Vec Ideal S3072x1024 .bf16 := View.ld (iblk m c 7 t) (Rect.unit (s := S4224x1024) ![0, 0] ![3072, 1024] inb_S4224x1024_S3072x1024_0_0)
abbrev wB : Vec Ideal S1024x1024 .bf16 := View.ld (iblk m c 7 t) (Rect.unit (s := S4224x1024) ![3072, 0] ![1024, 1024] inb_S4224x1024_S1024x1024_3072_0)
abbrev wC : Vec Ideal S128x1024 .bf16 := View.ld (iblk m c 7 t) (Rect.unit (s := S4224x1024) ![4096, 0] ![128, 1024] inb_S4224x1024_S128x1024_4096_0)
theorem ld_w {n o : ℕ} (inb : ∀ a, (![o, 0] : Fin 2 → ℕ) a + (![n, 1024] : Fin 2 → ℕ) a ≤ S4224x1024.size a)
    (k : Fin n) (e : Fin 1024) (hk : o + k.val < 4224) :
    (View.ld (iblk m c 7 t) (Rect.unit (s := S4224x1024) ![o, 0] ![n, 1024] inb) : Vec Ideal ⟨2, ![n, 1024]⟩ .bf16) (ix2 k e) =
      if h : o + k.val < 4112 then (args m c).w e ⟨o + k.val, h⟩ else 0 := by
  refine Eq.trans (congrArg (iblk m c 7 t) (funext fun a => Fin.ext ?_)) (blk7 m c t ⟨o + k.val, hk⟩ e)
  fin_cases a
  · show o + 1 * k.val = o + k.val; omega
  · show 0 + 1 * e.val = e.val; omega

/-- The gradient at the modulated rows, as the point adds it up. -/
abbrev dhB : FVec Ideal S512x1024 .f32 :=
  k0_pay3 (iblk m c 4 t) (wA m c t) (iblk m c 5 t) (wB m c t) (iblk m c 6 t) (wC m c t)
theorem p3 (a : Vec Ideal S512x3072 .bf16) (wa : Vec Ideal S3072x1024 .bf16) (b : Vec Ideal S512x1024 .bf16) (wb : Vec Ideal S1024x1024 .bf16)
    (d : Vec Ideal S512x128 .bf16) (wd : Vec Ideal S128x1024 .bf16) (r : Fin 512) (e : Fin 1024) : k0_pay3 a wa b wb d wd (ix2 r e) =
      (∑ k : Fin 3072, a (ix2 r k) * wa (ix2 k e)) + (∑ k : Fin 1024, b (ix2 r k) * wb (ix2 k e)) + ∑ k : Fin 128, d (ix2 r k) * wd (ix2 k e) := by
  pointwise [k0_pay3]
theorem dhB_at (r : Fin 512) (e : Fin 1024) : dhB m c t (ix2 r e) = dh (args m c) (rb t r) (rp t r) e := by
  refine (p3 ..).trans (Eq.trans ?_ (cols fun k => (args m c).dp (rb t r) (rp t r) k * (args m c).w e k))
  refine congrArg₂ (· + ·) (congrArg₂ (· + ·) ?_ ?_) ?_
  · refine Finset.sum_congr rfl fun k _ => congrArg₂ (· * ·) (blk4 m c t r k) ?_
    refine (ld_w m c t inb_S4224x1024_S3072x1024_0_0 k e (by omega)).trans ((dif_pos (by omega)).trans ?_)
    exact congrArg _ (Fin.ext (Nat.zero_add _))
  · refine Finset.sum_congr rfl fun k _ => congrArg₂ (· * ·) (blk5 m c t r k) ?_
    exact (ld_w m c t inb_S4224x1024_S1024x1024_3072_0 k e (by omega)).trans (dif_pos (by omega))
  · refine Finset.sum_congr rfl fun k _ => ?_
    refine (congrArg₂ (fun u v : EReal => u * v) (blk6 m c t r k) (ld_w m c t inb_S4224x1024_S128x1024_4096_0 k e (by omega))).trans ?_
    by_cases h : k.val < 16
    · rw [dif_pos h, dif_pos (by omega), dif_pos h]
    · rw [dif_neg h, dif_neg (by omega), dif_neg h]
      exact zero_mul (0 : EReal)

theorem p4 (r : Fin 512) (e : Fin 1024) : k0_pay4 (iblk m c 0 t) (ix2 r e) = (args m c).B.A.x (rb t r) (rp t r) e := by
  pointwise [k0_pay4]
  exact blk0 m c t r e
theorem p5 (e : Fin 1024) : k0_pay5 (iblk m c 3 t) (ix2 0 e) = (args m c).B.A.g e := by
  pointwise [k0_pay5]
  exact blk3 m c t e
theorem p6 (r : Fin 512) (e : Fin 1024) : k0_pay6 (iblk m c 2 t) (ix2 0 e) = (args m c).B.A.mod (rb t r) 1 e := by
  pointwise [k0_pay6]
  exact blk2 m c t r 1 e
theorem p8 (r : Fin 512) : k0_pay8 (k0_pay7 (iblk m c 0 t)) (ix2 r 0) = rr (args m c).B.A (rb t r) (rp t r) := by
  pointwise [k0_pay8, k0_pay7]
  simp only [p4]; rfl
theorem p9 (r : Fin 512) (e : Fin 1024) :
    k0_pay9 (k0_pay4 (iblk m c 0 t)) (k0_pay7 (iblk m c 0 t)) (ix2 r e) = xh (args m c).B (rb t r) (rp t r) e := by
  pointwise [k0_pay9]
  exact congrArg₂ (· * ·) (p4 m c t r e) (p8 m c t r)
theorem p10 (r : Fin 512) (e : Fin 1024) :
    k0_pay10 (dhB m c t) (k0_pay6 (iblk m c 2 t)) (ix2 r e) = am (args m c) (rb t r) (rp t r) e := by
  pointwise [k0_pay10]
  exact congrArg₂ (· * ·) (dhB_at m c t r e) (congrArg (1 + ·) (p6 m c t r e))
theorem p11 (e : Fin 1024) :
    k0_pay11 (dhB m c t) (k0_pay4 (iblk m c 0 t)) (k0_pay6 (iblk m c 2 t)) (k0_pay7 (iblk m c 0 t)) (ix2 0 e) =
      blkSum (fun b q => gng (args m c) b q e) t.val := by
  pointwise [k0_pay11]
  exact Finset.sum_congr rfl fun r _ => congrArg₂ (· * ·) (p10 m c t r e) (p9 m c t r e)
theorem p12 (e : Fin 1024) :
    k0_pay12 (dhB m c t) (k0_pay4 (iblk m c 0 t)) (k0_pay5 (iblk m c 3 t)) (k0_pay7 (iblk m c 0 t)) (ix2 0 e) =
      blkSum (fun b q => Proj.gsc (args m c) b q e) t.val := by
  pointwise [k0_pay12]
  exact Finset.sum_congr rfl fun r _ => congrArg₂ (· * ·) (dhB_at m c t r e) (congrArg₂ (· * ·) (p9 m c t r e) (p5 m c t e))
theorem p13 (e : Fin 1024) : k0_pay13 (dhB m c t) (ix2 0 e) = blkSum (fun b q => dh (args m c) b q e) t.val := by
  pointwise [k0_pay13]
  exact Finset.sum_congr rfl fun r _ => dhB_at m c t r e
theorem p14 (r : Fin 512) (e : Fin 1024) :
    k0_pay14 (dhB m c t) (k0_pay4 (iblk m c 0 t)) (k0_pay5 (iblk m c 3 t)) (k0_pay6 (iblk m c 2 t)) (k0_pay7 (iblk m c 0 t)) (iblk m c 1 t)
      (ix2 r e) = dx (args m c) (rb t r) (rp t r) e := by
  pointwise [k0_pay14]
  simp only [p10, p9, p5, p8, blk1]; rfl
end

end Cert.ProjBwdIdeal.Mine

end

end
-- ==== Proof.FfnA.Facts.lean ====
/- The gate-and-product backward call: what the proofs of its runs share.  The grid has 8 × 4 points; `t % 4` is the
   strip of the hidden axis and `t / 4` the block of rows.  The body branches on: the first strip; the last strip; the
   first block of rows of a batch entry; the first block of rows of all. -/
module

public import proofs.«01_k».proof.Proof.Gen.FfnBwdAIdeal.Frame
public import proofs.«01_k».proof.Proof.Gen.FfnBwdAIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FfnBwdAIdeal.Own

open Cert.FfnBwdAIdeal Cert.FfnBwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch 0: the first strip. -/
abbrev cond0 (i : grid0.Coords) : Prop := k0_cond1 i = 1#1
theorem cond0_iff : ∀ t : Fin cfg0.N, cond0 (grid0.coords t) ↔ t.val % 4 = 0 :=
  (by decide +kernel : ∀ t : Fin grid0.N, cond0 (grid0.coords t) ↔ t.val % 4 = 0)

/-- The body's branch 1: the last strip. -/
abbrev cond1 (i : grid0.Coords) : Prop := k0_cond2 i = 1#1
theorem cond1_iff : ∀ t : Fin cfg0.N, cond1 (grid0.coords t) ↔ t.val % 4 = 3 :=
  (by decide +kernel : ∀ t : Fin grid0.N, cond1 (grid0.coords t) ↔ t.val % 4 = 3)

/-- The body's branch 2: the first block of a batch entry. -/
abbrev cond2 (i : grid0.Coords) : Prop := k0_cond3 i = 1#1
theorem cond2_iff : ∀ t : Fin cfg0.N, cond2 (grid0.coords t) ↔ t.val % 16 < 4 :=
  (by decide +kernel : ∀ t : Fin grid0.N, cond2 (grid0.coords t) ↔ t.val % 16 < 4)

/-- The body's branch 3: the first block of all. -/
abbrev cond3 (i : grid0.Coords) : Prop := k0_cond4 i = 1#1
theorem cond3_iff : ∀ t : Fin cfg0.N, cond3 (grid0.coords t) ↔ t.val < 4 :=
  (by decide +kernel : ∀ t : Fin grid0.N, cond3 (grid0.coords t) ↔ t.val < 4)

/-! Where the windows are stored into, and where they are written back. -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_9 : ∀ t : Fin cfg0.N, cfg0.idle 9 (grid0.coords t) = false := by decide +kernel
theorem live_8 : ∀ t : Fin cfg0.N, t.val % 4 = 3 → cfg0.idle 8 (grid0.coords t) = false := by decide +kernel
theorem idle_8 : ∀ t : Fin cfg0.N, ¬t.val % 4 = 3 → cfg0.idle 8 (grid0.coords t) = true := by decide +kernel
theorem keep_8 : ∀ t : Fin cfg0.N, ¬t.val % 4 = 3 → (cfg0.win 8).flush t = false := by decide +kernel
theorem live_10 : ∀ t : Fin cfg0.N, t.val % 4 = 3 → cfg0.idle 10 (grid0.coords t) = false := by decide +kernel
theorem idle_10 : ∀ t : Fin cfg0.N, ¬t.val % 4 = 3 → cfg0.idle 10 (grid0.coords t) = true := by decide +kernel
theorem keep_10 : ∀ t : Fin cfg0.N, ¬t.val % 4 = 3 → (cfg0.win 10).flush t = false := by decide +kernel
theorem live_12 : ∀ t : Fin cfg0.N, t.val % 4 = 3 → cfg0.idle 12 (grid0.coords t) = false := by decide +kernel
theorem idle_12 : ∀ t : Fin cfg0.N, ¬t.val % 4 = 3 → cfg0.idle 12 (grid0.coords t) = true := by decide +kernel
theorem keep_12 : ∀ t : Fin cfg0.N, ¬t.val % 4 = 3 → (cfg0.win 12).flush t = false := by decide +kernel
theorem live_13 : ∀ t : Fin cfg0.N, t.val % 4 = 3 → cfg0.idle 13 (grid0.coords t) = false := by decide +kernel
theorem idle_13 : ∀ t : Fin cfg0.N, ¬t.val % 4 = 3 → cfg0.idle 13 (grid0.coords t) = true := by decide +kernel
theorem keep_13 : ∀ t : Fin cfg0.N, ¬t.val % 4 = 3 → (cfg0.win 13).flush t = false := by decide +kernel
theorem live_11 : ∀ t : Fin cfg0.N, t.val % 4 = 0 → cfg0.idle 11 (grid0.coords t) = false := by decide +kernel
theorem idle_11 : ∀ t : Fin cfg0.N, ¬t.val % 4 = 0 → cfg0.idle 11 (grid0.coords t) = true := by decide +kernel
theorem keep_11 : ∀ t : Fin cfg0.N, ¬t.val % 4 = 3 → (cfg0.win 11).flush t = false := by decide +kernel
theorem flush_11 : ∀ t : Fin cfg0.N, t.val % 4 = 3 → (cfg0.win 11).flush t = true := by decide +kernel

/-! Where a window's buffer still holds what an earlier point stored. -/

/-- Whether window 11's buffer holds nothing of use before a point: the bits of a word. -/
def tab11 : ℕ → Bool
  | 0 => true
  | n + 1 => (0x88888888 : ℕ).testBit n
theorem tab11_step : ∀ t : Fin cfg0.N,
    tab11 (t.val + 1) = ((cfg0.win 11).flush t || (cfg0.idle 11 (cfg0.grid.coords t) && tab11 t.val)) := by decide +kernel
theorem fresh_11 (t : Fin cfg0.N) : cfg0.fresh 11 t.val = tab11 t.val :=
  Pipeline.Cfg.fresh_tab cfg0 11 tab11 rfl tab11_step t.val (Nat.le_of_lt t.isLt)
theorem held_11 : ∀ t : Fin cfg0.N, t.val % 4 = 3 → cfg0.fresh 11 t.val = false := by
  intro t; rw [fresh_11 t]; revert t; decide +kernel

/-- Whether window 12's buffer holds nothing of use before a point: the bits of a word. -/
def tab12 : ℕ → Bool
  | 0 => true
  | n + 1 => (0x80078007 : ℕ).testBit n
theorem tab12_step : ∀ t : Fin cfg0.N,
    tab12 (t.val + 1) = ((cfg0.win 12).flush t || (cfg0.idle 12 (cfg0.grid.coords t) && tab12 t.val)) := by decide +kernel
theorem fresh_12 (t : Fin cfg0.N) : cfg0.fresh 12 t.val = tab12 t.val :=
  Pipeline.Cfg.fresh_tab cfg0 12 tab12 rfl tab12_step t.val (Nat.le_of_lt t.isLt)
theorem held_12 : ∀ t : Fin cfg0.N, t.val % 4 = 3 → ¬t.val % 16 < 4 → cfg0.fresh 12 t.val = false := by
  intro t; rw [fresh_12 t]; revert t; decide +kernel

/-- Whether window 13's buffer holds nothing of use before a point: the bits of a word. -/
def tab13 : ℕ → Bool
  | 0 => true
  | n + 1 => (0x80000007 : ℕ).testBit n
theorem tab13_step : ∀ t : Fin cfg0.N,
    tab13 (t.val + 1) = ((cfg0.win 13).flush t || (cfg0.idle 13 (cfg0.grid.coords t) && tab13 t.val)) := by decide +kernel
theorem fresh_13 (t : Fin cfg0.N) : cfg0.fresh 13 t.val = tab13 t.val :=
  Pipeline.Cfg.fresh_tab cfg0 13 tab13 rfl tab13_step t.val (Nat.le_of_lt t.isLt)
theorem held_13 : ∀ t : Fin cfg0.N, t.val % 4 = 3 → ¬t.val < 4 → cfg0.fresh 13 t.val = false := by
  intro t; rw [fresh_13 t]; revert t; decide +kernel

/-! The staging buffers of a point, the two scratch buffers, and views through which contents are stated. -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x1x512x704 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x1x704x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x704x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x1x512x704 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x1024 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S512x1024 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x3x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x1024 .f32 := win0_13.stage (cfg0.slots t 13)
abbrev hs13 (t : Fin cfg0.N) : (ms13 t).IsWhole := hstage0_13 ((cfg0.slots t 13).cast nbuf0_13)
abbrev sc0 : Memref sig .tc .vmem S512x1024 .bf16 := Memref.whole cc0_scratch0
abbrev sc1 : Memref sig .tc .vmem S512x1024 .f32 := Memref.whole cc0_scratch1
abbrev VO8 : View sig .tc .vmem S512x1024 .f32 := (Memref.whole cc0_stg8_0 : Memref sig .tc .vmem S512x1024 .f32).view
abbrev VO9 : View sig .tc .vmem S2x1x512x704 .bf16 := (Memref.whole cc0_stg9_0 : Memref sig .tc .vmem S2x1x512x704 .bf16).view
abbrev VO10 : View sig .tc .vmem S512x1024 .bf16 := (Memref.whole cc0_stg10_0 : Memref sig .tc .vmem S512x1024 .bf16).view
abbrev VO11 : View sig .tc .vmem S512x1024 .bf16 := (Memref.whole cc0_stg11_0 : Memref sig .tc .vmem S512x1024 .bf16).view
abbrev VO12 : View sig .tc .vmem S1x3x1024 .f32 := (Memref.whole cc0_stg12_0 : Memref sig .tc .vmem S1x3x1024 .f32).view
abbrev VO13 : View sig .tc .vmem S1x1024 .f32 := (Memref.whole cc0_stg13_0 : Memref sig .tc .vmem S1x1024 .f32).view
abbrev VS0 : View sig .tc .vmem S512x1024 .bf16 := sc0.view
abbrev VS1 : View sig .tc .vmem S512x1024 .f32 := sc1.view

/-- What the launch hands the region: both scratch buffers at anything, and the generator's register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.FfnBwdAIdeal.Own

end
-- ==== Proof.FfnA.RunA.lean ====
/- The body's run at the first strip of a block of rows. -/
module

public import proofs.«01_k».proof.Proof.FfnA.Facts

@[expose] public section

set_option maxRecDepth 16384

noncomputable section

namespace Cert.FfnBwdAIdeal.Own

open Cert.FfnBwdAIdeal Cert.FfnBwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in set_option sl_exec.squeezeSlice true in
/-- The body at the first strip of a block of rows: from buffers at given contents it runs to its end, and each buffer that it stores
    into ends with the pieces that this definition finds. -/
def runA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S2x1x512x704 .bf16) (harg7 : arg7.IsWhole) (arg8 : Memref sig .tc .vmem S2x1x704x1024 .bf16) (harg8 : arg8.IsWhole) (arg9 : Memref sig .tc .vmem S1x704x1024 .bf16) (harg9 : arg9.IsWhole) (arg10 : Memref sig .tc .vmem S512x1024 .f32) (harg10 : arg10.IsWhole) (arg11 : Memref sig .tc .vmem S2x1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x3x1024 .f32) (harg14 : arg14.IsWhole) (arg15 : Memref sig .tc .vmem S1x1024 .f32) (harg15 : arg15.IsWhole) (arg16 : Memref sig .tc .vmem S512x1024 .bf16) (harg16 : arg16.IsWhole) (arg17 : Memref sig .tc .vmem S512x1024 .f32) (harg17 : arg17.IsWhole) (hc0 : cond0 i) (hc1 : ¬cond1 i)
    (x0 : Vec F S512x1024 .f32) (x1 : Vec F S512x1024 .f32) (x2 : Vec F S1x3x1024 .f32) (x3 : Vec F S1x1024 .f32) (x4 : Vec F S512x1024 .bf16) (x5 : Vec F S2x1x512x704 .bf16) (x6 : Vec F S2x1x704x1024 .bf16) (x7 : Vec F S1x704x1024 .bf16) :
    Σ' (L8 : List (View.Piece (Elt F) S512x1024 .f32)), Σ' (L9 : List (View.Piece (Elt F) S2x1x512x704 .bf16)), Σ' (L10 : List (View.Piece (Elt F) S512x1024 .bf16)), Σ' (L11 : List (View.Piece (Elt F) S512x1024 .bf16)), Σ' (L12 : List (View.Piece (Elt F) S1x3x1024 .f32)), Σ' (L13 : List (View.Piece (Elt F) S1x1024 .f32)), Σ' (LS0 : List (View.Piece (Elt F) S512x1024 .bf16)), { LS1 : List (View.Piece (Elt F) S512x1024 .f32) //
      ∀ (xi8 : Vec F S512x1024 .f32) (xi10 : Vec F S512x1024 .bf16) (xi12 : Vec F S1x3x1024 .f32) (xi13 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ owns (c : Thread nD τ) arg12 fullShare xi10 ∗ (∃ d, owns (c : Thread nD τ) arg13 fullShare d) ∗ owns (c : Thread nD τ) arg14 fullShare xi12 ∗ owns (c : Thread nD τ) arg15 fullShare xi13 ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ owns (c : Thread nD τ) arg12 fullShare xi10 ∗ (∃ f, arg13.view.loc (c : Thread nD τ) ↦[arg13.view.set]{fullShare} arg13.view.writes (Elt F) f L11) ∗ owns (c : Thread nD τ) arg14 fullShare xi12 ∗ owns (c : Thread nD τ) arg15 fullShare xi13 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc0_ffn_bwd_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, [], ?_, [], [], ?_, ?_, fun xi8 xi10 xi12 xi13 E K => ?run⟩
  case run =>
    simp only [cc0_ffn_bwd_a_eq_skeleton]; unfold cc0_ffn_bwd_a_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%f12, %hf12, H12⟩, ⟨%f13, %hf13, H13⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg14.eq_unread hf12; obtain rfl := harg15.eq_unread hf13
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]; · iexists _; iexact H11
    isplitl [H12]
    · iexists _; isplitr; · ipureintro; exact harg14.read_unread _
      iexact H12
    isplitl [H13]
    · iexists _; isplitr; · ipureintro; exact harg15.read_unread _
      iexact H13
    isplitl [HS0]; · iexists _; iexact HS0
    iexists _; iexact HS1

end Cert.FfnBwdAIdeal.Own

end
-- ==== Proof.FfnA.RunB.lean ====
/- The body's run at a middle strip. -/
module

public import proofs.«01_k».proof.Proof.FfnA.RunA

@[expose] public section

set_option maxRecDepth 16384

noncomputable section

namespace Cert.FfnBwdAIdeal.Own

open Cert.FfnBwdAIdeal Cert.FfnBwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in set_option sl_exec.squeezeSlice true in
/-- The body at a middle strip: from buffers at given contents it runs to its end, and each buffer that it stores
    into ends with the pieces that this definition finds. -/
def runB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S2x1x512x704 .bf16) (harg7 : arg7.IsWhole) (arg8 : Memref sig .tc .vmem S2x1x704x1024 .bf16) (harg8 : arg8.IsWhole) (arg9 : Memref sig .tc .vmem S1x704x1024 .bf16) (harg9 : arg9.IsWhole) (arg10 : Memref sig .tc .vmem S512x1024 .f32) (harg10 : arg10.IsWhole) (arg11 : Memref sig .tc .vmem S2x1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x3x1024 .f32) (harg14 : arg14.IsWhole) (arg15 : Memref sig .tc .vmem S1x1024 .f32) (harg15 : arg15.IsWhole) (arg16 : Memref sig .tc .vmem S512x1024 .bf16) (harg16 : arg16.IsWhole) (arg17 : Memref sig .tc .vmem S512x1024 .f32) (harg17 : arg17.IsWhole) (hc0 : ¬cond0 i) (hc1 : ¬cond1 i)
    (x0 : Vec F S512x1024 .f32) (x1 : Vec F S512x1024 .f32) (x2 : Vec F S1x3x1024 .f32) (x3 : Vec F S1x1024 .f32) (x4 : Vec F S512x1024 .bf16) (x5 : Vec F S2x1x512x704 .bf16) (x6 : Vec F S2x1x704x1024 .bf16) (x7 : Vec F S1x704x1024 .bf16) (xs0 : Vec F S512x1024 .bf16) (xs1 : Vec F S512x1024 .f32) :
    Σ' (L8 : List (View.Piece (Elt F) S512x1024 .f32)), Σ' (L9 : List (View.Piece (Elt F) S2x1x512x704 .bf16)), Σ' (L10 : List (View.Piece (Elt F) S512x1024 .bf16)), Σ' (L11 : List (View.Piece (Elt F) S512x1024 .bf16)), Σ' (L12 : List (View.Piece (Elt F) S1x3x1024 .f32)), Σ' (L13 : List (View.Piece (Elt F) S1x1024 .f32)), Σ' (LS0 : List (View.Piece (Elt F) S512x1024 .bf16)), { LS1 : List (View.Piece (Elt F) S512x1024 .f32) //
      ∀ (xi8 : Vec F S512x1024 .f32) (xi10 : Vec F S512x1024 .bf16) (xi11 : Vec F S512x1024 .bf16) (xi12 : Vec F S1x3x1024 .f32) (xi13 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d) ∗ owns (c : Thread nD τ) arg12 fullShare xi10 ∗ owns (c : Thread nD τ) arg13 fullShare xi11 ∗ owns (c : Thread nD τ) arg14 fullShare xi12 ∗ owns (c : Thread nD τ) arg15 fullShare xi13 ∗ owns (c : Thread nD τ) arg16 fullShare xs0 ∗ owns (c : Thread nD τ) arg17 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f L9) ∗ owns (c : Thread nD τ) arg12 fullShare xi10 ∗ owns (c : Thread nD τ) arg13 fullShare xi11 ∗ owns (c : Thread nD τ) arg14 fullShare xi12 ∗ owns (c : Thread nD τ) arg15 fullShare xi13 ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_ffn_bwd_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, [], [], [], [], [], ?_, fun xi8 xi10 xi11 xi12 xi13 E K => ?run⟩
  case run =>
    simp only [cc0_ffn_bwd_a_eq_skeleton]; unfold cc0_ffn_bwd_a_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg13.eq_unread hf11; obtain rfl := harg14.eq_unread hf12; obtain rfl := harg15.eq_unread hf13; obtain rfl := harg16.eq_unread hfs0; obtain rfl := harg17.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]
    · iexists _; isplitr; · ipureintro; exact harg16.read_unread _
      iexact HS0
    iexists _; iexact HS1

end Cert.FfnBwdAIdeal.Own

end
-- ==== Proof.FfnA.RunC.lean ====
/- The body's run at the last strip of the first block of all. -/
module

public import proofs.«01_k».proof.Proof.FfnA.RunB

@[expose] public section

set_option maxRecDepth 16384

noncomputable section

namespace Cert.FfnBwdAIdeal.Own

open Cert.FfnBwdAIdeal Cert.FfnBwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in set_option sl_exec.squeezeSlice true in
/-- The body at the last strip of the first block of all: from buffers at given contents it runs to its end, and each buffer that it stores
    into ends with the pieces that this definition finds. -/
def runC (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S2x1x512x704 .bf16) (harg7 : arg7.IsWhole) (arg8 : Memref sig .tc .vmem S2x1x704x1024 .bf16) (harg8 : arg8.IsWhole) (arg9 : Memref sig .tc .vmem S1x704x1024 .bf16) (harg9 : arg9.IsWhole) (arg10 : Memref sig .tc .vmem S512x1024 .f32) (harg10 : arg10.IsWhole) (arg11 : Memref sig .tc .vmem S2x1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x3x1024 .f32) (harg14 : arg14.IsWhole) (arg15 : Memref sig .tc .vmem S1x1024 .f32) (harg15 : arg15.IsWhole) (arg16 : Memref sig .tc .vmem S512x1024 .bf16) (harg16 : arg16.IsWhole) (arg17 : Memref sig .tc .vmem S512x1024 .f32) (harg17 : arg17.IsWhole) (hc0 : ¬cond0 i) (hc1 : cond1 i) (hc2 : cond2 i) (hc3 : cond3 i)
    (x0 : Vec F S512x1024 .f32) (x1 : Vec F S512x1024 .f32) (x2 : Vec F S1x3x1024 .f32) (x3 : Vec F S1x1024 .f32) (x4 : Vec F S512x1024 .bf16) (x5 : Vec F S2x1x512x704 .bf16) (x6 : Vec F S2x1x704x1024 .bf16) (x7 : Vec F S1x704x1024 .bf16) (xo11 : Vec F S512x1024 .bf16) (xs0 : Vec F S512x1024 .bf16) (xs1 : Vec F S512x1024 .f32) :
    Σ' (L8 : List (View.Piece (Elt F) S512x1024 .f32)), Σ' (L9 : List (View.Piece (Elt F) S2x1x512x704 .bf16)), Σ' (L10 : List (View.Piece (Elt F) S512x1024 .bf16)), Σ' (L11 : List (View.Piece (Elt F) S512x1024 .bf16)), Σ' (L12 : List (View.Piece (Elt F) S1x3x1024 .f32)), Σ' (L13 : List (View.Piece (Elt F) S1x1024 .f32)), Σ' (LS0 : List (View.Piece (Elt F) S512x1024 .bf16)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo11 ∗ (∃ d, owns (c : Thread nD τ) arg14 fullShare d) ∗ (∃ d, owns (c : Thread nD τ) arg15 fullShare d) ∗ owns (c : Thread nD τ) arg16 fullShare xs0 ∗ owns (c : Thread nD τ) arg17 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xo11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_ffn_bwd_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, [], ?_, ?_, [], ?_, fun E K => ?run⟩
  case run =>
    simp only [cc0_ffn_bwd_a_eq_skeleton]; unfold cc0_ffn_bwd_a_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%d13, %f13, -, H13⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg16.eq_unread hfs0; obtain rfl := harg17.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]
    · iexists _; isplitr; · ipureintro; exact harg13.read_unread _
      iexact H11
    isplitl [H12]; · iexists _; iexact H12
    isplitl [H13]; · iexists _; iexact H13
    isplitl [HS0]
    · iexists _; isplitr; · ipureintro; exact harg16.read_unread _
      iexact HS0
    iexists _; iexact HS1

end Cert.FfnBwdAIdeal.Own

end
-- ==== Proof.FfnA.RunD.lean ====
/- The body's run at the last strip of a block that is not the first of its batch entry. -/
module

public import proofs.«01_k».proof.Proof.FfnA.RunC

@[expose] public section

set_option maxRecDepth 16384

noncomputable section

namespace Cert.FfnBwdAIdeal.Own

open Cert.FfnBwdAIdeal Cert.FfnBwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in set_option sl_exec.squeezeSlice true in
/-- The body at the last strip of a block that is not the first of its batch entry: from buffers at given contents it runs to its end, and each buffer that it stores
    into ends with the pieces that this definition finds. -/
def runD (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S2x1x512x704 .bf16) (harg7 : arg7.IsWhole) (arg8 : Memref sig .tc .vmem S2x1x704x1024 .bf16) (harg8 : arg8.IsWhole) (arg9 : Memref sig .tc .vmem S1x704x1024 .bf16) (harg9 : arg9.IsWhole) (arg10 : Memref sig .tc .vmem S512x1024 .f32) (harg10 : arg10.IsWhole) (arg11 : Memref sig .tc .vmem S2x1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x3x1024 .f32) (harg14 : arg14.IsWhole) (arg15 : Memref sig .tc .vmem S1x1024 .f32) (harg15 : arg15.IsWhole) (arg16 : Memref sig .tc .vmem S512x1024 .bf16) (harg16 : arg16.IsWhole) (arg17 : Memref sig .tc .vmem S512x1024 .f32) (harg17 : arg17.IsWhole) (hc0 : ¬cond0 i) (hc1 : cond1 i) (hc2 : ¬cond2 i) (hc3 : ¬cond3 i)
    (x0 : Vec F S512x1024 .f32) (x1 : Vec F S512x1024 .f32) (x2 : Vec F S1x3x1024 .f32) (x3 : Vec F S1x1024 .f32) (x4 : Vec F S512x1024 .bf16) (x5 : Vec F S2x1x512x704 .bf16) (x6 : Vec F S2x1x704x1024 .bf16) (x7 : Vec F S1x704x1024 .bf16) (xo11 : Vec F S512x1024 .bf16) (xo12 : Vec F S1x3x1024 .f32) (xo13 : Vec F S1x1024 .f32) (xs0 : Vec F S512x1024 .bf16) (xs1 : Vec F S512x1024 .f32) :
    Σ' (L8 : List (View.Piece (Elt F) S512x1024 .f32)), Σ' (L9 : List (View.Piece (Elt F) S2x1x512x704 .bf16)), Σ' (L10 : List (View.Piece (Elt F) S512x1024 .bf16)), Σ' (L11 : List (View.Piece (Elt F) S512x1024 .bf16)), Σ' (L12 : List (View.Piece (Elt F) S1x3x1024 .f32)), Σ' (L13 : List (View.Piece (Elt F) S1x1024 .f32)), Σ' (LS0 : List (View.Piece (Elt F) S512x1024 .bf16)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xs0 ∗ owns (c : Thread nD τ) arg17 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xo11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_ffn_bwd_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, [], ?_, ?_, [], ?_, fun E K => ?run⟩
  case run =>
    simp only [cc0_ffn_bwd_a_eq_skeleton]; unfold cc0_ffn_bwd_a_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg14.eq_unread hf12; obtain rfl := harg15.eq_unread hf13; obtain rfl := harg16.eq_unread hfs0; obtain rfl := harg17.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]
    · iexists _; isplitr; · ipureintro; exact harg13.read_unread _
      iexact H11
    isplitl [H12]; · iexists _; iexact H12
    isplitl [H13]; · iexists _; iexact H13
    isplitl [HS0]
    · iexists _; isplitr; · ipureintro; exact harg16.read_unread _
      iexact HS0
    iexists _; iexact HS1

end Cert.FfnBwdAIdeal.Own

end
-- ==== Proof.FfnA.RunE.lean ====
/- The body's run at the last strip of the first block of a later batch entry. -/
module

public import proofs.«01_k».proof.Proof.FfnA.RunD

@[expose] public section

set_option maxRecDepth 16384

noncomputable section

namespace Cert.FfnBwdAIdeal.Own

open Cert.FfnBwdAIdeal Cert.FfnBwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in set_option sl_exec.squeezeSlice true in
/-- The body at the last strip of the first block of a later batch entry: from buffers at given contents it runs to its end, and each buffer that it stores
    into ends with the pieces that this definition finds. -/
def runE (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S2x1x512x704 .bf16) (harg7 : arg7.IsWhole) (arg8 : Memref sig .tc .vmem S2x1x704x1024 .bf16) (harg8 : arg8.IsWhole) (arg9 : Memref sig .tc .vmem S1x704x1024 .bf16) (harg9 : arg9.IsWhole) (arg10 : Memref sig .tc .vmem S512x1024 .f32) (harg10 : arg10.IsWhole) (arg11 : Memref sig .tc .vmem S2x1x512x704 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x3x1024 .f32) (harg14 : arg14.IsWhole) (arg15 : Memref sig .tc .vmem S1x1024 .f32) (harg15 : arg15.IsWhole) (arg16 : Memref sig .tc .vmem S512x1024 .bf16) (harg16 : arg16.IsWhole) (arg17 : Memref sig .tc .vmem S512x1024 .f32) (harg17 : arg17.IsWhole) (hc0 : ¬cond0 i) (hc1 : cond1 i) (hc2 : cond2 i) (hc3 : ¬cond3 i)
    (x0 : Vec F S512x1024 .f32) (x1 : Vec F S512x1024 .f32) (x2 : Vec F S1x3x1024 .f32) (x3 : Vec F S1x1024 .f32) (x4 : Vec F S512x1024 .bf16) (x5 : Vec F S2x1x512x704 .bf16) (x6 : Vec F S2x1x704x1024 .bf16) (x7 : Vec F S1x704x1024 .bf16) (xo11 : Vec F S512x1024 .bf16) (xo13 : Vec F S1x1024 .f32) (xs0 : Vec F S512x1024 .bf16) (xs1 : Vec F S512x1024 .f32) :
    Σ' (L8 : List (View.Piece (Elt F) S512x1024 .f32)), Σ' (L9 : List (View.Piece (Elt F) S2x1x512x704 .bf16)), Σ' (L10 : List (View.Piece (Elt F) S512x1024 .bf16)), Σ' (L11 : List (View.Piece (Elt F) S512x1024 .bf16)), Σ' (L12 : List (View.Piece (Elt F) S1x3x1024 .f32)), Σ' (L13 : List (View.Piece (Elt F) S1x1024 .f32)), Σ' (LS0 : List (View.Piece (Elt F) S512x1024 .bf16)), { LS1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xo11 ∗ (∃ d, owns (c : Thread nD τ) arg14 fullShare d) ∗ owns (c : Thread nD τ) arg15 fullShare xo13 ∗ owns (c : Thread nD τ) arg16 fullShare xs0 ∗ owns (c : Thread nD τ) arg17 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xo11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xs0 ∗ (∃ f, arg17.view.loc (c : Thread nD τ) ↦[arg17.view.set]{fullShare} arg17.view.writes (Elt F) f LS1)) -∗ K ⟨⟩))
          ⊢ wp frame (wpE (defs₀ (F := F)) Variants.none c none) E (cc0_ffn_bwd_a i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, [], ?_, ?_, [], ?_, fun E K => ?run⟩
  case run =>
    simp only [cc0_ffn_bwd_a_eq_skeleton]; unfold cc0_ffn_bwd_a_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%d12, %f12, -, H12⟩, ⟨%f13, %hf13, H13⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg15.eq_unread hf13; obtain rfl := harg16.eq_unread hfs0; obtain rfl := harg17.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]
    · iexists _; isplitr; · ipureintro; exact harg13.read_unread _
      iexact H11
    isplitl [H12]; · iexists _; iexact H12
    isplitl [H13]; · iexists _; iexact H13
    isplitl [HS0]
    · iexists _; isplitr; · ipureintro; exact harg16.read_unread _
      iexact HS0
    iexists _; iexact HS1

end Cert.FfnBwdAIdeal.Own

end
-- ==== Proof.FfnA.Frame.lean ====
/- The gate-and-product backward call: it runs without fault, leaves its arguments as they were and every counter at
   zero, and its arrays end with what the points leave in them. -/
module

public import proofs.«01_k».proof.Proof.FfnA.RunE
public import Idealize.ShloMosaic.Lib.Quiescent
public import Idealize.ShloMosaic.Lib.Claim

@[expose] public section

set_option maxRecDepth 16384

noncomputable section

namespace Cert.FfnBwdAIdeal.Own

open Cert.FfnBwdAIdeal Cert.FfnBwdAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the six output windows' buffers and the two scratch buffers. -/
structure St (F : FTy → Type) [FloatOps F] where
  o8 : Vec F S512x1024 .f32
  o9 : Vec F S2x1x512x704 .bf16
  o10 : Vec F S512x1024 .bf16
  o11 : Vec F S512x1024 .bf16
  o12 : Vec F S1x3x1024 .f32
  o13 : Vec F S1x1024 .f32
  s0 : Vec F S512x1024 .bf16
  s1 : Vec F S512x1024 .f32

/-- Before the first point: nothing of use. -/
def St.junk : St F :=
  ⟨VO8.read (Elt F) VO8.junk, VO9.read (Elt F) VO9.junk, VO10.read (Elt F) VO10.junk, VO11.read (Elt F) VO11.junk, VO12.read (Elt F) VO12.junk, VO13.read (Elt F) VO13.junk, VS0.read (Elt F) VS0.junk, VS1.read (Elt F) VS1.junk⟩

/-- The run at the first strip of a block of rows, at the buffers and blocks of point `t`. -/
abbrev atA (c : Dev nD) (t : Fin cfg0.N) (h0 : t.val % 4 = 0) (p : St F) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _)
    ((cond0_iff t).mpr h0) (fun h => absurd ((cond1_iff t).mp h) (by omega))
    (iblk m c 0 t) (iblk m c 1 t) (iblk m c 2 t) (iblk m c 3 t) (iblk m c 4 t) (iblk m c 5 t) (iblk m c 6 t) (iblk m c 7 t)

/-- What is left at the first strip of a block of rows. -/
def stA (c : Dev nD) (t : Fin cfg0.N) (h0 : t.val % 4 = 0) (p : St F) : St F :=
  ⟨p.o8,
    VO9.read (Elt F) (VO9.writes (Elt F) VO9.junk (atA m c t h0 p).2.1),
    p.o10,
    VO11.read (Elt F) (VO11.writes (Elt F) VO11.junk (atA m c t h0 p).2.2.2.1),
    p.o12,
    p.o13,
    VS0.read (Elt F) (VS0.writes (Elt F) VS0.junk (atA m c t h0 p).2.2.2.2.2.2.1),
    VS1.read (Elt F) (VS1.writes (Elt F) VS1.junk (atA m c t h0 p).2.2.2.2.2.2.2.1)⟩

theorem covA_9 (c : Dev nD) (t : Fin cfg0.N) (h0 : t.val % 4 = 0) (p : St F) (y : S2x1x512x704.Idx) :
    ∃ pc ∈ (atA m c t h0 p).2.1, y ∈ pc.1.set :=
  View.cover_of_tiledL (atA m c t h0 p).2.1 S1x1x512x704.size (by sl_kernel_rfl) y
theorem covA_11 (c : Dev nD) (t : Fin cfg0.N) (h0 : t.val % 4 = 0) (p : St F) (y : S512x1024.Idx) :
    ∃ pc ∈ (atA m c t h0 p).2.2.2.1, y ∈ pc.1.set :=
  View.cover_of_tiledL (atA m c t h0 p).2.2.2.1 S512x1024.size (by sl_kernel_rfl) y
theorem covA_s0 (c : Dev nD) (t : Fin cfg0.N) (h0 : t.val % 4 = 0) (p : St F) (y : S512x1024.Idx) :
    ∃ pc ∈ (atA m c t h0 p).2.2.2.2.2.2.1, y ∈ pc.1.set :=
  View.cover_of_tiledL (atA m c t h0 p).2.2.2.2.2.2.1 S512x1024.size (by sl_kernel_rfl) y
theorem covA_s1 (c : Dev nD) (t : Fin cfg0.N) (h0 : t.val % 4 = 0) (p : St F) (y : S512x1024.Idx) :
    ∃ pc ∈ (atA m c t h0 p).2.2.2.2.2.2.2.1, y ∈ pc.1.set :=
  View.cover_of_tiledL (atA m c t h0 p).2.2.2.2.2.2.2.1 S512x1024.size (by sl_kernel_rfl) y

/-- The run at a middle strip, at the buffers and blocks of point `t`. -/
abbrev atB (c : Dev nD) (t : Fin cfg0.N) (h0 : ¬t.val % 4 = 0) (h1 : ¬t.val % 4 = 3) (p : St F) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _)
    (fun h => h0 ((cond0_iff t).mp h)) (fun h => h1 ((cond1_iff t).mp h))
    (iblk m c 0 t) (iblk m c 1 t) (iblk m c 2 t) (iblk m c 3 t) (iblk m c 4 t) (iblk m c 5 t) (iblk m c 6 t) (iblk m c 7 t) p.s0 p.s1

/-- What is left at a middle strip. -/
def stB (c : Dev nD) (t : Fin cfg0.N) (h0 : ¬t.val % 4 = 0) (h1 : ¬t.val % 4 = 3) (p : St F) : St F :=
  ⟨p.o8,
    VO9.read (Elt F) (VO9.writes (Elt F) VO9.junk (atB m c t h0 h1 p).2.1),
    p.o10,
    p.o11,
    p.o12,
    p.o13,
    p.s0,
    VS1.read (Elt F) (VS1.writes (Elt F) VS1.junk (atB m c t h0 h1 p).2.2.2.2.2.2.2.1)⟩

theorem covB_9 (c : Dev nD) (t : Fin cfg0.N) (h0 : ¬t.val % 4 = 0) (h1 : ¬t.val % 4 = 3) (p : St F) (y : S2x1x512x704.Idx) :
    ∃ pc ∈ (atB m c t h0 h1 p).2.1, y ∈ pc.1.set :=
  View.cover_of_tiledL (atB m c t h0 h1 p).2.1 S1x1x512x704.size (by sl_kernel_rfl) y
theorem covB_s1 (c : Dev nD) (t : Fin cfg0.N) (h0 : ¬t.val % 4 = 0) (h1 : ¬t.val % 4 = 3) (p : St F) (y : S512x1024.Idx) :
    ∃ pc ∈ (atB m c t h0 h1 p).2.2.2.2.2.2.2.1, y ∈ pc.1.set :=
  View.cover_of_tiledL (atB m c t h0 h1 p).2.2.2.2.2.2.2.1 S512x1024.size (by sl_kernel_rfl) y

/-- The run at the last strip of the first block of all, at the buffers and blocks of point `t`. -/
abbrev atC (c : Dev nD) (t : Fin cfg0.N) (h1 : t.val % 4 = 3) (h2 : t.val % 16 < 4) (h3 : t.val < 4) (p : St F) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _)
    (fun h => absurd ((cond0_iff t).mp h) (by omega)) ((cond1_iff t).mpr h1) ((cond2_iff t).mpr h2) ((cond3_iff t).mpr h3)
    (iblk m c 0 t) (iblk m c 1 t) (iblk m c 2 t) (iblk m c 3 t) (iblk m c 4 t) (iblk m c 5 t) (iblk m c 6 t) (iblk m c 7 t) p.o11 p.s0 p.s1

/-- What is left at the last strip of the first block of all. -/
def stC (c : Dev nD) (t : Fin cfg0.N) (h1 : t.val % 4 = 3) (h2 : t.val % 16 < 4) (h3 : t.val < 4) (p : St F) : St F :=
  ⟨VO8.read (Elt F) (VO8.writes (Elt F) VO8.junk (atC m c t h1 h2 h3 p).1),
    VO9.read (Elt F) (VO9.writes (Elt F) VO9.junk (atC m c t h1 h2 h3 p).2.1),
    VO10.read (Elt F) (VO10.writes (Elt F) VO10.junk (atC m c t h1 h2 h3 p).2.2.1),
    p.o11,
    VO12.read (Elt F) (VO12.writes (Elt F) VO12.junk (atC m c t h1 h2 h3 p).2.2.2.2.1),
    VO13.read (Elt F) (VO13.writes (Elt F) VO13.junk (atC m c t h1 h2 h3 p).2.2.2.2.2.1),
    p.s0,
    VS1.read (Elt F) (VS1.writes (Elt F) VS1.junk (atC m c t h1 h2 h3 p).2.2.2.2.2.2.2.1)⟩

theorem covC_8 (c : Dev nD) (t : Fin cfg0.N) (h1 : t.val % 4 = 3) (h2 : t.val % 16 < 4) (h3 : t.val < 4) (p : St F) (y : S512x1024.Idx) :
    ∃ pc ∈ (atC m c t h1 h2 h3 p).1, y ∈ pc.1.set :=
  View.cover_of_tiledL (atC m c t h1 h2 h3 p).1 S512x1024.size (by sl_kernel_rfl) y
theorem covC_9 (c : Dev nD) (t : Fin cfg0.N) (h1 : t.val % 4 = 3) (h2 : t.val % 16 < 4) (h3 : t.val < 4) (p : St F) (y : S2x1x512x704.Idx) :
    ∃ pc ∈ (atC m c t h1 h2 h3 p).2.1, y ∈ pc.1.set :=
  View.cover_of_tiledL (atC m c t h1 h2 h3 p).2.1 S1x1x512x704.size (by sl_kernel_rfl) y
theorem covC_10 (c : Dev nD) (t : Fin cfg0.N) (h1 : t.val % 4 = 3) (h2 : t.val % 16 < 4) (h3 : t.val < 4) (p : St F) (y : S512x1024.Idx) :
    ∃ pc ∈ (atC m c t h1 h2 h3 p).2.2.1, y ∈ pc.1.set :=
  View.cover_of_tiledL (atC m c t h1 h2 h3 p).2.2.1 S512x1024.size (by sl_kernel_rfl) y
theorem covC_12 (c : Dev nD) (t : Fin cfg0.N) (h1 : t.val % 4 = 3) (h2 : t.val % 16 < 4) (h3 : t.val < 4) (p : St F) (y : S1x3x1024.Idx) :
    ∃ pc ∈ (atC m c t h1 h2 h3 p).2.2.2.2.1, y ∈ pc.1.set :=
  View.cover_of_tiledBy (atC m c t h1 h2 h3 p).2.2.2.2.1 ![1, 1, 1024] (by sl_kernel_rfl) y
theorem covC_13 (c : Dev nD) (t : Fin cfg0.N) (h1 : t.val % 4 = 3) (h2 : t.val % 16 < 4) (h3 : t.val < 4) (p : St F) (y : S1x1024.Idx) :
    ∃ pc ∈ (atC m c t h1 h2 h3 p).2.2.2.2.2.1, y ∈ pc.1.set :=
  View.cover_of_tiledL (atC m c t h1 h2 h3 p).2.2.2.2.2.1 S1x1024.size (by sl_kernel_rfl) y
theorem covC_s1 (c : Dev nD) (t : Fin cfg0.N) (h1 : t.val % 4 = 3) (h2 : t.val % 16 < 4) (h3 : t.val < 4) (p : St F) (y : S512x1024.Idx) :
    ∃ pc ∈ (atC m c t h1 h2 h3 p).2.2.2.2.2.2.2.1, y ∈ pc.1.set :=
  View.cover_of_tiledL (atC m c t h1 h2 h3 p).2.2.2.2.2.2.2.1 S512x1024.size (by sl_kernel_rfl) y

/-- The run at the last strip of a block that is not the first of its batch entry, at the buffers and blocks of point `t`. -/
abbrev atD (c : Dev nD) (t : Fin cfg0.N) (h1 : t.val % 4 = 3) (h2 : ¬t.val % 16 < 4) (h3 : ¬t.val < 4) (p : St F) :=
  runD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _)
    (fun h => absurd ((cond0_iff t).mp h) (by omega)) ((cond1_iff t).mpr h1) (fun h => h2 ((cond2_iff t).mp h)) (fun h => h3 ((cond3_iff t).mp h))
    (iblk m c 0 t) (iblk m c 1 t) (iblk m c 2 t) (iblk m c 3 t) (iblk m c 4 t) (iblk m c 5 t) (iblk m c 6 t) (iblk m c 7 t) p.o11 p.o12 p.o13 p.s0 p.s1

/-- What is left at the last strip of a block that is not the first of its batch entry. -/
def stD (c : Dev nD) (t : Fin cfg0.N) (h1 : t.val % 4 = 3) (h2 : ¬t.val % 16 < 4) (h3 : ¬t.val < 4) (p : St F) : St F :=
  ⟨VO8.read (Elt F) (VO8.writes (Elt F) VO8.junk (atD m c t h1 h2 h3 p).1),
    VO9.read (Elt F) (VO9.writes (Elt F) VO9.junk (atD m c t h1 h2 h3 p).2.1),
    VO10.read (Elt F) (VO10.writes (Elt F) VO10.junk (atD m c t h1 h2 h3 p).2.2.1),
    p.o11,
    VO12.read (Elt F) (VO12.writes (Elt F) VO12.junk (atD m c t h1 h2 h3 p).2.2.2.2.1),
    VO13.read (Elt F) (VO13.writes (Elt F) VO13.junk (atD m c t h1 h2 h3 p).2.2.2.2.2.1),
    p.s0,
    VS1.read (Elt F) (VS1.writes (Elt F) VS1.junk (atD m c t h1 h2 h3 p).2.2.2.2.2.2.2.1)⟩

theorem covD_8 (c : Dev nD) (t : Fin cfg0.N) (h1 : t.val % 4 = 3) (h2 : ¬t.val % 16 < 4) (h3 : ¬t.val < 4) (p : St F) (y : S512x1024.Idx) :
    ∃ pc ∈ (atD m c t h1 h2 h3 p).1, y ∈ pc.1.set :=
  View.cover_of_tiledL (atD m c t h1 h2 h3 p).1 S512x1024.size (by sl_kernel_rfl) y
theorem covD_9 (c : Dev nD) (t : Fin cfg0.N) (h1 : t.val % 4 = 3) (h2 : ¬t.val % 16 < 4) (h3 : ¬t.val < 4) (p : St F) (y : S2x1x512x704.Idx) :
    ∃ pc ∈ (atD m c t h1 h2 h3 p).2.1, y ∈ pc.1.set :=
  View.cover_of_tiledL (atD m c t h1 h2 h3 p).2.1 S1x1x512x704.size (by sl_kernel_rfl) y
theorem covD_10 (c : Dev nD) (t : Fin cfg0.N) (h1 : t.val % 4 = 3) (h2 : ¬t.val % 16 < 4) (h3 : ¬t.val < 4) (p : St F) (y : S512x1024.Idx) :
    ∃ pc ∈ (atD m c t h1 h2 h3 p).2.2.1, y ∈ pc.1.set :=
  View.cover_of_tiledL (atD m c t h1 h2 h3 p).2.2.1 S512x1024.size (by sl_kernel_rfl) y
theorem covD_12 (c : Dev nD) (t : Fin cfg0.N) (h1 : t.val % 4 = 3) (h2 : ¬t.val % 16 < 4) (h3 : ¬t.val < 4) (p : St F) (y : S1x3x1024.Idx) :
    ∃ pc ∈ (atD m c t h1 h2 h3 p).2.2.2.2.1, y ∈ pc.1.set :=
  View.cover_of_tiledBy (atD m c t h1 h2 h3 p).2.2.2.2.1 ![1, 1, 1024] (by sl_kernel_rfl) y
theorem covD_13 (c : Dev nD) (t : Fin cfg0.N) (h1 : t.val % 4 = 3) (h2 : ¬t.val % 16 < 4) (h3 : ¬t.val < 4) (p : St F) (y : S1x1024.Idx) :
    ∃ pc ∈ (atD m c t h1 h2 h3 p).2.2.2.2.2.1, y ∈ pc.1.set :=
  View.cover_of_tiledL (atD m c t h1 h2 h3 p).2.2.2.2.2.1 S1x1024.size (by sl_kernel_rfl) y
theorem covD_s1 (c : Dev nD) (t : Fin cfg0.N) (h1 : t.val % 4 = 3) (h2 : ¬t.val % 16 < 4) (h3 : ¬t.val < 4) (p : St F) (y : S512x1024.Idx) :
    ∃ pc ∈ (atD m c t h1 h2 h3 p).2.2.2.2.2.2.2.1, y ∈ pc.1.set :=
  View.cover_of_tiledL (atD m c t h1 h2 h3 p).2.2.2.2.2.2.2.1 S512x1024.size (by sl_kernel_rfl) y

/-- The run at the last strip of the first block of a later batch entry, at the buffers and blocks of point `t`. -/
abbrev atE (c : Dev nD) (t : Fin cfg0.N) (h1 : t.val % 4 = 3) (h2 : t.val % 16 < 4) (h3 : ¬t.val < 4) (p : St F) :=
  runE (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) sc0 (Memref.isWhole_whole _) sc1 (Memref.isWhole_whole _)
    (fun h => absurd ((cond0_iff t).mp h) (by omega)) ((cond1_iff t).mpr h1) ((cond2_iff t).mpr h2) (fun h => h3 ((cond3_iff t).mp h))
    (iblk m c 0 t) (iblk m c 1 t) (iblk m c 2 t) (iblk m c 3 t) (iblk m c 4 t) (iblk m c 5 t) (iblk m c 6 t) (iblk m c 7 t) p.o11 p.o13 p.s0 p.s1

/-- What is left at the last strip of the first block of a later batch entry. -/
def stE (c : Dev nD) (t : Fin cfg0.N) (h1 : t.val % 4 = 3) (h2 : t.val % 16 < 4) (h3 : ¬t.val < 4) (p : St F) : St F :=
  ⟨VO8.read (Elt F) (VO8.writes (Elt F) VO8.junk (atE m c t h1 h2 h3 p).1),
    VO9.read (Elt F) (VO9.writes (Elt F) VO9.junk (atE m c t h1 h2 h3 p).2.1),
    VO10.read (Elt F) (VO10.writes (Elt F) VO10.junk (atE m c t h1 h2 h3 p).2.2.1),
    p.o11,
    VO12.read (Elt F) (VO12.writes (Elt F) VO12.junk (atE m c t h1 h2 h3 p).2.2.2.2.1),
    VO13.read (Elt F) (VO13.writes (Elt F) VO13.junk (atE m c t h1 h2 h3 p).2.2.2.2.2.1),
    p.s0,
    VS1.read (Elt F) (VS1.writes (Elt F) VS1.junk (atE m c t h1 h2 h3 p).2.2.2.2.2.2.2.1)⟩

theorem covE_8 (c : Dev nD) (t : Fin cfg0.N) (h1 : t.val % 4 = 3) (h2 : t.val % 16 < 4) (h3 : ¬t.val < 4) (p : St F) (y : S512x1024.Idx) :
    ∃ pc ∈ (atE m c t h1 h2 h3 p).1, y ∈ pc.1.set :=
  View.cover_of_tiledL (atE m c t h1 h2 h3 p).1 S512x1024.size (by sl_kernel_rfl) y
theorem covE_9 (c : Dev nD) (t : Fin cfg0.N) (h1 : t.val % 4 = 3) (h2 : t.val % 16 < 4) (h3 : ¬t.val < 4) (p : St F) (y : S2x1x512x704.Idx) :
    ∃ pc ∈ (atE m c t h1 h2 h3 p).2.1, y ∈ pc.1.set :=
  View.cover_of_tiledL (atE m c t h1 h2 h3 p).2.1 S1x1x512x704.size (by sl_kernel_rfl) y
theorem covE_10 (c : Dev nD) (t : Fin cfg0.N) (h1 : t.val % 4 = 3) (h2 : t.val % 16 < 4) (h3 : ¬t.val < 4) (p : St F) (y : S512x1024.Idx) :
    ∃ pc ∈ (atE m c t h1 h2 h3 p).2.2.1, y ∈ pc.1.set :=
  View.cover_of_tiledL (atE m c t h1 h2 h3 p).2.2.1 S512x1024.size (by sl_kernel_rfl) y
theorem covE_12 (c : Dev nD) (t : Fin cfg0.N) (h1 : t.val % 4 = 3) (h2 : t.val % 16 < 4) (h3 : ¬t.val < 4) (p : St F) (y : S1x3x1024.Idx) :
    ∃ pc ∈ (atE m c t h1 h2 h3 p).2.2.2.2.1, y ∈ pc.1.set :=
  View.cover_of_tiledBy (atE m c t h1 h2 h3 p).2.2.2.2.1 ![1, 1, 1024] (by sl_kernel_rfl) y
theorem covE_13 (c : Dev nD) (t : Fin cfg0.N) (h1 : t.val % 4 = 3) (h2 : t.val % 16 < 4) (h3 : ¬t.val < 4) (p : St F) (y : S1x1024.Idx) :
    ∃ pc ∈ (atE m c t h1 h2 h3 p).2.2.2.2.2.1, y ∈ pc.1.set :=
  View.cover_of_tiledL (atE m c t h1 h2 h3 p).2.2.2.2.2.1 S1x1024.size (by sl_kernel_rfl) y
theorem covE_s1 (c : Dev nD) (t : Fin cfg0.N) (h1 : t.val % 4 = 3) (h2 : t.val % 16 < 4) (h3 : ¬t.val < 4) (p : St F) (y : S512x1024.Idx) :
    ∃ pc ∈ (atE m c t h1 h2 h3 p).2.2.2.2.2.2.2.1, y ∈ pc.1.set :=
  View.cover_of_tiledL (atE m c t h1 h2 h3 p).2.2.2.2.2.2.2.1 S512x1024.size (by sl_kernel_rfl) y

/-- What point `t` leaves, from what the point before left. -/
def step (c : Dev nD) (t : Fin cfg0.N) (p : St F) : St F :=
  if h0 : t.val % 4 = 0 then stA m c t h0 p
  else if h1 : t.val % 4 = 3 then
    if h2 : t.val % 16 < 4 then
      if h3 : t.val < 4 then stC m c t h1 h2 h3 p else stE m c t h1 h2 h3 p
    else stD m c t h1 h2 (by omega) p
  else stB m c t h0 h1 p

/-- What the first `n` points leave. -/
def upTo (c : Dev nD) : ℕ → St F
  | 0 => St.junk
  | n + 1 => if h : n < cfg0.N then step m c ⟨n, h⟩ (upTo c n) else upTo c n

theorem upTo_step (c : Dev nD) (t : Fin cfg0.N) : upTo m c (t.val + 1) = step m c t (upTo m c t.val) := by
  rw [upTo, dif_pos t.isLt]

theorem upTo_A (c : Dev nD) (t : Fin cfg0.N) (h0 : t.val % 4 = 0) :
    upTo m c (t.val + 1) = stA m c t h0 (upTo m c t.val) := by
  rw [upTo_step, step, dif_pos h0]
theorem upTo_B (c : Dev nD) (t : Fin cfg0.N) (h0 : ¬t.val % 4 = 0) (h1 : ¬t.val % 4 = 3) :
    upTo m c (t.val + 1) = stB m c t h0 h1 (upTo m c t.val) := by
  rw [upTo_step, step, dif_neg h0, dif_neg h1]
theorem upTo_C (c : Dev nD) (t : Fin cfg0.N) (h1 : t.val % 4 = 3) (h2 : t.val % 16 < 4) (h3 : t.val < 4) :
    upTo m c (t.val + 1) = stC m c t h1 h2 h3 (upTo m c t.val) := by
  rw [upTo_step, step, dif_neg (by omega), dif_pos h1, dif_pos h2, dif_pos h3]
theorem upTo_D (c : Dev nD) (t : Fin cfg0.N) (h1 : t.val % 4 = 3) (h2 : ¬t.val % 16 < 4) (h3 : ¬t.val < 4) :
    upTo m c (t.val + 1) = stD m c t h1 h2 h3 (upTo m c t.val) := by
  rw [upTo_step, step, dif_neg (by omega), dif_pos h1, dif_neg h2]
theorem upTo_E (c : Dev nD) (t : Fin cfg0.N) (h1 : t.val % 4 = 3) (h2 : t.val % 16 < 4) (h3 : ¬t.val < 4) :
    upTo m c (t.val + 1) = stE m c t h1 h2 h3 (upTo m c t.val) := by
  rw [upTo_step, step, dif_neg (by omega), dif_pos h1, dif_pos h2, dif_neg h3]

/-- What is held between points: the scratch buffers at what the points so far left, and the generator's register. -/
def Held (c : Dev nD) : ℕ → sProp 𝕄
  | 0 => Pipeline.ΦA spec0 c
  | n + 1 => iprop(iprop(owns (c : Thread nD τ) sc0 fullShare (upTo m c (n + 1)).s0 ∗ owns (c : Thread nD τ) sc1 fullShare (upTo m c (n + 1)).s1) ∗ (∃ r, prngReg c r))

theorem Held_pos (c : Dev nD) (n : ℕ) (hz : n ≠ 0) :
    Held m c n = iprop(iprop(owns (c : Thread nD τ) sc0 fullShare (upTo m c n).s0 ∗ owns (c : Thread nD τ) sc1 fullShare (upTo m c n).s1) ∗ (∃ r, prngReg c r)) := by
  cases n with
  | zero => exact absurd rfl hz
  | succ n => rfl

/-- The proof data of the pipeline: the arrays at the region's entry, each input's buffer at its block, each output's at
    what the points so far left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (upTo m c (t.val + 1)).o8
    | ⟨9, _⟩ => (upTo m c (t.val + 1)).o9
    | ⟨10, _⟩ => (upTo m c (t.val + 1)).o10
    | ⟨11, _⟩ => (upTo m c (t.val + 1)).o11
    | ⟨12, _⟩ => (upTo m c (t.val + 1)).o12
    | ⟨13, _⟩ => (upTo m c (t.val + 1)).o13
  Φ t := Held m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (upTo m c (t.val + 1)).o8 := by dsimp only [dats]
theorem after_9 (c : Dev nD) (t : Fin cfg0.N) : (dats m 0 c).after 9 t = (upTo m c (t.val + 1)).o9 := by dsimp only [dats]
theorem after_10 (c : Dev nD) (t : Fin cfg0.N) : (dats m 0 c).after 10 t = (upTo m c (t.val + 1)).o10 := by dsimp only [dats]
theorem after_11 (c : Dev nD) (t : Fin cfg0.N) : (dats m 0 c).after 11 t = (upTo m c (t.val + 1)).o11 := by dsimp only [dats]
theorem after_12 (c : Dev nD) (t : Fin cfg0.N) : (dats m 0 c).after 12 t = (upTo m c (t.val + 1)).o12 := by dsimp only [dats]
theorem after_13 (c : Dev nD) (t : Fin cfg0.N) : (dats m 0 c).after 13 t = (upTo m c (t.val + 1)).o13 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! What passes a point that stores nothing into it. -/

theorem pass_11 (c : Dev nD) (t : Fin cfg0.N) (h : ¬t.val % 4 = 0) : (upTo m c (t.val + 1)).o11 = (upTo m c t.val).o11 := by
  by_cases h1 : t.val % 4 = 3
  · by_cases h2 : t.val % 16 < 4
    · by_cases h3 : t.val < 4
      · rw [upTo_C m c t h1 h2 h3]; dsimp only [stC]
      · rw [upTo_E m c t h1 h2 h3]; dsimp only [stE]
    · rw [upTo_D m c t h1 h2 (by omega)]; dsimp only [stD]
  · rw [upTo_B m c t h h1]; dsimp only [stB]
theorem carry_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t hz hi _
  rw [after_11, after_11, pass_11 m c t (fun h => by rw [live_11 t h] at hi; exact absurd hi Bool.false_ne_true)]
  rw [show (⟨t.val - 1, by omega⟩ : Fin cfg0.N).val + 1 = t.val from Nat.sub_add_cancel (Nat.one_le_iff_ne_zero.mpr hz)]
theorem before_11 (c : Dev nD) (t : Fin cfg0.N) (h : t.val % 4 = 3) (d) : (dats m 0 c).before 11 t d = (upTo m c t.val).o11 := by
  rw [Dat.before_out_traj _ 11 rfl (fun _ _ => rfl) (carry_11 m c) t.val t rfl d,
    if_neg (by rw [held_11 t h]; exact Bool.false_ne_true)]
  rw [after_11]
  rw [show (⟨t.val - 1, Nat.lt_of_le_of_lt (Nat.sub_le _ _) t.isLt⟩ : Fin cfg0.N).val + 1 = t.val from Nat.sub_add_cancel (by omega)]

theorem pass_12 (c : Dev nD) (t : Fin cfg0.N) (h : ¬t.val % 4 = 3) : (upTo m c (t.val + 1)).o12 = (upTo m c t.val).o12 := by
  by_cases h0 : t.val % 4 = 0
  · rw [upTo_A m c t h0]; dsimp only [stA]
  · rw [upTo_B m c t h0 h]; dsimp only [stB]
theorem carry_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t hz hi _
  rw [after_12, after_12, pass_12 m c t (fun h => by rw [live_12 t h] at hi; exact absurd hi Bool.false_ne_true)]
  rw [show (⟨t.val - 1, by omega⟩ : Fin cfg0.N).val + 1 = t.val from Nat.sub_add_cancel (Nat.one_le_iff_ne_zero.mpr hz)]
theorem before_12 (c : Dev nD) (t : Fin cfg0.N) (h : t.val % 4 = 3) (h2 : ¬t.val % 16 < 4) (d) : (dats m 0 c).before 12 t d = (upTo m c t.val).o12 := by
  rw [Dat.before_out_traj _ 12 rfl (fun _ _ => rfl) (carry_12 m c) t.val t rfl d,
    if_neg (by rw [held_12 t h h2]; exact Bool.false_ne_true)]
  rw [after_12]
  rw [show (⟨t.val - 1, Nat.lt_of_le_of_lt (Nat.sub_le _ _) t.isLt⟩ : Fin cfg0.N).val + 1 = t.val from Nat.sub_add_cancel (by omega)]

theorem pass_13 (c : Dev nD) (t : Fin cfg0.N) (h : ¬t.val % 4 = 3) : (upTo m c (t.val + 1)).o13 = (upTo m c t.val).o13 := by
  by_cases h0 : t.val % 4 = 0
  · rw [upTo_A m c t h0]; dsimp only [stA]
  · rw [upTo_B m c t h0 h]; dsimp only [stB]
theorem carry_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t hz hi _
  rw [after_13, after_13, pass_13 m c t (fun h => by rw [live_13 t h] at hi; exact absurd hi Bool.false_ne_true)]
  rw [show (⟨t.val - 1, by omega⟩ : Fin cfg0.N).val + 1 = t.val from Nat.sub_add_cancel (Nat.one_le_iff_ne_zero.mpr hz)]
theorem before_13 (c : Dev nD) (t : Fin cfg0.N) (h : t.val % 4 = 3) (h2 : ¬t.val < 4) (d) : (dats m 0 c).before 13 t d = (upTo m c t.val).o13 := by
  rw [Dat.before_out_traj _ 13 rfl (fun _ _ => rfl) (carry_13 m c) t.val t rfl d,
    if_neg (by rw [held_13 t h h2]; exact Bool.false_ne_true)]
  rw [after_13]
  rw [show (⟨t.val - 1, Nat.lt_of_le_of_lt (Nat.sub_le _ _) t.isLt⟩ : Fin cfg0.N).val + 1 = t.val from Nat.sub_add_cancel (by omega)]

/-! What a window's buffer must hold after a point. -/

theorem leaves_0 (c : Dev nD) (t : Fin cfg0.N) : (dats m 0 c).leavesExact 0 t = owns (c : Thread nD τ) (ms0 t) fullShare ((dats m 0 c).after 0 t) := by
  unfold Dat.leavesExact; rw [live_0 t]
theorem leaves_1 (c : Dev nD) (t : Fin cfg0.N) : (dats m 0 c).leavesExact 1 t = owns (c : Thread nD τ) (ms1 t) fullShare ((dats m 0 c).after 1 t) := by
  unfold Dat.leavesExact; rw [live_1 t]
theorem leaves_2 (c : Dev nD) (t : Fin cfg0.N) : (dats m 0 c).leavesExact 2 t = owns (c : Thread nD τ) (ms2 t) fullShare ((dats m 0 c).after 2 t) := by
  unfold Dat.leavesExact; rw [live_2 t]
theorem leaves_3 (c : Dev nD) (t : Fin cfg0.N) : (dats m 0 c).leavesExact 3 t = owns (c : Thread nD τ) (ms3 t) fullShare ((dats m 0 c).after 3 t) := by
  unfold Dat.leavesExact; rw [live_3 t]
theorem leaves_4 (c : Dev nD) (t : Fin cfg0.N) : (dats m 0 c).leavesExact 4 t = owns (c : Thread nD τ) (ms4 t) fullShare ((dats m 0 c).after 4 t) := by
  unfold Dat.leavesExact; rw [live_4 t]
theorem leaves_5 (c : Dev nD) (t : Fin cfg0.N) : (dats m 0 c).leavesExact 5 t = owns (c : Thread nD τ) (ms5 t) fullShare ((dats m 0 c).after 5 t) := by
  unfold Dat.leavesExact; rw [live_5 t]
theorem leaves_6 (c : Dev nD) (t : Fin cfg0.N) : (dats m 0 c).leavesExact 6 t = owns (c : Thread nD τ) (ms6 t) fullShare ((dats m 0 c).after 6 t) := by
  unfold Dat.leavesExact; rw [live_6 t]
theorem leaves_7 (c : Dev nD) (t : Fin cfg0.N) : (dats m 0 c).leavesExact 7 t = owns (c : Thread nD τ) (ms7 t) fullShare ((dats m 0 c).after 7 t) := by
  unfold Dat.leavesExact; rw [live_7 t]
theorem leaves_9 (c : Dev nD) (t : Fin cfg0.N) : (dats m 0 c).leavesExact 9 t = owns (c : Thread nD τ) (ms9 t) fullShare ((dats m 0 c).after 9 t) := by
  unfold Dat.leavesExact; rw [live_9 t]
theorem leaves_8 (c : Dev nD) (t : Fin cfg0.N) (h : t.val % 4 = 3) : (dats m 0 c).leavesExact 8 t = owns (c : Thread nD τ) (ms8 t) fullShare ((dats m 0 c).after 8 t) := by
  unfold Dat.leavesExact; rw [live_8 t h]
theorem loose_8 (c : Dev nD) (t : Fin cfg0.N) (h : ¬t.val % 4 = 3) : (dats m 0 c).leavesExact 8 t = iprop(∃ d, owns (c : Thread nD τ) (ms8 t) fullShare ((dats m 0 c).before 8 t d)) :=
  Dat.leavesExact_idle (dats m 0 c) 8 t (idle_8 t h) (keep_8 t h)
theorem leaves_10 (c : Dev nD) (t : Fin cfg0.N) (h : t.val % 4 = 3) : (dats m 0 c).leavesExact 10 t = owns (c : Thread nD τ) (ms10 t) fullShare ((dats m 0 c).after 10 t) := by
  unfold Dat.leavesExact; rw [live_10 t h]
theorem loose_10 (c : Dev nD) (t : Fin cfg0.N) (h : ¬t.val % 4 = 3) : (dats m 0 c).leavesExact 10 t = iprop(∃ d, owns (c : Thread nD τ) (ms10 t) fullShare ((dats m 0 c).before 10 t d)) :=
  Dat.leavesExact_idle (dats m 0 c) 10 t (idle_10 t h) (keep_10 t h)
theorem leaves_12 (c : Dev nD) (t : Fin cfg0.N) (h : t.val % 4 = 3) : (dats m 0 c).leavesExact 12 t = owns (c : Thread nD τ) (ms12 t) fullShare ((dats m 0 c).after 12 t) := by
  unfold Dat.leavesExact; rw [live_12 t h]
theorem loose_12 (c : Dev nD) (t : Fin cfg0.N) (h : ¬t.val % 4 = 3) : (dats m 0 c).leavesExact 12 t = iprop(∃ d, owns (c : Thread nD τ) (ms12 t) fullShare ((dats m 0 c).before 12 t d)) :=
  Dat.leavesExact_idle (dats m 0 c) 12 t (idle_12 t h) (keep_12 t h)
theorem leaves_13 (c : Dev nD) (t : Fin cfg0.N) (h : t.val % 4 = 3) : (dats m 0 c).leavesExact 13 t = owns (c : Thread nD τ) (ms13 t) fullShare ((dats m 0 c).after 13 t) := by
  unfold Dat.leavesExact; rw [live_13 t h]
theorem loose_13 (c : Dev nD) (t : Fin cfg0.N) (h : ¬t.val % 4 = 3) : (dats m 0 c).leavesExact 13 t = iprop(∃ d, owns (c : Thread nD τ) (ms13 t) fullShare ((dats m 0 c).before 13 t d)) :=
  Dat.leavesExact_idle (dats m 0 c) 13 t (idle_13 t h) (keep_13 t h)
theorem leaves_11 (c : Dev nD) (t : Fin cfg0.N) (h : t.val % 4 = 0) : (dats m 0 c).leavesExact 11 t = owns (c : Thread nD τ) (ms11 t) fullShare ((dats m 0 c).after 11 t) := by
  unfold Dat.leavesExact; rw [live_11 t h]
theorem leaves_11' (c : Dev nD) (t : Fin cfg0.N) (h : t.val % 4 = 3) : (dats m 0 c).leavesExact 11 t = owns (c : Thread nD τ) (ms11 t) fullShare ((dats m 0 c).after 11 t) := by
  unfold Dat.leavesExact; rw [idle_11 t (by omega), flush_11 t h]
theorem loose_11 (c : Dev nD) (t : Fin cfg0.N) (h0 : ¬t.val % 4 = 0) (h : ¬t.val % 4 = 3) : (dats m 0 c).leavesExact 11 t = iprop(∃ d, owns (c : Thread nD τ) (ms11 t) fullShare ((dats m 0 c).before 11 t d)) :=
  Dat.leavesExact_idle (dats m 0 c) 11 t (idle_11 t h0) (keep_11 t h)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- The body's triple at point `t`. -/
abbrev Sound (c : Dev nD) (t : Fin cfg0.N) : Prop :=
  bodyPre m c t ⊢ wp frame (wpE (defs₀ (F := F)) Variants.none c none) Set.univ (bodyAt0 t) (fun _ => bodyPost m c t)

set_option maxHeartbeats 4000000 in
/-- The body's triple at the first strip of a block of rows, the first point of all. -/
theorem soundA_first (c : Dev nD) (t : Fin cfg0.N) (hz : t.val = 0) (h0 : t.val % 4 = 0) : Sound m c t := by
  have h1 : ¬t.val % 4 = 3 := by omega
  unfold Sound bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Held m c (t.val + 1) from rfl, Held_pos m c _ (Nat.succ_ne_zero _),
    show (dats m 0 c).Φ t.castSucc = Held m c t.val from rfl, show Held m c t.val = Pipeline.ΦA spec0 c from by rw [hz]; rfl, PhiA_eq]
  rw [leaves_0, after_0, leaves_1, after_1, leaves_2, after_2, leaves_3, after_3, leaves_4, after_4, leaves_5, after_5, leaves_6, after_6, leaves_7, after_7, loose_8 m c t h1, leaves_9, after_9, loose_10 m c t h1, leaves_11 m c t h0, after_11, loose_12 m c t h1, loose_13 m c t h1]
  rw [upTo_A m c t h0]
  dsimp only [stA]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atA m c t h0 (upTo m c t.val)).2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [H12]; · iexact H12
  isplitl [H13]; · iexact H13
  isplitl [HS0]; · iexact HS0
  isplitl [HS1]; · iexact HS1
  iintro ⟨H0, H1, H2, H3, H4, H5, H6, H7, H8, ⟨%e9, H9⟩, H10, ⟨%e11, H11⟩, H12, H13, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (covA_s0 m c t h0 _)
      unfold owns; iexists _; isplitr
      swap; · iexact HS1
      ipureintro; exact View.read_writes_of_cover _ _ _ _ _ (covA_s1 m c t h0 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; exact View.read_writes_of_cover _ _ _ _ _ (covA_9 m c t h0 _)
  isplitl [H10]; · iexists _; iexact H10
  isplitl [H11]
  · unfold owns; iexists _; isplitr
    swap; · iexact H11
    ipureintro; exact View.read_writes_of_cover _ _ _ _ _ (covA_11 m c t h0 _)
  isplitl [H12]; · iexists _; iexact H12
  iexists _; iexact H13

set_option maxHeartbeats 4000000 in
/-- The body's triple at the first strip of a block of rows. -/
theorem soundA (c : Dev nD) (t : Fin cfg0.N) (hz : t.val ≠ 0) (h0 : t.val % 4 = 0) : Sound m c t := by
  have h1 : ¬t.val % 4 = 3 := by omega
  unfold Sound bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Held m c (t.val + 1) from rfl, Held_pos m c _ (Nat.succ_ne_zero _),
    show (dats m 0 c).Φ t.castSucc = Held m c t.val from rfl, Held_pos m c _ hz]
  rw [leaves_0, after_0, leaves_1, after_1, leaves_2, after_2, leaves_3, after_3, leaves_4, after_4, leaves_5, after_5, leaves_6, after_6, leaves_7, after_7, loose_8 m c t h1, leaves_9, after_9, loose_10 m c t h1, leaves_11 m c t h0, after_11, loose_12 m c t h1, loose_13 m c t h1]
  rw [upTo_A m c t h0]
  dsimp only [stA]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atA m c t h0 (upTo m c t.val)).2.2.2.2.2.2.2.2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [H12]; · iexact H12
  isplitl [H13]; · iexact H13
  isplitl [HS0]; · iexists _; iexact HS0
  isplitl [HS1]; · iexists _; iexact HS1
  iintro ⟨H0, H1, H2, H3, H4, H5, H6, H7, H8, ⟨%e9, H9⟩, H10, ⟨%e11, H11⟩, H12, H13, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (covA_s0 m c t h0 _)
      unfold owns; iexists _; isplitr
      swap; · iexact HS1
      ipureintro; exact View.read_writes_of_cover _ _ _ _ _ (covA_s1 m c t h0 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; exact View.read_writes_of_cover _ _ _ _ _ (covA_9 m c t h0 _)
  isplitl [H10]; · iexists _; iexact H10
  isplitl [H11]
  · unfold owns; iexists _; isplitr
    swap; · iexact H11
    ipureintro; exact View.read_writes_of_cover _ _ _ _ _ (covA_11 m c t h0 _)
  isplitl [H12]; · iexists _; iexact H12
  iexists _; iexact H13

set_option maxHeartbeats 4000000 in
/-- The body's triple at a middle strip. -/
theorem soundB (c : Dev nD) (t : Fin cfg0.N) (h0 : ¬t.val % 4 = 0) (h1 : ¬t.val % 4 = 3) : Sound m c t := by
  have hz : t.val ≠ 0 := by omega
  unfold Sound bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Held m c (t.val + 1) from rfl, Held_pos m c _ (Nat.succ_ne_zero _),
    show (dats m 0 c).Φ t.castSucc = Held m c t.val from rfl, Held_pos m c _ hz]
  rw [leaves_0, after_0, leaves_1, after_1, leaves_2, after_2, leaves_3, after_3, leaves_4, after_4, leaves_5, after_5, leaves_6, after_6, leaves_7, after_7, loose_8 m c t h1, leaves_9, after_9, loose_10 m c t h1, loose_11 m c t h0 h1, loose_12 m c t h1, loose_13 m c t h1]
  rw [upTo_B m c t h0 h1]
  dsimp only [stB]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atB m c t h0 h1 (upTo m c t.val)).2.2.2.2.2.2.2.2 _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, ⟨%e9, H9⟩, H10, H11, H12, H13, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (covB_s1 m c t h0 h1 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · unfold owns; iexists _; isplitr
    swap; · iexact H9
    ipureintro; exact View.read_writes_of_cover _ _ _ _ _ (covB_9 m c t h0 h1 _)
  isplitl [H10]; · iexists _; iexact H10
  isplitl [H11]; · iexists _; iexact H11
  isplitl [H12]; · iexists _; iexact H12
  iexists _; iexact H13

set_option maxHeartbeats 4000000 in
/-- The body's triple at the last strip of the first block of all. -/
theorem soundC (c : Dev nD) (t : Fin cfg0.N) (h1 : t.val % 4 = 3) (h2 : t.val % 16 < 4) (h3 : t.val < 4) : Sound m c t := by
  have hz : t.val ≠ 0 := by omega
  unfold Sound bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Held m c (t.val + 1) from rfl, Held_pos m c _ (Nat.succ_ne_zero _),
    show (dats m 0 c).Φ t.castSucc = Held m c t.val from rfl, Held_pos m c _ hz]
  rw [leaves_0, after_0, leaves_1, after_1, leaves_2, after_2, leaves_3, after_3, leaves_4, after_4, leaves_5, after_5, leaves_6, after_6, leaves_7, after_7, leaves_8 m c t h1, after_8, leaves_9, after_9, leaves_10 m c t h1, after_10, leaves_11' m c t h1, after_11, leaves_12 m c t h1, after_12, leaves_13 m c t h1, after_13]
  rw [upTo_C m c t h1 h2 h3]
  simp only [before_11 m c t h1]
  dsimp only [stC]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atC m c t h1 h2 h3 (upTo m c t.val)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexists _; iexact H12
  isplitl [H13]; · iexists _; iexact H13
  isplitl [HS0]; · iexact HS0
  isplitl [HS1]; · iexact HS1
  iintro ⟨H0, H1, H2, H3, H4, H5, H6, H7, ⟨%e8, H8⟩, ⟨%e9, H9⟩, ⟨%e10, H10⟩, H11, ⟨%e12, H12⟩, ⟨%e13, H13⟩, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (covC_s1 m c t h1 h2 h3 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (covC_8 m c t h1 h2 h3 _)
  isplitl [H9]
  · unfold owns; iexists _; isplitr
    swap; · iexact H9
    ipureintro; exact View.read_writes_of_cover _ _ _ _ _ (covC_9 m c t h1 h2 h3 _)
  isplitl [H10]
  · unfold owns; iexists _; isplitr
    swap; · iexact H10
    ipureintro; exact View.read_writes_of_cover _ _ _ _ _ (covC_10 m c t h1 h2 h3 _)
  isplitl [H11]; · iexact H11
  isplitl [H12]
  · unfold owns; iexists _; isplitr
    swap; · iexact H12
    ipureintro; exact View.read_writes_of_cover _ _ _ _ _ (covC_12 m c t h1 h2 h3 _)
  unfold owns; iexists _; isplitr
  swap; · iexact H13
  ipureintro; exact View.read_writes_of_cover _ _ _ _ _ (covC_13 m c t h1 h2 h3 _)

set_option maxHeartbeats 4000000 in
/-- The body's triple at the last strip of a block that is not the first of its batch entry. -/
theorem soundD (c : Dev nD) (t : Fin cfg0.N) (h1 : t.val % 4 = 3) (h2 : ¬t.val % 16 < 4) (h3 : ¬t.val < 4) : Sound m c t := by
  have hz : t.val ≠ 0 := by omega
  unfold Sound bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Held m c (t.val + 1) from rfl, Held_pos m c _ (Nat.succ_ne_zero _),
    show (dats m 0 c).Φ t.castSucc = Held m c t.val from rfl, Held_pos m c _ hz]
  rw [leaves_0, after_0, leaves_1, after_1, leaves_2, after_2, leaves_3, after_3, leaves_4, after_4, leaves_5, after_5, leaves_6, after_6, leaves_7, after_7, leaves_8 m c t h1, after_8, leaves_9, after_9, leaves_10 m c t h1, after_10, leaves_11' m c t h1, after_11, leaves_12 m c t h1, after_12, leaves_13 m c t h1, after_13]
  rw [upTo_D m c t h1 h2 h3]
  simp only [before_11 m c t h1, before_12 m c t h1 h2, before_13 m c t h1 h3]
  dsimp only [stD]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atD m c t h1 h2 h3 (upTo m c t.val)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, ⟨%e8, H8⟩, ⟨%e9, H9⟩, ⟨%e10, H10⟩, H11, ⟨%e12, H12⟩, ⟨%e13, H13⟩, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (covD_s1 m c t h1 h2 h3 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (covD_8 m c t h1 h2 h3 _)
  isplitl [H9]
  · unfold owns; iexists _; isplitr
    swap; · iexact H9
    ipureintro; exact View.read_writes_of_cover _ _ _ _ _ (covD_9 m c t h1 h2 h3 _)
  isplitl [H10]
  · unfold owns; iexists _; isplitr
    swap; · iexact H10
    ipureintro; exact View.read_writes_of_cover _ _ _ _ _ (covD_10 m c t h1 h2 h3 _)
  isplitl [H11]; · iexact H11
  isplitl [H12]
  · unfold owns; iexists _; isplitr
    swap; · iexact H12
    ipureintro; exact View.read_writes_of_cover _ _ _ _ _ (covD_12 m c t h1 h2 h3 _)
  unfold owns; iexists _; isplitr
  swap; · iexact H13
  ipureintro; exact View.read_writes_of_cover _ _ _ _ _ (covD_13 m c t h1 h2 h3 _)

set_option maxHeartbeats 4000000 in
/-- The body's triple at the last strip of the first block of a later batch entry. -/
theorem soundE (c : Dev nD) (t : Fin cfg0.N) (h1 : t.val % 4 = 3) (h2 : t.val % 16 < 4) (h3 : ¬t.val < 4) : Sound m c t := by
  have hz : t.val ≠ 0 := by omega
  unfold Sound bodyPre bodyPost bodyAt0
  simp only [before_0, before_1, before_2, before_3, before_4, before_5, before_6, before_7]
  rw [show (dats m 0 c).owesAt () t.succ = (dats m 0 c).owesAt () t.castSucc from rfl,
    show (dats m 0 c).Φ t.succ = Held m c (t.val + 1) from rfl, Held_pos m c _ (Nat.succ_ne_zero _),
    show (dats m 0 c).Φ t.castSucc = Held m c t.val from rfl, Held_pos m c _ hz]
  rw [leaves_0, after_0, leaves_1, after_1, leaves_2, after_2, leaves_3, after_3, leaves_4, after_4, leaves_5, after_5, leaves_6, after_6, leaves_7, after_7, leaves_8 m c t h1, after_8, leaves_9, after_9, leaves_10 m c t h1, after_10, leaves_11' m c t h1, after_11, leaves_12 m c t h1, after_12, leaves_13 m c t h1, after_13]
  rw [upTo_E m c t h1 h2 h3]
  simp only [before_11 m c t h1, before_13 m c t h1 h3]
  dsimp only [stE]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atE m c t h1 h2 h3 (upTo m c t.val)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexists _; iexact H12
  isplitl [H13]; · iexact H13
  isplitl [HS0]; · iexact HS0
  isplitl [HS1]; · iexact HS1
  iintro ⟨H0, H1, H2, H3, H4, H5, H6, H7, ⟨%e8, H8⟩, ⟨%e9, H9⟩, ⟨%e10, H10⟩, H11, ⟨%e12, H12⟩, ⟨%e13, H13⟩, HS0, ⟨%es1, HS1⟩⟩
  isplitl [HS0 HS1 Hg]
  · isplitl [HS0 HS1]
    · isplitl [HS0]
      · iexact HS0
      unfold owns; iexists _; isplitr
      swap; · iexact HS1
      ipureintro; exact View.read_writes_of_cover _ _ _ _ _ (covE_s1 m c t h1 h2 h3 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (covE_8 m c t h1 h2 h3 _)
  isplitl [H9]
  · unfold owns; iexists _; isplitr
    swap; · iexact H9
    ipureintro; exact View.read_writes_of_cover _ _ _ _ _ (covE_9 m c t h1 h2 h3 _)
  isplitl [H10]
  · unfold owns; iexists _; isplitr
    swap; · iexact H10
    ipureintro; exact View.read_writes_of_cover _ _ _ _ _ (covE_10 m c t h1 h2 h3 _)
  isplitl [H11]; · iexact H11
  isplitl [H12]
  · unfold owns; iexists _; isplitr
    swap; · iexact H12
    ipureintro; exact View.read_writes_of_cover _ _ _ _ _ (covE_12 m c t h1 h2 h3 _)
  unfold owns; iexists _; isplitr
  swap; · iexact H13
  ipureintro; exact View.read_writes_of_cover _ _ _ _ _ (covE_13 m c t h1 h2 h3 _)

theorem sound (c : Dev nD) (t : Fin cfg0.N) : Sound m c t := by
  by_cases h0 : t.val % 4 = 0
  · by_cases hz : t.val = 0
    · exact soundA_first m c t hz h0
    · exact soundA m c t hz h0
  by_cases h1 : t.val % 4 = 3
  · by_cases h2 : t.val % 16 < 4
    · by_cases h3 : t.val < 4
      · exact soundC m c t h1 h2 h3
      · exact soundE m c t h1 h2 h3
    · exact soundD m c t h1 h2 (by omega)
  · exact soundB m c t h0 h1

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Held m c cfg0.N from rfl, Held_pos m c _ (by rw [show cfg0.N = 32 from N_0]; decide), PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch, over any float values: it ends, the arrays at what the points leave, every counter at zero. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (launched m ρ)))
    ((θ_run defs _ _).mono (fun _ h => h.2) (launched m ρ))

/-- The run, read at the results and at the arguments. -/
theorem run_blocks : θ_run defs (onTc (τ := τ) (main (F := F))) ⟨m, fun _ => 0, ρ⟩ (fun r => ∀ c : Dev nD,
      r.2.mem ((c.tc : Thread nD τ).loc main_v44_0) = (dats m 0 c).arrAt 8 cfg0.N
      ∧ r.2.mem ((c.tc : Thread nD τ).loc main_v44_1) = (dats m 0 c).arrAt 9 cfg0.N
      ∧ r.2.mem ((c.tc : Thread nD τ).loc main_v44_2) = (dats m 0 c).arrAt 10 cfg0.N
      ∧ r.2.mem ((c.tc : Thread nD τ).loc main_v44_3) = (dats m 0 c).arrAt 11 cfg0.N
      ∧ r.2.mem ((c.tc : Thread nD τ).loc main_v44_4) = (dats m 0 c).arrAt 12 cfg0.N
      ∧ r.2.mem ((c.tc : Thread nD τ).loc main_v44_5) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1.1 c).1 8, (h.1.1 c).1 9, (h.1.1 c).1 10, (h.1.1 c).1 11, (h.1.1 c).1 12, (h.1.1 c).1 13, h.2.1 c⟩)
    (θ_run_and (launched m ρ) (frame m ρ))

end Cert.FfnBwdAIdeal.Own

end
-- ==== Proof.FfnA.Blocks.lean ====
module

public import proofs.«01_k».proof.Proof.FfnA.Frame
public import proofs.«01_k».proof.Proof.FfnA.Math
public import Idealize.ShloMosaic.Lib.Pipeline.ValueKit
public import Idealize.ShloMosaic.Lib.Pipeline.ReadBack
public import Idealize.ShloMosaic.Lib.Pointwise
public import Idealize.ShloMosaic.Lib.Claim

@[expose] public section

/-! The gate-and-product backward call: the arrays that the host prepares and the blocks that a point reads of them. -/

set_option maxRecDepth 16384

noncomputable section

open Idealize.ShloMosaic Idealize.ShloMosaic.TcCoe Idealize.SL.Sem
open Idealize.ShloMosaic.Pipeline (Dat)

namespace Cert.FfnBwdAIdeal.Mine
open Cert.FfnBwdAIdeal Cert.FfnBwdAIdeal.Gen Cert.FfnBwdAIdeal.Own Cert.Ffn Cert.FfnA Cert.Sums

variable (m : (ℓ : Loc nD τ sig) → Buf (Elt Ideal) ℓ)

/-- The arguments, entry by entry. -/
def args (c : Dev nD) : Bk where
  A := {
    x := fun b t e => (m (c, Proc.tc.devRef main_arg0) : Vec Ideal S2x2048x1024 .f32) (ix3 b t e)
    mod := fun b k e => (m (c, Proc.tc.devRef main_arg1) : Vec Ideal S2x3x1024 .f32) (ix3 b k e)
    g := fun e => (m (c, Proc.tc.devRef main_arg2) : Vec Ideal S1024 .f32) (ix1 e)
    wi := fun e k => (m (c, Proc.tc.devRef main_arg3) : Vec Ideal S1024x5632 .f32) (ix2 e k)
    wo := fun f e => (m (c, Proc.tc.devRef main_arg4) : Vec Ideal S2816x1024 .f32) (ix2 f e) }
  d b t e := (m (c, Proc.tc.devRef main_arg5) : Vec Ideal S2x2048x1024 .f32) (ix3 b t e)

/-! The arrays that the host prepares. -/

theorem arr_x (c : Dev nD) (r : Fin 4096) (e : Fin 1024) :
    V m c main_v31 (ix2 r e) = (args m c).A.x (bat r.val) (pl r.val) e := by
  unfold V; simp only [List.flatten_cons, List.flatten_nil, List.append_nil, List.cons_append, List.nil_append]
  entry_read
  pointwise [args]
  have h : r.val / 2048 % 2 = r.val / 2048 := by omega
  simp only [bat, pl, h]
theorem arr_d (c : Dev nD) (r : Fin 4096) (e : Fin 1024) :
    V m c main_v32 (ix2 r e) = (args m c).d (bat r.val) (pl r.val) e := by
  unfold V; simp only [List.flatten_cons, List.flatten_nil, List.append_nil, List.cons_append, List.nil_append]
  entry_read
  pointwise [args]
  have h : r.val / 2048 % 2 = r.val / 2048 := by omega
  simp only [bat, pl, h]
theorem arr_mod (c : Dev nD) (b : Fin 2) (k : Fin 3) (e : Fin 1024) :
    V m c main_arg1 (ix3 b k e) = (args m c).A.mod b k e := by
  entry_read; rfl
theorem arr_g (c : Dev nD) (k : Fin 1) (e : Fin 1024) : V m c main_v33 (ix2 k e) = (args m c).A.g e := by
  unfold V; simp only [List.flatten_cons, List.flatten_nil, List.append_nil, List.cons_append, List.nil_append]
  entry_read
  pointwise [args]
theorem arr_wi (c : Dev nD) (s : Fin 2) (j : Fin 4) (f : Fin 704) (e : Fin 1024) :
    V m c main_v41 (ix4 s j f e) = (args m c).A.wi e ⟨s.val * 2816 + j.val % 4 * 704 + f.val, by omega⟩ := by
  unfold V; simp only [List.flatten_cons, List.flatten_nil, List.append_nil, List.cons_append, List.nil_append]
  entry_read
  pointwise [args]
  have h : j.val % 4 = j.val := by omega
  simp only [h]
theorem arr_wo (c : Dev nD) (j : Fin 4) (f : Fin 704) (e : Fin 1024) :
    V m c main_v43 (ix3 j f e) = (args m c).A.wo (col j.val f) e := by
  unfold V; simp only [List.flatten_cons, List.flatten_nil, List.append_nil, List.cons_append, List.nil_append]
  entry_read
  pointwise [args]
  have h : j.val % 4 = j.val := by omega
  simp only [col, h]
/-! The saved rows: the normed rows, the first product, the gated product and the second product. -/

def hV (c : Dev nD) : FVec Ideal S2x2048x1024 .f32 :=
  addf (mulf (mulf (mulf (m (c, Proc.tc.devRef main_arg0)) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (m (c, Proc.tc.devRef main_arg0)) (m (c, Proc.tc.devRef main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m (c, Proc.tc.devRef main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (m (c, Proc.tc.devRef main_arg1)) slices_S2x3x1024_S2x1x1024_0_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 0, 0] (m (c, Proc.tc.devRef main_arg1)) slices_S2x3x1024_S2x1x1024_0_0_0) shapeCasts_S2x1x1024_S2x1024)))
def zV (c : Dev nD) : FVec Ideal S2x2048x5632 .f32 :=
  Host.dotGeneral (φ₁ := .f32) (φ₂ := .f32) dot_S2x2048x1024_S1024x5632_S2x2048x5632_2_0_01_1_n_n none (hV m c) (m (c, Proc.tc.devRef main_arg3))
def hidV (c : Dev nD) : FVec Ideal S2x2048x2816 .f32 :=
  mulf (mulf (extractStridedSlice S2x2048x2816 ![0, 0, 0] (zV m c) slices_S2x2048x5632_S2x2048x2816_0_0_0) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (extractStridedSlice S2x2048x2816 ![0, 0, 0] (zV m c) slices_S2x2048x5632_S2x2048x2816_0_0_0)))))) (extractStridedSlice S2x2048x2816 ![0, 0, 2816] (zV m c) slices_S2x2048x5632_S2x2048x2816_0_0_2816)
def yV (c : Dev nD) : FVec Ideal S2x2048x1024 .f32 :=
  Host.dotGeneral (φ₁ := .f32) (φ₂ := .f32) dot_S2x2048x2816_S2816x1024_S2x2048x1024_2_0_01_1_n_n none (hidV m c) (m (c, Proc.tc.devRef main_arg4))

theorem hV_at (c : Dev nD) (b : Fin 2) (t : Fin 2048) (e : Fin 1024) : hV m c (ix3 b t e) = hm (args m c).A b t e := by
  pointwise [hV]; rfl
theorem zV_at (c : Dev nD) (b : Fin 2) (t : Fin 2048) (k : Fin 5632) : zV m c (ix3 b t k) = z (args m c).A b t k := by
  pointwise [zV]
  simp only [hV_at]; rfl
theorem hidV_at (c : Dev nD) (b : Fin 2) (t : Fin 2048) (f : Fin 2816) : hidV m c (ix3 b t f) = hid (args m c).A b t f := by
  pointwise [hidV]
  simp only [zV_at]; rfl
theorem yV_at (c : Dev nD) (b : Fin 2) (t : Fin 2048) (e : Fin 1024) : yV m c (ix3 b t e) = Ffn.y (args m c).A b t e := by
  pointwise [yV]
  simp only [hidV_at]; rfl

theorem arr_z (c : Dev nD) (s : Fin 2) (j : Fin 4) (r : Fin 4096) (f : Fin 704) :
    V m c main_v38 (ix4 s j r f) = z (args m c).A (bat r.val) (pl r.val) ⟨s.val * 2816 + j.val % 4 * 704 + f.val, by omega⟩ := by
  unfold V; simp only [List.flatten_cons, List.flatten_nil, List.append_nil, List.cons_append, List.nil_append]
  entry_read
  refine Eq.trans (b := (truncf .bf16 (transpose S2x4x4096x704 [1, 2, 0, 3] (shapeCast _ (zV m c) shapeCasts_S2x2048x5632_S4096x2x4x704) transposes_S4096x2x4x704_S2x4x4096x704_1_2_0_3) bitsLt_bf16_f32 : FVec Ideal S2x4x4096x704 .bf16) (ix4 s j r f)) rfl ?_
  pointwise
  have h : j.val % 4 = j.val := by omega
  have h' : r.val / 2048 % 2 = r.val / 2048 := by omega
  simp only [zV_at, bat, pl, h, h']
theorem arr_y (c : Dev nD) (r : Fin 4096) (e : Fin 1024) :
    V m c main_v35 (ix2 r e) = Ffn.y (args m c).A (bat r.val) (pl r.val) e := by
  unfold V; simp only [List.flatten_cons, List.flatten_nil, List.append_nil, List.cons_append, List.nil_append]
  entry_read
  refine Eq.trans (b := (truncf .bf16 (shapeCast _ (yV m c) shapeCasts_S2x2048x1024_S4096x1024) bitsLt_bf16_f32 : FVec Ideal S4096x1024 .bf16) (ix2 r e)) rfl ?_
  pointwise
  have h' : r.val / 2048 % 2 = r.val / 2048 := by omega
  simp only [yV_at, bat, pl, h']

theorem idx : ∀ t : Fin grid0.N,
    win0_0.index t = ![t.val / 4, 0] ∧ win0_1.index t = ![t.val / 4, 0] ∧ win0_2.index t = ![t.val / 16, 0, 0] ∧
    win0_3.index t = ![0, 0] ∧ win0_4.index t = ![t.val / 4, 0] ∧ win0_5.index t = ![0, t.val % 4, t.val / 4, 0] ∧
    win0_6.index t = ![0, t.val % 4, 0, 0] ∧ win0_7.index t = ![t.val % 4, 0, 0] ∧ win0_8.index t = ![t.val / 4, 0] ∧
    win0_9.index t = ![0, t.val % 4, t.val / 4, 0] ∧ win0_10.index t = ![t.val / 4, 0] ∧
    win0_11.index t = ![t.val / 4, 0] ∧ win0_12.index t = ![t.val / 16, 0, 0] ∧ win0_13.index t = ![0, 0] := by
  decide +kernel

theorem hN (t : Fin cfg0.N) : t.val < 32 := t.isLt

/-- The row of the flat batch that place `r` of a point's block is. -/
abbrev row (t : Fin cfg0.N) (r : Fin 512) : Fin 4096 := ⟨t.val / 4 * 512 + r.val, by have := hN t; omega⟩
/-- Its sequence, and its place there. -/
abbrev rb (t : Fin cfg0.N) (r : Fin 512) : Fin 2 := bat (row t r).val
abbrev rp (t : Fin cfg0.N) (r : Fin 512) : Fin 2048 := pl (row t r).val
theorem rb_eq (t : Fin cfg0.N) (r : Fin 512) : rb t r = ⟨t.val / 16, by have := hN t; omega⟩ :=
  Fin.ext (by have := hN t; show (t.val / 4 * 512 + r.val) / 2048 % 2 = t.val / 16; omega)

theorem blk0 (c : Dev nD) (t : Fin cfg0.N) (r : Fin 512) (e : Fin 1024) :
    iblk m c 0 t (ix2 r e) = (args m c).A.x (rb t r) (rp t r) e := by
  rw [← arr_x]; blk_point [iblk, idx t]
theorem blk1 (c : Dev nD) (t : Fin cfg0.N) (r : Fin 512) (e : Fin 1024) :
    iblk m c 1 t (ix2 r e) = (args m c).d (rb t r) (rp t r) e := by
  rw [← arr_d]; blk_point [iblk, idx t]
theorem blk2 (c : Dev nD) (t : Fin cfg0.N) (r : Fin 512) (k : Fin 3) (e : Fin 1024) :
    iblk m c 2 t (ix3 0 k e) = (args m c).A.mod (rb t r) k e := by
  rw [rb_eq, ← arr_mod]; blk_point [iblk, idx t]
theorem blk3 (c : Dev nD) (t : Fin cfg0.N) (e : Fin 1024) : iblk m c 3 t (ix2 0 e) = (args m c).A.g e := by
  rw [← arr_g m c 0]; blk_point [iblk, idx t]
theorem blk4 (c : Dev nD) (t : Fin cfg0.N) (r : Fin 512) (e : Fin 1024) :
    iblk m c 4 t (ix2 r e) = Ffn.y (args m c).A (rb t r) (rp t r) e := by
  rw [← arr_y]; blk_point [iblk, idx t]
theorem blk5 (c : Dev nD) (t : Fin cfg0.N) (s : Fin 2) (r : Fin 512) (f : Fin 704) :
    iblk m c 5 t (ix4 s 0 r f) = z (args m c).A (rb t r) (rp t r) ⟨s.val * 2816 + t.val % 4 % 4 * 704 + f.val, by omega⟩ := by
  rw [← arr_z m c s ⟨t.val % 4, by omega⟩]; blk_point [iblk, idx t]
theorem blk6 (c : Dev nD) (t : Fin cfg0.N) (s : Fin 2) (f : Fin 704) (e : Fin 1024) :
    iblk m c 6 t (ix4 s 0 f e) = (args m c).A.wi e ⟨s.val * 2816 + t.val % 4 % 4 * 704 + f.val, by omega⟩ := by
  rw [← arr_wi m c s ⟨t.val % 4, by omega⟩]; blk_point [iblk, idx t]
theorem blk7 (c : Dev nD) (t : Fin cfg0.N) (f : Fin 704) (e : Fin 1024) :
    iblk m c 7 t (ix3 0 f e) = (args m c).A.wo (col (t.val % 4) f) e := by
  rw [← arr_wo m c ⟨t.val % 4, by omega⟩]; blk_point [iblk, idx t]

/-- The two tiles of the saved product and of the first weight that a point loads. -/
def zl (c : Dev nD) (t : Fin cfg0.N) : Vec Ideal S1x1x512x704 .bf16 :=
  View.ld (iblk m c 5 t) (Rect.unit ![0, 0, 0, 0] ![1, 1, 512, 704] inb_S2x1x512x704_S1x1x512x704_0_0_0_0)
def zr (c : Dev nD) (t : Fin cfg0.N) : Vec Ideal S1x1x512x704 .bf16 :=
  View.ld (iblk m c 5 t) (Rect.unit ![1, 0, 0, 0] ![1, 1, 512, 704] inb_S2x1x512x704_S1x1x512x704_1_0_0_0)
def wl (c : Dev nD) (t : Fin cfg0.N) : Vec Ideal S1x1x704x1024 .bf16 :=
  View.ld (iblk m c 6 t) (Rect.unit ![0, 0, 0, 0] ![1, 1, 704, 1024] inb_S2x1x704x1024_S1x1x704x1024_0_0_0_0)
def wr (c : Dev nD) (t : Fin cfg0.N) : Vec Ideal S1x1x704x1024 .bf16 :=
  View.ld (iblk m c 6 t) (Rect.unit ![1, 0, 0, 0] ![1, 1, 704, 1024] inb_S2x1x704x1024_S1x1x704x1024_1_0_0_0)
theorem zl_at (c : Dev nD) (t : Fin cfg0.N) (r : Fin 512) (f : Fin 704) :
    zl m c t (ix4 0 0 r f) = z (args m c).A (rb t r) (rp t r) (lft (col (t.val % 4) f)) := by
  pointwise [zl]
  rw [blk5]; exact congrArg (z (args m c).A _ _) (Fin.ext (by simp))
theorem zr_at (c : Dev nD) (t : Fin cfg0.N) (r : Fin 512) (f : Fin 704) :
    zr m c t (ix4 0 0 r f) = z (args m c).A (rb t r) (rp t r) (rgt (col (t.val % 4) f)) := by
  pointwise [zr]
  rw [blk5]; exact congrArg (z (args m c).A _ _) (Fin.ext (by simp [Nat.add_assoc]))
theorem wl_at (c : Dev nD) (t : Fin cfg0.N) (f : Fin 704) (e : Fin 1024) :
    wl m c t (ix4 0 0 f e) = (args m c).A.wi e (lft (col (t.val % 4) f)) := by
  pointwise [wl]
  rw [blk6]; exact congrArg ((args m c).A.wi e) (Fin.ext (by simp))
theorem wr_at (c : Dev nD) (t : Fin cfg0.N) (f : Fin 704) (e : Fin 1024) :
    wr m c t (ix4 0 0 f e) = (args m c).A.wi e (rgt (col (t.val % 4) f)) := by
  pointwise [wr]
  rw [blk6]; exact congrArg ((args m c).A.wi e) (Fin.ext (by simp [Nat.add_assoc]))

end Cert.FfnBwdAIdeal.Mine

end

end
-- ==== Proof.FfnA.Rows.lean ====
module

public import proofs.«01_k».proof.Proof.FfnA.Blocks
public import Idealize.ShloMosaic.Lib.Pipeline.ValueKit
public import Idealize.ShloMosaic.Lib.Pipeline.ReadBack
public import Idealize.ShloMosaic.Lib.Pointwise
public import Idealize.ShloMosaic.Lib.Claim

@[expose] public section

/-! The gate-and-product backward call: its three-row window, stored and read row by row. -/

set_option maxRecDepth 16384

noncomputable section

open Idealize.ShloMosaic Idealize.ShloMosaic.TcCoe Idealize.SL.Sem
open Idealize.ShloMosaic.Pipeline (Dat)

namespace Cert.FfnBwdAIdeal.Mine
open Cert.FfnBwdAIdeal Cert.FfnBwdAIdeal.Gen Cert.FfnBwdAIdeal.Own Cert.Ffn Cert.FfnA Cert.Sums

variable {V : EltTy → Type} {η : EltTy}

/-- A row of the window, as a rectangle of the window. -/
abbrev rowR (k : ℕ) (inb : ∀ a, (![k, 0] : Fin 2 → ℕ) a + (![1, 1024] : Fin 2 → ℕ) a ≤ S3x1024.size a)
    (h0 : (![1, 3, 1024] : Fin 3 → ℕ) 0 = 1) (hs : ∀ i : Fin 2, (![1, 3, 1024] : Fin 3 → ℕ) i.succ = S3x1024.size i)
    (hw : ∀ a, (Rect.unit (s := S1x3x1024) ![0, 0, 0] ![1, 3, 1024] inb_S1x3x1024_S1x3x1024_0_0_0).stride a = 1) : Rect S1x3x1024 :=
  (Rect.unit (s := S1x3x1024) ![0, 0, 0] ![1, 3, 1024] inb_S1x3x1024_S1x3x1024_0_0_0).within
    ((Rect.unit (s := S3x1024) ![k, 0] ![1, 1024] inb).consLift ![1, 3, 1024] h0 hs) hw
/-- The same as a box that is loaded. -/
abbrev rowL (k : ℕ) (inb : ∀ a, (![k, 0] : Fin 2 → ℕ) a + (![1, 1024] : Fin 2 → ℕ) a ≤ S3x1024.size a)
    (h0 : (![1, 3, 1024] : Fin 3 → ℕ) 0 = 1) (hs : ∀ i : Fin 2, (![1, 3, 1024] : Fin 3 → ℕ) i.succ = S3x1024.size i)
    (hw : ∀ a, (Rect.unit (s := S1x3x1024) ![0, 0, 0] ![1, 3, 1024] inb_S1x3x1024_S1x3x1024_0_0_0).stride a = 1) : LoadRect S1x3x1024 :=
  (Rect.unit (s := S1x3x1024) ![0, 0, 0] ![1, 3, 1024] inb_S1x3x1024_S1x3x1024_0_0_0).withinL
    ((Rect.unit (s := S3x1024) ![k, 0] ![1, 1024] inb).toLoadRect.consLift ![1, 3, 1024] h0 hs) hw

section
variable {k : ℕ} {inb : ∀ a, (![k, 0] : Fin 2 → ℕ) a + (![1, 1024] : Fin 2 → ℕ) a ≤ S3x1024.size a}
  {h0 : (![1, 3, 1024] : Fin 3 → ℕ) 0 = 1} {hs : ∀ i : Fin 2, (![1, 3, 1024] : Fin 3 → ℕ) i.succ = S3x1024.size i}
  {hw : ∀ a, (Rect.unit (s := S1x3x1024) ![0, 0, 0] ![1, 3, 1024] inb_S1x3x1024_S1x3x1024_0_0_0).stride a = 1}

/-- The last stored row is read there; -/
theorem row_hit [∀ e, Nonempty (V e)] (w : S1x1024.Idx → V η)
    (hR : (rowR k inb h0 hs hw).shape.numel = (Rect.unit (s := S3x1024) ![k, 0] ![1, 1024] inb).shape.numel)
    (L : List (View.Piece V S1x3x1024 η)) (j : Fin 3) (hj : j.val = k) (e : Fin 1024) :
    View.canon (⟨rowR k inb h0 hs hw, Rect.payAlong (r := Rect.unit (s := S3x1024) ![k, 0] ![1, 1024] inb) hR w⟩ :: L) (ix3 0 j e) = w (ix2 0 e) := by
  have hx : (rowR k inb h0 hs hw).emb (ix3 (n0 := 1) (n1 := 1) 0 0 e : (rowR k inb h0 hs hw).shape.Idx) = ix3 0 j e :=
    Rect.emb_eq_of_coords _ _ _ fun a => by
      fin_cases a
      · rfl
      · show j.val = 0 + k + 1 * 0; omega
      · show e.val = 0 + 0 + 1 * e.val; omega
  refine (congrArg (View.canon _) hx.symm).trans ((View.canon_cons_emb _ _ _ _).trans ?_)
  exact Rect.payAlong_consLift _ _ h0 hs w hR (ix3 (n0 := 1) (n1 := 1) 0 0 e : (rowR k inb h0 hs hw).shape.Idx) (ix2 0 e) fun i => by fin_cases i <;> rfl
/-- elsewhere, what was stored before. -/
theorem row_miss [∀ e, Nonempty (V e)] (w : (rowR k inb h0 hs hw).shape.Idx → V η) (L : List (View.Piece V S1x3x1024 η))
    (j : Fin 3) (hj : j.val ≠ k) (e : Fin 1024) :
    View.canon (⟨rowR k inb h0 hs hw, w⟩ :: L) (ix3 0 j e) = View.canon L (ix3 0 j e) :=
  View.canon_cons_of_not_mem _ _ (Rect.not_mem_set_of_axis _ _ (1 : Fin 3) k 1 (Nat.zero_add k) rfl rfl (by
    show j.val < k ∨ k + 1 ≤ j.val; omega))
/-- A loaded row, entry by entry. -/
theorem row_load (f : S1x3x1024.Idx → V η)
    (hR : (Rect.unit (s := S3x1024) ![k, 0] ![1, 1024] inb).toLoadRect.shape.numel = (rowL k inb h0 hs hw).shape.numel)
    (j : Fin 3) (hj : j.val = k) (e : Fin 1024) :
    LoadRect.valAlong (lr := (Rect.unit (s := S3x1024) ![k, 0] ![1, 1024] inb).toLoadRect) hR (fun x => f ((rowL k inb h0 hs hw).idx x)) (ix2 0 e) = f (ix3 0 j e) := by
  have hx : Shape.reshapeEquiv hR (ix2 (n0 := 1) 0 e) = Fin.cons ⟨0, Nat.one_pos⟩ (ix2 (n0 := 1) 0 e) :=
    Shape.reshapeEquiv_cons_one (d := ![1, 1024]) _ _
  refine congrArg f ?_
  rw [hx]
  funext a
  refine Fin.ext ?_
  fin_cases a
  · rfl
  · show 0 + k + 1 * 0 = j.val; omega
  · show 0 + 0 + 1 * e.val = e.val; omega
end

end Cert.FfnBwdAIdeal.Mine

end

end
-- ==== Proof.Proj.Kernel.lean ====
module

public import proofs.«01_k».proof.Proof.Proj.Blocks
public import proofs.«01_k».proof.Proof.FfnA.Rows

@[expose] public section

/-! The backward call of the delta rule's first product: what its windows hold after each point of the grid,
and the three results it returns. -/

set_option maxRecDepth 16384

noncomputable section

open Idealize.ShloMosaic Idealize.ShloMosaic.TcCoe Idealize.SL.Sem
open Idealize.ShloMosaic.Pipeline (Dat)

namespace Cert.ProjBwdIdeal.Mine
open Cert.ProjBwdIdeal Cert.ProjBwdIdeal.Gen Cert.Sums Cert.Proj
open Cert.Ffn (rr)
open Cert.FfnA (xh xg blkSum from_ from_one from_succ from_seq from_all)
open Cert.FfnBwdAIdeal.Mine (row_hit row_miss row_load)

variable (m : (ℓ : Loc nD τ sig) → Buf (Elt Ideal) ℓ)

/-! The three results. -/

def gDx {C : ℕ} (P : Pk C) : Vec Ideal S4096x1024 .f32 := fun x => dx P (bat (x 0).val) (pl (x 0).val) (x 1)
/-- The gradients of the shift and the scale; the gate has no part in this product, and its row is zero. -/
def three {C : ℕ} (P : Pk C) (b : Fin 2) (k : Fin 3) (e : Fin 1024) : EReal :=
  if k.val = 0 then ∑ t : Fin 2048, dh P b t e else if k.val = 1 then ∑ t : Fin 2048, gsc P b t e else 0
def gSsg {C : ℕ} (P : Pk C) : Vec Ideal S2x3x1024 .f32 := fun x => three P (x 0) (x 1) (x 2)
def gNg {C : ℕ} (P : Pk C) : Vec Ideal S1x1024 .f32 := fun x => ∑ b : Fin 2, ∑ t : Fin 2048, gng P b t (x 1)

theorem add_2 (a b : Vec Ideal S1x1024 .f32) (i : Fin 1) (e : Fin 1024) : k0_pay2 a b (ix2 i e) = b (ix2 i e) + a (ix2 i e) := by
  pointwise [k0_pay2]
theorem add_16 (a b : Vec Ideal S1x1024 .f32) (i : Fin 1) (e : Fin 1024) : k0_pay16 a b (ix2 i e) = b (ix2 i e) + a (ix2 i e) := by
  pointwise [k0_pay16]
theorem add_17 (a b : Vec Ideal S1x1024 .f32) (i : Fin 1) (e : Fin 1024) : k0_pay17 a b (ix2 i e) = b (ix2 i e) + a (ix2 i e) := by
  pointwise [k0_pay17]
theorem add_18 (b : Vec Ideal S1x1024 .f32) (i : Fin 1) (e : Fin 1024) : k0_pay18 b (ix2 i e) = b (ix2 i e) := by
  pointwise [k0_pay18]

/-- The zeros that a sequence's first point stores. -/
theorem zero_rows (j : Fin 3) (e : Fin 1024) :
    View.canon [(⟨Rect.unit (s := S1x3x1024) ![0, 0, 0] ![1, 3, 1024] inb_S1x3x1024_S1x3x1024_0_0_0, k0_pay15 (F := Ideal)⟩ : View.Piece (Elt Ideal) S1x3x1024 .f32)] (ix3 0 j e) = (0 : EReal) := by
  rw [View.canon_cons_unit_lit _ _ _ (by decide)]
  pointwise [k0_pay15]

/-- The window of the three rows, entry by entry, after a point that found `q` in it. -/
def Rows (c : Dev nD) (t : Fin cfg0.N) (q w : Vec Ideal S1x3x1024 .f32) : Prop :=
  (∀ e, w (ix3 0 0 e) = q (ix3 0 0 e) + blkSum (fun b r => dh (args m c) b r e) t.val) ∧
  (∀ e, w (ix3 0 1 e) = q (ix3 0 1 e) + blkSum (fun b r => gsc (args m c) b r e) t.val) ∧
  (∀ e, w (ix3 0 2 e) = q (ix3 0 2 e))

section
variable (c : Dev nD) (t : Fin cfg0.N)
theorem out8 (r : Fin 512) (e : Fin 1024) : (outsAt0 m c t.val t.isLt).1 (ix2 r e) = dx (args m c) (rb t r) (rp t r) e := by
  refine Eq.trans (congrFun ?_ _) (p14 m c t r e)
  by_cases h0 : t.val % 4 = 0
  · by_cases h1 : t.val % 8 = 0
    · rw [outsAt0_A m c t h0 h1]; frame_out; rfl
    · rw [outsAt0_C m c t h0 h1]; frame_out; rfl
  · rw [outsAt0_B m c t h0 (by omega)]; frame_out; rfl
theorem out9_new (h0 : t.val % 4 = 0) : Rows m c t (fun _ => 0) (outsAt0 m c t.val t.isLt).2.1 := by
  by_cases h1 : t.val % 8 = 0
  · rw [outsAt0_A m c t h0 h1]; frame_out
    refine ⟨fun e => ?_, fun e => ?_, fun e => ?_⟩
    · refine (row_miss _ _ 0 (by decide) e).trans ((row_miss _ _ 0 (by decide) e).trans ((row_hit _ _ _ 0 rfl e).trans ((add_16 _ _ 0 e).trans (congrArg₂ (· + ·) ?_ (p13 m c t e)))))
      rw [View.readCov_eq_canon']
      exact (row_load _ _ 0 rfl e).trans (zero_rows _ _)
    · refine (row_miss _ _ 1 (by decide) e).trans ((row_hit _ _ _ 1 rfl e).trans ((add_17 _ _ 0 e).trans (congrArg₂ (· + ·) ?_ (p12 m c t e))))
      rw [View.readCov_eq_canon']
      exact (row_load _ _ 1 rfl e).trans ((row_miss _ _ 1 (by decide) e).trans (zero_rows _ _))
    · refine (row_hit _ _ _ 2 rfl e).trans ((add_18 _ 0 e).trans ?_)
      rw [View.readCov_eq_canon']
      exact (row_load _ _ 2 rfl e).trans ((row_miss _ _ 2 (by decide) e).trans ((row_miss _ _ 2 (by decide) e).trans (zero_rows _ _)))
  · rw [outsAt0_C m c t h0 h1]; frame_out
    refine ⟨fun e => ?_, fun e => ?_, fun e => ?_⟩
    · refine (row_miss _ _ 0 (by decide) e).trans ((row_miss _ _ 0 (by decide) e).trans ((row_hit _ _ _ 0 rfl e).trans ((add_16 _ _ 0 e).trans (congrArg₂ (· + ·) ?_ (p13 m c t e)))))
      rw [View.readCov_eq_canon']
      exact (row_load _ _ 0 rfl e).trans (zero_rows _ _)
    · refine (row_miss _ _ 1 (by decide) e).trans ((row_hit _ _ _ 1 rfl e).trans ((add_17 _ _ 0 e).trans (congrArg₂ (· + ·) ?_ (p12 m c t e))))
      rw [View.readCov_eq_canon']
      exact (row_load _ _ 1 rfl e).trans ((row_miss _ _ 1 (by decide) e).trans (zero_rows _ _))
    · refine (row_hit _ _ _ 2 rfl e).trans ((add_18 _ 0 e).trans ?_)
      rw [View.readCov_eq_canon']
      exact (row_load _ _ 2 rfl e).trans ((row_miss _ _ 2 (by decide) e).trans ((row_miss _ _ 2 (by decide) e).trans (zero_rows _ _)))
theorem out9_old (h0 : ¬t.val % 4 = 0) :
    Rows m c t (outsAt0 m c (t.val - 1) (lt_of_le_of_lt (Nat.sub_le _ _) t.isLt)).2.1 (outsAt0 m c t.val t.isLt).2.1 := by
  rw [outsAt0_B m c t h0 (by omega)]; frame_out
  refine ⟨fun e => ?_, fun e => ?_, fun e => ?_⟩
  · refine (row_miss _ _ 0 (by decide) e).trans ((row_miss _ _ 0 (by decide) e).trans ((row_hit _ _ _ 0 rfl e).trans ((add_16 _ _ 0 e).trans (congrArg₂ (· + ·) ?_ (p13 m c t e)))))
    exact (row_load _ _ 0 rfl e).trans (congrFun (Memref.IsWhole.read_unread _ _) _)
  · refine (row_miss _ _ 1 (by decide) e).trans ((row_hit _ _ _ 1 rfl e).trans ((add_17 _ _ 0 e).trans (congrArg₂ (· + ·) ?_ (p12 m c t e))))
    exact (row_load _ _ 1 rfl e).trans (congrFun (Memref.IsWhole.read_unread _ _) _)
  · refine (row_hit _ _ _ 2 rfl e).trans ((add_18 _ 0 e).trans ?_)
    exact (row_load _ _ 2 rfl e).trans (congrFun (Memref.IsWhole.read_unread _ _) _)
theorem out10_new (h0 : t.val % 8 = 0) (e : Fin 1024) : (outsAt0 m c t.val t.isLt).2.2 (ix2 0 e) =
    from_ (fun b q => gng (args m c) b q e) t.val 1 := by
  rw [outsAt0_A m c t (by omega) h0]; frame_out
  refine (add_2 ..).trans (Eq.trans (congrArg₂ (· + ·) ?_ (p11 m c t e)) (from_one _ _))
  pointwise [k0_pay1]
theorem out10_old (h1 : ¬t.val % 8 = 0) (e : Fin 1024) : (outsAt0 m c t.val t.isLt).2.2 (ix2 0 e) =
    (outsAt0 m c (t.val - 1) (lt_of_le_of_lt (Nat.sub_le _ _) t.isLt)).2.2 (ix2 0 e) + blkSum (fun b q => gng (args m c) b q e) t.val := by
  by_cases h0 : t.val % 4 = 0
  · rw [outsAt0_C m c t h0 h1]; frame_out
    exact (add_2 ..).trans (congrArg _ (p11 m c t e))
  · rw [outsAt0_B m c t h0 h1]; frame_out
    exact (add_2 ..).trans (congrArg _ (p11 m c t e))
end

/-- A window that holds the sums over rows of the `n` blocks from block `i`. -/
def Held {C : ℕ} (P : Pk C) (i n : ℕ) (w : Vec Ideal S1x3x1024 .f32) : Prop :=
  (∀ e, w (ix3 0 0 e) = from_ (fun b q => dh P b q e) i n) ∧ (∀ e, w (ix3 0 1 e) = from_ (fun b q => gsc P b q e) i n) ∧
  (∀ e, w (ix3 0 2 e) = 0)

section
variable (c : Dev nD)
/-- After point `n`, the three rows' window holds the sums over its sequence's blocks so far. -/
theorem sum9 (n : ℕ) (hn : n < cfg0.N) : Held (args m c) (n / 4 * 4) (n % 4 + 1) (outsAt0 m c n hn).2.1 := by
  induction n with
  | zero =>
    obtain ⟨h0, h1, h2⟩ := out9_new m c ⟨0, hn⟩ rfl
    exact ⟨fun e => (h0 e).trans (from_one _ _), fun e => (h1 e).trans (from_one _ _), h2⟩
  | succ n ih =>
    by_cases h : (n + 1) % 4 = 0
    · obtain ⟨h0, h1, h2⟩ := out9_new m c ⟨n + 1, hn⟩ h
      rw [show (n + 1) / 4 * 4 = n + 1 by omega, h]
      exact ⟨fun e => (h0 e).trans (from_one _ _), fun e => (h1 e).trans (from_one _ _), h2⟩
    · obtain ⟨h0, h1, h2⟩ := out9_old m c ⟨n + 1, hn⟩ h
      obtain ⟨q0, q1, q2⟩ := ih (by omega)
      have hi : n + 1 = n / 4 * 4 + (n % 4 + 1) := by omega
      rw [show (n + 1) / 4 * 4 = n / 4 * 4 by omega, show (n + 1) % 4 + 1 = n % 4 + 1 + 1 by omega]
      exact ⟨fun e => (h0 e).trans ((congrArg₂ (· + ·) (q0 e) (congrArg _ hi)).trans (from_succ _ _ _)),
        fun e => (h1 e).trans ((congrArg₂ (· + ·) (q1 e) (congrArg _ hi)).trans (from_succ _ _ _)),
        fun e => (h2 e).trans (q2 e)⟩
/-- After point `n`, the gain's window holds the sum over the blocks so far. -/
theorem sum10 (e : Fin 1024) (n : ℕ) (hn : n < cfg0.N) :
    (outsAt0 m c n hn).2.2 (ix2 0 e) = from_ (fun b q => gng (args m c) b q e) 0 (n + 1) := by
  induction n with
  | zero => exact out10_new m c ⟨0, hn⟩ rfl e
  | succ n ih =>
    have h8 : n + 1 < 8 := hn
    refine (out10_old m c ⟨n + 1, hn⟩ (by show ¬(n + 1) % 8 = 0; omega) e).trans ((congrArg (· + _) (ih (by omega))).trans ?_)
    rw [← from_succ _ _ (n + 1), Nat.zero_add]
end

theorem landDx {C : ℕ} {P : Pk C} {t : Fin cfg0.N} {r : Fin 512} (e : Fin 1024) {x : S4096x1024.Idx} (hx : x = ix2 (row t r) e) :
    dx P (rb t r) (rp t r) e = gDx P x := by subst hx; rfl
theorem landSsg {C : ℕ} {P : Pk C} {b : Fin 2} (k : Fin 3) (e : Fin 1024) {x : S2x3x1024.Idx} (hx : x = ix3 b k e) : three P b k e = gSsg P x := by
  subst hx; rfl
theorem landNg {C : ℕ} {P : Pk C} (e : Fin 1024) {x : S1x1024.Idx} (hx : x = ix2 0 e) : (∑ b : Fin 2, ∑ t : Fin 2048, gng P b t e) = gNg P x := by
  subst hx; rfl

theorem final8 (c : Dev nD) : (dats m 0 c).arrAt 8 cfg0.N = gDx (args m c) := by
  refine (dats m 0 c).arrAt_eq_of_covers 8 _ (by decide +kernel) fun t hf x => ?_
  blk_simp; rw [after0_8]
  have ht := hN t
  idx_vars x
  exact (out8 m c t x0 x1).trans (landDx x1 (by blk_ext [idx t]))
theorem held_three {C : ℕ} {P : Pk C} {w : Vec Ideal S1x3x1024 .f32} (b : Fin 2) (h : Held P (b.val * 4) 4 w) (k : Fin 3) (e : Fin 1024) :
    w (ix3 0 k e) = three P b k e := by
  obtain ⟨h0, h1, h2⟩ := h
  unfold three
  fin_cases k
  · exact (h0 e).trans (from_seq _ b)
  · exact (h1 e).trans (from_seq _ b)
  · exact h2 e
theorem final9 (c : Dev nD) : (dats m 0 c).arrAt 9 cfg0.N = gSsg (args m c) := by
  refine (dats m 0 c).arrAt_eq_of_covers 9 _ (by decide +kernel) fun t hf x => ?_
  blk_simp; rw [after0_9]
  have ht := hN t
  have h3 : t.val % 4 = 3 := (flush0_9 t).mp hf
  idx_vars x
  rw [Fin.eq_zero x0]
  have h := sum9 m c t.val t.isLt
  rw [h3] at h
  exact (held_three ⟨t.val / 4, by omega⟩ h x1 x2).trans (landSsg x1 x2 (by blk_ext [idx t]))
theorem final10 (c : Dev nD) : (dats m 0 c).arrAt 10 cfg0.N = gNg (args m c) := by
  refine (dats m 0 c).arrAt_eq_of_covers 10 _ (by decide +kernel) fun t hf x => ?_
  blk_simp; rw [after0_10]
  have ht := hN t
  have h7 : t.val % 8 = 7 := (flush0_10 t).mp hf
  idx_vars x
  rw [Fin.eq_zero x0]
  refine (sum10 m c x1 t.val t.isLt).trans ?_
  rw [show t.val + 1 = 8 by omega]
  exact (from_all _).trans (landNg x1 (by blk_ext [idx t]))

end Cert.ProjBwdIdeal.Mine

end

end
-- ==== Proof.GluB.Kernel.lean ====
module

public import proofs.«01_k».proof.Proof.GluB.Blocks
public import proofs.«01_k».proof.Proof.Proj.Kernel
public import proofs.«01_k».proof.Proof.FfnA.Rows

@[expose] public section

/-! The backward call of the gated unit's first product: what its windows hold after each point of the grid,
and the three results it returns. -/

set_option maxRecDepth 16384

noncomputable section

open Idealize.ShloMosaic Idealize.ShloMosaic.TcCoe Idealize.SL.Sem
open Idealize.ShloMosaic.Pipeline (Dat)

namespace Cert.GluBwdIdeal.Mine
open Cert.GluBwdIdeal Cert.GluBwdIdeal.Gen Cert.Sums Cert.Proj
open Cert.Ffn (rr)
open Cert.FfnA (xh xg blkSum from_ from_one from_succ from_seq from_all)
open Cert.ProjBwdIdeal.Mine (gDx gSsg gNg three Held held_three landSsg landNg)
open Cert.FfnBwdAIdeal.Mine (row_hit row_miss row_load)

variable (m : (ℓ : Loc nD τ sig) → Buf (Elt Ideal) ℓ)

theorem add_23 (a b : Vec Ideal S1x1024 .f32) (i : Fin 1) (e : Fin 1024) : k0_pay23 a b (ix2 i e) = b (ix2 i e) + a (ix2 i e) := by
  pointwise [k0_pay23]
theorem add_19 (a b : Vec Ideal S1x1024 .f32) (i : Fin 1) (e : Fin 1024) : k0_pay19 a b (ix2 i e) = b (ix2 i e) + a (ix2 i e) := by
  pointwise [k0_pay19]
theorem add_20 (a b : Vec Ideal S1x1024 .f32) (i : Fin 1) (e : Fin 1024) : k0_pay20 a b (ix2 i e) = b (ix2 i e) + a (ix2 i e) := by
  pointwise [k0_pay20]
theorem add_21 (b : Vec Ideal S1x1024 .f32) (i : Fin 1) (e : Fin 1024) : k0_pay21 k0_pay17 b (ix2 i e) = b (ix2 i e) := by
  pointwise [k0_pay21, k0_pay17]

/-- The zeros that a sequence's first point stores. -/
theorem zero_rows (j : Fin 3) (e : Fin 1024) :
    View.canon [(⟨Rect.unit (s := S1x3x1024) ![0, 0, 0] ![1, 3, 1024] inb_S1x3x1024_S1x3x1024_0_0_0, k0_pay18 (F := Ideal)⟩ : View.Piece (Elt Ideal) S1x3x1024 .f32)] (ix3 0 j e) = (0 : EReal) := by
  rw [View.canon_cons_unit_lit _ _ _ (by decide)]
  pointwise [k0_pay18]

/-- The window of the three rows, entry by entry, after a point that found `q` in it. -/
def Rows (c : Dev nD) (t : Fin cfg0.N) (q w : Vec Ideal S1x3x1024 .f32) : Prop :=
  (∀ e, w (ix3 0 0 e) = q (ix3 0 0 e) + blkSum (fun b r => dh (args m c) b r e) t.val) ∧
  (∀ e, w (ix3 0 1 e) = q (ix3 0 1 e) + blkSum (fun b r => gsc (args m c) b r e) t.val) ∧
  (∀ e, w (ix3 0 2 e) = q (ix3 0 2 e))

section
variable (c : Dev nD) (t : Fin cfg0.N)
theorem out6 (r : Fin 512) (e : Fin 1024) : (outsAt0 m c t.val t.isLt).1 (ix2 r e) = dx (args m c) (rb t r) (rp t r) e := by
  refine Eq.trans (congrFun ?_ _) (p16 m c t r e)
  by_cases h0 : t.val % 4 = 0
  · by_cases h1 : t.val % 8 = 0
    · rw [outsAt0_A m c t h0 h1]; frame_out; rfl
    · rw [outsAt0_C m c t h0 h1]; frame_out; rfl
  · rw [outsAt0_B m c t h0 (by omega)]; frame_out; rfl
theorem out7_new (h0 : t.val % 4 = 0) : Rows m c t (fun _ => 0) (outsAt0 m c t.val t.isLt).2.1 := by
  by_cases h1 : t.val % 8 = 0
  · rw [outsAt0_A m c t h0 h1]; frame_out
    refine ⟨fun e => ?_, fun e => ?_, fun e => ?_⟩
    · refine (row_miss _ _ 0 (by decide) e).trans ((row_miss _ _ 0 (by decide) e).trans ((row_hit _ _ _ 0 rfl e).trans ((add_19 _ _ 0 e).trans (congrArg₂ (· + ·) ?_ (p15 m c t e)))))
      rw [View.readCov_eq_canon']
      exact (row_load _ _ 0 rfl e).trans (zero_rows _ _)
    · refine (row_miss _ _ 1 (by decide) e).trans ((row_hit _ _ _ 1 rfl e).trans ((add_20 _ _ 0 e).trans (congrArg₂ (· + ·) ?_ (p14 m c t e))))
      rw [View.readCov_eq_canon']
      exact (row_load _ _ 1 rfl e).trans ((row_miss _ _ 1 (by decide) e).trans (zero_rows _ _))
    · refine (row_hit _ _ _ 2 rfl e).trans ((add_21 _ 0 e).trans ?_)
      rw [View.readCov_eq_canon']
      exact (row_load _ _ 2 rfl e).trans ((row_miss _ _ 2 (by decide) e).trans ((row_miss _ _ 2 (by decide) e).trans (zero_rows _ _)))
  · rw [outsAt0_C m c t h0 h1]; frame_out
    refine ⟨fun e => ?_, fun e => ?_, fun e => ?_⟩
    · refine (row_miss _ _ 0 (by decide) e).trans ((row_miss _ _ 0 (by decide) e).trans ((row_hit _ _ _ 0 rfl e).trans ((add_19 _ _ 0 e).trans (congrArg₂ (· + ·) ?_ (p15 m c t e)))))
      rw [View.readCov_eq_canon']
      exact (row_load _ _ 0 rfl e).trans (zero_rows _ _)
    · refine (row_miss _ _ 1 (by decide) e).trans ((row_hit _ _ _ 1 rfl e).trans ((add_20 _ _ 0 e).trans (congrArg₂ (· + ·) ?_ (p14 m c t e))))
      rw [View.readCov_eq_canon']
      exact (row_load _ _ 1 rfl e).trans ((row_miss _ _ 1 (by decide) e).trans (zero_rows _ _))
    · refine (row_hit _ _ _ 2 rfl e).trans ((add_21 _ 0 e).trans ?_)
      rw [View.readCov_eq_canon']
      exact (row_load _ _ 2 rfl e).trans ((row_miss _ _ 2 (by decide) e).trans ((row_miss _ _ 2 (by decide) e).trans (zero_rows _ _)))
theorem out7_old (h0 : ¬t.val % 4 = 0) :
    Rows m c t (outsAt0 m c (t.val - 1) (lt_of_le_of_lt (Nat.sub_le _ _) t.isLt)).2.1 (outsAt0 m c t.val t.isLt).2.1 := by
  rw [outsAt0_B m c t h0 (by omega)]; frame_out
  refine ⟨fun e => ?_, fun e => ?_, fun e => ?_⟩
  · refine (row_miss _ _ 0 (by decide) e).trans ((row_miss _ _ 0 (by decide) e).trans ((row_hit _ _ _ 0 rfl e).trans ((add_19 _ _ 0 e).trans (congrArg₂ (· + ·) ?_ (p15 m c t e)))))
    exact (row_load _ _ 0 rfl e).trans (congrFun (Memref.IsWhole.read_unread _ _) _)
  · refine (row_miss _ _ 1 (by decide) e).trans ((row_hit _ _ _ 1 rfl e).trans ((add_20 _ _ 0 e).trans (congrArg₂ (· + ·) ?_ (p14 m c t e))))
    exact (row_load _ _ 1 rfl e).trans (congrFun (Memref.IsWhole.read_unread _ _) _)
  · refine (row_hit _ _ _ 2 rfl e).trans ((add_21 _ 0 e).trans ?_)
    exact (row_load _ _ 2 rfl e).trans (congrFun (Memref.IsWhole.read_unread _ _) _)
theorem out8_new (h0 : t.val % 8 = 0) (e : Fin 1024) : (outsAt0 m c t.val t.isLt).2.2 (ix2 0 e) =
    from_ (fun b q => gng (args m c) b q e) t.val 1 := by
  rw [outsAt0_A m c t (by omega) h0]; frame_out
  refine (add_23 ..).trans (Eq.trans (congrArg₂ (· + ·) ?_ (p13 m c t e)) (from_one _ _))
  pointwise [k0_pay22]
theorem out8_old (h1 : ¬t.val % 8 = 0) (e : Fin 1024) : (outsAt0 m c t.val t.isLt).2.2 (ix2 0 e) =
    (outsAt0 m c (t.val - 1) (lt_of_le_of_lt (Nat.sub_le _ _) t.isLt)).2.2 (ix2 0 e) + blkSum (fun b q => gng (args m c) b q e) t.val := by
  by_cases h0 : t.val % 4 = 0
  · rw [outsAt0_C m c t h0 h1]; frame_out
    exact (add_23 ..).trans (congrArg _ (p13 m c t e))
  · rw [outsAt0_B m c t h0 h1]; frame_out
    exact (add_23 ..).trans (congrArg _ (p13 m c t e))
end

section
variable (c : Dev nD)
/-- After point `n`, the three rows' window holds the sums over its sequence's blocks so far. -/
theorem sum7 (n : ℕ) (hn : n < cfg0.N) : Held (args m c) (n / 4 * 4) (n % 4 + 1) (outsAt0 m c n hn).2.1 := by
  induction n with
  | zero =>
    obtain ⟨h0, h1, h2⟩ := out7_new m c ⟨0, hn⟩ rfl
    exact ⟨fun e => (h0 e).trans (from_one _ _), fun e => (h1 e).trans (from_one _ _), h2⟩
  | succ n ih =>
    by_cases h : (n + 1) % 4 = 0
    · obtain ⟨h0, h1, h2⟩ := out7_new m c ⟨n + 1, hn⟩ h
      rw [show (n + 1) / 4 * 4 = n + 1 by omega, h]
      exact ⟨fun e => (h0 e).trans (from_one _ _), fun e => (h1 e).trans (from_one _ _), h2⟩
    · obtain ⟨h0, h1, h2⟩ := out7_old m c ⟨n + 1, hn⟩ h
      obtain ⟨q0, q1, q2⟩ := ih (by omega)
      have hi : n + 1 = n / 4 * 4 + (n % 4 + 1) := by omega
      rw [show (n + 1) / 4 * 4 = n / 4 * 4 by omega, show (n + 1) % 4 + 1 = n % 4 + 1 + 1 by omega]
      exact ⟨fun e => (h0 e).trans ((congrArg₂ (· + ·) (q0 e) (congrArg _ hi)).trans (from_succ _ _ _)),
        fun e => (h1 e).trans ((congrArg₂ (· + ·) (q1 e) (congrArg _ hi)).trans (from_succ _ _ _)),
        fun e => (h2 e).trans (q2 e)⟩
/-- After point `n`, the gain's window holds the sum over the blocks so far. -/
theorem sum8 (e : Fin 1024) (n : ℕ) (hn : n < cfg0.N) :
    (outsAt0 m c n hn).2.2 (ix2 0 e) = from_ (fun b q => gng (args m c) b q e) 0 (n + 1) := by
  induction n with
  | zero => exact out8_new m c ⟨0, hn⟩ rfl e
  | succ n ih =>
    have h8 : n + 1 < 8 := hn
    refine (out8_old m c ⟨n + 1, hn⟩ (by show ¬(n + 1) % 8 = 0; omega) e).trans ((congrArg (· + _) (ih (by omega))).trans ?_)
    rw [← from_succ _ _ (n + 1), Nat.zero_add]
end

theorem landDx {C : ℕ} {P : Pk C} {t : Fin cfg0.N} {r : Fin 512} (e : Fin 1024) {x : S4096x1024.Idx} (hx : x = ix2 (row t r) e) :
    dx P (rb t r) (rp t r) e = gDx P x := by subst hx; rfl
theorem final6 (c : Dev nD) : (dats m 0 c).arrAt 6 cfg0.N = gDx (args m c) := by
  refine (dats m 0 c).arrAt_eq_of_covers 6 _ (by decide +kernel) fun t hf x => ?_
  blk_simp; rw [after0_6]
  have ht := hN t
  idx_vars x
  exact (out6 m c t x0 x1).trans (landDx x1 (by blk_ext [idx t]))
theorem final7 (c : Dev nD) : (dats m 0 c).arrAt 7 cfg0.N = gSsg (args m c) := by
  refine (dats m 0 c).arrAt_eq_of_covers 7 _ (by decide +kernel) fun t hf x => ?_
  blk_simp; rw [after0_7]
  have ht := hN t
  have h3 : t.val % 4 = 3 := (flush0_7 t).mp hf
  idx_vars x
  rw [Fin.eq_zero x0]
  have h := sum7 m c t.val t.isLt
  rw [h3] at h
  exact (held_three ⟨t.val / 4, by omega⟩ h x1 x2).trans (landSsg x1 x2 (by blk_ext [idx t]))
theorem final8 (c : Dev nD) : (dats m 0 c).arrAt 8 cfg0.N = gNg (args m c) := by
  refine (dats m 0 c).arrAt_eq_of_covers 8 _ (by decide +kernel) fun t hf x => ?_
  blk_simp; rw [after0_8]
  have ht := hN t
  have h7 : t.val % 8 = 7 := (flush0_8 t).mp hf
  idx_vars x
  rw [Fin.eq_zero x0]
  refine (sum8 m c x1 t.val t.isLt).trans ?_
  rw [show t.val + 1 = 8 by omega]
  exact (from_all _).trans (landNg x1 (by blk_ext [idx t]))

end Cert.GluBwdIdeal.Mine

end

end
-- ==== Proof.Common.Reduce.lean ====
module

public import Idealize.ShloMosaic.Lib.Pointwise
public import Idealize.ShloMosaic.Lib.Claim

@[expose] public section

/-! A host's sum over two axes, entry by entry. -/

noncomputable section

open Idealize.ShloMosaic

namespace Cert.Sums

/-- A sum over the first two of three axes. -/
theorem reduce_01 {n0 n1 n2 : ℕ} (h : (⟨3, ![n0, n1, n2]⟩ : Shape).ReducesTo [0, 1] ⟨1, ![n2]⟩)
    (v : (⟨3, ![n0, n1, n2]⟩ : Shape).Idx → EReal) (init : EReal) (e : Fin n2) :
    Ideal.hostReduceAdd h v init (ix1 e) = init + ∑ a : Fin n0, ∑ b : Fin n1, v (ix3 a b e) := by
  refine congrArg (init + ·) ((Finset.sum_filter_eq_sum_of_fiber (fun i => h.drop i = ix1 e)
    (fun k : Fin n0 × Fin n1 => ix3 k.1 k.2 e) (fun a b q => Prod.ext (congrFun q 0) (congrFun q 1)) (fun i => ⟨fun q => ?_, ?_⟩) v).trans
    (Fintype.sum_prod_type _))
  · refine ⟨(i 0, i 1), ?_⟩
    funext a; apply Fin.ext
    match a with
    | ⟨0, _⟩ => rfl
    | ⟨1, _⟩ => rfl
    | ⟨2, _⟩ => exact (congrArg Fin.val (congrFun q ⟨0, Nat.one_pos⟩)).symm
  · rintro ⟨k, rfl⟩
    funext b; apply Fin.ext
    match b with
    | ⟨0, _⟩ => rfl

end Cert.Sums

end

end
-- ==== Proof.GluB.Claim.lean ====
module

public import proofs.«01_k».proof.Proof.Gen.GluBwdRefIdeal.Run
public import proofs.«01_k».proof.Proof.GluB.Kernel
public import proofs.«01_k».proof.Proof.Common.Reduce
public import proofs.«01_k».proof.Defs
public import Idealize.ShloMosaic.Lib.Quiescent

@[expose] public section

/-! The reference of the gradient of the gated unit's first product, entry by entry, and the claim. -/

set_option maxRecDepth 16384

noncomputable section

open Idealize.ShloMosaic Idealize.ShloMosaic.TcCoe Idealize.SL.Sem

namespace Cert.GluBwdRefIdeal.Mine
open Cert.GluBwdRefIdeal Cert.GluBwdRefIdeal.Gen Cert.GluBwdRefIdeal.Value Cert.Sums Cert.Proj
open Cert.Ffn (rr width tiny)
open Cert.FfnA (xh xg mhalf)
open Cert.ProjBwdIdeal.Mine (gDx gSsg gNg three)

variable (m : (ℓ : Loc nD τ sig) → Buf (Elt Ideal) ℓ)

/-- The six arguments, entry by entry. -/
def args (c : Dev nD) : Pk 2048 where
  B :=
    { A :=
        { x := fun b t e => (m (c, Proc.tc.devRef main_arg0) : Vec Ideal S2x2048x1024 .f32) (ix3 b t e)
          mod := fun b k e => (m (c, Proc.tc.devRef main_arg1) : Vec Ideal S2x3x1024 .f32) (ix3 b k e)
          g := fun e => (m (c, Proc.tc.devRef main_arg2) : Vec Ideal S1024 .f32) (ix1 e)
          wi := fun _ _ => 0
          wo := fun _ _ => 0 }
      d := fun b t e => (m (c, Proc.tc.devRef main_arg5) : Vec Ideal S2x2048x1024 .f32) (ix3 b t e) }
  w := fun e k => (m (c, Proc.tc.devRef main_arg3) : Vec Ideal S1024x2048 .f32) (ix2 e k)
  dp := fun b t k => (m (c, Proc.tc.devRef main_arg4) : Vec Ideal S2x2048x2048 .f32) (ix3 b t k)

theorem bat_at (r : Fin 4096) : bat r.val = ⟨r.val / 2048, by omega⟩ :=
  Fin.ext (by show r.val / 2048 % 2 = r.val / 2048; omega)

/-! The reference's stages, in the order in which it computes them. -/

def qV (c : Dev nD) : FVec Ideal S2x2048x1 .f32 :=
  addf (Host.divf (broadcastInDim S2x2048x1 ![0, 1] bcast_S2x2048_S2x2048x1_0_1 (Host.reduceAdd (mulf (m (c.tc.loc main_arg0)) (m (c.tc.loc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
def rV (c : Dev nD) : FVec Ideal S2x2048x1 .f32 :=
  Host.rsqrt (qV m c)
def xhV (c : Dev nD) : FVec Ideal S2x2048x1024 .f32 :=
  mulf (m (c.tc.loc main_arg0)) (broadcastInDim S2x2048x1024 ![0, 1, 2] bcast_S2x2048x1_S2x2048x1024_0_1_2 (rV m c))
def xgV (c : Dev nD) : FVec Ideal S2x2048x1024 .f32 :=
  mulf (xhV m c) (broadcastInDim S2x2048x1024 ![0, 1, 2] bcast_S1x1x1024_S2x2048x1024_0_1_2 (broadcastInDim S1x1x1024 ![2] bcast_S1024_S1x1x1024_2 (m (c.tc.loc main_arg2))))
def dhV (c : Dev nD) : FVec Ideal S2x2048x1024 .f32 :=
  Host.dotGeneral (φ₁ := .f32) (φ₂ := .f32) dot_S2x2048x2048_S1024x2048_S2x2048x1024_2_1_01_0_n_n none (m (c.tc.loc main_arg4)) (m (c.tc.loc main_arg3))
def amV (c : Dev nD) : FVec Ideal S2x2048x1024 .f32 :=
  mulf (dhV m c) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (m (c.tc.loc main_arg1)) slices_S2x3x1024_S2x1x1024_0_1_0) shapeCasts_S2x1x1024_S2x1024))))
def dxhV (c : Dev nD) : FVec Ideal S2x2048x1024 .f32 :=
  mulf (amV m c) (broadcastInDim S2x2048x1024 ![0, 1, 2] bcast_S1x1x1024_S2x2048x1024_0_1_2 (broadcastInDim S1x1x1024 ![2] bcast_S1024_S1x1x1024_2 (m (c.tc.loc main_arg2))))
def xdV (c : Dev nD) : FVec Ideal S2x2048 .f32 :=
  Host.reduceAdd (mulf (m (c.tc.loc main_arg0)) (dxhV m c)) (constant S_ .f32 0x00000000#32) reducesTo_S2x2048x1024_S2x2048_d2 h_S_
def mnV (c : Dev nD) : FVec Ideal S2x2048x1 .f32 :=
  Host.divf (mulf (shapeCast _ (xdV m c) shapeCasts_S2x2048_S2x2048x1) (mulf (broadcastInDim S2x2048x1 ![] bcast_S_S2x2048x1 (constant S_ .f32 0xBF000000#32)) (Host.divf (rV m c) (qV m c)))) (broadcastInDim S2x2048x1 ![] bcast_S_S2x2048x1 (constant S_ .f32 0x44800000#32))
def sV (c : Dev nD) : FVec Ideal S2x2048 .f32 :=
  Host.reduceAdd (mnV m c) (constant S_ .f32 0x00000000#32) reducesTo_S2x2048x1_S2x2048_d2 h_S_
def scV (c : Dev nD) : FVec Ideal S2x1024 .f32 :=
  Host.reduceAdd (mulf (xgV m c) (dhV m c)) (constant S_ .f32 0x00000000#32) reducesTo_S2x2048x1024_S2x1024_d1 h_S_
def shV (c : Dev nD) : FVec Ideal S2x1024 .f32 :=
  Host.reduceAdd (dhV m c) (constant S_ .f32 0x00000000#32) reducesTo_S2x2048x1024_S2x1024_d1 h_S_
def ngV (c : Dev nD) : FVec Ideal S1024 .f32 :=
  Host.reduceAdd (mulf (xhV m c) (amV m c)) (constant S_ .f32 0x00000000#32) reducesTo_S2x2048x1024_S1024_d0_1 h_S_
def dxV (c : Dev nD) : FVec Ideal S2x2048x1024 .f32 :=
  addf (m (c.tc.loc main_arg5)) (addf (addf (mulf (dxhV m c) (broadcastInDim S2x2048x1024 ![0, 1, 2] bcast_S2x2048x1_S2x2048x1024_0_1_2 (rV m c))) (mulf (m (c.tc.loc main_arg0)) (broadcastInDim S2x2048x1024 ![0, 1] bcast_S2x2048_S2x2048x1024_0_1 (sV m c)))) (mulf (broadcastInDim S2x2048x1024 ![0, 1] bcast_S2x2048_S2x2048x1024_0_1 (sV m c)) (m (c.tc.loc main_arg0))))

theorem qV_at (c : Dev nD) (b : Fin 2) (t : Fin 2048) (z : Fin 1) : qV m c (ix3 b t z) =
    Ideal.div (∑ e : Fin 1024, (args m c).B.A.x b t e * (args m c).B.A.x b t e) width + tiny := by
  pointwise [qV]; rfl
theorem rV_at (c : Dev nD) (b : Fin 2) (t : Fin 2048) (z : Fin 1) : rV m c (ix3 b t z) = rr (args m c).B.A b t :=
  congrArg Ideal.rsqrt (qV_at m c b t z)
theorem xhV_at (c : Dev nD) (b : Fin 2) (t : Fin 2048) (e : Fin 1024) : xhV m c (ix3 b t e) = xh (args m c).B b t e := by
  pointwise [xhV]
  rw [rV_at]; rfl
theorem xgV_at (c : Dev nD) (b : Fin 2) (t : Fin 2048) (e : Fin 1024) : xgV m c (ix3 b t e) = xg (args m c).B b t e := by
  pointwise [xgV]
  rw [xhV_at]; rfl
theorem dhV_at (c : Dev nD) (b : Fin 2) (t : Fin 2048) (e : Fin 1024) : dhV m c (ix3 b t e) = dh (args m c) b t e := by
  pointwise [dhV]; rfl
theorem amV_at (c : Dev nD) (b : Fin 2) (t : Fin 2048) (e : Fin 1024) : amV m c (ix3 b t e) = am (args m c) b t e := by
  pointwise [amV]
  rw [dhV_at]; rfl
theorem dxhV_at (c : Dev nD) (b : Fin 2) (t : Fin 2048) (e : Fin 1024) : dxhV m c (ix3 b t e) = dxh (args m c) b t e := by
  pointwise [dxhV]
  rw [amV_at]; rfl
theorem xdV_at (c : Dev nD) (b : Fin 2) (t : Fin 2048) : xdV m c (ix2 b t) = ∑ k : Fin 1024, (args m c).B.A.x b t k * dxh (args m c) b t k := by
  pointwise [xdV]
  simp only [dxhV_at]; rfl
theorem mnV_at (c : Dev nD) (b : Fin 2) (t : Fin 2048) (z : Fin 1) : mnV m c (ix3 b t z) =
    Ideal.div ((∑ k : Fin 1024, (args m c).B.A.x b t k * dxh (args m c) b t k) * (mhalf * Ideal.div (rr (args m c).B.A b t)
      (Ideal.div (∑ e : Fin 1024, (args m c).B.A.x b t e * (args m c).B.A.x b t e) width + tiny))) width := by
  pointwise [mnV]
  simp only [xdV_at, rV_at, qV_at]
theorem sV_at (c : Dev nD) (b : Fin 2) (t : Fin 2048) : sV m c (ix2 b t) = mnV m c (ix3 b t 0) := by
  pointwise [sV]
  exact Fin.sum_univ_one _
theorem dxV_at (c : Dev nD) (b : Fin 2) (t : Fin 2048) (e : Fin 1024) : dxV m c (ix3 b t e) = dx (args m c) b t e := by
  pointwise [dxV]
  simp only [dxhV_at, rV_at]
  exact dx_chain _ b t e _ ((sV_at m c b t).trans (mnV_at m c b t 0))
theorem scV_at (c : Dev nD) (b : Fin 2) (e : Fin 1024) : scV m c (ix2 b e) = ∑ t : Fin 2048, gsc (args m c) b t e := by
  pointwise [scV]
  simp only [xgV_at, dhV_at]
  exact Finset.sum_congr rfl fun t _ => mul_comm _ _
theorem shV_at (c : Dev nD) (b : Fin 2) (e : Fin 1024) : shV m c (ix2 b e) = ∑ t : Fin 2048, dh (args m c) b t e := by
  pointwise [shV]
  simp only [dhV_at]
theorem ngV_at (c : Dev nD) (e : Fin 1024) : ngV m c (ix1 e) = ∑ b : Fin 2, ∑ t : Fin 2048, gng (args m c) b t e := by
  refine (Cert.Sums.reduce_01 reducesTo_S2x2048x1024_S1024_d0_1 _ _ e).trans ?_
  have h0 : (constant (F := Ideal) S_ .f32 0x00000000#32) (Shape.Idx.first h_S_) = (0 : EReal) := by pointwise
  rw [h0, zero_add]
  refine Finset.sum_congr rfl fun b _ => Finset.sum_congr rfl fun t _ => ?_
  pointwise
  rw [xhV_at, amV_at]; exact mul_comm _ _

theorem ref_dx (c : Dev nD) :
    (shapeCast _ (dxV m c) shapeCasts_S2x2048x1024_S4096x1024 : FVec Ideal S4096x1024 .f32) = gDx (args m c) := by
  funext i
  idx_vars i
  pointwise [gDx]
  rw [bat_at, dxV_at]
theorem ref_ssg (c : Dev nD) : (addf
    (pad S2x3x1024 ![0, 1, 0] ![0, 1, 0] ![0, 0, 0] (broadcastInDim S2x1x1024 ![0, 2] bcast_S2x1024_S2x1x1024_0_2 (Host.reduceAdd (shapeCast _ (scV m c) shapeCasts_S2x1024_S2x1x1024) (constant S_ .f32 0x00000000#32) reducesTo_S2x1x1024_S2x1024_d1 h_S_)) (constant S_ .f32 0x00000000#32) pads_S2x1x1024_S2x3x1024_000_110_000 h_S_)
    (pad S2x3x1024 ![0, 0, 0] ![0, 2, 0] ![0, 0, 0] (broadcastInDim S2x1x1024 ![0, 2] bcast_S2x1024_S2x1x1024_0_2 (Host.reduceAdd (shapeCast _ (shV m c) shapeCasts_S2x1024_S2x1x1024) (constant S_ .f32 0x00000000#32) reducesTo_S2x1x1024_S2x1024_d1 h_S_)) (constant S_ .f32 0x00000000#32) pads_S2x1x1024_S2x3x1024_000_020_000 h_S_) : FVec Ideal S2x3x1024 .f32) = gSsg (args m c) := by
  funext i
  idx_vars i
  pointwise [gSsg]
  rw [Fin.sum_univ_one, Fin.sum_univ_one, scV_at, shV_at]
  unfold three
  have h3 : i1.val < 3 := i1.isLt
  by_cases h0 : i1.val = 0
  · rw [dif_neg (by omega), dif_pos (by omega), if_pos h0, zero_add]
  · by_cases h1 : i1.val = 1
    · rw [dif_pos (by omega), dif_neg (by omega), if_neg h0, if_pos h1, add_zero]
    · rw [dif_neg (by omega), dif_neg (by omega), if_neg h0, if_neg h1, add_zero]
theorem ref_ng (c : Dev nD) : (broadcastInDim S1x1024 ![1] bcast_S1024_S1x1024_1 (Host.reduceAdd (shapeCast _ (ngV m c) shapeCasts_S1024_S1x1x1024) (constant S_ .f32 0x00000000#32) reducesTo_S1x1x1024_S1024_d0_1 h_S_) : FVec Ideal S1x1024 .f32) = gNg (args m c) := by
  funext i
  idx_vars i
  pointwise [gNg]
  rw [Cert.Sums.reduce_01, zero_add, Fin.sum_univ_one, Fin.sum_univ_one]
  pointwise
  exact ngV_at m c i1

end Cert.GluBwdRefIdeal.Mine

namespace Cert.GluB
open Cert.Proj (Pk)
/-- Kernel and reference compute the same three results over the extended reals. -/
theorem algebraic : Cert.algebraic_GluBwdIdeal_GluBwdRefIdeal := by
  intro m g m' g' _ hagree
  refine ⟨fun c => ProjBwdIdeal.Mine.gDx (GluBwdIdeal.Mine.args m c), fun c => ProjBwdIdeal.Mine.gSsg (GluBwdIdeal.Mine.args m c),
    fun c => ProjBwdIdeal.Mine.gNg (GluBwdIdeal.Mine.args m c), ?_, ?_⟩
  · refine (θ_run GluBwdIdeal.defs _ _).mono (fun r h c => ?_) (GluBwdIdeal.Value.run_blocks m g)
    obtain ⟨k0, k1, k2, k3⟩ := h c
    exact ⟨k0.trans (GluBwdIdeal.Mine.final6 m c), k1.trans (GluBwdIdeal.Mine.final7 m c),
      k2.trans (GluBwdIdeal.Mine.final8 m c), k3⟩
  · refine (θ_run GluBwdRefIdeal.defs _ _).mono (fun r h c => ?_) (GluBwdRefIdeal.Value.run m' g')
    obtain ⟨h0, h1, h2, h3, h4, h5⟩ := hagree c
    have e : GluBwdRefIdeal.Mine.args m' c = GluBwdIdeal.Mine.args m c := by
      show Pk.mk _ _ _ = Pk.mk _ _ _
      congr 1
      · show FfnA.Bk.mk _ _ = FfnA.Bk.mk _ _
        congr 1
        · show Ffn.In.mk _ _ _ _ _ = Ffn.In.mk _ _ _ _ _
          congr 1
          · funext b t e; exact congrFun h0 _
          · funext b t e; exact congrFun h1 _
          · funext e; exact congrFun h2 _
        · funext b t e; exact congrFun h5 _
      · funext b e; exact congrFun h3 _
      · funext b t e; exact congrFun h4 _
    obtain ⟨k0, k1, k2, k3⟩ := h c
    exact ⟨(k0.trans (GluBwdRefIdeal.Mine.ref_dx m' c)).trans (congrArg ProjBwdIdeal.Mine.gDx e),
      (k1.trans (GluBwdRefIdeal.Mine.ref_ssg m' c)).trans (congrArg ProjBwdIdeal.Mine.gSsg e),
      (k2.trans (GluBwdRefIdeal.Mine.ref_ng m' c)).trans (congrArg ProjBwdIdeal.Mine.gNg e), k3⟩

/-- The reference terminates, leaves its arguments unchanged and every counter at zero. -/
theorem frame_ref : Cert.quiescent_GluBwdRefIdeal := fun m ρ _ =>
  (θ_run Cert.GluBwdRefIdeal.defs _ _).mono (fun r h => ⟨fun c => (h c).2.2.2, sem_eq_zero_of_no_sems (by decide) r.2⟩)
    (Cert.GluBwdRefIdeal.Value.run m ρ)

end Cert.GluB

end

end
-- ==== Proof.GluW.Kernel.lean ====
module

public import proofs.«01_k».proof.Proof.Gen.GluBwdWIdeal.Value
public import proofs.«01_k».proof.Proof.FfnA.Real
public import Idealize.ShloMosaic.Lib.Pipeline.ValueKit
public import Idealize.ShloMosaic.Lib.Pipeline.ReadBack
public import Idealize.ShloMosaic.Lib.Pointwise
public import Idealize.ShloMosaic.Lib.Claim

@[expose] public section

/-! The gradient of the gated unit's first weight: what the kernel's accumulator holds after each point of the
grid, and the array of shards that it returns. -/

set_option maxRecDepth 16384

noncomputable section

open Idealize.ShloMosaic Idealize.ShloMosaic.TcCoe Idealize.SL.Sem
open Idealize.ShloMosaic.Pipeline (Dat)

namespace Cert.GluBwdWIdeal.Mine
open Cert.GluBwdWIdeal Cert.GluBwdWIdeal.Gen Cert.Sums
open Cert.FfnA (blkSum from_ from_one from_succ from_all)

variable (m : (ℓ : Loc nD τ sig) → Buf (Elt Ideal) ℓ)

/-- The two arguments that the gradient depends on: the product's rows and the gradient at it. -/
structure Args where
  h : Vec Ideal S2x2048x1024 .f32
  d : Vec Ideal S2x2048x2048 .f32

def args (c : Dev nD) : Args := ⟨m (c, Proc.tc.devRef main_arg0), m (c, Proc.tc.devRef main_arg2)⟩

/-- What a row gives the entry in row `f` and column `k` of shard `j`. -/
def term (A : Args) (j : Fin 8) (f : Fin 1024) (k : Fin 256) (b : Fin 2) (t : Fin 2048) : EReal :=
  A.h (ix3 b t f) * A.d (ix3 b t ⟨j.val * 256 + k.val, by omega⟩)

theorem half (r : Fin 4096) : r.val / 2048 % 2 = r.val / 2048 := by omega
theorem arr_h (c : Dev nD) (r : Fin 4096) (e : Fin 1024) : V m c main_v1 (ix2 r e) = (args m c).h (ix3 (bat r.val) (pl r.val) e) := by
  entry_read
  pointwise [args]
  simp only [bat, pl, half]
theorem arr_d (c : Dev nD) (r : Fin 4096) (e : Fin 2048) : V m c main_v3 (ix2 r e) = (args m c).d (ix3 (bat r.val) (pl r.val) e) := by
  entry_read
  pointwise [args]
  simp only [bat, pl, half]
theorem idx : ∀ t : Fin grid0.N,
    win0_0.index t = ![t.val, 0] ∧ win0_1.index t = ![t.val, 0] ∧ win0_2.index t = ![0, 0, 0] := by
  decide +kernel
theorem hN (t : Fin cfg0.N) : t.val < 8 := t.isLt
abbrev row (t : Fin cfg0.N) (r : Fin 512) : Fin 4096 := ⟨t.val * 512 + r.val, by have := hN t; omega⟩

section
variable (c : Dev nD) (t : Fin cfg0.N)
theorem blk0 (r : Fin 512) (e : Fin 1024) : iblk m c 0 t (ix2 r e) = (args m c).h (ix3 (bat (row t r).val) (pl (row t r).val) e) := by
  have h : iblk m c 0 t (ix2 r e) = V m c main_v1 (ix2 (row t r) e) := by blk_point [iblk, idx t]
  exact h.trans (arr_h m c _ e)
theorem blk1 (r : Fin 512) (e : Fin 2048) : iblk m c 1 t (ix2 r e) = (args m c).d (ix3 (bat (row t r).val) (pl (row t r).val) e) := by
  have h : iblk m c 1 t (ix2 r e) = V m c main_v3 (ix2 (row t r) e) := by blk_point [iblk, idx t]
  exact h.trans (arr_d m c _ e)

/-- The rows of the product, as the point loads them, -/
abbrev rowsB : Vec Ideal S512x1024 .bf16 := iblk m c 0 t
/-- and the columns of shard `j`. -/
abbrev cols (q : ℕ) (inb : ∀ a : Fin 2, (![0, q] : Fin 2 → ℕ) a + (![512, 256] : Fin 2 → ℕ) a ≤ S512x2048.size a) : Vec Ideal S512x256 .bf16 :=
  View.ld (iblk m c 1 t) (Rect.unit (s := S512x2048) ![0, q] ![512, 256] inb)

/-- What a point adds to a shard. -/
theorem add (j : Fin 8) (q : ℕ) (hq : q = j.val * 256)
    (inb : ∀ a : Fin 2, (![0, q] : Fin 2 → ℕ) a + (![512, 256] : Fin 2 → ℕ) a ≤ S512x2048.size a) (f : Fin 1024) (k : Fin 256) :
    (∑ r : Fin 512, rowsB m c t (ix2 r f) * cols m c t q inb (ix2 r k)) = blkSum (term (args m c) j f k) t.val := by
  subst hq
  refine Finset.sum_congr rfl fun r _ => congrArg₂ _ (blk0 m c t r f) ?_
  refine Eq.trans (congrArg (iblk m c 1 t) (funext fun a => Fin.ext ?_)) (blk1 m c t r ⟨j.val * 256 + k.val, by omega⟩)
  fin_cases a
  · show 0 + 1 * r.val = r.val; omega
  · show j.val * 256 + 1 * k.val = j.val * 256 + k.val; omega
end

section
variable (x : Vec Ideal S512x1024 .bf16) (a : Vec Ideal S1x1024x256 .f32) (d : Vec Ideal S512x256 .bf16) (z : Fin 1) (f : Fin 1024) (k : Fin 256)
theorem pay0 : k0_pay7 x a d (ix3 z f k) = a (ix3 0 f k) + ∑ r : Fin 512, x (ix2 r f) * d (ix2 r k) := by
  pointwise [k0_pay7, k0_pay6]
theorem pay1 : k0_pay8 x a d (ix3 z f k) = a (ix3 0 f k) + ∑ r : Fin 512, x (ix2 r f) * d (ix2 r k) := by
  pointwise [k0_pay8, k0_pay6]
theorem pay2 : k0_pay11 (k0_pay6 x) (k0_pay9 a) (k0_pay10 d) (constant S1024x256 .f32 0x00000000#32) (ix3 z f k) = a (ix3 0 f k) + ∑ r : Fin 512, x (ix2 r f) * d (ix2 r k) := by
  pointwise [k0_pay11, k0_pay6, k0_pay9, k0_pay10]
theorem pay3 : k0_pay12 (k0_pay6 x) a d (ix3 z f k) = a (ix3 0 f k) + ∑ r : Fin 512, x (ix2 r f) * d (ix2 r k) := by
  pointwise [k0_pay12, k0_pay6]
theorem pay4 : k0_pay13 (k0_pay6 x) a d (ix3 z f k) = a (ix3 0 f k) + ∑ r : Fin 512, x (ix2 r f) * d (ix2 r k) := by
  pointwise [k0_pay13, k0_pay6]
theorem pay5 : k0_pay1 (k0_pay14 (k0_pay6 x) a d) (ix3 z f k) = a (ix3 0 f k) + ∑ r : Fin 512, x (ix2 r f) * d (ix2 r k) := by
  pointwise [k0_pay1, k0_pay14, k0_pay6]
theorem pay6 : k0_pay2 (k0_pay6 x) a d (ix3 z f k) = a (ix3 0 f k) + ∑ r : Fin 512, x (ix2 r f) * d (ix2 r k) := by
  pointwise [k0_pay2, k0_pay6]
theorem pay7 : k0_pay3 (k0_pay6 x) a d (ix3 z f k) = a (ix3 0 f k) + ∑ r : Fin 512, x (ix2 r f) * d (ix2 r k) := by
  pointwise [k0_pay3, k0_pay6]
end

/-! The accumulator's shards, which a point adds to one after the other. -/

/-- A shard, as a rectangle of the accumulator. -/
abbrev shard (n : ℕ) (inb : ∀ a : Fin 3, (![n, 0, 0] : Fin 3 → ℕ) a + (![1, 1024, 256] : Fin 3 → ℕ) a ≤ S8x1024x256.size a) : Rect S8x1024x256 :=
  Rect.unit (s := S8x1024x256) ![n, 0, 0] ![1, 1024, 256] inb
theorem shard_emb (n : ℕ) (inb : ∀ a : Fin 3, (![n, 0, 0] : Fin 3 → ℕ) a + (![1, 1024, 256] : Fin 3 → ℕ) a ≤ S8x1024x256.size a)
    (j : Fin 8) (hj : j.val = n) (f : Fin 1024) (k : Fin 256) :
    (shard n inb).emb (ix3 (n0 := 1) 0 f k : (shard n inb).shape.Idx) = ix3 j f k :=
  Rect.emb_eq_of_coords _ _ _ fun a => by
    fin_cases a
    · show j.val = n + 1 * 0; omega
    · show f.val = 0 + 1 * f.val; omega
    · show k.val = 0 + 1 * k.val; omega
theorem shard_hit (n : ℕ) (inb : ∀ a : Fin 3, (![n, 0, 0] : Fin 3 → ℕ) a + (![1, 1024, 256] : Fin 3 → ℕ) a ≤ S8x1024x256.size a)
    (w : Vec Ideal S1x1024x256 .f32) (L : List (View.Piece (Elt Ideal) S8x1024x256 .f32)) (j : Fin 8) (hj : j.val = n) (f : Fin 1024) (k : Fin 256) :
    View.canon (⟨shard n inb, w⟩ :: L) (ix3 j f k) = w (ix3 0 f k) :=
  (congrArg (View.canon _) (shard_emb n inb j hj f k).symm).trans (View.canon_cons_emb _ _ _ _)
theorem shard_miss (n : ℕ) (inb : ∀ a : Fin 3, (![n, 0, 0] : Fin 3 → ℕ) a + (![1, 1024, 256] : Fin 3 → ℕ) a ≤ S8x1024x256.size a)
    (w : Vec Ideal S1x1024x256 .f32) (L : List (View.Piece (Elt Ideal) S8x1024x256 .f32)) (j : Fin 8) (hj : j.val ≠ n) (f : Fin 1024) (k : Fin 256) :
    View.canon (⟨shard n inb, w⟩ :: L) (ix3 j f k) = View.canon L (ix3 j f k) :=
  View.canon_cons_of_not_mem _ _ (Rect.not_mem_set_of_axis _ _ (0 : Fin 3) n 1 rfl rfl rfl (by
    show j.val < n ∨ n + 1 ≤ j.val; omega))

/-- What was in the accumulator before a point, by shard. -/
abbrev Acc := Fin 8 → Fin 1024 → Fin 256 → EReal

/-- A loaded shard that holds what was there before. -/
def Loaded (q : Acc) (j : Fin 8) (a : Vec Ideal S1x1024x256 .f32) : Prop := ∀ f k, a (ix3 0 f k) = q j f k

section
variable (c : Dev nD) (t : Fin cfg0.N)
/-- The first `n` shards have the point's block added to them; the others, where the list knows them, are as before. -/
def Upto (q : Acc) (old : Prop) (L : List (View.Piece (Elt Ideal) S8x1024x256 .f32)) (n : ℕ) : Prop :=
  (∀ j : Fin 8, j.val < n → ∀ f k, View.canon L (ix3 j f k) = q j f k + blkSum (term (args m c) j f k) t.val) ∧
  (old → ∀ j : Fin 8, n ≤ j.val → ∀ f k, View.canon L (ix3 j f k) = q j f k)

variable {q : Acc} {old : Prop}
theorem step (j : Fin 8) {n : ℕ} (hj : j.val = n)
    (inb : ∀ a : Fin 3, (![n, 0, 0] : Fin 3 → ℕ) a + (![1, 1024, 256] : Fin 3 → ℕ) a ≤ S8x1024x256.size a) (w : Vec Ideal S1x1024x256 .f32)
    (hw : ∀ f k, w (ix3 0 f k) = q j f k + blkSum (term (args m c) j f k) t.val) {L : List (View.Piece (Elt Ideal) S8x1024x256 .f32)}
    (h : Upto m c t q old L n) : Upto m c t q old (⟨shard n inb, w⟩ :: L) (n + 1) := by
  refine ⟨fun i hi f k => ?_, fun ho i hi f k => ?_⟩
  · by_cases e : i.val = n
    · obtain rfl : i = j := Fin.ext (e.trans hj.symm)
      exact (shard_hit n inb w L i e f k).trans (hw f k)
    · exact (shard_miss n inb w L i e f k).trans (h.1 i (by omega) f k)
  · exact (shard_miss n inb w L i (by omega) f k).trans (h.2 ho i (by omega) f k)
theorem load (j : Fin 8) {n : ℕ} (hj : j.val = n)
    (inb : ∀ a : Fin 3, (![n, 0, 0] : Fin 3 → ℕ) a + (![1, 1024, 256] : Fin 3 → ℕ) a ≤ S8x1024x256.size a)
    {L : List (View.Piece (Elt Ideal) S8x1024x256 .f32)} (h : Upto m c t q True L n) :
    Loaded q j ((View.whole cc0_scratch0).readCov L (shard n inb).toLoadRect) := by
  intro f k
  rw [View.readCov_eq_canon']
  exact (congrArg (View.canon L) (shard_emb n inb j hj f k)).trans (h.2 trivial j hj.ge f k)
theorem load_old (p : Vec Ideal S8x1024x256 .f32) (j : Fin 8) {n : ℕ} (hj : j.val = n)
    (inb : ∀ a : Fin 3, (![n, 0, 0] : Fin 3 → ℕ) a + (![1, 1024, 256] : Fin 3 → ℕ) a ≤ S8x1024x256.size a) :
    Loaded (fun j f k => p (ix3 j f k)) j (View.ld p (shard n inb)) := by
  intro f k
  exact congrArg p (shard_emb n inb j hj f k)
theorem step0 {a : Vec Ideal S1x1024x256 .f32} (ha : Loaded q 0 a) {L : List (View.Piece (Elt Ideal) S8x1024x256 .f32)} (h : Upto m c t q old L 0) :
    Upto m c t q old (⟨shard 0 inb_S8x1024x256_S1x1024x256_0_0_0, k0_pay7 (iblk m c 0 t) a (cols m c t 0 inb_S512x2048_S512x256_0_0)⟩ :: L) 1 :=
  step m c t 0 (by decide) _ _ (fun f k => (pay0 ..).trans (congrArg₂ (· + ·) (ha f k) (add m c t 0 _ rfl _ f k))) h
theorem step1 {a : Vec Ideal S1x1024x256 .f32} (ha : Loaded q 1 a) {L : List (View.Piece (Elt Ideal) S8x1024x256 .f32)} (h : Upto m c t q old L 1) :
    Upto m c t q old (⟨shard 1 inb_S8x1024x256_S1x1024x256_1_0_0, k0_pay8 (iblk m c 0 t) a (cols m c t 256 inb_S512x2048_S512x256_0_256)⟩ :: L) 2 :=
  step m c t 1 (by decide) _ _ (fun f k => (pay1 ..).trans (congrArg₂ (· + ·) (ha f k) (add m c t 1 _ rfl _ f k))) h
theorem step2 {a : Vec Ideal S1x1024x256 .f32} (ha : Loaded q 2 a) {L : List (View.Piece (Elt Ideal) S8x1024x256 .f32)} (h : Upto m c t q old L 2) :
    Upto m c t q old (⟨shard 2 inb_S8x1024x256_S1x1024x256_2_0_0, k0_pay11 (k0_pay6 (iblk m c 0 t)) (k0_pay9 a) (k0_pay10 (cols m c t 512 inb_S512x2048_S512x256_0_512)) (constant S1024x256 .f32 0x00000000#32)⟩ :: L) 3 :=
  step m c t 2 (by decide) _ _ (fun f k => (pay2 ..).trans (congrArg₂ (· + ·) (ha f k) (add m c t 2 _ rfl _ f k))) h
theorem step3 {a : Vec Ideal S1x1024x256 .f32} (ha : Loaded q 3 a) {L : List (View.Piece (Elt Ideal) S8x1024x256 .f32)} (h : Upto m c t q old L 3) :
    Upto m c t q old (⟨shard 3 inb_S8x1024x256_S1x1024x256_3_0_0, k0_pay12 (k0_pay6 (iblk m c 0 t)) a (cols m c t 768 inb_S512x2048_S512x256_0_768)⟩ :: L) 4 :=
  step m c t 3 (by decide) _ _ (fun f k => (pay3 ..).trans (congrArg₂ (· + ·) (ha f k) (add m c t 3 _ rfl _ f k))) h
theorem step4 {a : Vec Ideal S1x1024x256 .f32} (ha : Loaded q 4 a) {L : List (View.Piece (Elt Ideal) S8x1024x256 .f32)} (h : Upto m c t q old L 4) :
    Upto m c t q old (⟨shard 4 inb_S8x1024x256_S1x1024x256_4_0_0, k0_pay13 (k0_pay6 (iblk m c 0 t)) a (cols m c t 1024 inb_S512x2048_S512x256_0_1024)⟩ :: L) 5 :=
  step m c t 4 (by decide) _ _ (fun f k => (pay4 ..).trans (congrArg₂ (· + ·) (ha f k) (add m c t 4 _ rfl _ f k))) h
theorem step5 {a : Vec Ideal S1x1024x256 .f32} (ha : Loaded q 5 a) {L : List (View.Piece (Elt Ideal) S8x1024x256 .f32)} (h : Upto m c t q old L 5) :
    Upto m c t q old (⟨shard 5 inb_S8x1024x256_S1x1024x256_5_0_0, k0_pay1 (k0_pay14 (k0_pay6 (iblk m c 0 t)) a (cols m c t 1280 inb_S512x2048_S512x256_0_1280))⟩ :: L) 6 :=
  step m c t 5 (by decide) _ _ (fun f k => (pay5 ..).trans (congrArg₂ (· + ·) (ha f k) (add m c t 5 _ rfl _ f k))) h
theorem step6 {a : Vec Ideal S1x1024x256 .f32} (ha : Loaded q 6 a) {L : List (View.Piece (Elt Ideal) S8x1024x256 .f32)} (h : Upto m c t q old L 6) :
    Upto m c t q old (⟨shard 6 inb_S8x1024x256_S1x1024x256_6_0_0, k0_pay2 (k0_pay6 (iblk m c 0 t)) a (cols m c t 1536 inb_S512x2048_S512x256_0_1536)⟩ :: L) 7 :=
  step m c t 6 (by decide) _ _ (fun f k => (pay6 ..).trans (congrArg₂ (· + ·) (ha f k) (add m c t 6 _ rfl _ f k))) h
theorem step7 {a : Vec Ideal S1x1024x256 .f32} (ha : Loaded q 7 a) {L : List (View.Piece (Elt Ideal) S8x1024x256 .f32)} (h : Upto m c t q old L 7) :
    Upto m c t q old (⟨shard 7 inb_S8x1024x256_S1x1024x256_7_0_0, k0_pay3 (k0_pay6 (iblk m c 0 t)) a (cols m c t 1792 inb_S512x2048_S512x256_0_1792)⟩ :: L) 8 :=
  step m c t 7 (by decide) _ _ (fun f k => (pay7 ..).trans (congrArg₂ (· + ·) (ha f k) (add m c t 7 _ rfl _ f k))) h

/-- The whole accumulator, as the last point loads and rounds it. -/
theorem load_all (L : List (View.Piece (Elt Ideal) S8x1024x256 .f32)) (j : Fin 8) (f : Fin 1024) (k : Fin 256) :
    (View.whole cc0_scratch0).readCov L (Rect.unit (s := S8x1024x256) ![0, 0, 0] ![8, 1024, 256] inb_S8x1024x256_S8x1024x256_0_0_0).toLoadRect (ix3 j f k) =
      View.canon L (ix3 j f k) := by
  rw [View.readCov_eq_canon']
  refine congrArg (View.canon L) (funext fun a => Fin.ext ?_)
  fin_cases a
  · show 0 + 1 * j.val = j.val; omega
  · show 0 + 1 * f.val = f.val; omega
  · show 0 + 1 * k.val = k.val; omega
theorem pay_out (v : Vec Ideal S8x1024x256 .f32) (j : Fin 8) (f : Fin 1024) (k : Fin 256) : k0_pay4 v (ix3 j f k) = v (ix3 j f k) := by
  pointwise [k0_pay4]

/-- The zeros that the first point stores. -/
theorem zeros : Upto m c t (fun _ _ _ => 0) True
    [⟨Rect.unit (s := S8x1024x256) ![0, 0, 0] ![8, 1024, 256] inb_S8x1024x256_S8x1024x256_0_0_0, k0_pay5 (F := Ideal)⟩] 0 := by
  refine ⟨fun j h => absurd h (Nat.not_lt_zero _), fun _ j _ f k => ?_⟩
  rw [View.canon_cons_unit_lit _ _ _ (by decide)]
  pointwise [k0_pay5]

set_option maxHeartbeats 1600000 in
theorem acc_A (h0 : t.val % 8 = 0) (j : Fin 8) (f : Fin 1024) (k : Fin 256) :
    (outsAt0 m c t.val t.isLt).2 (ix3 j f k) = 0 + blkSum (term (args m c) j f k) t.val := by
  rw [outsAt0_A m c t h0 (by omega)]; frame_out
  have u0 := zeros m c t
  have u1 := step0 m c t (load m c t 0 rfl inb_S8x1024x256_S1x1024x256_0_0_0 u0) u0
  have u2 := step1 m c t (load m c t 1 rfl inb_S8x1024x256_S1x1024x256_1_0_0 u1) u1
  have u3 := step2 m c t (load m c t 2 rfl inb_S8x1024x256_S1x1024x256_2_0_0 u2) u2
  have u4 := step3 m c t (load m c t 3 rfl inb_S8x1024x256_S1x1024x256_3_0_0 u3) u3
  have u5 := step4 m c t (load m c t 4 rfl inb_S8x1024x256_S1x1024x256_4_0_0 u4) u4
  have u6 := step5 m c t (load m c t 5 rfl inb_S8x1024x256_S1x1024x256_5_0_0 u5) u5
  have u7 := step6 m c t (load m c t 6 rfl inb_S8x1024x256_S1x1024x256_6_0_0 u6) u6
  have u8 := step7 m c t (load m c t 7 rfl inb_S8x1024x256_S1x1024x256_7_0_0 u7) u7
  exact u8.1 j j.isLt f k

variable (p : Vec Ideal S8x1024x256 .f32)
/-- The pieces that a later point stores, over the accumulator `p`. -/
theorem pieces : ∃ L, Upto m c t (fun j f k => p (ix3 j f k)) False L 8 ∧ L = [
    ⟨shard 7 inb_S8x1024x256_S1x1024x256_7_0_0, k0_pay3 (k0_pay6 (iblk m c 0 t)) (View.ld p (shard 7 inb_S8x1024x256_S1x1024x256_7_0_0)) (cols m c t 1792 inb_S512x2048_S512x256_0_1792)⟩,
    ⟨shard 6 inb_S8x1024x256_S1x1024x256_6_0_0, k0_pay2 (k0_pay6 (iblk m c 0 t)) (View.ld p (shard 6 inb_S8x1024x256_S1x1024x256_6_0_0)) (cols m c t 1536 inb_S512x2048_S512x256_0_1536)⟩,
    ⟨shard 5 inb_S8x1024x256_S1x1024x256_5_0_0, k0_pay1 (k0_pay14 (k0_pay6 (iblk m c 0 t)) (View.ld p (shard 5 inb_S8x1024x256_S1x1024x256_5_0_0)) (cols m c t 1280 inb_S512x2048_S512x256_0_1280))⟩,
    ⟨shard 4 inb_S8x1024x256_S1x1024x256_4_0_0, k0_pay13 (k0_pay6 (iblk m c 0 t)) (View.ld p (shard 4 inb_S8x1024x256_S1x1024x256_4_0_0)) (cols m c t 1024 inb_S512x2048_S512x256_0_1024)⟩,
    ⟨shard 3 inb_S8x1024x256_S1x1024x256_3_0_0, k0_pay12 (k0_pay6 (iblk m c 0 t)) (View.ld p (shard 3 inb_S8x1024x256_S1x1024x256_3_0_0)) (cols m c t 768 inb_S512x2048_S512x256_0_768)⟩,
    ⟨shard 2 inb_S8x1024x256_S1x1024x256_2_0_0, k0_pay11 (k0_pay6 (iblk m c 0 t)) (k0_pay9 (View.ld p (shard 2 inb_S8x1024x256_S1x1024x256_2_0_0))) (k0_pay10 (cols m c t 512 inb_S512x2048_S512x256_0_512)) (constant S1024x256 .f32 0x00000000#32)⟩,
    ⟨shard 1 inb_S8x1024x256_S1x1024x256_1_0_0, k0_pay8 (iblk m c 0 t) (View.ld p (shard 1 inb_S8x1024x256_S1x1024x256_1_0_0)) (cols m c t 256 inb_S512x2048_S512x256_0_256)⟩,
    ⟨shard 0 inb_S8x1024x256_S1x1024x256_0_0_0, k0_pay7 (iblk m c 0 t) (View.ld p (shard 0 inb_S8x1024x256_S1x1024x256_0_0_0)) (cols m c t 0 inb_S512x2048_S512x256_0_0)⟩] := by
  have u0 : Upto m c t (fun j f k => p (ix3 j f k)) False [] 0 := ⟨fun j h => absurd h (Nat.not_lt_zero _), False.elim⟩
  have u1 := step0 m c t (load_old p 0 rfl inb_S8x1024x256_S1x1024x256_0_0_0) u0
  have u2 := step1 m c t (load_old p 1 rfl inb_S8x1024x256_S1x1024x256_1_0_0) u1
  have u3 := step2 m c t (load_old p 2 rfl inb_S8x1024x256_S1x1024x256_2_0_0) u2
  have u4 := step3 m c t (load_old p 3 rfl inb_S8x1024x256_S1x1024x256_3_0_0) u3
  have u5 := step4 m c t (load_old p 4 rfl inb_S8x1024x256_S1x1024x256_4_0_0) u4
  have u6 := step5 m c t (load_old p 5 rfl inb_S8x1024x256_S1x1024x256_5_0_0) u5
  have u7 := step6 m c t (load_old p 6 rfl inb_S8x1024x256_S1x1024x256_6_0_0) u6
  have u8 := step7 m c t (load_old p 7 rfl inb_S8x1024x256_S1x1024x256_7_0_0) u7
  exact ⟨_, u8, rfl⟩

theorem acc_B (h0 : ¬t.val % 8 = 0) (h1 : ¬t.val % 8 = 7) (j : Fin 8) (f : Fin 1024) (k : Fin 256) :
    (outsAt0 m c t.val t.isLt).2 (ix3 j f k) = (outsAt0 m c (t.val - 1) (lt_of_le_of_lt (Nat.sub_le _ _) t.isLt)).2 (ix3 j f k) +
      blkSum (term (args m c) j f k) t.val := by
  rw [outsAt0_B m c t h0 h1]; frame_out
  simp only [read_unread_whole]
  obtain ⟨L, h, rfl⟩ := pieces m c t (outsAt0 m c (t.val - 1) (lt_of_le_of_lt (Nat.sub_le _ _) t.isLt)).2
  exact h.1 j j.isLt f k
theorem out_C (h0 : ¬t.val % 8 = 0) (h1 : t.val % 8 = 7) (j : Fin 8) (f : Fin 1024) (k : Fin 256) :
    (outsAt0 m c t.val t.isLt).1 (ix3 j f k) = (outsAt0 m c (t.val - 1) (lt_of_le_of_lt (Nat.sub_le _ _) t.isLt)).2 (ix3 j f k) +
      blkSum (term (args m c) j f k) t.val := by
  rw [outsAt0_C m c t h0 h1]; frame_out
  simp only [read_unread_whole]
  obtain ⟨L, h, rfl⟩ := pieces m c t (outsAt0 m c (t.val - 1) (lt_of_le_of_lt (Nat.sub_le _ _) t.isLt)).2
  exact (pay_out _ j f k).trans ((load_all _ j f k).trans (h.1 j j.isLt f k))
end

section
variable (c : Dev nD) (j : Fin 8) (f : Fin 1024) (k : Fin 256)
theorem acc_at (n : ℕ) (hn : n < cfg0.N) (h7 : ¬n % 8 = 7) :
    (outsAt0 m c n hn).2 (ix3 j f k) = from_ (term (args m c) j f k) 0 (n + 1) := by
  induction n with
  | zero => exact (acc_A m c ⟨0, hn⟩ rfl j f k).trans (from_one _ _)
  | succ n ih =>
    have h8 : n + 1 < 8 := hn
    refine (acc_B m c ⟨n + 1, hn⟩ (by show ¬(n + 1) % 8 = 0; omega) h7 j f k).trans ((congrArg (· + _) (ih (by omega) (by omega))).trans ?_)
    rw [← from_succ _ _ (n + 1), Nat.zero_add]
end

/-- The gradient, cut into the eight shards. -/
def g (A : Args) : Vec Ideal S8x1024x256 .bf16 := fun y => ∑ b : Fin 2, ∑ t : Fin 2048, term A (y 0) (y 1) (y 2) b t
theorem land (A : Args) (j : Fin 8) (f : Fin 1024) (k : Fin 256) {x : S8x1024x256.Idx} (hx : x = ix3 j f k) :
    (∑ b : Fin 2, ∑ t : Fin 2048, term A j f k b t) = g A x := by
  subst hx; rfl

theorem final (c : Dev nD) : (dats m 0 c).arrAt 2 cfg0.N = g (args m c) := by
  refine (dats m 0 c).arrAt_eq_of_covers 2 _ (by decide +kernel) fun t hf y => ?_
  blk_simp; rw [after0_2]
  have ht := hN t
  have h7 : t.val % 8 = 7 := (flush0_2 t).mp hf
  idx_vars y
  refine (out_C m c t (by omega) h7 y0 y1 y2).trans ?_
  rw [acc_at m c y0 y1 y2 (t.val - 1) _ (by omega), show t.val - 1 + 1 = 7 by omega, show t.val = 0 + 7 by omega, from_succ]
  exact (from_all _).trans (land (args m c) y0 y1 y2 (by blk_ext [idx t]))

end Cert.GluBwdWIdeal.Mine

end

end
-- ==== Proof.GluW.Claim.lean ====
module

public import proofs.«01_k».proof.Defs
public import proofs.«01_k».proof.Proof.GluW.Kernel
public import proofs.«01_k».proof.Proof.Gen.GluBwdWRefIdeal.Run
public import Idealize.ShloMosaic.Lib.Quiescent

/-! Kernel and reference leave the same gradient of the weight. -/

@[expose] public section

set_option maxRecDepth 16384

noncomputable section

open Idealize.ShloMosaic Idealize.ShloMosaic.TcCoe Idealize.SL.Sem

namespace Cert.GluW
open GluBwdWIdeal.Mine Sums

section
open GluBwdWRefIdeal GluBwdWRefIdeal.Gen
theorem ref (A : Args) : (truncf .bf16 (transpose S8x1024x256 [1, 0, 2] (shapeCast _ (transpose S1024x2048 [1, 0] (Host.dotGeneral (F := Ideal) (φ₁ := .f32) (φ₂ := .f32) dot_S2x2048x2048_S2x2048x1024_S2048x1024_01_01_2_2_n_n none A.d A.h) transposes_S2048x1024_S1024x2048_1_0) shapeCasts_S1024x2048_S1024x8x256) transposes_S1024x8x256_S8x1024x256_1_0_2) bitsLt_bf16_f32 : FVec Ideal S8x1024x256 .bf16) = g A := by
  funext y
  idx_vars y
  pointwise [g]
  exact Finset.sum_congr rfl fun b _ => Finset.sum_congr rfl fun t _ => mul_comm _ _
end

/-- The same two arguments, of the reference. -/
def refArgs (m : (ℓ : Loc GluBwdWRefIdeal.nD GluBwdWRefIdeal.τ GluBwdWRefIdeal.sig) → Buf (Elt Ideal) ℓ)
    (c : Dev GluBwdWRefIdeal.nD) : Args := ⟨m (c.tc.loc GluBwdWRefIdeal.main_arg0), m (c.tc.loc GluBwdWRefIdeal.main_arg2)⟩

/-- Kernel and reference compute the same gradient over the extended reals. -/
theorem algebraic : Cert.algebraic_GluBwdWIdeal_GluBwdWRefIdeal := by
  intro m s m' s' _ hagree
  refine ⟨fun c => g (args m c), ?_, ?_⟩
  · exact (θ_run GluBwdWIdeal.defs _ _).mono (fun r h c => ⟨(h c).1.trans (final m c), (h c).2⟩) (GluBwdWIdeal.Value.run_blocks m s)
  · refine (θ_run GluBwdWRefIdeal.defs _ _).mono (fun r h c => ?_) (GluBwdWRefIdeal.Value.run m' s')
    obtain ⟨h0, h1, h2⟩ := hagree c
    have e : refArgs m' c = args m c := by
      show Args.mk _ _ = Args.mk _ _
      exact congr (congrArg Args.mk h0) h2
    exact ⟨((h c).1.trans (ref (refArgs m' c))).trans (congrArg g e), (h c).2⟩

/-- The reference terminates, leaves its arguments unchanged and every counter at zero. -/
theorem frame_ref : Cert.quiescent_GluBwdWRefIdeal := fun m ρ _ =>
  (θ_run Cert.GluBwdWRefIdeal.defs _ _).mono (fun r h => ⟨fun c => (h c).2, sem_eq_zero_of_no_sems (by decide) r.2⟩)
    (Cert.GluBwdWRefIdeal.Value.run m ρ)

end Cert.GluW

end

end
-- ==== Proof.FfnW.Kernel.lean ====
module

public import proofs.«01_k».proof.Proof.Gen.FfnBwdWIdeal.Value
public import proofs.«01_k».proof.Proof.Common.Sums
public import Idealize.ShloMosaic.Lib.Pipeline.ValueKit
public import Idealize.ShloMosaic.Lib.Pipeline.ReadBack
public import Idealize.ShloMosaic.Lib.Pointwise
public import Idealize.ShloMosaic.Lib.Claim

@[expose] public section

/-! The gradients of the feed-forward weights: what the kernel's blocks hold after each point of the grid,
and the two results it returns. -/

set_option maxRecDepth 16384

noncomputable section

open Idealize.ShloMosaic Idealize.ShloMosaic.TcCoe Idealize.SL.Sem
open Idealize.ShloMosaic.Pipeline (Dat)

namespace Cert.FfnBwdWIdeal.Mine
open Cert.FfnBwdWIdeal Cert.FfnBwdWIdeal.Gen Cert.Sums

variable (m : (ℓ : Loc nD τ sig) → Buf (Elt Ideal) ℓ)

/-- The four arguments that the gradients depend on. -/
structure Args where
  h : Vec Ideal S2x2048x1024 .f32
  hid : Vec Ideal S2x2048x2816 .f32
  dz : Vec Ideal S2x2048x5632 .f32
  dout : Vec Ideal S2x2048x1024 .f32

def args (c : Dev nD) : Args :=
  ⟨m (c, Proc.tc.devRef main_arg0), m (c, Proc.tc.devRef main_arg1), m (c, Proc.tc.devRef main_arg4),
    m (c, Proc.tc.devRef main_arg5)⟩

/-- The term of the gradient of the first weight at column `s * 2816 + j * 704 + f` that row `r` gives. -/
def termIn (A : Args) (s : Fin 2) (j : ℕ) (f : Fin 704) (e : Fin 1024) (r : ℕ) : EReal :=
  A.dz (ix3 (bat r) (pl r) ⟨s.val * 2816 + j % 4 * 704 + f.val, by omega⟩) * A.h (ix3 (bat r) (pl r) e)
/-- The term of the gradient of the second weight at row `j * 704 + f`. -/
def termOut (A : Args) (j : ℕ) (f : Fin 704) (e : Fin 1024) (r : ℕ) : EReal :=
  A.hid (ix3 (bat r) (pl r) ⟨j % 4 * 704 + f.val, by omega⟩) * A.dout (ix3 (bat r) (pl r) e)

/-- The sum over the first `n` blocks of 1024 rows. -/
def part (f : ℕ → EReal) (n : ℕ) : EReal := ∑ k ∈ Finset.range n, ∑ r : Fin 1024, f (k * 1024 + r.val)

theorem part_one (f : ℕ → EReal) (k : ℕ) (h : k = 0) :
    (0 : EReal) + ∑ r : Fin 1024, f (k * 1024 + r.val) = part f 1 := by
  subst h; simp [part]
theorem part_succ (f : ℕ → EReal) (n : ℕ) :
    part f n + ∑ r : Fin 1024, f (n * 1024 + r.val) = part f (n + 1) := by
  simp [part, Finset.sum_range_succ]

/-! The payloads. -/

theorem pay9 (v3 : Vec Ideal S1024x1024 .bf16) (v5 : Vec Ideal S704x1024 .f32)
    (v6 : Vec Ideal S1x1x1024x704 .bf16) (f : Fin 704) (e : Fin 1024) :
    k0_pay9 v3 v5 v6 (ix2 f e) =
      v5 (ix2 f e) + ∑ r : Fin 1024, v6 (ix4 0 0 r f) * v3 (ix2 r e) := by
  pointwise [k0_pay9, k0_pay8]
theorem pay10 (v3 : Vec Ideal S1024x1024 .bf16) (v5 : Vec Ideal S704x1024 .f32)
    (v6 : Vec Ideal S1x1x1024x704 .bf16) (f : Fin 704) (e : Fin 1024) :
    k0_pay10 v3 v5 v6 (ix2 f e) =
      v5 (ix2 f e) + ∑ r : Fin 1024, v6 (ix4 0 0 r f) * v3 (ix2 r e) := by
  pointwise [k0_pay10, k0_pay8]

/-! The arrays that the host prepares. -/

theorem arr_h (c : Dev nD) (r : Fin 4096) (e : Fin 1024) :
    V m c main_v1 (ix2 r e) = (args m c).h (ix3 (bat r.val) (pl r.val) e) := by
  entry_read
  pointwise [args]
  have h : r.val / 2048 % 2 = r.val / 2048 := by omega
  simp only [bat, pl, h]
theorem arr_dz (c : Dev nD) (s : Fin 2) (j : Fin 4) (r : Fin 4096) (f : Fin 704) :
    V m c main_v4 (ix4 s j r f) =
      (args m c).dz (ix3 (bat r.val) (pl r.val) ⟨s.val * 2816 + j.val % 4 * 704 + f.val, by omega⟩) := by
  entry_read
  pointwise [args]
  have h : r.val / 2048 % 2 = r.val / 2048 := by omega
  have h' : j.val % 4 = j.val := by omega
  simp only [bat, pl, h, h']
theorem arr_hid (c : Dev nD) (j : Fin 4) (r : Fin 4096) (f : Fin 704) :
    V m c main_v7 (ix3 j r f) =
      (args m c).hid (ix3 (bat r.val) (pl r.val) ⟨j.val % 4 * 704 + f.val, by omega⟩) := by
  entry_read
  pointwise [args]
  have h : r.val / 2048 % 2 = r.val / 2048 := by omega
  have h' : j.val % 4 = j.val := by omega
  simp only [bat, pl, h, h']
theorem arr_dout (c : Dev nD) (r : Fin 4096) (e : Fin 1024) :
    V m c main_v9 (ix2 r e) = (args m c).dout (ix3 (bat r.val) (pl r.val) e) := by
  entry_read
  pointwise [args]
  have h : r.val / 2048 % 2 = r.val / 2048 := by omega
  simp only [bat, pl, h]

theorem idx : ∀ t : Fin grid0.N,
    win0_0.index t = ![t.val % 4, 0] ∧ win0_1.index t = ![0, t.val / 4, t.val % 4, 0] ∧
    win0_2.index t = ![t.val / 4, t.val % 4, 0] ∧ win0_3.index t = ![t.val % 4, 0] ∧
    win0_4.index t = ![0, t.val / 4, 0, 0] ∧ win0_5.index t = ![t.val / 4, 0, 0] := by
  decide +kernel

theorem hN (t : Fin cfg0.N) : t.val < 16 := t.isLt

theorem blk0 (c : Dev nD) (t : Fin cfg0.N) (r : Fin 1024) (e : Fin 1024) :
    iblk m c 0 t (ix2 r e) = V m c main_v1 (ix2 ⟨t.val % 4 * 1024 + r.val, by omega⟩ e) := by
  blk_point [iblk, idx t]
theorem blk1 (c : Dev nD) (t : Fin cfg0.N) (s : Fin 2) (z : Fin 1) (r : Fin 1024) (f : Fin 704) :
    iblk m c 1 t (ix4 s z r f) = V m c main_v4 (ix4 s ⟨t.val / 4, by have := hN t; omega⟩
      ⟨t.val % 4 * 1024 + r.val, by omega⟩ f) := by
  blk_point [iblk, idx t]
theorem blk2 (c : Dev nD) (t : Fin cfg0.N) (z : Fin 1) (r : Fin 1024) (f : Fin 704) :
    iblk m c 2 t (ix3 z r f) = V m c main_v7 (ix3 ⟨t.val / 4, by have := hN t; omega⟩
      ⟨t.val % 4 * 1024 + r.val, by omega⟩ f) := by
  blk_point [iblk, idx t]
theorem blk3 (c : Dev nD) (t : Fin cfg0.N) (r : Fin 1024) (e : Fin 1024) :
    iblk m c 3 t (ix2 r e) = V m c main_v9 (ix2 ⟨t.val % 4 * 1024 + r.val, by omega⟩ e) := by
  blk_point [iblk, idx t]

/-! What a point adds to each of the three accumulators. -/

theorem addG (c : Dev nD) (t : Fin cfg0.N) (acc : Vec Ideal S704x1024 .f32) (f : Fin 704) (e : Fin 1024) :
    k0_pay9 (iblk m c 0 t) acc
      (View.ld (iblk m c 1 t) (Rect.unit ![0, 0, 0, 0] ![1, 1, 1024, 704] inb_S2x1x1024x704_S1x1x1024x704_0_0_0_0))
      (ix2 f e) = acc (ix2 f e) + ∑ r : Fin 1024, termIn (args m c) 0 (t.val / 4) f e (t.val % 4 * 1024 + r.val) := by
  refine (pay9 ..).trans (congrArg _ (Finset.sum_congr rfl fun r _ => congrArg₂ _ ?_ ?_))
  · pointwise []
    rw [blk1, arr_dz]
    exact congrArg (fun x => (args m c).dz (ix3 (bat (t.val % 4 * 1024 + r.val)) (pl (t.val % 4 * 1024 + r.val)) x))
      (Fin.ext (by simp))
  · rw [blk0, arr_h]
theorem addU (c : Dev nD) (t : Fin cfg0.N) (acc : Vec Ideal S704x1024 .f32) (f : Fin 704) (e : Fin 1024) :
    k0_pay10 (iblk m c 0 t) acc
      (View.ld (iblk m c 1 t) (Rect.unit ![1, 0, 0, 0] ![1, 1, 1024, 704] inb_S2x1x1024x704_S1x1x1024x704_1_0_0_0))
      (ix2 f e) = acc (ix2 f e) + ∑ r : Fin 1024, termIn (args m c) 1 (t.val / 4) f e (t.val % 4 * 1024 + r.val) := by
  refine (pay10 ..).trans (congrArg _ (Finset.sum_congr rfl fun r _ => congrArg₂ _ ?_ ?_))
  · pointwise []
    rw [blk1, arr_dz]
    exact congrArg (fun x => (args m c).dz (ix3 (bat (t.val % 4 * 1024 + r.val)) (pl (t.val % 4 * 1024 + r.val)) x))
      (Fin.ext (by simp))
  · rw [blk0, arr_h]
theorem addO (c : Dev nD) (t : Fin cfg0.N) (acc : Vec Ideal S704x1024 .f32) (f : Fin 704) (e : Fin 1024) :
    k0_pay1 acc (k0_pay11 (iblk m c 2 t)) (k0_pay12 (iblk m c 3 t)) (ix2 f e) =
      acc (ix2 f e) + ∑ r : Fin 1024, termOut (args m c) (t.val / 4) f e (t.val % 4 * 1024 + r.val) := by
  pointwise [k0_pay1, k0_pay11, k0_pay12]
  refine congrArg _ (Finset.sum_congr rfl fun r _ => congrArg₂ _ ?_ ?_)
  · rw [blk2, arr_hid]
  · rw [blk3, arr_dout]

/-- The three accumulators hold the sums over the first `n` blocks of rows, for tile `j`. -/
structure Holds (A : Args) (j n : ℕ) (g u o : Vec Ideal S704x1024 .f32) : Prop where
  g : ∀ f e, g (ix2 f e) = part (termIn A 0 j f e) n
  u : ∀ f e, u (ix2 f e) = part (termIn A 1 j f e) n
  o : ∀ f e, o (ix2 f e) = part (termOut A j f e) n

theorem scr_A (c : Dev nD) (t : Fin cfg0.N) (h0 : t.val % 4 = 0) (h1 : ¬ t.val % 4 = 3) :
    Holds (args m c) (t.val / 4) 1 (outsAt0 m c t.val t.isLt).2.2.1 (outsAt0 m c t.val t.isLt).2.2.2.1
      (outsAt0 m c t.val t.isLt).2.2.2.2 := by
  rw [outsAt0_A m c t h0 h1]; frame_out
  refine ⟨fun f e => (addG ..).trans ?_, fun f e => (addU ..).trans ?_, fun f e => (addO ..).trans ?_⟩
  all_goals refine Eq.trans (congrArg (· + _) ?_) (part_one _ _ h0)
  · pointwise [k0_pay5]
  · pointwise [k0_pay6]
  · pointwise [k0_pay7]
theorem scr_B (c : Dev nD) (t : Fin cfg0.N) (h0 : ¬ t.val % 4 = 0) (h1 : ¬ t.val % 4 = 3)
    (ih : Holds (args m c) (t.val / 4) (t.val % 4)
      (outsAt0 m c (t.val - 1) (lt_of_le_of_lt (Nat.sub_le _ _) t.isLt)).2.2.1
      (outsAt0 m c (t.val - 1) (lt_of_le_of_lt (Nat.sub_le _ _) t.isLt)).2.2.2.1
      (outsAt0 m c (t.val - 1) (lt_of_le_of_lt (Nat.sub_le _ _) t.isLt)).2.2.2.2) :
    Holds (args m c) (t.val / 4) (t.val % 4 + 1) (outsAt0 m c t.val t.isLt).2.2.1
      (outsAt0 m c t.val t.isLt).2.2.2.1 (outsAt0 m c t.val t.isLt).2.2.2.2 := by
  rw [outsAt0_B m c t h0 h1]; frame_out
  simp only [read_unread_whole]
  refine ⟨fun f e => (addG ..).trans ?_, fun f e => (addU ..).trans ?_, fun f e => (addO ..).trans ?_⟩
  · rw [ih.g, part_succ]
  · rw [ih.u, part_succ]
  · rw [ih.o, part_succ]
theorem scr (c : Dev nD) (n : ℕ) (hn : n < cfg0.N) (h3 : ¬ n % 4 = 3) :
    Holds (args m c) (n / 4) (n % 4 + 1) (outsAt0 m c n hn).2.2.1 (outsAt0 m c n hn).2.2.2.1
      (outsAt0 m c n hn).2.2.2.2 := by
  induction n with
  | zero => exact scr_A m c ⟨0, hn⟩ rfl h3
  | succ n ih =>
    by_cases h : (n + 1) % 4 = 0
    · rw [h]; exact scr_A m c ⟨n + 1, hn⟩ h h3
    · have e1 : n / 4 = (n + 1) / 4 := by omega
      have e2 : n % 4 + 1 = (n + 1) % 4 := by omega
      have := ih (by omega) (by omega)
      rw [e1, e2] at this
      exact scr_B m c ⟨n + 1, hn⟩ h h3 this
/-- What a tile's last point finds in the accumulators: the sums over three of its four blocks of rows. -/
theorem found (c : Dev nD) (t : Fin cfg0.N) (h1 : t.val % 4 = 3) :
    Holds (args m c) (t.val / 4) (t.val % 4)
      (outsAt0 m c (t.val - 1) (lt_of_le_of_lt (Nat.sub_le _ _) t.isLt)).2.2.1
      (outsAt0 m c (t.val - 1) (lt_of_le_of_lt (Nat.sub_le _ _) t.isLt)).2.2.2.1
      (outsAt0 m c (t.val - 1) (lt_of_le_of_lt (Nat.sub_le _ _) t.isLt)).2.2.2.2 := by
  have e1 : (t.val - 1) / 4 = t.val / 4 := by omega
  have e2 : (t.val - 1) % 4 + 1 = t.val % 4 := by omega
  have := scr m c (t.val - 1) (lt_of_le_of_lt (Nat.sub_le _ _) t.isLt) (by omega)
  rwa [e1, e2] at this

/-- The two gradients, as sums over the four blocks of rows. -/
def gIn (A : Args) : Vec Ideal S2x4x704x1024 .bf16 := fun y => part (termIn A (y 0) (y 1).val (y 2) (y 3)) 4
def gOut (A : Args) : Vec Ideal S4x704x1024 .bf16 := fun y => part (termOut A (y 0).val (y 1) (y 2)) 4

theorem landIn (A : Args) (t : Fin cfg0.N) (h1 : t.val % 4 = 3) (s : Fin 2) (f : Fin 704) (e : Fin 1024)
    {x : S2x4x704x1024.Idx} (hx : x = ix4 s ⟨t.val / 4, by have := hN t; omega⟩ f e) :
    part (termIn A s (t.val / 4) f e) (t.val % 4 + 1) = gIn A x := by
  subst hx; rw [h1]; rfl
theorem landOut (A : Args) (t : Fin cfg0.N) (h1 : t.val % 4 = 3) (f : Fin 704) (e : Fin 1024)
    {x : S4x704x1024.Idx} (hx : x = ix3 ⟨t.val / 4, by have := hN t; omega⟩ f e) :
    part (termOut A (t.val / 4) f e) (t.val % 4 + 1) = gOut A x := by
  subst hx; rw [h1]; rfl

theorem final4 (c : Dev nD) : (dats m 0 c).arrAt 4 cfg0.N = gIn (args m c) := by
  refine (dats m 0 c).arrAt_eq_of_covers 4 _ (by decide +kernel) fun t hf y => ?_
  blk_simp; rw [after0_4]
  have ht := hN t
  have h3 : t.val % 4 = 3 := (flush0_4 t).mp hf
  have hfd := found m c t h3
  rw [outsAt0_C m c t (by omega) h3]; frame_out
  simp only [read_unread_whole]
  canon_tiles y h1
  · idx_vars y
    pointwise [k0_pay3]
    refine (addU m c t _ y2 y3).trans ((congrArg (· + _) (hfd.u y2 y3)).trans ((part_succ _ _).trans ?_))
    exact landIn (args m c) t h3 1 y2 y3 (by blk_ext [idx t])
  · idx_vars y
    pointwise [k0_pay2]
    refine (addG m c t _ y2 y3).trans ((congrArg (· + _) (hfd.g y2 y3)).trans ((part_succ _ _).trans ?_))
    exact landIn (args m c) t h3 0 y2 y3 (by blk_ext [idx t])
theorem final5 (c : Dev nD) : (dats m 0 c).arrAt 5 cfg0.N = gOut (args m c) := by
  refine (dats m 0 c).arrAt_eq_of_covers 5 _ (by decide +kernel) fun t hf y => ?_
  blk_simp; rw [after0_5]
  have ht := hN t
  have h3 : t.val % 4 = 3 := (flush0_5 t).mp hf
  have hfd := found m c t h3
  rw [outsAt0_C m c t (by omega) h3]; frame_out
  simp only [read_unread_whole]
  idx_vars y
  pointwise [k0_pay4]
  refine (addO m c t _ y1 y2).trans ((congrArg (· + _) (hfd.o y1 y2)).trans ((part_succ _ _).trans ?_))
  exact landOut (args m c) t h3 y1 y2 (by blk_ext [idx t])

end Cert.FfnBwdWIdeal.Mine

end

end
-- ==== Proof.FfnW.Claim.lean ====
module

public import proofs.«01_k».proof.Defs
public import proofs.«01_k».proof.Proof.FfnW.Kernel
public import proofs.«01_k».proof.Proof.Gen.FfnBwdWRefIdeal.Run
public import Idealize.ShloMosaic.Lib.Quiescent

/-! The gradients of the feed-forward weights: kernel and reference leave the same two arrays. -/

@[expose] public section

set_option maxRecDepth 16384

noncomputable section

open Idealize.ShloMosaic Idealize.ShloMosaic.TcCoe Idealize.SL.Sem

namespace Cert.FfnW
open FfnBwdWIdeal.Mine Sums

/-- All four blocks of rows are all rows, which the reference takes sequence by sequence. -/
theorem part_all (f : ℕ → EReal) : part f 4 = ∑ b : Fin 2, ∑ t : Fin 2048, f (b.val * 2048 + t.val) :=
  (Sums.blocks 4 1024 4096 rfl f).trans (Sums.pairs 2 2048 4096 rfl f)

section
open FfnBwdWRefIdeal FfnBwdWRefIdeal.Gen

theorem ref_in (A : Args) :
    (truncf .bf16 (shapeCast _ (transpose S5632x1024 [1, 0] (transpose S1024x5632 [1, 0] (Host.dotGeneral (F := Ideal) (φ₁ := .f32) (φ₂ := .f32) dot_S2x2048x5632_S2x2048x1024_S5632x1024_01_01_2_2_n_n none A.dz A.h) transposes_S5632x1024_S1024x5632_1_0) transposes_S1024x5632_S5632x1024_1_0) shapeCasts_S5632x1024_S2x4x704x1024) bitsLt_bf16_f32 : FVec Ideal S2x4x704x1024 .bf16) = gIn A := by
  funext y
  idx_vars y
  pointwise [gIn]
  refine Eq.trans ?_ (part_all _).symm
  refine Finset.sum_congr rfl fun b _ => Finset.sum_congr rfl fun t _ => ?_
  have h : y1.val % 4 = y1.val := by omega
  simp only [termIn, bat_of, pl_of, h]
theorem ref_out (A : Args) :
    (truncf .bf16 (shapeCast _ (transpose S2816x1024 [1, 0] (Host.dotGeneral (F := Ideal) (φ₁ := .f32) (φ₂ := .f32) dot_S2x2048x1024_S2x2048x2816_S1024x2816_01_01_2_2_n_n none A.dout A.hid) transposes_S1024x2816_S2816x1024_1_0) shapeCasts_S2816x1024_S4x704x1024) bitsLt_bf16_f32 : FVec Ideal S4x704x1024 .bf16) = gOut A := by
  funext y
  idx_vars y
  pointwise [gOut]
  refine Eq.trans ?_ (part_all _).symm
  refine Finset.sum_congr rfl fun b _ => Finset.sum_congr rfl fun t _ => ?_
  have h : y0.val % 4 = y0.val := by omega
  simp only [termOut, bat_of, pl_of, h]
  exact mul_comm _ _
end

/-- The same four arguments, of the reference. -/
def refArgs (m : (ℓ : Loc FfnBwdWRefIdeal.nD FfnBwdWRefIdeal.τ FfnBwdWRefIdeal.sig) → Buf (Elt Ideal) ℓ)
    (c : Dev FfnBwdWRefIdeal.nD) : Args :=
  ⟨m (c.tc.loc FfnBwdWRefIdeal.main_arg0), m (c.tc.loc FfnBwdWRefIdeal.main_arg1),
    m (c.tc.loc FfnBwdWRefIdeal.main_arg4), m (c.tc.loc FfnBwdWRefIdeal.main_arg5)⟩

/-- Kernel and reference compute the same two gradients over the extended reals. -/
theorem algebraic : Cert.algebraic_FfnBwdWIdeal_FfnBwdWRefIdeal := by
  intro m g m' g' _ hagree
  refine ⟨fun c => gIn (args m c), fun c => gOut (args m c), ?_, ?_⟩
  · exact (θ_run FfnBwdWIdeal.defs _ _).mono (fun r h c =>
      ⟨(h c).1.trans (final4 m c), (h c).2.1.trans (final5 m c), (h c).2.2⟩) (FfnBwdWIdeal.Value.run_blocks m g)
  · refine (θ_run FfnBwdWRefIdeal.defs _ _).mono (fun r h c => ?_) (FfnBwdWRefIdeal.Value.run m' g')
    obtain ⟨h0, h1, h2, h3, h4, h5⟩ := hagree c
    have e : refArgs m' c = args m c := by
      show Args.mk _ _ _ _ = Args.mk _ _ _ _
      exact congr (congr (congr (congrArg Args.mk h0) h1) h4) h5
    have k := h c
    exact ⟨(k.1.trans (ref_in (refArgs m' c))).trans (congrArg gIn e),
      (k.2.1.trans (ref_out (refArgs m' c))).trans (congrArg gOut e), k.2.2⟩

/-- The reference terminates, leaves its arguments unchanged and every counter at zero. -/
theorem frame_ref : Cert.quiescent_FfnBwdWRefIdeal := fun m ρ _ =>
  (θ_run Cert.FfnBwdWRefIdeal.defs _ _).mono (fun r h => ⟨fun c => (h c).2.2, sem_eq_zero_of_no_sems (by decide) r.2⟩)
    (Cert.FfnBwdWRefIdeal.Value.run m ρ)

end Cert.FfnW

end

end
-- ==== Proof.FfnF.Kernel.lean ====
module

public import proofs.«01_k».proof.Proof.Gen.FfnFwdIdeal.Value
public import proofs.«01_k».proof.Proof.Ffn.Core
public import Idealize.ShloMosaic.Lib.Pipeline.ValueKit
public import Idealize.ShloMosaic.Lib.Pipeline.ReadBack
public import Idealize.ShloMosaic.Lib.Pointwise
public import Idealize.ShloMosaic.Lib.Claim

@[expose] public section

/-! The feed-forward block's forward pass: what the kernel's blocks hold after each point of the grid,
and the four results it returns. -/

set_option maxRecDepth 16384

noncomputable section

open Idealize.ShloMosaic Idealize.ShloMosaic.TcCoe Idealize.SL.Sem
open Idealize.ShloMosaic.Pipeline (Dat)

namespace Cert.FfnFwdIdeal.Mine
open Cert.FfnFwdIdeal Cert.FfnFwdIdeal.Gen Cert.Ffn Cert.Sums

variable (m : (ℓ : Loc nD τ sig) → Buf (Elt Ideal) ℓ)

/-- The arguments, entry by entry. -/
def args (c : Dev nD) : In where
  x b t e := (m (c, Proc.tc.devRef main_arg0) : Vec Ideal S2x2048x1024 .f32) (ix3 b t e)
  mod b k e := (m (c, Proc.tc.devRef main_arg1) : Vec Ideal S2x3x1024 .f32) (ix3 b k e)
  g e := (m (c, Proc.tc.devRef main_arg2) : Vec Ideal S1024 .f32) (ix1 e)
  wi e k := (m (c, Proc.tc.devRef main_arg3) : Vec Ideal S1024x5632 .f32) (ix2 e k)
  wo f e := (m (c, Proc.tc.devRef main_arg4) : Vec Ideal S2816x1024 .f32) (ix2 f e)

/-! The arrays that the host prepares. -/

theorem arr_x (c : Dev nD) (r : Fin 4096) (e : Fin 1024) :
    V m c main_v0 (ix2 r e) = (args m c).x (bat r.val) (pl r.val) e := by
  entry_read
  pointwise [args]
  have h : r.val / 2048 % 2 = r.val / 2048 := by omega
  simp only [bat, pl, h]
theorem arr_mod (c : Dev nD) (b : Fin 2) (k : Fin 3) (e : Fin 1024) :
    V m c main_arg1 (ix3 b k e) = (args m c).mod b k e := by
  entry_read; rfl
theorem arr_g (c : Dev nD) (k : Fin 1) (e : Fin 1024) : V m c main_v1 (ix2 k e) = (args m c).g e := by
  entry_read
  pointwise [args]
theorem arr_wi (c : Dev nD) (s : Fin 2) (j : Fin 4) (f : Fin 704) (e : Fin 1024) :
    V m c main_v4 (ix4 s j f e) = (args m c).wi e ⟨s.val * 2816 + j.val % 4 * 704 + f.val, by omega⟩ := by
  entry_read
  pointwise [args]
  have h : j.val % 4 = j.val := by omega
  simp only [h]
theorem arr_wo (c : Dev nD) (j : Fin 4) (f : Fin 704) (e : Fin 1024) :
    V m c main_v6 (ix3 j f e) = (args m c).wo (col j.val f) e := by
  entry_read
  pointwise [args]
  have h : j.val % 4 = j.val := by omega
  simp only [col, h]

theorem idx : ∀ t : Fin grid0.N,
    win0_0.index t = ![t.val / 4, 0] ∧ win0_1.index t = ![t.val / 16, 0, 0] ∧
    win0_2.index t = ![0, 0] ∧ win0_3.index t = ![0, t.val % 4, 0, 0] ∧ win0_4.index t = ![t.val % 4, 0, 0] ∧
    win0_5.index t = ![t.val / 4, 0] ∧ win0_6.index t = ![0, t.val % 4, t.val / 4, 0] ∧
    win0_7.index t = ![t.val % 4, t.val / 4, 0] ∧ win0_8.index t = ![t.val / 4, 0] := by
  decide +kernel

theorem hN (t : Fin cfg0.N) : t.val < 32 := t.isLt

/-- The row of the flat batch that place `r` of a point's block is. -/
abbrev row (t : Fin cfg0.N) (r : Fin 512) : Fin 4096 := ⟨t.val / 4 * 512 + r.val, by have := hN t; omega⟩

theorem blk0 (c : Dev nD) (t : Fin cfg0.N) (r : Fin 512) (e : Fin 1024) :
    iblk m c 0 t (ix2 r e) = (args m c).x (bat (row t r).val) (pl (row t r).val) e := by
  rw [← arr_x]; blk_point [iblk, idx t]
theorem blk1 (c : Dev nD) (t : Fin cfg0.N) (r : Fin 512) (k : Fin 3) (e : Fin 1024) :
    iblk m c 1 t (ix3 0 k e) = (args m c).mod (bat (row t r).val) k e := by
  have h : bat (row t r).val = ⟨t.val / 16, by have := hN t; omega⟩ :=
    Fin.ext (by have := hN t; show (t.val / 4 * 512 + r.val) / 2048 % 2 = t.val / 16; omega)
  rw [h, ← arr_mod]; blk_point [iblk, idx t]
theorem blk2 (c : Dev nD) (t : Fin cfg0.N) (e : Fin 1024) : iblk m c 2 t (ix2 0 e) = (args m c).g e := by
  rw [← arr_g m c 0]; blk_point [iblk, idx t]
theorem blk3 (c : Dev nD) (t : Fin cfg0.N) (s : Fin 2) (f : Fin 704) (e : Fin 1024) :
    iblk m c 3 t (ix4 s 0 f e) = (args m c).wi e ⟨s.val * 2816 + t.val % 4 % 4 * 704 + f.val, by omega⟩ := by
  rw [← arr_wi m c s ⟨t.val % 4, by omega⟩]; blk_point [iblk, idx t]
theorem blk4 (c : Dev nD) (t : Fin cfg0.N) (f : Fin 704) (e : Fin 1024) :
    iblk m c 4 t (ix3 0 f e) = (args m c).wo (col (t.val % 4) f) e := by
  rw [← arr_wo m c ⟨t.val % 4, by omega⟩]; blk_point [iblk, idx t]

/-! What a point computes, from a block that holds the normed rows. -/

/-- Block `h` holds the modulated, normed rows of point `t`. -/
def Normed (A : In) (t : Fin cfg0.N) (h : Vec Ideal S512x1024 .bf16) : Prop :=
  ∀ r e, h (ix2 r e) = hm A (bat (row t r).val) (pl (row t r).val) e

/-- The two tiles of the first weight that a point loads. -/
def wg (c : Dev nD) (t : Fin cfg0.N) : Vec Ideal S1x1x704x1024 .bf16 :=
  View.ld (iblk m c 3 t) (Rect.unit ![0, 0, 0, 0] ![1, 1, 704, 1024] inb_S2x1x704x1024_S1x1x704x1024_0_0_0_0)
def wu (c : Dev nD) (t : Fin cfg0.N) : Vec Ideal S1x1x704x1024 .bf16 :=
  View.ld (iblk m c 3 t) (Rect.unit ![1, 0, 0, 0] ![1, 1, 704, 1024] inb_S2x1x704x1024_S1x1x704x1024_1_0_0_0)
theorem wg_at (c : Dev nD) (t : Fin cfg0.N) (f : Fin 704) (e : Fin 1024) :
    wg m c t (ix4 0 0 f e) = (args m c).wi e (lft (col (t.val % 4) f)) := by
  pointwise [wg]
  rw [blk3]; exact congrArg ((args m c).wi e) (Fin.ext (by simp))
theorem wu_at (c : Dev nD) (t : Fin cfg0.N) (f : Fin 704) (e : Fin 1024) :
    wu m c t (ix4 0 0 f e) = (args m c).wi e (rgt (col (t.val % 4) f)) := by
  pointwise [wu]
  rw [blk3]; exact congrArg ((args m c).wi e) (Fin.ext (by simp [Nat.add_assoc]))

section
variable {m} {c : Dev nD} {t : Fin cfg0.N}

theorem norm_at : Normed (args m c) t (k0_pay4 (iblk m c 1 t) (iblk m c 0 t) (iblk m c 2 t)) := fun r e => by
  pointwise [k0_pay4]
  simp only [blk0, blk1 m c t r, blk2]
  rfl
variable {h : Vec Ideal S512x1024 .bf16} (hh : Normed (args m c) t h)
include hh
theorem gate_at (r : Fin 512) (f : Fin 704) :
    k0_pay6 h (wg m c t) (ix2 r f) = z (args m c) (bat (row t r).val) (pl (row t r).val) (lft (col (t.val % 4) f)) := by
  pointwise [k0_pay6]
  exact Finset.sum_congr rfl fun e _ => congrArg₂ _ (hh r e) (wg_at m c t f e)
theorem up_at (r : Fin 512) (f : Fin 704) :
    k0_pay7 h (wu m c t) (ix2 r f) = z (args m c) (bat (row t r).val) (pl (row t r).val) (rgt (col (t.val % 4) f)) := by
  pointwise [k0_pay7]
  exact Finset.sum_congr rfl fun e _ => congrArg₂ _ (hh r e) (wu_at m c t f e)
theorem hid_at (r : Fin 512) (f : Fin 704) :
    k0_pay10 h (wg m c t) (wu m c t) (ix2 r f) =
      hid (args m c) (bat (row t r).val) (pl (row t r).val) (col (t.val % 4) f) := by
  have e1 := gate_at hh r f
  have e2 := up_at hh r f
  show k0_pay6 h (wg m c t) (ix2 r f) * Ideal.logistic (k0_pay6 h (wg m c t) (ix2 r f)) * k0_pay7 h (wu m c t) (ix2 r f) = _
  rw [e1, e2]; rfl
theorem acc_at (acc : Vec Ideal S512x1024 .f32) (r : Fin 512) (e : Fin 1024) :
    k0_pay1 (k0_pay10 h (wg m c t) (wu m c t)) acc (iblk m c 4 t) (ix2 r e) =
      acc (ix2 r e) + ∑ f : Fin 704, (fun k => hid (args m c) (bat (row t r).val) (pl (row t r).val) k * (args m c).wo k e)
        (col (t.val % 4) f) := by
  pointwise [k0_pay1]
  exact congrArg _ (Finset.sum_congr rfl fun f _ => congrArg₂ _ (hid_at hh r f) (blk4 m c t f e))
end

/-- The accumulator holds the sums over the first `n` tiles of the projection. -/
def Sum (A : In) (t : Fin cfg0.N) (n : ℕ) (acc : Vec Ideal S512x1024 .f32) : Prop :=
  ∀ r e, acc (ix2 r e) = part (fun k => hid A (bat (row t r).val) (pl (row t r).val) k * A.wo k e) n

theorem scr_A (c : Dev nD) (t : Fin cfg0.N) (h0 : t.val % 4 = 0) (h1 : ¬ t.val % 4 = 3) :
    Normed (args m c) t (outsAt0 m c t.val t.isLt).2.2.2.2.1 ∧ Sum (args m c) t 1 (outsAt0 m c t.val t.isLt).2.2.2.2.2 := by
  rw [outsAt0_A m c t h0 h1]; frame_out
  refine ⟨norm_at, fun r e => (acc_at norm_at _ r e).trans ?_⟩
  rw [show (k0_pay5 (F := Ideal)) (ix2 r e) = (0 : EReal) by pointwise [k0_pay5]]
  exact part_one (fun k => hid (args m c) (bat (row t r).val) (pl (row t r).val) k * (args m c).wo k e) _ h0
theorem scr_B (c : Dev nD) (t : Fin cfg0.N) (h0 : ¬ t.val % 4 = 0) (h1 : ¬ t.val % 4 = 3)
    (ih : Normed (args m c) t (outsAt0 m c (t.val - 1) (lt_of_le_of_lt (Nat.sub_le _ _) t.isLt)).2.2.2.2.1 ∧
      Sum (args m c) t (t.val % 4) (outsAt0 m c (t.val - 1) (lt_of_le_of_lt (Nat.sub_le _ _) t.isLt)).2.2.2.2.2) :
    Normed (args m c) t (outsAt0 m c t.val t.isLt).2.2.2.2.1 ∧
      Sum (args m c) t (t.val % 4 + 1) (outsAt0 m c t.val t.isLt).2.2.2.2.2 := by
  rw [outsAt0_B m c t h0 h1]; frame_out
  simp only [read_unread_whole]
  refine ⟨ih.1, fun r e => (acc_at ih.1 _ r e).trans ((congrArg (· + _) (ih.2 r e)).trans (part_succ _ _))⟩
theorem scr (c : Dev nD) (n : ℕ) (hn : n < cfg0.N) (h3 : ¬ n % 4 = 3) :
    Normed (args m c) ⟨n, hn⟩ (outsAt0 m c n hn).2.2.2.2.1 ∧
      Sum (args m c) ⟨n, hn⟩ (n % 4 + 1) (outsAt0 m c n hn).2.2.2.2.2 := by
  induction n with
  | zero => exact scr_A m c ⟨0, hn⟩ rfl h3
  | succ n ih =>
    by_cases h : (n + 1) % 4 = 0
    · rw [h]; exact scr_A m c ⟨n + 1, hn⟩ h h3
    · have e1 : n / 4 = (n + 1) / 4 := by omega
      have e2 : n % 4 + 1 = (n + 1) % 4 := by omega
      obtain ⟨i1, i2⟩ := ih (by omega) (by omega)
      have er : ∀ r, row ⟨n, by omega⟩ r = row ⟨n + 1, hn⟩ r := fun r => Fin.ext (by
        show n / 4 * 512 + r.val = (n + 1) / 4 * 512 + r.val; omega)
      refine scr_B m c ⟨n + 1, hn⟩ h h3 ⟨fun r e => (i1 r e).trans (by rw [er]), fun r e => (i2 r e).trans (by rw [er, e2])⟩
/-- What a later point of a run of four finds: the normed rows, and the sums over the tiles before its own. -/
theorem found (c : Dev nD) (t : Fin cfg0.N) (h0 : ¬ t.val % 4 = 0) :
    Normed (args m c) t (outsAt0 m c (t.val - 1) (lt_of_le_of_lt (Nat.sub_le _ _) t.isLt)).2.2.2.2.1 ∧
      Sum (args m c) t (t.val % 4) (outsAt0 m c (t.val - 1) (lt_of_le_of_lt (Nat.sub_le _ _) t.isLt)).2.2.2.2.2 := by
  have e2 : (t.val - 1) % 4 + 1 = t.val % 4 := by omega
  obtain ⟨i1, i2⟩ := scr m c (t.val - 1) (lt_of_le_of_lt (Nat.sub_le _ _) t.isLt) (by omega)
  have er : ∀ r, row ⟨t.val - 1, lt_of_le_of_lt (Nat.sub_le _ _) t.isLt⟩ r = row t r := fun r => Fin.ext (by
    show (t.val - 1) / 4 * 512 + r.val = t.val / 4 * 512 + r.val; omega)
  exact ⟨fun r e => (i1 r e).trans (by rw [er]), fun r e => (i2 r e).trans (by rw [er, e2])⟩

/-! The four results. -/

def gXn (A : In) : Vec Ideal S4096x1024 .f32 := fun i => xn A (bat (i 0).val) (pl (i 0).val) (i 1)
def gY (A : In) : Vec Ideal S4096x1024 .bf16 := fun i => Ffn.y A (bat (i 0).val) (pl (i 0).val) (i 1)
def gHid (A : In) : Vec Ideal S4x4096x704 .bf16 := fun i => hid A (bat (i 1).val) (pl (i 1).val) (col (i 0).val (i 2))
def gZ (A : In) : Vec Ideal S2x4x4096x704 .bf16 := fun i =>
  z A (bat (i 2).val) (pl (i 2).val) ⟨(i 0).val * 2816 + (i 1).val * 704 + (i 3).val, by
    have h0 : (i 0).val < 2 := (i 0).isLt
    have h1 : (i 1).val < 4 := (i 1).isLt
    have h3 : (i 3).val < 704 := (i 3).isLt
    omega⟩

section
variable {A : In} {t : Fin cfg0.N} {r : Fin 512}
theorem landXn (e : Fin 1024) {i : S4096x1024.Idx} (hi : i = ix2 (row t r) e) :
    xn A (bat (row t r).val) (pl (row t r).val) e = gXn A i := by subst hi; rfl
theorem landY (e : Fin 1024) {i : S4096x1024.Idx} (hi : i = ix2 (row t r) e) :
    Ffn.y A (bat (row t r).val) (pl (row t r).val) e = gY A i := by subst hi; rfl
theorem landHid (f : Fin 704) {i : S4x4096x704.Idx} (hi : i = ix3 ⟨t.val % 4, by omega⟩ (row t r) f) :
    hid A (bat (row t r).val) (pl (row t r).val) (col (t.val % 4) f) = gHid A i := by subst hi; rfl
theorem landL (f : Fin 704) {i : S2x4x4096x704.Idx} (hi : i = ix4 0 ⟨t.val % 4, by omega⟩ (row t r) f) :
    z A (bat (row t r).val) (pl (row t r).val) (lft (col (t.val % 4) f)) = gZ A i := by
  subst hi
  exact congrArg (z A (bat (row t r).val) (pl (row t r).val)) (Fin.ext (by
    show t.val % 4 % 4 * 704 + f.val = 0 * 2816 + t.val % 4 * 704 + f.val; omega))
theorem landR (f : Fin 704) {i : S2x4x4096x704.Idx} (hi : i = ix4 1 ⟨t.val % 4, by omega⟩ (row t r) f) :
    z A (bat (row t r).val) (pl (row t r).val) (rgt (col (t.val % 4) f)) = gZ A i := by
  subst hi
  exact congrArg (z A (bat (row t r).val) (pl (row t r).val)) (Fin.ext (by
    show 2816 + (t.val % 4 % 4 * 704 + f.val) = 1 * 2816 + t.val % 4 * 704 + f.val; omega))
end

/-- At a run's last point the accumulator becomes the whole projection. -/
theorem proj (c : Dev nD) (t : Fin cfg0.N) (h3 : t.val % 4 = 3) (r : Fin 512) (e : Fin 1024) :
    k0_pay1 (k0_pay10 (outsAt0 m c (t.val - 1) (lt_of_le_of_lt (Nat.sub_le _ _) t.isLt)).2.2.2.2.1 (wg m c t) (wu m c t))
      (outsAt0 m c (t.val - 1) (lt_of_le_of_lt (Nat.sub_le _ _) t.isLt)).2.2.2.2.2 (iblk m c 4 t) (ix2 r e) =
      Ffn.y (args m c) (bat (row t r).val) (pl (row t r).val) e := by
  obtain ⟨hh, ha⟩ := found m c t (by omega)
  refine (acc_at hh _ r e).trans ((congrArg (· + _) (ha r e)).trans ((part_succ _ _).trans ?_))
  rw [h3]; exact part_all _

theorem final5 (c : Dev nD) : (dats m 0 c).arrAt 5 cfg0.N = gXn (args m c) := by
  refine (dats m 0 c).arrAt_eq_of_covers 5 _ (by decide +kernel) fun t hf y => ?_
  blk_simp; rw [after0_5]
  have ht := hN t
  have h3 : t.val % 4 = 3 := (flush0_5 t).mp hf
  rw [outsAt0_C m c t (by omega) h3]; frame_out
  simp only [read_unread_whole]
  idx_vars y
  pointwise [k0_pay3]
  refine Eq.trans ?_ (landXn (A := args m c) (t := t) (r := y0) y1 (by blk_ext [idx t]))
  exact congrArg₂ (· + ·) (blk0 m c t y0 y1) (congrArg₂ (· * ·) (congrArg (fun v => half * (1 + v)) (blk1 m c t y0 2 y1)) (proj m c t h3 y0 y1))
theorem final8 (c : Dev nD) : (dats m 0 c).arrAt 8 cfg0.N = gY (args m c) := by
  refine (dats m 0 c).arrAt_eq_of_covers 8 _ (by decide +kernel) fun t hf y => ?_
  blk_simp; rw [after0_8]
  have ht := hN t
  have h3 : t.val % 4 = 3 := (flush0_8 t).mp hf
  rw [outsAt0_C m c t (by omega) h3]; frame_out
  simp only [read_unread_whole]
  idx_vars y
  pointwise [k0_pay2]
  exact (proj m c t h3 y0 y1).trans (landY y1 (by blk_ext [idx t]))

theorem st_hid {c : Dev nD} {t : Fin cfg0.N} {h : Vec Ideal S512x1024 .bf16} (hh : Normed (args m c) t h)
    (z0 : Fin 1) (r : Fin 512) (f : Fin 704) : k0_pay11 h (wg m c t) (wu m c t) (ix3 z0 r f) =
      hid (args m c) (bat (row t r).val) (pl (row t r).val) (col (t.val % 4) f) := by
  pointwise [k0_pay11]
  exact hid_at hh r f
theorem st_g {c : Dev nD} {t : Fin cfg0.N} {h : Vec Ideal S512x1024 .bf16} (hh : Normed (args m c) t h)
    (z0 z1 : Fin 1) (r : Fin 512) (f : Fin 704) : k0_pay8 h (wg m c t) (ix4 z0 z1 r f) =
      z (args m c) (bat (row t r).val) (pl (row t r).val) (lft (col (t.val % 4) f)) := by
  pointwise [k0_pay8]
  exact gate_at hh r f
theorem st_u {c : Dev nD} {t : Fin cfg0.N} {h : Vec Ideal S512x1024 .bf16} (hh : Normed (args m c) t h)
    (z0 z1 : Fin 1) (r : Fin 512) (f : Fin 704) : k0_pay9 h (wu m c t) (ix4 z0 z1 r f) =
      z (args m c) (bat (row t r).val) (pl (row t r).val) (rgt (col (t.val % 4) f)) := by
  pointwise [k0_pay9]
  exact up_at hh r f

theorem final7 (c : Dev nD) : (dats m 0 c).arrAt 7 cfg0.N = gHid (args m c) := by
  refine (dats m 0 c).arrAt_eq_of_covers 7 _ (by decide +kernel) fun t hf y => ?_
  blk_simp; rw [after0_7]
  have ht := hN t
  by_cases h0 : t.val % 4 = 0
  · rw [outsAt0_A m c t h0 (by omega)]; frame_out
    idx_vars y
    exact (st_hid m norm_at y0 y1 y2).trans (landHid y2 (by blk_ext [idx t]))
  · have hh := (found m c t h0).1
    by_cases h3 : t.val % 4 = 3
    · rw [outsAt0_C m c t h0 h3]; frame_out
      simp only [read_unread_whole]
      idx_vars y
      exact (st_hid m hh y0 y1 y2).trans (landHid y2 (by blk_ext [idx t]))
    · rw [outsAt0_B m c t h0 h3]; frame_out
      simp only [read_unread_whole]
      idx_vars y
      exact (st_hid m hh y0 y1 y2).trans (landHid y2 (by blk_ext [idx t]))
set_option maxHeartbeats 1600000 in
theorem final6 (c : Dev nD) : (dats m 0 c).arrAt 6 cfg0.N = gZ (args m c) := by
  refine (dats m 0 c).arrAt_eq_of_covers 6 _ (by decide +kernel) fun t hf y => ?_
  blk_simp; rw [after0_6]
  have ht := hN t
  by_cases h0 : t.val % 4 = 0
  · rw [outsAt0_A m c t h0 (by omega)]; frame_out
    canon_tiles y h1
    · idx_vars y
      exact (st_u m norm_at y0 y1 y2 y3).trans (landR y3 (by blk_ext [idx t]))
    · idx_vars y
      exact (st_g m norm_at y0 y1 y2 y3).trans (landL y3 (by blk_ext [idx t]))
  · have hh := (found m c t h0).1
    by_cases h3 : t.val % 4 = 3
    · rw [outsAt0_C m c t h0 h3]; frame_out
      simp only [read_unread_whole]
      canon_tiles y h1
      · idx_vars y
        exact (st_u m hh y0 y1 y2 y3).trans (landR y3 (by blk_ext [idx t]))
      · idx_vars y
        exact (st_g m hh y0 y1 y2 y3).trans (landL y3 (by blk_ext [idx t]))
    · rw [outsAt0_B m c t h0 h3]; frame_out
      simp only [read_unread_whole]
      canon_tiles y h1
      · idx_vars y
        exact (st_u m hh y0 y1 y2 y3).trans (landR y3 (by blk_ext [idx t]))
      · idx_vars y
        exact (st_g m hh y0 y1 y2 y3).trans (landL y3 (by blk_ext [idx t]))

end Cert.FfnFwdIdeal.Mine

end

end
-- ==== Proof.FfnF.Claim.lean ====
module

public import proofs.«01_k».proof.Defs
public import proofs.«01_k».proof.Proof.FfnF.Kernel
public import proofs.«01_k».proof.Proof.Gen.FfnFwdRefIdeal.Run
public import Idealize.ShloMosaic.Lib.Quiescent

/-! The feed-forward block's forward pass: kernel and reference leave the same four arrays. -/

@[expose] public section

set_option maxRecDepth 16384

noncomputable section

open Idealize.ShloMosaic Idealize.ShloMosaic.TcCoe Idealize.SL.Sem

namespace Cert.FfnFwdRefIdeal.Mine
open Cert.FfnFwdRefIdeal Cert.FfnFwdRefIdeal.Gen Cert.FfnFwdRefIdeal.Value Cert.Ffn Cert.Sums

variable (m : (ℓ : Loc nD τ sig) → Buf (Elt Ideal) ℓ)

/-- The reference's arguments, entry by entry. -/
def args (c : Dev nD) : In where
  x b t e := (m (c, Proc.tc.devRef main_arg0) : Vec Ideal S2x2048x1024 .f32) (ix3 b t e)
  mod b k e := (m (c, Proc.tc.devRef main_arg1) : Vec Ideal S2x3x1024 .f32) (ix3 b k e)
  g e := (m (c, Proc.tc.devRef main_arg2) : Vec Ideal S1024 .f32) (ix1 e)
  wi e k := (m (c, Proc.tc.devRef main_arg3) : Vec Ideal S1024x5632 .f32) (ix2 e k)
  wo f e := (m (c, Proc.tc.devRef main_arg4) : Vec Ideal S2816x1024 .f32) (ix2 f e)

theorem bat_at (r : Fin 4096) : bat r.val = ⟨r.val / 2048, by omega⟩ :=
  Fin.ext (by show r.val / 2048 % 2 = r.val / 2048; omega)
theorem col_at (j : Fin 4) (f : Fin 704) : col j.val f = ⟨j.val * 704 + f.val, by omega⟩ :=
  Fin.ext (by show j.val % 4 * 704 + f.val = j.val * 704 + f.val; omega)

/-! The reference's stages: the normed rows, the first product, the gated product and the second product. -/

def hV (c : Dev nD) : FVec Ideal S2x2048x1024 .f32 :=
  addf (mulf (mulf (mulf (m (c.tc.loc main_arg0)) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (m (c.tc.loc main_arg0)) (m (c.tc.loc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (m (c.tc.loc main_arg2))))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (m (c.tc.loc main_arg1)) slices_S2x3x1024_S2x1x1024_0_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 0, 0] (m (c.tc.loc main_arg1)) slices_S2x3x1024_S2x1x1024_0_0_0) shapeCasts_S2x1x1024_S2x1024)))
def zV (c : Dev nD) : FVec Ideal S2x2048x5632 .f32 :=
  Host.dotGeneral (φ₁ := .f32) (φ₂ := .f32) dot_S2x2048x1024_S1024x5632_S2x2048x5632_2_0_01_1_n_n none (hV m c) (m (c.tc.loc main_arg3))
def hidV (c : Dev nD) : FVec Ideal S2x2048x2816 .f32 :=
  mulf (mulf (extractStridedSlice S2x2048x2816 ![0, 0, 0] (zV m c) slices_S2x2048x5632_S2x2048x2816_0_0_0) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (extractStridedSlice S2x2048x2816 ![0, 0, 0] (zV m c) slices_S2x2048x5632_S2x2048x2816_0_0_0)))))) (extractStridedSlice S2x2048x2816 ![0, 0, 2816] (zV m c) slices_S2x2048x5632_S2x2048x2816_0_0_2816)
def yV (c : Dev nD) : FVec Ideal S2x2048x1024 .f32 :=
  Host.dotGeneral (φ₁ := .f32) (φ₂ := .f32) dot_S2x2048x2816_S2816x1024_S2x2048x1024_2_0_01_1_n_n none (hidV m c) (m (c.tc.loc main_arg4))

def xnV (c : Dev nD) : FVec Ideal S2x2048x1024 .f32 :=
  addf (m (c.tc.loc main_arg0)) (mulf (broadcastInDim S2x2048x1024 ![0, 1, 2] bcast_S2x1x1024_S2x2048x1024_0_1_2 (mulf (broadcastInDim S2x1x1024 ![] bcast_S_S2x1x1024 (constant S_ .f32 0x3F000000#32)) (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 2, 0] (m (c.tc.loc main_arg1)) slices_S2x3x1024_S2x1x1024_0_2_0) shapeCasts_S2x1x1024_S2x1024))))) (yV m c))

theorem hV_at (c : Dev nD) (b : Fin 2) (t : Fin 2048) (e : Fin 1024) : hV m c (ix3 b t e) = hm (args m c) b t e := by
  pointwise [hV]; rfl
theorem zV_at (c : Dev nD) (b : Fin 2) (t : Fin 2048) (k : Fin 5632) : zV m c (ix3 b t k) = z (args m c) b t k := by
  pointwise [zV]
  simp only [hV_at]; rfl
theorem hidV_at (c : Dev nD) (b : Fin 2) (t : Fin 2048) (f : Fin 2816) : hidV m c (ix3 b t f) = hid (args m c) b t f := by
  pointwise [hidV]
  simp only [zV_at]; rfl
theorem yV_at (c : Dev nD) (b : Fin 2) (t : Fin 2048) (e : Fin 1024) : yV m c (ix3 b t e) = Ffn.y (args m c) b t e := by
  pointwise [yV]
  simp only [hidV_at]; rfl

theorem xnV_at (c : Dev nD) (b : Fin 2) (t : Fin 2048) (e : Fin 1024) : xnV m c (ix3 b t e) = xn (args m c) b t e := by
  pointwise [xnV]
  rw [yV_at]; rfl

theorem ref_y (c : Dev nD) :
    (truncf .bf16 (shapeCast _ (yV m c) shapeCasts_S2x2048x1024_S4096x1024) bitsLt_bf16_f32 : FVec Ideal S4096x1024 .bf16) = FfnFwdIdeal.Mine.gY (args m c) := by
  funext i
  idx_vars i
  pointwise [FfnFwdIdeal.Mine.gY]
  rw [bat_at, yV_at]
theorem ref_xn (c : Dev nD) :
    (shapeCast _ (xnV m c) shapeCasts_S2x2048x1024_S4096x1024 : FVec Ideal S4096x1024 .f32) = FfnFwdIdeal.Mine.gXn (args m c) := by
  funext i
  idx_vars i
  pointwise [FfnFwdIdeal.Mine.gXn]
  rw [bat_at, xnV_at]
theorem ref_hid (c : Dev nD) :
    (truncf .bf16 (transpose S4x4096x704 [1, 0, 2] (shapeCast _ (hidV m c) shapeCasts_S2x2048x2816_S4096x4x704) transposes_S4096x4x704_S4x4096x704_1_0_2) bitsLt_bf16_f32 : FVec Ideal S4x4096x704 .bf16) = FfnFwdIdeal.Mine.gHid (args m c) := by
  funext i
  idx_vars i
  pointwise [FfnFwdIdeal.Mine.gHid]
  rw [bat_at, col_at, hidV_at]
theorem ref_z (c : Dev nD) :
    (truncf .bf16 (transpose S2x4x4096x704 [1, 2, 0, 3] (shapeCast _ (zV m c) shapeCasts_S2x2048x5632_S4096x2x4x704) transposes_S4096x2x4x704_S2x4x4096x704_1_2_0_3) bitsLt_bf16_f32 : FVec Ideal S2x4x4096x704 .bf16) = FfnFwdIdeal.Mine.gZ (args m c) := by
  funext i
  idx_vars i
  pointwise [FfnFwdIdeal.Mine.gZ]
  rw [bat_at, zV_at]

end Cert.FfnFwdRefIdeal.Mine

namespace Cert.FfnF

/-- Kernel and reference compute the same four results over the extended reals. -/
theorem algebraic : Cert.algebraic_FfnFwdIdeal_FfnFwdRefIdeal := by
  intro m g m' g' _ hagree
  refine ⟨fun c => FfnFwdIdeal.Mine.gXn (FfnFwdIdeal.Mine.args m c), fun c => FfnFwdIdeal.Mine.gZ (FfnFwdIdeal.Mine.args m c),
    fun c => FfnFwdIdeal.Mine.gHid (FfnFwdIdeal.Mine.args m c), fun c => FfnFwdIdeal.Mine.gY (FfnFwdIdeal.Mine.args m c), ?_, ?_⟩
  · exact (θ_run FfnFwdIdeal.defs _ _).mono (fun r h c =>
      ⟨(h c).1.trans (FfnFwdIdeal.Mine.final5 m c), (h c).2.1.trans (FfnFwdIdeal.Mine.final6 m c),
        (h c).2.2.1.trans (FfnFwdIdeal.Mine.final7 m c), (h c).2.2.2.1.trans (FfnFwdIdeal.Mine.final8 m c), (h c).2.2.2.2⟩)
      (FfnFwdIdeal.Value.run_blocks m g)
  · refine (θ_run FfnFwdRefIdeal.defs _ _).mono (fun r h c => ?_) (FfnFwdRefIdeal.Value.run m' g')
    obtain ⟨h0, h1, h2, h3, h4⟩ := hagree c
    have e : FfnFwdRefIdeal.Mine.args m' c = FfnFwdIdeal.Mine.args m c := by
      show Ffn.In.mk _ _ _ _ _ = Ffn.In.mk _ _ _ _ _
      congr 1
      · funext b t e; exact congrFun h0 _
      · funext b t e; exact congrFun h1 _
      · funext e; exact congrFun h2 _
      · funext b e; exact congrFun h3 _
      · funext b e; exact congrFun h4 _
    obtain ⟨k0, k1, k2, k3, k4⟩ := h c
    refine ⟨(k0.trans (FfnFwdRefIdeal.Mine.ref_xn m' c)).trans (congrArg FfnFwdIdeal.Mine.gXn e),
      (k1.trans (FfnFwdRefIdeal.Mine.ref_z m' c)).trans (congrArg FfnFwdIdeal.Mine.gZ e),
      (k2.trans (FfnFwdRefIdeal.Mine.ref_hid m' c)).trans (congrArg FfnFwdIdeal.Mine.gHid e),
      (k3.trans (FfnFwdRefIdeal.Mine.ref_y m' c)).trans (congrArg FfnFwdIdeal.Mine.gY e), k4⟩

/-- The reference terminates, leaves its arguments unchanged and every counter at zero. -/
theorem frame_ref : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run m ρ)

end Cert.FfnF

end

end
-- ==== Proof.FfnA.Points.lean ====
module

public import proofs.«01_k».proof.Proof.FfnA.Blocks
public import Idealize.ShloMosaic.Lib.Pipeline.ValueKit
public import Idealize.ShloMosaic.Lib.Pipeline.ReadBack
public import Idealize.ShloMosaic.Lib.Pointwise
public import Idealize.ShloMosaic.Lib.Claim

@[expose] public section

/-! The gate-and-product backward call: what a point computes, and what it finds in the
scratch buffers and leaves there. -/

set_option maxRecDepth 16384

noncomputable section

open Idealize.ShloMosaic Idealize.ShloMosaic.TcCoe Idealize.SL.Sem
open Idealize.ShloMosaic.Pipeline (Dat)

namespace Cert.FfnBwdAIdeal.Mine
open Cert.FfnBwdAIdeal Cert.FfnBwdAIdeal.Gen Cert.FfnBwdAIdeal.Own Cert.Ffn Cert.FfnA Cert.Sums

variable (m : (ℓ : Loc nD τ sig) → Buf (Elt Ideal) ℓ)

/-- Block `h` holds the inner result's gradient at the rows of point `t`. -/
def Dout (B : Bk) (t : Fin cfg0.N) (h : Vec Ideal S512x1024 .bf16) : Prop :=
  ∀ r e, h (ix2 r e) = dout B (rb t r) (rp t r) e

/-- What the accumulator becomes at a point that finds the rows' gradient `h` and the sums `acc`. -/
abbrev grown (c : Dev nD) (t : Fin cfg0.N) (h : Vec Ideal S512x1024 .bf16) (acc : Vec Ideal S512x1024 .f32) :
    Vec Ideal S512x1024 .f32 :=
  k0_pay2 (k0_pay34 h (iblk m c 7 t) (zl m c t)) (k0_pay1 (k0_pay33 h (iblk m c 7 t) (zl m c t) (zr m c t)) acc (wl m c t)) (wr m c t)

section
variable {m} {c : Dev nD} {t : Fin cfg0.N}
theorem dout_at : Dout (args m c) t (k0_pay27 (iblk m c 2 t) (iblk m c 1 t)) := fun r e => by
  pointwise [k0_pay27]
  simp only [blk1, blk2 m c t r]
  rfl
theorem dout_at' : Dout (args m c) t (k0_pay28 (iblk m c 2 t) (iblk m c 1 t)) := fun r e => by
  pointwise [k0_pay28]
  exact dout_at r e
theorem p31 (v : Vec Ideal S1x1x512x704 .bf16) (r : Fin 512) (f : Fin 704) : k0_pay31 v (ix2 r f) = v (ix4 0 0 r f) := by
  pointwise [k0_pay31]
theorem p32 (v : Vec Ideal S1x1x512x704 .bf16) (r : Fin 512) (f : Fin 704) :
    k0_pay32 v (ix2 r f) = Ideal.logistic (v (ix4 0 0 r f)) :=
  congrArg Ideal.logistic (p31 v r f)
variable {h : Vec Ideal S512x1024 .bf16} (hh : Dout (args m c) t h)
include hh
theorem dhid_at (r : Fin 512) (f : Fin 704) :
    k0_pay30 h (iblk m c 7 t) (ix2 r f) = dhid (args m c) (rb t r) (rp t r) (col (t.val % 4) f) := by
  pointwise [k0_pay30]
  exact Finset.sum_congr rfl fun e _ => congrArg₂ _ (hh r e) (blk7 m c t f e)
theorem dl_at (r : Fin 512) (f : Fin 704) :
    k0_pay33 h (iblk m c 7 t) (zl m c t) (zr m c t) (ix2 r f) = dl (args m c) (rb t r) (rp t r) (col (t.val % 4) f) := by
  have e1 := dhid_at hh r f
  have e2 := p31 (zl m c t) r f
  have e3 := p32 (zl m c t) r f
  rw [zl_at] at e2 e3
  have e4 : shapeCast S512x704 (zr m c t) shapeCasts_S1x1x512x704_S512x704 (ix2 r f) = zr m c t (ix4 0 0 r f) := by pointwise
  rw [zr_at] at e4
  have one : Ideal.ofBits FTy.bf16 0x3F80#16 = 1 := by pointwise
  show k0_pay30 h (iblk m c 7 t) (ix2 r f) * shapeCast S512x704 (zr m c t) shapeCasts_S1x1x512x704_S512x704 (ix2 r f) *
    (k0_pay32 (zl m c t) (ix2 r f) * (Ideal.ofBits FTy.bf16 0x3F80#16 + k0_pay31 (zl m c t) (ix2 r f) *
      (Ideal.ofBits FTy.bf16 0x3F80#16 - k0_pay32 (zl m c t) (ix2 r f)))) = _
  rw [e1, e2, e3, e4, one]; rfl
theorem dr_at (r : Fin 512) (f : Fin 704) :
    k0_pay34 h (iblk m c 7 t) (zl m c t) (ix2 r f) = dr (args m c) (rb t r) (rp t r) (col (t.val % 4) f) := by
  have e1 := dhid_at hh r f
  have e2 := p31 (zl m c t) r f
  have e3 := p32 (zl m c t) r f
  rw [zl_at] at e2 e3
  show k0_pay30 h (iblk m c 7 t) (ix2 r f) * (k0_pay31 (zl m c t) (ix2 r f) * k0_pay32 (zl m c t) (ix2 r f)) = _
  rw [e1, e2, e3]; rfl
theorem acc_at (acc : Vec Ideal S512x1024 .f32) (r : Fin 512) (e : Fin 1024) :
    grown m c t h acc (ix2 r e) =
      acc (ix2 r e) + (∑ f : Fin 704, el (args m c) (rb t r) (rp t r) e (col (t.val % 4) f)) +
        ∑ f : Fin 704, er (args m c) (rb t r) (rp t r) e (col (t.val % 4) f) := by
  pointwise [grown, k0_pay2]
  refine congrArg₂ (· + ·) ?_ (Finset.sum_congr rfl fun f _ => congrArg₂ _ (dr_at hh r f) (wr_at m c t f e))
  pointwise [k0_pay1]
  exact congrArg _ (Finset.sum_congr rfl fun f _ => congrArg₂ _ (dl_at hh r f) (wl_at m c t f e))
end

/-- The accumulator holds the sums over the first `n` strips of the columns. -/
def Acc (B : Bk) (t : Fin cfg0.N) (n : ℕ) (acc : Vec Ideal S512x1024 .f32) : Prop :=
  ∀ r e, acc (ix2 r e) = part (el B (rb t r) (rp t r) e) n + part (er B (rb t r) (rp t r) e) n

/-- Points of one run of four have the same rows. -/
theorem same {t t' : Fin cfg0.N} (h : t.val / 4 = t'.val / 4) (r : Fin 512) : rb t r = rb t' r ∧ rp t r = rp t' r := by
  have e : row t r = row t' r := Fin.ext (by show t.val / 4 * 512 + r.val = t'.val / 4 * 512 + r.val; rw [h])
  exact ⟨congrArg (fun q : Fin 4096 => bat q.val) e, congrArg (fun q : Fin 4096 => pl q.val) e⟩
theorem Dout.same {B : Bk} {t t' : Fin cfg0.N} (h : t.val / 4 = t'.val / 4) {v : Vec Ideal S512x1024 .bf16} (hv : Dout B t v) :
    Dout B t' v := fun r e => by rw [← (Mine.same h r).1, ← (Mine.same h r).2]; exact hv r e
theorem Acc.same {B : Bk} {t t' : Fin cfg0.N} (h : t.val / 4 = t'.val / 4) {n : ℕ} {v : Vec Ideal S512x1024 .f32} (hv : Acc B t n v) :
    Acc B t' n v := fun r e => by rw [← (Mine.same h r).1, ← (Mine.same h r).2]; exact hv r e

theorem acc_add (u v : Fin 2816 → EReal) (n : ℕ) :
    part u n + part v n + (∑ r : Fin 704, u (col n r)) + ∑ r : Fin 704, v (col n r) = part u (n + 1) + part v (n + 1) := by
  rw [← part_succ, ← part_succ, add_assoc, add_add_add_comm]
theorem acc_zero (u v : Fin 2816 → EReal) (n : ℕ) (h : n = 0) :
    0 + (∑ r : Fin 704, u (col n r)) + ∑ r : Fin 704, v (col n r) = part u 1 + part v 1 := by
  rw [part_one u n h, ← part_one v n h, zero_add]

/-- What a point leaves in the scratch buffers: its rows' gradient, and the sums over the strips so far. -/
def Left (c : Dev nD) (t : Fin cfg0.N) (n : ℕ) (s : St Ideal) : Prop := Dout (args m c) t s.s0 ∧ Acc (args m c) t n s.s1

section
variable (c : Dev nD) (t : Fin cfg0.N)
theorem s1_A (h0 : t.val % 4 = 0) (p : St Ideal) :
    (stA m c t h0 p).s1 = grown m c t (k0_pay28 (iblk m c 2 t) (iblk m c 1 t)) (k0_pay29 (F := Ideal)) := by
  dsimp only [stA, atA]; frame_out; rfl
theorem s1_B (h0 : ¬t.val % 4 = 0) (h1 : ¬t.val % 4 = 3) (p : St Ideal) :
    (stB m c t h0 h1 p).s1 = grown m c t p.s0 p.s1 := by
  dsimp only [stB, atB]; frame_out; simp only [read_unread_whole]; rfl
theorem s0_A (h0 : t.val % 4 = 0) (p : St Ideal) : (stA m c t h0 p).s0 = k0_pay28 (iblk m c 2 t) (iblk m c 1 t) := by
  dsimp only [stA, atA]; frame_out
theorem s0_B (h0 : ¬t.val % 4 = 0) (h1 : ¬t.val % 4 = 3) (p : St Ideal) : (stB m c t h0 h1 p).s0 = p.s0 := by
  dsimp only [stB]
theorem o11_A (h0 : t.val % 4 = 0) (p : St Ideal) : (stA m c t h0 p).o11 = k0_pay27 (iblk m c 2 t) (iblk m c 1 t) := by
  dsimp only [stA, atA]; frame_out
end

theorem left_grown {c : Dev nD} {t : Fin cfg0.N} {h : Vec Ideal S512x1024 .bf16} {acc : Vec Ideal S512x1024 .f32}
    (hh : Dout (args m c) t h) (ha : Acc (args m c) t (t.val % 4) acc) : Acc (args m c) t (t.val % 4 + 1) (grown m c t h acc) := fun r e =>
  (acc_at hh acc r e).trans ((congrArg (· + _ + _) (ha r e)).trans (acc_add _ _ _))

theorem left_A (c : Dev nD) (t : Fin cfg0.N) (h0 : t.val % 4 = 0) : Left m c t 1 (upTo m c (t.val + 1)) := by
  rw [upTo_A m c t h0]
  refine ⟨?_, ?_⟩
  · rw [s0_A]; exact dout_at'
  · rw [s1_A]
    refine fun r e => (acc_at dout_at' _ r e).trans ?_
    rw [show (k0_pay29 (F := Ideal)) (ix2 r e) = (0 : EReal) by pointwise [k0_pay29]]
    exact acc_zero (el (args m c) (rb t r) (rp t r) e) (er (args m c) (rb t r) (rp t r) e) _ h0
theorem left_B (c : Dev nD) (t : Fin cfg0.N) (h0 : ¬t.val % 4 = 0) (h1 : ¬t.val % 4 = 3)
    (ih : Left m c t (t.val % 4) (upTo m c t.val)) : Left m c t (t.val % 4 + 1) (upTo m c (t.val + 1)) := by
  rw [upTo_B m c t h0 h1]
  refine ⟨by rw [s0_B]; exact ih.1, ?_⟩
  rw [s1_B]; exact left_grown m ih.1 ih.2
theorem left (c : Dev nD) (n : ℕ) (hn : n < cfg0.N) (h3 : ¬ n % 4 = 3) : Left m c ⟨n, hn⟩ (n % 4 + 1) (upTo m c (n + 1)) := by
  induction n with
  | zero => exact left_A m c ⟨0, hn⟩ rfl
  | succ n ih =>
    by_cases h : (n + 1) % 4 = 0
    · rw [show (n + 1) % 4 + 1 = 1 by omega]; exact left_A m c ⟨n + 1, hn⟩ h
    · have e1 : n / 4 = (n + 1) / 4 := by omega
      have e2 : n % 4 + 1 = (n + 1) % 4 := by omega
      obtain ⟨i1, i2⟩ := ih (by omega) (by omega)
      rw [e2] at i2
      exact left_B m c ⟨n + 1, hn⟩ h h3 ⟨i1.same (t' := ⟨n + 1, hn⟩) e1, i2.same (t' := ⟨n + 1, hn⟩) e1⟩
/-- What a later point of a run of four finds. -/
theorem found (c : Dev nD) (t : Fin cfg0.N) (h0 : ¬ t.val % 4 = 0) : Left m c t (t.val % 4) (upTo m c t.val) := by
  obtain ⟨n, hn⟩ := t
  cases n with
  | zero => exact absurd rfl h0
  | succ n =>
    dsimp only at h0 ⊢
    have e2 : n % 4 + 1 = (n + 1) % 4 := by omega
    obtain ⟨i1, i2⟩ := left m c n (by omega) (by omega)
    have e1 : n / 4 = (n + 1) / 4 := by omega
    rw [e2] at i2
    exact ⟨i1.same (t' := ⟨n + 1, hn⟩) e1, i2.same (t' := ⟨n + 1, hn⟩) e1⟩
/-- At a run's last point the accumulator becomes the gradient at the modulated rows. -/
theorem whole (c : Dev nD) (t : Fin cfg0.N) (h3 : t.val % 4 = 3) (r : Fin 512) (e : Fin 1024) :
    grown m c t (upTo m c t.val).s0 (upTo m c t.val).s1 (ix2 r e) = dh (args m c) (rb t r) (rp t r) e := by
  obtain ⟨hh, ha⟩ := found m c t (by omega)
  refine (left_grown m hh ha r e).trans ?_
  rw [h3]; exact congrArg₂ _ (part_all _) (part_all _)
theorem kept_A (c : Dev nD) (t : Fin cfg0.N) (h0 : t.val % 4 = 0) : Dout (args m c) t (upTo m c (t.val + 1)).o11 := by
  rw [upTo_A m c t h0, o11_A]; exact dout_at
/-- The window of the inner result's gradient keeps it through a run of four. -/
theorem kept (c : Dev nD) (n : ℕ) (hn : n < cfg0.N) : Dout (args m c) ⟨n, hn⟩ (upTo m c (n + 1)).o11 := by
  induction n with
  | zero => exact kept_A m c ⟨0, hn⟩ rfl
  | succ n ih =>
    by_cases h : (n + 1) % 4 = 0
    · exact kept_A m c ⟨n + 1, hn⟩ h
    · rw [pass_11 m c ⟨n + 1, hn⟩ h]
      exact (ih (by omega)).same (t' := ⟨n + 1, hn⟩) (by show n / 4 = (n + 1) / 4; omega)

end Cert.FfnBwdAIdeal.Mine

end

end
-- ==== Proof.FfnA.Last.lean ====
module

public import proofs.«01_k».proof.Proof.FfnA.Points
public import proofs.«01_k».proof.Proof.FfnA.Rows
public import Idealize.ShloMosaic.Lib.Pipeline.ValueKit
public import Idealize.ShloMosaic.Lib.Pipeline.ReadBack
public import Idealize.ShloMosaic.Lib.Pointwise
public import Idealize.ShloMosaic.Lib.Claim

@[expose] public section

/-! The gate-and-product backward call: what the last point of a run of four writes,
and the sums over rows that grow from one run to the next. -/

set_option maxRecDepth 16384

noncomputable section

open Idealize.ShloMosaic Idealize.ShloMosaic.TcCoe Idealize.SL.Sem
open Idealize.ShloMosaic.Pipeline (Dat)

namespace Cert.FfnBwdAIdeal.Mine
open Cert.FfnBwdAIdeal Cert.FfnBwdAIdeal.Gen Cert.FfnBwdAIdeal.Own Cert.Ffn Cert.FfnA Cert.Sums

variable (m : (ℓ : Loc nD τ sig) → Buf (Elt Ideal) ℓ)

/-- The window of the three gradients, entry by entry, after a last point that found `q` in it. -/
def Three (c : Dev nD) (t : Fin cfg0.N) (a : Vec Ideal S512x1024 .f32) (q w : Vec Ideal S1x3x1024 .f32) : Prop :=
  (∀ e, w (ix3 0 0 e) = q (ix3 0 0 e) + k0_pay18 a (ix2 0 e)) ∧
  (∀ e, w (ix3 0 1 e) = q (ix3 0 1 e) + k0_pay17 a (k0_pay11 (iblk m c 0 t) (iblk m c 3 t)) (ix2 0 e)) ∧
  (∀ e, w (ix3 0 2 e) = q (ix3 0 2 e) + k0_pay22 (iblk m c 1 t) (iblk m c 4 t) (ix2 0 e))

section
variable (c : Dev nD) (t : Fin cfg0.N) (p : St Ideal)
theorem o8_C (h1 : t.val % 4 = 3) (h2 : t.val % 16 < 4) (h3 : t.val < 4) : (stC m c t h1 h2 h3 p).o8 =
    k0_pay21 (k0_pay14 (iblk m c 2 t) (iblk m c 0 t) (iblk m c 3 t) (grown m c t p.s0 p.s1)) (iblk m c 1 t) := by
  dsimp only [stC, atC]; frame_out; simp only [read_unread_whole]; rfl
theorem o8_D (h1 : t.val % 4 = 3) (h2 : ¬t.val % 16 < 4) (h3 : ¬t.val < 4) : (stD m c t h1 h2 h3 p).o8 =
    k0_pay21 (k0_pay14 (iblk m c 2 t) (iblk m c 0 t) (iblk m c 3 t) (grown m c t p.s0 p.s1)) (iblk m c 1 t) := by
  dsimp only [stD, atD]; frame_out; simp only [read_unread_whole]; rfl
theorem o8_E (h1 : t.val % 4 = 3) (h2 : t.val % 16 < 4) (h3 : ¬t.val < 4) : (stE m c t h1 h2 h3 p).o8 =
    k0_pay21 (k0_pay14 (iblk m c 2 t) (iblk m c 0 t) (iblk m c 3 t) (grown m c t p.s0 p.s1)) (iblk m c 1 t) := by
  dsimp only [stE, atE]; frame_out; simp only [read_unread_whole]; rfl
theorem o10_C (h1 : t.val % 4 = 3) (h2 : t.val % 16 < 4) (h3 : t.val < 4) : (stC m c t h1 h2 h3 p).o10 =
    k0_pay19 (k0_pay12 (iblk m c 2 t) (iblk m c 0 t) (iblk m c 3 t)) := by
  dsimp only [stC, atC]; frame_out
theorem o10_D (h1 : t.val % 4 = 3) (h2 : ¬t.val % 16 < 4) (h3 : ¬t.val < 4) : (stD m c t h1 h2 h3 p).o10 =
    k0_pay19 (k0_pay12 (iblk m c 2 t) (iblk m c 0 t) (iblk m c 3 t)) := by
  dsimp only [stD, atD]; frame_out
theorem o10_E (h1 : t.val % 4 = 3) (h2 : t.val % 16 < 4) (h3 : ¬t.val < 4) : (stE m c t h1 h2 h3 p).o10 =
    k0_pay19 (k0_pay12 (iblk m c 2 t) (iblk m c 0 t) (iblk m c 3 t)) := by
  dsimp only [stE, atE]; frame_out
theorem o13_C (h1 : t.val % 4 = 3) (h2 : t.val % 16 < 4) (h3 : t.val < 4) : (stC m c t h1 h2 h3 p).o13 =
    k0_pay4 (k0_pay16 (k0_pay15 (iblk m c 2 t) (iblk m c 0 t) (grown m c t p.s0 p.s1))) (k0_pay3 (F := Ideal)) := by
  dsimp only [stC, atC]; frame_out; simp only [read_unread_whole]; rfl
theorem o13_D (h1 : t.val % 4 = 3) (h2 : ¬t.val % 16 < 4) (h3 : ¬t.val < 4) : (stD m c t h1 h2 h3 p).o13 =
    k0_pay4 (k0_pay16 (k0_pay15 (iblk m c 2 t) (iblk m c 0 t) (grown m c t p.s0 p.s1))) p.o13 := by
  dsimp only [stD, atD]; frame_out; simp only [read_unread_whole]; rfl
theorem o13_E (h1 : t.val % 4 = 3) (h2 : t.val % 16 < 4) (h3 : ¬t.val < 4) : (stE m c t h1 h2 h3 p).o13 =
    k0_pay4 (k0_pay16 (k0_pay15 (iblk m c 2 t) (iblk m c 0 t) (grown m c t p.s0 p.s1))) p.o13 := by
  dsimp only [stE, atE]; frame_out; simp only [read_unread_whole]; rfl
theorem add_24 (a b : Vec Ideal S1x1024 .f32) (i : Fin 1) (e : Fin 1024) : k0_pay24 a b (ix2 i e) = b (ix2 i e) + a (ix2 i e) := by
  pointwise [k0_pay24]
theorem add_25 (a b : Vec Ideal S1x1024 .f32) (i : Fin 1) (e : Fin 1024) : k0_pay25 a b (ix2 i e) = b (ix2 i e) + a (ix2 i e) := by
  pointwise [k0_pay25]
theorem add_26 (a b : Vec Ideal S1x1024 .f32) (i : Fin 1) (e : Fin 1024) : k0_pay26 a b (ix2 i e) = b (ix2 i e) + a (ix2 i e) := by
  pointwise [k0_pay26]
theorem add_4 (a b : Vec Ideal S1x1024 .f32) (i : Fin 1) (e : Fin 1024) : k0_pay4 a b (ix2 i e) = b (ix2 i e) + a (ix2 i e) := by
  pointwise [k0_pay4]

/-- The zeros that a first run of a sequence stores. -/
theorem zero_three (j : Fin 3) (e : Fin 1024) :
    View.canon [(⟨Rect.unit (s := S1x3x1024) ![0, 0, 0] ![1, 3, 1024] inb_S1x3x1024_S1x3x1024_0_0_0, k0_pay23 (F := Ideal)⟩ : View.Piece (Elt Ideal) S1x3x1024 .f32)] (ix3 0 j e) = (0 : EReal) := by
  rw [View.canon_cons_unit_lit _ _ _ (by decide)]
  pointwise [k0_pay23]
theorem o12_D (h1 : t.val % 4 = 3) (h2 : ¬t.val % 16 < 4) (h3 : ¬t.val < 4) :
    Three m c t (grown m c t p.s0 p.s1) p.o12 (stD m c t h1 h2 h3 p).o12 := by
  dsimp only [stD, atD]; frame_out; simp only [read_unread_whole]
  refine ⟨fun e => ?_, fun e => ?_, fun e => ?_⟩
  · refine (row_miss _ _ 0 (by decide) e).trans ((row_miss _ _ 0 (by decide) e).trans ((row_hit _ _ _ 0 rfl e).trans ((add_24 _ _ 0 e).trans (congrArg₂ (· + ·) ?_ rfl))))
    exact (row_load _ _ 0 rfl e).trans (congrFun (Memref.IsWhole.read_unread _ _) _)
  · refine (row_miss _ _ 1 (by decide) e).trans ((row_hit _ _ _ 1 rfl e).trans ((add_25 _ _ 0 e).trans (congrArg₂ (· + ·) ?_ rfl)))
    exact (row_load _ _ 1 rfl e).trans (congrFun (Memref.IsWhole.read_unread _ _) _)
  · refine (row_hit _ _ _ 2 rfl e).trans ((add_26 _ _ 0 e).trans (congrArg₂ (· + ·) ?_ rfl))
    exact (row_load _ _ 2 rfl e).trans (congrFun (Memref.IsWhole.read_unread _ _) _)
theorem o12_C (h1 : t.val % 4 = 3) (h2 : t.val % 16 < 4) (h3 : t.val < 4) :
    Three m c t (grown m c t p.s0 p.s1) (fun _ => 0) (stC m c t h1 h2 h3 p).o12 := by
  dsimp only [stC, atC]; frame_out; simp only [read_unread_whole]
  refine ⟨fun e => ?_, fun e => ?_, fun e => ?_⟩
  · refine (row_miss _ _ 0 (by decide) e).trans ((row_miss _ _ 0 (by decide) e).trans ((row_hit _ _ _ 0 rfl e).trans ((add_24 _ _ 0 e).trans (congrArg₂ (· + ·) ?_ rfl))))
    rw [View.readCov_eq_canon']
    exact (row_load _ _ 0 rfl e).trans (zero_three _ _)
  · refine (row_miss _ _ 1 (by decide) e).trans ((row_hit _ _ _ 1 rfl e).trans ((add_25 _ _ 0 e).trans (congrArg₂ (· + ·) ?_ rfl)))
    rw [View.readCov_eq_canon']
    exact (row_load _ _ 1 rfl e).trans ((row_miss _ _ 1 (by decide) e).trans (zero_three _ _))
  · refine (row_hit _ _ _ 2 rfl e).trans ((add_26 _ _ 0 e).trans (congrArg₂ (· + ·) ?_ rfl))
    rw [View.readCov_eq_canon']
    exact (row_load _ _ 2 rfl e).trans ((row_miss _ _ 2 (by decide) e).trans ((row_miss _ _ 2 (by decide) e).trans (zero_three _ _)))
theorem o12_E (h1 : t.val % 4 = 3) (h2 : t.val % 16 < 4) (h3 : ¬t.val < 4) :
    Three m c t (grown m c t p.s0 p.s1) (fun _ => 0) (stE m c t h1 h2 h3 p).o12 := by
  dsimp only [stE, atE]; frame_out; simp only [read_unread_whole]
  refine ⟨fun e => ?_, fun e => ?_, fun e => ?_⟩
  · refine (row_miss _ _ 0 (by decide) e).trans ((row_miss _ _ 0 (by decide) e).trans ((row_hit _ _ _ 0 rfl e).trans ((add_24 _ _ 0 e).trans (congrArg₂ (· + ·) ?_ rfl))))
    rw [View.readCov_eq_canon']
    exact (row_load _ _ 0 rfl e).trans (zero_three _ _)
  · refine (row_miss _ _ 1 (by decide) e).trans ((row_hit _ _ _ 1 rfl e).trans ((add_25 _ _ 0 e).trans (congrArg₂ (· + ·) ?_ rfl)))
    rw [View.readCov_eq_canon']
    exact (row_load _ _ 1 rfl e).trans ((row_miss _ _ 1 (by decide) e).trans (zero_three _ _))
  · refine (row_hit _ _ _ 2 rfl e).trans ((add_26 _ _ 0 e).trans (congrArg₂ (· + ·) ?_ rfl))
    rw [View.readCov_eq_canon']
    exact (row_load _ _ 2 rfl e).trans ((row_miss _ _ 2 (by decide) e).trans ((row_miss _ _ 2 (by decide) e).trans (zero_three _ _)))
end
end Cert.FfnBwdAIdeal.Mine

end

end
-- ==== Proof.FfnA.Grow.lean ====
module

public import proofs.«01_k».proof.Proof.FfnA.Last
public import Idealize.ShloMosaic.Lib.Pipeline.ValueKit
public import Idealize.ShloMosaic.Lib.Pipeline.ReadBack
public import Idealize.ShloMosaic.Lib.Pointwise
public import Idealize.ShloMosaic.Lib.Claim

@[expose] public section

/-! The gate-and-product backward call: the values of what a last point computes, and
the sums over rows that grow from one run to the next. -/

set_option maxRecDepth 16384

noncomputable section

open Idealize.ShloMosaic Idealize.ShloMosaic.TcCoe Idealize.SL.Sem
open Idealize.ShloMosaic.Pipeline (Dat)

namespace Cert.FfnBwdAIdeal.Mine
open Cert.FfnBwdAIdeal Cert.FfnBwdAIdeal.Gen Cert.FfnBwdAIdeal.Own Cert.Ffn Cert.FfnA Cert.Sums

variable (m : (ℓ : Loc nD τ sig) → Buf (Elt Ideal) ℓ)

/-- Block `a` holds the gradient at the modulated rows of point `t`. -/
def Grad (B : Bk) (t : Fin cfg0.N) (a : Vec Ideal S512x1024 .f32) : Prop := ∀ r e, a (ix2 r e) = dh B (rb t r) (rp t r) e

section
variable {m} {c : Dev nD} {t : Fin cfg0.N}
theorem p9 (r : Fin 512) : k0_pay9 (iblk m c 0 t) (ix2 r 0) = rr (args m c).A (rb t r) (rp t r) := by
  pointwise [k0_pay9, k0_pay6]
  simp only [blk0]; rfl
theorem p10 (r : Fin 512) (e : Fin 1024) : k0_pay10 (iblk m c 0 t) (ix2 r e) = xh (args m c) (rb t r) (rp t r) e := by
  pointwise [k0_pay10, k0_pay6]
  rw [p9, blk0]; rfl
theorem p11 (r : Fin 512) (e : Fin 1024) :
    k0_pay11 (iblk m c 0 t) (iblk m c 3 t) (ix2 r e) = xg (args m c) (rb t r) (rp t r) e := by
  pointwise [k0_pay11, k0_pay7]
  rw [p10, blk3]; rfl
theorem p12 (r : Fin 512) (e : Fin 1024) :
    k0_pay12 (iblk m c 2 t) (iblk m c 0 t) (iblk m c 3 t) (ix2 r e) = hm (args m c).A (rb t r) (rp t r) e := by
  pointwise [k0_pay12, k0_pay8, k0_pay5]
  rw [p11]; simp only [blk2 m c t r]; rfl
theorem p19 (r : Fin 512) (e : Fin 1024) :
    k0_pay19 (k0_pay12 (iblk m c 2 t) (iblk m c 0 t) (iblk m c 3 t)) (ix2 r e) = hm (args m c).A (rb t r) (rp t r) e :=
  p12 r e
theorem p16 (v : FVec Ideal S512x1024 .f32) (e : Fin 1024) : k0_pay16 v (ix2 0 e) = ∑ r : Fin 512, v (ix2 r e) := by
  pointwise [k0_pay16]
theorem p22 (e : Fin 1024) : k0_pay22 (iblk m c 1 t) (iblk m c 4 t) (ix2 0 e) = blkSum (fun b q => gga (args m c) b q e) (t.val / 4) := by
  pointwise [k0_pay22, k0_pay20]
  refine Finset.sum_congr rfl fun r _ => ?_
  rw [blk1, blk4]; rfl
variable {a : Vec Ideal S512x1024 .f32} (ha : Grad (args m c) t a)
include ha
theorem p13 (r : Fin 512) (e : Fin 1024) : k0_pay13 (iblk m c 2 t) a (ix2 r e) = am (args m c) (rb t r) (rp t r) e := by
  pointwise [k0_pay13, k0_pay8, k0_pay5]
  rw [ha, blk2 m c t r]; rfl
theorem p21 (r : Fin 512) (e : Fin 1024) :
    k0_pay21 (k0_pay14 (iblk m c 2 t) (iblk m c 0 t) (iblk m c 3 t) a) (iblk m c 1 t) (ix2 r e) = dx (args m c) (rb t r) (rp t r) e := by
  pointwise [k0_pay21, k0_pay20, k0_pay14, k0_pay7]
  simp only [p13 ha, p10, p9, blk1, blk3]; rfl
theorem p18 (e : Fin 1024) : k0_pay18 a (ix2 0 e) = blkSum (fun b q => gsh (args m c) b q e) (t.val / 4) := by
  pointwise [k0_pay18]
  exact Finset.sum_congr rfl fun r _ => ha r e
theorem p17 (e : Fin 1024) :
    k0_pay17 a (k0_pay11 (iblk m c 0 t) (iblk m c 3 t)) (ix2 0 e) = blkSum (fun b q => gsc (args m c) b q e) (t.val / 4) := by
  pointwise [k0_pay17]
  exact Finset.sum_congr rfl fun r _ => congrArg₂ (· * ·) (ha r e) (p11 r e)
theorem p1615 (e : Fin 1024) :
    k0_pay16 (k0_pay15 (iblk m c 2 t) (iblk m c 0 t) a) (ix2 0 e) = blkSum (fun b q => gng (args m c) b q e) (t.val / 4) := by
  rw [p16]
  exact Finset.sum_congr rfl fun r _ => congrArg₂ (· * ·) (p13 ha r e) (p10 r e)
end

section
variable (c : Dev nD) (t : Fin cfg0.N)
theorem whole' (h1 : t.val % 4 = 3) : Grad (args m c) t (grown m c t (upTo m c t.val).s0 (upTo m c t.val).s1) := whole m c t h1
/-- The gradient at the rows, after a last point. -/
theorem last8 (h1 : t.val % 4 = 3) (r : Fin 512) (e : Fin 1024) :
    (upTo m c (t.val + 1)).o8 (ix2 r e) = dx (args m c) (rb t r) (rp t r) e := by
  by_cases h2 : t.val % 16 < 4
  · by_cases h3 : t.val < 4
    · rw [upTo_C m c t h1 h2 h3, o8_C]; exact p21 (whole' m c t h1) r e
    · rw [upTo_E m c t h1 h2 h3, o8_E]; exact p21 (whole' m c t h1) r e
  · rw [upTo_D m c t h1 h2 (by omega), o8_D]; exact p21 (whole' m c t h1) r e
/-- The modulated rows, after a last point. -/
theorem last10 (h1 : t.val % 4 = 3) (r : Fin 512) (e : Fin 1024) :
    (upTo m c (t.val + 1)).o10 (ix2 r e) = hm (args m c).A (rb t r) (rp t r) e := by
  by_cases h2 : t.val % 16 < 4
  · by_cases h3 : t.val < 4
    · rw [upTo_C m c t h1 h2 h3, o10_C]; exact p19 r e
    · rw [upTo_E m c t h1 h2 h3, o10_E]; exact p19 r e
  · rw [upTo_D m c t h1 h2 (by omega), o10_D]; exact p19 r e
theorem keep12 (n : ℕ) (hn : n + 4 ≤ 32) (h : n % 4 = 0) : (upTo m c (n + 3)).o12 = (upTo m c n).o12 :=
  ((pass_12 m c ⟨n + 2, by show n + 2 < 32; omega⟩ (by show ¬(n + 2) % 4 = 3; omega)).trans
    (pass_12 m c ⟨n + 1, by show n + 1 < 32; omega⟩ (by show ¬(n + 1) % 4 = 3; omega))).trans
    (pass_12 m c ⟨n, by show n < 32; omega⟩ (by show ¬n % 4 = 3; omega))
theorem keep13 (n : ℕ) (hn : n + 4 ≤ 32) (h : n % 4 = 0) : (upTo m c (n + 3)).o13 = (upTo m c n).o13 :=
  ((pass_13 m c ⟨n + 2, by show n + 2 < 32; omega⟩ (by show ¬(n + 2) % 4 = 3; omega)).trans
    (pass_13 m c ⟨n + 1, by show n + 1 < 32; omega⟩ (by show ¬(n + 1) % 4 = 3; omega))).trans
    (pass_13 m c ⟨n, by show n < 32; omega⟩ (by show ¬n % 4 = 3; omega))
end

/-- A window that holds the three sums over rows of the `n` blocks from block `i`. -/
def Sum3 (B : Bk) (i n : ℕ) (w : Vec Ideal S1x3x1024 .f32) : Prop :=
  (∀ e, w (ix3 0 0 e) = from_ (fun b q => gsh B b q e) i n) ∧ (∀ e, w (ix3 0 1 e) = from_ (fun b q => gsc B b q e) i n) ∧
  (∀ e, w (ix3 0 2 e) = from_ (fun b q => gga B b q e) i n)

theorem sum3_new {c : Dev nD} {t : Fin cfg0.N} {a : Vec Ideal S512x1024 .f32} (ha : Grad (args m c) t a) {w : Vec Ideal S1x3x1024 .f32}
    (h : Three m c t a (fun _ => 0) w) : Sum3 (args m c) (t.val / 4) 1 w :=
  ⟨fun e => (h.1 e).trans ((congrArg (_ + ·) (p18 ha e)).trans (from_one _ _)),
   fun e => (h.2.1 e).trans ((congrArg (_ + ·) (p17 ha e)).trans (from_one _ _)),
   fun e => (h.2.2 e).trans ((congrArg (_ + ·) (p22 e)).trans (from_one _ _))⟩
theorem sum3_old {c : Dev nD} {t : Fin cfg0.N} {a : Vec Ideal S512x1024 .f32} (ha : Grad (args m c) t a) {q w : Vec Ideal S1x3x1024 .f32}
    {i n : ℕ} (hi : t.val / 4 = i + n) (hq : Sum3 (args m c) i n q) (h : Three m c t a q w) : Sum3 (args m c) i (n + 1) w :=
  ⟨fun e => (h.1 e).trans ((congrArg₂ (· + ·) (hq.1 e) ((p18 ha e).trans (congrArg _ hi))).trans (from_succ _ _ _)),
   fun e => (h.2.1 e).trans ((congrArg₂ (· + ·) (hq.2.1 e) ((p17 ha e).trans (congrArg _ hi))).trans (from_succ _ _ _)),
   fun e => (h.2.2 e).trans ((congrArg₂ (· + ·) (hq.2.2 e) ((p22 e).trans (congrArg _ hi))).trans (from_succ _ _ _))⟩

theorem first12 (c : Dev nD) (t : Fin cfg0.N) (h1 : t.val % 4 = 3) (h3 : t.val < 4) :
    Sum3 (args m c) (t.val / 4) 1 (upTo m c (t.val + 1)).o12 := by
  rw [upTo_C m c t h1 (by omega) h3]
  exact sum3_new m (whole' m c t h1) (o12_C m c t _ h1 (by omega) h3)
theorem first13 (c : Dev nD) (t : Fin cfg0.N) (h1 : t.val % 4 = 3) (h3 : t.val < 4) (e : Fin 1024) :
    (upTo m c (t.val + 1)).o13 (ix2 0 e) = from_ (fun b q => gng (args m c) b q e) (t.val / 4) 1 := by
  rw [upTo_C m c t h1 (by omega) h3, o13_C]
  refine (add_4 _ _ 0 e).trans ((congrArg₂ (· + ·) ?_ (p1615 (whole' m c t h1) e)).trans (from_one _ _))
  pointwise [k0_pay3]

/-- After block `k`, the window of the three gradients holds the sums over its sequence's blocks so far. -/
theorem sums12 (c : Dev nD) (k : ℕ) : ∀ t : Fin cfg0.N, t.val = k * 4 + 3 →
    Sum3 (args m c) (k / 4 * 4) (k % 4 + 1) (upTo m c (t.val + 1)).o12 := by
  induction k with
  | zero =>
    intro t ht
    rw [show 0 / 4 * 4 = t.val / 4 by omega, show 0 % 4 + 1 = 1 by omega]
    exact first12 m c t (by omega) (by omega)
  | succ k ih =>
    intro t ht
    have hN := hN t
    have h1 : t.val % 4 = 3 := by omega
    have h3 : ¬t.val < 4 := by omega
    by_cases h : (k + 1) % 4 = 0
    · have h2 : t.val % 16 < 4 := by omega
      rw [show (k + 1) / 4 * 4 = t.val / 4 by omega, show (k + 1) % 4 + 1 = 1 by omega, upTo_E m c t h1 h2 h3]
      exact sum3_new m (whole' m c t h1) (o12_E m c t (upTo m c t.val) h1 h2 h3)
    · have h2 : ¬t.val % 16 < 4 := by omega
      have hq := ih ⟨t.val - 4, by omega⟩ (by show t.val - 4 = _; omega)
      rw [show (⟨t.val - 4, by omega⟩ : Fin cfg0.N).val + 1 = t.val - 3 from by show t.val - 4 + 1 = _; omega,
        ← keep12 m c (t.val - 3) (by omega) (by omega), show t.val - 3 + 3 = t.val by omega] at hq
      rw [show (k + 1) / 4 * 4 = k / 4 * 4 by omega, show (k + 1) % 4 + 1 = k % 4 + 1 + 1 by omega, upTo_D m c t h1 h2 h3]
      exact sum3_old m (whole' m c t h1) (by omega) hq (o12_D m c t (upTo m c t.val) h1 h2 h3)

/-- After block `k`, the gain's window holds the sum over the rows of the blocks so far. -/
theorem sums13 (c : Dev nD) (e : Fin 1024) (k : ℕ) : ∀ t : Fin cfg0.N, t.val = k * 4 + 3 →
    (upTo m c (t.val + 1)).o13 (ix2 0 e) = from_ (fun b q => gng (args m c) b q e) 0 (k + 1) := by
  induction k with
  | zero =>
    intro t ht
    rw [show (0 : ℕ) + 1 = 1 from rfl]
    refine (first13 m c t (by omega) (by omega) e).trans ?_
    rw [show t.val / 4 = 0 by omega]
  | succ k ih =>
    intro t ht
    have hN := hN t
    have h1 : t.val % 4 = 3 := by omega
    have h3 : ¬t.val < 4 := by omega
    have hq := ih ⟨t.val - 4, by omega⟩ (by show t.val - 4 = _; omega)
    rw [show (⟨t.val - 4, by omega⟩ : Fin cfg0.N).val + 1 = t.val - 3 from by show t.val - 4 + 1 = _; omega,
      ← keep13 m c (t.val - 3) (by omega) (by omega), show t.val - 3 + 3 = t.val by omega] at hq
    have go : k0_pay4 (k0_pay16 (k0_pay15 (iblk m c 2 t) (iblk m c 0 t) (grown m c t (upTo m c t.val).s0 (upTo m c t.val).s1)))
        (upTo m c t.val).o13 (ix2 0 e) = from_ (fun b q => gng (args m c) b q e) 0 (k + 1 + 1) := by
      refine (add_4 _ _ 0 e).trans ((congrArg₂ (· + ·) hq ((p1615 (whole' m c t h1) e).trans (congrArg _ ?_))).trans (from_succ _ _ _))
      omega
    by_cases h2 : t.val % 16 < 4
    · rw [upTo_E m c t h1 h2 h3, o13_E]; exact go
    · rw [upTo_D m c t h1 h2 h3, o13_D]; exact go

end Cert.FfnBwdAIdeal.Mine

end

end
-- ==== Proof.FfnA.Kernel.lean ====
module

public import proofs.«01_k».proof.Proof.FfnA.Grow
public import Idealize.ShloMosaic.Lib.Pipeline.ValueKit
public import Idealize.ShloMosaic.Lib.Pipeline.ReadBack
public import Idealize.ShloMosaic.Lib.Pointwise
public import Idealize.ShloMosaic.Lib.Claim

@[expose] public section

/-! The gate-and-product backward call: the six results. -/

set_option maxRecDepth 16384

noncomputable section

open Idealize.ShloMosaic Idealize.ShloMosaic.TcCoe Idealize.SL.Sem
open Idealize.ShloMosaic.Pipeline (Dat)

namespace Cert.FfnBwdAIdeal.Mine
open Cert.FfnBwdAIdeal Cert.FfnBwdAIdeal.Gen Cert.FfnBwdAIdeal.Own Cert.Ffn Cert.FfnA Cert.Sums

variable (m : (ℓ : Loc nD τ sig) → Buf (Elt Ideal) ℓ)

def gDx (B : Bk) : Vec Ideal S4096x1024 .f32 := fun i => dx B (bat (i 0).val) (pl (i 0).val) (i 1)
def gH (B : Bk) : Vec Ideal S4096x1024 .bf16 := fun i => hm B.A (bat (i 0).val) (pl (i 0).val) (i 1)
def gDout (B : Bk) : Vec Ideal S4096x1024 .bf16 := fun i => dout B (bat (i 0).val) (pl (i 0).val) (i 1)
def gDgu (B : Bk) : Vec Ideal S2x4x4096x704 .bf16 := fun i =>
  dz B (bat (i 2).val) (pl (i 2).val) ⟨(i 0).val * 2816 + (i 1).val * 704 + (i 3).val, by
    have h0 : (i 0).val < 2 := (i 0).isLt
    have h1 : (i 1).val < 4 := (i 1).isLt
    have h3 : (i 3).val < 704 := (i 3).isLt
    omega⟩
/-- The row of the three that row `k` is: the shift's, the scale's and the gate's. -/
def three (B : Bk) (b : Fin 2) (k : Fin 3) (e : Fin 1024) : EReal :=
  if k.val = 0 then ∑ t : Fin 2048, gsh B b t e else if k.val = 1 then ∑ t : Fin 2048, gsc B b t e else ∑ t : Fin 2048, gga B b t e
def gSsg (B : Bk) : Vec Ideal S2x3x1024 .f32 := fun i => three B (i 0) (i 1) (i 2)
def gNg (B : Bk) : Vec Ideal S1x1024 .f32 := fun i => ∑ b : Fin 2, ∑ t : Fin 2048, gng B b t (i 1)

section
variable {B : Bk} {t : Fin cfg0.N} {r : Fin 512}
theorem landDx (e : Fin 1024) {i : S4096x1024.Idx} (hi : i = ix2 (row t r) e) : dx B (rb t r) (rp t r) e = gDx B i := by subst hi; rfl
theorem landH (e : Fin 1024) {i : S4096x1024.Idx} (hi : i = ix2 (row t r) e) : hm B.A (rb t r) (rp t r) e = gH B i := by subst hi; rfl
theorem landDout (e : Fin 1024) {i : S4096x1024.Idx} (hi : i = ix2 (row t r) e) : dout B (rb t r) (rp t r) e = gDout B i := by
  subst hi; rfl
theorem landL (f : Fin 704) {i : S2x4x4096x704.Idx} (hi : i = ix4 0 ⟨t.val % 4, by omega⟩ (row t r) f) :
    dl B (rb t r) (rp t r) (col (t.val % 4) f) = gDgu B i := by
  subst hi
  refine Eq.symm ((dif_pos (show 0 * 2816 + t.val % 4 * 704 + f.val < 2816 by omega)).trans (congrArg (dl B _ _) (Fin.ext ?_)))
  show 0 * 2816 + t.val % 4 * 704 + f.val = t.val % 4 % 4 * 704 + f.val; omega
theorem landR (f : Fin 704) {i : S2x4x4096x704.Idx} (hi : i = ix4 1 ⟨t.val % 4, by omega⟩ (row t r) f) :
    dr B (rb t r) (rp t r) (col (t.val % 4) f) = gDgu B i := by
  subst hi
  refine Eq.symm ((dif_neg (show ¬ 1 * 2816 + t.val % 4 * 704 + f.val < 2816 by omega)).trans (congrArg (dr B _ _) (Fin.ext ?_)))
  show 1 * 2816 + t.val % 4 * 704 + f.val - 2816 = t.val % 4 % 4 * 704 + f.val; omega
end

theorem final8 (c : Dev nD) : (dats m 0 c).arrAt 8 cfg0.N = gDx (args m c) := by
  refine (dats m 0 c).arrAt_eq_of_covers 8 _ (by decide +kernel) fun t hf y => ?_
  blk_simp; rw [after_8]
  have ht := hN t
  idx_vars y
  exact (last8 m c t ((flush0_8 t).mp hf) y0 y1).trans (landDx y1 (by blk_ext [idx t]))
theorem final10 (c : Dev nD) : (dats m 0 c).arrAt 10 cfg0.N = gH (args m c) := by
  refine (dats m 0 c).arrAt_eq_of_covers 10 _ (by decide +kernel) fun t hf y => ?_
  blk_simp; rw [after_10]
  have ht := hN t
  idx_vars y
  exact (last10 m c t ((flush0_10 t).mp hf) y0 y1).trans (landH y1 (by blk_ext [idx t]))
theorem final11 (c : Dev nD) : (dats m 0 c).arrAt 11 cfg0.N = gDout (args m c) := by
  refine (dats m 0 c).arrAt_eq_of_covers 11 _ (by decide +kernel) fun t hf y => ?_
  blk_simp; rw [after_11]
  have ht := hN t
  idx_vars y
  exact (kept m c t.val t.isLt y0 y1).trans (landDout y1 (by blk_ext [idx t]))

theorem land3 {B : Bk} {b : Fin 2} {i : ℕ} (hi : i = b.val * 4) {w : Vec Ideal S1x3x1024 .f32} (h : Sum3 B i 4 w) (z : Fin 1) (k : Fin 3)
    (e : Fin 1024) : w (ix3 z k e) = three B b k e := by
  subst hi
  rw [Fin.eq_zero z]
  match k with
  | ⟨0, _⟩ => exact (h.1 e).trans (from_seq _ b)
  | ⟨1, _⟩ => exact (h.2.1 e).trans (from_seq _ b)
  | ⟨2, _⟩ => exact (h.2.2 e).trans (from_seq _ b)
theorem landS {B : Bk} {b : Fin 2} (k : Fin 3) (e : Fin 1024) {i : S2x3x1024.Idx} (hi : i = ix3 b k e) : three B b k e = gSsg B i := by
  subst hi; rfl
theorem final12 (c : Dev nD) : (dats m 0 c).arrAt 12 cfg0.N = gSsg (args m c) := by
  refine (dats m 0 c).arrAt_eq_of_covers 12 _ (by decide +kernel) fun t hf y => ?_
  blk_simp; rw [after_12]
  have ht := hN t
  have h15 : t.val % 16 = 15 := (flush0_12 t).mp hf
  have hs := sums12 m c (t.val / 4) t (by omega)
  rw [show t.val / 4 % 4 + 1 = 4 by omega] at hs
  idx_vars y
  exact (land3 (b := ⟨t.val / 16, by omega⟩) (by show t.val / 4 / 4 * 4 = t.val / 16 * 4; omega) hs y0 y1 y2).trans
    (landS y1 y2 (by blk_ext [idx t]))
theorem landG {B : Bk} (e : Fin 1024) {i : S1x1024.Idx} (hi : i = ix2 0 e) :
    (∑ b : Fin 2, ∑ t : Fin 2048, gng B b t e) = gNg B i := by subst hi; rfl
theorem final13 (c : Dev nD) : (dats m 0 c).arrAt 13 cfg0.N = gNg (args m c) := by
  refine (dats m 0 c).arrAt_eq_of_covers 13 _ (by decide +kernel) fun t hf y => ?_
  blk_simp; rw [after_13]
  have ht := hN t
  have h31 : t.val % 32 = 31 := (flush0_13 t).mp hf
  idx_vars y
  rw [Fin.eq_zero y0]
  exact (sums13 m c y1 7 t (by omega)).trans ((from_all _).trans (landG y1 (by blk_ext [idx t])))

theorem st_l {c : Dev nD} {t : Fin cfg0.N} {h : Vec Ideal S512x1024 .bf16} (hh : Dout (args m c) t h)
    (z0 z1 : Fin 1) (r : Fin 512) (f : Fin 704) : k0_pay35 h (iblk m c 7 t) (zl m c t) (zr m c t) (ix4 z0 z1 r f) =
      dl (args m c) (rb t r) (rp t r) (col (t.val % 4) f) := by
  pointwise [k0_pay35]
  exact dl_at hh r f
theorem st_r {c : Dev nD} {t : Fin cfg0.N} {h : Vec Ideal S512x1024 .bf16} (hh : Dout (args m c) t h)
    (z0 z1 : Fin 1) (r : Fin 512) (f : Fin 704) : k0_pay36 h (iblk m c 7 t) (zl m c t) (ix4 z0 z1 r f) =
      dr (args m c) (rb t r) (rp t r) (col (t.val % 4) f) := by
  pointwise [k0_pay36]
  exact dr_at hh r f

set_option maxHeartbeats 1600000 in
theorem final9 (c : Dev nD) : (dats m 0 c).arrAt 9 cfg0.N = gDgu (args m c) := by
  refine (dats m 0 c).arrAt_eq_of_covers 9 _ (by decide +kernel) fun t hf y => ?_
  blk_simp; rw [after_9]
  have ht := hN t
  by_cases h0 : t.val % 4 = 0
  · have hh : Dout (args m c) t (k0_pay28 (iblk m c 2 t) (iblk m c 1 t)) := dout_at'
    rw [upTo_A m c t h0]; dsimp only [stA, atA]; frame_out
    canon_tiles y h1
    · idx_vars y
      exact (st_r m hh y0 y1 y2 y3).trans (landR y3 (by blk_ext [idx t]))
    · idx_vars y
      exact (st_l m hh y0 y1 y2 y3).trans (landL y3 (by blk_ext [idx t]))
  · have hh := (found m c t h0).1
    by_cases h1 : t.val % 4 = 3
    · by_cases h2 : t.val % 16 < 4
      · by_cases h3 : t.val < 4
        · rw [upTo_C m c t h1 h2 h3]; dsimp only [stC, atC]; frame_out; simp only [read_unread_whole]
          canon_tiles y h1
          · idx_vars y
            exact (st_r m hh y0 y1 y2 y3).trans (landR y3 (by blk_ext [idx t]))
          · idx_vars y
            exact (st_l m hh y0 y1 y2 y3).trans (landL y3 (by blk_ext [idx t]))
        · rw [upTo_E m c t h1 h2 h3]; dsimp only [stE, atE]; frame_out; simp only [read_unread_whole]
          canon_tiles y h1
          · idx_vars y
            exact (st_r m hh y0 y1 y2 y3).trans (landR y3 (by blk_ext [idx t]))
          · idx_vars y
            exact (st_l m hh y0 y1 y2 y3).trans (landL y3 (by blk_ext [idx t]))
      · rw [upTo_D m c t h1 h2 (by omega)]; dsimp only [stD, atD]; frame_out; simp only [read_unread_whole]
        canon_tiles y h1
        · idx_vars y
          exact (st_r m hh y0 y1 y2 y3).trans (landR y3 (by blk_ext [idx t]))
        · idx_vars y
          exact (st_l m hh y0 y1 y2 y3).trans (landL y3 (by blk_ext [idx t]))
    · rw [upTo_B m c t h0 h1]; dsimp only [stB, atB]; frame_out; simp only [read_unread_whole]
      canon_tiles y h1
      · idx_vars y
        exact (st_r m hh y0 y1 y2 y3).trans (landR y3 (by blk_ext [idx t]))
      · idx_vars y
        exact (st_l m hh y0 y1 y2 y3).trans (landL y3 (by blk_ext [idx t]))

end Cert.FfnBwdAIdeal.Mine

end

end
-- ==== Proof.FfnA.Ref.lean ====
module

public import proofs.«01_k».proof.Proof.Common.Reduce
public import proofs.«01_k».proof.Proof.FfnA.Kernel
public import proofs.«01_k».proof.Proof.Gen.FfnBwdARefIdeal.Run
public import proofs.«01_k».proof.Proof.FfnA.Real

/-! The feed-forward block's gradient: the reference's six arrays, on real arguments. -/

@[expose] public section

set_option maxRecDepth 16384

noncomputable section

open Idealize.ShloMosaic Idealize.ShloMosaic.TcCoe Idealize.SL.Sem

namespace Cert.FfnBwdARefIdeal.Mine
open Cert.FfnBwdARefIdeal Cert.FfnBwdARefIdeal.Gen Cert.FfnBwdARefIdeal.Value Cert.Ffn Cert.FfnA Cert.Sums

variable (m : (ℓ : Loc nD τ sig) → Buf (Elt Ideal) ℓ)

/-- The reference's arguments, entry by entry. -/
def args (c : Dev nD) : Bk where
  A := { x := fun b t e => (m (c, Proc.tc.devRef main_arg0) : Vec Ideal S2x2048x1024 .f32) (ix3 b t e)
         mod := fun b k e => (m (c, Proc.tc.devRef main_arg1) : Vec Ideal S2x3x1024 .f32) (ix3 b k e)
         g := fun e => (m (c, Proc.tc.devRef main_arg2) : Vec Ideal S1024 .f32) (ix1 e)
         wi := fun e k => (m (c, Proc.tc.devRef main_arg3) : Vec Ideal S1024x5632 .f32) (ix2 e k)
         wo := fun f e => (m (c, Proc.tc.devRef main_arg4) : Vec Ideal S2816x1024 .f32) (ix2 f e) }
  d := fun b t e => (m (c, Proc.tc.devRef main_arg5) : Vec Ideal S2x2048x1024 .f32) (ix3 b t e)

theorem bat_at (r : Fin 4096) : bat r.val = ⟨r.val / 2048, by omega⟩ :=
  Fin.ext (by show r.val / 2048 % 2 = r.val / 2048; omega)

/-! The reference's stages, in the order in which it computes them. -/

def qV (c : Dev nD) : FVec Ideal S2x2048x1 .f32 :=
  addf (Host.divf (broadcastInDim S2x2048x1 ![0, 1] bcast_S2x2048_S2x2048x1_0_1 (Host.reduceAdd (mulf (m (c.tc.loc main_arg0)) (m (c.tc.loc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
def rV (c : Dev nD) : FVec Ideal S2x2048x1 .f32 :=
  Host.rsqrt (qV m c)
def xhV (c : Dev nD) : FVec Ideal S2x2048x1024 .f32 :=
  mulf (m (c.tc.loc main_arg0)) (broadcastInDim S2x2048x1024 ![0, 1, 2] bcast_S2x2048x1_S2x2048x1024_0_1_2 (rV m c))
def doV (c : Dev nD) : FVec Ideal S2x2048x1024 .f32 :=
  mulf (broadcastInDim S2x2048x1024 ![0, 1, 2] bcast_S2x1x1024_S2x2048x1024_0_1_2 (mulf (broadcastInDim S2x1x1024 ![] bcast_S_S2x1x1024 (constant S_ .f32 0x3F000000#32)) (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 2, 0] (m (c.tc.loc main_arg1)) slices_S2x3x1024_S2x1x1024_0_2_0) shapeCasts_S2x1x1024_S2x1024))))) (shapeCast _ (m (c.tc.loc main_arg5)) shapeCasts_S2x2048x1024_S2x2048x1024)
def dhidV (c : Dev nD) : FVec Ideal S2x2048x2816 .f32 :=
  Host.dotGeneral (φ₁ := .f32) (φ₂ := .f32) dot_S2x2048x1024_S2816x1024_S2x2048x2816_2_1_01_0_n_n none (doV m c) (m (c.tc.loc main_arg4))
def xgV (c : Dev nD) : FVec Ideal S2x2048x1024 .f32 :=
  mulf (xhV m c) (broadcastInDim S2x2048x1024 ![0, 1, 2] bcast_S1x1x1024_S2x2048x1024_0_1_2 (broadcastInDim S1x1x1024 ![2] bcast_S1024_S1x1x1024_2 (m (c.tc.loc main_arg2))))
def hV (c : Dev nD) : FVec Ideal S2x2048x1024 .f32 :=
  addf (mulf (xgV m c) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (m (c.tc.loc main_arg1)) slices_S2x3x1024_S2x1x1024_0_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 0, 0] (m (c.tc.loc main_arg1)) slices_S2x3x1024_S2x1x1024_0_0_0) shapeCasts_S2x1x1024_S2x1024)))
def zV (c : Dev nD) : FVec Ideal S2x2048x5632 .f32 :=
  Host.dotGeneral (φ₁ := .f32) (φ₂ := .f32) dot_S2x2048x1024_S1024x5632_S2x2048x5632_2_0_01_1_n_n none (hV m c) (m (c.tc.loc main_arg3))
def sgV (c : Dev nD) : FVec Ideal S2x2048x2816 .f32 :=
  Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf (extractStridedSlice S2x2048x2816 ![0, 0, 0] (zV m c) slices_S2x2048x5632_S2x2048x2816_0_0_0))))
def dlV (c : Dev nD) : FVec Ideal S2x2048x2816 .f32 :=
  addf (mulf (mulf (dhidV m c) (extractStridedSlice S2x2048x2816 ![0, 0, 2816] (zV m c) slices_S2x2048x5632_S2x2048x2816_0_0_2816)) (sgV m c)) (mulf (mulf (extractStridedSlice S2x2048x2816 ![0, 0, 0] (zV m c) slices_S2x2048x5632_S2x2048x2816_0_0_0) (mulf (dhidV m c) (extractStridedSlice S2x2048x2816 ![0, 0, 2816] (zV m c) slices_S2x2048x5632_S2x2048x2816_0_0_2816))) (mulf (sgV m c) (subf (broadcastInDim S2x2048x2816 ![] bcast_S_S2x2048x2816 (constant S_ .f32 0x3F800000#32)) (sgV m c))))
def drV (c : Dev nD) : FVec Ideal S2x2048x2816 .f32 :=
  mulf (mulf (extractStridedSlice S2x2048x2816 ![0, 0, 0] (zV m c) slices_S2x2048x5632_S2x2048x2816_0_0_0) (sgV m c)) (dhidV m c)
def dzV (c : Dev nD) : FVec Ideal S2x2048x5632 .f32 :=
  concatenate S2x2048x5632 2 [⟨S2x2048x2816, (dlV m c) ⟩, ⟨S2x2048x2816, (drV m c) ⟩] concatenates_S2x2048x2816_S2x2048x2816_S2x2048x5632_d2
def dhV (c : Dev nD) : FVec Ideal S2x2048x1024 .f32 :=
  Host.dotGeneral (φ₁ := .f32) (φ₂ := .f32) dot_S2x2048x5632_S1024x5632_S2x2048x1024_2_1_01_0_n_n none (dzV m c) (m (c.tc.loc main_arg3))
def amV (c : Dev nD) : FVec Ideal S2x2048x1024 .f32 :=
  mulf (dhV m c) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (m (c.tc.loc main_arg1)) slices_S2x3x1024_S2x1x1024_0_1_0) shapeCasts_S2x1x1024_S2x1024))))
def dxhV (c : Dev nD) : FVec Ideal S2x2048x1024 .f32 :=
  mulf (amV m c) (broadcastInDim S2x2048x1024 ![0, 1, 2] bcast_S1x1x1024_S2x2048x1024_0_1_2 (broadcastInDim S1x1x1024 ![2] bcast_S1024_S1x1x1024_2 (m (c.tc.loc main_arg2))))
def xdV (c : Dev nD) : FVec Ideal S2x2048 .f32 :=
  Host.reduceAdd (mulf (m (c.tc.loc main_arg0)) (dxhV m c)) (constant S_ .f32 0x00000000#32) reducesTo_S2x2048x1024_S2x2048_d2 h_S_
def mnV (c : Dev nD) : FVec Ideal S2x2048x1 .f32 :=
  Host.divf (mulf (shapeCast _ (xdV m c) shapeCasts_S2x2048_S2x2048x1) (mulf (broadcastInDim S2x2048x1 ![] bcast_S_S2x2048x1 (constant S_ .f32 0xBF000000#32)) (Host.divf (rV m c) (qV m c)))) (broadcastInDim S2x2048x1 ![] bcast_S_S2x2048x1 (constant S_ .f32 0x44800000#32))
def sV (c : Dev nD) : FVec Ideal S2x2048 .f32 :=
  Host.reduceAdd (mnV m c) (constant S_ .f32 0x00000000#32) reducesTo_S2x2048x1_S2x2048_d2 h_S_
def hidV (c : Dev nD) : FVec Ideal S2x2048x2816 .f32 :=
  mulf (mulf (extractStridedSlice S2x2048x2816 ![0, 0, 0] (zV m c) slices_S2x2048x5632_S2x2048x2816_0_0_0) (sgV m c)) (extractStridedSlice S2x2048x2816 ![0, 0, 2816] (zV m c) slices_S2x2048x5632_S2x2048x2816_0_0_2816)
def yV (c : Dev nD) : FVec Ideal S2x2048x1024 .f32 :=
  Host.dotGeneral (φ₁ := .f32) (φ₂ := .f32) dot_S2x2048x2816_S2816x1024_S2x2048x1024_2_0_01_1_n_n none (hidV m c) (m (c.tc.loc main_arg4))
def gyV (c : Dev nD) : FVec Ideal S2x1024 .f32 :=
  Host.reduceAdd (mulf (shapeCast _ (m (c.tc.loc main_arg5)) shapeCasts_S2x2048x1024_S2x2048x1024) (yV m c)) (constant S_ .f32 0x00000000#32) reducesTo_S2x2048x1024_S2x1024_d1 h_S_
def scV (c : Dev nD) : FVec Ideal S2x1024 .f32 :=
  Host.reduceAdd (mulf (xgV m c) (dhV m c)) (constant S_ .f32 0x00000000#32) reducesTo_S2x2048x1024_S2x1024_d1 h_S_
def shV (c : Dev nD) : FVec Ideal S2x1024 .f32 :=
  Host.reduceAdd (dhV m c) (constant S_ .f32 0x00000000#32) reducesTo_S2x2048x1024_S2x1024_d1 h_S_
def ngV (c : Dev nD) : FVec Ideal S1024 .f32 :=
  Host.reduceAdd (mulf (xhV m c) (amV m c)) (constant S_ .f32 0x00000000#32) reducesTo_S2x2048x1024_S1024_d0_1 h_S_
def dxV (c : Dev nD) : FVec Ideal S2x2048x1024 .f32 :=
  addf (m (c.tc.loc main_arg5)) (addf (addf (mulf (dxhV m c) (broadcastInDim S2x2048x1024 ![0, 1, 2] bcast_S2x2048x1_S2x2048x1024_0_1_2 (rV m c))) (mulf (m (c.tc.loc main_arg0)) (broadcastInDim S2x2048x1024 ![0, 1] bcast_S2x2048_S2x2048x1024_0_1 (sV m c)))) (mulf (broadcastInDim S2x2048x1024 ![0, 1] bcast_S2x2048_S2x2048x1024_0_1 (sV m c)) (m (c.tc.loc main_arg0))))

theorem qV_at (c : Dev nD) (b : Fin 2) (t : Fin 2048) (z : Fin 1) : qV m c (ix3 b t z) =
    Ideal.div (∑ e : Fin 1024, (args m c).A.x b t e * (args m c).A.x b t e) width + tiny := by
  pointwise [qV]; rfl
theorem rV_at (c : Dev nD) (b : Fin 2) (t : Fin 2048) (z : Fin 1) : rV m c (ix3 b t z) = rr (args m c).A b t :=
  congrArg Ideal.rsqrt (qV_at m c b t z)
theorem xhV_at (c : Dev nD) (b : Fin 2) (t : Fin 2048) (e : Fin 1024) : xhV m c (ix3 b t e) = xh (args m c) b t e := by
  pointwise [xhV]
  rw [rV_at]; rfl
theorem doV_at (c : Dev nD) (b : Fin 2) (t : Fin 2048) (e : Fin 1024) : doV m c (ix3 b t e) = dout (args m c) b t e := by
  pointwise [doV]; rfl
theorem dhidV_at (c : Dev nD) (b : Fin 2) (t : Fin 2048) (f : Fin 2816) : dhidV m c (ix3 b t f) = dhid (args m c) b t f := by
  pointwise [dhidV]
  simp only [doV_at]; rfl
theorem xgV_at (c : Dev nD) (b : Fin 2) (t : Fin 2048) (e : Fin 1024) : xgV m c (ix3 b t e) = xg (args m c) b t e := by
  pointwise [xgV]
  rw [xhV_at]; rfl
theorem hV_at (c : Dev nD) (b : Fin 2) (t : Fin 2048) (e : Fin 1024) : hV m c (ix3 b t e) = hm (args m c).A b t e := by
  pointwise [hV]
  rw [xgV_at]; rfl
theorem zV_at (c : Dev nD) (b : Fin 2) (t : Fin 2048) (k : Fin 5632) : zV m c (ix3 b t k) = z (args m c).A b t k := by
  pointwise [zV]
  simp only [hV_at]; rfl
theorem sgV_at (c : Dev nD) (b : Fin 2) (t : Fin 2048) (f : Fin 2816) : sgV m c (ix3 b t f) = sg (args m c) b t f := by
  pointwise [sgV]
  rw [zV_at]; rfl
theorem hidV_at (c : Dev nD) (b : Fin 2) (t : Fin 2048) (f : Fin 2816) : hidV m c (ix3 b t f) = hid (args m c).A b t f := by
  pointwise [hidV]
  simp only [zV_at, sgV_at]; rfl
theorem yV_at (c : Dev nD) (b : Fin 2) (t : Fin 2048) (e : Fin 1024) : yV m c (ix3 b t e) = Ffn.y (args m c).A b t e := by
  pointwise [yV]
  simp only [hidV_at]; rfl
theorem drV_at (c : Dev nD) (b : Fin 2) (t : Fin 2048) (f : Fin 2816) : drV m c (ix3 b t f) = dr (args m c) b t f := by
  pointwise [drV]
  rw [zV_at, sgV_at, dhidV_at]; exact mul_comm _ _

section
variable {c : Dev nD} (hB : (args m c).Real)
include hB
theorem dlV_at (b : Fin 2) (t : Fin 2048) (f : Fin 2816) : dlV m c (ix3 b t f) = dl (args m c) b t f := by
  pointwise [dlV]
  simp only [zV_at, sgV_at, dhidV_at]
  exact dl_rule hB b t f
theorem dzV_at (b : Fin 2) (t : Fin 2048) (k : Fin 5632) : dzV m c (ix3 b t k) = dz (args m c) b t k := by
  pointwise [dzV]
  unfold dz
  split
  · exact dlV_at m hB b t _
  · exact drV_at m c b t _
theorem dhV_at (b : Fin 2) (t : Fin 2048) (e : Fin 1024) : dhV m c (ix3 b t e) = dh (args m c) b t e := by
  pointwise [dhV]
  simp only [dzV_at m hB]
  exact dz_sum (args m c) b t e
theorem amV_at (b : Fin 2) (t : Fin 2048) (e : Fin 1024) : amV m c (ix3 b t e) = am (args m c) b t e := by
  pointwise [amV]
  rw [dhV_at m hB]; rfl
theorem dxhV_at (b : Fin 2) (t : Fin 2048) (e : Fin 1024) : dxhV m c (ix3 b t e) = dxh (args m c) b t e := by
  pointwise [dxhV]
  rw [amV_at m hB]; rfl
theorem xdV_at (b : Fin 2) (t : Fin 2048) : xdV m c (ix2 b t) = ∑ k : Fin 1024, (args m c).A.x b t k * dxh (args m c) b t k := by
  pointwise [xdV]
  simp only [dxhV_at m hB]; rfl
theorem mnV_at (b : Fin 2) (t : Fin 2048) (z : Fin 1) : mnV m c (ix3 b t z) =
    Ideal.div ((∑ k : Fin 1024, (args m c).A.x b t k * dxh (args m c) b t k) * (mhalf * Ideal.div (rr (args m c).A b t)
      (Ideal.div (∑ e : Fin 1024, (args m c).A.x b t e * (args m c).A.x b t e) width + tiny))) width := by
  pointwise [mnV]
  simp only [xdV_at m hB, rV_at, qV_at]
theorem sV_at (b : Fin 2) (t : Fin 2048) : sV m c (ix2 b t) = mnV m c (ix3 b t 0) := by
  pointwise [sV]
  exact Fin.sum_univ_one _
theorem dxV_at (b : Fin 2) (t : Fin 2048) (e : Fin 1024) : dxV m c (ix3 b t e) = dx (args m c) b t e := by
  pointwise [dxV]
  simp only [dxhV_at m hB, rV_at]
  exact dx_rule hB b t e _ ((sV_at m hB b t).trans (mnV_at m hB b t 0))
theorem gyV_at (b : Fin 2) (e : Fin 1024) : gyV m c (ix2 b e) = ∑ t : Fin 2048, (args m c).d b t e * Ffn.y (args m c).A b t e := by
  pointwise [gyV]
  simp only [yV_at]; rfl
theorem scV_at (b : Fin 2) (e : Fin 1024) : scV m c (ix2 b e) = ∑ t : Fin 2048, gsc (args m c) b t e := by
  pointwise [scV]
  simp only [xgV_at, dhV_at m hB]
  exact Finset.sum_congr rfl fun t _ => mul_comm _ _
theorem shV_at (b : Fin 2) (e : Fin 1024) : shV m c (ix2 b e) = ∑ t : Fin 2048, gsh (args m c) b t e := by
  pointwise [shV]
  simp only [dhV_at m hB]; rfl
theorem ngV_at (e : Fin 1024) : ngV m c (ix1 e) = ∑ b : Fin 2, ∑ t : Fin 2048, gng (args m c) b t e := by
  refine (Cert.Sums.reduce_01 reducesTo_S2x2048x1024_S1024_d0_1 _ _ e).trans ?_
  have h0 : (constant (F := Ideal) S_ .f32 0x00000000#32) (Shape.Idx.first h_S_) = (0 : EReal) := by pointwise
  rw [h0, zero_add]
  refine Finset.sum_congr rfl fun b _ => Finset.sum_congr rfl fun t _ => ?_
  pointwise
  rw [xhV_at, amV_at m hB]; exact mul_comm _ _

theorem ref_dx : (shapeCast _ (dxV m c) shapeCasts_S2x2048x1024_S4096x1024 : FVec Ideal S4096x1024 .f32) = FfnBwdAIdeal.Mine.gDx (args m c) := by
  funext i
  idx_vars i
  pointwise [FfnBwdAIdeal.Mine.gDx]
  rw [bat_at, dxV_at m hB]
theorem ref_dgu : (truncf .bf16 (transpose S2x4x4096x704 [1, 2, 0, 3] (shapeCast _ (dzV m c) shapeCasts_S2x2048x5632_S4096x2x4x704) transposes_S4096x2x4x704_S2x4x4096x704_1_2_0_3) bitsLt_bf16_f32 : FVec Ideal S2x4x4096x704 .bf16) = FfnBwdAIdeal.Mine.gDgu (args m c) := by
  funext i
  idx_vars i
  pointwise [FfnBwdAIdeal.Mine.gDgu]
  rw [bat_at, dzV_at m hB]
theorem ref_h : (truncf .bf16 (shapeCast _ (hV m c) shapeCasts_S2x2048x1024_S4096x1024) bitsLt_bf16_f32 : FVec Ideal S4096x1024 .bf16) = FfnBwdAIdeal.Mine.gH (args m c) := by
  funext i
  idx_vars i
  pointwise [FfnBwdAIdeal.Mine.gH]
  rw [bat_at, hV_at]
theorem ref_dout : (truncf .bf16 (shapeCast _ (doV m c) shapeCasts_S2x2048x1024_S4096x1024) bitsLt_bf16_f32 : FVec Ideal S4096x1024 .bf16) = FfnBwdAIdeal.Mine.gDout (args m c) := by
  funext i
  idx_vars i
  pointwise [FfnBwdAIdeal.Mine.gDout]
  rw [bat_at, doV_at]
theorem ref_ssg : (addf (pad S2x3x1024 ![0, 2, 0] ![0, 0, 0] ![0, 0, 0] (broadcastInDim S2x1x1024 ![0, 2] bcast_S2x1024_S2x1x1024_0_2 (Host.reduceAdd (mulf (broadcastInDim S2x1x1024 ![] bcast_S_S2x1x1024 (constant S_ .f32 0x3F000000#32)) (shapeCast _ (gyV m c) shapeCasts_S2x1024_S2x1x1024)) (constant S_ .f32 0x00000000#32) reducesTo_S2x1x1024_S2x1024_d1 h_S_)) (constant S_ .f32 0x00000000#32) pads_S2x1x1024_S2x3x1024_000_200_000 h_S_) (addf (pad S2x3x1024 ![0, 1, 0] ![0, 1, 0] ![0, 0, 0] (broadcastInDim S2x1x1024 ![0, 2] bcast_S2x1024_S2x1x1024_0_2 (Host.reduceAdd (shapeCast _ (scV m c) shapeCasts_S2x1024_S2x1x1024) (constant S_ .f32 0x00000000#32) reducesTo_S2x1x1024_S2x1024_d1 h_S_)) (constant S_ .f32 0x00000000#32) pads_S2x1x1024_S2x3x1024_000_110_000 h_S_) (pad S2x3x1024 ![0, 0, 0] ![0, 2, 0] ![0, 0, 0] (broadcastInDim S2x1x1024 ![0, 2] bcast_S2x1024_S2x1x1024_0_2 (Host.reduceAdd (shapeCast _ (shV m c) shapeCasts_S2x1024_S2x1x1024) (constant S_ .f32 0x00000000#32) reducesTo_S2x1x1024_S2x1024_d1 h_S_)) (constant S_ .f32 0x00000000#32) pads_S2x1x1024_S2x3x1024_000_020_000 h_S_)) : FVec Ideal S2x3x1024 .f32) = FfnBwdAIdeal.Mine.gSsg (args m c) := by
  funext i
  idx_vars i
  pointwise [FfnBwdAIdeal.Mine.gSsg]
  rw [Fin.sum_univ_one, Fin.sum_univ_one, Fin.sum_univ_one, gyV_at m hB, scV_at m hB, shV_at m hB]
  unfold FfnBwdAIdeal.Mine.three
  have h3 : i1.val < 3 := i1.isLt
  by_cases h0 : i1.val = 0
  · rw [dif_neg (by omega), dif_neg (by omega), dif_pos (by omega), if_pos h0, zero_add, zero_add]
  · by_cases h1 : i1.val = 1
    · rw [dif_neg (by omega), dif_pos (by omega), dif_neg (by omega), if_neg h0, if_pos h1, zero_add, add_zero]
    · rw [dif_pos (by omega), dif_neg (by omega), dif_neg (by omega), if_neg h0, if_neg h1, add_zero, add_zero]
      exact gate_sum hB i0 i2
theorem ref_ng : (broadcastInDim S1x1024 ![1] bcast_S1024_S1x1024_1 (Host.reduceAdd (shapeCast _ (ngV m c) shapeCasts_S1024_S1x1x1024) (constant S_ .f32 0x00000000#32) reducesTo_S1x1x1024_S1024_d0_1 h_S_) : FVec Ideal S1x1024 .f32) = FfnBwdAIdeal.Mine.gNg (args m c) := by
  funext i
  idx_vars i
  pointwise [FfnBwdAIdeal.Mine.gNg]
  rw [Cert.Sums.reduce_01, zero_add, Fin.sum_univ_one, Fin.sum_univ_one]
  pointwise
  exact ngV_at m hB i1
end

end Cert.FfnBwdARefIdeal.Mine

end

end
-- ==== Proof.FfnA.Pre.lean ====
module

public import proofs.«01_k».proof.Proof.Gen.Pre_ffn_finite
public import proofs.«01_k».proof.Proof.Scan.Finite

/-! The precondition read back: every entry of every argument of the feed-forward block's gradient is a real number. -/

@[expose] public section

noncomputable section

open Idealize.ShloMosaic Idealize.ShloMosaic.TcCoe Idealize.SL.Sem

namespace Cert.FfnA
open Cert.Pre_ffn_finite

/-- What the precondition says of its six arrays. -/
theorem finite_of_pre (x d : FVec Ideal S2x2048x1024 .f32) (mod : FVec Ideal S2x3x1024 .f32) (g : FVec Ideal S1024 .f32)
    (wi : FVec Ideal S1024x5632 .f32) (wo : FVec Ideal S2816x1024 .f32)
    (h : Cert.Pre_ffn_finite.fn (F := Ideal) x mod g wi wo d = fun _ => 1#1) :
    (∀ i, Fi (x i)) ∧ (∀ i, Fi (mod i)) ∧ (∀ i, Fi (g i)) ∧ (∀ i, Fi (wi i)) ∧ (∀ i, Fi (wo i)) ∧ ∀ i, Fi (d i) := by
  have e := congrFun h ix0
  unfold Cert.Pre_ffn_finite.fn Cert.Pre_ffn_finite.fn_part1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  exact ⟨fi_all e0, fi_all e1, fi_all e2, fi_all e3, fi_all e4, fi_all e5⟩

end Cert.FfnA

end

end
-- ==== Proof.FfnA.Same.lean ====
module

public import proofs.«01_k».proof.Defs
public import proofs.«01_k».proof.Proof.Gen.FfnBwdA
public import proofs.«01_k».proof.Proof.FfnA.Frame

/-! The two printed programs of the feed-forward block's gradient have the same text: the kernel's frame over bits is
the frame of that one text. -/

@[expose] public section

set_option maxRecDepth 65536
set_option maxHeartbeats 4000000

noncomputable section

open Idealize.ShloMosaic Idealize.ShloMosaic.TcCoe Idealize.SL.Sem

namespace Cert.FfnA

section
variable (F : FTy → Type) [FloatOps F]

/-- The kernel's body is the same function in both programs, -/
theorem body_same : @Cert.FfnBwdA.cc0_ffn_bwd_a F _ _ = @Cert.FfnBwdAIdeal.cc0_ffn_bwd_a F _ _ := rfl

/-- so is the table of bodies, -/
theorem bodies_same : @Cert.FfnBwdA.defs₀ F _ _ = @Cert.FfnBwdAIdeal.defs₀ F _ _ := by
  unfold Cert.FfnBwdA.defs₀ Cert.FfnBwdAIdeal.defs₀
  refine congrArg Defs.onTc ?_
  funext l a
  match l, a with
  | 0, (t, s) => rfl

/-- and with the pipeline around it, -/
theorem defs_same : @Cert.FfnBwdA.defs F _ _ = @Cert.FfnBwdAIdeal.defs F _ _ :=
  congrArg (Pipeline.defs (Cert.FfnBwdAIdeal.pcfgs (F := F))) (bodies_same F)

/-- and the host program. -/
theorem main_same : @Cert.FfnBwdA.main F _ _ = @Cert.FfnBwdAIdeal.main F _ _ := rfl

end

/-- The kernel over bits terminates, leaves its arguments unchanged and every counter at zero: the same run. -/
theorem frame_bits : Cert.quiescent_FfnBwdA := by
  intro m ρ _
  have h := FfnBwdAIdeal.Own.frame (F := Bits) m ρ
  rw [← defs_same Bits, ← main_same Bits] at h
  exact h

end Cert.FfnA

end

end
-- ==== Proof.FfnA.Claim.lean ====
module

public import proofs.«01_k».proof.Defs
public import proofs.«01_k».proof.Proof.FfnA.Kernel
public import proofs.«01_k».proof.Proof.FfnA.Ref
public import proofs.«01_k».proof.Proof.FfnA.Pre
public import proofs.«01_k».proof.Proof.FfnA.Same
public import proofs.«01_k».proof.Proof.Gen.FfnBwdARefIdeal.Run
public import Idealize.ShloMosaic.Lib.Quiescent

/-! The gradient of the feed-forward block: kernel and reference leave the same six arrays, and each program ends with
its arguments unchanged. -/

@[expose] public section

set_option maxRecDepth 16384

noncomputable section

open Idealize.ShloMosaic Idealize.ShloMosaic.TcCoe Idealize.SL.Sem

namespace Cert.FfnA

/-- Kernel and reference compute the same six results over the extended reals, for real arguments. -/
theorem algebraic : Cert.algebraic_FfnBwdAIdeal_FfnBwdARefIdeal_pre_ffn_finite := by
  intro m g m' g' hpre hagree
  refine ⟨fun c => FfnBwdAIdeal.Mine.gDx (FfnBwdAIdeal.Mine.args m c), fun c => FfnBwdAIdeal.Mine.gDgu (FfnBwdAIdeal.Mine.args m c),
    fun c => FfnBwdAIdeal.Mine.gH (FfnBwdAIdeal.Mine.args m c), fun c => FfnBwdAIdeal.Mine.gDout (FfnBwdAIdeal.Mine.args m c),
    fun c => FfnBwdAIdeal.Mine.gSsg (FfnBwdAIdeal.Mine.args m c), fun c => FfnBwdAIdeal.Mine.gNg (FfnBwdAIdeal.Mine.args m c), ?_, ?_⟩
  · refine (θ_run FfnBwdAIdeal.defs _ _).mono (fun r h c => ?_) (FfnBwdAIdeal.Own.run_blocks m g)
    obtain ⟨k0, k1, k2, k3, k4, k5, k6⟩ := h c
    exact ⟨k0.trans (FfnBwdAIdeal.Mine.final8 m c), k1.trans (FfnBwdAIdeal.Mine.final9 m c),
      k2.trans (FfnBwdAIdeal.Mine.final10 m c), k3.trans (FfnBwdAIdeal.Mine.final11 m c),
      k4.trans (FfnBwdAIdeal.Mine.final12 m c), k5.trans (FfnBwdAIdeal.Mine.final13 m c), k6⟩
  · refine (θ_run FfnBwdARefIdeal.defs _ _).mono (fun r h c => ?_) (FfnBwdARefIdeal.Value.run m' g')
    obtain ⟨h0, h1, h2, h3, h4, h5⟩ := hagree c
    have e : FfnBwdARefIdeal.Mine.args m' c = FfnBwdAIdeal.Mine.args m c := by
      show Bk.mk _ _ = Bk.mk _ _
      congr 1
      · show Ffn.In.mk _ _ _ _ _ = Ffn.In.mk _ _ _ _ _
        congr 1
        · funext b t e; exact congrFun h0 _
        · funext b t e; exact congrFun h1 _
        · funext e; exact congrFun h2 _
        · funext b e; exact congrFun h3 _
        · funext b e; exact congrFun h4 _
      · funext b t e; exact congrFun h5 _
    obtain ⟨p0, p1, p2, p3, p4, p5⟩ := finite_of_pre _ _ _ _ _ _ (hpre c)
    have hA : (FfnBwdAIdeal.Mine.args m c).Real :=
      ⟨fun _ _ _ => p0 _, fun _ _ _ => p1 _, fun _ => p2 _, fun _ _ => p3 _, fun _ _ => p4 _, fun _ _ _ => p5 _⟩
    have hB : (FfnBwdARefIdeal.Mine.args m' c).Real := e ▸ hA
    obtain ⟨k0, k1, k2, k3, k4, k5, k6⟩ := h c
    exact ⟨(k0.trans (FfnBwdARefIdeal.Mine.ref_dx m' hB)).trans (congrArg FfnBwdAIdeal.Mine.gDx e),
      (k1.trans (FfnBwdARefIdeal.Mine.ref_dgu m' hB)).trans (congrArg FfnBwdAIdeal.Mine.gDgu e),
      (k2.trans (FfnBwdARefIdeal.Mine.ref_h m' hB)).trans (congrArg FfnBwdAIdeal.Mine.gH e),
      (k3.trans (FfnBwdARefIdeal.Mine.ref_dout m' hB)).trans (congrArg FfnBwdAIdeal.Mine.gDout e),
      (k4.trans (FfnBwdARefIdeal.Mine.ref_ssg m' hB)).trans (congrArg FfnBwdAIdeal.Mine.gSsg e),
      (k5.trans (FfnBwdARefIdeal.Mine.ref_ng m' hB)).trans (congrArg FfnBwdAIdeal.Mine.gNg e), k6⟩

/-- The kernel over the extended reals terminates, leaves its arguments unchanged and every counter at zero. -/
theorem frame_ideal : Cert.quiescent_FfnBwdAIdeal := fun m ρ _ => FfnBwdAIdeal.Own.frame m ρ

/-- So does the reference. -/
theorem frame_ref : Cert.quiescent_FfnBwdARefIdeal := fun m ρ _ =>
  (θ_run Cert.FfnBwdARefIdeal.defs _ _).mono (fun r h => ⟨fun c => (h c).2.2.2.2.2.2, sem_eq_zero_of_no_sems (by decide) r.2⟩)
    (Cert.FfnBwdARefIdeal.Value.run m ρ)

end Cert.FfnA

end

end
-- ==== Proof.Mix.Kernel.lean ====
module

public import proofs.«01_k».proof.Proof.Gen.MixBwdIdeal.Value
public import proofs.«01_k».proof.Proof.FfnA.Math
public import Idealize.ShloMosaic.Lib.Pipeline.ValueKit
public import Idealize.ShloMosaic.Lib.Pipeline.ReadBack
public import Idealize.ShloMosaic.Lib.Pointwise
public import Idealize.ShloMosaic.Lib.Claim

@[expose] public section

/-! The backward call of a mixer's last product, its bias and its gate: what the kernel's blocks hold
after each point of the grid, and the four results it returns. -/

set_option maxRecDepth 16384

noncomputable section

open Idealize.ShloMosaic Idealize.ShloMosaic.TcCoe Idealize.SL.Sem
open Idealize.ShloMosaic.Pipeline (Dat)

namespace Cert.MixBwdIdeal.Mine
open Cert.MixBwdIdeal Cert.MixBwdIdeal.Gen Cert.Sums Cert.FfnA

variable (m : (ℓ : Loc nD τ sig) → Buf (Elt Ideal) ℓ)

/-- The five arguments. -/
structure Args where
  a : Vec Ideal S2x2048x1024 .f32
  mod : Vec Ideal S2x3x1024 .f32
  w : Vec Ideal S1024x1024 .f32
  b : Vec Ideal S1024 .f32
  d : Vec Ideal S2x2048x1024 .f32

def args (c : Dev nD) : Args :=
  ⟨m (c, Proc.tc.devRef main_arg0), m (c, Proc.tc.devRef main_arg1), m (c, Proc.tc.devRef main_arg2),
    m (c, Proc.tc.devRef main_arg3), m (c, Proc.tc.devRef main_arg4)⟩

/-- The forward product with its bias, and the gradient at it. -/
def y (A : Args) (b : Fin 2) (t : Fin 2048) (e : Fin 1024) : EReal :=
  (∑ k : Fin 1024, A.a (ix3 b t k) * A.w (ix2 k e)) + A.b (ix1 e)
def dy (A : Args) (b : Fin 2) (t : Fin 2048) (e : Fin 1024) : EReal :=
  (1 + A.mod (ix3 b 2 e)) * A.d (ix3 b t e)

/-! The arrays that the host prepares. -/

theorem arr_d (c : Dev nD) (r : Fin 4096) (e : Fin 1024) :
    V m c main_v4 (ix2 r e) = (args m c).d (ix3 (bat r.val) (pl r.val) e) := by
  entry_read
  pointwise [args]
  have h : r.val / 2048 % 2 = r.val / 2048 := by omega
  simp only [bat, pl, h]
theorem arr_y (c : Dev nD) (r : Fin 4096) (e : Fin 1024) :
    V m c main_v6 (ix2 r e) = y (args m c) (bat r.val) (pl r.val) e := by
  entry_read
  pointwise [args, y]
  have h : r.val / 2048 % 2 = r.val / 2048 := by omega
  simp only [bat, pl, h]
theorem arr_w (c : Dev nD) (k e : Fin 1024) : V m c main_v7 (ix2 k e) = (args m c).w (ix2 k e) := by
  entry_read
  pointwise [args]
theorem arr_mod (c : Dev nD) : V m c main_arg1 = (args m c).mod := V_main_arg1 m c

theorem idx : ∀ t : Fin grid0.N,
    win0_0.index t = ![t.val, 0] ∧ win0_1.index t = ![t.val, 0] ∧
    win0_2.index t = ![t.val / 4, 0, 0] ∧ win0_3.index t = ![0, 0] ∧
    win0_4.index t = ![t.val, 0] ∧ win0_5.index t = ![t.val, 0] ∧ win0_6.index t = ![t.val / 4, 0, 0] ∧
    win0_7.index t = ![0, 0] := by
  decide +kernel

theorem hN (t : Fin cfg0.N) : t.val < 8 := t.isLt

/-- The row of the flat batch, its sequence and its place. -/
abbrev row (t : Fin cfg0.N) (r : Fin 512) : Fin 4096 := ⟨t.val * 512 + r.val, by have := hN t; omega⟩
abbrev rb (t : Fin cfg0.N) (r : Fin 512) : Fin 2 := bat (row t r).val
abbrev rp (t : Fin cfg0.N) (r : Fin 512) : Fin 2048 := pl (row t r).val
theorem rb_eq (t : Fin cfg0.N) (r : Fin 512) : rb t r = ⟨t.val / 4, by have := hN t; omega⟩ :=
  Fin.ext (by have := hN t; show (t.val * 512 + r.val) / 2048 % 2 = t.val / 4; omega)

section
variable (c : Dev nD) (t : Fin cfg0.N)
theorem blk0 (r : Fin 512) (e : Fin 1024) : iblk m c 0 t (ix2 r e) = (args m c).d (ix3 (rb t r) (rp t r) e) := by
  have h : iblk m c 0 t (ix2 r e) = V m c main_v4 (ix2 (row t r) e) := by blk_point [iblk, idx t]
  exact h.trans (arr_d m c _ e)
theorem blk1 (r : Fin 512) (e : Fin 1024) : iblk m c 1 t (ix2 r e) = y (args m c) (rb t r) (rp t r) e := by
  have h : iblk m c 1 t (ix2 r e) = V m c main_v6 (ix2 (row t r) e) := by blk_point [iblk, idx t]
  exact h.trans (arr_y m c _ e)
theorem blk2 (r : Fin 512) (k : Fin 3) (e : Fin 1024) : iblk m c 2 t (ix3 0 k e) = (args m c).mod (ix3 (rb t r) k e) := by
  have h : iblk m c 2 t (ix3 0 k e) = V m c main_arg1 (ix3 ⟨t.val / 4, by have := hN t; omega⟩ k e) := by blk_point [iblk, idx t]
  rw [h, arr_mod, rb_eq]
theorem blk3 (k e : Fin 1024) : iblk m c 3 t (ix2 k e) = (args m c).w (ix2 k e) := by
  have h : iblk m c 3 t (ix2 k e) = V m c main_v7 (ix2 k e) := by blk_point [iblk, idx t]
  exact h.trans (arr_w m c k e)

/-! What a point computes. -/

theorem p6 (r : Fin 512) (e : Fin 1024) : k0_pay6 (iblk m c 0 t) (iblk m c 2 t) (ix2 r e) = dy (args m c) (rb t r) (rp t r) e := by
  pointwise [k0_pay6, k0_pay5]
  rw [blk0, blk2 m c t r]; rfl
theorem p8 (r : Fin 512) (k : Fin 1024) : k0_pay8 (iblk m c 0 t) (iblk m c 2 t) (iblk m c 3 t) (ix2 r k) =
    ∑ e : Fin 1024, dy (args m c) (rb t r) (rp t r) e * (args m c).w (ix2 k e) := by
  pointwise [k0_pay8, k0_pay7]
  exact Finset.sum_congr rfl fun e _ => congrArg₂ _ (p6 m c t r e) (blk3 m c t k e)
theorem p9 (e : Fin 1024) : k0_pay9 (iblk m c 0 t) (iblk m c 1 t) (ix2 0 e) =
    blkSum (fun b q => (args m c).d (ix3 b q e) * y (args m c) b q e) t.val := by
  pointwise [k0_pay9, k0_pay5]
  exact Finset.sum_congr rfl fun r _ => congrArg₂ _ (blk0 m c t r e) (blk1 m c t r e)
theorem p4 (o : Vec Ideal S1x1024 .f32) (e : Fin 1024) : k0_pay4 (k0_pay6 (iblk m c 0 t) (iblk m c 2 t)) o (ix2 0 e) =
    o (ix2 0 e) + blkSum (fun b q => dy (args m c) b q e) t.val := by
  pointwise [k0_pay4]
  exact congrArg _ (Finset.sum_congr rfl fun r _ => p6 m c t r e)
theorem p2 (o : Vec Ideal S1x1024 .f32) (e : Fin 1024) : k0_pay2 (k0_pay9 (iblk m c 0 t) (iblk m c 1 t)) o (ix2 0 e) =
    o (ix2 0 e) + blkSum (fun b q => (args m c).d (ix3 b q e) * y (args m c) b q e) t.val := by
  refine Eq.trans ?_ (congrArg _ (p9 m c t e))
  pointwise [k0_pay2]
end

/-! The gate's window, one row of a box of three axes, stored and read as a row of a matrix. -/

section
variable {V : EltTy → Type} {η : EltTy}
/-- That row, as a rectangle of the window. -/
abbrev rowR (h0 : (![1, 1, 1024] : Fin 3 → ℕ) 0 = 1) (hs : ∀ i : Fin 2, (![1, 1, 1024] : Fin 3 → ℕ) i.succ = S1x1024.size i)
    (hw : ∀ a, (Rect.unit (s := S1x1x1024) ![0, 0, 0] ![1, 1, 1024] inb_S1x1x1024_S1x1x1024_0_0_0).stride a = 1) : Rect S1x1x1024 :=
  (Rect.unit (s := S1x1x1024) ![0, 0, 0] ![1, 1, 1024] inb_S1x1x1024_S1x1x1024_0_0_0).within
    ((Rect.unit (s := S1x1024) ![0, 0] ![1, 1024] inb_S1x1024_S1x1024_0_0).consLift ![1, 1, 1024] h0 hs) hw
/-- The same as a box that is loaded. -/
abbrev rowL (h0 : (![1, 1, 1024] : Fin 3 → ℕ) 0 = 1) (hs : ∀ i : Fin 2, (![1, 1, 1024] : Fin 3 → ℕ) i.succ = S1x1024.size i)
    (hw : ∀ a, (Rect.unit (s := S1x1x1024) ![0, 0, 0] ![1, 1, 1024] inb_S1x1x1024_S1x1x1024_0_0_0).stride a = 1) : LoadRect S1x1x1024 :=
  (Rect.unit (s := S1x1x1024) ![0, 0, 0] ![1, 1, 1024] inb_S1x1x1024_S1x1x1024_0_0_0).withinL
    ((Rect.unit (s := S1x1024) ![0, 0] ![1, 1024] inb_S1x1024_S1x1024_0_0).toLoadRect.consLift ![1, 1, 1024] h0 hs) hw

variable {h0 : (![1, 1, 1024] : Fin 3 → ℕ) 0 = 1} {hs : ∀ i : Fin 2, (![1, 1, 1024] : Fin 3 → ℕ) i.succ = S1x1024.size i}
  {hw : ∀ a, (Rect.unit (s := S1x1x1024) ![0, 0, 0] ![1, 1, 1024] inb_S1x1x1024_S1x1x1024_0_0_0).stride a = 1}
/-- What was stored last is read. -/
theorem row_hit [∀ e, Nonempty (V e)] (w : S1x1024.Idx → V η)
    (hR : (rowR h0 hs hw).shape.numel = (Rect.unit (s := S1x1024) ![0, 0] ![1, 1024] inb_S1x1024_S1x1024_0_0).shape.numel)
    (L : List (View.Piece V S1x1x1024 η)) (e : Fin 1024) :
    View.canon (⟨rowR h0 hs hw, Rect.payAlong (r := Rect.unit (s := S1x1024) ![0, 0] ![1, 1024] inb_S1x1024_S1x1024_0_0) hR w⟩ :: L)
      (ix3 0 0 e) = w (ix2 0 e) := by
  have hx : (rowR h0 hs hw).emb (ix3 (n0 := 1) (n1 := 1) 0 0 e : (rowR h0 hs hw).shape.Idx) = ix3 0 0 e :=
    Rect.emb_eq_of_coords _ _ _ fun a => by
      fin_cases a
      · rfl
      · rfl
      · show e.val = 0 + 0 + 1 * e.val; omega
  refine (congrArg (View.canon _) hx.symm).trans ((View.canon_cons_emb _ _ _ _).trans ?_)
  exact Rect.payAlong_consLift _ _ h0 hs w hR (ix3 (n0 := 1) (n1 := 1) 0 0 e : (rowR h0 hs hw).shape.Idx) (ix2 0 e) fun i => by fin_cases i <;> rfl
/-- The loaded row, entry by entry. -/
theorem row_load (f : S1x1x1024.Idx → V η)
    (hR : (Rect.unit (s := S1x1024) ![0, 0] ![1, 1024] inb_S1x1024_S1x1024_0_0).toLoadRect.shape.numel = (rowL h0 hs hw).shape.numel)
    (e : Fin 1024) : LoadRect.valAlong (lr := (Rect.unit (s := S1x1024) ![0, 0] ![1, 1024] inb_S1x1024_S1x1024_0_0).toLoadRect) hR
      (fun x => f ((rowL h0 hs hw).idx x)) (ix2 0 e) = f (ix3 0 0 e) := by
  have hx : Shape.reshapeEquiv hR (ix2 (n0 := 1) 0 e) = Fin.cons ⟨0, Nat.one_pos⟩ (ix2 (n0 := 1) 0 e) :=
    Shape.reshapeEquiv_cons_one (d := ![1, 1024]) _ _
  refine congrArg f ?_
  rw [hx]
  funext a
  refine Fin.ext ?_
  fin_cases a
  · rfl
  · rfl
  · show 0 + 0 + 1 * e.val = e.val; omega
end
/-- The window filled with zeros. -/
theorem zero_one (e : Fin 1024) :
    View.canon [(⟨Rect.unit (s := S1x1x1024) ![0, 0, 0] ![1, 1, 1024] inb_S1x1x1024_S1x1x1024_0_0_0, k0_pay1 (F := Ideal)⟩ :
      View.Piece (Elt Ideal) S1x1x1024 .f32)] (ix3 0 0 e) = (0 : EReal) := by
  rw [View.canon_cons_unit_lit _ _ _ (by decide)]
  pointwise [k0_pay1]

/-! The four results. -/

def gDa (A : Args) : Vec Ideal S4096x1024 .f32 := fun x =>
  ∑ e : Fin 1024, dy A (bat (x 0).val) (pl (x 0).val) e * A.w (ix2 (x 1) e)
def gDy (A : Args) : Vec Ideal S4096x1024 .bf16 := fun x => dy A (bat (x 0).val) (pl (x 0).val) (x 1)
def gGate (A : Args) : Vec Ideal S2x1x1024 .f32 := fun x => ∑ t : Fin 2048, A.d (ix3 (x 0) t (x 2)) * y A (x 0) t (x 2)
def gBias (A : Args) : Vec Ideal S1x1024 .f32 := fun x => ∑ b : Fin 2, ∑ t : Fin 2048, dy A b t (x 1)

section
variable (c : Dev nD) (t : Fin cfg0.N)
theorem out4 : (outsAt0 m c t.val t.isLt).1 = k0_pay8 (iblk m c 0 t) (iblk m c 2 t) (iblk m c 3 t) := by
  by_cases h0 : t.val % 4 = 0
  · by_cases h1 : t.val % 8 = 0
    · rw [outsAt0_A m c t h0 h1]; frame_out
    · rw [outsAt0_C m c t h0 h1]; frame_out
  · rw [outsAt0_B m c t h0 (by omega)]; frame_out
theorem out5 : (outsAt0 m c t.val t.isLt).2.1 = k0_pay7 (iblk m c 0 t) (iblk m c 2 t) := by
  by_cases h0 : t.val % 4 = 0
  · by_cases h1 : t.val % 8 = 0
    · rw [outsAt0_A m c t h0 h1]; frame_out
    · rw [outsAt0_C m c t h0 h1]; frame_out
  · rw [outsAt0_B m c t h0 (by omega)]; frame_out

theorem out6_new (h0 : t.val % 4 = 0) (e : Fin 1024) : (outsAt0 m c t.val t.isLt).2.2.1 (ix3 0 0 e) =
    from_ (fun b q => (args m c).d (ix3 b q e) * y (args m c) b q e) t.val 1 := by
  by_cases h1 : t.val % 8 = 0
  · rw [outsAt0_A m c t h0 h1]; frame_out
    refine (row_hit _ _ _ e).trans ((p2 ..).trans (Eq.trans (congrArg (· + _) ?_) (from_one _ _)))
    rw [View.readCov_eq_canon']
    exact (row_load _ _ e).trans (zero_one e)
  · rw [outsAt0_C m c t h0 h1]; frame_out
    refine (row_hit _ _ _ e).trans ((p2 ..).trans (Eq.trans (congrArg (· + _) ?_) (from_one _ _)))
    rw [View.readCov_eq_canon']
    exact (row_load _ _ e).trans (zero_one e)
theorem out6_old (h0 : ¬t.val % 4 = 0) (e : Fin 1024) : (outsAt0 m c t.val t.isLt).2.2.1 (ix3 0 0 e) =
    (outsAt0 m c (t.val - 1) (lt_of_le_of_lt (Nat.sub_le _ _) t.isLt)).2.2.1 (ix3 0 0 e) +
      blkSum (fun b q => (args m c).d (ix3 b q e) * y (args m c) b q e) t.val := by
  rw [outsAt0_B m c t h0 (by omega)]; frame_out
  refine (row_hit _ _ _ e).trans ((p2 ..).trans (congrArg (· + _) ?_))
  exact (row_load _ _ e).trans (congrFun (Memref.IsWhole.read_unread _ _) _)
theorem out7_new (h0 : t.val % 8 = 0) (e : Fin 1024) : (outsAt0 m c t.val t.isLt).2.2.2 (ix2 0 e) =
    from_ (fun b q => dy (args m c) b q e) t.val 1 := by
  rw [outsAt0_A m c t (by omega) h0]; frame_out
  refine (p4 ..).trans (Eq.trans (congrArg (· + _) ?_) (from_one _ _))
  pointwise [k0_pay3]
theorem out7_old (h1 : ¬t.val % 8 = 0) (e : Fin 1024) : (outsAt0 m c t.val t.isLt).2.2.2 (ix2 0 e) =
    (outsAt0 m c (t.val - 1) (lt_of_le_of_lt (Nat.sub_le _ _) t.isLt)).2.2.2 (ix2 0 e) + blkSum (fun b q => dy (args m c) b q e) t.val := by
  by_cases h0 : t.val % 4 = 0
  · rw [outsAt0_C m c t h0 h1]; frame_out
    exact p4 ..
  · rw [outsAt0_B m c t h0 h1]; frame_out
    exact p4 ..

/-- After point `n`, the gate's window holds the sum over its sequence's blocks so far. -/
theorem sum6 (e : Fin 1024) (n : ℕ) (hn : n < cfg0.N) : (outsAt0 m c n hn).2.2.1 (ix3 0 0 e) =
    from_ (fun b q => (args m c).d (ix3 b q e) * y (args m c) b q e) (n / 4 * 4) (n % 4 + 1) := by
  induction n with
  | zero => exact out6_new m c ⟨0, hn⟩ rfl e
  | succ n ih =>
    by_cases h : (n + 1) % 4 = 0
    · refine (out6_new m c ⟨n + 1, hn⟩ h e).trans ?_
      rw [show (n + 1) / 4 * 4 = n + 1 by omega, h]
    · refine (out6_old m c ⟨n + 1, hn⟩ h e).trans ((congrArg (· + _) (ih (by omega))).trans ?_)
      rw [show (n + 1) / 4 * 4 = n / 4 * 4 by omega, show (n + 1) % 4 + 1 = n % 4 + 1 + 1 by omega, ← from_succ _ _ (n % 4 + 1)]
      show _ + blkSum _ (n + 1) = _
      rw [show n / 4 * 4 + (n % 4 + 1) = n + 1 by omega]
/-- After point `n`, the bias's window holds the sum over the blocks so far. -/
theorem sum7 (e : Fin 1024) (n : ℕ) (hn : n < cfg0.N) :
    (outsAt0 m c n hn).2.2.2 (ix2 0 e) = from_ (fun b q => dy (args m c) b q e) 0 (n + 1) := by
  induction n with
  | zero => exact out7_new m c ⟨0, hn⟩ rfl e
  | succ n ih =>
    have h8 : n + 1 < 8 := hn
    refine (out7_old m c ⟨n + 1, hn⟩ (by show ¬(n + 1) % 8 = 0; omega) e).trans ((congrArg (· + _) (ih (by omega))).trans ?_)
    rw [← from_succ _ _ (n + 1), Nat.zero_add]
end

theorem landDa {A : Args} {t : Fin cfg0.N} {r : Fin 512} (k : Fin 1024) {x : S4096x1024.Idx} (hx : x = ix2 (row t r) k) :
    (∑ e : Fin 1024, dy A (rb t r) (rp t r) e * A.w (ix2 k e)) = gDa A x := by subst hx; rfl
theorem landDy {A : Args} {t : Fin cfg0.N} {r : Fin 512} (k : Fin 1024) {x : S4096x1024.Idx} (hx : x = ix2 (row t r) k) :
    dy A (rb t r) (rp t r) k = gDy A x := by subst hx; rfl
theorem landGate {A : Args} {b : Fin 2} (e : Fin 1024) {x : S2x1x1024.Idx} (hx : x = ix3 b 0 e) :
    (∑ t : Fin 2048, A.d (ix3 b t e) * y A b t e) = gGate A x := by subst hx; rfl
theorem landBias {A : Args} (e : Fin 1024) {x : S1x1024.Idx} (hx : x = ix2 0 e) :
    (∑ b : Fin 2, ∑ t : Fin 2048, dy A b t e) = gBias A x := by subst hx; rfl

theorem final4 (c : Dev nD) : (dats m 0 c).arrAt 4 cfg0.N = gDa (args m c) := by
  refine (dats m 0 c).arrAt_eq_of_covers 4 _ (by decide +kernel) fun t hf x => ?_
  blk_simp; rw [after0_4, out4]
  have ht := hN t
  idx_vars x
  exact (p8 m c t x0 x1).trans (landDa x1 (by blk_ext [idx t]))
theorem final5 (c : Dev nD) : (dats m 0 c).arrAt 5 cfg0.N = gDy (args m c) := by
  refine (dats m 0 c).arrAt_eq_of_covers 5 _ (by decide +kernel) fun t hf x => ?_
  blk_simp; rw [after0_5, out5]
  have ht := hN t
  idx_vars x
  exact (p6 m c t x0 x1).trans (landDy x1 (by blk_ext [idx t]))
theorem final6 (c : Dev nD) : (dats m 0 c).arrAt 6 cfg0.N = gGate (args m c) := by
  refine (dats m 0 c).arrAt_eq_of_covers 6 _ (by decide +kernel) fun t hf x => ?_
  blk_simp; rw [after0_6]
  have ht := hN t
  have h3 : t.val % 4 = 3 := (flush0_6 t).mp hf
  idx_vars x
  rw [Fin.eq_zero x0, Fin.eq_zero x1]
  refine (sum6 m c x2 t.val t.isLt).trans ?_
  rw [h3]
  exact (from_seq _ ⟨t.val / 4, by omega⟩).trans (landGate x2 (by blk_ext [idx t]))
theorem final7 (c : Dev nD) : (dats m 0 c).arrAt 7 cfg0.N = gBias (args m c) := by
  refine (dats m 0 c).arrAt_eq_of_covers 7 _ (by decide +kernel) fun t hf x => ?_
  blk_simp; rw [after0_7]
  have ht := hN t
  have h7 : t.val % 8 = 7 := (flush0_7 t).mp hf
  idx_vars x
  rw [Fin.eq_zero x0]
  refine (sum7 m c x1 t.val t.isLt).trans ?_
  rw [show t.val + 1 = 8 by omega]
  exact (from_all _).trans (landBias x1 (by blk_ext [idx t]))

end Cert.MixBwdIdeal.Mine

end

end
-- ==== Proof.Mix.Claim.lean ====
module

public import proofs.«01_k».proof.Defs
public import proofs.«01_k».proof.Proof.Mix.Kernel
public import proofs.«01_k».proof.Proof.Gen.MixBwdRefIdeal.Run
public import proofs.«01_k».proof.Proof.Common.Reduce
public import Idealize.ShloMosaic.Lib.Quiescent

/-! The backward call of a mixer's last product: kernel and reference leave the same four arrays. -/

@[expose] public section

set_option maxRecDepth 16384

noncomputable section

open Idealize.ShloMosaic Idealize.ShloMosaic.TcCoe Idealize.SL.Sem

namespace Cert.Mix
open MixBwdIdeal.Mine Sums

section
open MixBwdRefIdeal MixBwdRefIdeal.Gen

theorem ref_da (A : Args) :
    (shapeCast _ (Host.dotGeneral (F := Ideal) (φ₁ := .f32) (φ₂ := .f32) dot_S2x2048x1024_S1024x1024_S2x2048x1024_2_1_01_0_n_n none (mulf (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 2, 0] A.mod slices_S2x3x1024_S2x1x1024_0_2_0) shapeCasts_S2x1x1024_S2x1024)))) A.d) A.w) shapeCasts_S2x2048x1024_S4096x1024 : FVec Ideal S4096x1024 .f32) = gDa A := by
  funext x
  idx_vars x
  pointwise [gDa, MixBwdIdeal.Mine.dy, MixBwdIdeal.Mine.y]
  have h : x0.val / 2048 % 2 = x0.val / 2048 := by omega
  simp only [bat, pl, h]
theorem ref_dy (A : Args) :
    (truncf .bf16 (shapeCast _ (mulf (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 2, 0] A.mod slices_S2x3x1024_S2x1x1024_0_2_0) shapeCasts_S2x1x1024_S2x1024)))) A.d) shapeCasts_S2x2048x1024_S4096x1024) bitsLt_bf16_f32 : FVec Ideal S4096x1024 .bf16) = gDy A := by
  funext x
  idx_vars x
  pointwise [gDy, MixBwdIdeal.Mine.dy, MixBwdIdeal.Mine.y]
  have h : x0.val / 2048 % 2 = x0.val / 2048 := by omega
  simp only [bat, pl, h]
theorem ref_gate (A : Args) :
    (extractStridedSlice S2x1x1024 ![0, 2, 0] (pad S2x3x1024 ![0, 2, 0] ![0, 0, 0] ![0, 0, 0] (broadcastInDim S2x1x1024 ![0, 2] bcast_S2x1024_S2x1x1024_0_2 (Host.reduceAdd (shapeCast _ (Host.reduceAdd (mulf A.d (addf (Host.dotGeneral (F := Ideal) (φ₁ := .f32) (φ₂ := .f32) dot_S2x2048x1024_S1024x1024_S2x2048x1024_2_0_01_1_n_n none A.a A.w) (broadcastInDim S2x2048x1024 ![0, 1, 2] bcast_S1x1x1024_S2x2048x1024_0_1_2 (broadcastInDim S1x1x1024 ![2] bcast_S1024_S1x1x1024_2 A.b)))) (constant S_ .f32 0x00000000#32) reducesTo_S2x2048x1024_S2x1024_d1 h_S_) shapeCasts_S2x1024_S2x1x1024) (constant S_ .f32 0x00000000#32) reducesTo_S2x1x1024_S2x1024_d1 h_S_)) (constant S_ .f32 0x00000000#32) pads_S2x1x1024_S2x3x1024_000_200_000 h_S_) slices_S2x3x1024_S2x1x1024_0_2_0 : FVec Ideal S2x1x1024 .f32) = gGate A := by
  funext x
  idx_vars x
  pointwise [gGate, MixBwdIdeal.Mine.dy, MixBwdIdeal.Mine.y]
  exact Fin.sum_univ_one _
theorem ref_bias (A : Args) :
    (broadcastInDim S1x1024 ![1] bcast_S1024_S1x1024_1 (Host.reduceAdd (shapeCast _ (Host.reduceAdd (mulf (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 2, 0] A.mod slices_S2x3x1024_S2x1x1024_0_2_0) shapeCasts_S2x1x1024_S2x1024)))) A.d) (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) = gBias A := by
  funext x
  idx_vars x
  pointwise [gBias, MixBwdIdeal.Mine.dy, MixBwdIdeal.Mine.y]
  refine (reduce_01 _ _ _ x1).trans ?_
  rw [zero_add, Fin.sum_univ_one, Fin.sum_univ_one]
  pointwise []
  refine (reduce_01 _ _ _ x1).trans ?_
  rw [zero_add]
  refine Finset.sum_congr rfl fun b _ => Finset.sum_congr rfl fun t _ => ?_
  pointwise []
end

/-- The same five arguments, of the reference. -/
def refArgs (m : (ℓ : Loc MixBwdRefIdeal.nD MixBwdRefIdeal.τ MixBwdRefIdeal.sig) → Buf (Elt Ideal) ℓ)
    (c : Dev MixBwdRefIdeal.nD) : Args :=
  ⟨m (c.tc.loc MixBwdRefIdeal.main_arg0), m (c.tc.loc MixBwdRefIdeal.main_arg1), m (c.tc.loc MixBwdRefIdeal.main_arg2),
    m (c.tc.loc MixBwdRefIdeal.main_arg3), m (c.tc.loc MixBwdRefIdeal.main_arg4)⟩

/-- Kernel and reference compute the same four gradients over the extended reals. -/
theorem algebraic : Cert.algebraic_MixBwdIdeal_MixBwdRefIdeal := by
  intro m g m' g' _ hagree
  refine ⟨fun c => gDa (args m c), fun c => gDy (args m c), fun c => gGate (args m c), fun c => gBias (args m c), ?_, ?_⟩
  · exact (θ_run MixBwdIdeal.defs _ _).mono (fun r h c =>
      ⟨(h c).1.trans (final4 m c), (h c).2.1.trans (final5 m c), (h c).2.2.1.trans (final6 m c),
        (h c).2.2.2.1.trans (final7 m c), (h c).2.2.2.2⟩) (MixBwdIdeal.Value.run_blocks m g)
  · refine (θ_run MixBwdRefIdeal.defs _ _).mono (fun r h c => ?_) (MixBwdRefIdeal.Value.run m' g')
    obtain ⟨h0, h1, h2, h3, h4⟩ := hagree c
    have e : refArgs m' c = args m c := by
      show Args.mk _ _ _ _ _ = Args.mk _ _ _ _ _
      exact congr (congr (congr (congr (congrArg Args.mk h0) h1) h2) h3) h4
    have k := h c
    exact ⟨(k.1.trans (ref_da (refArgs m' c))).trans (congrArg gDa e),
      (k.2.1.trans (ref_dy (refArgs m' c))).trans (congrArg gDy e),
      (k.2.2.1.trans (ref_gate (refArgs m' c))).trans (congrArg gGate e),
      (k.2.2.2.1.trans (ref_bias (refArgs m' c))).trans (congrArg gBias e), k.2.2.2.2⟩

/-- The reference terminates, leaves its arguments unchanged and every counter at zero. -/
theorem frame_ref : Cert.quiescent_MixBwdRefIdeal := fun m ρ _ =>
  (θ_run Cert.MixBwdRefIdeal.defs _ _).mono (fun r h => ⟨fun c => (h c).2.2.2.2, sem_eq_zero_of_no_sems (by decide) r.2⟩)
    (Cert.MixBwdRefIdeal.Value.run m ρ)

end Cert.Mix

end

end
-- ==== Proof.Act.Core.lean ====
module

public import proofs.«01_k».proof.Proof.Common.Sums
public import Idealize.ShloMosaic.Lib.Pointwise
public import Idealize.ShloMosaic.Lib.Claim

@[expose] public section

/-! The derivative of the channel norm followed by its activation, over the extended reals, entry by entry. -/

noncomputable section

open Idealize.ShloMosaic

namespace Cert.Act

/-- The rows, the norm's gain and bias, and the gradient that arrives. -/
structure In where
  u : Fin 2 → Fin 2048 → Fin 1024 → EReal
  g : Fin 1024 → EReal
  b : Fin 1024 → EReal
  d : Fin 2 → Fin 2048 → Fin 1024 → EReal

/-- The numbers 1024, the norm's small constant and minus one half, as they are written in 32 bits. -/
abbrev width : EReal := Ideal.ofBits FTy.f32 0x44800000#32
abbrev tiny : EReal := Ideal.ofBits FTy.f32 0x358637BD#32
abbrev mhalf : EReal := Ideal.ofBits FTy.f32 0xBF000000#32

variable (A : In) (b : Fin 2) (t : Fin 2048)

/-- The centred row, its variance with the small constant, the reciprocal root and that root's derivative. -/
def c (e : Fin 1024) : EReal := A.u b t e - Ideal.div (∑ k : Fin 1024, A.u b t k) width
def v : EReal := Ideal.div (∑ e : Fin 1024, c A b t e * c A b t e) width + tiny
def r : EReal := Ideal.rsqrt (v A b t)
def q : EReal := mhalf * Ideal.div (r A b t) (v A b t)
/-- The normed row, the activation's argument, and the gradient at it. -/
def xh (e : Fin 1024) : EReal := c A b t e * r A b t
def s (e : Fin 1024) : EReal := xh A b t e * A.g e + A.b e
def p (e : Fin 1024) : EReal :=
  A.d b t e * Ideal.logistic (s A b t e) +
    s A b t e * A.d b t e * (Ideal.logistic (s A b t e) * (1 - Ideal.logistic (s A b t e)))
/-- The gradient at the normed row, the part that goes through the variance, the gradient at the centred row
and the part that goes through the mean. -/
def pg (e : Fin 1024) : EReal := p A b t e * A.g e
def w : EReal := Ideal.div ((∑ e : Fin 1024, c A b t e * pg A b t e) * q A b t) width
def dc (e : Fin 1024) : EReal := pg A b t e * r A b t + c A b t e * w A b t + w A b t * c A b t e
def mm : EReal := Ideal.div (∑ e : Fin 1024, -dc A b t e) width
/-- The gradient at the rows. -/
def du (e : Fin 1024) : EReal := dc A b t e + mm A b t

end Cert.Act

end

end
-- ==== Proof.Common.Rows.lean ====
module

public import proofs.«01_k».proof.Proof.Common.Sums
public import Idealize.ShloMosaic.Lib.Claim
public import Idealize.ShloMosaic.Lib.Pointwise

@[expose] public section

/-! Sums over the rows of the flat batch, taken in blocks of 256 rows. -/

noncomputable section

namespace Cert.Rows
open Cert.Sums

/-- The sum over the rows of block `i`, -/
def blkSum (f : Fin 2 → Fin 2048 → EReal) (i : ℕ) : EReal :=
  ∑ r : Fin 256, f (bat (i * 256 + r.val)) (pl (i * 256 + r.val))
/-- and over those of the first `n` blocks. -/
def upTo (f : Fin 2 → Fin 2048 → EReal) (n : ℕ) : EReal := ∑ k ∈ Finset.range n, blkSum f k

theorem upTo_one (f : Fin 2 → Fin 2048 → EReal) (i : ℕ) (h : i = 0) : 0 + blkSum f i = upTo f (i + 1) := by
  subst h; simp [upTo]
theorem upTo_succ (f : Fin 2 → Fin 2048 → EReal) (n : ℕ) : upTo f n + blkSum f n = upTo f (n + 1) := by
  simp [upTo, Finset.sum_range_succ]
/-- Sixteen blocks are all rows, sequence by sequence. -/
theorem upTo_all (f : Fin 2 → Fin 2048 → EReal) : upTo f 16 = ∑ b : Fin 2, ∑ t : Fin 2048, f b t := by
  have h := (Sums.blocks 16 256 4096 rfl fun r => f (bat r) (pl r)).trans (Sums.pairs 2 2048 4096 rfl fun r => f (bat r) (pl r))
  refine h.trans (Finset.sum_congr rfl fun b _ => Finset.sum_congr rfl fun t _ => ?_)
  rw [bat_of, pl_of]

end Cert.Rows

end

end
-- ==== Proof.Act.Kernel.lean ====
module

public import proofs.«01_k».proof.Proof.Gen.ActBwdIdeal.Value
public import proofs.«01_k».proof.Proof.Act.Core
public import proofs.«01_k».proof.Proof.Common.Rows
public import Idealize.ShloMosaic.Lib.Pipeline.ValueKit
public import Idealize.ShloMosaic.Lib.Pipeline.ReadBack
public import Idealize.ShloMosaic.Lib.Pointwise
public import Idealize.ShloMosaic.Lib.Claim

@[expose] public section

/-! The backward call of the channel norm and its activation: what the kernel's blocks hold after each
point of the grid, and the two results it returns. -/

set_option maxRecDepth 16384

noncomputable section

open Idealize.ShloMosaic Idealize.ShloMosaic.TcCoe Idealize.SL.Sem
open Idealize.ShloMosaic.Pipeline (Dat)

namespace Cert.ActBwdIdeal.Mine
open Cert.ActBwdIdeal Cert.ActBwdIdeal.Gen Cert.Sums Cert.Rows

variable (m : (ℓ : Loc nD τ sig) → Buf (Elt Ideal) ℓ)

/-- The kernel's arguments, entry by entry. -/
def args (c : Dev nD) : Act.In where
  u b t e := (m (c, Proc.tc.devRef main_arg0) : Vec Ideal S2x2048x1024 .f32) (ix3 b t e)
  g e := (m (c, Proc.tc.devRef main_arg1) : Vec Ideal S1024 .f32) (ix1 e)
  b e := (m (c, Proc.tc.devRef main_arg2) : Vec Ideal S1024 .f32) (ix1 e)
  d b t e := (m (c, Proc.tc.devRef main_arg3) : Vec Ideal S2x2048x1024 .f32) (ix3 b t e)

theorem arr_d (c : Dev nD) (r : Fin 4096) (e : Fin 1024) : V m c main_v0 (ix2 r e) = (args m c).d (bat r.val) (pl r.val) e := by
  entry_read
  pointwise [args]
  have h : r.val / 2048 % 2 = r.val / 2048 := by omega
  simp only [bat, pl, h]
theorem arr_u (c : Dev nD) (r : Fin 4096) (e : Fin 1024) : V m c main_v1 (ix2 r e) = (args m c).u (bat r.val) (pl r.val) e := by
  entry_read
  pointwise [args]
  have h : r.val / 2048 % 2 = r.val / 2048 := by omega
  simp only [bat, pl, h]
theorem arr_g (c : Dev nD) (e : Fin 1024) : V m c main_v2 (ix2 0 e) = (args m c).g e := by
  entry_read
  pointwise [args]
theorem arr_b (c : Dev nD) (e : Fin 1024) : V m c main_v3 (ix2 0 e) = (args m c).b e := by
  entry_read
  pointwise [args]

theorem idx : ∀ t : Fin grid0.N,
    win0_0.index t = ![t.val, 0] ∧ win0_1.index t = ![t.val, 0] ∧ win0_2.index t = ![0, 0] ∧ win0_3.index t = ![0, 0] ∧
    win0_4.index t = ![t.val, 0] ∧ win0_5.index t = ![0, 0] := by
  decide +kernel

theorem hN (t : Fin cfg0.N) : t.val < 16 := t.isLt

/-- The row of the flat batch, its sequence and its place. -/
abbrev row (t : Fin cfg0.N) (r : Fin 256) : Fin 4096 := ⟨t.val * 256 + r.val, by have := hN t; omega⟩
abbrev rb (t : Fin cfg0.N) (r : Fin 256) : Fin 2 := bat (row t r).val
abbrev rp (t : Fin cfg0.N) (r : Fin 256) : Fin 2048 := pl (row t r).val

section
variable (c : Dev nD) (t : Fin cfg0.N)
theorem blk0 (r : Fin 256) (e : Fin 1024) : iblk m c 0 t (ix2 r e) = (args m c).d (rb t r) (rp t r) e := by
  have h : iblk m c 0 t (ix2 r e) = V m c main_v0 (ix2 (row t r) e) := by blk_point [iblk, idx t]
  exact h.trans (arr_d m c _ e)
theorem blk1 (r : Fin 256) (e : Fin 1024) : iblk m c 1 t (ix2 r e) = (args m c).u (rb t r) (rp t r) e := by
  have h : iblk m c 1 t (ix2 r e) = V m c main_v1 (ix2 (row t r) e) := by blk_point [iblk, idx t]
  exact h.trans (arr_u m c _ e)
theorem blk2 (e : Fin 1024) : iblk m c 2 t (ix2 0 e) = (args m c).g e := by
  have h : iblk m c 2 t (ix2 0 e) = V m c main_v2 (ix2 0 e) := by blk_point [iblk, idx t]
  exact h.trans (arr_g m c e)
theorem blk3 (e : Fin 1024) : iblk m c 3 t (ix2 0 e) = (args m c).b e := by
  have h : iblk m c 3 t (ix2 0 e) = V m c main_v3 (ix2 0 e) := by blk_point [iblk, idx t]
  exact h.trans (arr_b m c e)

/-! What a point computes. -/

theorem p2 (r : Fin 256) (e : Fin 1024) : k0_pay2 (iblk m c 1 t) (ix2 r e) = Act.c (args m c) (rb t r) (rp t r) e := by
  pointwise [k0_pay2]
  simp only [blk1]; rfl
theorem p3 (r : Fin 256) : k0_pay3 (iblk m c 1 t) (ix2 r 0) = Act.v (args m c) (rb t r) (rp t r) := by
  pointwise [k0_pay3]
  simp only [p2]; rfl
theorem p4 (r : Fin 256) : k0_pay4 (iblk m c 1 t) (ix2 r 0) = Act.r (args m c) (rb t r) (rp t r) := by
  pointwise [k0_pay4]
  rw [p3]; rfl
theorem p5 (r : Fin 256) : k0_pay5 (iblk m c 1 t) (ix2 r 0) = Act.q (args m c) (rb t r) (rp t r) := by
  pointwise [k0_pay5]
  rw [p3, p4]; rfl
theorem p6 (r : Fin 256) (e : Fin 1024) : k0_pay6 (iblk m c 1 t) (ix2 r e) = Act.xh (args m c) (rb t r) (rp t r) e := by
  pointwise [k0_pay6]
  rw [p2, p4]; rfl
theorem p7 (r : Fin 256) (e : Fin 1024) : k0_pay7 (iblk m c 1 t) (iblk m c 2 t) (iblk m c 3 t) (iblk m c 0 t) (ix2 r e) =
    Act.p (args m c) (rb t r) (rp t r) e := by
  pointwise [k0_pay7, k0_pay1]
  simp only [p6, blk0, blk2, blk3]; rfl
theorem p10 (r : Fin 256) (e : Fin 1024) : k0_pay10 (k0_pay1 (iblk m c 2 t)) (k0_pay2 (iblk m c 1 t)) (k0_pay4 (iblk m c 1 t))
    (k0_pay5 (iblk m c 1 t)) (k0_pay7 (iblk m c 1 t) (iblk m c 2 t) (iblk m c 3 t) (iblk m c 0 t)) (ix2 r e) =
    Act.du (args m c) (rb t r) (rp t r) e := by
  pointwise [k0_pay10, k0_pay1]
  simp only [p2, p4, p5, p7, blk2, Fin.sum_univ_one, zero_sub]; rfl
theorem p8 (e : Fin 1024) : k0_pay8 (iblk m c 1 t) (iblk m c 2 t) (iblk m c 3 t) (iblk m c 0 t) (ix2 0 e) =
    blkSum (fun b q => Act.p (args m c) b q e) t.val := by
  pointwise [k0_pay8]
  exact Finset.sum_congr rfl fun r _ => p7 m c t r e
theorem p13 (o : Vec Ideal S1x1024 .f32) (e : Fin 1024) :
    k0_pay13 (k0_pay8 (iblk m c 1 t) (iblk m c 2 t) (iblk m c 3 t) (iblk m c 0 t)) o (ix2 0 e) =
    o (ix2 0 e) + blkSum (fun b q => Act.p (args m c) b q e) t.val := by
  refine Eq.trans ?_ (congrArg _ (p8 m c t e))
  pointwise [k0_pay13]
theorem p12 (o : Vec Ideal S1x1024 .f32) (e : Fin 1024) :
    k0_pay12 (k0_pay9 (iblk m c 1 t) (iblk m c 2 t) (iblk m c 3 t) (iblk m c 0 t)) o (ix2 0 e) =
    o (ix2 0 e) + blkSum (fun b q => Act.xh (args m c) b q e * Act.p (args m c) b q e) t.val := by
  pointwise [k0_pay12, k0_pay9]
  exact congrArg _ (Finset.sum_congr rfl fun r _ => congrArg₂ _ (p6 m c t r e) (p7 m c t r e))
end

/-- The two results: the gradient at the rows, and those of the gain and the bias. -/
def gDu (A : Act.In) : Vec Ideal S4096x1024 .f32 := fun x => Act.du A (bat (x 0).val) (pl (x 0).val) (x 1)
def two (A : Act.In) (k : Fin 2) (e : Fin 1024) (b : Fin 2) (t : Fin 2048) : EReal :=
  if k.val = 0 then Act.xh A b t e * Act.p A b t e else Act.p A b t e
def gTwo (A : Act.In) : Vec Ideal S2x1024 .f32 := fun x => ∑ b : Fin 2, ∑ t : Fin 2048, two A (x 0) (x 1) b t

/-! The window of two rows, stored and read row by row. -/

section
variable {V : EltTy → Type} {η : EltTy} {k : ℕ} {inb : ∀ a, (![k, 0] : Fin 2 → ℕ) a + (![1, 1024] : Fin 2 → ℕ) a ≤ S2x1024.size a}
/-- The last stored row is read there; -/
theorem row_hit [∀ e, Nonempty (V e)] (w : S1x1024.Idx → V η) (L : List (View.Piece V S2x1024 η)) (j : Fin 2) (hj : j.val = k) (e : Fin 1024) :
    View.canon (⟨Rect.unit ![k, 0] ![1, 1024] inb, w⟩ :: L) (ix2 j e) = w (ix2 0 e) := by
  have hx : (Rect.unit (s := S2x1024) ![k, 0] ![1, 1024] inb).emb (ix2 (n0 := 1) (n1 := 1024) 0 e) = ix2 j e :=
    Rect.emb_eq_of_coords _ _ _ fun a => by
      fin_cases a
      · show j.val = k + 1 * 0; omega
      · show e.val = 0 + 1 * e.val; omega
  exact (congrArg (View.canon _) hx.symm).trans (View.canon_cons_emb _ _ _ _)
/-- elsewhere, what was stored before. -/
theorem row_miss [∀ e, Nonempty (V e)] (w : S1x1024.Idx → V η) (L : List (View.Piece V S2x1024 η)) (j : Fin 2) (hj : j.val ≠ k) (e : Fin 1024) :
    View.canon (⟨Rect.unit ![k, 0] ![1, 1024] inb, w⟩ :: L) (ix2 j e) = View.canon L (ix2 j e) :=
  View.canon_cons_of_not_mem _ _ (Rect.not_mem_set_of_axis _ _ (0 : Fin 2) k 1 rfl rfl rfl (by
    show j.val < k ∨ k + 1 ≤ j.val; omega))
/-- A loaded row, entry by entry. -/
theorem row_load (f : S2x1024.Idx → V η) (j : Fin 2) (hj : j.val = k) (e : Fin 1024) :
    f ((Rect.unit (s := S2x1024) ![k, 0] ![1, 1024] inb).toLoadRect.idx (ix2 (n0 := 1) (n1 := 1024) 0 e)) = f (ix2 j e) := by
  refine congrArg f ?_
  funext a
  apply Fin.ext
  fin_cases a
  · show k + 1 * 0 = j.val; omega
  · show 0 + 1 * e.val = e.val; omega
end

theorem zero_two (k : Fin 2) (e : Fin 1024) :
    View.canon [(⟨Rect.unit ![0, 0] ![2, 1024] inb_S2x1024_S2x1024_0_0, k0_pay11 (F := Ideal)⟩ : View.Piece (Elt Ideal) S2x1024 .f32)] (ix2 k e) = (0 : EReal) := by
  rw [View.canon_cons_unit_lit _ _ _ (by decide)]
  pointwise [k0_pay11]

section
variable (c : Dev nD) (t : Fin cfg0.N)
theorem out4 : (outsAt0 m c t.val t.isLt).1 = k0_pay10 (k0_pay1 (iblk m c 2 t)) (k0_pay2 (iblk m c 1 t)) (k0_pay4 (iblk m c 1 t))
    (k0_pay5 (iblk m c 1 t)) (k0_pay7 (iblk m c 1 t) (iblk m c 2 t) (iblk m c 3 t) (iblk m c 0 t)) := by
  by_cases h0 : t.val % 16 = 0
  · rw [outsAt0_A m c t h0]; frame_out
  · rw [outsAt0_B m c t h0]; frame_out

theorem out5_new (h0 : t.val % 16 = 0) (k : Fin 2) (e : Fin 1024) : (outsAt0 m c t.val t.isLt).2 (ix2 k e) =
    upTo (two (args m c) k e) (t.val + 1) := by
  rw [outsAt0_A m c t h0]; frame_out
  have ht : t.val = 0 := by have := hN t; omega
  rw [← upTo_one _ _ ht]
  match k with
  | 0 =>
    refine (row_miss _ _ 0 (by decide) e).trans ((row_hit _ _ 0 rfl e).trans ((p12 ..).trans (congrArg (· + _) ?_)))
    rw [View.readCov_eq_canon']
    exact (row_load _ 0 rfl e).trans (zero_two 0 e)
  | 1 =>
    refine (row_hit _ _ 1 rfl e).trans ((p13 ..).trans (congrArg (· + _) ?_))
    rw [View.readCov_eq_canon']
    exact (row_load _ 1 rfl e).trans ((row_miss _ _ 1 (by decide) e).trans (zero_two 1 e))
theorem out5_old (h0 : ¬t.val % 16 = 0) (k : Fin 2) (e : Fin 1024) : (outsAt0 m c t.val t.isLt).2 (ix2 k e) =
    (outsAt0 m c (t.val - 1) (lt_of_le_of_lt (Nat.sub_le _ _) t.isLt)).2 (ix2 k e) + blkSum (two (args m c) k e) t.val := by
  rw [outsAt0_B m c t h0]; frame_out
  match k with
  | 0 =>
    refine (row_miss _ _ 0 (by decide) e).trans ((row_hit _ _ 0 rfl e).trans ((p12 ..).trans (congrArg (· + _) ?_)))
    exact row_load _ 0 rfl e
  | 1 =>
    refine (row_hit _ _ 1 rfl e).trans ((p13 ..).trans (congrArg (· + _) ?_))
    exact row_load _ 1 rfl e
/-- After point `n`, the window of the gain and the bias holds the sums over the blocks so far. -/
theorem sum5 (k : Fin 2) (e : Fin 1024) (n : ℕ) (hn : n < cfg0.N) :
    (outsAt0 m c n hn).2 (ix2 k e) = upTo (two (args m c) k e) (n + 1) := by
  induction n with
  | zero => exact out5_new m c ⟨0, hn⟩ rfl k e
  | succ n ih =>
    have h16 : n + 1 < 16 := hn
    refine (out5_old m c ⟨n + 1, hn⟩ (by show ¬(n + 1) % 16 = 0; omega) k e).trans ((congrArg (· + _) (ih (by omega))).trans ?_)
    exact upTo_succ _ (n + 1)
end

theorem landDu {A : Act.In} {t : Fin cfg0.N} {r : Fin 256} (e : Fin 1024) {x : S4096x1024.Idx} (hx : x = ix2 (row t r) e) :
    Act.du A (rb t r) (rp t r) e = gDu A x := by subst hx; rfl
theorem landTwo {A : Act.In} (k : Fin 2) (e : Fin 1024) {x : S2x1024.Idx} (hx : x = ix2 k e) :
    (∑ b : Fin 2, ∑ t : Fin 2048, two A k e b t) = gTwo A x := by subst hx; rfl

theorem final4 (c : Dev nD) : (dats m 0 c).arrAt 4 cfg0.N = gDu (args m c) := by
  refine (dats m 0 c).arrAt_eq_of_covers 4 _ (by decide +kernel) fun t hf x => ?_
  blk_simp; rw [after0_4, out4]
  have ht := hN t
  idx_vars x
  exact (p10 m c t x0 x1).trans (landDu x1 (by blk_ext [idx t]))
theorem final5 (c : Dev nD) : (dats m 0 c).arrAt 5 cfg0.N = gTwo (args m c) := by
  refine (dats m 0 c).arrAt_eq_of_covers 5 _ (by decide +kernel) fun t hf x => ?_
  blk_simp; rw [after0_5]
  have ht := hN t
  have h15 : t.val % 16 = 15 := (flush0_5 t).mp hf
  idx_vars x
  refine (sum5 m c x0 x1 t.val t.isLt).trans ?_
  rw [show t.val + 1 = 16 by omega]
  exact (upTo_all _).trans (landTwo x0 x1 (by blk_ext [idx t]))

end Cert.ActBwdIdeal.Mine

end

end
-- ==== Proof.Act.Claim.lean ====
module

public import proofs.«01_k».proof.Defs
public import proofs.«01_k».proof.Proof.Act.Kernel
public import proofs.«01_k».proof.Proof.Gen.ActBwdRefIdeal.Run
public import proofs.«01_k».proof.Proof.Common.Reduce
public import Idealize.ShloMosaic.Lib.Quiescent

/-! The backward call of the channel norm and its activation: kernel and reference leave the same arrays. -/

@[expose] public section

set_option maxRecDepth 16384

noncomputable section

open Idealize.ShloMosaic Idealize.ShloMosaic.TcCoe Idealize.SL.Sem

namespace Cert.Act
open ActBwdIdeal.Mine Sums

section
open ActBwdRefIdeal ActBwdRefIdeal.Gen

/-- The arguments of the reference, as arrays, -/
structure Arr where
  u : FVec Ideal S2x2048x1024 .f32
  g : FVec Ideal S1024 .f32
  b : FVec Ideal S1024 .f32
  d : FVec Ideal S2x2048x1024 .f32
/-- and entry by entry. -/
def Arr.at (X : Arr) : In := ⟨fun b t e => X.u (ix3 b t e), fun e => X.g (ix1 e), fun e => X.b (ix1 e), fun b t e => X.d (ix3 b t e)⟩

variable (X : Arr)

/-! The reference's lines in stages. -/

def cV : FVec Ideal S2x2048x1024 .f32 :=
  subf X.u (broadcastInDim S2x2048x1024 ![0, 1, 2] bcast_S2x2048x1_S2x2048x1024_0_1_2 (Host.divf (broadcastInDim S2x2048x1 ![0, 1] bcast_S2x2048_S2x2048x1_0_1 (Host.reduceAdd X.u (constant S_ .f32 0x00000000#32) reducesTo_S2x2048x1024_S2x2048_d2 h_S_)) (broadcastInDim S2x2048x1 ![] bcast_S_S2x2048x1 (constant S_ .f32 0x44800000#32))))
def vV : FVec Ideal S2x2048x1 .f32 :=
  addf (Host.divf (broadcastInDim S2x2048x1 ![0, 1] bcast_S2x2048_S2x2048x1_0_1 (Host.reduceAdd (mulf (cV X) (cV X)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
def xhV : FVec Ideal S2x2048x1024 .f32 :=
  mulf (cV X) (broadcastInDim S2x2048x1024 ![0, 1, 2] bcast_S2x2048x1_S2x2048x1024_0_1_2 (Host.rsqrt (vV X)))
def sV : FVec Ideal S2x2048x1024 .f32 :=
  addf (mulf (xhV X) (broadcastInDim S2x2048x1024 ![0, 1, 2] bcast_S1x1x1024_S2x2048x1024_0_1_2 (broadcastInDim S1x1x1024 ![2] bcast_S1024_S1x1x1024_2 X.g))) (broadcastInDim S2x2048x1024 ![0, 1, 2] bcast_S1x1x1024_S2x2048x1024_0_1_2 (broadcastInDim S1x1x1024 ![2] bcast_S1024_S1x1x1024_2 X.b))
def pV : FVec Ideal S2x2048x1024 .f32 :=
  addf (mulf X.d (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (sV X)))))) (mulf (mulf (sV X) X.d) (mulf (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (sV X))))) (subf (broadcastInDim S2x2048x1024 ![] bcast_S_S2x2048x1024 (constant S_ .f32 0x3F800000#32)) (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf (sV X))))))))
def pgV : FVec Ideal S2x2048x1024 .f32 :=
  mulf (pV X) (broadcastInDim S2x2048x1024 ![0, 1, 2] bcast_S1x1x1024_S2x2048x1024_0_1_2 (broadcastInDim S1x1x1024 ![2] bcast_S1024_S1x1x1024_2 X.g))
def wV : FVec Ideal S2x2048x1 .f32 :=
  Host.divf (mulf (shapeCast _ (Host.reduceAdd (mulf (cV X) (pgV X)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (vV X)) (vV X)))) (broadcastInDim S2x2048x1 ![] bcast_S_S2x2048x1 (constant S_ .f32 0x44800000#32))
def dcV : FVec Ideal S2x2048x1024 .f32 :=
  addf (addf (mulf (pgV X) (broadcastInDim S2x2048x1024 ![0, 1, 2] bcast_S2x2048x1_S2x2048x1024_0_1_2 (Host.rsqrt (vV X)))) (mulf (cV X) (broadcastInDim S2x2048x1024 ![0, 1] bcast_S2x2048_S2x2048x1024_0_1 (Host.reduceAdd (wV X) (constant S_ .f32 0x00000000#32) reducesTo_S2x2048x1_S2x2048_d2 h_S_)))) (mulf (broadcastInDim S2x2048x1024 ![0, 1] bcast_S2x2048_S2x2048x1024_0_1 (Host.reduceAdd (wV X) (constant S_ .f32 0x00000000#32) reducesTo_S2x2048x1_S2x2048_d2 h_S_)) (cV X))
def mmV : FVec Ideal S2x2048x1 .f32 :=
  Host.divf (shapeCast _ (Host.reduceAdd (Host.negf (dcV X)) (constant S_ .f32 0x00000000#32) reducesTo_S2x2048x1024_S2x2048_d2 h_S_) shapeCasts_S2x2048_S2x2048x1) (broadcastInDim S2x2048x1 ![] bcast_S_S2x2048x1 (constant S_ .f32 0x44800000#32))
def duV : FVec Ideal S2x2048x1024 .f32 :=
  addf (dcV X) (broadcastInDim S2x2048x1024 ![0, 1] bcast_S2x2048_S2x2048x1024_0_1 (Host.reduceAdd (mmV X) (constant S_ .f32 0x00000000#32) reducesTo_S2x2048x1_S2x2048_d2 h_S_))

/-! Each stage, entry by entry. -/

theorem cV_at (b : Fin 2) (t : Fin 2048) (e : Fin 1024) : cV X (ix3 b t e) = Act.c X.at b t e := by
  pointwise [cV]
  rfl
theorem vV_at (b : Fin 2) (t : Fin 2048) : vV X (ix3 b t 0) = Act.v X.at b t := by
  pointwise [vV]
  simp only [cV_at]; rfl
theorem xhV_at (b : Fin 2) (t : Fin 2048) (e : Fin 1024) : xhV X (ix3 b t e) = Act.xh X.at b t e := by
  pointwise [xhV]
  simp only [cV_at, vV_at]; rfl
theorem sV_at (b : Fin 2) (t : Fin 2048) (e : Fin 1024) : sV X (ix3 b t e) = Act.s X.at b t e := by
  pointwise [sV]
  simp only [xhV_at]; rfl
theorem pV_at (b : Fin 2) (t : Fin 2048) (e : Fin 1024) : pV X (ix3 b t e) = Act.p X.at b t e := by
  pointwise [pV]
  simp only [sV_at]; rfl
theorem pgV_at (b : Fin 2) (t : Fin 2048) (e : Fin 1024) : pgV X (ix3 b t e) = Act.pg X.at b t e := by
  pointwise [pgV]
  simp only [pV_at]; rfl
theorem wV_at (b : Fin 2) (t : Fin 2048) : wV X (ix3 b t 0) = Act.w X.at b t := by
  pointwise [wV]
  simp only [cV_at, pgV_at, vV_at]; rfl
theorem dcV_at (b : Fin 2) (t : Fin 2048) (e : Fin 1024) : dcV X (ix3 b t e) = Act.dc X.at b t e := by
  pointwise [dcV]
  simp only [cV_at, pgV_at, vV_at, wV_at, Fin.sum_univ_one]; rfl
theorem mmV_at (b : Fin 2) (t : Fin 2048) : mmV X (ix3 b t 0) = Act.mm X.at b t := by
  pointwise [mmV]
  simp only [dcV_at]; rfl
theorem duV_at (b : Fin 2) (t : Fin 2048) (e : Fin 1024) : duV X (ix3 b t e) = Act.du X.at b t e := by
  pointwise [duV]
  simp only [dcV_at, mmV_at, Fin.sum_univ_one]; rfl

theorem ref_du : (shapeCast _ (duV X) shapeCasts_S2x2048x1024_S4096x1024 : FVec Ideal S4096x1024 .f32) = gDu X.at := by
  funext x
  idx_vars x
  pointwise [gDu]
  rw [duV_at]
  have h : x0.val / 2048 % 2 = x0.val / 2048 := by omega
  simp only [bat, pl, h]
/-- A sum over all rows, as the reference writes it. -/
theorem ref_sum (f : FVec Ideal S2x2048x1024 .f32) (e : Fin 1024) : (broadcastInDim S1x1024 ![1] bcast_S1024_S1x1024_1 (Host.reduceAdd (shapeCast _ (Host.reduceAdd f (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) (ix2 0 e) = ∑ b : Fin 2, ∑ t : Fin 2048, f (ix3 b t e) := by
  pointwise []
  refine (reduce_01 _ _ _ e).trans ?_
  rw [zero_add, Fin.sum_univ_one, Fin.sum_univ_one]
  pointwise []
  refine (reduce_01 _ _ _ e).trans ?_
  rw [zero_add]
theorem ref_two : ActBwdRefIdeal.Value.fn_main_v61 (F := Ideal) (broadcastInDim S1x1024 ![1] bcast_S1024_S1x1024_1 (Host.reduceAdd (shapeCast _ (Host.reduceAdd (mulf (xhV X) (pV X)) (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) (broadcastInDim S1x1024 ![1] bcast_S1024_S1x1024_1 (Host.reduceAdd (shapeCast _ (Host.reduceAdd (pV X) (constant S_ .f32 0x00000000#32) reducesTo_S2x2048x1024_S1024_d0_1 h_S_) shapeCasts_S1024_S1x1x1024) (constant S_ .f32 0x00000000#32) reducesTo_S1x1x1024_S1024_d0_1 h_S_) : FVec Ideal S1x1024 .f32) = gTwo X.at := by
  funext x
  idx_vars x
  match x0 with
  | 0 =>
    refine Eq.trans ?_ ((ref_sum (mulf (xhV X) (pV X)) x1).trans (Finset.sum_congr rfl fun b _ => Finset.sum_congr rfl fun t _ => ?_))
    · pointwise [ActBwdRefIdeal.Value.fn_main_v61]
    · pointwise []
      rw [xhV_at, pV_at]; rfl
  | 1 =>
    refine Eq.trans ?_ ((ref_sum (pV X) x1).trans (Finset.sum_congr rfl fun b _ => Finset.sum_congr rfl fun t _ => ?_))
    · pointwise [ActBwdRefIdeal.Value.fn_main_v61]
    · rw [pV_at]; rfl
end

/-- The same four arguments, of the reference. -/
def refArr (m : (ℓ : Loc ActBwdRefIdeal.nD ActBwdRefIdeal.τ ActBwdRefIdeal.sig) → Buf (Elt Ideal) ℓ)
    (c : Dev ActBwdRefIdeal.nD) : Arr :=
  ⟨m (c.tc.loc ActBwdRefIdeal.main_arg0), m (c.tc.loc ActBwdRefIdeal.main_arg1), m (c.tc.loc ActBwdRefIdeal.main_arg2),
    m (c.tc.loc ActBwdRefIdeal.main_arg3)⟩

theorem run_du (m : (ℓ : Loc ActBwdRefIdeal.nD ActBwdRefIdeal.τ ActBwdRefIdeal.sig) → Buf (Elt Ideal) ℓ) (c : Dev ActBwdRefIdeal.nD) :
    ActBwdRefIdeal.Value.res_main_v58 (F := Ideal) m c = gDu (refArr m c).at := ref_du (refArr m c)
theorem run_two (m : (ℓ : Loc ActBwdRefIdeal.nD ActBwdRefIdeal.τ ActBwdRefIdeal.sig) → Buf (Elt Ideal) ℓ) (c : Dev ActBwdRefIdeal.nD) :
    ActBwdRefIdeal.Value.res_main_v61 (F := Ideal) m c = gTwo (refArr m c).at := ref_two (refArr m c)

/-- Kernel and reference compute the same gradients over the extended reals. -/
theorem algebraic : Cert.algebraic_ActBwdIdeal_ActBwdRefIdeal := by
  intro m g m' g' _ hagree
  refine ⟨fun c => gDu (args m c), fun c => gTwo (args m c), ?_, ?_⟩
  · exact (θ_run ActBwdIdeal.defs _ _).mono (fun r h c =>
      ⟨(h c).1.trans (final4 m c), (h c).2.1.trans (final5 m c), (h c).2.2⟩) (ActBwdIdeal.Value.run_blocks m g)
  · refine (θ_run ActBwdRefIdeal.defs _ _).mono (fun r h c => ?_) (ActBwdRefIdeal.Value.run m' g')
    obtain ⟨h0, h1, h2, h3⟩ := hagree c
    have e : (refArr m' c).at = args m c := by
      show Arr.at (Arr.mk _ _ _ _) = _
      rw [show m' (c.tc.loc ActBwdRefIdeal.main_arg0) = _ from h0, show m' (c.tc.loc ActBwdRefIdeal.main_arg1) = _ from h1,
        show m' (c.tc.loc ActBwdRefIdeal.main_arg2) = _ from h2, show m' (c.tc.loc ActBwdRefIdeal.main_arg3) = _ from h3]
      rfl
    have k := h c
    exact ⟨(k.1.trans (run_du m' c)).trans (congrArg gDu e), (k.2.1.trans (run_two m' c)).trans (congrArg gTwo e), k.2.2⟩

/-- The reference terminates, leaves its arguments unchanged and every counter at zero. -/
theorem frame_ref : Cert.quiescent_ActBwdRefIdeal := fun m ρ _ =>
  (θ_run Cert.ActBwdRefIdeal.defs _ _).mono (fun r h => ⟨fun c => (h c).2.2, sem_eq_zero_of_no_sems (by decide) r.2⟩)
    (Cert.ActBwdRefIdeal.Value.run m ρ)

end Cert.Act

end

end
-- ==== Proof.Proj.Claim.lean ====
module

public import proofs.«01_k».proof.Proof.Gen.ProjBwdRefIdeal.Run
public import proofs.«01_k».proof.Proof.Proj.Kernel
public import proofs.«01_k».proof.Proof.Common.Reduce
public import proofs.«01_k».proof.Defs
public import Idealize.ShloMosaic.Lib.Quiescent

@[expose] public section

/-! The reference of the gradient of the delta rule's first product, entry by entry, and the claim. -/

set_option maxRecDepth 16384

noncomputable section

open Idealize.ShloMosaic Idealize.ShloMosaic.TcCoe Idealize.SL.Sem

namespace Cert.ProjBwdRefIdeal.Mine
open Cert.ProjBwdRefIdeal Cert.ProjBwdRefIdeal.Gen Cert.ProjBwdRefIdeal.Value Cert.Sums Cert.Proj
open Cert.Ffn (rr width tiny)
open Cert.FfnA (xh xg mhalf)
open Cert.ProjBwdIdeal.Mine (gDx gSsg gNg three)

variable (m : (ℓ : Loc nD τ sig) → Buf (Elt Ideal) ℓ)

/-- The six arguments, entry by entry. -/
def args (c : Dev nD) : Pk 4112 where
  B :=
    { A :=
        { x := fun b t e => (m (c, Proc.tc.devRef main_arg0) : Vec Ideal S2x2048x1024 .f32) (ix3 b t e)
          mod := fun b k e => (m (c, Proc.tc.devRef main_arg1) : Vec Ideal S2x3x1024 .f32) (ix3 b k e)
          g := fun e => (m (c, Proc.tc.devRef main_arg2) : Vec Ideal S1024 .f32) (ix1 e)
          wi := fun _ _ => 0
          wo := fun _ _ => 0 }
      d := fun b t e => (m (c, Proc.tc.devRef main_arg5) : Vec Ideal S2x2048x1024 .f32) (ix3 b t e) }
  w := fun e k => (m (c, Proc.tc.devRef main_arg3) : Vec Ideal S1024x4112 .f32) (ix2 e k)
  dp := fun b t k => (m (c, Proc.tc.devRef main_arg4) : Vec Ideal S2x2048x4112 .f32) (ix3 b t k)

theorem bat_at (r : Fin 4096) : bat r.val = ⟨r.val / 2048, by omega⟩ :=
  Fin.ext (by show r.val / 2048 % 2 = r.val / 2048; omega)

/-! The reference's stages, in the order in which it computes them. -/

def qV (c : Dev nD) : FVec Ideal S2x2048x1 .f32 :=
  addf (Host.divf (broadcastInDim S2x2048x1 ![0, 1] bcast_S2x2048_S2x2048x1_0_1 (Host.reduceAdd (mulf (m (c.tc.loc main_arg0)) (m (c.tc.loc main_arg0))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
def rV (c : Dev nD) : FVec Ideal S2x2048x1 .f32 :=
  Host.rsqrt (qV m c)
def xhV (c : Dev nD) : FVec Ideal S2x2048x1024 .f32 :=
  mulf (m (c.tc.loc main_arg0)) (broadcastInDim S2x2048x1024 ![0, 1, 2] bcast_S2x2048x1_S2x2048x1024_0_1_2 (rV m c))
def xgV (c : Dev nD) : FVec Ideal S2x2048x1024 .f32 :=
  mulf (xhV m c) (broadcastInDim S2x2048x1024 ![0, 1, 2] bcast_S1x1x1024_S2x2048x1024_0_1_2 (broadcastInDim S1x1x1024 ![2] bcast_S1024_S1x1x1024_2 (m (c.tc.loc main_arg2))))
def dhV (c : Dev nD) : FVec Ideal S2x2048x1024 .f32 :=
  Host.dotGeneral (φ₁ := .f32) (φ₂ := .f32) dot_S2x2048x4112_S1024x4112_S2x2048x1024_2_1_01_0_n_n none (m (c.tc.loc main_arg4)) (m (c.tc.loc main_arg3))
def amV (c : Dev nD) : FVec Ideal S2x2048x1024 .f32 :=
  mulf (dhV m c) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (m (c.tc.loc main_arg1)) slices_S2x3x1024_S2x1x1024_0_1_0) shapeCasts_S2x1x1024_S2x1024))))
def dxhV (c : Dev nD) : FVec Ideal S2x2048x1024 .f32 :=
  mulf (amV m c) (broadcastInDim S2x2048x1024 ![0, 1, 2] bcast_S1x1x1024_S2x2048x1024_0_1_2 (broadcastInDim S1x1x1024 ![2] bcast_S1024_S1x1x1024_2 (m (c.tc.loc main_arg2))))
def xdV (c : Dev nD) : FVec Ideal S2x2048 .f32 :=
  Host.reduceAdd (mulf (m (c.tc.loc main_arg0)) (dxhV m c)) (constant S_ .f32 0x00000000#32) reducesTo_S2x2048x1024_S2x2048_d2 h_S_
def mnV (c : Dev nD) : FVec Ideal S2x2048x1 .f32 :=
  Host.divf (mulf (shapeCast _ (xdV m c) shapeCasts_S2x2048_S2x2048x1) (mulf (broadcastInDim S2x2048x1 ![] bcast_S_S2x2048x1 (constant S_ .f32 0xBF000000#32)) (Host.divf (rV m c) (qV m c)))) (broadcastInDim S2x2048x1 ![] bcast_S_S2x2048x1 (constant S_ .f32 0x44800000#32))
def sV (c : Dev nD) : FVec Ideal S2x2048 .f32 :=
  Host.reduceAdd (mnV m c) (constant S_ .f32 0x00000000#32) reducesTo_S2x2048x1_S2x2048_d2 h_S_
def scV (c : Dev nD) : FVec Ideal S2x1024 .f32 :=
  Host.reduceAdd (mulf (xgV m c) (dhV m c)) (constant S_ .f32 0x00000000#32) reducesTo_S2x2048x1024_S2x1024_d1 h_S_
def shV (c : Dev nD) : FVec Ideal S2x1024 .f32 :=
  Host.reduceAdd (dhV m c) (constant S_ .f32 0x00000000#32) reducesTo_S2x2048x1024_S2x1024_d1 h_S_
def ngV (c : Dev nD) : FVec Ideal S1024 .f32 :=
  Host.reduceAdd (mulf (xhV m c) (amV m c)) (constant S_ .f32 0x00000000#32) reducesTo_S2x2048x1024_S1024_d0_1 h_S_
def dxV (c : Dev nD) : FVec Ideal S2x2048x1024 .f32 :=
  addf (m (c.tc.loc main_arg5)) (addf (addf (mulf (dxhV m c) (broadcastInDim S2x2048x1024 ![0, 1, 2] bcast_S2x2048x1_S2x2048x1024_0_1_2 (rV m c))) (mulf (m (c.tc.loc main_arg0)) (broadcastInDim S2x2048x1024 ![0, 1] bcast_S2x2048_S2x2048x1024_0_1 (sV m c)))) (mulf (broadcastInDim S2x2048x1024 ![0, 1] bcast_S2x2048_S2x2048x1024_0_1 (sV m c)) (m (c.tc.loc main_arg0))))

theorem qV_at (c : Dev nD) (b : Fin 2) (t : Fin 2048) (z : Fin 1) : qV m c (ix3 b t z) =
    Ideal.div (∑ e : Fin 1024, (args m c).B.A.x b t e * (args m c).B.A.x b t e) width + tiny := by
  pointwise [qV]; rfl
theorem rV_at (c : Dev nD) (b : Fin 2) (t : Fin 2048) (z : Fin 1) : rV m c (ix3 b t z) = rr (args m c).B.A b t :=
  congrArg Ideal.rsqrt (qV_at m c b t z)
theorem xhV_at (c : Dev nD) (b : Fin 2) (t : Fin 2048) (e : Fin 1024) : xhV m c (ix3 b t e) = xh (args m c).B b t e := by
  pointwise [xhV]
  rw [rV_at]; rfl
theorem xgV_at (c : Dev nD) (b : Fin 2) (t : Fin 2048) (e : Fin 1024) : xgV m c (ix3 b t e) = xg (args m c).B b t e := by
  pointwise [xgV]
  rw [xhV_at]; rfl
theorem dhV_at (c : Dev nD) (b : Fin 2) (t : Fin 2048) (e : Fin 1024) : dhV m c (ix3 b t e) = dh (args m c) b t e := by
  pointwise [dhV]; rfl
theorem amV_at (c : Dev nD) (b : Fin 2) (t : Fin 2048) (e : Fin 1024) : amV m c (ix3 b t e) = am (args m c) b t e := by
  pointwise [amV]
  rw [dhV_at]; rfl
theorem dxhV_at (c : Dev nD) (b : Fin 2) (t : Fin 2048) (e : Fin 1024) : dxhV m c (ix3 b t e) = dxh (args m c) b t e := by
  pointwise [dxhV]
  rw [amV_at]; rfl
theorem xdV_at (c : Dev nD) (b : Fin 2) (t : Fin 2048) : xdV m c (ix2 b t) = ∑ k : Fin 1024, (args m c).B.A.x b t k * dxh (args m c) b t k := by
  pointwise [xdV]
  simp only [dxhV_at]; rfl
theorem mnV_at (c : Dev nD) (b : Fin 2) (t : Fin 2048) (z : Fin 1) : mnV m c (ix3 b t z) =
    Ideal.div ((∑ k : Fin 1024, (args m c).B.A.x b t k * dxh (args m c) b t k) * (mhalf * Ideal.div (rr (args m c).B.A b t)
      (Ideal.div (∑ e : Fin 1024, (args m c).B.A.x b t e * (args m c).B.A.x b t e) width + tiny))) width := by
  pointwise [mnV]
  simp only [xdV_at, rV_at, qV_at]
theorem sV_at (c : Dev nD) (b : Fin 2) (t : Fin 2048) : sV m c (ix2 b t) = mnV m c (ix3 b t 0) := by
  pointwise [sV]
  exact Fin.sum_univ_one _
theorem dxV_at (c : Dev nD) (b : Fin 2) (t : Fin 2048) (e : Fin 1024) : dxV m c (ix3 b t e) = dx (args m c) b t e := by
  pointwise [dxV]
  simp only [dxhV_at, rV_at]
  exact dx_chain _ b t e _ ((sV_at m c b t).trans (mnV_at m c b t 0))
theorem scV_at (c : Dev nD) (b : Fin 2) (e : Fin 1024) : scV m c (ix2 b e) = ∑ t : Fin 2048, gsc (args m c) b t e := by
  pointwise [scV]
  simp only [xgV_at, dhV_at]
  exact Finset.sum_congr rfl fun t _ => mul_comm _ _
theorem shV_at (c : Dev nD) (b : Fin 2) (e : Fin 1024) : shV m c (ix2 b e) = ∑ t : Fin 2048, dh (args m c) b t e := by
  pointwise [shV]
  simp only [dhV_at]
theorem ngV_at (c : Dev nD) (e : Fin 1024) : ngV m c (ix1 e) = ∑ b : Fin 2, ∑ t : Fin 2048, gng (args m c) b t e := by
  refine (Cert.Sums.reduce_01 reducesTo_S2x2048x1024_S1024_d0_1 _ _ e).trans ?_
  have h0 : (constant (F := Ideal) S_ .f32 0x00000000#32) (Shape.Idx.first h_S_) = (0 : EReal) := by pointwise
  rw [h0, zero_add]
  refine Finset.sum_congr rfl fun b _ => Finset.sum_congr rfl fun t _ => ?_
  pointwise
  rw [xhV_at, amV_at]; exact mul_comm _ _

theorem ref_dx (c : Dev nD) :
    (shapeCast _ (dxV m c) shapeCasts_S2x2048x1024_S4096x1024 : FVec Ideal S4096x1024 .f32) = gDx (args m c) := by
  funext i
  idx_vars i
  pointwise [gDx]
  rw [bat_at, dxV_at]
theorem ref_ssg (c : Dev nD) : (addf
    (pad S2x3x1024 ![0, 1, 0] ![0, 1, 0] ![0, 0, 0] (broadcastInDim S2x1x1024 ![0, 2] bcast_S2x1024_S2x1x1024_0_2 (Host.reduceAdd (shapeCast _ (scV m c) shapeCasts_S2x1024_S2x1x1024) (constant S_ .f32 0x00000000#32) reducesTo_S2x1x1024_S2x1024_d1 h_S_)) (constant S_ .f32 0x00000000#32) pads_S2x1x1024_S2x3x1024_000_110_000 h_S_)
    (pad S2x3x1024 ![0, 0, 0] ![0, 2, 0] ![0, 0, 0] (broadcastInDim S2x1x1024 ![0, 2] bcast_S2x1024_S2x1x1024_0_2 (Host.reduceAdd (shapeCast _ (shV m c) shapeCasts_S2x1024_S2x1x1024) (constant S_ .f32 0x00000000#32) reducesTo_S2x1x1024_S2x1024_d1 h_S_)) (constant S_ .f32 0x00000000#32) pads_S2x1x1024_S2x3x1024_000_020_000 h_S_) : FVec Ideal S2x3x1024 .f32) = gSsg (args m c) := by
  funext i
  idx_vars i
  pointwise [gSsg]
  rw [Fin.sum_univ_one, Fin.sum_univ_one, scV_at, shV_at]
  unfold three
  have h3 : i1.val < 3 := i1.isLt
  by_cases h0 : i1.val = 0
  · rw [dif_neg (by omega), dif_pos (by omega), if_pos h0, zero_add]
  · by_cases h1 : i1.val = 1
    · rw [dif_pos (by omega), dif_neg (by omega), if_neg h0, if_pos h1, add_zero]
    · rw [dif_neg (by omega), dif_neg (by omega), if_neg h0, if_neg h1, add_zero]
theorem ref_ng (c : Dev nD) : (broadcastInDim S1x1024 ![1] bcast_S1024_S1x1024_1 (Host.reduceAdd (shapeCast _ (ngV m c) shapeCasts_S1024_S1x1x1024) (constant S_ .f32 0x00000000#32) reducesTo_S1x1x1024_S1024_d0_1 h_S_) : FVec Ideal S1x1024 .f32) = gNg (args m c) := by
  funext i
  idx_vars i
  pointwise [gNg]
  rw [Cert.Sums.reduce_01, zero_add, Fin.sum_univ_one, Fin.sum_univ_one]
  pointwise
  exact ngV_at m c i1

end Cert.ProjBwdRefIdeal.Mine

namespace Cert.Proj
/-- Kernel and reference compute the same three results over the extended reals. -/
theorem algebraic : Cert.algebraic_ProjBwdIdeal_ProjBwdRefIdeal := by
  intro m g m' g' _ hagree
  refine ⟨fun c => ProjBwdIdeal.Mine.gDx (ProjBwdIdeal.Mine.args m c), fun c => ProjBwdIdeal.Mine.gSsg (ProjBwdIdeal.Mine.args m c),
    fun c => ProjBwdIdeal.Mine.gNg (ProjBwdIdeal.Mine.args m c), ?_, ?_⟩
  · refine (θ_run ProjBwdIdeal.defs _ _).mono (fun r h c => ?_) (ProjBwdIdeal.Value.run_blocks m g)
    obtain ⟨k0, k1, k2, k3⟩ := h c
    exact ⟨k0.trans (ProjBwdIdeal.Mine.final8 m c), k1.trans (ProjBwdIdeal.Mine.final9 m c),
      k2.trans (ProjBwdIdeal.Mine.final10 m c), k3⟩
  · refine (θ_run ProjBwdRefIdeal.defs _ _).mono (fun r h c => ?_) (ProjBwdRefIdeal.Value.run m' g')
    obtain ⟨h0, h1, h2, h3, h4, h5⟩ := hagree c
    have e : ProjBwdRefIdeal.Mine.args m' c = ProjBwdIdeal.Mine.args m c := by
      show Pk.mk _ _ _ = Pk.mk _ _ _
      congr 1
      · show FfnA.Bk.mk _ _ = FfnA.Bk.mk _ _
        congr 1
        · show Ffn.In.mk _ _ _ _ _ = Ffn.In.mk _ _ _ _ _
          congr 1
          · funext b t e; exact congrFun h0 _
          · funext b t e; exact congrFun h1 _
          · funext e; exact congrFun h2 _
        · funext b t e; exact congrFun h5 _
      · funext b e; exact congrFun h3 _
      · funext b t e; exact congrFun h4 _
    obtain ⟨k0, k1, k2, k3⟩ := h c
    exact ⟨(k0.trans (ProjBwdRefIdeal.Mine.ref_dx m' c)).trans (congrArg ProjBwdIdeal.Mine.gDx e),
      (k1.trans (ProjBwdRefIdeal.Mine.ref_ssg m' c)).trans (congrArg ProjBwdIdeal.Mine.gSsg e),
      (k2.trans (ProjBwdRefIdeal.Mine.ref_ng m' c)).trans (congrArg ProjBwdIdeal.Mine.gNg e), k3⟩

/-- The reference terminates, leaves its arguments unchanged and every counter at zero. -/
theorem frame_ref : Cert.quiescent_ProjBwdRefIdeal := fun m ρ _ =>
  (θ_run Cert.ProjBwdRefIdeal.defs _ _).mono (fun r h => ⟨fun c => (h c).2.2.2, sem_eq_zero_of_no_sems (by decide) r.2⟩)
    (Cert.ProjBwdRefIdeal.Value.run m ρ)

end Cert.Proj

end

end
-- ==== Proof.ProjW.Kernel.lean ====
module

public import proofs.«01_k».proof.Proof.Gen.ProjBwdWIdeal.Value
public import proofs.«01_k».proof.Proof.FfnW.Claim
public import Idealize.ShloMosaic.Lib.Pipeline.ValueKit
public import Idealize.ShloMosaic.Lib.Pipeline.ReadBack
public import Idealize.ShloMosaic.Lib.Pointwise
public import Idealize.ShloMosaic.Lib.Claim

@[expose] public section

/-! The gradient of the delta rule's projection weight, its first 3072 columns: what the kernel's accumulator holds after each point of the
grid, and the array it returns. -/

set_option maxRecDepth 16384

noncomputable section

open Idealize.ShloMosaic Idealize.ShloMosaic.TcCoe Idealize.SL.Sem
open Idealize.ShloMosaic.Pipeline (Dat)

namespace Cert.ProjBwdWIdeal.Mine
open Cert.ProjBwdWIdeal Cert.ProjBwdWIdeal.Gen Cert.Sums
open Cert.FfnBwdWIdeal.Mine (part part_one part_succ)

variable (m : (ℓ : Loc nD τ sig) → Buf (Elt Ideal) ℓ)

/-- The two arguments that the gradient depends on. -/
structure Args where
  a : Vec Ideal S2x2048x4112 .f32
  b : Vec Ideal S2x2048x1024 .f32

def args (c : Dev nD) : Args := ⟨m (c, Proc.tc.devRef main_arg2), m (c, Proc.tc.devRef main_arg0)⟩

/-- The term of the gradient's entry that row `r` gives. -/
def term (A : Args) (j : ℕ) (f e : Fin 1024) (r : ℕ) : EReal := A.a (ix3 (bat r) (pl r) ⟨j % 3 * 1024 + f.val, by omega⟩) * A.b (ix3 (bat r) (pl r) e)

theorem pay (acc : Vec Ideal S1024x1024 .f32) (x y : Vec Ideal S1024x1024 .bf16) (f e : Fin 1024) :
    k0_pay2 acc x y (ix2 f e) = acc (ix2 f e) + ∑ r : Fin 1024, x (ix2 r f) * y (ix2 r e) := by
  pointwise [k0_pay2]
theorem arr_a (c : Dev nD) (r : Fin 4096) (e : Fin 3072) :
    V m c main_v2 (ix2 r e) = (args m c).a (ix3 (bat r.val) (pl r.val) ⟨e.val, by omega⟩) := by
  entry_read
  pointwise [args]
  have h : r.val / 2048 % 2 = r.val / 2048 := by omega
  simp only [bat, pl, h]
theorem arr_b (c : Dev nD) (r : Fin 4096) (e : Fin 1024) :
    V m c main_v4 (ix2 r e) = (args m c).b (ix3 (bat r.val) (pl r.val) e) := by
  entry_read
  pointwise [args]
  have h : r.val / 2048 % 2 = r.val / 2048 := by omega
  simp only [bat, pl, h]
theorem idx : ∀ t : Fin grid0.N,
    win0_0.index t = ![t.val % 4, t.val / 4] ∧ win0_1.index t = ![t.val % 4, 0] ∧ win0_2.index t = ![t.val / 4, 0] := by
  decide +kernel
theorem hN (t : Fin cfg0.N) : t.val < 12 := t.isLt
theorem blk0 (c : Dev nD) (t : Fin cfg0.N) (r f : Fin 1024) :
    iblk m c 0 t (ix2 r f) = V m c main_v2 (ix2 ⟨t.val % 4 * 1024 + r.val, by omega⟩ ⟨t.val / 4 * 1024 + f.val, by have := hN t; omega⟩) := by
  blk_point [iblk, idx t]
theorem blk1 (c : Dev nD) (t : Fin cfg0.N) (r e : Fin 1024) :
    iblk m c 1 t (ix2 r e) = V m c main_v4 (ix2 ⟨t.val % 4 * 1024 + r.val, by omega⟩ e) := by
  blk_point [iblk, idx t]

/-- What a point adds to the accumulator. -/
theorem add (c : Dev nD) (t : Fin cfg0.N) (acc : Vec Ideal S1024x1024 .f32) (f e : Fin 1024) :
    k0_pay2 acc (iblk m c 0 t) (iblk m c 1 t) (ix2 f e) =
      acc (ix2 f e) + ∑ r : Fin 1024, term (args m c) (t.val / 4) f e (t.val % 4 * 1024 + r.val) := by
  refine (pay ..).trans (congrArg _ (Finset.sum_congr rfl fun r _ => congrArg₂ _ ?_ ?_))
  · rw [blk0, arr_a]
    refine congrArg (fun x => (args m c).a (ix3 (bat (t.val % 4 * 1024 + r.val)) (pl (t.val % 4 * 1024 + r.val)) x)) (Fin.ext ?_)
    show t.val / 4 * 1024 + f.val = t.val / 4 % 3 * 1024 + f.val
    have := hN t
    omega
  · rw [blk1, arr_b]

theorem acc_A (c : Dev nD) (t : Fin cfg0.N) (h0 : t.val % 4 = 0) (f e : Fin 1024) :
    (outsAt0 m c t.val t.isLt).2 (ix2 f e) = part (term (args m c) (t.val / 4) f e) 1 := by
  rw [outsAt0_A m c t h0 (by omega)]; frame_out
  refine (add ..).trans (Eq.trans (congrArg (· + _) ?_) (part_one _ _ h0))
  pointwise [k0_pay1]
theorem acc_B (c : Dev nD) (t : Fin cfg0.N) (h0 : ¬t.val % 4 = 0) (h1 : ¬t.val % 4 = 3) (f e : Fin 1024)
    (ih : (outsAt0 m c (t.val - 1) (lt_of_le_of_lt (Nat.sub_le _ _) t.isLt)).2 (ix2 f e) = part (term (args m c) (t.val / 4) f e) (t.val % 4)) :
    (outsAt0 m c t.val t.isLt).2 (ix2 f e) = part (term (args m c) (t.val / 4) f e) (t.val % 4 + 1) := by
  rw [outsAt0_B m c t h0 h1]; frame_out
  simp only [read_unread_whole]
  exact (add ..).trans ((congrArg (· + _) ih).trans (part_succ _ _))
theorem acc_at (c : Dev nD) (f e : Fin 1024) (n : ℕ) (hn : n < cfg0.N) (h3 : ¬n % 4 = 3) :
    (outsAt0 m c n hn).2 (ix2 f e) = part (term (args m c) (n / 4) f e) (n % 4 + 1) := by
  induction n with
  | zero => exact acc_A m c ⟨0, hn⟩ rfl f e
  | succ n ih =>
    by_cases h : (n + 1) % 4 = 0
    · rw [h]; exact acc_A m c ⟨n + 1, hn⟩ h f e
    · have e1 : n / 4 = (n + 1) / 4 := by omega
      have e2 : n % 4 + 1 = (n + 1) % 4 := by omega
      have := ih (by omega) (by omega)
      rw [e1, e2] at this
      exact acc_B m c ⟨n + 1, hn⟩ h h3 f e this

/-- The gradient, as sums over the four blocks of rows. -/
def g (A : Args) : Vec Ideal S3072x1024 .bf16 := fun y => part (term A ((y 0).val / 1024) ⟨(y 0).val % 1024, Nat.mod_lt _ (by decide)⟩ (y 1)) 4

theorem land (A : Args) (t : Fin cfg0.N) (f e : Fin 1024) {x : S3072x1024.Idx}
    (hx : x = ix2 ⟨t.val / 4 * 1024 + f.val, by have := hN t; omega⟩ e) : part (term A (t.val / 4) f e) 4 = g A x := by
  subst hx
  show _ = part (term A ((t.val / 4 * 1024 + f.val) / 1024) ⟨(t.val / 4 * 1024 + f.val) % 1024, _⟩ e) 4
  have h : (t.val / 4 * 1024 + f.val) / 1024 = t.val / 4 := by omega
  have h' : (⟨(t.val / 4 * 1024 + f.val) % 1024, Nat.mod_lt _ (by decide)⟩ : Fin 1024) = f := Fin.ext (by show (t.val / 4 * 1024 + f.val) % 1024 = f.val; omega)
  rw [h, h']

theorem final (c : Dev nD) : (dats m 0 c).arrAt 2 cfg0.N = g (args m c) := by
  refine (dats m 0 c).arrAt_eq_of_covers 2 _ (by decide +kernel) fun t hf y => ?_
  blk_simp; rw [after0_2]
  have ht := hN t
  have h3 : t.val % 4 = 3 := (flush0_2 t).mp hf
  rw [outsAt0_C m c t (by omega) h3]; frame_out
  simp only [read_unread_whole]
  idx_vars y
  have e2 : (t.val - 1) % 4 + 1 = 3 := by omega
  have ih := acc_at m c y0 y1 (t.val - 1) (lt_of_le_of_lt (Nat.sub_le _ _) t.isLt) (by omega)
  have e1 : (t.val - 1) / 4 = t.val / 4 := by omega
  rw [e1, e2] at ih
  pointwise [k0_pay3]
  refine (add m c t _ y0 y1).trans ((congrArg₂ (· + ·) ih (by rw [h3])).trans ((part_succ _ 3).trans ?_))
  exact land (args m c) t y0 y1 (by blk_ext [idx t])

end Cert.ProjBwdWIdeal.Mine

end

end
-- ==== Proof.ProjW.Claim.lean ====
module

public import proofs.«01_k».proof.Defs
public import proofs.«01_k».proof.Proof.ProjW.Kernel
public import proofs.«01_k».proof.Proof.Gen.ProjBwdWRefIdeal.Run
public import Idealize.ShloMosaic.Lib.Quiescent

/-! Kernel and reference leave the same gradient of the weight. -/

@[expose] public section

set_option maxRecDepth 16384

noncomputable section

open Idealize.ShloMosaic Idealize.ShloMosaic.TcCoe Idealize.SL.Sem

namespace Cert.ProjW
open ProjBwdWIdeal.Mine Sums

section
open ProjBwdWRefIdeal ProjBwdWRefIdeal.Gen
theorem ref (A : Args) : (truncf .bf16 (transpose S3072x1024 [1, 0] (extractStridedSlice S1024x3072 ![0, 0] (transpose S1024x4112 [1, 0] (Host.dotGeneral (F := Ideal) (φ₁ := .f32) (φ₂ := .f32) dot_S2x2048x4112_S2x2048x1024_S4112x1024_01_01_2_2_n_n none A.a A.b) transposes_S4112x1024_S1024x4112_1_0) slices_S1024x4112_S1024x3072_0_0) transposes_S1024x3072_S3072x1024_1_0) bitsLt_bf16_f32 : FVec Ideal S3072x1024 .bf16) = g A := by
  funext y
  idx_vars y
  pointwise [g]
  refine Eq.trans ?_ (Cert.FfnW.part_all _).symm
  refine Finset.sum_congr rfl fun b _ => Finset.sum_congr rfl fun t _ => ?_
  have h : y0.val / 1024 % 3 * 1024 + y0.val % 1024 = y0.val := by omega
  simp only [term, bat_of, pl_of, h]
end

/-- The same two arguments, of the reference. -/
def refArgs (m : (ℓ : Loc ProjBwdWRefIdeal.nD ProjBwdWRefIdeal.τ ProjBwdWRefIdeal.sig) → Buf (Elt Ideal) ℓ)
    (c : Dev ProjBwdWRefIdeal.nD) : Args := ⟨m (c.tc.loc ProjBwdWRefIdeal.main_arg2), m (c.tc.loc ProjBwdWRefIdeal.main_arg0)⟩

/-- Kernel and reference compute the same gradient over the extended reals. -/
theorem algebraic : Cert.algebraic_ProjBwdWIdeal_ProjBwdWRefIdeal := by
  intro m s m' s' _ hagree
  refine ⟨fun c => g (args m c), ?_, ?_⟩
  · exact (θ_run ProjBwdWIdeal.defs _ _).mono (fun r h c => ⟨(h c).1.trans (final m c), (h c).2⟩) (ProjBwdWIdeal.Value.run_blocks m s)
  · refine (θ_run ProjBwdWRefIdeal.defs _ _).mono (fun r h c => ?_) (ProjBwdWRefIdeal.Value.run m' s')
    obtain ⟨h0, h1, h2⟩ := hagree c
    have e : refArgs m' c = args m c := by
      show Args.mk _ _ = Args.mk _ _
      exact congr (congrArg Args.mk h2) h0
    exact ⟨((h c).1.trans (ref (refArgs m' c))).trans (congrArg g e), (h c).2⟩

/-- The reference terminates, leaves its arguments unchanged and every counter at zero. -/
theorem frame_ref : Cert.quiescent_ProjBwdWRefIdeal := fun m ρ _ =>
  (θ_run Cert.ProjBwdWRefIdeal.defs _ _).mono (fun r h => ⟨fun c => (h c).2, sem_eq_zero_of_no_sems (by decide) r.2⟩)
    (Cert.ProjBwdWRefIdeal.Value.run m ρ)

end Cert.ProjW

end

end
-- ==== Proof.MixW.Kernel.lean ====
module

public import proofs.«01_k».proof.Proof.Gen.MixBwdWIdeal.Value
public import proofs.«01_k».proof.Proof.FfnW.Claim
public import Idealize.ShloMosaic.Lib.Pipeline.ValueKit
public import Idealize.ShloMosaic.Lib.Pipeline.ReadBack
public import Idealize.ShloMosaic.Lib.Pointwise
public import Idealize.ShloMosaic.Lib.Claim

@[expose] public section

/-! The gradient of a mixer's last weight: what the kernel's accumulator holds after each point of the
grid, and the array it returns. -/

set_option maxRecDepth 16384

noncomputable section

open Idealize.ShloMosaic Idealize.ShloMosaic.TcCoe Idealize.SL.Sem
open Idealize.ShloMosaic.Pipeline (Dat)

namespace Cert.MixBwdWIdeal.Mine
open Cert.MixBwdWIdeal Cert.MixBwdWIdeal.Gen Cert.Sums
open Cert.FfnBwdWIdeal.Mine (part part_one part_succ)

variable (m : (ℓ : Loc nD τ sig) → Buf (Elt Ideal) ℓ)

/-- The two arguments that the gradient depends on. -/
structure Args where
  a : Vec Ideal S2x2048x1024 .f32
  b : Vec Ideal S2x2048x1024 .f32

def args (c : Dev nD) : Args := ⟨m (c, Proc.tc.devRef main_arg0), m (c, Proc.tc.devRef main_arg3)⟩

/-- The term of the gradient's entry that row `r` gives. -/
def term (A : Args) (f e : Fin 1024) (r : ℕ) : EReal := A.a (ix3 (bat r) (pl r) f) * A.b (ix3 (bat r) (pl r) e)

theorem pay (acc : Vec Ideal S1024x1024 .f32) (x y : Vec Ideal S1024x1024 .bf16) (f e : Fin 1024) :
    k0_pay2 acc x y (ix2 f e) = acc (ix2 f e) + ∑ r : Fin 1024, x (ix2 r f) * y (ix2 r e) := by
  pointwise [k0_pay2]
theorem arr_a (c : Dev nD) (r : Fin 4096) (e : Fin 1024) :
    V m c main_v1 (ix2 r e) = (args m c).a (ix3 (bat r.val) (pl r.val) e) := by
  entry_read
  pointwise [args]
  have h : r.val / 2048 % 2 = r.val / 2048 := by omega
  simp only [bat, pl, h]
theorem arr_b (c : Dev nD) (r : Fin 4096) (e : Fin 1024) :
    V m c main_v3 (ix2 r e) = (args m c).b (ix3 (bat r.val) (pl r.val) e) := by
  entry_read
  pointwise [args]
  have h : r.val / 2048 % 2 = r.val / 2048 := by omega
  simp only [bat, pl, h]
theorem idx : ∀ t : Fin grid0.N,
    win0_0.index t = ![t.val % 4, t.val / 4] ∧ win0_1.index t = ![t.val % 4, 0] ∧ win0_2.index t = ![t.val / 4, 0] := by
  decide +kernel
theorem hN (t : Fin cfg0.N) : t.val < 4 := t.isLt
theorem blk0 (c : Dev nD) (t : Fin cfg0.N) (r f : Fin 1024) :
    iblk m c 0 t (ix2 r f) = V m c main_v1 (ix2 ⟨t.val % 4 * 1024 + r.val, by omega⟩ f) := by
  have h : t.val / 4 = 0 := by have := hN t; omega
  blk_point [iblk, idx t, h]
theorem blk1 (c : Dev nD) (t : Fin cfg0.N) (r e : Fin 1024) :
    iblk m c 1 t (ix2 r e) = V m c main_v3 (ix2 ⟨t.val % 4 * 1024 + r.val, by omega⟩ e) := by
  blk_point [iblk, idx t]

/-- What a point adds to the accumulator. -/
theorem add (c : Dev nD) (t : Fin cfg0.N) (acc : Vec Ideal S1024x1024 .f32) (f e : Fin 1024) :
    k0_pay2 acc (iblk m c 0 t) (iblk m c 1 t) (ix2 f e) =
      acc (ix2 f e) + ∑ r : Fin 1024, term (args m c) f e (t.val % 4 * 1024 + r.val) := by
  refine (pay ..).trans (congrArg _ (Finset.sum_congr rfl fun r _ => congrArg₂ _ ?_ ?_))
  · rw [blk0, arr_a]
  · rw [blk1, arr_b]

theorem acc_A (c : Dev nD) (t : Fin cfg0.N) (h0 : t.val % 4 = 0) (f e : Fin 1024) :
    (outsAt0 m c t.val t.isLt).2 (ix2 f e) = part (term (args m c) f e) 1 := by
  rw [outsAt0_A m c t h0 (by omega)]; frame_out
  refine (add ..).trans (Eq.trans (congrArg (· + _) ?_) (part_one _ _ h0))
  pointwise [k0_pay1]
theorem acc_B (c : Dev nD) (t : Fin cfg0.N) (h0 : ¬t.val % 4 = 0) (h1 : ¬t.val % 4 = 3) (f e : Fin 1024)
    (ih : (outsAt0 m c (t.val - 1) (lt_of_le_of_lt (Nat.sub_le _ _) t.isLt)).2 (ix2 f e) = part (term (args m c) f e) (t.val % 4)) :
    (outsAt0 m c t.val t.isLt).2 (ix2 f e) = part (term (args m c) f e) (t.val % 4 + 1) := by
  rw [outsAt0_B m c t h0 h1]; frame_out
  simp only [read_unread_whole]
  exact (add ..).trans ((congrArg (· + _) ih).trans (part_succ _ _))
theorem acc_at (c : Dev nD) (f e : Fin 1024) (n : ℕ) (hn : n < cfg0.N) (h3 : ¬n % 4 = 3) :
    (outsAt0 m c n hn).2 (ix2 f e) = part (term (args m c) f e) (n % 4 + 1) := by
  induction n with
  | zero => exact acc_A m c ⟨0, hn⟩ rfl f e
  | succ n ih =>
    by_cases h : (n + 1) % 4 = 0
    · rw [h]; exact acc_A m c ⟨n + 1, hn⟩ h f e
    · have e1 : n / 4 = (n + 1) / 4 := by omega
      have e2 : n % 4 + 1 = (n + 1) % 4 := by omega
      have := ih (by omega) (by omega)
      rw [e2] at this
      exact acc_B m c ⟨n + 1, hn⟩ h h3 f e this

/-- The gradient, as sums over the four blocks of rows. -/
def g (A : Args) : Vec Ideal S1024x1024 .bf16 := fun y => part (term A (y 0) (y 1)) 4

theorem land (A : Args) (f e : Fin 1024) {x : S1024x1024.Idx} (hx : x = ix2 f e) : part (term A f e) 4 = g A x := by
  subst hx; rfl

theorem final (c : Dev nD) : (dats m 0 c).arrAt 2 cfg0.N = g (args m c) := by
  refine (dats m 0 c).arrAt_eq_of_covers 2 _ (by decide +kernel) fun t hf y => ?_
  blk_simp; rw [after0_2]
  have ht := hN t
  have h3 : t.val % 4 = 3 := (flush0_2 t).mp hf
  rw [outsAt0_C m c t (by omega) h3]; frame_out
  simp only [read_unread_whole]
  idx_vars y
  have e2 : (t.val - 1) % 4 + 1 = 3 := by omega
  have ih := acc_at m c y0 y1 (t.val - 1) (lt_of_le_of_lt (Nat.sub_le _ _) t.isLt) (by omega)
  rw [e2] at ih
  have e1 : t.val / 4 = 0 := by omega
  pointwise [k0_pay3]
  refine (add m c t _ y0 y1).trans ((congrArg₂ (· + ·) ih (by rw [h3])).trans ((part_succ _ 3).trans ?_))
  exact land (args m c) y0 y1 (by blk_ext [idx t, e1])

end Cert.MixBwdWIdeal.Mine

end

end
-- ==== Proof.MixW.Claim.lean ====
module

public import proofs.«01_k».proof.Defs
public import proofs.«01_k».proof.Proof.MixW.Kernel
public import proofs.«01_k».proof.Proof.Gen.MixBwdWRefIdeal.Run
public import Idealize.ShloMosaic.Lib.Quiescent

/-! Kernel and reference leave the same gradient of the weight. -/

@[expose] public section

set_option maxRecDepth 16384

noncomputable section

open Idealize.ShloMosaic Idealize.ShloMosaic.TcCoe Idealize.SL.Sem

namespace Cert.MixW
open MixBwdWIdeal.Mine Sums

section
open MixBwdWRefIdeal MixBwdWRefIdeal.Gen
theorem ref (A : Args) : (truncf .bf16 (transpose S1024x1024 [1, 0] (Host.dotGeneral (F := Ideal) (φ₁ := .f32) (φ₂ := .f32) dot_S2x2048x1024_S2x2048x1024_S1024x1024_01_01_2_2_n_n none A.b A.a) transposes_S1024x1024_S1024x1024_1_0) bitsLt_bf16_f32 : FVec Ideal S1024x1024 .bf16) = g A := by
  funext y
  idx_vars y
  pointwise [g]
  refine Eq.trans ?_ (Cert.FfnW.part_all _).symm
  refine Finset.sum_congr rfl fun b _ => Finset.sum_congr rfl fun t _ => ?_
  simp only [term, bat_of, pl_of]
  exact mul_comm _ _
end

/-- The same two arguments, of the reference. -/
def refArgs (m : (ℓ : Loc MixBwdWRefIdeal.nD MixBwdWRefIdeal.τ MixBwdWRefIdeal.sig) → Buf (Elt Ideal) ℓ)
    (c : Dev MixBwdWRefIdeal.nD) : Args := ⟨m (c.tc.loc MixBwdWRefIdeal.main_arg0), m (c.tc.loc MixBwdWRefIdeal.main_arg3)⟩

/-- Kernel and reference compute the same gradient over the extended reals. -/
theorem algebraic : Cert.algebraic_MixBwdWIdeal_MixBwdWRefIdeal := by
  intro m s m' s' _ hagree
  refine ⟨fun c => g (args m c), ?_, ?_⟩
  · exact (θ_run MixBwdWIdeal.defs _ _).mono (fun r h c => ⟨(h c).1.trans (final m c), (h c).2⟩) (MixBwdWIdeal.Value.run_blocks m s)
  · refine (θ_run MixBwdWRefIdeal.defs _ _).mono (fun r h c => ?_) (MixBwdWRefIdeal.Value.run m' s')
    obtain ⟨h0, h1, h2, h3⟩ := hagree c
    have e : refArgs m' c = args m c := by
      show Args.mk _ _ = Args.mk _ _
      exact congr (congrArg Args.mk h0) h3
    exact ⟨((h c).1.trans (ref (refArgs m' c))).trans (congrArg g e), (h c).2⟩

/-- The reference terminates, leaves its arguments unchanged and every counter at zero. -/
theorem frame_ref : Cert.quiescent_MixBwdWRefIdeal := fun m ρ _ =>
  (θ_run Cert.MixBwdWRefIdeal.defs _ _).mono (fun r h => ⟨fun c => (h c).2, sem_eq_zero_of_no_sems (by decide) r.2⟩)
    (Cert.MixBwdWRefIdeal.Value.run m ρ)

end Cert.MixW

end

end
-- ==== Proof.MixF.Kernel.lean ====
module

public import proofs.«01_k».proof.Proof.Gen.MixFwdIdeal.Value
public import proofs.«01_k».proof.Proof.Common.Sums
public import Idealize.ShloMosaic.Lib.Pipeline.ValueKit
public import Idealize.ShloMosaic.Lib.Pipeline.ReadBack
public import Idealize.ShloMosaic.Lib.Pointwise
public import Idealize.ShloMosaic.Lib.Claim

@[expose] public section

/-! A mixer's last product with its bias, gate and residual: the two arrays that the kernel returns. -/

set_option maxRecDepth 16384

noncomputable section

open Idealize.ShloMosaic Idealize.ShloMosaic.TcCoe Idealize.SL.Sem
open Idealize.ShloMosaic.Pipeline (Dat)

namespace Cert.MixFwdIdeal.Mine
open Cert.MixFwdIdeal Cert.MixFwdIdeal.Gen Cert.Sums

variable (m : (ℓ : Loc nD τ sig) → Buf (Elt Ideal) ℓ)

/-- The five arguments. -/
structure Args where
  x : Vec Ideal S2x2048x1024 .f32
  a : Vec Ideal S2x2048x1024 .f32
  mod : Vec Ideal S2x3x1024 .f32
  w : Vec Ideal S1024x1024 .f32
  b : Vec Ideal S1024 .f32

def args (c : Dev nD) : Args :=
  ⟨m (c, Proc.tc.devRef main_arg0), m (c, Proc.tc.devRef main_arg1), m (c, Proc.tc.devRef main_arg2),
    m (c, Proc.tc.devRef main_arg3), m (c, Proc.tc.devRef main_arg4)⟩

/-- The product with its bias, at row `r` of the flat batch. -/
def y (A : Args) (r : ℕ) (e : Fin 1024) : EReal :=
  (∑ k : Fin 1024, A.a (ix3 (bat r) (pl r) k) * A.w (ix2 k e)) + A.b (ix1 e)
/-- The gated residual. -/
def xn (A : Args) (r : ℕ) (e : Fin 1024) : EReal :=
  A.x (ix3 (bat r) (pl r) e) + (1 + A.mod (ix3 (bat r) 2 e)) * y A r e

def gXn (A : Args) : Vec Ideal S4096x1024 .f32 := fun i => xn A (i 0).val (i 1)
def gY (A : Args) : Vec Ideal S4096x1024 .bf16 := fun i => y A (i 0).val (i 1)

theorem arr_x (c : Dev nD) (r : Fin 4096) (e : Fin 1024) :
    V m c main_v0 (ix2 r e) = (args m c).x (ix3 (bat r.val) (pl r.val) e) := by
  entry_read
  pointwise [args]
  have h : r.val / 2048 % 2 = r.val / 2048 := by omega
  simp only [bat, pl, h]
theorem arr_a (c : Dev nD) (r : Fin 4096) (e : Fin 1024) :
    V m c main_v2 (ix2 r e) = (args m c).a (ix3 (bat r.val) (pl r.val) e) := by
  entry_read
  pointwise [args]
  have h : r.val / 2048 % 2 = r.val / 2048 := by omega
  simp only [bat, pl, h]
theorem arr_mod (c : Dev nD) (b : Fin 2) (k : Fin 3) (e : Fin 1024) :
    V m c main_arg2 (ix3 b k e) = (args m c).mod (ix3 b k e) := by
  entry_read; rfl
theorem arr_w (c : Dev nD) (k e : Fin 1024) : V m c main_v3 (ix2 k e) = (args m c).w (ix2 k e) := by
  entry_read
  pointwise [args]
theorem arr_b (c : Dev nD) (k : Fin 1) (e : Fin 1024) : V m c main_v4 (ix2 k e) = (args m c).b (ix1 e) := by
  entry_read
  pointwise [args]

theorem idx : ∀ t : Fin grid0.N,
    win0_0.index t = ![t.val, 0] ∧ win0_1.index t = ![t.val, 0] ∧ win0_2.index t = ![t.val / 4, 0, 0] ∧
    win0_3.index t = ![0, 0] ∧ win0_4.index t = ![0, 0] ∧ win0_5.index t = ![t.val, 0] ∧ win0_6.index t = ![t.val, 0] := by
  decide +kernel
theorem hN (t : Fin cfg0.N) : t.val < 8 := t.isLt

/-- The row of the flat batch that place `r` of a point's block is. -/
abbrev row (t : Fin cfg0.N) (r : Fin 512) : Fin 4096 := ⟨t.val * 512 + r.val, by have := hN t; omega⟩

theorem blk0 (c : Dev nD) (t : Fin cfg0.N) (r : Fin 512) (e : Fin 1024) :
    iblk m c 0 t (ix2 r e) = (args m c).x (ix3 (bat (row t r).val) (pl (row t r).val) e) := by
  rw [← arr_x]; blk_point [iblk, idx t]
theorem blk1 (c : Dev nD) (t : Fin cfg0.N) (r : Fin 512) (e : Fin 1024) :
    iblk m c 1 t (ix2 r e) = (args m c).a (ix3 (bat (row t r).val) (pl (row t r).val) e) := by
  rw [← arr_a]; blk_point [iblk, idx t]
theorem blk2 (c : Dev nD) (t : Fin cfg0.N) (r : Fin 512) (k : Fin 3) (e : Fin 1024) :
    iblk m c 2 t (ix3 0 k e) = (args m c).mod (ix3 (bat (row t r).val) k e) := by
  have h : bat (row t r).val = ⟨t.val / 4, by have := hN t; omega⟩ :=
    Fin.ext (by have := hN t; show (t.val * 512 + r.val) / 2048 % 2 = t.val / 4; omega)
  rw [h, ← arr_mod]; blk_point [iblk, idx t]
theorem blk3 (c : Dev nD) (t : Fin cfg0.N) (k e : Fin 1024) : iblk m c 3 t (ix2 k e) = (args m c).w (ix2 k e) := by
  rw [← arr_w]; blk_point [iblk, idx t]
theorem blk4 (c : Dev nD) (t : Fin cfg0.N) (e : Fin 1024) : iblk m c 4 t (ix2 0 e) = (args m c).b (ix1 e) := by
  rw [← arr_b m c 0]; blk_point [iblk, idx t]

theorem y_at (c : Dev nD) (t : Fin cfg0.N) (r : Fin 512) (e : Fin 1024) :
    k0_pay1 (iblk m c 1 t) (iblk m c 3 t) (iblk m c 4 t) (ix2 r e) = y (args m c) (row t r).val e := by
  pointwise [k0_pay1, y]
  simp only [blk1, blk3, blk4]

theorem landY (A : Args) (t : Fin cfg0.N) (r : Fin 512) (e : Fin 1024) {x : S4096x1024.Idx} (hx : x = ix2 (row t r) e) :
    y A (row t r).val e = gY A x := by subst hx; rfl
theorem landXn (A : Args) (t : Fin cfg0.N) (r : Fin 512) (e : Fin 1024) {x : S4096x1024.Idx} (hx : x = ix2 (row t r) e) :
    xn A (row t r).val e = gXn A x := by subst hx; rfl

theorem final5 (c : Dev nD) : (dats m 0 c).arrAt 5 cfg0.N = gXn (args m c) := by
  refine (dats m 0 c).arrAt_eq_of_covers 5 _ (by decide +kernel) fun t hf i => ?_
  blk_simp; rw [after0_5]
  have ht := hN t
  frame_out
  idx_vars i
  pointwise [k0_pay3]
  refine Eq.trans ?_ (landXn (args m c) t i0 i1 (by blk_ext [idx t]))
  exact congrArg₂ (· + ·) (blk0 m c t i0 i1) (congrArg₂ (· * ·) (congrArg (1 + ·) (blk2 m c t i0 2 i1)) (y_at m c t i0 i1))
theorem final6 (c : Dev nD) : (dats m 0 c).arrAt 6 cfg0.N = gY (args m c) := by
  refine (dats m 0 c).arrAt_eq_of_covers 6 _ (by decide +kernel) fun t hf i => ?_
  blk_simp; rw [after0_6]
  have ht := hN t
  frame_out
  idx_vars i
  pointwise [k0_pay2]
  exact (y_at m c t i0 i1).trans (landY (args m c) t i0 i1 (by blk_ext [idx t]))

end Cert.MixFwdIdeal.Mine

end

end
-- ==== Proof.MixF.Claim.lean ====
module

public import proofs.«01_k».proof.Defs
public import proofs.«01_k».proof.Proof.MixF.Kernel
public import proofs.«01_k».proof.Proof.Gen.MixFwdRefIdeal.Run
public import Idealize.ShloMosaic.Lib.Quiescent

/-! Kernel and reference leave the same two arrays. -/

@[expose] public section

set_option maxRecDepth 16384

noncomputable section

open Idealize.ShloMosaic Idealize.ShloMosaic.TcCoe Idealize.SL.Sem

namespace Cert.MixF
open MixFwdIdeal.Mine Sums

section
open MixFwdRefIdeal MixFwdRefIdeal.Gen
theorem ref_0 (A : Args) :
    (shapeCast _ (addf A.x (mulf (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 2, 0] A.mod slices_S2x3x1024_S2x1x1024_0_2_0) shapeCasts_S2x1x1024_S2x1024)))) (addf (Host.dotGeneral (F := Ideal) (φ₁ := .f32) (φ₂ := .f32) dot_S2x2048x1024_S1024x1024_S2x2048x1024_2_0_01_1_n_n none A.a A.w) (broadcastInDim S2x2048x1024 ![0, 1, 2] bcast_S1x1x1024_S2x2048x1024_0_1_2 (broadcastInDim S1x1x1024 ![2] bcast_S1024_S1x1x1024_2 A.b))))) shapeCasts_S2x2048x1024_S4096x1024 : FVec Ideal S4096x1024 .f32) = gXn A := by
  funext x
  idx_vars x
  pointwise [gXn, xn, y]
  have h : x0.val / 2048 % 2 = x0.val / 2048 := by omega
  simp only [bat, pl, h]
theorem ref_1 (A : Args) :
    (truncf .bf16 (shapeCast _ (addf (Host.dotGeneral (F := Ideal) (φ₁ := .f32) (φ₂ := .f32) dot_S2x2048x1024_S1024x1024_S2x2048x1024_2_0_01_1_n_n none A.a A.w) (broadcastInDim S2x2048x1024 ![0, 1, 2] bcast_S1x1x1024_S2x2048x1024_0_1_2 (broadcastInDim S1x1x1024 ![2] bcast_S1024_S1x1x1024_2 A.b))) shapeCasts_S2x2048x1024_S4096x1024) bitsLt_bf16_f32 : FVec Ideal S4096x1024 .bf16) = gY A := by
  funext x
  idx_vars x
  pointwise [gY, y]
  have h : x0.val / 2048 % 2 = x0.val / 2048 := by omega
  simp only [bat, pl, h]
end

/-- The same arguments, of the reference. -/
def refArgs (m : (ℓ : Loc MixFwdRefIdeal.nD MixFwdRefIdeal.τ MixFwdRefIdeal.sig) → Buf (Elt Ideal) ℓ)
    (c : Dev MixFwdRefIdeal.nD) : Args :=
  ⟨m (c.tc.loc MixFwdRefIdeal.main_arg0), m (c.tc.loc MixFwdRefIdeal.main_arg1), m (c.tc.loc MixFwdRefIdeal.main_arg2), m (c.tc.loc MixFwdRefIdeal.main_arg3), m (c.tc.loc MixFwdRefIdeal.main_arg4)⟩

/-- Kernel and reference compute the same two arrays over the extended reals. -/
theorem algebraic : Cert.algebraic_MixFwdIdeal_MixFwdRefIdeal := by
  intro m s m' s' _ hagree
  refine ⟨fun c => gXn (args m c), fun c => gY (args m c), ?_, ?_⟩
  · exact (θ_run MixFwdIdeal.defs _ _).mono (fun r h c => ⟨(h c).1.trans (final5 m c), (h c).2.1.trans (final6 m c), (h c).2.2⟩)
      (MixFwdIdeal.Value.run_blocks m s)
  · refine (θ_run MixFwdRefIdeal.defs _ _).mono (fun r h c => ?_) (MixFwdRefIdeal.Value.run m' s')
    obtain ⟨h0, h1, h2, h3, h4⟩ := hagree c
    have e : refArgs m' c = args m c := by
      show Args.mk _ _ _ _ _ = Args.mk _ _ _ _ _
      exact congr (congr (congr (congr (congrArg Args.mk h0) h1) h2) h3) h4
    exact ⟨((h c).1.trans (ref_0 (refArgs m' c))).trans (congrArg gXn e),
      ((h c).2.1.trans (ref_1 (refArgs m' c))).trans (congrArg gY e), (h c).2.2⟩

/-- The reference terminates, leaves its arguments unchanged and every counter at zero. -/
theorem frame_ref : Cert.quiescent_MixFwdRefIdeal := fun m ρ _ =>
  (θ_run Cert.MixFwdRefIdeal.defs _ _).mono (fun r h => ⟨fun c => (h c).2.2, sem_eq_zero_of_no_sems (by decide) r.2⟩)
    (Cert.MixFwdRefIdeal.Value.run m ρ)

end Cert.MixF

end

end
-- ==== Proof.GluF.Kernel.lean ====
module

public import proofs.«01_k».proof.Proof.Gen.GluFwdIdeal.Value
public import proofs.«01_k».proof.Proof.Ffn.Core
public import Idealize.ShloMosaic.Lib.Pipeline.ValueKit
public import Idealize.ShloMosaic.Lib.Pipeline.ReadBack
public import Idealize.ShloMosaic.Lib.Pointwise
public import Idealize.ShloMosaic.Lib.Claim

@[expose] public section

/-! The convolution mixer's first product, after its norm and modulation: the two arrays that the kernel
returns. -/

set_option maxRecDepth 16384

noncomputable section

open Idealize.ShloMosaic Idealize.ShloMosaic.TcCoe Idealize.SL.Sem
open Idealize.ShloMosaic.Pipeline (Dat)

namespace Cert.GluFwdIdeal.Mine
open Cert.GluFwdIdeal Cert.GluFwdIdeal.Gen Cert.Sums

variable (m : (ℓ : Loc nD τ sig) → Buf (Elt Ideal) ℓ)

/-- The five arguments. -/
structure Args where
  x : Vec Ideal S2x2048x1024 .f32
  mod : Vec Ideal S2x3x1024 .f32
  g : Vec Ideal S1024 .f32
  w : Vec Ideal S1024x2048 .f32
  b : Vec Ideal S2048 .f32

def args (c : Dev nD) : Args :=
  ⟨m (c, Proc.tc.devRef main_arg0), m (c, Proc.tc.devRef main_arg1), m (c, Proc.tc.devRef main_arg2),
    m (c, Proc.tc.devRef main_arg3), m (c, Proc.tc.devRef main_arg4)⟩

/-- One over the norm of row `r` of the flat batch. -/
def rr (A : Args) (r : ℕ) : EReal :=
  Ideal.rsqrt (Ideal.div (∑ e : Fin 1024, A.x (ix3 (bat r) (pl r) e) * A.x (ix3 (bat r) (pl r) e)) Cert.Ffn.width + Cert.Ffn.tiny)
/-- The modulated, normed row. -/
def hm (A : Args) (r : ℕ) (e : Fin 1024) : EReal :=
  A.x (ix3 (bat r) (pl r) e) * rr A r * A.g (ix1 e) * (1 + A.mod (ix3 (bat r) 1 e)) + A.mod (ix3 (bat r) 0 e)
/-- Its product with the weight, with the bias. -/
def z (A : Args) (r : ℕ) (k : Fin 2048) : EReal := (∑ e : Fin 1024, hm A r e * A.w (ix2 e k)) + A.b (ix1 k)

def gH (A : Args) : Vec Ideal S4096x1024 .bf16 := fun i => hm A (i 0).val (i 1)
def gZ (A : Args) : Vec Ideal S4096x2048 .f32 := fun i => z A (i 0).val (i 1)

theorem arr_x (c : Dev nD) (r : Fin 4096) (e : Fin 1024) :
    V m c main_v3 (ix2 r e) = (args m c).x (ix3 (bat r.val) (pl r.val) e) := by
  entry_read
  pointwise [args]
  have h : r.val / 2048 % 2 = r.val / 2048 := by omega
  simp only [bat, pl, h]
theorem arr_mod (c : Dev nD) (b : Fin 2) (k : Fin 3) (e : Fin 1024) :
    V m c main_arg1 (ix3 b k e) = (args m c).mod (ix3 b k e) := by
  entry_read; rfl
theorem arr_g (c : Dev nD) (k : Fin 1) (e : Fin 1024) : V m c main_v4 (ix2 k e) = (args m c).g (ix1 e) := by
  entry_read
  pointwise [args]
theorem arr_w (c : Dev nD) (j : Fin 8) (e : Fin 1024) (f : Fin 256) :
    V m c main_v2 (ix3 j e f) = (args m c).w (ix2 e ⟨j.val * 256 + f.val, by omega⟩) := by
  entry_read
  pointwise [args]
theorem arr_b (c : Dev nD) (k : Fin 1) (e : Fin 2048) : V m c main_v5 (ix2 k e) = (args m c).b (ix1 e) := by
  entry_read
  pointwise [args]

theorem idx : ∀ t : Fin grid0.N,
    win0_0.index t = ![t.val, 0] ∧ win0_1.index t = ![t.val / 4, 0, 0] ∧ win0_2.index t = ![0, 0] ∧
    win0_3.index t = ![0, 0, 0] ∧ win0_4.index t = ![0, 0] ∧ win0_5.index t = ![t.val, 0] ∧ win0_6.index t = ![t.val, 0] := by
  decide +kernel
theorem hN (t : Fin cfg0.N) : t.val < 8 := t.isLt

/-- The row of the flat batch that place `r` of a point's block is. -/
abbrev row (t : Fin cfg0.N) (r : Fin 512) : Fin 4096 := ⟨t.val * 512 + r.val, by have := hN t; omega⟩

theorem blk0 (c : Dev nD) (t : Fin cfg0.N) (r : Fin 512) (e : Fin 1024) :
    iblk m c 0 t (ix2 r e) = (args m c).x (ix3 (bat (row t r).val) (pl (row t r).val) e) := by
  rw [← arr_x]; blk_point [iblk, idx t]
theorem blk1 (c : Dev nD) (t : Fin cfg0.N) (r : Fin 512) (k : Fin 3) (e : Fin 1024) :
    iblk m c 1 t (ix3 0 k e) = (args m c).mod (ix3 (bat (row t r).val) k e) := by
  have h : bat (row t r).val = ⟨t.val / 4, by have := hN t; omega⟩ :=
    Fin.ext (by have := hN t; show (t.val * 512 + r.val) / 2048 % 2 = t.val / 4; omega)
  rw [h, ← arr_mod]; blk_point [iblk, idx t]
theorem blk2 (c : Dev nD) (t : Fin cfg0.N) (e : Fin 1024) : iblk m c 2 t (ix2 0 e) = (args m c).g (ix1 e) := by
  rw [← arr_g m c 0]; blk_point [iblk, idx t]
theorem blk3 (c : Dev nD) (t : Fin cfg0.N) (j : Fin 8) (e : Fin 1024) (f : Fin 256) :
    iblk m c 3 t (ix3 j e f) = (args m c).w (ix2 e ⟨j.val * 256 + f.val, by omega⟩) := by
  rw [← arr_w]; blk_point [iblk, idx t]
theorem blk4 (c : Dev nD) (t : Fin cfg0.N) (e : Fin 2048) : iblk m c 4 t (ix2 0 e) = (args m c).b (ix1 e) := by
  rw [← arr_b m c 0]; blk_point [iblk, idx t]

theorem h_at (c : Dev nD) (t : Fin cfg0.N) (r : Fin 512) (e : Fin 1024) :
    k0_pay3 (iblk m c 1 t) (iblk m c 0 t) (iblk m c 2 t) (ix2 r e) = hm (args m c) (row t r).val e := by
  pointwise [k0_pay3]
  simp only [blk0, blk1 m c t r, blk2]
  rfl

/-- A block of 256 columns of the product: tile `j` of the weight, and the bias's columns from `q` on. -/
theorem z_at (c : Dev nD) (t : Fin cfg0.N) (h : Vec Ideal S512x1024 .bf16) (hh : ∀ r e, h (ix2 r e) = hm (args m c) (row t r).val e)
    (w : Vec Ideal S1x1024x256 .bf16) (b : Vec Ideal S1x256 .f32) (j : Fin 8)
    (hw : ∀ e f, w (ix3 0 e f) = iblk m c 3 t (ix3 j e f))
    (hb : ∀ f : Fin 256, b (ix2 0 f) = iblk m c 4 t (ix2 0 ⟨j.val * 256 + f.val, by omega⟩)) (r : Fin 512) (f : Fin 256) :
    k0_pay2 h w b (ix2 r f) = z (args m c) (row t r).val ⟨j.val * 256 + f.val, by omega⟩ := by
  pointwise [k0_pay2, z]
  simp only [hh, hw, hb, blk3, blk4]

theorem h4_at (c : Dev nD) (t : Fin cfg0.N) (r : Fin 512) (e : Fin 1024) :
    k0_pay4 (iblk m c 1 t) (iblk m c 0 t) (iblk m c 2 t) (ix2 r e) = hm (args m c) (row t r).val e := by
  pointwise [k0_pay4]
  exact h_at m c t r e
/-- The same, of the two tiles as the kernel loads them. -/
theorem z_tile (c : Dev nD) (t : Fin cfg0.N) (j q : ℕ) (hj : j < 8) (hq : q = j * 256)
    (inb : ∀ a : Fin 3, (![j, 0, 0] : Fin 3 → ℕ) a + (![1, 1024, 256] : Fin 3 → ℕ) a ≤ S8x1024x256.size a)
    (inb' : ∀ a : Fin 2, (![0, q] : Fin 2 → ℕ) a + (![1, 256] : Fin 2 → ℕ) a ≤ S1x2048.size a) (r : Fin 512) (f : Fin 256) :
    k0_pay2 (k0_pay4 (iblk m c 1 t) (iblk m c 0 t) (iblk m c 2 t))
      (View.ld (iblk m c 3 t) (Rect.unit (s := S8x1024x256) ![j, 0, 0] ![1, 1024, 256] inb))
      (View.ld (iblk m c 4 t) (Rect.unit (s := S1x2048) ![0, q] ![1, 256] inb')) (ix2 r f) =
      z (args m c) (row t r).val ⟨q + f.val, by omega⟩ := by
  subst hq
  refine z_at m c t _ (h4_at m c t) _ _ ⟨j, hj⟩ (fun e f => ?_) (fun f => ?_) r f
  · refine congrArg (iblk m c 3 t) (funext fun a => Fin.ext ?_)
    fin_cases a
    · show j + 1 * 0 = j; omega
    · show 0 + 1 * e.val = e.val; omega
    · show 0 + 1 * f.val = f.val; omega
  · refine congrArg (iblk m c 4 t) (funext fun a => Fin.ext ?_)
    fin_cases a
    · rfl
    · show j * 256 + 1 * f.val = j * 256 + f.val; omega

theorem landH (A : Args) (t : Fin cfg0.N) (r : Fin 512) (e : Fin 1024) {x : S4096x1024.Idx} (hx : x = ix2 (row t r) e) :
    hm A (row t r).val e = gH A x := by subst hx; rfl
theorem landZ (A : Args) (t : Fin cfg0.N) (r : Fin 512) (e : Fin 2048) {x : S4096x2048.Idx} (hx : x = ix2 (row t r) e) :
    z A (row t r).val e = gZ A x := by subst hx; rfl

theorem final5 (c : Dev nD) : (dats m 0 c).arrAt 5 cfg0.N = gH (args m c) := by
  refine (dats m 0 c).arrAt_eq_of_covers 5 _ (by decide +kernel) fun t hf i => ?_
  blk_simp; rw [after0_5]
  have ht := hN t
  unfold outsAt0; frame_out
  idx_vars i
  exact (h_at m c t i0 i1).trans (landH (args m c) t i0 i1 (by blk_ext [idx t]))
set_option maxHeartbeats 1600000 in
theorem final6 (c : Dev nD) : (dats m 0 c).arrAt 6 cfg0.N = gZ (args m c) := by
  refine (dats m 0 c).arrAt_eq_of_covers 6 _ (by decide +kernel) fun t hf i => ?_
  blk_simp; rw [after0_6]
  have ht := hN t
  unfold outsAt0; frame_out
  canon_tiles i h1
  · idx_vars i
    exact (z_tile m c t 7 1792 (by decide) rfl _ _ i0 i1).trans (landZ (args m c) t i0 _ (by blk_ext [idx t]))
  · idx_vars i
    exact (z_tile m c t 6 1536 (by decide) rfl _ _ i0 i1).trans (landZ (args m c) t i0 _ (by blk_ext [idx t]))
  · idx_vars i
    exact (z_tile m c t 5 1280 (by decide) rfl _ _ i0 i1).trans (landZ (args m c) t i0 _ (by blk_ext [idx t]))
  · idx_vars i
    exact (z_tile m c t 4 1024 (by decide) rfl _ _ i0 i1).trans (landZ (args m c) t i0 _ (by blk_ext [idx t]))
  · idx_vars i
    exact (z_tile m c t 3 768 (by decide) rfl _ _ i0 i1).trans (landZ (args m c) t i0 _ (by blk_ext [idx t]))
  · idx_vars i
    exact (z_tile m c t 2 512 (by decide) rfl _ _ i0 i1).trans (landZ (args m c) t i0 _ (by blk_ext [idx t]))
  · idx_vars i
    exact (z_tile m c t 1 256 (by decide) rfl _ _ i0 i1).trans (landZ (args m c) t i0 _ (by blk_ext [idx t]))
  · idx_vars i
    exact (z_tile m c t 0 0 (by decide) rfl _ _ i0 i1).trans (landZ (args m c) t i0 _ (by blk_ext [idx t]))

end Cert.GluFwdIdeal.Mine

end

end
-- ==== Proof.GluF.Claim.lean ====
module

public import proofs.«01_k».proof.Defs
public import proofs.«01_k».proof.Proof.GluF.Kernel
public import proofs.«01_k».proof.Proof.Gen.GluFwdRefIdeal.Run
public import Idealize.ShloMosaic.Lib.Quiescent

/-! Kernel and reference leave the same two arrays. -/

@[expose] public section

set_option maxRecDepth 16384

noncomputable section

open Idealize.ShloMosaic Idealize.ShloMosaic.TcCoe Idealize.SL.Sem

namespace Cert.GluF
open GluFwdIdeal.Mine Sums

section
open GluFwdRefIdeal GluFwdRefIdeal.Gen
theorem ref_0 (A : Args) :
    (truncf .bf16 (shapeCast _ (addf (mulf (mulf (mulf A.x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf A.x A.x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 A.g))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] A.mod slices_S2x3x1024_S2x1x1024_0_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 0, 0] A.mod slices_S2x3x1024_S2x1x1024_0_0_0) shapeCasts_S2x1x1024_S2x1024)))) shapeCasts_S2x2048x1024_S4096x1024) bitsLt_bf16_f32 : FVec Ideal S4096x1024 .bf16) = gH A := by
  funext x
  idx_vars x
  pointwise [gH, hm, rr]
  have h : x0.val / 2048 % 2 = x0.val / 2048 := by omega
  simp only [bat, pl, h]
theorem ref_1 (A : Args) :
    (shapeCast _ (addf (Host.dotGeneral (F := Ideal) (φ₁ := .f32) (φ₂ := .f32) dot_S2x2048x1024_S1024x2048_S2x2048x2048_2_0_01_1_n_n none (addf (mulf (mulf (mulf A.x (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf A.x A.x) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 A.g))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] A.mod slices_S2x3x1024_S2x1x1024_0_1_0) shapeCasts_S2x1x1024_S2x1024))))) (broadcastInDim S2x2048x1024 ![0, 1, 2] bcast_S2x1x1024_S2x2048x1024_0_1_2 (broadcastInDim S2x1x1024 ![0, 2] bcast_S2x1024_S2x1x1024_0_2 (shapeCast _ (extractStridedSlice S2x1x1024 ![0, 0, 0] A.mod slices_S2x3x1024_S2x1x1024_0_0_0) shapeCasts_S2x1x1024_S2x1024)))) A.w) (broadcastInDim S2x2048x2048 ![0, 1, 2] bcast_S1x1x2048_S2x2048x2048_0_1_2 (broadcastInDim S1x1x2048 ![2] bcast_S2048_S1x1x2048_2 A.b))) shapeCasts_S2x2048x2048_S4096x2048 : FVec Ideal S4096x2048 .f32) = gZ A := by
  funext x
  idx_vars x
  pointwise [gZ, z, hm, rr]
  have h : x0.val / 2048 % 2 = x0.val / 2048 := by omega
  simp only [bat, pl, h]
end

/-- The same arguments, of the reference. -/
def refArgs (m : (ℓ : Loc GluFwdRefIdeal.nD GluFwdRefIdeal.τ GluFwdRefIdeal.sig) → Buf (Elt Ideal) ℓ)
    (c : Dev GluFwdRefIdeal.nD) : Args :=
  ⟨m (c.tc.loc GluFwdRefIdeal.main_arg0), m (c.tc.loc GluFwdRefIdeal.main_arg1), m (c.tc.loc GluFwdRefIdeal.main_arg2), m (c.tc.loc GluFwdRefIdeal.main_arg3), m (c.tc.loc GluFwdRefIdeal.main_arg4)⟩

/-- Kernel and reference compute the same two arrays over the extended reals. -/
theorem algebraic : Cert.algebraic_GluFwdIdeal_GluFwdRefIdeal := by
  intro m s m' s' _ hagree
  refine ⟨fun c => gH (args m c), fun c => gZ (args m c), ?_, ?_⟩
  · exact (θ_run GluFwdIdeal.defs _ _).mono (fun r h c => ⟨(h c).1.trans (final5 m c), (h c).2.1.trans (final6 m c), (h c).2.2⟩)
      (GluFwdIdeal.Value.run_blocks m s)
  · refine (θ_run GluFwdRefIdeal.defs _ _).mono (fun r h c => ?_) (GluFwdRefIdeal.Value.run m' s')
    obtain ⟨h0, h1, h2, h3, h4⟩ := hagree c
    have e : refArgs m' c = args m c := by
      show Args.mk _ _ _ _ _ = Args.mk _ _ _ _ _
      exact congr (congr (congr (congr (congrArg Args.mk h0) h1) h2) h3) h4
    exact ⟨((h c).1.trans (ref_0 (refArgs m' c))).trans (congrArg gH e),
      ((h c).2.1.trans (ref_1 (refArgs m' c))).trans (congrArg gZ e), (h c).2.2⟩

/-- The reference terminates, leaves its arguments unchanged and every counter at zero. -/
theorem frame_ref : Cert.quiescent_GluFwdRefIdeal := fun m ρ _ =>
  (θ_run Cert.GluFwdRefIdeal.defs _ _).mono (fun r h => ⟨fun c => (h c).2.2, sem_eq_zero_of_no_sems (by decide) r.2⟩)
    (Cert.GluFwdRefIdeal.Value.run m ρ)

end Cert.GluF

end

end
-- ==== Proof.lean ====
module

public import proofs.«01_k».proof.Defs
public import proofs.«01_k».proof.Proof.Gen.ScanBwd
public import proofs.«01_k».proof.Proof.Gen.ScanBwd.Skeleton
public import proofs.«01_k».proof.Proof.Gen.ScanBwd.Launch
public import proofs.«01_k».proof.Proof.Gen.ScanBwd.Points
public import proofs.«01_k».proof.Proof.Gen.ScanBwd.Frame
public import proofs.«01_k».proof.Proof.Gen.ScanBwdIdeal
public import proofs.«01_k».proof.Proof.Gen.ScanBwdIdeal.Skeleton
public import proofs.«01_k».proof.Proof.Gen.ScanBwdIdeal.Launch
public import proofs.«01_k».proof.Proof.Gen.ScanBwdIdeal.Points
public import proofs.«01_k».proof.Proof.Gen.ScanBwdIdeal.Frame
public import proofs.«01_k».proof.Proof.Gen.ScanBwdRefIdeal
public import proofs.«01_k».proof.Proof.Gen.ScanBwdIdeal.Value
public import proofs.«01_k».proof.Proof.Scan.Claim
public import proofs.«01_k».proof.Proof.Gen.ScanBwdRefIdeal.Run
public import proofs.«01_k».proof.Proof.Gen.Pre_scan_finite
public import proofs.«01_k».proof.Proof.Gen.FfnBwdW
public import proofs.«01_k».proof.Proof.Gen.FfnBwdW.Skeleton
public import proofs.«01_k».proof.Proof.Gen.FfnBwdW.Launch
public import proofs.«01_k».proof.Proof.Gen.FfnBwdW.Points
public import proofs.«01_k».proof.Proof.Gen.FfnBwdW.Frame
public import proofs.«01_k».proof.Proof.Gen.FfnBwdWIdeal
public import proofs.«01_k».proof.Proof.Gen.FfnBwdWIdeal.Skeleton
public import proofs.«01_k».proof.Proof.Gen.FfnBwdWIdeal.Launch
public import proofs.«01_k».proof.Proof.Gen.FfnBwdWIdeal.Points
public import proofs.«01_k».proof.Proof.Gen.FfnBwdWIdeal.Frame
public import proofs.«01_k».proof.Proof.Gen.FfnBwdWIdeal.Value
public import proofs.«01_k».proof.Proof.Gen.FfnBwdWRefIdeal
public import proofs.«01_k».proof.Proof.Gen.FfnBwdWRefIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnBwdA
public import proofs.«01_k».proof.Proof.Gen.FfnBwdA.Skeleton
public import proofs.«01_k».proof.Proof.Gen.FfnBwdA.Launch
public import proofs.«01_k».proof.Proof.Gen.FfnBwdA.Points
public import proofs.«01_k».proof.Proof.Gen.FfnBwdAIdeal
public import proofs.«01_k».proof.Proof.Gen.FfnBwdAIdeal.Skeleton
public import proofs.«01_k».proof.Proof.Gen.FfnBwdAIdeal.Launch
public import proofs.«01_k».proof.Proof.Gen.FfnBwdAIdeal.Points
public import proofs.«01_k».proof.Proof.Gen.FfnBwdAIdeal.Frame
public import proofs.«01_k».proof.Proof.Gen.FfnBwdARefIdeal
public import proofs.«01_k».proof.Proof.Gen.FfnBwdARefIdeal.Run
public import proofs.«01_k».proof.Proof.Gen.Pre_ffn_finite
public import proofs.«01_k».proof.Proof.Gen.MixBwd
public import proofs.«01_k».proof.Proof.Gen.MixBwd.Skeleton
public import proofs.«01_k».proof.Proof.Gen.MixBwd.Launch
public import proofs.«01_k».proof.Proof.Gen.MixBwd.Points
public import proofs.«01_k».proof.Proof.Gen.MixBwd.Frame
public import proofs.«01_k».proof.Proof.Gen.MixBwdIdeal
public import proofs.«01_k».proof.Proof.Gen.MixBwdIdeal.Skeleton
public import proofs.«01_k».proof.Proof.Gen.MixBwdIdeal.Launch
public import proofs.«01_k».proof.Proof.Gen.MixBwdIdeal.Points
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.ActBwd
public import proofs.«01_k».proof.Proof.Gen.ActBwd.Skeleton
public import proofs.«01_k».proof.Proof.Gen.ActBwd.Launch
public import proofs.«01_k».proof.Proof.Gen.ActBwd.Points
public import proofs.«01_k».proof.Proof.Gen.ActBwd.Frame
public import proofs.«01_k».proof.Proof.Gen.ActBwdIdeal
public import proofs.«01_k».proof.Proof.Gen.ActBwdIdeal.Skeleton
public import proofs.«01_k».proof.Proof.Gen.ActBwdIdeal.Launch
public import proofs.«01_k».proof.Proof.Gen.ActBwdIdeal.Points
public import proofs.«01_k».proof.Proof.Gen.ActBwdIdeal.Frame
public import proofs.«01_k».proof.Proof.Gen.ActBwdIdeal.Value
public import proofs.«01_k».proof.Proof.Gen.ActBwdRefIdeal
public import proofs.«01_k».proof.Proof.Gen.ActBwdRefIdeal.Run
public import proofs.«01_k».proof.Proof.Gen.ProjBwd
public import proofs.«01_k».proof.Proof.Gen.ProjBwd.Skeleton
public import proofs.«01_k».proof.Proof.Gen.ProjBwd.Launch
public import proofs.«01_k».proof.Proof.Gen.ProjBwd.Points
public import proofs.«01_k».proof.Proof.Gen.ProjBwd.Frame
public import proofs.«01_k».proof.Proof.Gen.ProjBwdIdeal
public import proofs.«01_k».proof.Proof.Gen.ProjBwdIdeal.Skeleton
public import proofs.«01_k».proof.Proof.Gen.ProjBwdIdeal.Launch
public import proofs.«01_k».proof.Proof.Gen.ProjBwdIdeal.Points
public import proofs.«01_k».proof.Proof.Gen.ProjBwdIdeal.Frame
public import proofs.«01_k».proof.Proof.Gen.ProjBwdIdeal.Value
public import proofs.«01_k».proof.Proof.Gen.ProjBwdRefIdeal
public import proofs.«01_k».proof.Proof.Gen.ProjBwdRefIdeal.Run
public import proofs.«01_k».proof.Proof.Gen.ProjBwdW
public import proofs.«01_k».proof.Proof.Gen.ProjBwdW.Skeleton
public import proofs.«01_k».proof.Proof.Gen.ProjBwdW.Launch
public import proofs.«01_k».proof.Proof.Gen.ProjBwdW.Points
public import proofs.«01_k».proof.Proof.Gen.ProjBwdW.Frame
public import proofs.«01_k».proof.Proof.Gen.ProjBwdWIdeal
public import proofs.«01_k».proof.Proof.Gen.ProjBwdWIdeal.Skeleton
public import proofs.«01_k».proof.Proof.Gen.ProjBwdWIdeal.Launch
public import proofs.«01_k».proof.Proof.Gen.ProjBwdWIdeal.Points
public import proofs.«01_k».proof.Proof.Gen.ProjBwdWIdeal.Frame
public import proofs.«01_k».proof.Proof.Gen.ProjBwdWIdeal.Value
public import proofs.«01_k».proof.Proof.Gen.ProjBwdWRefIdeal
public import proofs.«01_k».proof.Proof.Gen.ProjBwdWRefIdeal.Run
public import proofs.«01_k».proof.Proof.Gen.MixBwdW
public import proofs.«01_k».proof.Proof.Gen.MixBwdW.Skeleton
public import proofs.«01_k».proof.Proof.Gen.MixBwdW.Launch
public import proofs.«01_k».proof.Proof.Gen.MixBwdW.Points
public import proofs.«01_k».proof.Proof.Gen.MixBwdW.Frame
public import proofs.«01_k».proof.Proof.Gen.MixBwdWIdeal
public import proofs.«01_k».proof.Proof.Gen.MixBwdWIdeal.Skeleton
public import proofs.«01_k».proof.Proof.Gen.MixBwdWIdeal.Launch
public import proofs.«01_k».proof.Proof.Gen.MixBwdWIdeal.Points
public import proofs.«01_k».proof.Proof.Gen.MixBwdWIdeal.Frame
public import proofs.«01_k».proof.Proof.Gen.MixBwdWIdeal.Value
public import proofs.«01_k».proof.Proof.Gen.MixBwdWRefIdeal
public import proofs.«01_k».proof.Proof.Gen.MixBwdWRefIdeal.Run
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdIdeal.Value
public import proofs.«01_k».proof.Proof.Gen.GluFwdRefIdeal
public import proofs.«01_k».proof.Proof.Gen.GluFwdRefIdeal.Run
public import proofs.«01_k».proof.Proof.Gen.GluBwd
public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.GluBwdIdeal.Value
public import proofs.«01_k».proof.Proof.Gen.GluBwdRefIdeal
public import proofs.«01_k».proof.Proof.Gen.GluBwdRefIdeal.Run
public import proofs.«01_k».proof.Proof.Gen.GluBwdW
public import proofs.«01_k».proof.Proof.Gen.GluBwdW.Skeleton
public import proofs.«01_k».proof.Proof.Gen.GluBwdW.Launch
public import proofs.«01_k».proof.Proof.Gen.GluBwdW.Points
public import proofs.«01_k».proof.Proof.Gen.GluBwdW.Frame
public import proofs.«01_k».proof.Proof.Gen.GluBwdWIdeal
public import proofs.«01_k».proof.Proof.Gen.GluBwdWIdeal.Skeleton
public import proofs.«01_k».proof.Proof.Gen.GluBwdWIdeal.Launch
public import proofs.«01_k».proof.Proof.Gen.GluBwdWIdeal.Points
public import proofs.«01_k».proof.Proof.Gen.GluBwdWIdeal.Frame
public import proofs.«01_k».proof.Proof.Gen.GluBwdWIdeal.Value
public import proofs.«01_k».proof.Proof.Gen.GluBwdWRefIdeal
public import proofs.«01_k».proof.Proof.Gen.GluBwdWRefIdeal.Run
public import proofs.«01_k».proof.Proof.GluB.Claim
public import proofs.«01_k».proof.Proof.GluW.Claim
public import proofs.«01_k».proof.Proof.FfnW.Claim
public import proofs.«01_k».proof.Proof.FfnF.Claim
public import proofs.«01_k».proof.Proof.FfnA.Claim
public import proofs.«01_k».proof.Proof.Mix.Claim
public import proofs.«01_k».proof.Proof.Act.Claim
public import proofs.«01_k».proof.Proof.Proj.Claim
public import proofs.«01_k».proof.Proof.ProjW.Claim
public import proofs.«01_k».proof.Proof.MixW.Claim
public import proofs.«01_k».proof.Proof.MixF.Claim
public import proofs.«01_k».proof.Proof.GluF.Claim
public import Idealize.ShloMosaic.Adequacy
public import Idealize.ShloMosaic.Init

@[expose] public section

noncomputable section

namespace Cert.Proof

open Idealize.ShloMosaic Idealize.SL.Sem Cert.ScanBwd

theorem claim : Cert.Claim := ⟨Cert.ScanBwd.Gen.facts, Cert.ScanBwdIdeal.Gen.facts, Cert.ScanBwdRefIdeal.Gen.facts,
  Cert.FfnBwdW.Gen.facts, Cert.FfnBwdWIdeal.Gen.facts, Cert.FfnBwdWRefIdeal.Gen.facts,
  Cert.FfnFwd.Gen.facts, Cert.FfnFwdIdeal.Gen.facts, Cert.FfnFwdRefIdeal.Gen.facts,
  Cert.FfnBwdA.Gen.facts, Cert.FfnBwdAIdeal.Gen.facts, Cert.FfnBwdARefIdeal.Gen.facts,
  Cert.MixBwd.Gen.facts, Cert.MixBwdIdeal.Gen.facts, Cert.MixBwdRefIdeal.Gen.facts,
  Cert.ActBwd.Gen.facts, Cert.ActBwdIdeal.Gen.facts, Cert.ActBwdRefIdeal.Gen.facts,
  Cert.ProjBwd.Gen.facts, Cert.ProjBwdIdeal.Gen.facts, Cert.ProjBwdRefIdeal.Gen.facts,
  Cert.ProjBwdW.Gen.facts, Cert.ProjBwdWIdeal.Gen.facts, Cert.ProjBwdWRefIdeal.Gen.facts,
  Cert.MixBwdW.Gen.facts, Cert.MixBwdWIdeal.Gen.facts, Cert.MixBwdWRefIdeal.Gen.facts,
  Cert.MixFwd.Gen.facts, Cert.MixFwdIdeal.Gen.facts, Cert.MixFwdRefIdeal.Gen.facts,
  Cert.GluFwd.Gen.facts, Cert.GluFwdIdeal.Gen.facts, Cert.GluFwdRefIdeal.Gen.facts,
  Cert.GluBwd.Gen.facts, Cert.GluBwdIdeal.Gen.facts, Cert.GluBwdRefIdeal.Gen.facts,
  Cert.GluBwdW.Gen.facts, Cert.GluBwdWIdeal.Gen.facts, Cert.GluBwdWRefIdeal.Gen.facts,
  Cert.Pre_scan_finite.Gen.facts, Cert.Pre_ffn_finite.Gen.facts,
  fun m ρ _ => Cert.ScanBwd.Gen.frame m ρ,
  fun m ρ _ => Cert.ScanBwdIdeal.Gen.frame m ρ,
  fun m ρ _ => Cert.ScanBwdIdeal.Gen.frame m ρ,
  Cert.Scan.frame_ref,
  fun m ρ _ => Cert.Scan.frame_ref m ρ trivial,
  fun m ρ _ => Cert.FfnBwdW.Gen.frame m ρ,
  fun m ρ _ => Cert.FfnBwdWIdeal.Gen.frame m ρ,
  Cert.FfnW.frame_ref,
  fun m ρ _ => Cert.FfnFwd.Gen.frame m ρ,
  fun m ρ _ => Cert.FfnFwdIdeal.Gen.frame m ρ,
  Cert.FfnF.frame_ref,
  Cert.FfnA.frame_bits,
  Cert.FfnA.frame_ideal,
  fun m ρ _ => Cert.FfnA.frame_ideal m ρ trivial,
  Cert.FfnA.frame_ref,
  fun m ρ _ => Cert.FfnA.frame_ref m ρ trivial,
  fun m ρ _ => Cert.MixBwd.Gen.frame m ρ,
  fun m ρ _ => Cert.MixBwdIdeal.Gen.frame m ρ,
  Cert.Mix.frame_ref,
  fun m ρ _ => Cert.ActBwd.Gen.frame m ρ,
  fun m ρ _ => Cert.ActBwdIdeal.Gen.frame m ρ,
  Cert.Act.frame_ref,
  fun m ρ _ => Cert.ProjBwd.Gen.frame m ρ,
  fun m ρ _ => Cert.ProjBwdIdeal.Gen.frame m ρ,
  Cert.Proj.frame_ref,
  fun m ρ _ => Cert.ProjBwdW.Gen.frame m ρ,
  fun m ρ _ => Cert.ProjBwdWIdeal.Gen.frame m ρ,
  Cert.ProjW.frame_ref,
  fun m ρ _ => Cert.MixBwdW.Gen.frame m ρ,
  fun m ρ _ => Cert.MixBwdWIdeal.Gen.frame m ρ,
  Cert.MixW.frame_ref,
  fun m ρ _ => Cert.MixFwd.Gen.frame m ρ,
  fun m ρ _ => Cert.MixFwdIdeal.Gen.frame m ρ,
  Cert.MixF.frame_ref,
  fun m ρ _ => Cert.GluFwd.Gen.frame m ρ,
  fun m ρ _ => Cert.GluFwdIdeal.Gen.frame m ρ,
  Cert.GluF.frame_ref,
  fun m ρ _ => Cert.GluBwd.Gen.frame m ρ,
  fun m ρ _ => Cert.GluBwdIdeal.Gen.frame m ρ,
  Cert.GluB.frame_ref,
  fun m ρ _ => Cert.GluBwdW.Gen.frame m ρ,
  fun m ρ _ => Cert.GluBwdWIdeal.Gen.frame m ρ,
  Cert.GluW.frame_ref,
  trivial,
  Cert.Scan.algebraic,
  trivial,
  Cert.FfnW.algebraic,
  trivial,
  Cert.FfnF.algebraic,
  trivial,
  Cert.FfnA.algebraic,
  trivial,
  Cert.Mix.algebraic,
  trivial,
  Cert.Act.algebraic,
  trivial,
  Cert.Proj.algebraic,
  trivial,
  Cert.ProjW.algebraic,
  trivial,
  Cert.MixW.algebraic,
  trivial,
  Cert.MixF.algebraic,
  trivial,
  Cert.GluF.algebraic,
  trivial,
  Cert.GluB.algebraic,
  trivial,
  Cert.GluW.algebraic⟩

end Cert.Proof

end
